-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_experts_named : Cert.Pre_experts_named.Facts] (m : (ℓ : Loc Cert.Kernel2.nD Cert.Kernel2.τ Cert.Kernel2.sig) → Buf (Elt Bits) ℓ) : Prop :=
  ∀ c : Dev Cert.Kernel2.nD,
    (Cert.Pre_experts_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_experts_named : Cert.Pre_experts_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_named [hPre_experts_named : Cert.Pre_experts_named.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_states [hPre_finite_states : Cert.Pre_finite_states.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_states.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_states [hPre_finite_states : Cert.Pre_finite_states.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_states.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_experts_named : Cert.Pre_experts_named.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_experts_named [hReference2Ideal : Cert.Reference2Ideal.Facts] [hPre_experts_named : Cert.Pre_experts_named.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_named m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite_states [hKernel8Ideal : Cert.Kernel8Ideal.Facts] [hPre_finite_states : Cert.Pre_finite_states.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_states m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite_states [hReference8Ideal : Cert.Reference8Ideal.Facts] [hPre_finite_states : Cert.Pre_finite_states.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_states m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale" .f32 0x3E38AA3B#32 (((1 / 8) * (Real.log 2)⁻¹ : ℝ) : EReal)
  ∧ IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v121) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v14)) (v1 : (c : Dev Cert.Kernel4Ideal.nD) → Buf (Elt Ideal) ((c.tc : Thread Cert.Kernel4Ideal.nD Cert.Kernel4Ideal.τ).loc Cert.Kernel4Ideal.main_v15)) (v2 : (c : Dev Cert.Kernel4Ideal.nD) → Buf (Elt Ideal) ((c.tc : Thread Cert.Kernel4Ideal.nD Cert.Kernel4Ideal.τ).loc Cert.Kernel4Ideal.main_v16)) (v3 : (c : Dev Cert.Kernel4Ideal.nD) → Buf (Elt Ideal) ((c.tc : Thread Cert.Kernel4Ideal.nD Cert.Kernel4Ideal.τ).loc Cert.Kernel4Ideal.main_v17)) (v4 : (c : Dev Cert.Kernel4Ideal.nD) → Buf (Elt Ideal) ((c.tc : Thread Cert.Kernel4Ideal.nD Cert.Kernel4Ideal.τ).loc Cert.Kernel4Ideal.main_v18)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_v15) = v1 c
          ∧ r.2.mem ((c.tc : Thread Cert.Kernel4Ideal.nD Cert.Kernel4Ideal.τ).loc Cert.Kernel4Ideal.main_v16) = v2 c
          ∧ r.2.mem ((c.tc : Thread Cert.Kernel4Ideal.nD Cert.Kernel4Ideal.τ).loc Cert.Kernel4Ideal.main_v17) = v3 c
          ∧ r.2.mem ((c.tc : Thread Cert.Kernel4Ideal.nD Cert.Kernel4Ideal.τ).loc Cert.Kernel4Ideal.main_v18) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v38) = v1 c
          ∧ r.2.mem ((c.tc : Thread Cert.Reference4Ideal.nD Cert.Reference4Ideal.τ).loc Cert.Reference4Ideal.main_v39) = v2 c
          ∧ r.2.mem ((c.tc : Thread Cert.Reference4Ideal.nD Cert.Reference4Ideal.τ).loc Cert.Reference4Ideal.main_v23) = v3 c
          ∧ r.2.mem ((c.tc : Thread Cert.Reference4Ideal.nD Cert.Reference4Ideal.τ).loc Cert.Reference4Ideal.main_v41) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v8)) (v1 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_v9) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v9) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5)) (v1 : (c : Dev Cert.Kernel7Ideal.nD) → Buf (Elt Ideal) ((c.tc : Thread Cert.Kernel7Ideal.nD Cert.Kernel7Ideal.τ).loc Cert.Kernel7Ideal.main_v9)) (v2 : (c : Dev Cert.Kernel7Ideal.nD) → Buf (Elt Ideal) ((c.tc : Thread Cert.Kernel7Ideal.nD Cert.Kernel7Ideal.τ).loc Cert.Kernel7Ideal.main_v17)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_v9) = v1 c
          ∧ r.2.mem ((c.tc : Thread Cert.Kernel7Ideal.nD Cert.Kernel7Ideal.τ).loc Cert.Kernel7Ideal.main_v17) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_v10) = v1 c
          ∧ r.2.mem ((c.tc : Thread Cert.Reference7Ideal.nD Cert.Reference7Ideal.τ).loc Cert.Reference7Ideal.main_v8) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite_states [hKernel8Ideal : Cert.Kernel8Ideal.Facts] [hReference8Ideal : Cert.Reference8Ideal.Facts] [hPre_finite_states : Cert.Pre_finite_states.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_states m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v43) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_scores : Cert.Pre_finite_scores.Facts) (hPre_experts_named : Cert.Pre_experts_named.Facts) (hPre_finite_states : Cert.Pre_finite_states.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_experts_named := hPre_experts_named)
    ∧ quiescent_Kernel2Ideal (hKernel2Ideal := hKernel2Ideal) (hPre_experts_named := hPre_experts_named)
    ∧ quiescent_Reference2Ideal (hReference2Ideal := hReference2Ideal)
    ∧ quiescent_Reference2Ideal_pre_experts_named (hReference2Ideal := hReference2Ideal) (hPre_experts_named := hPre_experts_named)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_states (hKernel8Ideal := hKernel8Ideal) (hPre_finite_states := hPre_finite_states)
    ∧ quiescent_Reference8Ideal (hReference8Ideal := hReference8Ideal)
    ∧ quiescent_Reference8Ideal_pre_finite_states (hReference8Ideal := hReference8Ideal) (hPre_finite_states := hPre_finite_states)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_experts_named := hPre_experts_named)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_states (hKernel8Ideal := hKernel8Ideal) (hReference8Ideal := hReference8Ideal) (hPre_finite_states := hPre_finite_states)
-- ==== Pre_experts_named.lean ====
abbrev S36864x1024 : Shape := ⟨2, ![36864, 1024]⟩
abbrev S8x1024x7168 : Shape := ⟨3, ![8, 1024, 7168]⟩
abbrev S8x3584x1024 : Shape := ⟨3, ![8, 3584, 1024]⟩
abbrev S72 : Shape := ⟨1, ![72]⟩
abbrev S1 : Shape := ⟨1, ![1]⟩
abbrev S_ : Shape := ⟨0, ![]⟩

class Facts : Prop where
  bcast_S_S72 : S_.BroadcastsInDim S72 (![] : Fin 0 → Fin S72.rank)

variable [Facts]

def fn {F : FTy → Type} [FloatOps F] (main_arg0 : FVec F S36864x1024 .f32) (main_arg1 : FVec F S8x1024x7168 .f32) (main_arg2 : FVec F S8x3584x1024 .f32) (main_arg3 : IVec S72 32) (main_arg4 : IVec S1 32) : IVec S72 1 :=
  let main_c : IVec S_ 32 := constantI S_ 32 0#32
  let main_v0 : IVec S72 32 := broadcastInDim S72 ![] bcast_S_S72 main_c
  let main_v1 : IVec S72 1 := cmpi .sge main_arg3 main_v0
  let main_c_0 : IVec S_ 32 := constantI S_ 32 7#32
  let main_v2 : IVec S72 32 := broadcastInDim S72 ![] bcast_S_S72 main_c_0
  let main_v3 : IVec S72 1 := cmpi .sle main_arg3 main_v2
  let main_v4 : IVec S72 1 := andi main_v1 main_v3
  main_v4
-- ==== Pre_finite_scores.lean ====
abbrev S8x2048x1024 : Shape := ⟨3, ![8, 2048, 1024]⟩
abbrev S8x2048x16 : Shape := ⟨3, ![8, 2048, 16]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x2048x16 : S_.BroadcastsInDim S8x2048x16 (![] : Fin 0 → Fin S8x2048x16.rank)
  reducesTo_S8x2048x16_S_d0_1_2 : S8x2048x16.ReducesTo [0, 1, 2] S_

variable [Facts]

def fn {F : FTy → Type} [FloatOps F] (main_arg0 : FVec F S8x2048x1024 .f32) (main_arg1 : FVec F S8x2048x1024 .f32) (main_arg2 : FVec F S8x2048x1024 .f32) (main_arg3 : FVec F S8x2048x16 .f32) (main_arg4 : FVec F S8x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x16 .f32 := Host.absf main_arg3
  let main_cst_2 : FVec F S_ .f32 := constant S_ .f32 0x7F800000#32
  let main_v10 : FVec F S8x2048x16 .f32 := broadcastInDim S8x2048x16 ![] bcast_S_S8x2048x16 main_cst_2
  let main_v11 : IVec S8x2048x16 1 := cmpf .olt main_v9 main_v10
  let main_c_3 : IVec S_ 1 := constantI S_ 1 1#1
  let main_v12 : IVec S_ 1 := (fun x v => Host.reduce IntOp.andi x v reducesTo_S8x2048x16_S_d0_1_2 h_S_) main_v11 main_c_3
  let main_v13 : IVec S_ 1 := andi main_v8 main_v12
  main_v13
-- ==== Pre_finite_states.lean ====
abbrev S8x2048x1024 : Shape := ⟨3, ![8, 2048, 1024]⟩
abbrev S128 : Shape := ⟨1, ![128]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn_part1 {F : FTy → Type} [FloatOps F] (main_v13 : IVec S_ 1) (main_v16 : IVec S8x2048x1024 1) : IVec S_ 1 :=
  let main_c_5 : IVec S_ 1 := constantI S_ 1 1#1
  let main_v17 : IVec S_ 1 := (fun x v => Host.reduce IntOp.andi x v reducesTo_S8x2048x1024_S_d0_1_2 h_S_) main_v16 main_c_5
  let main_v18 : IVec S_ 1 := andi main_v13 main_v17
  main_v18

def fn {F : FTy → Type} [FloatOps F] (main_arg0 : FVec F S8x2048x1024 .f32) (main_arg1 : FVec F S8x2048x1024 .f32) (main_arg2 : FVec F S8x2048x1024 .f32) (main_arg3 : FVec F S8x2048x1024 .f32) (main_arg4 : FVec F S8x2048x1024 .f32) (main_arg5 : FVec F S128 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S8x2048x1024 .f32 := Host.absf main_arg3
  let main_cst_4 : FVec F S_ .f32 := constant S_ .f32 0x7F800000#32
  let main_v15 : FVec F S8x2048x1024 .f32 := broadcastInDim S8x2048x1024 ![] bcast_S_S8x2048x1024 main_cst_4
  let main_v16 : IVec S8x2048x1024 1 := cmpf .olt main_v14 main_v15
  fn_part1 (F := F) main_v13 main_v16
-- ==== Kernel.lean ====
abbrev S8x2048x1024 : Shape := ⟨3, ![8, 2048, 1024]⟩
abbrev S8x2048x16 : Shape := ⟨3, ![8, 2048, 16]⟩
abbrev S_ : Shape := ⟨0, ![]⟩
abbrev S8x2048x128 : Shape := ⟨3, ![8, 2048, 128]⟩
abbrev S8x16x2048x128 : Shape := ⟨4, ![8, 16, 2048, 128]⟩
abbrev S8x16x64x2048 : Shape := ⟨4, ![8, 16, 64, 2048]⟩
abbrev S1x256x1024 : Shape := ⟨3, ![1, 256, 1024]⟩
abbrev S1x256x128 : Shape := ⟨3, ![1, 256, 128]⟩
abbrev S1x16x256x128 : Shape := ⟨4, ![1, 16, 256, 128]⟩
abbrev S1x16x64x256 : Shape := ⟨4, ![1, 16, 64, 256]⟩
abbrev S256x128 : Shape := ⟨2, ![256, 128]⟩
abbrev S256x1 : Shape := ⟨2, ![256, 1]⟩
abbrev S256x64 : Shape := ⟨2, ![256, 64]⟩
abbrev S1x256x64 : Shape := ⟨3, ![1, 256, 64]⟩
abbrev S1x1x256x128 : Shape := ⟨4, ![1, 1, 256, 128]⟩
abbrev S128x256 : Shape := ⟨2, ![128, 256]⟩
abbrev S64x256 : Shape := ⟨2, ![64, 256]⟩
abbrev S1x1x64x256 : Shape := ⟨4, ![1, 1, 64, 256]⟩
abbrev S8x2048x2x8 : Shape := ⟨4, ![8, 2048, 2, 8]⟩
abbrev S8x2x2048x8 : Shape := ⟨4, ![8, 2, 2048, 8]⟩
abbrev S1x256x512 : Shape := ⟨3, ![1, 256, 512]⟩
abbrev S1x1x256x8 : Shape := ⟨4, ![1, 1, 256, 8]⟩
abbrev S1x8x2048x128 : Shape := ⟨4, ![1, 8, 2048, 128]⟩
abbrev S1x8x64x2048 : Shape := ⟨4, ![1, 8, 64, 2048]⟩
abbrev S8x64x256 : Shape := ⟨3, ![8, 64, 256]⟩
abbrev S8x256x128 : Shape := ⟨3, ![8, 256, 128]⟩
abbrev S256x256 : Shape := ⟨2, ![256, 256]⟩
abbrev S256x8 : Shape := ⟨2, ![256, 8]⟩
abbrev S1x256 : Shape := ⟨2, ![1, 256]⟩
abbrev S256 : Shape := ⟨1, ![256]⟩
abbrev S1x64x256 : Shape := ⟨3, ![1, 64, 256]⟩
abbrev S512x256 : Shape := ⟨2, ![512, 256]⟩
abbrev S256x512 : Shape := ⟨2, ![256, 512]⟩

abbrev nBuf : Space → Nat
  | .hbm => 24
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x16, .f32⟩
  | .hbm, ⟨4, _⟩ => ⟨S8x2048x1024, .f32⟩
  | .hbm, ⟨5, _⟩ => ⟨S8x2048x1024, .bf16⟩
  | .hbm, ⟨6, _⟩ => ⟨S8x2048x1024, .bf16⟩
  | .hbm, ⟨7, _⟩ => ⟨S_, .i32⟩
  | .hbm, ⟨8, _⟩ => ⟨S_, .f32⟩
  | .hbm, ⟨9, _⟩ => ⟨S8x2048x128, .f32⟩
  | .hbm, ⟨10, _⟩ => ⟨S8x16x2048x128, .bf16⟩
  | .hbm, ⟨11, _⟩ => ⟨S8x16x64x2048, .bf16⟩
  | .hbm, ⟨12, _⟩ => ⟨S8x2048x2x8, .f32⟩
  | .hbm, ⟨13, _⟩ => ⟨S8x2x2048x8, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x2048x1024, .f32⟩
  | .hbm, ⟨21, _⟩ => ⟨S8x2048x1024, .f32⟩
  | .hbm, ⟨22, _⟩ => ⟨S8x2048x1024, .bf16⟩
  | .hbm, ⟨23, _⟩ => ⟨S8x2048x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x128, .f32⟩
  | .local _ .vmem, ⟨5, _⟩ => ⟨S1x256x128, .f32⟩
  | .local _ .vmem, ⟨6, _⟩ => ⟨S1x16x256x128, .bf16⟩
  | .local _ .vmem, ⟨7, _⟩ => ⟨S1x16x256x128, .bf16⟩
  | .local _ .vmem, ⟨8, _⟩ => ⟨S1x16x64x256, .bf16⟩
  | .local _ .vmem, ⟨9, _⟩ => ⟨S1x16x64x256, .bf16⟩
  | .local _ .vmem, ⟨10, _⟩ => ⟨S1x256x512, .f32⟩
  | .local _ .vmem, ⟨11, _⟩ => ⟨S1x256x512, .f32⟩
  | .local _ .vmem, ⟨12, _⟩ => ⟨S1x1x256x8, .f32⟩
  | .local _ .vmem, ⟨13, _⟩ => ⟨S1x1x256x8, .f32⟩
  | .local _ .vmem, ⟨14, _⟩ => ⟨S1x8x2048x128, .bf16⟩
  | .local _ .vmem, ⟨15, _⟩ => ⟨S1x8x2048x128, .bf16⟩
  | .local _ .vmem, ⟨16, _⟩ => ⟨S1x8x64x2048, .bf16⟩
  | .local _ .vmem, ⟨17, _⟩ => ⟨S1x8x64x2048, .bf16⟩
  | .local _ .vmem, ⟨18, _⟩ => ⟨S1x256x512, .bf16⟩
  | .local _ .vmem, ⟨19, _⟩ => ⟨S1x256x512, .bf16⟩
  | .local _ .vmem, ⟨20, _⟩ => ⟨S1x256x512, .bf16⟩
  | .local _ .vmem, ⟨21, _⟩ => ⟨S1x256x512, .bf16⟩
  | .local _ .vmem, ⟨22, _⟩ => ⟨S8x64x256, .f32⟩
  | .local _ .vmem, ⟨23, _⟩ => ⟨S8x256x128, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![8, 2, 8], ![false, false, false]⟩

@[reducible] def k1_t1_loop (i : grid1.Coords) : Scf.Loop 32 :=
  let c0_i32 : BitVec 32 := 0#32
  let arg2 : BitVec 32 := BitVec.ofNat 32 (i 2).val
  let v316 : BitVec 32 := Scalar.subi arg2 c0_i32
  let c1_i32 : BitVec 32 := 1#32
  let v318 : BitVec 32 := Scalar.divsi v316 c1_i32
  let v319 : BitVec 32 := Scalar.muli v318 c1_i32
  let v320 : BitVec 32 := Scalar.addi c0_i32 v319
  let c1_i32_109 : BitVec 32 := 1#32
  ⟨c0_i32, v320, c1_i32_109⟩
def k1_mult1 (i : grid1.Coords) (k1_t1 : Fin (k1_t1_loop i).trips) : BitVec 32 :=
  let c0_i32 : BitVec 32 := 0#32
  let c1_i32_109 : BitVec 32 := 1#32
  let arg11 : BitVec 32 := Scf.iv c0_i32 c1_i32_109 k1_t1
  let c256_i32_301 : BitVec 32 := 256#32
  let v639 : BitVec 32 := Scalar.muli arg11 c256_i32_301
  v639
def k1_off1 (i : grid1.Coords) (k1_t1 : Fin (k1_t1_loop i).trips) : Fin 4 → Nat :=
  let c0_302 : Index := 0#32
  let c0_303 : Index := 0#32
  let c0_i32 : BitVec 32 := 0#32
  let c1_i32_109 : BitVec 32 := 1#32
  let arg11 : BitVec 32 := Scf.iv c0_i32 c1_i32_109 k1_t1
  let c256_i32_301 : BitVec 32 := 256#32
  let v639 : BitVec 32 := Scalar.muli arg11 c256_i32_301
  let v640 : BitVec 32 := v639
  let v641 : Index := Scalar.indexCast v640
  let c0_304 : Index := 0#32
  ![0, 0, v641.toNat, 0]
def k1_off2 (i : grid1.Coords) (k1_t1 : Fin (k1_t1_loop i).trips) : Fin 4 → Nat :=
  let c0_309 : Index := 0#32
  let c1_310 : Index := 1#32
  let c0_i32 : BitVec 32 := 0#32
  let c1_i32_109 : BitVec 32 := 1#32
  let arg11 : BitVec 32 := Scf.iv c0_i32 c1_i32_109 k1_t1
  let c256_i32_301 : BitVec 32 := 256#32
  let v639 : BitVec 32 := Scalar.muli arg11 c256_i32_301
  let v640 : BitVec 32 := v639
  let v647 : Index := Scalar.indexCast v640
  let c0_311 : Index := 0#32
  ![0, 1, v647.toNat, 0]
def k1_off3 (i : grid1.Coords) (k1_t1 : Fin (k1_t1_loop i).trips) : Fin 4 → Nat :=
  let c0_316 : Index := 0#32
  let c2_317 : Index := 2#32
  let c0_i32 : BitVec 32 := 0#32
  let c1_i32_109 : BitVec 32 := 1#32
  let arg11 : BitVec 32 := Scf.iv c0_i32 c1_i32_109 k1_t1
  let c256_i32_301 : BitVec 32 := 256#32
  let v639 : BitVec 32 := Scalar.muli arg11 c256_i32_301
  let v640 : BitVec 32 := v639
  let v653 : Index := Scalar.indexCast v640
  let c0_318 : Index := 0#32
  ![0, 2, v653.toNat, 0]
def k1_off4 (i : grid1.Coords) (k1_t1 : Fin (k1_t1_loop i).trips) : Fin 4 → Nat :=
  let c0_323 : Index := 0#32
  let c3_324 : Index := 3#32
  let c0_i32 : BitVec 32 := 0#32
  let c1_i32_109 : BitVec 32 := 1#32
  let arg11 : BitVec 32 := Scf.iv c0_i32 c1_i32_109 k1_t1
  let c256_i32_301 : BitVec 32 := 256#32
  let v639 : BitVec 32 := Scalar.muli arg11 c256_i32_301
  let v640 : BitVec 32 := v639
  let v659 : Index := Scalar.indexCast v640
  let c0_325 : Index := 0#32
  ![0, 3, v659.toNat, 0]
def k1_off5 (i : grid1.Coords) (k1_t1 : Fin (k1_t1_loop i).trips) : Fin 4 → Nat :=
  let c0_330 : Index := 0#32
  let c4_331 : Index := 4#32
  let c0_i32 : BitVec 32 := 0#32
  let c1_i32_109 : BitVec 32 := 1#32
  let arg11 : BitVec 32 := Scf.iv c0_i32 c1_i32_109 k1_t1
  let c256_i32_301 : BitVec 32 := 256#32
  let v639 : BitVec 32 := Scalar.muli arg11 c256_i32_301
  let v640 : BitVec 32 := v639
  let v665 : Index := Scalar.indexCast v640
  let c0_332 : Index := 0#32
  ![0, 4, v665.toNat, 0]
def k1_off6 (i : grid1.Coords) (k1_t1 : Fin (k1_t1_loop i).trips) : Fin 4 → Nat :=
  let c0_337 : Index := 0#32
  let c5_338 : Index := 5#32
  let c0_i32 : BitVec 32 := 0#32
  let c1_i32_109 : BitVec 32 := 1#32
  let arg11 : BitVec 32 := Scf.iv c0_i32 c1_i32_109 k1_t1
  let c256_i32_301 : BitVec 32 := 256#32
  let v639 : BitVec 32 := Scalar.muli arg11 c256_i32_301
  let v640 : BitVec 32 := v639
  let v671 : Index := Scalar.indexCast v640
  let c0_339 : Index := 0#32
  ![0, 5, v671.toNat, 0]
def k1_off7 (i : grid1.Coords) (k1_t1 : Fin (k1_t1_loop i).trips) : Fin 4 → Nat :=
  let c0_344 : Index := 0#32
  let c6_345 : Index := 6#32
  let c0_i32 : BitVec 32 := 0#32
  let c1_i32_109 : BitVec 32 := 1#32
  let arg11 : BitVec 32 := Scf.iv c0_i32 c1_i32_109 k1_t1
  let c256_i32_301 : BitVec 32 := 256#32
  let v639 : BitVec 32 := Scalar.muli arg11 c256_i32_301
  let v640 : BitVec 32 := v639
  let v677 : Index := Scalar.indexCast v640
  let c0_346 : Index := 0#32
  ![0, 6, v677.toNat, 0]
def k1_off8 (i : grid1.Coords) (k1_t1 : Fin (k1_t1_loop i).trips) : Fin 4 → Nat :=
  let c0_351 : Index := 0#32
  let c7_352 : Index := 7#32
  let c0_i32 : BitVec 32 := 0#32
  let c1_i32_109 : BitVec 32 := 1#32
  let arg11 : BitVec 32 := Scf.iv c0_i32 c1_i32_109 k1_t1
  let c256_i32_301 : BitVec 32 := 256#32
  let v639 : BitVec 32 := Scalar.muli arg11 c256_i32_301
  let v640 : BitVec 32 := v639
  let v683 : Index := Scalar.indexCast v640
  let c0_353 : Index := 0#32
  ![0, 7, v683.toNat, 0]
def k1_off9 (i : grid1.Coords) (k1_t1 : Fin (k1_t1_loop i).trips) : Fin 4 → Nat :=
  let c0_374 : Index := 0#32
  let c0_375 : Index := 0#32
  let c0_376 : Index := 0#32
  let c0_i32 : BitVec 32 := 0#32
  let c1_i32_109 : BitVec 32 := 1#32
  let arg11 : BitVec 32 := Scf.iv c0_i32 c1_i32_109 k1_t1
  let c256_i32_301 : BitVec 32 := 256#32
  let v639 : BitVec 32 := Scalar.muli arg11 c256_i32_301
  let v640 : BitVec 32 := v639
  let v793 : Index := Scalar.indexCast v640
  ![0, 0, 0, v793.toNat]
def k1_off10 (i : grid1.Coords) (k1_t1 : Fin (k1_t1_loop i).trips) : Fin 4 → Nat :=
  let c0_378 : Index := 0#32
  let c1_379 : Index := 1#32
  let c0_380 : Index := 0#32
  let c0_i32 : BitVec 32 := 0#32
  let c1_i32_109 : BitVec 32 := 1#32
  let arg11 : BitVec 32 := Scf.iv c0_i32 c1_i32_109 k1_t1
  let c256_i32_301 : BitVec 32 := 256#32
  let v639 : BitVec 32 := Scalar.muli arg11 c256_i32_301
  let v640 : BitVec 32 := v639
  let v797 : Index := Scalar.indexCast v640
  ![0, 1, 0, v797.toNat]
def k1_off11 (i : grid1.Coords) (k1_t1 : Fin (k1_t1_loop i).trips) : Fin 4 → Nat :=
  let c0_382 : Index := 0#32
  let c2_383 : Index := 2#32
  let c0_384 : Index := 0#32
  let c0_i32 : BitVec 32 := 0#32
  let c1_i32_109 : BitVec 32 := 1#32
  let arg11 : BitVec 32 := Scf.iv c0_i32 c1_i32_109 k1_t1
  let c256_i32_301 : BitVec 32 := 256#32
  let v639 : BitVec 32 := Scalar.muli arg11 c256_i32_301
  let v640 : BitVec 32 := v639
  let v801 : Index := Scalar.indexCast v640
  ![0, 2, 0, v801.toNat]
def k1_off12 (i : grid1.Coords) (k1_t1 : Fin (k1_t1_loop i).trips) : Fin 4 → Nat :=
  let c0_386 : Index := 0#32
  let c3_387 : Index := 3#32
  let c0_388 : Index := 0#32
  let c0_i32 : BitVec 32 := 0#32
  let c1_i32_109 : BitVec 32 := 1#32
  let arg11 : BitVec 32 := Scf.iv c0_i32 c1_i32_109 k1_t1
  let c256_i32_301 : BitVec 32 := 256#32
  let v639 : BitVec 32 := Scalar.muli arg11 c256_i32_301
  let v640 : BitVec 32 := v639
  let v805 : Index := Scalar.indexCast v640
  ![0, 3, 0, v805.toNat]
def k1_off13 (i : grid1.Coords) (k1_t1 : Fin (k1_t1_loop i).trips) : Fin 4 → Nat :=
  let c0_390 : Index := 0#32
  let c4_391 : Index := 4#32
  let c0_392 : Index := 0#32
  let c0_i32 : BitVec 32 := 0#32
  let c1_i32_109 : BitVec 32 := 1#32
  let arg11 : BitVec 32 := Scf.iv c0_i32 c1_i32_109 k1_t1
  let c256_i32_301 : BitVec 32 := 256#32
  let v639 : BitVec 32 := Scalar.muli arg11 c256_i32_301
  let v640 : BitVec 32 := v639
  let v809 : Index := Scalar.indexCast v640
  ![0, 4, 0, v809.toNat]
def k1_off14 (i : grid1.Coords) (k1_t1 : Fin (k1_t1_loop i).trips) : Fin 4 → Nat :=
  let c0_394 : Index := 0#32
  let c5_395 : Index := 5#32
  let c0_396 : Index := 0#32
  let c0_i32 : BitVec 32 := 0#32
  let c1_i32_109 : BitVec 32 := 1#32
  let arg11 : BitVec 32 := Scf.iv c0_i32 c1_i32_109 k1_t1
  let c256_i32_301 : BitVec 32 := 256#32
  let v639 : BitVec 32 := Scalar.muli arg11 c256_i32_301
  let v640 : BitVec 32 := v639
  let v813 : Index := Scalar.indexCast v640
  ![0, 5, 0, v813.toNat]
def k1_off15 (i : grid1.Coords) (k1_t1 : Fin (k1_t1_loop i).trips) : Fin 4 → Nat :=
  let c0_398 : Index := 0#32
  let c6_399 : Index := 6#32
  let c0_400 : Index := 0#32
  let c0_i32 : BitVec 32 := 0#32
  let c1_i32_109 : BitVec 32 := 1#32
  let arg11 : BitVec 32 := Scf.iv c0_i32 c1_i32_109 k1_t1
  let c256_i32_301 : BitVec 32 := 256#32
  let v639 : BitVec 32 := Scalar.muli arg11 c256_i32_301
  let v640 : BitVec 32 := v639
  let v817 : Index := Scalar.indexCast v640
  ![0, 6, 0, v817.toNat]
def k1_off16 (i : grid1.Coords) (k1_t1 : Fin (k1_t1_loop i).trips) : Fin 4 → Nat :=
  let c0_402 : Index := 0#32
  let c7_403 : Index := 7#32
  let c0_404 : Index := 0#32
  let c0_i32 : BitVec 32 := 0#32
  let c1_i32_109 : BitVec 32 := 1#32
  let arg11 : BitVec 32 := Scf.iv c0_i32 c1_i32_109 k1_t1
  let c256_i32_301 : BitVec 32 := 256#32
  let v639 : BitVec 32 := Scalar.muli arg11 c256_i32_301
  let v640 : BitVec 32 := v639
  let v821 : Index := Scalar.indexCast v640
  ![0, 7, 0, v821.toNat]
@[reducible] def k1_t2_loop (i : grid1.Coords) : Scf.Loop 32 :=
  let c0_i32 : BitVec 32 := 0#32
  let arg2 : BitVec 32 := BitVec.ofNat 32 (i 2).val
  let v316 : BitVec 32 := Scalar.subi arg2 c0_i32
  let c1_i32 : BitVec 32 := 1#32
  let v318 : BitVec 32 := Scalar.divsi v316 c1_i32
  let v319 : BitVec 32 := Scalar.muli v318 c1_i32
  let v320 : BitVec 32 := Scalar.addi c0_i32 v319
  let v317 : BitVec 32 := Scalar.addi c0_i32 v316
  let c1_i32_110 : BitVec 32 := 1#32
  ⟨v320, v317, c1_i32_110⟩
def k1_mult2 (i : grid1.Coords) (k1_t2 : Fin (k1_t2_loop i).trips) : BitVec 32 :=
  let c0_i32 : BitVec 32 := 0#32
  let arg2 : BitVec 32 := BitVec.ofNat 32 (i 2).val
  let v316 : BitVec 32 := Scalar.subi arg2 c0_i32
  let c1_i32 : BitVec 32 := 1#32
  let v318 : BitVec 32 := Scalar.divsi v316 c1_i32
  let v319 : BitVec 32 := Scalar.muli v318 c1_i32
  let v320 : BitVec 32 := Scalar.addi c0_i32 v319
  let c1_i32_110 : BitVec 32 := 1#32
  let arg11 : BitVec 32 := Scf.iv v320 c1_i32_110 k1_t2
  let c256_i32_301 : BitVec 32 := 256#32
  let v639 : BitVec 32 := Scalar.muli arg11 c256_i32_301
  v639
def k1_off17 (i : grid1.Coords) (k1_t2 : Fin (k1_t2_loop i).trips) : Fin 4 → Nat :=
  let c0_302 : Index := 0#32
  let c0_303 : Index := 0#32
  let c0_i32 : BitVec 32 := 0#32
  let arg2 : BitVec 32 := BitVec.ofNat 32 (i 2).val
  let v316 : BitVec 32 := Scalar.subi arg2 c0_i32
  let c1_i32 : BitVec 32 := 1#32
  let v318 : BitVec 32 := Scalar.divsi v316 c1_i32
  let v319 : BitVec 32 := Scalar.muli v318 c1_i32
  let v320 : BitVec 32 := Scalar.addi c0_i32 v319
  let c1_i32_110 : BitVec 32 := 1#32
  let arg11 : BitVec 32 := Scf.iv v320 c1_i32_110 k1_t2
  let c256_i32_301 : BitVec 32 := 256#32
  let v639 : BitVec 32 := Scalar.muli arg11 c256_i32_301
  let v640 : BitVec 32 := v639
  let v641 : Index := Scalar.indexCast v640
  let c0_304 : Index := 0#32
  ![0, 0, v641.toNat, 0]
def k1_off18 (i : grid1.Coords) (k1_t2 : Fin (k1_t2_loop i).trips) : Fin 4 → Nat :=
  let c0_309 : Index := 0#32
  let c1_310 : Index := 1#32
  let c0_i32 : BitVec 32 := 0#32
  let arg2 : BitVec 32 := BitVec.ofNat 32 (i 2).val
  let v316 : BitVec 32 := Scalar.subi arg2 c0_i32
  let c1_i32 : BitVec 32 := 1#32
  let v318 : BitVec 32 := Scalar.divsi v316 c1_i32
  let v319 : BitVec 32 := Scalar.muli v318 c1_i32
  let v320 : BitVec 32 := Scalar.addi c0_i32 v319
  let c1_i32_110 : BitVec 32 := 1#32
  let arg11 : BitVec 32 := Scf.iv v320 c1_i32_110 k1_t2
  let c256_i32_301 : BitVec 32 := 256#32
  let v639 : BitVec 32 := Scalar.muli arg11 c256_i32_301
  let v640 : BitVec 32 := v639
  let v647 : Index := Scalar.indexCast v640
  let c0_311 : Index := 0#32
  ![0, 1, v647.toNat, 0]
def k1_off19 (i : grid1.Coords) (k1_t2 : Fin (k1_t2_loop i).trips) : Fin 4 → Nat :=
  let c0_316 : Index := 0#32
  let c2_317 : Index := 2#32
  let c0_i32 : BitVec 32 := 0#32
  let arg2 : BitVec 32 := BitVec.ofNat 32 (i 2).val
  let v316 : BitVec 32 := Scalar.subi arg2 c0_i32
  let c1_i32 : BitVec 32 := 1#32
  let v318 : BitVec 32 := Scalar.divsi v316 c1_i32
  let v319 : BitVec 32 := Scalar.muli v318 c1_i32
  let v320 : BitVec 32 := Scalar.addi c0_i32 v319
  let c1_i32_110 : BitVec 32 := 1#32
  let arg11 : BitVec 32 := Scf.iv v320 c1_i32_110 k1_t2
  let c256_i32_301 : BitVec 32 := 256#32
  let v639 : BitVec 32 := Scalar.muli arg11 c256_i32_301
  let v640 : BitVec 32 := v639
  let v653 : Index := Scalar.indexCast v640
  let c0_318 : Index := 0#32
  ![0, 2, v653.toNat, 0]
def k1_off20 (i : grid1.Coords) (k1_t2 : Fin (k1_t2_loop i).trips) : Fin 4 → Nat :=
  let c0_323 : Index := 0#32
  let c3_324 : Index := 3#32
  let c0_i32 : BitVec 32 := 0#32
  let arg2 : BitVec 32 := BitVec.ofNat 32 (i 2).val
  let v316 : BitVec 32 := Scalar.subi arg2 c0_i32
  let c1_i32 : BitVec 32 := 1#32
  let v318 : BitVec 32 := Scalar.divsi v316 c1_i32
  let v319 : BitVec 32 := Scalar.muli v318 c1_i32
  let v320 : BitVec 32 := Scalar.addi c0_i32 v319
  let c1_i32_110 : BitVec 32 := 1#32
  let arg11 : BitVec 32 := Scf.iv v320 c1_i32_110 k1_t2
  let c256_i32_301 : BitVec 32 := 256#32
  let v639 : BitVec 32 := Scalar.muli arg11 c256_i32_301
  let v640 : BitVec 32 := v639
  let v659 : Index := Scalar.indexCast v640
  let c0_325 : Index := 0#32
  ![0, 3, v659.toNat, 0]
def k1_off21 (i : grid1.Coords) (k1_t2 : Fin (k1_t2_loop i).trips) : Fin 4 → Nat :=
  let c0_330 : Index := 0#32
  let c4_331 : Index := 4#32
  let c0_i32 : BitVec 32 := 0#32
  let arg2 : BitVec 32 := BitVec.ofNat 32 (i 2).val
  let v316 : BitVec 32 := Scalar.subi arg2 c0_i32
  let c1_i32 : BitVec 32 := 1#32
  let v318 : BitVec 32 := Scalar.divsi v316 c1_i32
  let v319 : BitVec 32 := Scalar.muli v318 c1_i32
  let v320 : BitVec 32 := Scalar.addi c0_i32 v319
  let c1_i32_110 : BitVec 32 := 1#32
  let arg11 : BitVec 32 := Scf.iv v320 c1_i32_110 k1_t2
  let c256_i32_301 : BitVec 32 := 256#32
  let v639 : BitVec 32 := Scalar.muli arg11 c256_i32_301
  let v640 : BitVec 32 := v639
  let v665 : Index := Scalar.indexCast v640
  let c0_332 : Index := 0#32
  ![0, 4, v665.toNat, 0]
def k1_off22 (i : grid1.Coords) (k1_t2 : Fin (k1_t2_loop i).trips) : Fin 4 → Nat :=
  let c0_337 : Index := 0#32
  let c5_338 : Index := 5#32
  let c0_i32 : BitVec 32 := 0#32
  let arg2 : BitVec 32 := BitVec.ofNat 32 (i 2).val
  let v316 : BitVec 32 := Scalar.subi arg2 c0_i32
  let c1_i32 : BitVec 32 := 1#32
  let v318 : BitVec 32 := Scalar.divsi v316 c1_i32
  let v319 : BitVec 32 := Scalar.muli v318 c1_i32
  let v320 : BitVec 32 := Scalar.addi c0_i32 v319
  let c1_i32_110 : BitVec 32 := 1#32
  let arg11 : BitVec 32 := Scf.iv v320 c1_i32_110 k1_t2
  let c256_i32_301 : BitVec 32 := 256#32
  let v639 : BitVec 32 := Scalar.muli arg11 c256_i32_301
  let v640 : BitVec 32 := v639
  let v671 : Index := Scalar.indexCast v640
  let c0_339 : Index := 0#32
  ![0, 5, v671.toNat, 0]
def k1_off23 (i : grid1.Coords) (k1_t2 : Fin (k1_t2_loop i).trips) : Fin 4 → Nat :=
  let c0_344 : Index := 0#32
  let c6_345 : Index := 6#32
  let c0_i32 : BitVec 32 := 0#32
  let arg2 : BitVec 32 := BitVec.ofNat 32 (i 2).val
  let v316 : BitVec 32 := Scalar.subi arg2 c0_i32
  let c1_i32 : BitVec 32 := 1#32
  let v318 : BitVec 32 := Scalar.divsi v316 c1_i32
  let v319 : BitVec 32 := Scalar.muli v318 c1_i32
  let v320 : BitVec 32 := Scalar.addi c0_i32 v319
  let c1_i32_110 : BitVec 32 := 1#32
  let arg11 : BitVec 32 := Scf.iv v320 c1_i32_110 k1_t2
  let c256_i32_301 : BitVec 32 := 256#32
  let v639 : BitVec 32 := Scalar.muli arg11 c256_i32_301
  let v640 : BitVec 32 := v639
  let v677 : Index := Scalar.indexCast v640
  let c0_346 : Index := 0#32
  ![0, 6, v677.toNat, 0]
def k1_off24 (i : grid1.Coords) (k1_t2 : Fin (k1_t2_loop i).trips) : Fin 4 → Nat :=
  let c0_351 : Index := 0#32
  let c7_352 : Index := 7#32
  let c0_i32 : BitVec 32 := 0#32
  let arg2 : BitVec 32 := BitVec.ofNat 32 (i 2).val
  let v316 : BitVec 32 := Scalar.subi arg2 c0_i32
  let c1_i32 : BitVec 32 := 1#32
  let v318 : BitVec 32 := Scalar.divsi v316 c1_i32
  let v319 : BitVec 32 := Scalar.muli v318 c1_i32
  let v320 : BitVec 32 := Scalar.addi c0_i32 v319
  let c1_i32_110 : BitVec 32 := 1#32
  let arg11 : BitVec 32 := Scf.iv v320 c1_i32_110 k1_t2
  let c256_i32_301 : BitVec 32 := 256#32
  let v639 : BitVec 32 := Scalar.muli arg11 c256_i32_301
  let v640 : BitVec 32 := v639
  let v683 : Index := Scalar.indexCast v640
  let c0_353 : Index := 0#32
  ![0, 7, v683.toNat, 0]
def k1_off25 (i : grid1.Coords) (k1_t2 : Fin (k1_t2_loop i).trips) : Fin 4 → Nat :=
  let c0_374 : Index := 0#32
  let c0_375 : Index := 0#32
  let c0_376 : Index := 0#32
  let c0_i32 : BitVec 32 := 0#32
  let arg2 : BitVec 32 := BitVec.ofNat 32 (i 2).val
  let v316 : BitVec 32 := Scalar.subi arg2 c0_i32
  let c1_i32 : BitVec 32 := 1#32
  let v318 : BitVec 32 := Scalar.divsi v316 c1_i32
  let v319 : BitVec 32 := Scalar.muli v318 c1_i32
  let v320 : BitVec 32 := Scalar.addi c0_i32 v319
  let c1_i32_110 : BitVec 32 := 1#32
  let arg11 : BitVec 32 := Scf.iv v320 c1_i32_110 k1_t2
  let c256_i32_301 : BitVec 32 := 256#32
  let v639 : BitVec 32 := Scalar.muli arg11 c256_i32_301
  let v640 : BitVec 32 := v639
  let v793 : Index := Scalar.indexCast v640
  ![0, 0, 0, v793.toNat]
def k1_off26 (i : grid1.Coords) (k1_t2 : Fin (k1_t2_loop i).trips) : Fin 4 → Nat :=
  let c0_378 : Index := 0#32
  let c1_379 : Index := 1#32
  let c0_380 : Index := 0#32
  let c0_i32 : BitVec 32 := 0#32
  let arg2 : BitVec 32 := BitVec.ofNat 32 (i 2).val
  let v316 : BitVec 32 := Scalar.subi arg2 c0_i32
  let c1_i32 : BitVec 32 := 1#32
  let v318 : BitVec 32 := Scalar.divsi v316 c1_i32
  let v319 : BitVec 32 := Scalar.muli v318 c1_i32
  let v320 : BitVec 32 := Scalar.addi c0_i32 v319
  let c1_i32_110 : BitVec 32 := 1#32
  let arg11 : BitVec 32 := Scf.iv v320 c1_i32_110 k1_t2
  let c256_i32_301 : BitVec 32 := 256#32
  let v639 : BitVec 32 := Scalar.muli arg11 c256_i32_301
  let v640 : BitVec 32 := v639
  let v797 : Index := Scalar.indexCast v640
  ![0, 1, 0, v797.toNat]
def k1_off27 (i : grid1.Coords) (k1_t2 : Fin (k1_t2_loop i).trips) : Fin 4 → Nat :=
  let c0_382 : Index := 0#32
  let c2_383 : Index := 2#32
  let c0_384 : Index := 0#32
  let c0_i32 : BitVec 32 := 0#32
  let arg2 : BitVec 32 := BitVec.ofNat 32 (i 2).val
  let v316 : BitVec 32 := Scalar.subi arg2 c0_i32
  let c1_i32 : BitVec 32 := 1#32
  let v318 : BitVec 32 := Scalar.divsi v316 c1_i32
  let v319 : BitVec 32 := Scalar.muli v318 c1_i32
  let v320 : BitVec 32 := Scalar.addi c0_i32 v319
  let c1_i32_110 : BitVec 32 := 1#32
  let arg11 : BitVec 32 := Scf.iv v320 c1_i32_110 k1_t2
  let c256_i32_301 : BitVec 32 := 256#32
  let v639 : BitVec 32 := Scalar.muli arg11 c256_i32_301
  let v640 : BitVec 32 := v639
  let v801 : Index := Scalar.indexCast v640
  ![0, 2, 0, v801.toNat]
def k1_off28 (i : grid1.Coords) (k1_t2 : Fin (k1_t2_loop i).trips) : Fin 4 → Nat :=
  let c0_386 : Index := 0#32
  let c3_387 : Index := 3#32
  let c0_388 : Index := 0#32
  let c0_i32 : BitVec 32 := 0#32
  let arg2 : BitVec 32 := BitVec.ofNat 32 (i 2).val
  let v316 : BitVec 32 := Scalar.subi arg2 c0_i32
  let c1_i32 : BitVec 32 := 1#32
  let v318 : BitVec 32 := Scalar.divsi v316 c1_i32
  let v319 : BitVec 32 := Scalar.muli v318 c1_i32
  let v320 : BitVec 32 := Scalar.addi c0_i32 v319
  let c1_i32_110 : BitVec 32 := 1#32
  let arg11 : BitVec 32 := Scf.iv v320 c1_i32_110 k1_t2
  let c256_i32_301 : BitVec 32 := 256#32
  let v639 : BitVec 32 := Scalar.muli arg11 c256_i32_301
  let v640 : BitVec 32 := v639
  let v805 : Index := Scalar.indexCast v640
  ![0, 3, 0, v805.toNat]
def k1_off29 (i : grid1.Coords) (k1_t2 : Fin (k1_t2_loop i).trips) : Fin 4 → Nat :=
  let c0_390 : Index := 0#32
  let c4_391 : Index := 4#32
  let c0_392 : Index := 0#32
  let c0_i32 : BitVec 32 := 0#32
  let arg2 : BitVec 32 := BitVec.ofNat 32 (i 2).val
  let v316 : BitVec 32 := Scalar.subi arg2 c0_i32
  let c1_i32 : BitVec 32 := 1#32
  let v318 : BitVec 32 := Scalar.divsi v316 c1_i32
  let v319 : BitVec 32 := Scalar.muli v318 c1_i32
  let v320 : BitVec 32 := Scalar.addi c0_i32 v319
  let c1_i32_110 : BitVec 32 := 1#32
  let arg11 : BitVec 32 := Scf.iv v320 c1_i32_110 k1_t2
  let c256_i32_301 : BitVec 32 := 256#32
  let v639 : BitVec 32 := Scalar.muli arg11 c256_i32_301
  let v640 : BitVec 32 := v639
  let v809 : Index := Scalar.indexCast v640
  ![0, 4, 0, v809.toNat]
def k1_off30 (i : grid1.Coords) (k1_t2 : Fin (k1_t2_loop i).trips) : Fin 4 → Nat :=
  let c0_394 : Index := 0#32
  let c5_395 : Index := 5#32
  let c0_396 : Index := 0#32
  let c0_i32 : BitVec 32 := 0#32
  let arg2 : BitVec 32 := BitVec.ofNat 32 (i 2).val
  let v316 : BitVec 32 := Scalar.subi arg2 c0_i32
  let c1_i32 : BitVec 32 := 1#32
  let v318 : BitVec 32 := Scalar.divsi v316 c1_i32
  let v319 : BitVec 32 := Scalar.muli v318 c1_i32
  let v320 : BitVec 32 := Scalar.addi c0_i32 v319
  let c1_i32_110 : BitVec 32 := 1#32
  let arg11 : BitVec 32 := Scf.iv v320 c1_i32_110 k1_t2
  let c256_i32_301 : BitVec 32 := 256#32
  let v639 : BitVec 32 := Scalar.muli arg11 c256_i32_301
  let v640 : BitVec 32 := v639
  let v813 : Index := Scalar.indexCast v640
  ![0, 5, 0, v813.toNat]
def k1_off31 (i : grid1.Coords) (k1_t2 : Fin (k1_t2_loop i).trips) : Fin 4 → Nat :=
  let c0_398 : Index := 0#32
  let c6_399 : Index := 6#32
  let c0_400 : Index := 0#32
  let c0_i32 : BitVec 32 := 0#32
  let arg2 : BitVec 32 := BitVec.ofNat 32 (i 2).val
  let v316 : BitVec 32 := Scalar.subi arg2 c0_i32
  let c1_i32 : BitVec 32 := 1#32
  let v318 : BitVec 32 := Scalar.divsi v316 c1_i32
  let v319 : BitVec 32 := Scalar.muli v318 c1_i32
  let v320 : BitVec 32 := Scalar.addi c0_i32 v319
  let c1_i32_110 : BitVec 32 := 1#32
  let arg11 : BitVec 32 := Scf.iv v320 c1_i32_110 k1_t2
  let c256_i32_301 : BitVec 32 := 256#32
  let v639 : BitVec 32 := Scalar.muli arg11 c256_i32_301
  let v640 : BitVec 32 := v639
  let v817 : Index := Scalar.indexCast v640
  ![0, 6, 0, v817.toNat]
def k1_off32 (i : grid1.Coords) (k1_t2 : Fin (k1_t2_loop i).trips) : Fin 4 → Nat :=
  let c0_402 : Index := 0#32
  let c7_403 : Index := 7#32
  let c0_404 : Index := 0#32
  let c0_i32 : BitVec 32 := 0#32
  let arg2 : BitVec 32 := BitVec.ofNat 32 (i 2).val
  let v316 : BitVec 32 := Scalar.subi arg2 c0_i32
  let c1_i32 : BitVec 32 := 1#32
  let v318 : BitVec 32 := Scalar.divsi v316 c1_i32
  let v319 : BitVec 32 := Scalar.muli v318 c1_i32
  let v320 : BitVec 32 := Scalar.addi c0_i32 v319
  let c1_i32_110 : BitVec 32 := 1#32
  let arg11 : BitVec 32 := Scf.iv v320 c1_i32_110 k1_t2
  let c256_i32_301 : BitVec 32 := 256#32
  let v639 : BitVec 32 := Scalar.muli arg11 c256_i32_301
  let v640 : BitVec 32 := v639
  let v821 : Index := Scalar.indexCast v640
  ![0, 7, 0, v821.toNat]
def k1_mult3 (i : grid1.Coords) : BitVec 32 :=
  let arg2 : BitVec 32 := BitVec.ofNat 32 (i 2).val
  let c256_i32 : BitVec 32 := 256#32
  let v323 : BitVec 32 := Scalar.muli arg2 c256_i32
  v323
def k1_off33 (i : grid1.Coords) : Fin 4 → Nat :=
  let c0_111 : Index := 0#32
  let c0_112 : Index := 0#32
  let arg2 : BitVec 32 := BitVec.ofNat 32 (i 2).val
  let c256_i32 : BitVec 32 := 256#32
  let v323 : BitVec 32 := Scalar.muli arg2 c256_i32
  let v324 : BitVec 32 := v323
  let v325 : Index := Scalar.indexCast v324
  let c0_113 : Index := 0#32
  ![0, 0, v325.toNat, 0]
def k1_off34 (i : grid1.Coords) : Fin 4 → Nat :=
  let c0_118 : Index := 0#32
  let c1_119 : Index := 1#32
  let arg2 : BitVec 32 := BitVec.ofNat 32 (i 2).val
  let c256_i32 : BitVec 32 := 256#32
  let v323 : BitVec 32 := Scalar.muli arg2 c256_i32
  let v324 : BitVec 32 := v323
  let v331 : Index := Scalar.indexCast v324
  let c0_120 : Index := 0#32
  ![0, 1, v331.toNat, 0]
def k1_off35 (i : grid1.Coords) : Fin 4 → Nat :=
  let c0_125 : Index := 0#32
  let c2_126 : Index := 2#32
  let arg2 : BitVec 32 := BitVec.ofNat 32 (i 2).val
  let c256_i32 : BitVec 32 := 256#32
  let v323 : BitVec 32 := Scalar.muli arg2 c256_i32
  let v324 : BitVec 32 := v323
  let v337 : Index := Scalar.indexCast v324
  let c0_127 : Index := 0#32
  ![0, 2, v337.toNat, 0]
def k1_off36 (i : grid1.Coords) : Fin 4 → Nat :=
  let c0_132 : Index := 0#32
  let c3_133 : Index := 3#32
  let arg2 : BitVec 32 := BitVec.ofNat 32 (i 2).val
  let c256_i32 : BitVec 32 := 256#32
  let v323 : BitVec 32 := Scalar.muli arg2 c256_i32
  let v324 : BitVec 32 := v323
  let v343 : Index := Scalar.indexCast v324
  let c0_134 : Index := 0#32
  ![0, 3, v343.toNat, 0]
def k1_off37 (i : grid1.Coords) : Fin 4 → Nat :=
  let c0_139 : Index := 0#32
  let c4_140 : Index := 4#32
  let arg2 : BitVec 32 := BitVec.ofNat 32 (i 2).val
  let c256_i32 : BitVec 32 := 256#32
  let v323 : BitVec 32 := Scalar.muli arg2 c256_i32
  let v324 : BitVec 32 := v323
  let v349 : Index := Scalar.indexCast v324
  let c0_141 : Index := 0#32
  ![0, 4, v349.toNat, 0]
def k1_off38 (i : grid1.Coords) : Fin 4 → Nat :=
  let c0_146 : Index := 0#32
  let c5_147 : Index := 5#32
  let arg2 : BitVec 32 := BitVec.ofNat 32 (i 2).val
  let c256_i32 : BitVec 32 := 256#32
  let v323 : BitVec 32 := Scalar.muli arg2 c256_i32
  let v324 : BitVec 32 := v323
  let v355 : Index := Scalar.indexCast v324
  let c0_148 : Index := 0#32
  ![0, 5, v355.toNat, 0]
def k1_off39 (i : grid1.Coords) : Fin 4 → Nat :=
  let c0_153 : Index := 0#32
  let c6_154 : Index := 6#32
  let arg2 : BitVec 32 := BitVec.ofNat 32 (i 2).val
  let c256_i32 : BitVec 32 := 256#32
  let v323 : BitVec 32 := Scalar.muli arg2 c256_i32
  let v324 : BitVec 32 := v323
  let v361 : Index := Scalar.indexCast v324
  let c0_155 : Index := 0#32
  ![0, 6, v361.toNat, 0]
def k1_off40 (i : grid1.Coords) : Fin 4 → Nat :=
  let c0_160 : Index := 0#32
  let c7_161 : Index := 7#32
  let arg2 : BitVec 32 := BitVec.ofNat 32 (i 2).val
  let c256_i32 : BitVec 32 := 256#32
  let v323 : BitVec 32 := Scalar.muli arg2 c256_i32
  let v324 : BitVec 32 := v323
  let v367 : Index := Scalar.indexCast v324
  let c0_162 : Index := 0#32
  ![0, 7, v367.toNat, 0]
def k1_off41 (i : grid1.Coords) : Fin 4 → Nat :=
  let c0_191 : Index := 0#32
  let c0_192 : Index := 0#32
  let c0_193 : Index := 0#32
  let arg2 : BitVec 32 := BitVec.ofNat 32 (i 2).val
  let c256_i32 : BitVec 32 := 256#32
  let v323 : BitVec 32 := Scalar.muli arg2 c256_i32
  let v324 : BitVec 32 := v323
  let v501 : Index := Scalar.indexCast v324
  ![0, 0, 0, v501.toNat]
def k1_off42 (i : grid1.Coords) : Fin 4 → Nat :=
  let c0_195 : Index := 0#32
  let c1_196 : Index := 1#32
  let c0_197 : Index := 0#32
  let arg2 : BitVec 32 := BitVec.ofNat 32 (i 2).val
  let c256_i32 : BitVec 32 := 256#32
  let v323 : BitVec 32 := Scalar.muli arg2 c256_i32
  let v324 : BitVec 32 := v323
  let v505 : Index := Scalar.indexCast v324
  ![0, 1, 0, v505.toNat]
def k1_off43 (i : grid1.Coords) : Fin 4 → Nat :=
  let c0_199 : Index := 0#32
  let c2_200 : Index := 2#32
  let c0_201 : Index := 0#32
  let arg2 : BitVec 32 := BitVec.ofNat 32 (i 2).val
  let c256_i32 : BitVec 32 := 256#32
  let v323 : BitVec 32 := Scalar.muli arg2 c256_i32
  let v324 : BitVec 32 := v323
  let v509 : Index := Scalar.indexCast v324
  ![0, 2, 0, v509.toNat]
def k1_off44 (i : grid1.Coords) : Fin 4 → Nat :=
  let c0_203 : Index := 0#32
  let c3_204 : Index := 3#32
  let c0_205 : Index := 0#32
  let arg2 : BitVec 32 := BitVec.ofNat 32 (i 2).val
  let c256_i32 : BitVec 32 := 256#32
  let v323 : BitVec 32 := Scalar.muli arg2 c256_i32
  let v324 : BitVec 32 := v323
  let v513 : Index := Scalar.indexCast v324
  ![0, 3, 0, v513.toNat]
def k1_off45 (i : grid1.Coords) : Fin 4 → Nat :=
  let c0_207 : Index := 0#32
  let c4_208 : Index := 4#32
  let c0_209 : Index := 0#32
  let arg2 : BitVec 32 := BitVec.ofNat 32 (i 2).val
  let c256_i32 : BitVec 32 := 256#32
  let v323 : BitVec 32 := Scalar.muli arg2 c256_i32
  let v324 : BitVec 32 := v323
  let v517 : Index := Scalar.indexCast v324
  ![0, 4, 0, v517.toNat]
def k1_off46 (i : grid1.Coords) : Fin 4 → Nat :=
  let c0_211 : Index := 0#32
  let c5_212 : Index := 5#32
  let c0_213 : Index := 0#32
  let arg2 : BitVec 32 := BitVec.ofNat 32 (i 2).val
  let c256_i32 : BitVec 32 := 256#32
  let v323 : BitVec 32 := Scalar.muli arg2 c256_i32
  let v324 : BitVec 32 := v323
  let v521 : Index := Scalar.indexCast v324
  ![0, 5, 0, v521.toNat]
def k1_off47 (i : grid1.Coords) : Fin 4 → Nat :=
  let c0_215 : Index := 0#32
  let c6_216 : Index := 6#32
  let c0_217 : Index := 0#32
  let arg2 : BitVec 32 := BitVec.ofNat 32 (i 2).val
  let c256_i32 : BitVec 32 := 256#32
  let v323 : BitVec 32 := Scalar.muli arg2 c256_i32
  let v324 : BitVec 32 := v323
  let v525 : Index := Scalar.indexCast v324
  ![0, 6, 0, v525.toNat]
def k1_off48 (i : grid1.Coords) : Fin 4 → Nat :=
  let c0_219 : Index := 0#32
  let c7_220 : Index := 7#32
  let c0_221 : Index := 0#32
  let arg2 : BitVec 32 := BitVec.ofNat 32 (i 2).val
  let c256_i32 : BitVec 32 := 256#32
  let v323 : BitVec 32 := Scalar.muli arg2 c256_i32
  let v324 : BitVec 32 := v323
  let v529 : Index := Scalar.indexCast v324
  ![0, 7, 0, v529.toNat]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x256x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x8x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x8x64x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "scale" => some (((1 / 8) * (Real.log 2)⁻¹ : ℝ) : EReal)
  | _ => none
-- ==== ReferenceIdeal.lean ====
abbrev S8x2048x1024 : Shape := ⟨3, ![8, 2048, 1024]⟩
abbrev S8x2048x16 : Shape := ⟨3, ![8, 2048, 16]⟩
abbrev S8x2048x16x64 : Shape := ⟨4, ![8, 2048, 16, 64]⟩
abbrev S8x16x2048x64 : Shape := ⟨4, ![8, 16, 2048, 64]⟩
abbrev S8x16x2048 : Shape := ⟨3, ![8, 16, 2048]⟩
abbrev S8x16x2048x2048 : Shape := ⟨4, ![8, 16, 2048, 2048]⟩
abbrev S_ : Shape := ⟨0, ![]⟩
abbrev S8x16x2048x1 : Shape := ⟨4, ![8, 16, 2048, 1]⟩
abbrev S8x16x1x2048 : Shape := ⟨4, ![8, 16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 61
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x16, .f32⟩
  | .hbm, ⟨4, _⟩ => ⟨S8x2048x1024, .f32⟩
  | .hbm, ⟨5, _⟩ => ⟨S8x2048x16x64, .f32⟩
  | .hbm, ⟨6, _⟩ => ⟨S8x16x2048x64, .f32⟩
  | .hbm, ⟨7, _⟩ => ⟨S8x2048x16x64, .f32⟩
  | .hbm, ⟨8, _⟩ => ⟨S8x16x2048x64, .f32⟩
  | .hbm, ⟨9, _⟩ => ⟨S8x2048x16x64, .f32⟩
  | .hbm, ⟨10, _⟩ => ⟨S8x16x2048x64, .f32⟩
  | .hbm, ⟨11, _⟩ => ⟨S8x16x2048, .f32⟩
  | .hbm, ⟨12, _⟩ => ⟨S8x16x2048x2048, .f32⟩
  | .hbm, ⟨13, _⟩ => ⟨S_, .f32⟩
  | .hbm, ⟨14, _⟩ => ⟨S8x16x2048x2048, .f32⟩
  | .hbm, ⟨15, _⟩ => ⟨S8x16x2048x2048, .f32⟩
  | .hbm, ⟨16, _⟩ => ⟨S8x16x2048x1, .f32⟩
  | .hbm, ⟨17, _⟩ => ⟨S8x16x2048x2048, .f32⟩
  | .hbm, ⟨18, _⟩ => ⟨S8x16x2048x2048, .f32⟩
  | .hbm, ⟨19, _⟩ => ⟨S8x16x1x2048, .f32⟩
  | .hbm, ⟨20, _⟩ => ⟨S8x16x2048x2048, .f32⟩
  | .hbm, ⟨21, _⟩ => ⟨S8x16x2048x2048, .f32⟩
  | .hbm, ⟨22, _⟩ => ⟨S2048, .i32⟩
  | .hbm, ⟨23, _⟩ => ⟨S1x2048, .i32⟩
  | .hbm, ⟨24, _⟩ => ⟨S2048, .i32⟩
  | .hbm, ⟨25, _⟩ => ⟨S2048x1, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S_, .f32⟩
  | .hbm, ⟨30, _⟩ => ⟨S_, .f32⟩
  | .hbm, ⟨31, _⟩ => ⟨S8x16x2048x2048, .i1⟩
  | .hbm, ⟨32, _⟩ => ⟨S8x16x2048x2048, .f32⟩
  | .hbm, ⟨33, _⟩ => ⟨S8x16x2048x2048, .f32⟩
  | .hbm, ⟨34, _⟩ => ⟨S_, .f32⟩
  | .hbm, ⟨35, _⟩ => ⟨S8x16x2048, .f32⟩
  | .hbm, ⟨36, _⟩ => ⟨S_, .f32⟩
  | .hbm, ⟨37, _⟩ => ⟨S8x16x2048, .f32⟩
  | .hbm, ⟨38, _⟩ => ⟨S8x16x2048, .f32⟩
  | .hbm, ⟨39, _⟩ => ⟨S8x16x2048x1, .f32⟩
  | .hbm, ⟨40, _⟩ => ⟨S8x16x2048x2048, .f32⟩
  | .hbm, ⟨41, _⟩ => ⟨S8x16x2048x2048, .f32⟩
  | .hbm, ⟨42, _⟩ => ⟨S8x16x2048x2048, .f32⟩
  | .hbm, ⟨43, _⟩ => ⟨S_, .f32⟩
  | .hbm, ⟨44, _⟩ => ⟨S8x16x2048, .f32⟩
  | .hbm, ⟨45, _⟩ => ⟨S8x16x2048x1, .f32⟩
  | .hbm, ⟨46, _⟩ => ⟨S8x16x2048x2048, .f32⟩
  | .hbm, ⟨47, _⟩ => ⟨S8x16x2048x2048, .f32⟩
  | .hbm, ⟨48, _⟩ => ⟨S8x16x2048x64, .f32⟩
  | .hbm, ⟨49, _⟩ => ⟨S8x2048x16x64, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S_, .f32⟩
  | .hbm, ⟨54, _⟩ => ⟨S8x2048x1024, .f32⟩
  | .hbm, ⟨55, _⟩ => ⟨S8x2048x1024, .f32⟩
  | .hbm, ⟨56, _⟩ => ⟨S_, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel2.lean ====
abbrev S36864x1024 : Shape := ⟨2, ![36864, 1024]⟩
abbrev S8x1024x7168 : Shape := ⟨3, ![8, 1024, 7168]⟩
abbrev S8x3584x1024 : Shape := ⟨3, ![8, 3584, 1024]⟩
abbrev S72 : Shape := ⟨1, ![72]⟩
abbrev S1 : Shape := ⟨1, ![1]⟩
abbrev S512x1024 : Shape := ⟨2, ![512, 1024]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 4
  | .vmem => 11
  | .smem => 2
  | _ => 0

abbrev bufTy : (tb : Table) → Fin (tcTables nBuf tb) → BufTy
  | .hbm, ⟨0, _⟩ => ⟨S36864x1024, .f32⟩
  | .hbm, ⟨1, _⟩ => ⟨S8x1024x7168, .f32⟩
  | .hbm, ⟨2, _⟩ => ⟨S8x3584x1024, .f32⟩
  | .hbm, ⟨3, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .f32⟩
  | .local _ .vmem, ⟨3, _⟩ => ⟨S1x1024x1792, .f32⟩
  | .local _ .vmem, ⟨4, _⟩ => ⟨S1x1024x1792, .f32⟩
  | .local _ .vmem, ⟨5, _⟩ => ⟨S1x1024x1792, .f32⟩
  | .local _ .vmem, ⟨6, _⟩ => ⟨S1x1792x1024, .f32⟩
  | .local _ .vmem, ⟨7, _⟩ => ⟨S1x1792x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .smem, ⟨0, _⟩ => ⟨S72, .i32⟩
  | .local _ .smem, ⟨1, _⟩ => ⟨S1, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 2], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond4 (i : grid0.Coords) : BitVec 1 :=
  let arg1 : BitVec 32 := BitVec.ofNat 32 (i 1).val
  let c1_i32_19 : BitVec 32 := 1#32
  let v34 : BitVec 1 := Scalar.cmpi .eq arg1 c1_i32_19
  let v35 : BitVec 32 := Scalar.extui v34
  let c0_i32_20 : BitVec 32 := 0#32
  let v36 : BitVec 1 := Scalar.cmpi .ne v35 c0_i32_20
  v36

def k0_cond5 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c1_i32 : BitVec 32 := 1#32
  let v6 : BitVec 1 := Scalar.cmpi .eq arg1 c1_i32
  let v7 : BitVec 1 := Scalar.andi v5 v6
  let v8 : BitVec 32 := Scalar.extui v7
  let c0_i32_1 : BitVec 32 := 0#32
  let v9 : BitVec 1 := Scalar.cmpi .ne v8 c0_i32_1
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c2_i32 : BitVec 32 := 2#32
  let v2 : BitVec 32 := Scalar.addi c2_i32 arg1
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S36864x1024 : Shape := ⟨2, ![36864, 1024]⟩
abbrev S8x1024x7168 : Shape := ⟨3, ![8, 1024, 7168]⟩
abbrev S8x3584x1024 : Shape := ⟨3, ![8, 3584, 1024]⟩
abbrev S72 : Shape := ⟨1, ![72]⟩
abbrev S1 : Shape := ⟨1, ![1]⟩
abbrev S72x1 : Shape := ⟨2, ![72, 1]⟩
abbrev S1x8 : Shape := ⟨2, ![1, 8]⟩
abbrev S72x8 : Shape := ⟨2, ![72, 8]⟩
abbrev S_ : Shape := ⟨0, ![]⟩
abbrev S72x1x8 : Shape := ⟨3, ![72, 1, 8]⟩
abbrev S72x512x8 : Shape := ⟨3, ![72, 512, 8]⟩
abbrev S36864x8 : Shape := ⟨2, ![36864, 8]⟩
abbrev S36864x1 : Shape := ⟨2, ![36864, 1]⟩
abbrev S1x1024x7168 : Shape := ⟨3, ![1, 1024, 7168]⟩
abbrev S1024x7168 : Shape := ⟨2, ![1024, 7168]⟩
abbrev S1x3584x1024 : Shape := ⟨3, ![1, 3584, 1024]⟩
abbrev S3584x1024 : Shape := ⟨2, ![3584, 1024]⟩
abbrev S36864x7168 : Shape := ⟨2, ![36864, 7168]⟩
abbrev S36864x3584 : Shape := ⟨2, ![36864, 3584]⟩

abbrev nBuf : Space → Nat
  | .hbm => 201
  | .vmem => 0
  | .smem => 0
  | _ => 0

abbrev hbmTy0_0 (i : Nat) : BufTy := match i % 128 with
  | 0 => ⟨S36864x1024, .f32⟩
  | 1 => ⟨S8x1024x7168, .f32⟩
  | 2 => ⟨S8x3584x1024, .f32⟩
  | 3 => ⟨S72, .i32⟩
  | 4 => ⟨S1, .i32⟩
  | 5 => ⟨S72, .i32⟩
  | 6 => ⟨S72, .i32⟩
  | 7 => ⟨S72, .i1⟩
  | 8 => ⟨S72x1, .i1⟩
  | 9 => ⟨S72x1, .i32⟩
  | 10 => ⟨S1x8, .i32⟩
  | 11 => ⟨S72x8, .i32⟩
  | 12 => ⟨S72x8, .i32⟩
  | 13 => ⟨S72x8, .i1⟩
  | 14 => ⟨S72x8, .f32⟩
  | 15 => ⟨S_, .f32⟩
  | 16 => ⟨S_, .f32⟩
  | 17 => ⟨S72x8, .i1⟩
  | 18 => ⟨S72x8, .f32⟩
  | 19 => ⟨S72x8, .f32⟩
  | 20 => ⟨S72x1x8, .f32⟩
  | 21 => ⟨S72x512x8, .f32⟩
  | 22 => ⟨S36864x8, .f32⟩
  | 23 => ⟨S_, .f32⟩
  | 24 => ⟨S36864x1024, .f32⟩
  | 25 => ⟨S36864x1, .f32⟩
  | 26 => ⟨S1x1024x7168, .f32⟩
  | 27 => ⟨S1024x7168, .f32⟩
  | 28 => ⟨S1x3584x1024, .f32⟩
  | 29 => ⟨S3584x1024, .f32⟩
  | 30 => ⟨S36864x7168, .f32⟩
  | 31 => ⟨S36864x3584, .f32⟩
  | 32 => ⟨S36864x3584, .f32⟩
  | 33 => ⟨S36864x3584, .f32⟩
  | 34 => ⟨S36864x3584, .f32⟩
  | 35 => ⟨S_, .f32⟩
  | 36 => ⟨S36864x3584, .f32⟩
  | 37 => ⟨S36864x3584, .f32⟩
  | 38 => ⟨S_, .f32⟩
  | 39 => ⟨S36864x3584, .f32⟩
  | 40 => ⟨S36864x3584, .f32⟩
  | 41 => ⟨S36864x3584, .f32⟩
  | 42 => ⟨S36864x3584, .f32⟩
  | 43 => ⟨S36864x1024, .f32⟩
  | 44 => ⟨S36864x1024, .f32⟩
  | 45 => ⟨S36864x1024, .f32⟩
  | 46 => ⟨S36864x1024, .f32⟩
  | 47 => ⟨S36864x1, .f32⟩
  | 48 => ⟨S1x1024x7168, .f32⟩
  | 49 => ⟨S1024x7168, .f32⟩
  | 50 => ⟨S1x3584x1024, .f32⟩
  | 51 => ⟨S3584x1024, .f32⟩
  | 52 => ⟨S36864x7168, .f32⟩
  | 53 => ⟨S36864x3584, .f32⟩
  | 54 => ⟨S36864x3584, .f32⟩
  | 55 => ⟨S36864x3584, .f32⟩
  | 56 => ⟨S36864x3584, .f32⟩
  | 57 => ⟨S_, .f32⟩
  | 58 => ⟨S36864x3584, .f32⟩
  | 59 => ⟨S36864x3584, .f32⟩
  | 60 => ⟨S_, .f32⟩
  | 61 => ⟨S36864x3584, .f32⟩
  | 62 => ⟨S36864x3584, .f32⟩
  | 63 => ⟨S36864x3584, .f32⟩
  | 64 => ⟨S36864x3584, .f32⟩
  | 65 => ⟨S36864x1024, .f32⟩
  | 66 => ⟨S36864x1024, .f32⟩
  | 67 => ⟨S36864x1024, .f32⟩
  | 68 => ⟨S36864x1024, .f32⟩
  | 69 => ⟨S36864x1, .f32⟩
  | 70 => ⟨S1x1024x7168, .f32⟩
  | 71 => ⟨S1024x7168, .f32⟩
  | 72 => ⟨S1x3584x1024, .f32⟩
  | 73 => ⟨S3584x1024, .f32⟩
  | 74 => ⟨S36864x7168, .f32⟩
  | 75 => ⟨S36864x3584, .f32⟩
  | 76 => ⟨S36864x3584, .f32⟩
  | 77 => ⟨S36864x3584, .f32⟩
  | 78 => ⟨S36864x3584, .f32⟩
  | 79 => ⟨S_, .f32⟩
  | 80 => ⟨S36864x3584, .f32⟩
  | 81 => ⟨S36864x3584, .f32⟩
  | 82 => ⟨S_, .f32⟩
  | 83 => ⟨S36864x3584, .f32⟩
  | 84 => ⟨S36864x3584, .f32⟩
  | 85 => ⟨S36864x3584, .f32⟩
  | 86 => ⟨S36864x3584, .f32⟩
  | 87 => ⟨S36864x1024, .f32⟩
  | 88 => ⟨S36864x1024, .f32⟩
  | 89 => ⟨S36864x1024, .f32⟩
  | 90 => ⟨S36864x1024, .f32⟩
  | 91 => ⟨S36864x1, .f32⟩
  | 92 => ⟨S1x1024x7168, .f32⟩
  | 93 => ⟨S1024x7168, .f32⟩
  | 94 => ⟨S1x3584x1024, .f32⟩
  | 95 => ⟨S3584x1024, .f32⟩
  | 96 => ⟨S36864x7168, .f32⟩
  | 97 => ⟨S36864x3584, .f32⟩
  | 98 => ⟨S36864x3584, .f32⟩
  | 99 => ⟨S36864x3584, .f32⟩
  | 100 => ⟨S36864x3584, .f32⟩
  | 101 => ⟨S_, .f32⟩
  | 102 => ⟨S36864x3584, .f32⟩
  | 103 => ⟨S36864x3584, .f32⟩
  | 104 => ⟨S_, .f32⟩
  | 105 => ⟨S36864x3584, .f32⟩
  | 106 => ⟨S36864x3584, .f32⟩
  | 107 => ⟨S36864x3584, .f32⟩
  | 108 => ⟨S36864x3584, .f32⟩
  | 109 => ⟨S36864x1024, .f32⟩
  | 110 => ⟨S36864x1024, .f32⟩
  | 111 => ⟨S36864x1024, .f32⟩
  | 112 => ⟨S36864x1024, .f32⟩
  | 113 => ⟨S36864x1, .f32⟩
  | 114 => ⟨S1x1024x7168, .f32⟩
  | 115 => ⟨S1024x7168, .f32⟩
  | 116 => ⟨S1x3584x1024, .f32⟩
  | 117 => ⟨S3584x1024, .f32⟩
  | 118 => ⟨S36864x7168, .f32⟩
  | 119 => ⟨S36864x3584, .f32⟩
  | 120 => ⟨S36864x3584, .f32⟩
  | 121 => ⟨S36864x3584, .f32⟩
  | 122 => ⟨S36864x3584, .f32⟩
  | 123 => ⟨S_, .f32⟩
  | 124 => ⟨S36864x3584, .f32⟩
  | 125 => ⟨S36864x3584, .f32⟩
  | 126 => ⟨S_, .f32⟩
  | 127 => ⟨S36864x3584, .f32⟩
  | _ => ⟨S36864x1024, .f32⟩

abbrev hbmTy0_1 (i : Nat) : BufTy := match i % 128 with
  | 0 => ⟨S36864x3584, .f32⟩
  | 1 => ⟨S36864x3584, .f32⟩
  | 2 => ⟨S36864x3584, .f32⟩
  | 3 => ⟨S36864x1024, .f32⟩
  | 4 => ⟨S36864x1024, .f32⟩
  | 5 => ⟨S36864x1024, .f32⟩
  | 6 => ⟨S36864x1024, .f32⟩
  | 7 => ⟨S36864x1, .f32⟩
  | 8 => ⟨S1x1024x7168, .f32⟩
  | 9 => ⟨S1024x7168, .f32⟩
  | 10 => ⟨S1x3584x1024, .f32⟩
  | 11 => ⟨S3584x1024, .f32⟩
  | 12 => ⟨S36864x7168, .f32⟩
  | 13 => ⟨S36864x3584, .f32⟩
  | 14 => ⟨S36864x3584, .f32⟩
  | 15 => ⟨S36864x3584, .f32⟩
  | 16 => ⟨S36864x3584, .f32⟩
  | 17 => ⟨S_, .f32⟩
  | 18 => ⟨S36864x3584, .f32⟩
  | 19 => ⟨S36864x3584, .f32⟩
  | 20 => ⟨S_, .f32⟩
  | 21 => ⟨S36864x3584, .f32⟩
  | 22 => ⟨S36864x3584, .f32⟩
  | 23 => ⟨S36864x3584, .f32⟩
  | 24 => ⟨S36864x3584, .f32⟩
  | 25 => ⟨S36864x1024, .f32⟩
  | 26 => ⟨S36864x1024, .f32⟩
  | 27 => ⟨S36864x1024, .f32⟩
  | 28 => ⟨S36864x1024, .f32⟩
  | 29 => ⟨S36864x1, .f32⟩
  | 30 => ⟨S1x1024x7168, .f32⟩
  | 31 => ⟨S1024x7168, .f32⟩
  | 32 => ⟨S1x3584x1024, .f32⟩
  | 33 => ⟨S3584x1024, .f32⟩
  | 34 => ⟨S36864x7168, .f32⟩
  | 35 => ⟨S36864x3584, .f32⟩
  | 36 => ⟨S36864x3584, .f32⟩
  | 37 => ⟨S36864x3584, .f32⟩
  | 38 => ⟨S36864x3584, .f32⟩
  | 39 => ⟨S_, .f32⟩
  | 40 => ⟨S36864x3584, .f32⟩
  | 41 => ⟨S36864x3584, .f32⟩
  | 42 => ⟨S_, .f32⟩
  | 43 => ⟨S36864x3584, .f32⟩
  | 44 => ⟨S36864x3584, .f32⟩
  | 45 => ⟨S36864x3584, .f32⟩
  | 46 => ⟨S36864x3584, .f32⟩
  | 47 => ⟨S36864x1024, .f32⟩
  | 48 => ⟨S36864x1024, .f32⟩
  | 49 => ⟨S36864x1024, .f32⟩
  | 50 => ⟨S36864x1024, .f32⟩
  | 51 => ⟨S36864x1, .f32⟩
  | 52 => ⟨S1x1024x7168, .f32⟩
  | 53 => ⟨S1024x7168, .f32⟩
  | 54 => ⟨S1x3584x1024, .f32⟩
  | 55 => ⟨S3584x1024, .f32⟩
  | 56 => ⟨S36864x7168, .f32⟩
  | 57 => ⟨S36864x3584, .f32⟩
  | 58 => ⟨S36864x3584, .f32⟩
  | 59 => ⟨S36864x3584, .f32⟩
  | 60 => ⟨S36864x3584, .f32⟩
  | 61 => ⟨S_, .f32⟩
  | 62 => ⟨S36864x3584, .f32⟩
  | 63 => ⟨S36864x3584, .f32⟩
  | 64 => ⟨S_, .f32⟩
  | 65 => ⟨S36864x3584, .f32⟩
  | 66 => ⟨S36864x3584, .f32⟩
  | 67 => ⟨S36864x3584, .f32⟩
  | 68 => ⟨S36864x3584, .f32⟩
  | 69 => ⟨S36864x1024, .f32⟩
  | 70 => ⟨S36864x1024, .f32⟩
  | 71 => ⟨S36864x1024, .f32⟩
  | 72 => ⟨S36864x1024, .f32⟩
  | _ => ⟨S36864x1024, .f32⟩

abbrev hbmTy (i : Nat) : BufTy := match i / 128 with
  | 0 => hbmTy0_0 i
  | 1 => hbmTy0_1 i
  | _ => ⟨S36864x1024, .f32⟩

abbrev bufTy : (tb : Table) → Fin (tcTables nBuf tb) → BufTy
  | .hbm, ⟨i, _⟩ => hbmTy i
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_cst : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call2_v0 : Ref sig .tc := ⟨.hbm, 33, rfl⟩
abbrev main_call2_v1 : Ref sig .tc := ⟨.hbm, 34, rfl⟩
abbrev main_call2_cst : Ref sig .tc := ⟨.hbm, 35, rfl⟩
abbrev main_call2_v2 : Ref sig .tc := ⟨.hbm, 36, rfl⟩
abbrev main_call2_v3 : Ref sig .tc := ⟨.hbm, 37, rfl⟩
abbrev main_call2_cst_0 : Ref sig .tc := ⟨.hbm, 38, rfl⟩
abbrev main_call2_v4 : Ref sig .tc := ⟨.hbm, 39, rfl⟩
abbrev main_call2_v5 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call3_v0 : Ref sig .tc := ⟨.hbm, 55, rfl⟩
abbrev main_call3_v1 : Ref sig .tc := ⟨.hbm, 56, rfl⟩
abbrev main_call3_cst : Ref sig .tc := ⟨.hbm, 57, rfl⟩
abbrev main_call3_v2 : Ref sig .tc := ⟨.hbm, 58, rfl⟩
abbrev main_call3_v3 : Ref sig .tc := ⟨.hbm, 59, rfl⟩
abbrev main_call3_cst_0 : Ref sig .tc := ⟨.hbm, 60, rfl⟩
abbrev main_call3_v4 : Ref sig .tc := ⟨.hbm, 61, rfl⟩
abbrev main_call3_v5 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_call4_v0 : Ref sig .tc := ⟨.hbm, 77, rfl⟩
abbrev main_call4_v1 : Ref sig .tc := ⟨.hbm, 78, rfl⟩
abbrev main_call4_cst : Ref sig .tc := ⟨.hbm, 79, rfl⟩
abbrev main_call4_v2 : Ref sig .tc := ⟨.hbm, 80, rfl⟩
abbrev main_call4_v3 : Ref sig .tc := ⟨.hbm, 81, rfl⟩
abbrev main_call4_cst_0 : Ref sig .tc := ⟨.hbm, 82, rfl⟩
abbrev main_call4_v4 : Ref sig .tc := ⟨.hbm, 83, rfl⟩
abbrev main_call4_v5 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_call5_v0 : Ref sig .tc := ⟨.hbm, 99, rfl⟩
abbrev main_call5_v1 : Ref sig .tc := ⟨.hbm, 100, rfl⟩
abbrev main_call5_cst : Ref sig .tc := ⟨.hbm, 101, rfl⟩
abbrev main_call5_v2 : Ref sig .tc := ⟨.hbm, 102, rfl⟩
abbrev main_call5_v3 : Ref sig .tc := ⟨.hbm, 103, rfl⟩
abbrev main_call5_cst_0 : Ref sig .tc := ⟨.hbm, 104, rfl⟩
abbrev main_call5_v4 : Ref sig .tc := ⟨.hbm, 105, rfl⟩
abbrev main_call5_v5 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_call6_v0 : Ref sig .tc := ⟨.hbm, 121, rfl⟩
abbrev main_call6_v1 : Ref sig .tc := ⟨.hbm, 122, rfl⟩
abbrev main_call6_cst : Ref sig .tc := ⟨.hbm, 123, rfl⟩
abbrev main_call6_v2 : Ref sig .tc := ⟨.hbm, 124, rfl⟩
abbrev main_call6_v3 : Ref sig .tc := ⟨.hbm, 125, rfl⟩
abbrev main_call6_cst_0 : Ref sig .tc := ⟨.hbm, 126, rfl⟩
abbrev main_call6_v4 : Ref sig .tc := ⟨.hbm, 127, rfl⟩
abbrev main_call6_v5 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_call7_v0 : Ref sig .tc := ⟨.hbm, 143, rfl⟩
abbrev main_call7_v1 : Ref sig .tc := ⟨.hbm, 144, rfl⟩
abbrev main_call7_cst : Ref sig .tc := ⟨.hbm, 145, rfl⟩
abbrev main_call7_v2 : Ref sig .tc := ⟨.hbm, 146, rfl⟩
abbrev main_call7_v3 : Ref sig .tc := ⟨.hbm, 147, rfl⟩
abbrev main_call7_cst_0 : Ref sig .tc := ⟨.hbm, 148, rfl⟩
abbrev main_call7_v4 : Ref sig .tc := ⟨.hbm, 149, rfl⟩
abbrev main_call7_v5 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_call8_v0 : Ref sig .tc := ⟨.hbm, 165, rfl⟩
abbrev main_call8_v1 : Ref sig .tc := ⟨.hbm, 166, rfl⟩
abbrev main_call8_cst : Ref sig .tc := ⟨.hbm, 167, rfl⟩
abbrev main_call8_v2 : Ref sig .tc := ⟨.hbm, 168, rfl⟩
abbrev main_call8_v3 : Ref sig .tc := ⟨.hbm, 169, rfl⟩
abbrev main_call8_cst_0 : Ref sig .tc := ⟨.hbm, 170, rfl⟩
abbrev main_call8_v4 : Ref sig .tc := ⟨.hbm, 171, rfl⟩
abbrev main_call8_v5 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_call9_v0 : Ref sig .tc := ⟨.hbm, 187, rfl⟩
abbrev main_call9_v1 : Ref sig .tc := ⟨.hbm, 188, rfl⟩
abbrev main_call9_cst : Ref sig .tc := ⟨.hbm, 189, rfl⟩
abbrev main_call9_v2 : Ref sig .tc := ⟨.hbm, 190, rfl⟩
abbrev main_call9_v3 : Ref sig .tc := ⟨.hbm, 191, rfl⟩
abbrev main_call9_cst_0 : Ref sig .tc := ⟨.hbm, 192, rfl⟩
abbrev main_call9_v4 : Ref sig .tc := ⟨.hbm, 193, rfl⟩
abbrev main_call9_v5 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024x5632 : Shape := ⟨2, ![1024, 5632]⟩
abbrev S2816x1024 : Shape := ⟨2, ![2816, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S1024x2816 : Shape := ⟨2, ![1024, 2816]⟩
abbrev S512x2816 : Shape := ⟨2, ![512, 2816]⟩
abbrev S512 : Shape := ⟨1, ![512]⟩
abbrev S512x1 : Shape := ⟨2, ![512, 1]⟩

abbrev nBuf : Space → Nat
  | .hbm => 12
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x2048x1024 : Shape := ⟨3, ![8, 2048, 1024]⟩
abbrev S1024x5632 : Shape := ⟨2, ![1024, 5632]⟩
abbrev S2816x1024 : Shape := ⟨2, ![2816, 1024]⟩
abbrev S1024 : Shape := ⟨1, ![1024]⟩
abbrev S8x2048x5632 : Shape := ⟨3, ![8, 2048, 5632]⟩
abbrev S8x2048x2816 : Shape := ⟨3, ![8, 2048, 2816]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8x2048x5632, .f32⟩
  | .hbm, ⟨6, _⟩ => ⟨S8x2048x2816, .f32⟩
  | .hbm, ⟨7, _⟩ => ⟨S8x2048x2816, .f32⟩
  | .hbm, ⟨8, _⟩ => ⟨S8x2048x2816, .f32⟩
  | .hbm, ⟨9, _⟩ => ⟨S8x2048x2816, .f32⟩
  | .hbm, ⟨10, _⟩ => ⟨S_, .f32⟩
  | .hbm, ⟨11, _⟩ => ⟨S8x2048x2816, .f32⟩
  | .hbm, ⟨12, _⟩ => ⟨S8x2048x2816, .f32⟩
  | .hbm, ⟨13, _⟩ => ⟨S_, .f32⟩
  | .hbm, ⟨14, _⟩ => ⟨S8x2048x2816, .f32⟩
  | .hbm, ⟨15, _⟩ => ⟨S8x2048x2816, .f32⟩
  | .hbm, ⟨16, _⟩ => ⟨S8x2048x2816, .f32⟩
  | .hbm, ⟨17, _⟩ => ⟨S8x2048x2816, .f32⟩
  | .hbm, ⟨18, _⟩ => ⟨S8x2048x1024, .f32⟩
  | .hbm, ⟨19, _⟩ => ⟨S_, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x1024, .f32⟩
  | .hbm, ⟨45, _⟩ => ⟨S8x2048x1024, .f32⟩
  | .hbm, ⟨46, _⟩ => ⟨S1x1x1024, .f32⟩
  | .hbm, ⟨47, _⟩ => ⟨S8x2048x1024, .f32⟩
  | .hbm, ⟨48, _⟩ => ⟨S8x2048x1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Kernel4.lean ====
abbrev S8x2048x1024 : Shape := ⟨3, ![8, 2048, 1024]⟩
abbrev S1024x4096 : Shape := ⟨2, ![1024, 4096]⟩
abbrev S1024 : Shape := ⟨1, ![1024]⟩
abbrev S16384x1024 : Shape := ⟨2, ![16384, 1024]⟩
abbrev S1024x1024 : Shape := ⟨2, ![1024, 1024]⟩
abbrev S_ : Shape := ⟨0, ![]⟩
abbrev S1x1024 : Shape := ⟨2, ![1, 1024]⟩
abbrev S512x1024 : Shape := ⟨2, ![512, 1024]⟩

abbrev nBuf : Space → Nat
  | .hbm => 26
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S1024x4096, .f32⟩
  | .hbm, ⟨2, _⟩ => ⟨S1024, .f32⟩
  | .hbm, ⟨3, _⟩ => ⟨S16384x1024, .f32⟩
  | .hbm, ⟨4, _⟩ => ⟨S1024x4096, .bf16⟩
  | .hbm, ⟨5, _⟩ => ⟨S1024x1024, .bf16⟩
  | .hbm, ⟨6, _⟩ => ⟨S_, .f32⟩
  | .hbm, ⟨7, _⟩ => ⟨S1x1024, .f32⟩
  | .hbm, ⟨8, _⟩ => ⟨S16384x1024, .bf16⟩
  | .hbm, ⟨9, _⟩ => ⟨S1024x1024, .bf16⟩
  | .hbm, ⟨10, _⟩ => ⟨S1x1024, .f32⟩
  | .hbm, ⟨11, _⟩ => ⟨S16384x1024, .f32⟩
  | .hbm, ⟨12, _⟩ => ⟨S16384x1024, .bf16⟩
  | .hbm, ⟨13, _⟩ => ⟨S1024x1024, .bf16⟩
  | .hbm, ⟨14, _⟩ => ⟨S_, .f32⟩
  | .hbm, ⟨15, _⟩ => ⟨S1x1024, .f32⟩
  | .hbm, ⟨16, _⟩ => ⟨S16384x1024, .bf16⟩
  | .hbm, ⟨17, _⟩ => ⟨S1024x1024, .bf16⟩
  | .hbm, ⟨18, _⟩ => ⟨S_, .f32⟩
  | .hbm, ⟨19, _⟩ => ⟨S1x1024, .f32⟩
  | .hbm, ⟨20, _⟩ => ⟨S16384x1024, .bf16⟩
  | .hbm, ⟨21, _⟩ => ⟨S8x2048x1024, .bf16⟩
  | .hbm, ⟨22, _⟩ => ⟨S8x2048x1024, .bf16⟩
  | .hbm, ⟨23, _⟩ => ⟨S8x2048x1024, .bf16⟩
  | .hbm, ⟨24, _⟩ => ⟨S8x2048x1024, .f32⟩
  | .hbm, ⟨25, _⟩ => ⟨S8x2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x1024, .bf16⟩
  | .local _ .vmem, ⟨23, _⟩ => ⟨S1x1024, .f32⟩
  | .local _ .vmem, ⟨24, _⟩ => ⟨S1024x1024, .bf16⟩
  | .local _ .vmem, ⟨25, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![16, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![16, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true]

abbrev stage3_3 : Fin 2 → Memref sig .tc .vmem S1024x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]
-- ==== Reference4Ideal.lean ====
abbrev S8x2048x1024 : Shape := ⟨3, ![8, 2048, 1024]⟩
abbrev S1024x4096 : Shape := ⟨2, ![1024, 4096]⟩
abbrev S1024 : Shape := ⟨1, ![1024]⟩
abbrev S8x2048x4096 : Shape := ⟨3, ![8, 2048, 4096]⟩
abbrev S_ : Shape := ⟨0, ![]⟩
abbrev S1x1x1024 : Shape := ⟨3, ![1, 1, 1024]⟩

abbrev nBuf : Space → Nat
  | .hbm => 95
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x4096, .f32⟩
  | .hbm, ⟨2, _⟩ => ⟨S1024, .f32⟩
  | .hbm, ⟨3, _⟩ => ⟨S8x2048x4096, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S8x2048x1024, .f32⟩
  | .hbm, ⟨13, _⟩ => ⟨S_, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S8x2048x1024, .i1⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .i1⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S1x1x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S8x2048x1024, .i1⟩
  | .hbm, ⟨51, _⟩ => ⟨S8x2048x1024, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S_, .f32⟩
  | .hbm, ⟨65, _⟩ => ⟨S8x2048x1024, .f32⟩
  | .hbm, ⟨66, _⟩ => ⟨S8x2048x1024, .f32⟩
  | .hbm, ⟨67, _⟩ => ⟨S_, .f32⟩
  | .hbm, ⟨68, _⟩ => ⟨S8x2048x1024, .f32⟩
  | .hbm, ⟨69, _⟩ => ⟨S8x2048x1024, .f32⟩
  | .hbm, ⟨70, _⟩ => ⟨S1x1x1024, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S8x2048x1024, .f32⟩
  | .hbm, ⟨75, _⟩ => ⟨S_, .f32⟩
  | .hbm, ⟨76, _⟩ => ⟨S8x2048x1024, .f32⟩
  | .hbm, ⟨77, _⟩ => ⟨S8x2048x1024, .f32⟩
  | .hbm, ⟨78, _⟩ => ⟨S_, .f32⟩
  | .hbm, ⟨79, _⟩ => ⟨S8x2048x1024, .f32⟩
  | .hbm, ⟨80, _⟩ => ⟨S8x2048x1024, .f32⟩
  | .hbm, ⟨81, _⟩ => ⟨S8x2048x1024, .f32⟩
  | .hbm, ⟨82, _⟩ => ⟨S8x2048x1024, .bf16⟩
  | .hbm, ⟨83, _⟩ => ⟨S8x2048x1024, .bf16⟩
  | .hbm, ⟨84, _⟩ => ⟨S8x2048x1024, .bf16⟩
  | .hbm, ⟨85, _⟩ => ⟨S8x2048x1024, .f32⟩
  | .hbm, ⟨86, _⟩ => ⟨S8x2048x1024, .f32⟩
  | .hbm, ⟨87, _⟩ => ⟨S_, .f32⟩
  | .hbm, ⟨88, _⟩ => ⟨S8x2048x1024, .f32⟩
  | .hbm, ⟨89, _⟩ => ⟨S8x2048x1024, .f32⟩
  | .hbm, ⟨90, _⟩ => ⟨S_, .f32⟩
  | .hbm, ⟨91, _⟩ => ⟨S8x2048x1024, .f32⟩
  | .hbm, ⟨92, _⟩ => ⟨S8x2048x1024, .f32⟩
  | .hbm, ⟨93, _⟩ => ⟨S8x2048x1024, .f32⟩
  | .hbm, ⟨94, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v8 : Ref sig .tc := ⟨.hbm, 27, rfl⟩
abbrev main_v9 : Ref sig .tc := ⟨.hbm, 28, rfl⟩
abbrev main_call1_v0 : Ref sig .tc := ⟨.hbm, 29, rfl⟩
abbrev main_call1_call0_cst : Ref sig .tc := ⟨.hbm, 30, rfl⟩
abbrev main_call1_call0_v0 : Ref sig .tc := ⟨.hbm, 31, rfl⟩
abbrev main_call1_call0_v1 : Ref sig .tc := ⟨.hbm, 32, rfl⟩
abbrev main_call1_call0_v2 : Ref sig .tc := ⟨.hbm, 33, rfl⟩
abbrev main_call1_call0_v3 : Ref sig .tc := ⟨.hbm, 34, rfl⟩
abbrev main_call1_call0_v4 : Ref sig .tc := ⟨.hbm, 35, rfl⟩
abbrev main_call1_call0_v5 : Ref sig .tc := ⟨.hbm, 36, rfl⟩
abbrev main_call1_call0_v6 : Ref sig .tc := ⟨.hbm, 37, rfl⟩
abbrev main_call1_call0_v7 : Ref sig .tc := ⟨.hbm, 38, rfl⟩
abbrev main_call1_call0_v8 : Ref sig .tc := ⟨.hbm, 39, rfl⟩
abbrev main_call1_call0_v9 : Ref sig .tc := ⟨.hbm, 40, rfl⟩
abbrev main_call1_call0_v10 : Ref sig .tc := ⟨.hbm, 41, rfl⟩
abbrev main_call1_call0_v11 : Ref sig .tc := ⟨.hbm, 42, rfl⟩
abbrev main_call1_v1 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_0 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_1 : Ref sig .tc := ⟨.hbm, 64, rfl⟩
abbrev main_v29 : Ref sig .tc := ⟨.hbm, 65, rfl⟩
abbrev main_v30 : Ref sig .tc := ⟨.hbm, 66, rfl⟩
abbrev main_cst_2 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_call2_v0 : Ref sig .tc := ⟨.hbm, 73, rfl⟩
abbrev main_call2_v1 : Ref sig .tc := ⟨.hbm, 74, rfl⟩
abbrev main_call2_cst : Ref sig .tc := ⟨.hbm, 75, rfl⟩
abbrev main_call2_v2 : Ref sig .tc := ⟨.hbm, 76, rfl⟩
abbrev main_call2_v3 : Ref sig .tc := ⟨.hbm, 77, rfl⟩
abbrev main_call2_cst_0 : Ref sig .tc := ⟨.hbm, 78, rfl⟩
abbrev main_call2_v4 : Ref sig .tc := ⟨.hbm, 79, rfl⟩
abbrev main_call2_v5 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v40 : Ref sig .tc := ⟨.hbm, 93, rfl⟩
abbrev main_v41 : Ref sig .tc := ⟨.hbm, 94, rfl⟩

abbrev nD : Nat := 1
abbrev τ : Topo := Topo.v7x

variable {F : FTy → Type} [FloatOps F]
-- ==== Kernel5.lean ====
abbrev S8x2048x1024 : Shape := ⟨3, ![8, 2048, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S8x2048x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S8x2048x1024, .bf16⟩
  | .hbm, ⟨7, _⟩ => ⟨S16384x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S8x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S8x2048x1024, .f32⟩
  | .hbm, ⟨3, _⟩ => ⟨S1024, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1, .f32⟩
  | .hbm, ⟨31, _⟩ => ⟨S8x2048x1024, .f32⟩
  | .hbm, ⟨32, _⟩ => ⟨S8x2048x1024, .f32⟩
  | .hbm, ⟨33, _⟩ => ⟨S1x1x1024, .f32⟩
  | .hbm, ⟨34, _⟩ => ⟨S8x2048x1024, .f32⟩
  | .hbm, ⟨35, _⟩ => ⟨S8x2048x1024, .f32⟩
  | .hbm, ⟨36, _⟩ => ⟨S1x1x1024, .f32⟩
  | .hbm, ⟨37, _⟩ => ⟨S8x2048x1024, .f32⟩
  | .hbm, ⟨38, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel6.lean ====
abbrev S8x2048x1024 : Shape := ⟨3, ![8, 2048, 1024]⟩
abbrev S1024x2048 : Shape := ⟨2, ![1024, 2048]⟩
abbrev S16384x1024 : Shape := ⟨2, ![16384, 1024]⟩
abbrev S1024x1024 : Shape := ⟨2, ![1024, 1024]⟩
abbrev S_ : Shape := ⟨0, ![]⟩
abbrev S1x1024 : Shape := ⟨2, ![1, 1024]⟩

abbrev nBuf : Space → Nat
  | .hbm => 14
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024x2048, .f32⟩
  | .hbm, ⟨2, _⟩ => ⟨S16384x1024, .f32⟩
  | .hbm, ⟨3, _⟩ => ⟨S1024x2048, .bf16⟩
  | .hbm, ⟨4, _⟩ => ⟨S1024x1024, .bf16⟩
  | .hbm, ⟨5, _⟩ => ⟨S_, .f32⟩
  | .hbm, ⟨6, _⟩ => ⟨S1x1024, .f32⟩
  | .hbm, ⟨7, _⟩ => ⟨S16384x1024, .f32⟩
  | .hbm, ⟨8, _⟩ => ⟨S1024x1024, .bf16⟩
  | .hbm, ⟨9, _⟩ => ⟨S_, .f32⟩
  | .hbm, ⟨10, _⟩ => ⟨S1x1024, .f32⟩
  | .hbm, ⟨11, _⟩ => ⟨S16384x1024, .bf16⟩
  | .hbm, ⟨12, _⟩ => ⟨S8x2048x1024, .f32⟩
  | .hbm, ⟨13, _⟩ => ⟨S8x2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== Reference6Ideal.lean ====
abbrev S8x2048x1024 : Shape := ⟨3, ![8, 2048, 1024]⟩
abbrev S1024x2048 : Shape := ⟨2, ![1024, 2048]⟩
abbrev S8x2048x2048 : Shape := ⟨3, ![8, 2048, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x2048, .f32⟩
  | .hbm, ⟨2, _⟩ => ⟨S8x2048x2048, .f32⟩
  | .hbm, ⟨3, _⟩ => ⟨S8x2048x1024, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S_, .f32⟩
  | .hbm, ⟨8, _⟩ => ⟨S8x2048x1024, .f32⟩
  | .hbm, ⟨9, _⟩ => ⟨S8x2048x1024, .f32⟩
  | .hbm, ⟨10, _⟩ => ⟨S_, .f32⟩
  | .hbm, ⟨11, _⟩ => ⟨S8x2048x1024, .f32⟩
  | .hbm, ⟨12, _⟩ => ⟨S8x2048x1024, .f32⟩
  | .hbm, ⟨13, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel7.lean ====
abbrev S8x2048x1024 : Shape := ⟨3, ![8, 2048, 1024]⟩
abbrev S1024x2064 : Shape := ⟨2, ![1024, 2064]⟩
abbrev S16 : Shape := ⟨1, ![16]⟩
abbrev S16384x1024 : Shape := ⟨2, ![16384, 1024]⟩
abbrev S1024x1024 : Shape := ⟨2, ![1024, 1024]⟩
abbrev S_ : Shape := ⟨0, ![]⟩
abbrev S1x1024 : Shape := ⟨2, ![1, 1024]⟩
abbrev S1024x16 : Shape := ⟨2, ![1024, 16]⟩
abbrev S1024x128 : Shape := ⟨2, ![1024, 128]⟩
abbrev S128 : Shape := ⟨1, ![128]⟩
abbrev S1x128 : Shape := ⟨2, ![1, 128]⟩
abbrev S16384x128 : Shape := ⟨2, ![16384, 128]⟩
abbrev S8x2048x128 : Shape := ⟨3, ![8, 2048, 128]⟩
abbrev S1x2048x128 : Shape := ⟨3, ![1, 2048, 128]⟩
abbrev S256x256 : Shape := ⟨2, ![256, 256]⟩
abbrev S1x256x128 : Shape := ⟨3, ![1, 256, 128]⟩
abbrev S256x128 : Shape := ⟨2, ![256, 128]⟩
abbrev S8x2048x16 : Shape := ⟨3, ![8, 2048, 16]⟩

abbrev nBuf : Space → Nat
  | .hbm => 27
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S1024x2064, .f32⟩
  | .hbm, ⟨2, _⟩ => ⟨S16, .f32⟩
  | .hbm, ⟨3, _⟩ => ⟨S16384x1024, .f32⟩
  | .hbm, ⟨4, _⟩ => ⟨S1024x2064, .bf16⟩
  | .hbm, ⟨5, _⟩ => ⟨S1024x1024, .bf16⟩
  | .hbm, ⟨6, _⟩ => ⟨S_, .f32⟩
  | .hbm, ⟨7, _⟩ => ⟨S1x1024, .f32⟩
  | .hbm, ⟨8, _⟩ => ⟨S16384x1024, .bf16⟩
  | .hbm, ⟨9, _⟩ => ⟨S8x2048x1024, .bf16⟩
  | .hbm, ⟨10, _⟩ => ⟨S1024x1024, .bf16⟩
  | .hbm, ⟨11, _⟩ => ⟨S_, .f32⟩
  | .hbm, ⟨12, _⟩ => ⟨S1x1024, .f32⟩
  | .hbm, ⟨13, _⟩ => ⟨S16384x1024, .bf16⟩
  | .hbm, ⟨14, _⟩ => ⟨S8x2048x1024, .bf16⟩
  | .hbm, ⟨15, _⟩ => ⟨S1024x16, .bf16⟩
  | .hbm, ⟨16, _⟩ => ⟨S_, .i32⟩
  | .hbm, ⟨17, _⟩ => ⟨S_, .bf16⟩
  | .hbm, ⟨18, _⟩ => ⟨S1024x128, .bf16⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S16384x128, .f32⟩
  | .hbm, ⟨24, _⟩ => ⟨S8x2048x128, .f32⟩
  | .hbm, ⟨25, _⟩ => ⟨S8x2048x128, .f32⟩
  | .hbm, ⟨26, _⟩ => ⟨S8x2048x16, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x128, .bf16⟩
  | .local _ .vmem, ⟨15, _⟩ => ⟨S1x128, .f32⟩
  | .local _ .vmem, ⟨16, _⟩ => ⟨S1024x128, .f32⟩
  | .local _ .vmem, ⟨17, _⟩ => ⟨S1024x128, .f32⟩
  | .local _ .vmem, ⟨18, _⟩ => ⟨S1x2048x128, .f32⟩
  | .local _ .vmem, ⟨19, _⟩ => ⟨S1x2048x128, .f32⟩
  | .local _ .vmem, ⟨20, _⟩ => ⟨S1x2048x128, .f32⟩
  | .local _ .vmem, ⟨21, _⟩ => ⟨S1x2048x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_v11 : Ref sig .tc := ⟨.hbm, 18, rfl⟩
abbrev main_c_1 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![16, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![8], ![false]⟩

@[reducible] def k3_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k3_mult1 (k3_t1 : Fin k3_t1_loop.trips) : BitVec 32 :=
  let c0_i32 : BitVec 32 := 0#32
  let c1_i32 : BitVec 32 := 1#32
  let arg3 : BitVec 32 := Scf.iv c0_i32 c1_i32 k3_t1
  let c256_i32 : BitVec 32 := 256#32
  let v9 : BitVec 32 := Scalar.muli arg3 c256_i32
  v9
def k3_off1 (k3_t1 : Fin k3_t1_loop.trips) : Fin 3 → Nat :=
  let c0 : Index := 0#32
  let c0_i32 : BitVec 32 := 0#32
  let c1_i32 : BitVec 32 := 1#32
  let arg3 : BitVec 32 := Scf.iv c0_i32 c1_i32 k3_t1
  let c256_i32 : BitVec 32 := 256#32
  let v9 : BitVec 32 := Scalar.muli arg3 c256_i32
  let v10 : BitVec 32 := v9
  let v11 : Index := Scalar.indexCast v10
  let c0_1 : Index := 0#32
  ![0, v11.toNat, 0]
def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]
-- ==== Reference7Ideal.lean ====
abbrev S8x2048x1024 : Shape := ⟨3, ![8, 2048, 1024]⟩
abbrev S1024x2064 : Shape := ⟨2, ![1024, 2064]⟩
abbrev S16 : Shape := ⟨1, ![16]⟩
abbrev S8x2048x2064 : Shape := ⟨3, ![8, 2048, 2064]⟩
abbrev S8x2048x16 : Shape := ⟨3, ![8, 2048, 16]⟩
abbrev S1x1x16 : Shape := ⟨3, ![1, 1, 16]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x2064, .f32⟩
  | .hbm, ⟨2, _⟩ => ⟨S16, .f32⟩
  | .hbm, ⟨3, _⟩ => ⟨S8x2048x2064, .f32⟩
  | .hbm, ⟨4, _⟩ => ⟨S8x2048x1024, .f32⟩
  | .hbm, ⟨5, _⟩ => ⟨S8x2048x1024, .f32⟩
  | .hbm, ⟨6, _⟩ => ⟨S8x2048x16, .f32⟩
  | .hbm, ⟨7, _⟩ => ⟨S1x1x16, .f32⟩
  | .hbm, ⟨8, _⟩ => ⟨S8x2048x16, .f32⟩
  | .hbm, ⟨9, _⟩ => ⟨S8x2048x16, .f32⟩
  | .hbm, ⟨10, _⟩ => ⟨S8x2048x16, .f32⟩
  | .hbm, ⟨11, _⟩ => ⟨S_, .f32⟩
  | .hbm, ⟨12, _⟩ => ⟨S8x2048x16, .f32⟩
  | .hbm, ⟨13, _⟩ => ⟨S8x2048x16, .f32⟩
  | .hbm, ⟨14, _⟩ => ⟨S8x2048x16, .f32⟩
  | .hbm, ⟨15, _⟩ => ⟨S8x2048x16, .f32⟩
  | .hbm, ⟨16, _⟩ => ⟨S8x2048x16, .i1⟩
  | .hbm, ⟨17, _⟩ => ⟨S8x2048x16, .f32⟩
  | .hbm, ⟨18, _⟩ => ⟨S8x2048x16, .f32⟩
  | .hbm, ⟨19, _⟩ => ⟨S8x2048x16, .f32⟩
  | .hbm, ⟨20, _⟩ => ⟨S8x2048x16, .f32⟩
  | .hbm, ⟨21, _⟩ => ⟨S8x2048x16, .f32⟩
  | .hbm, ⟨22, _⟩ => ⟨S8x2048x16, .f32⟩
  | .hbm, ⟨23, _⟩ => ⟨S8x2048x16, .f32⟩
  | .hbm, ⟨24, _⟩ => ⟨S8x2048x16, .f32⟩
  | .hbm, ⟨25, _⟩ => ⟨S8x2048x16, .f32⟩
  | .hbm, ⟨26, _⟩ => ⟨S_, .f32⟩
  | .hbm, ⟨27, _⟩ => ⟨S_, .f32⟩
  | .hbm, ⟨28, _⟩ => ⟨S8x2048x16, .f32⟩
  | .hbm, ⟨29, _⟩ => ⟨S8x2048x1024, .bf16⟩
  | .hbm, ⟨30, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v7 : Ref sig .tc := ⟨.hbm, 25, rfl⟩
abbrev main_call1_call0_cst : Ref sig .tc := ⟨.hbm, 26, rfl⟩
abbrev main_call1_call0_v0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Kernel8.lean ====
abbrev S8x2048x1024 : Shape := ⟨3, ![8, 2048, 1024]⟩
abbrev S128 : Shape := ⟨1, ![128]⟩
abbrev S1x128 : Shape := ⟨2, ![1, 128]⟩
abbrev S1x512x1024 : Shape := ⟨3, ![1, 512, 1024]⟩
abbrev S8x128x128 : Shape := ⟨3, ![8, 128, 128]⟩
abbrev S64x64 : Shape := ⟨2, ![64, 64]⟩
abbrev S1x64x128 : Shape := ⟨3, ![1, 64, 128]⟩
abbrev S64x128 : Shape := ⟨2, ![64, 128]⟩
abbrev S1x128x128 : Shape := ⟨3, ![1, 128, 128]⟩
abbrev S128x128 : Shape := ⟨2, ![128, 128]⟩
abbrev S8x128 : Shape := ⟨2, ![8, 128]⟩
abbrev S8x8 : Shape := ⟨2, ![8, 8]⟩
abbrev S16x128 : Shape := ⟨2, ![16, 128]⟩
abbrev S8x16 : Shape := ⟨2, ![8, 16]⟩
abbrev S24x128 : Shape := ⟨2, ![24, 128]⟩
abbrev S8x24 : Shape := ⟨2, ![8, 24]⟩
abbrev S32x128 : Shape := ⟨2, ![32, 128]⟩
abbrev S8x32 : Shape := ⟨2, ![8, 32]⟩
abbrev S40x128 : Shape := ⟨2, ![40, 128]⟩
abbrev S8x40 : Shape := ⟨2, ![8, 40]⟩
abbrev S48x128 : Shape := ⟨2, ![48, 128]⟩
abbrev S8x48 : Shape := ⟨2, ![8, 48]⟩
abbrev S56x128 : Shape := ⟨2, ![56, 128]⟩
abbrev S8x56 : Shape := ⟨2, ![8, 56]⟩
abbrev S8x1 : Shape := ⟨2, ![8, 1]⟩
abbrev S8 : Shape := ⟨1, ![8]⟩
abbrev S64 : Shape := ⟨1, ![64]⟩
abbrev S64x1 : Shape := ⟨2, ![64, 1]⟩

abbrev nBuf : Space → Nat
  | .hbm => 12
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .hbm, ⟨4, _⟩ => ⟨S8x2048x1024, .f32⟩
  | .hbm, ⟨5, _⟩ => ⟨S128, .f32⟩
  | .hbm, ⟨6, _⟩ => ⟨S8x2048x1024, .bf16⟩
  | .hbm, ⟨7, _⟩ => ⟨S8x2048x1024, .bf16⟩
  | .hbm, ⟨8, _⟩ => ⟨S8x2048x1024, .bf16⟩
  | .hbm, ⟨9, _⟩ => ⟨S8x2048x1024, .bf16⟩
  | .hbm, ⟨10, _⟩ => ⟨S1x128, .f32⟩
  | .hbm, ⟨11, _⟩ => ⟨S8x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1x128, .f32⟩
  | .local _ .vmem, ⟨11, _⟩ => ⟨S1x512x1024, .bf16⟩
  | .local _ .vmem, ⟨12, _⟩ => ⟨S1x512x1024, .bf16⟩
  | .local _ .vmem, ⟨13, _⟩ => ⟨S8x128x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 1, 4], ![false, false, false]⟩

@[reducible] def k0_t1_loop : Scf.Loop 32 :=
  let c0_i32_2 : BitVec 32 := 0#32
  let c8_i32 : BitVec 32 := 8#32
  let v11 : BitVec 32 := Scalar.addi c0_i32_2 c8_i32
  let c1_i32 : BitVec 32 := 1#32
  ⟨c0_i32_2, v11, c1_i32⟩
def k0_mult1 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c64_i32 : BitVec 32 := 64#32
  let v12 : BitVec 32 := Scalar.muli arg11 c64_i32
  v12
def k0_off1 (k0_t1 : Fin k0_t1_loop.trips) : Fin 3 → Nat :=
  let c0_4 : Index := 0#32
  let c0_i32_2 : BitVec 32 := 0#32
  let c1_i32 : BitVec 32 := 1#32
  let arg11 : BitVec 32 := Scf.iv c0_i32_2 c1_i32 k0_t1
  let c64_i32 : BitVec 32 := 64#32
  let v12 : BitVec 32 := Scalar.muli arg11 c64_i32
  let v13 : BitVec 32 := v12
  let v14 : Index := Scalar.indexCast v13
  let c0_5 : Index := 0#32
  ![0, v14.toNat, 0]
def k0_off2 (k0_t1 : Fin k0_t1_loop.trips) : Fin 3 → Nat :=
  let c0_6 : Index := 0#32
  let c0_i32_2 : BitVec 32 := 0#32
  let c1_i32 : BitVec 32 := 1#32
  let arg11 : BitVec 32 := Scf.iv c0_i32_2 c1_i32 k0_t1
  let c64_i32 : BitVec 32 := 64#32
  let v12 : BitVec 32 := Scalar.muli arg11 c64_i32
  let v13 : BitVec 32 := v12
  let v18 : Index := Scalar.indexCast v13
  let c128 : Index := 128#32
  ![0, v18.toNat, 128]
def k0_off3 (k0_t1 : Fin k0_t1_loop.trips) : Fin 3 → Nat :=
  let c0_7 : Index := 0#32
  let c0_i32_2 : BitVec 32 := 0#32
  let c1_i32 : BitVec 32 := 1#32
  let arg11 : BitVec 32 := Scf.iv c0_i32_2 c1_i32 k0_t1
  let c64_i32 : BitVec 32 := 64#32
  let v12 : BitVec 32 := Scalar.muli arg11 c64_i32
  let v13 : BitVec 32 := v12
  let v22 : Index := Scalar.indexCast v13
  let c256 : Index := 256#32
  ![0, v22.toNat, 256]
def k0_off4 (k0_t1 : Fin k0_t1_loop.trips) : Fin 3 → Nat :=
  let c0_8 : Index := 0#32
  let c0_i32_2 : BitVec 32 := 0#32
  let c1_i32 : BitVec 32 := 1#32
  let arg11 : BitVec 32 := Scf.iv c0_i32_2 c1_i32 k0_t1
  let c64_i32 : BitVec 32 := 64#32
  let v12 : BitVec 32 := Scalar.muli arg11 c64_i32
  let v13 : BitVec 32 := v12
  let v26 : Index := Scalar.indexCast v13
  let c384 : Index := 384#32
  ![0, v26.toNat, 384]
def k0_off5 (k0_t1 : Fin k0_t1_loop.trips) : Fin 3 → Nat :=
  let c0_9 : Index := 0#32
  let c0_i32_2 : BitVec 32 := 0#32
  let c1_i32 : BitVec 32 := 1#32
  let arg11 : BitVec 32 := Scf.iv c0_i32_2 c1_i32 k0_t1
  let c64_i32 : BitVec 32 := 64#32
  let v12 : BitVec 32 := Scalar.muli arg11 c64_i32
  let v13 : BitVec 32 := v12
  let v30 : Index := Scalar.indexCast v13
  let c512 : Index := 512#32
  ![0, v30.toNat, 512]
def k0_off6 (k0_t1 : Fin k0_t1_loop.trips) : Fin 3 → Nat :=
  let c0_10 : Index := 0#32
  let c0_i32_2 : BitVec 32 := 0#32
  let c1_i32 : BitVec 32 := 1#32
  let arg11 : BitVec 32 := Scf.iv c0_i32_2 c1_i32 k0_t1
  let c64_i32 : BitVec 32 := 64#32
  let v12 : BitVec 32 := Scalar.muli arg11 c64_i32
  let v13 : BitVec 32 := v12
  let v34 : Index := Scalar.indexCast v13
  let c640 : Index := 640#32
  ![0, v34.toNat, 640]
def k0_off7 (k0_t1 : Fin k0_t1_loop.trips) : Fin 3 → Nat :=
  let c0_11 : Index := 0#32
  let c0_i32_2 : BitVec 32 := 0#32
  let c1_i32 : BitVec 32 := 1#32
  let arg11 : BitVec 32 := Scf.iv c0_i32_2 c1_i32 k0_t1
  let c64_i32 : BitVec 32 := 64#32
  let v12 : BitVec 32 := Scalar.muli arg11 c64_i32
  let v13 : BitVec 32 := v12
  let v38 : Index := Scalar.indexCast v13
  let c768 : Index := 768#32
  ![0, v38.toNat, 768]
def k0_off8 (k0_t1 : Fin k0_t1_loop.trips) : Fin 3 → Nat :=
  let c0_12 : Index := 0#32
  let c0_i32_2 : BitVec 32 := 0#32
  let c1_i32 : BitVec 32 := 1#32
  let arg11 : BitVec 32 := Scf.iv c0_i32_2 c1_i32 k0_t1
  let c64_i32 : BitVec 32 := 64#32
  let v12 : BitVec 32 := Scalar.muli arg11 c64_i32
  let v13 : BitVec 32 := v12
  let v42 : Index := Scalar.indexCast v13
  let c896 : Index := 896#32
  ![0, v42.toNat, 896]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference8Ideal.lean ====
abbrev S8x2048x1024 : Shape := ⟨3, ![8, 2048, 1024]⟩
abbrev S128 : Shape := ⟨1, ![128]⟩
abbrev S8x2048x8x128 : Shape := ⟨4, ![8, 2048, 8, 128]⟩
abbrev S8x8x2048x128 : Shape := ⟨4, ![8, 8, 2048, 128]⟩
abbrev S_ : Shape := ⟨0, ![]⟩
abbrev S2048x2048 : Shape := ⟨2, ![2048, 2048]⟩
abbrev S2048x2048x1 : Shape := ⟨3, ![2048, 2048, 1]⟩
abbrev S8x8x2048x1x128 : Shape := ⟨5, ![8, 8, 2048, 1, 128]⟩
abbrev S8x8x1x2048x128 : Shape := ⟨5, ![8, 8, 1, 2048, 128]⟩
abbrev S8x8x2048x2048x128 : Shape := ⟨5, ![8, 8, 2048, 2048, 128]⟩
abbrev S8x8x2048x2048 : Shape := ⟨4, ![8, 8, 2048, 2048]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩

abbrev nBuf : Space → Nat
  | .hbm => 72
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .hbm, ⟨4, _⟩ => ⟨S8x2048x1024, .f32⟩
  | .hbm, ⟨5, _⟩ => ⟨S128, .f32⟩
  | .hbm, ⟨6, _⟩ => ⟨S8x2048x8x128, .f32⟩
  | .hbm, ⟨7, _⟩ => ⟨S8x8x2048x128, .f32⟩
  | .hbm, ⟨8, _⟩ => ⟨S8x2048x8x128, .f32⟩
  | .hbm, ⟨9, _⟩ => ⟨S8x8x2048x128, .f32⟩
  | .hbm, ⟨10, _⟩ => ⟨S8x2048x8x128, .f32⟩
  | .hbm, ⟨11, _⟩ => ⟨S8x8x2048x128, .f32⟩
  | .hbm, ⟨12, _⟩ => ⟨S_, .f32⟩
  | .hbm, ⟨13, _⟩ => ⟨S_, .f32⟩
  | .hbm, ⟨14, _⟩ => ⟨S8x2048x1024, .f32⟩
  | .hbm, ⟨15, _⟩ => ⟨S8x2048x8x128, .f32⟩
  | .hbm, ⟨16, _⟩ => ⟨S8x8x2048x128, .f32⟩
  | .hbm, ⟨17, _⟩ => ⟨S_, .i1⟩
  | .hbm, ⟨18, _⟩ => ⟨S2048x2048, .i1⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .i1⟩
  | .hbm, ⟨26, _⟩ => ⟨S2048x2048, .i1⟩
  | .hbm, ⟨27, _⟩ => ⟨S2048x2048, .i1⟩
  | .hbm, ⟨28, _⟩ => ⟨S2048x2048x1, .i1⟩
  | .hbm, ⟨29, _⟩ => ⟨S8x8x2048x1x128, .f32⟩
  | .hbm, ⟨30, _⟩ => ⟨S8x8x1x2048x128, .f32⟩
  | .hbm, ⟨31, _⟩ => ⟨S8x8x2048x2048x128, .f32⟩
  | .hbm, ⟨32, _⟩ => ⟨S8x8x2048x2048x128, .f32⟩
  | .hbm, ⟨33, _⟩ => ⟨S8x8x2048x2048x128, .f32⟩
  | .hbm, ⟨34, _⟩ => ⟨S_, .f32⟩
  | .hbm, ⟨35, _⟩ => ⟨S_, .f32⟩
  | .hbm, ⟨36, _⟩ => ⟨S8x8x2048x2048x128, .i1⟩
  | .hbm, ⟨37, _⟩ => ⟨S8x8x2048x2048x128, .f32⟩
  | .hbm, ⟨38, _⟩ => ⟨S8x8x2048x2048x128, .f32⟩
  | .hbm, ⟨39, _⟩ => ⟨S8x8x2048x2048x128, .f32⟩
  | .hbm, ⟨40, _⟩ => ⟨S_, .f32⟩
  | .hbm, ⟨41, _⟩ => ⟨S_, .f32⟩
  | .hbm, ⟨42, _⟩ => ⟨S8x8x2048x2048x128, .i1⟩
  | .hbm, ⟨43, _⟩ => ⟨S8x8x2048x2048x128, .f32⟩
  | .hbm, ⟨44, _⟩ => ⟨S8x8x2048x2048x128, .f32⟩
  | .hbm, ⟨45, _⟩ => ⟨S8x8x2048x1x128, .f32⟩
  | .hbm, ⟨46, _⟩ => ⟨S8x8x2048x2048x128, .f32⟩
  | .hbm, ⟨47, _⟩ => ⟨S8x8x2048x2048x128, .f32⟩
  | .hbm, ⟨48, _⟩ => ⟨S8x8x2048x2048, .f32⟩
  | .hbm, ⟨49, _⟩ => ⟨S8x8x2048x2048, .f32⟩
  | .hbm, ⟨50, _⟩ => ⟨S8x8x2048x128, .f32⟩
  | .hbm, ⟨51, _⟩ => ⟨S8x2048x8x128, .f32⟩
  | .hbm, ⟨52, _⟩ => ⟨S8x2048x8x128, .f32⟩
  | .hbm, ⟨53, _⟩ => ⟨S_, .f32⟩
  | .hbm, ⟨54, _⟩ => ⟨S8x2048x8, .f32⟩
  | .hbm, ⟨55, _⟩ => ⟨S8x2048x8x1, .f32⟩
  | .hbm, ⟨56, _⟩ => ⟨S_, .f32⟩
  | .hbm, ⟨57, _⟩ => ⟨S8x2048x8x1, .f32⟩
  | .hbm, ⟨58, _⟩ => ⟨S8x2048x8x1, .f32⟩
  | .hbm, ⟨59, _⟩ => ⟨S_, .f32⟩
  | .hbm, ⟨60, _⟩ => ⟨S8x2048x8x1, .f32⟩
  | .hbm, ⟨61, _⟩ => ⟨S8x2048x8x1, .f32⟩
  | .hbm, ⟨62, _⟩ => ⟨S8x2048x8x1, .f32⟩
  | .hbm, ⟨63, _⟩ => ⟨S8x2048x8x128, .f32⟩
  | .hbm, ⟨64, _⟩ => ⟨S8x2048x8x128, .f32⟩
  | .hbm, ⟨65, _⟩ => ⟨S1x1x1x128, .f32⟩
  | .hbm, ⟨66, _⟩ => ⟨S8x2048x8x128, .f32⟩
  | .hbm, ⟨67, _⟩ => ⟨S8x2048x8x128, .f32⟩
  | .hbm, ⟨68, _⟩ => ⟨S8x2048x8x128, .f32⟩
  | .hbm, ⟨69, _⟩ => ⟨S8x2048x8x128, .f32⟩
  | .hbm, ⟨70, _⟩ => ⟨S8x2048x1024, .f32⟩
  | .hbm, ⟨71, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_call0_cst : Ref sig .tc := ⟨.hbm, 12, rfl⟩
abbrev main_call0_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_call1_v0 : Ref sig .tc := ⟨.hbm, 19, rfl⟩
abbrev main_call1_c : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_c_0 : Ref sig .tc := ⟨.hbm, 25, rfl⟩
abbrev main_call1_v5 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v17 : Ref sig .tc := ⟨.hbm, 38, rfl⟩
abbrev main_v18 : Ref sig .tc := ⟨.hbm, 39, rfl⟩
abbrev main_cst_0 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_1 : Ref sig .tc := ⟨.hbm, 53, rfl⟩
abbrev main_v28 : Ref sig .tc := ⟨.hbm, 54, rfl⟩
abbrev main_v29 : Ref sig .tc := ⟨.hbm, 55, rfl⟩
abbrev main_cst_2 : Ref sig .tc := ⟨.hbm, 56, rfl⟩
abbrev main_v30 : Ref sig .tc := ⟨.hbm, 57, rfl⟩
abbrev main_v31 : Ref sig .tc := ⟨.hbm, 58, rfl⟩
abbrev main_cst_3 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩

abbrev nD : Nat := 1
abbrev τ : Topo := Topo.v7x

variable {F : FTy → Type} [FloatOps F]
-- ==== Proof.Hgrn.Run.lean ====
/- The recurrence's body at a grid point: what it leaves in its output block and in the state carried on, and that it does. -/
module

public import proofs.«01_k».proof.Proof.Gen.Kernel8Ideal.Frame.Runs

@[expose] public section

set_option maxRecDepth 16384

noncomputable section

namespace Cert.Kernel8Ideal.Hgrn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel8Ideal Cert.Kernel8Ideal.Gen
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section free
variable (𝒱 : Variants) (c : Dev nD) (bd : Option 𝒱.V) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .bf16) (harg7 : arg7.IsWhole) (arg8 : Memref sig .tc .vmem S1x128 .f32) (harg8 : arg8.IsWhole) (arg9 : Memref sig .tc .vmem S1x512x1024 .bf16) (harg9 : arg9.IsWhole) (arg10 : Memref sig .tc .vmem S8x128x128 .f32) (harg10 : arg10.IsWhole) (v9 : Vec F S1x128 .f32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty)

/-- A trip's stores do not depend on what the output block held. -/
theorem trip_free (k : Fin k0_t1_loop.trips) (f f' : BufTy.Contents (Elt F) arg9.view.ty) (g : BufTy.Contents (Elt F) arg10.view.ty) :
    (trip_k0_t1 (F := F) 𝒱 c bd i arg3 harg3 arg4 harg4 arg5 harg5 arg6 harg6 arg7 harg7 arg8 harg8 arg9 harg9 arg10 harg10 v9 X_arg3 X_arg4 X_arg5 X_arg6 X_arg7 k).1 f g = (trip_k0_t1 (F := F) 𝒱 c bd i arg3 harg3 arg4 harg4 arg5 harg5 arg6 harg6 arg7 harg7 arg8 harg8 arg9 harg9 arg10 harg10 v9 X_arg3 X_arg4 X_arg5 X_arg6 X_arg7 k).1 f' g
      ∧ (trip_k0_t1 (F := F) 𝒱 c bd i arg3 harg3 arg4 harg4 arg5 harg5 arg6 harg6 arg7 harg7 arg8 harg8 arg9 harg9 arg10 harg10 v9 X_arg3 X_arg4 X_arg5 X_arg6 X_arg7 k).2.1 f g = (trip_k0_t1 (F := F) 𝒱 c bd i arg3 harg3 arg4 harg4 arg5 harg5 arg6 harg6 arg7 harg7 arg8 harg8 arg9 harg9 arg10 harg10 v9 X_arg3 X_arg4 X_arg5 X_arg6 X_arg7 k).2.1 f' g := by
  unfold trip_k0_t1; exact ⟨rfl, rfl⟩

/-- Nor do the stores of the trips so far. -/
theorem pb_free (f f' : BufTy.Contents (Elt F) arg9.view.ty) (g : BufTy.Contents (Elt F) arg10.view.ty) (n : ℕ) :
    pb_k0_t1 (F := F) 𝒱 c bd i arg3 harg3 arg4 harg4 arg5 harg5 arg6 harg6 arg7 harg7 arg8 harg8 arg9 harg9 arg10 harg10 v9 X_arg3 X_arg4 X_arg5 X_arg6 X_arg7 f g n = pb_k0_t1 (F := F) 𝒱 c bd i arg3 harg3 arg4 harg4 arg5 harg5 arg6 harg6 arg7 harg7 arg8 harg8 arg9 harg9 arg10 harg10 v9 X_arg3 X_arg4 X_arg5 X_arg6 X_arg7 f' g n := by
  induction n with
  | zero => rfl
  | succ n ih =>
    by_cases h : n < k0_t1_loop.trips
    · have e := pb_k0_t1_succ (F := F) 𝒱 c bd i arg3 harg3 arg4 harg4 arg5 harg5 arg6 harg6 arg7 harg7 arg8 harg8 arg9 harg9 arg10 harg10 v9 X_arg3 X_arg4 X_arg5 X_arg6 X_arg7 f g ⟨n, h⟩
      have e' := pb_k0_t1_succ (F := F) 𝒱 c bd i arg3 harg3 arg4 harg4 arg5 harg5 arg6 harg6 arg7 harg7 arg8 harg8 arg9 harg9 arg10 harg10 v9 X_arg3 X_arg4 X_arg5 X_arg6 X_arg7 f' g ⟨n, h⟩
      refine e.trans (Eq.trans ?_ e'.symm)
      show _ = (_ ++ (pb_k0_t1 (F := F) 𝒱 c bd i arg3 harg3 arg4 harg4 arg5 harg5 arg6 harg6 arg7 harg7 arg8 harg8 arg9 harg9 arg10 harg10 v9 X_arg3 X_arg4 X_arg5 X_arg6 X_arg7 f' g n).1, _ ++ (pb_k0_t1 (F := F) 𝒱 c bd i arg3 harg3 arg4 harg4 arg5 harg5 arg6 harg6 arg7 harg7 arg8 harg8 arg9 harg9 arg10 harg10 v9 X_arg3 X_arg4 X_arg5 X_arg6 X_arg7 f' g n).2)
      dsimp only
      rw [← ih]
      generalize pb_k0_t1 (F := F) 𝒱 c bd i arg3 harg3 arg4 harg4 arg5 harg5 arg6 harg6 arg7 harg7 arg8 harg8 arg9 harg9 arg10 harg10 v9 X_arg3 X_arg4 X_arg5 X_arg6 X_arg7 f g n = P
      exact Prod.ext (congrArg (fun l => l ++ P.1) (trip_free 𝒱 c bd i arg3 harg3 arg4 harg4 arg5 harg5 arg6 harg6 arg7 harg7 arg8 harg8 arg9 harg9 arg10 harg10 v9 X_arg3 X_arg4 X_arg5 X_arg6 X_arg7 ⟨n, h⟩ (arg9.view.writes (Elt F) f P.1) (arg9.view.writes (Elt F) f' P.1) (arg10.view.writes (Elt F) g P.2)).1)
        (congrArg (fun l => l ++ P.2) (trip_free 𝒱 c bd i arg3 harg3 arg4 harg4 arg5 harg5 arg6 harg6 arg7 harg7 arg8 harg8 arg9 harg9 arg10 harg10 v9 X_arg3 X_arg4 X_arg5 X_arg6 X_arg7 ⟨n, h⟩ (arg9.view.writes (Elt F) f P.1) (arg9.view.writes (Elt F) f' P.1) (arg10.view.writes (Elt F) g P.2)).2)
    · rw [pb_k0_t1.eq_2, pb_k0_t1.eq_2]
      unfold pb_k0_t1Step
      rw [dif_neg h, dif_neg h, ih]

end free

set_option maxHeartbeats 1000000 in
/-- The body at a point that starts a sequence: the state is set to zero first. -/
noncomputable def kernelRun0_A (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .bf16) (harg7 : arg7.IsWhole) (arg8 : Memref sig .tc .vmem S1x128 .f32) (harg8 : arg8.IsWhole) (arg9 : Memref sig .tc .vmem S1x512x1024 .bf16) (harg9 : arg9.IsWhole) (arg10 : Memref sig .tc .vmem S8x128x128 .f32) (harg10 : arg10.IsWhole) (hc0 : cond0_0 i)
    (x0 : Vec F S1x512x1024 .bf16) (x1 : Vec F S1x512x1024 .bf16) (x2 : Vec F S1x512x1024 .bf16) (x3 : Vec F S1x512x1024 .f32) (x4 : Vec F S1x512x1024 .bf16) (x5 : Vec F S1x128 .f32) :
    Σ' (L6 : List (View.Piece (Elt F) S1x512x1024 .bf16)), { LS0 : List (View.Piece (Elt F) S8x128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc0_hgrn_recurrence i arg3 harg3 arg4 harg4 arg5 harg5 arg6 harg6 arg7 harg7 arg8 harg8 arg9 harg9 arg10 harg10) K } := by
  refine ⟨?_, ?_, fun E K => ?run⟩
  case run =>
    simp only [cc0_hgrn_recurrence_eq_skeleton]; unfold cc0_hgrn_recurrence_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    rw [pb_free (f := f6) (f' := arg9.view.junk)]
    isplitl [H6]; · iexists _; iexact H6
    iexists _; iexact HS0

set_option maxHeartbeats 1000000 in
/-- The body at a point that goes on with a sequence: the state holds what the point before left. -/
noncomputable def kernelRun0_B (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .bf16) (harg7 : arg7.IsWhole) (arg8 : Memref sig .tc .vmem S1x128 .f32) (harg8 : arg8.IsWhole) (arg9 : Memref sig .tc .vmem S1x512x1024 .bf16) (harg9 : arg9.IsWhole) (arg10 : Memref sig .tc .vmem S8x128x128 .f32) (harg10 : arg10.IsWhole) (hc0 : ¬cond0_0 i)
    (x0 : Vec F S1x512x1024 .bf16) (x1 : Vec F S1x512x1024 .bf16) (x2 : Vec F S1x512x1024 .bf16) (x3 : Vec F S1x512x1024 .f32) (x4 : Vec F S1x512x1024 .bf16) (x5 : Vec F S1x128 .f32) (xs0 : Vec F S8x128x128 .f32) :
    Σ' (L6 : List (View.Piece (Elt F) S1x512x1024 .bf16)), { LS0 : List (View.Piece (Elt F) S8x128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc0_hgrn_recurrence i arg3 harg3 arg4 harg4 arg5 harg5 arg6 harg6 arg7 harg7 arg8 harg8 arg9 harg9 arg10 harg10) K } := by
  refine ⟨?_, ?_, fun E K => ?run⟩
  case run =>
    simp only [cc0_hgrn_recurrence_eq_skeleton]; unfold cc0_hgrn_recurrence_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    rw [pb_free (f := f6) (f' := arg9.view.junk)]
    isplitl [H6]; · iexists _; iexact H6
    iexists _; iexact HS0

end Cert.Kernel8Ideal.Hgrn

end
-- ==== Proof.Hgrn.Frame.lean ====
/- The recurrence's run: the state carried from point to point, the output blocks, and the run's end. -/
module

public import proofs.«01_k».proof.Proof.Hgrn.Run
public import Idealize.ShloMosaic.Lib.Claim

@[expose] public section

set_option maxRecDepth 16384

noncomputable section

namespace Cert.Kernel8Ideal.Hgrn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel8Ideal Cert.Kernel8Ideal.Gen
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores cover the output block. -/
theorem cover0_A_6 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .bf16) (harg7 : arg7.IsWhole) (arg8 : Memref sig .tc .vmem S1x128 .f32) (harg8 : arg8.IsWhole) (arg9 : Memref sig .tc .vmem S1x512x1024 .bf16) (harg9 : arg9.IsWhole) (arg10 : Memref sig .tc .vmem S8x128x128 .f32) (harg10 : arg10.IsWhole) (hc0 : cond0_0 i)
    (x0 : Vec F S1x512x1024 .bf16) (x1 : Vec F S1x512x1024 .bf16) (x2 : Vec F S1x512x1024 .bf16) (x3 : Vec F S1x512x1024 .f32) (x4 : Vec F S1x512x1024 .bf16) (x5 : Vec F S1x128 .f32) (y : S1x512x1024.Idx) :
    ∃ pc ∈ (kernelRun0_A c i arg3 harg3 arg4 harg4 arg5 harg5 arg6 harg6 arg7 harg7 arg8 harg8 arg9 harg9 arg10 harg10 hc0 x0 x1 x2 x3 x4 x5).1, y ∈ pc.1.set :=
  View.cover_of_tiledL (kernelRun0_A c i arg3 harg3 arg4 harg4 arg5 harg5 arg6 harg6 arg7 harg7 arg8 harg8 arg9 harg9 arg10 harg10 hc0 x0 x1 x2 x3 x4 x5).1 S1x64x128.size (by sl_kernel_rfl) y

/-- What the output block holds after the body at a point that starts a sequence. -/
def out0_A_6 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .bf16) (harg7 : arg7.IsWhole) (arg8 : Memref sig .tc .vmem S1x128 .f32) (harg8 : arg8.IsWhole) (arg9 : Memref sig .tc .vmem S1x512x1024 .bf16) (harg9 : arg9.IsWhole) (arg10 : Memref sig .tc .vmem S8x128x128 .f32) (harg10 : arg10.IsWhole) (hc0 : cond0_0 i)
    (x0 : Vec F S1x512x1024 .bf16) (x1 : Vec F S1x512x1024 .bf16) (x2 : Vec F S1x512x1024 .bf16) (x3 : Vec F S1x512x1024 .f32) (x4 : Vec F S1x512x1024 .bf16) (x5 : Vec F S1x128 .f32) : Vec F S1x512x1024 .bf16 :=
  VO0_6.read (Elt F) (VO0_6.writes (Elt F) VO0_6.junk (kernelRun0_A c i arg3 harg3 arg4 harg4 arg5 harg5 arg6 harg6 arg7 harg7 arg8 harg8 arg9 harg9 arg10 harg10 hc0 x0 x1 x2 x3 x4 x5).1)

/-- The stores cover the state. -/
theorem scover0_A_0 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .bf16) (harg7 : arg7.IsWhole) (arg8 : Memref sig .tc .vmem S1x128 .f32) (harg8 : arg8.IsWhole) (arg9 : Memref sig .tc .vmem S1x512x1024 .bf16) (harg9 : arg9.IsWhole) (arg10 : Memref sig .tc .vmem S8x128x128 .f32) (harg10 : arg10.IsWhole) (hc0 : cond0_0 i)
    (x0 : Vec F S1x512x1024 .bf16) (x1 : Vec F S1x512x1024 .bf16) (x2 : Vec F S1x512x1024 .bf16) (x3 : Vec F S1x512x1024 .f32) (x4 : Vec F S1x512x1024 .bf16) (x5 : Vec F S1x128 .f32) (y : S8x128x128.Idx) :
    ∃ pc ∈ (kernelRun0_A c i arg3 harg3 arg4 harg4 arg5 harg5 arg6 harg6 arg7 harg7 arg8 harg8 arg9 harg9 arg10 harg10 hc0 x0 x1 x2 x3 x4 x5).2.1, y ∈ pc.1.set :=
  View.cover_of_wholeMem (kernelRun0_A c i arg3 harg3 arg4 harg4 arg5 harg5 arg6 harg6 arg7 harg7 arg8 harg8 arg9 harg9 arg10 harg10 hc0 x0 x1 x2 x3 x4 x5).2.1 (by sl_whole_mem) y

/-- What the state holds after it. -/
def sout0_A_0 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .bf16) (harg7 : arg7.IsWhole) (arg8 : Memref sig .tc .vmem S1x128 .f32) (harg8 : arg8.IsWhole) (arg9 : Memref sig .tc .vmem S1x512x1024 .bf16) (harg9 : arg9.IsWhole) (arg10 : Memref sig .tc .vmem S8x128x128 .f32) (harg10 : arg10.IsWhole) (hc0 : cond0_0 i)
    (x0 : Vec F S1x512x1024 .bf16) (x1 : Vec F S1x512x1024 .bf16) (x2 : Vec F S1x512x1024 .bf16) (x3 : Vec F S1x512x1024 .f32) (x4 : Vec F S1x512x1024 .bf16) (x5 : Vec F S1x128 .f32) : Vec F S8x128x128 .f32 :=
  VS0_0.read (Elt F) (VS0_0.writes (Elt F) VS0_0.junk (kernelRun0_A c i arg3 harg3 arg4 harg4 arg5 harg5 arg6 harg6 arg7 harg7 arg8 harg8 arg9 harg9 arg10 harg10 hc0 x0 x1 x2 x3 x4 x5).2.1)

theorem cover0_B_6 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .bf16) (harg7 : arg7.IsWhole) (arg8 : Memref sig .tc .vmem S1x128 .f32) (harg8 : arg8.IsWhole) (arg9 : Memref sig .tc .vmem S1x512x1024 .bf16) (harg9 : arg9.IsWhole) (arg10 : Memref sig .tc .vmem S8x128x128 .f32) (harg10 : arg10.IsWhole) (hc0 : ¬cond0_0 i)
    (x0 : Vec F S1x512x1024 .bf16) (x1 : Vec F S1x512x1024 .bf16) (x2 : Vec F S1x512x1024 .bf16) (x3 : Vec F S1x512x1024 .f32) (x4 : Vec F S1x512x1024 .bf16) (x5 : Vec F S1x128 .f32) (xs0 : Vec F S8x128x128 .f32) (y : S1x512x1024.Idx) :
    ∃ pc ∈ (kernelRun0_B c i arg3 harg3 arg4 harg4 arg5 harg5 arg6 harg6 arg7 harg7 arg8 harg8 arg9 harg9 arg10 harg10 hc0 x0 x1 x2 x3 x4 x5 xs0).1, y ∈ pc.1.set :=
  View.cover_of_tiledL (kernelRun0_B c i arg3 harg3 arg4 harg4 arg5 harg5 arg6 harg6 arg7 harg7 arg8 harg8 arg9 harg9 arg10 harg10 hc0 x0 x1 x2 x3 x4 x5 xs0).1 S1x64x128.size (by sl_kernel_rfl) y

/-- What the output block holds after the body at a point that goes on with a sequence. -/
def out0_B_6 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .bf16) (harg7 : arg7.IsWhole) (arg8 : Memref sig .tc .vmem S1x128 .f32) (harg8 : arg8.IsWhole) (arg9 : Memref sig .tc .vmem S1x512x1024 .bf16) (harg9 : arg9.IsWhole) (arg10 : Memref sig .tc .vmem S8x128x128 .f32) (harg10 : arg10.IsWhole) (hc0 : ¬cond0_0 i)
    (x0 : Vec F S1x512x1024 .bf16) (x1 : Vec F S1x512x1024 .bf16) (x2 : Vec F S1x512x1024 .bf16) (x3 : Vec F S1x512x1024 .f32) (x4 : Vec F S1x512x1024 .bf16) (x5 : Vec F S1x128 .f32) (xs0 : Vec F S8x128x128 .f32) : Vec F S1x512x1024 .bf16 :=
  VO0_6.read (Elt F) (VO0_6.writes (Elt F) VO0_6.junk (kernelRun0_B c i arg3 harg3 arg4 harg4 arg5 harg5 arg6 harg6 arg7 harg7 arg8 harg8 arg9 harg9 arg10 harg10 hc0 x0 x1 x2 x3 x4 x5 xs0).1)

theorem scover0_B_0 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .bf16) (harg7 : arg7.IsWhole) (arg8 : Memref sig .tc .vmem S1x128 .f32) (harg8 : arg8.IsWhole) (arg9 : Memref sig .tc .vmem S1x512x1024 .bf16) (harg9 : arg9.IsWhole) (arg10 : Memref sig .tc .vmem S8x128x128 .f32) (harg10 : arg10.IsWhole) (hc0 : ¬cond0_0 i)
    (x0 : Vec F S1x512x1024 .bf16) (x1 : Vec F S1x512x1024 .bf16) (x2 : Vec F S1x512x1024 .bf16) (x3 : Vec F S1x512x1024 .f32) (x4 : Vec F S1x512x1024 .bf16) (x5 : Vec F S1x128 .f32) (xs0 : Vec F S8x128x128 .f32) (y : S8x128x128.Idx) :
    ∃ pc ∈ (kernelRun0_B c i arg3 harg3 arg4 harg4 arg5 harg5 arg6 harg6 arg7 harg7 arg8 harg8 arg9 harg9 arg10 harg10 hc0 x0 x1 x2 x3 x4 x5 xs0).2.1, y ∈ pc.1.set :=
  View.cover_of_tiledL (kernelRun0_B c i arg3 harg3 arg4 harg4 arg5 harg5 arg6 harg6 arg7 harg7 arg8 harg8 arg9 harg9 arg10 harg10 hc0 x0 x1 x2 x3 x4 x5 xs0).2.1 S1x128x128.size (by sl_kernel_rfl) y

/-- What the state holds after it. -/
def sout0_B_0 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .bf16) (harg7 : arg7.IsWhole) (arg8 : Memref sig .tc .vmem S1x128 .f32) (harg8 : arg8.IsWhole) (arg9 : Memref sig .tc .vmem S1x512x1024 .bf16) (harg9 : arg9.IsWhole) (arg10 : Memref sig .tc .vmem S8x128x128 .f32) (harg10 : arg10.IsWhole) (hc0 : ¬cond0_0 i)
    (x0 : Vec F S1x512x1024 .bf16) (x1 : Vec F S1x512x1024 .bf16) (x2 : Vec F S1x512x1024 .bf16) (x3 : Vec F S1x512x1024 .f32) (x4 : Vec F S1x512x1024 .bf16) (x5 : Vec F S1x128 .f32) (xs0 : Vec F S8x128x128 .f32) : Vec F S8x128x128 .f32 :=
  VS0_0.read (Elt F) (VS0_0.writes (Elt F) VS0_0.junk (kernelRun0_B c i arg3 harg3 arg4 harg4 arg5 harg5 arg6 harg6 arg7 harg7 arg8 harg8 arg9 harg9 arg10 harg10 hc0 x0 x1 x2 x3 x4 x5 xs0).2.1)

/-- The output block and the state after each point: the state is handed from one point to the next within a sequence. -/
def outsAt0 (c : Dev nD) : (n : ℕ) → n < cfg0.N → Vec F S1x512x1024 .bf16 × Vec F S8x128x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 4 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)

theorem outsAt0_A (c : Dev nD) (t : Fin cfg0.N) (h0 : t.val % 4 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- Before the first point the state is anything, and later what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-- The proof data of the pipeline: each input block as fetched, the output block and the state as `outsAt0` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases hz : t.val = 0
    · rw [PhiS_castSucc m c t, PhiS_zero m c _ _ hz, PhiA0_eq]
      rw [outsAt0_A m c t h0]
      unfold out0_A_6 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _)
    · rw [PhiS_castSucc m c t, PhiS_pos m c _ _ hz]
      rw [outsAt0_A m c t h0]
      unfold out0_A_6 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _)
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      unfold out0_B_6 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_B_6 c _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

set_option backward.isDefEq.respectTransparency.types false in
/-- The run: it ends with the arrays as the proof data says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The run ends, leaves the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel8Ideal.Hgrn

end
-- ==== Proof.Hgrn.Same.lean ====
/- The recurrence as printed is the idealized one at another interpretation of the floats, so its frame is that one's. -/
module

public import proofs.«01_k».proof.Defs
public import proofs.«01_k».proof.Proof.Hgrn.Frame
public import proofs.«01_k».proof.Proof.Gen.Kernel8.Frame.Runs

@[expose] public section

set_option maxRecDepth 16384

noncomputable section

namespace Cert.Kernel8.Hgrn

open Idealize.ShloMosaic Idealize.ShloMosaic.TcCoe Idealize.SL.Sem

set_option backward.isDefEq.respectTransparency false
set_option backward.isDefEq.respectTransparency.types false

section
variable {F : FTy → Type} [FloatOps F]

theorem body_eq : @Cert.Kernel8.cc0_hgrn_recurrence F _ _ = @Cert.Kernel8Ideal.cc0_hgrn_recurrence F _ _ := by
  delta Cert.Kernel8.cc0_hgrn_recurrence Cert.Kernel8Ideal.cc0_hgrn_recurrence
  rfl

theorem table_eq : (Cert.Kernel8.defs₀ (F := F)) = Cert.Kernel8Ideal.defs₀ (F := F) := by
  refine congrArg Defs.onTc (funext fun l => funext fun a => ?_)
  match l, a with
  | 0, (t, s) => exact congrFun (congrFun (congrFun (congrFun (congrFun (congrFun (congrFun (congrFun (congrFun (congrFun (congrFun (congrFun (congrFun (congrFun (congrFun (congrFun (congrFun body_eq _) _) _) _) _) _) _) _) _) _) _) _) _) _) _) _) _

theorem defs_eq : (Cert.Kernel8.defs (F := F)) = Cert.Kernel8Ideal.defs (F := F) := congrArg (Pipeline.defs (Cert.Kernel8.pcfgs (F := F))) table_eq

end

/-- The printed recurrence's run ends, leaves its arguments unchanged and every semaphore at zero. -/
theorem frame : Cert.quiescent_Kernel8 := fun m g _ => by
  have h := Cert.Kernel8Ideal.Hgrn.frame (F := Bits) m g
  rw [← defs_eq] at h
  exact h

end Cert.Kernel8.Hgrn

end
-- ==== Proof.Fox.Trip.lean ====
/- The attention's loop over the unmasked key tiles, one trip: what it carries and stores for each of the step's eight
   heads, as one head step (`headMax`, `headSum`, `headAcc`) of the tile's scores. -/
module

public import proofs.«01_k».proof.Proof.Gen.KernelIdeal.Frame
public import Idealize.ShloMosaic.Lib.Pointwise
public import Idealize.ShloMosaic.Lib.WritesUnit

@[expose] public section

set_option maxRecDepth 8192

noncomputable section

namespace Cert.KernelIdeal.Fox

open Idealize.ShloMosaic Idealize.ShloMosaic.TcCoe Idealize.SL.Sem
open Cert.KernelIdeal Cert.KernelIdeal.Gen

variable {F : FTy → Type} [FloatOps F] [Named F]

/-- The scores of a key tile against a query block, keys by rows. -/
def hScore (kt : Vec F S1x1x256x128 .bf16) (qt : Vec F S1x256x128 .bf16) : FVec F S256x256 .f32 :=
  matmul dot_S256x128_S256x128_S256x256_1_1_0_0_n_n none
    (shapeCast (α := F .bf16) S256x128 kt shapeCasts_S1x1x256x128_S256x128)
    (shapeCast (α := F .bf16) S256x128 qt shapeCasts_S1x256x128_S256x128) (constant S256x256 .f32 0x00000000#32)

/-- The running maximum after a tile of scores `s`. -/
def hMax (m : FVec F S1x256 .f32) (s : FVec F S256x256 .f32) : FVec F S1x256 .f32 :=
  maximumf m (shapeCast S1x256 (multiReduction .maximumf [0] S256 s 0xFF800000#32 reduces_S256x256_S256 (.inl rfl) rfl) shapeCasts_S256_S1x256)

/-- The factor the earlier sums are rescaled by. -/
def hAlpha (m : FVec F S1x256 .f32) (s : FVec F S256x256 .f32) : FVec F S1x256 .f32 := exp2 (subf m (hMax m s))

/-- The tile's weights. -/
def hP (m : FVec F S1x256 .f32) (s : FVec F S256x256 .f32) : FVec F S256x256 .f32 :=
  exp2 (subf s (broadcastTo S256x256 (hMax m s) broadcasts_S1x256_S256x256))

/-- The running sum of weights after the tile. -/
def hSum (m l : FVec F S1x256 .f32) (s : FVec F S256x256 .f32) : FVec F S1x256 .f32 :=
  addf (mulf (hAlpha m s) l)
    (shapeCast S1x256 (multiReduction .add [0] S256 (hP m s) 0x00000000#32 reduces_S256x256_S256 (.inl rfl) rfl) shapeCasts_S256_S1x256)

/-- The running weighted sum of values after the tile, as the scratch row holds it. -/
def hAcc (m : FVec F S1x256 .f32) (s : FVec F S256x256 .f32) (v : Vec F S1x1x64x256 .bf16) (a : Vec F S1x64x256 .f32) :
    Vec F S1x64x256 .f32 :=
  shapeCast S1x64x256
    (addf (mulf (broadcastTo S64x256 (hAlpha m s) broadcasts_S1x256_S64x256) (shapeCast (α := F .f32) S64x256 a shapeCasts_S1x64x256_S64x256))
      (matmul dot_S64x256_S256x256_S64x256_1_0_0_1_n_n none (shapeCast (α := F .bf16) S64x256 v shapeCasts_S1x1x64x256_S64x256)
        (truncf .bf16 (hP m s) bitsLt_bf16_f32) (constant S64x256 .f32 0x00000000#32)))
    shapeCasts_S64x256_S1x64x256

/-- Tile `n` of head `j`'s keys. -/
def kTile (X : S1x8x2048x128.Idx → F .bf16) (j n : Fin 8) : Vec F S1x1x256x128 .bf16 := fun y =>
  X (ix4 0 j ⟨256 * n.val + (y 2).val, by have h : (y 2).val < 256 := (y 2).isLt; have := n.isLt; omega⟩ (y 3))

/-- Tile `n` of head `j`'s values, transposed. -/
def vTile (X : S1x8x64x2048.Idx → F .bf16) (j n : Fin 8) : Vec F S1x1x64x256 .bf16 := fun y =>
  X (ix4 0 j (y 2) ⟨256 * n.val + (y 3).val, by have h : (y 3).val < 256 := (y 3).isLt; have := n.isLt; omega⟩)

/-- Head `j`'s row of the query scratch. -/
def qRow (X : S8x256x128.Idx → F .bf16) (j : Fin 8) : Vec F S1x256x128 .bf16 := fun y => X (ix3 j (y 1) (y 2))

/-- Head `j`'s row of the accumulator scratch. -/
def aRow (X : S8x64x256.Idx → F .f32) (j : Fin 8) : Vec F S1x64x256 .f32 := fun y => X (ix3 j (y 1) (y 2))

theorem readAt_kTile {sig : RefSig} {κ : Kind} {sp : Space} (v : View sig κ sp S1x8x2048x128 .bf16)
    (f : v.ty.Contents (Elt F)) {off : Fin 4 → ℕ} (inb) (j n : Fin 8) (h : off = ![0, j.val, 256 * n.val, 0]) :
    v.readAt (Elt F) (Rect.unit (s := S1x8x2048x128) off S1x1x256x128.size inb).toLoadRect f = kTile (v.read (Elt F) f) j n := by
  subst h
  funext y
  refine congrArg (v.read (Elt F) f) (funext fun a => Fin.ext ?_)
  have h0 : (y 0).val < 1 := (y 0).isLt
  have h1 : (y 1).val < 1 := (y 1).isLt
  fin_cases a
  · show 0 + 1 * (y 0).val = 0; omega
  · show j.val + 1 * (y 1).val = j.val; omega
  · show 256 * n.val + 1 * (y 2).val = 256 * n.val + (y 2).val; omega
  · show 0 + 1 * (y 3).val = (y 3).val; omega

theorem readAt_vTile {sig : RefSig} {κ : Kind} {sp : Space} (v : View sig κ sp S1x8x64x2048 .bf16)
    (f : v.ty.Contents (Elt F)) {off : Fin 4 → ℕ} (inb) (j n : Fin 8) (h : off = ![0, j.val, 0, 256 * n.val]) :
    v.readAt (Elt F) (Rect.unit (s := S1x8x64x2048) off S1x1x64x256.size inb).toLoadRect f = vTile (v.read (Elt F) f) j n := by
  subst h
  funext y
  refine congrArg (v.read (Elt F) f) (funext fun a => Fin.ext ?_)
  have h0 : (y 0).val < 1 := (y 0).isLt
  have h1 : (y 1).val < 1 := (y 1).isLt
  fin_cases a
  · show 0 + 1 * (y 0).val = 0; omega
  · show j.val + 1 * (y 1).val = j.val; omega
  · show 0 + 1 * (y 2).val = (y 2).val; omega
  · show 256 * n.val + 1 * (y 3).val = 256 * n.val + (y 3).val; omega

theorem readAt_qRow {sig : RefSig} {κ : Kind} {sp : Space} (v : View sig κ sp S8x256x128 .bf16)
    (f : v.ty.Contents (Elt F)) {off : Fin 3 → ℕ} (inb) (j : Fin 8) (h : off = ![j.val, 0, 0]) :
    v.readAt (Elt F) (Rect.unit (s := S8x256x128) off S1x256x128.size inb).toLoadRect f = qRow (v.read (Elt F) f) j := by
  subst h
  funext y
  refine congrArg (v.read (Elt F) f) (funext fun a => Fin.ext ?_)
  have h0 : (y 0).val < 1 := (y 0).isLt
  fin_cases a
  · show j.val + 1 * (y 0).val = j.val; omega
  · show 0 + 1 * (y 1).val = (y 1).val; omega
  · show 0 + 1 * (y 2).val = (y 2).val; omega

theorem readAt_aRow {sig : RefSig} {κ : Kind} {sp : Space} (v : View sig κ sp S8x64x256 .f32)
    (f : v.ty.Contents (Elt F)) {off : Fin 3 → ℕ} (inb) (j : Fin 8) (h : off = ![j.val, 0, 0]) :
    v.readAt (Elt F) (Rect.unit (s := S8x64x256) off S1x64x256.size inb).toLoadRect f = aRow (v.read (Elt F) f) j := by
  subst h
  funext y
  refine congrArg (v.read (Elt F) f) (funext fun a => Fin.ext ?_)
  have h0 : (y 0).val < 1 := (y 0).isLt
  fin_cases a
  · show j.val + 1 * (y 0).val = j.val; omega
  · show 0 + 1 * (y 1).val = (y 1).val; omega
  · show 0 + 1 * (y 2).val = (y 2).val; omega

/-- A store to another row leaves head `j`'s row as it was. -/
theorem aRow_skip {sig : RefSig} {κ : Kind} {sp : Space} (v : View sig κ sp S8x64x256 .f32) (f : v.ty.Contents (Elt F))
    {off : Fin 3 → ℕ} (inb) (w : (Rect.unit (s := S8x64x256) off S1x64x256.size inb).shape.Idx → F .f32) (L) (j j' : Fin 8)
    (h : off = ![j'.val, 0, 0]) (hne : j ≠ j') :
    aRow (v.read (Elt F) (v.writes (Elt F) f ((⟨Rect.unit (s := S8x64x256) off S1x64x256.size inb, w⟩ : View.Piece (Elt F) S8x64x256 .f32) :: L))) j
      = aRow (v.read (Elt F) (v.writes (Elt F) f L)) j := by
  subst h
  funext y
  refine View.read_writes_cons_unit_of_not_mem v f inb w L _ rfl (0 : Fin 3) ?_
  show j.val < j'.val ∨ j'.val + 1 ≤ j.val
  have : j.val ≠ j'.val := fun e => hne (Fin.ext e)
  omega

/-- A store to head `j`'s row is what the row then holds. -/
theorem aRow_hit {sig : RefSig} {κ : Kind} {sp : Space} (v : View sig κ sp S8x64x256 .f32) (f : v.ty.Contents (Elt F))
    {off : Fin 3 → ℕ} (inb) (w : (Rect.unit (s := S8x64x256) off S1x64x256.size inb).shape.Idx → F .f32) (L) (j : Fin 8)
    (h : off = ![j.val, 0, 0]) :
    aRow (v.read (Elt F) (v.writes (Elt F) f ((⟨Rect.unit (s := S8x64x256) off S1x64x256.size inb, w⟩ : View.Piece (Elt F) S8x64x256 .f32) :: L))) j = w := by
  subst h
  funext y
  refine View.read_writes_cons_unit_of_mem v f inb w L _ y rfl ?_
  have h0 : (y 0).val < 1 := (y 0).isLt
  intro a
  fin_cases a
  · show j.val = j.val + (y 0).val; omega
  · show (y 1).val = 0 + (y 1).val; omega
  · show (y 2).val = 0 + (y 2).val; omega

/-- What the loop carries: eight heads' running maximum and sum. -/
abbrev Carried (F : FTy → Type) := FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32

/-- Head `j`'s running maximum. -/
def mOf (a : Carried F) : Fin 8 → FVec F S1x256 .f32 := ![a.1, a.2.2.1, a.2.2.2.2.1, a.2.2.2.2.2.2.1, a.2.2.2.2.2.2.2.2.1, a.2.2.2.2.2.2.2.2.2.2.1, a.2.2.2.2.2.2.2.2.2.2.2.2.1, a.2.2.2.2.2.2.2.2.2.2.2.2.2.2.1]

/-- Head `j`'s running sum. -/
def lOf (a : Carried F) : Fin 8 → FVec F S1x256 .f32 := ![a.2.1, a.2.2.2.1, a.2.2.2.2.2.1, a.2.2.2.2.2.2.2.1, a.2.2.2.2.2.2.2.2.2.1, a.2.2.2.2.2.2.2.2.2.2.2.1, a.2.2.2.2.2.2.2.2.2.2.2.2.2.1, a.2.2.2.2.2.2.2.2.2.2.2.2.2.2.2]

section trip
variable (𝒱 : Variants) (c : Dev nD) (bd : Option 𝒱.V) (i : grid1.Coords) (arg3 : Memref sig .tc .vmem S1x256x512 .f32) (harg3 : arg3.IsWhole) (arg4 : Memref sig .tc .vmem S1x1x256x8 .f32) (harg4 : arg4.IsWhole) (arg5 : Memref sig .tc .vmem S1x8x2048x128 .bf16) (harg5 : arg5.IsWhole) (arg6 : Memref sig .tc .vmem S1x8x64x2048 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S8x64x256 .f32) (harg9 : arg9.IsWhole) (arg10 : Memref sig .tc .vmem S8x256x128 .bf16) (harg10 : arg10.IsWhole) (arg2 : BitVec 32) (w : FVec F S256x128 .bf16) (X5 : BufTy.Contents (Elt F) arg5.view.ty) (X6 : BufTy.Contents (Elt F) arg6.view.ty) (X10 : BufTy.Contents (Elt F) arg10.view.ty) (k : Fin (k1_t1_loop i).trips) (a : Carried F) (f : BufTy.Contents (Elt F) arg9.view.ty)

theorem tripR_m0 : mOf (tripR_k1_t1 (F := F) 𝒱 c bd i arg3 harg3 arg4 harg4 arg5 harg5 arg6 harg6 arg7 harg7 arg8 harg8 arg9 harg9 arg10 harg10 arg2 w X5 X6 X10 k a f) 0 = hMax (mOf a 0) (hScore (arg5.view.readAt (Elt F) (Rect.unit (s := S1x8x2048x128) (k1_off1 i k) S1x1x256x128.size (k1_off1_inb i k)).toLoadRect X5) (arg10.view.readAt (Elt F) (Rect.unit (s := S8x256x128) ![0, 0, 0] S1x256x128.size inb_S8x256x128_S1x256x128_0_0_0).toLoadRect X10)) := by
  unfold tripR_k1_t1 trip_k1_t1; rfl

theorem tripR_l0 : lOf (tripR_k1_t1 (F := F) 𝒱 c bd i arg3 harg3 arg4 harg4 arg5 harg5 arg6 harg6 arg7 harg7 arg8 harg8 arg9 harg9 arg10 harg10 arg2 w X5 X6 X10 k a f) 0 = hSum (mOf a 0) (lOf a 0) (hScore (arg5.view.readAt (Elt F) (Rect.unit (s := S1x8x2048x128) (k1_off1 i k) S1x1x256x128.size (k1_off1_inb i k)).toLoadRect X5) (arg10.view.readAt (Elt F) (Rect.unit (s := S8x256x128) ![0, 0, 0] S1x256x128.size inb_S8x256x128_S1x256x128_0_0_0).toLoadRect X10)) := by
  unfold tripR_k1_t1 trip_k1_t1; rfl

theorem tripR_m1 : mOf (tripR_k1_t1 (F := F) 𝒱 c bd i arg3 harg3 arg4 harg4 arg5 harg5 arg6 harg6 arg7 harg7 arg8 harg8 arg9 harg9 arg10 harg10 arg2 w X5 X6 X10 k a f) 1 = hMax (mOf a 1) (hScore (arg5.view.readAt (Elt F) (Rect.unit (s := S1x8x2048x128) (k1_off2 i k) S1x1x256x128.size (k1_off2_inb i k)).toLoadRect X5) (arg10.view.readAt (Elt F) (Rect.unit (s := S8x256x128) ![1, 0, 0] S1x256x128.size inb_S8x256x128_S1x256x128_1_0_0).toLoadRect X10)) := by
  unfold tripR_k1_t1 trip_k1_t1; rfl

theorem tripR_l1 : lOf (tripR_k1_t1 (F := F) 𝒱 c bd i arg3 harg3 arg4 harg4 arg5 harg5 arg6 harg6 arg7 harg7 arg8 harg8 arg9 harg9 arg10 harg10 arg2 w X5 X6 X10 k a f) 1 = hSum (mOf a 1) (lOf a 1) (hScore (arg5.view.readAt (Elt F) (Rect.unit (s := S1x8x2048x128) (k1_off2 i k) S1x1x256x128.size (k1_off2_inb i k)).toLoadRect X5) (arg10.view.readAt (Elt F) (Rect.unit (s := S8x256x128) ![1, 0, 0] S1x256x128.size inb_S8x256x128_S1x256x128_1_0_0).toLoadRect X10)) := by
  unfold tripR_k1_t1 trip_k1_t1; rfl

theorem tripR_m2 : mOf (tripR_k1_t1 (F := F) 𝒱 c bd i arg3 harg3 arg4 harg4 arg5 harg5 arg6 harg6 arg7 harg7 arg8 harg8 arg9 harg9 arg10 harg10 arg2 w X5 X6 X10 k a f) 2 = hMax (mOf a 2) (hScore (arg5.view.readAt (Elt F) (Rect.unit (s := S1x8x2048x128) (k1_off3 i k) S1x1x256x128.size (k1_off3_inb i k)).toLoadRect X5) (arg10.view.readAt (Elt F) (Rect.unit (s := S8x256x128) ![2, 0, 0] S1x256x128.size inb_S8x256x128_S1x256x128_2_0_0).toLoadRect X10)) := by
  unfold tripR_k1_t1 trip_k1_t1; rfl

theorem tripR_l2 : lOf (tripR_k1_t1 (F := F) 𝒱 c bd i arg3 harg3 arg4 harg4 arg5 harg5 arg6 harg6 arg7 harg7 arg8 harg8 arg9 harg9 arg10 harg10 arg2 w X5 X6 X10 k a f) 2 = hSum (mOf a 2) (lOf a 2) (hScore (arg5.view.readAt (Elt F) (Rect.unit (s := S1x8x2048x128) (k1_off3 i k) S1x1x256x128.size (k1_off3_inb i k)).toLoadRect X5) (arg10.view.readAt (Elt F) (Rect.unit (s := S8x256x128) ![2, 0, 0] S1x256x128.size inb_S8x256x128_S1x256x128_2_0_0).toLoadRect X10)) := by
  unfold tripR_k1_t1 trip_k1_t1; rfl

theorem tripR_m3 : mOf (tripR_k1_t1 (F := F) 𝒱 c bd i arg3 harg3 arg4 harg4 arg5 harg5 arg6 harg6 arg7 harg7 arg8 harg8 arg9 harg9 arg10 harg10 arg2 w X5 X6 X10 k a f) 3 = hMax (mOf a 3) (hScore (arg5.view.readAt (Elt F) (Rect.unit (s := S1x8x2048x128) (k1_off4 i k) S1x1x256x128.size (k1_off4_inb i k)).toLoadRect X5) (arg10.view.readAt (Elt F) (Rect.unit (s := S8x256x128) ![3, 0, 0] S1x256x128.size inb_S8x256x128_S1x256x128_3_0_0).toLoadRect X10)) := by
  unfold tripR_k1_t1 trip_k1_t1; rfl

theorem tripR_l3 : lOf (tripR_k1_t1 (F := F) 𝒱 c bd i arg3 harg3 arg4 harg4 arg5 harg5 arg6 harg6 arg7 harg7 arg8 harg8 arg9 harg9 arg10 harg10 arg2 w X5 X6 X10 k a f) 3 = hSum (mOf a 3) (lOf a 3) (hScore (arg5.view.readAt (Elt F) (Rect.unit (s := S1x8x2048x128) (k1_off4 i k) S1x1x256x128.size (k1_off4_inb i k)).toLoadRect X5) (arg10.view.readAt (Elt F) (Rect.unit (s := S8x256x128) ![3, 0, 0] S1x256x128.size inb_S8x256x128_S1x256x128_3_0_0).toLoadRect X10)) := by
  unfold tripR_k1_t1 trip_k1_t1; rfl

theorem tripR_m4 : mOf (tripR_k1_t1 (F := F) 𝒱 c bd i arg3 harg3 arg4 harg4 arg5 harg5 arg6 harg6 arg7 harg7 arg8 harg8 arg9 harg9 arg10 harg10 arg2 w X5 X6 X10 k a f) 4 = hMax (mOf a 4) (hScore (arg5.view.readAt (Elt F) (Rect.unit (s := S1x8x2048x128) (k1_off5 i k) S1x1x256x128.size (k1_off5_inb i k)).toLoadRect X5) (arg10.view.readAt (Elt F) (Rect.unit (s := S8x256x128) ![4, 0, 0] S1x256x128.size inb_S8x256x128_S1x256x128_4_0_0).toLoadRect X10)) := by
  unfold tripR_k1_t1 trip_k1_t1; rfl

theorem tripR_l4 : lOf (tripR_k1_t1 (F := F) 𝒱 c bd i arg3 harg3 arg4 harg4 arg5 harg5 arg6 harg6 arg7 harg7 arg8 harg8 arg9 harg9 arg10 harg10 arg2 w X5 X6 X10 k a f) 4 = hSum (mOf a 4) (lOf a 4) (hScore (arg5.view.readAt (Elt F) (Rect.unit (s := S1x8x2048x128) (k1_off5 i k) S1x1x256x128.size (k1_off5_inb i k)).toLoadRect X5) (arg10.view.readAt (Elt F) (Rect.unit (s := S8x256x128) ![4, 0, 0] S1x256x128.size inb_S8x256x128_S1x256x128_4_0_0).toLoadRect X10)) := by
  unfold tripR_k1_t1 trip_k1_t1; rfl

theorem tripR_m5 : mOf (tripR_k1_t1 (F := F) 𝒱 c bd i arg3 harg3 arg4 harg4 arg5 harg5 arg6 harg6 arg7 harg7 arg8 harg8 arg9 harg9 arg10 harg10 arg2 w X5 X6 X10 k a f) 5 = hMax (mOf a 5) (hScore (arg5.view.readAt (Elt F) (Rect.unit (s := S1x8x2048x128) (k1_off6 i k) S1x1x256x128.size (k1_off6_inb i k)).toLoadRect X5) (arg10.view.readAt (Elt F) (Rect.unit (s := S8x256x128) ![5, 0, 0] S1x256x128.size inb_S8x256x128_S1x256x128_5_0_0).toLoadRect X10)) := by
  unfold tripR_k1_t1 trip_k1_t1; rfl

theorem tripR_l5 : lOf (tripR_k1_t1 (F := F) 𝒱 c bd i arg3 harg3 arg4 harg4 arg5 harg5 arg6 harg6 arg7 harg7 arg8 harg8 arg9 harg9 arg10 harg10 arg2 w X5 X6 X10 k a f) 5 = hSum (mOf a 5) (lOf a 5) (hScore (arg5.view.readAt (Elt F) (Rect.unit (s := S1x8x2048x128) (k1_off6 i k) S1x1x256x128.size (k1_off6_inb i k)).toLoadRect X5) (arg10.view.readAt (Elt F) (Rect.unit (s := S8x256x128) ![5, 0, 0] S1x256x128.size inb_S8x256x128_S1x256x128_5_0_0).toLoadRect X10)) := by
  unfold tripR_k1_t1 trip_k1_t1; rfl

theorem tripR_m6 : mOf (tripR_k1_t1 (F := F) 𝒱 c bd i arg3 harg3 arg4 harg4 arg5 harg5 arg6 harg6 arg7 harg7 arg8 harg8 arg9 harg9 arg10 harg10 arg2 w X5 X6 X10 k a f) 6 = hMax (mOf a 6) (hScore (arg5.view.readAt (Elt F) (Rect.unit (s := S1x8x2048x128) (k1_off7 i k) S1x1x256x128.size (k1_off7_inb i k)).toLoadRect X5) (arg10.view.readAt (Elt F) (Rect.unit (s := S8x256x128) ![6, 0, 0] S1x256x128.size inb_S8x256x128_S1x256x128_6_0_0).toLoadRect X10)) := by
  unfold tripR_k1_t1 trip_k1_t1; rfl

theorem tripR_l6 : lOf (tripR_k1_t1 (F := F) 𝒱 c bd i arg3 harg3 arg4 harg4 arg5 harg5 arg6 harg6 arg7 harg7 arg8 harg8 arg9 harg9 arg10 harg10 arg2 w X5 X6 X10 k a f) 6 = hSum (mOf a 6) (lOf a 6) (hScore (arg5.view.readAt (Elt F) (Rect.unit (s := S1x8x2048x128) (k1_off7 i k) S1x1x256x128.size (k1_off7_inb i k)).toLoadRect X5) (arg10.view.readAt (Elt F) (Rect.unit (s := S8x256x128) ![6, 0, 0] S1x256x128.size inb_S8x256x128_S1x256x128_6_0_0).toLoadRect X10)) := by
  unfold tripR_k1_t1 trip_k1_t1; rfl

theorem tripR_m7 : mOf (tripR_k1_t1 (F := F) 𝒱 c bd i arg3 harg3 arg4 harg4 arg5 harg5 arg6 harg6 arg7 harg7 arg8 harg8 arg9 harg9 arg10 harg10 arg2 w X5 X6 X10 k a f) 7 = hMax (mOf a 7) (hScore (arg5.view.readAt (Elt F) (Rect.unit (s := S1x8x2048x128) (k1_off8 i k) S1x1x256x128.size (k1_off8_inb i k)).toLoadRect X5) (arg10.view.readAt (Elt F) (Rect.unit (s := S8x256x128) ![7, 0, 0] S1x256x128.size inb_S8x256x128_S1x256x128_7_0_0).toLoadRect X10)) := by
  unfold tripR_k1_t1 trip_k1_t1; rfl

theorem tripR_l7 : lOf (tripR_k1_t1 (F := F) 𝒱 c bd i arg3 harg3 arg4 harg4 arg5 harg5 arg6 harg6 arg7 harg7 arg8 harg8 arg9 harg9 arg10 harg10 arg2 w X5 X6 X10 k a f) 7 = hSum (mOf a 7) (lOf a 7) (hScore (arg5.view.readAt (Elt F) (Rect.unit (s := S1x8x2048x128) (k1_off8 i k) S1x1x256x128.size (k1_off8_inb i k)).toLoadRect X5) (arg10.view.readAt (Elt F) (Rect.unit (s := S8x256x128) ![7, 0, 0] S1x256x128.size inb_S8x256x128_S1x256x128_7_0_0).toLoadRect X10)) := by
  unfold tripR_k1_t1 trip_k1_t1; rfl

theorem tripL_eq : tripL_k1_t1 (F := F) 𝒱 c bd i arg3 harg3 arg4 harg4 arg5 harg5 arg6 harg6 arg7 harg7 arg8 harg8 arg9 harg9 arg10 harg10 arg2 w X5 X6 X10 k a f =
    [⟨Rect.unit (s := S8x64x256) ![7, 0, 0] S1x64x256.size inb_S8x64x256_S1x64x256_7_0_0, hAcc (mOf a 7) (hScore (arg5.view.readAt (Elt F) (Rect.unit (s := S1x8x2048x128) (k1_off8 i k) S1x1x256x128.size (k1_off8_inb i k)).toLoadRect X5) (arg10.view.readAt (Elt F) (Rect.unit (s := S8x256x128) ![7, 0, 0] S1x256x128.size inb_S8x256x128_S1x256x128_7_0_0).toLoadRect X10)) (arg6.view.readAt (Elt F) (Rect.unit (s := S1x8x64x2048) (k1_off16 i k) S1x1x64x256.size (k1_off16_inb i k)).toLoadRect X6) (arg9.view.readAt (Elt F) (Rect.unit (s := S8x64x256) ![7, 0, 0] S1x64x256.size inb_S8x64x256_S1x64x256_7_0_0).toLoadRect f)⟩,
      ⟨Rect.unit (s := S8x64x256) ![6, 0, 0] S1x64x256.size inb_S8x64x256_S1x64x256_6_0_0, hAcc (mOf a 6) (hScore (arg5.view.readAt (Elt F) (Rect.unit (s := S1x8x2048x128) (k1_off7 i k) S1x1x256x128.size (k1_off7_inb i k)).toLoadRect X5) (arg10.view.readAt (Elt F) (Rect.unit (s := S8x256x128) ![6, 0, 0] S1x256x128.size inb_S8x256x128_S1x256x128_6_0_0).toLoadRect X10)) (arg6.view.readAt (Elt F) (Rect.unit (s := S1x8x64x2048) (k1_off15 i k) S1x1x64x256.size (k1_off15_inb i k)).toLoadRect X6) (arg9.view.readAt (Elt F) (Rect.unit (s := S8x64x256) ![6, 0, 0] S1x64x256.size inb_S8x64x256_S1x64x256_6_0_0).toLoadRect f)⟩,
      ⟨Rect.unit (s := S8x64x256) ![5, 0, 0] S1x64x256.size inb_S8x64x256_S1x64x256_5_0_0, hAcc (mOf a 5) (hScore (arg5.view.readAt (Elt F) (Rect.unit (s := S1x8x2048x128) (k1_off6 i k) S1x1x256x128.size (k1_off6_inb i k)).toLoadRect X5) (arg10.view.readAt (Elt F) (Rect.unit (s := S8x256x128) ![5, 0, 0] S1x256x128.size inb_S8x256x128_S1x256x128_5_0_0).toLoadRect X10)) (arg6.view.readAt (Elt F) (Rect.unit (s := S1x8x64x2048) (k1_off14 i k) S1x1x64x256.size (k1_off14_inb i k)).toLoadRect X6) (arg9.view.readAt (Elt F) (Rect.unit (s := S8x64x256) ![5, 0, 0] S1x64x256.size inb_S8x64x256_S1x64x256_5_0_0).toLoadRect f)⟩,
      ⟨Rect.unit (s := S8x64x256) ![4, 0, 0] S1x64x256.size inb_S8x64x256_S1x64x256_4_0_0, hAcc (mOf a 4) (hScore (arg5.view.readAt (Elt F) (Rect.unit (s := S1x8x2048x128) (k1_off5 i k) S1x1x256x128.size (k1_off5_inb i k)).toLoadRect X5) (arg10.view.readAt (Elt F) (Rect.unit (s := S8x256x128) ![4, 0, 0] S1x256x128.size inb_S8x256x128_S1x256x128_4_0_0).toLoadRect X10)) (arg6.view.readAt (Elt F) (Rect.unit (s := S1x8x64x2048) (k1_off13 i k) S1x1x64x256.size (k1_off13_inb i k)).toLoadRect X6) (arg9.view.readAt (Elt F) (Rect.unit (s := S8x64x256) ![4, 0, 0] S1x64x256.size inb_S8x64x256_S1x64x256_4_0_0).toLoadRect f)⟩,
      ⟨Rect.unit (s := S8x64x256) ![3, 0, 0] S1x64x256.size inb_S8x64x256_S1x64x256_3_0_0, hAcc (mOf a 3) (hScore (arg5.view.readAt (Elt F) (Rect.unit (s := S1x8x2048x128) (k1_off4 i k) S1x1x256x128.size (k1_off4_inb i k)).toLoadRect X5) (arg10.view.readAt (Elt F) (Rect.unit (s := S8x256x128) ![3, 0, 0] S1x256x128.size inb_S8x256x128_S1x256x128_3_0_0).toLoadRect X10)) (arg6.view.readAt (Elt F) (Rect.unit (s := S1x8x64x2048) (k1_off12 i k) S1x1x64x256.size (k1_off12_inb i k)).toLoadRect X6) (arg9.view.readAt (Elt F) (Rect.unit (s := S8x64x256) ![3, 0, 0] S1x64x256.size inb_S8x64x256_S1x64x256_3_0_0).toLoadRect f)⟩,
      ⟨Rect.unit (s := S8x64x256) ![2, 0, 0] S1x64x256.size inb_S8x64x256_S1x64x256_2_0_0, hAcc (mOf a 2) (hScore (arg5.view.readAt (Elt F) (Rect.unit (s := S1x8x2048x128) (k1_off3 i k) S1x1x256x128.size (k1_off3_inb i k)).toLoadRect X5) (arg10.view.readAt (Elt F) (Rect.unit (s := S8x256x128) ![2, 0, 0] S1x256x128.size inb_S8x256x128_S1x256x128_2_0_0).toLoadRect X10)) (arg6.view.readAt (Elt F) (Rect.unit (s := S1x8x64x2048) (k1_off11 i k) S1x1x64x256.size (k1_off11_inb i k)).toLoadRect X6) (arg9.view.readAt (Elt F) (Rect.unit (s := S8x64x256) ![2, 0, 0] S1x64x256.size inb_S8x64x256_S1x64x256_2_0_0).toLoadRect f)⟩,
      ⟨Rect.unit (s := S8x64x256) ![1, 0, 0] S1x64x256.size inb_S8x64x256_S1x64x256_1_0_0, hAcc (mOf a 1) (hScore (arg5.view.readAt (Elt F) (Rect.unit (s := S1x8x2048x128) (k1_off2 i k) S1x1x256x128.size (k1_off2_inb i k)).toLoadRect X5) (arg10.view.readAt (Elt F) (Rect.unit (s := S8x256x128) ![1, 0, 0] S1x256x128.size inb_S8x256x128_S1x256x128_1_0_0).toLoadRect X10)) (arg6.view.readAt (Elt F) (Rect.unit (s := S1x8x64x2048) (k1_off10 i k) S1x1x64x256.size (k1_off10_inb i k)).toLoadRect X6) (arg9.view.readAt (Elt F) (Rect.unit (s := S8x64x256) ![1, 0, 0] S1x64x256.size inb_S8x64x256_S1x64x256_1_0_0).toLoadRect f)⟩,
      ⟨Rect.unit (s := S8x64x256) ![0, 0, 0] S1x64x256.size inb_S8x64x256_S1x64x256_0_0_0, hAcc (mOf a 0) (hScore (arg5.view.readAt (Elt F) (Rect.unit (s := S1x8x2048x128) (k1_off1 i k) S1x1x256x128.size (k1_off1_inb i k)).toLoadRect X5) (arg10.view.readAt (Elt F) (Rect.unit (s := S8x256x128) ![0, 0, 0] S1x256x128.size inb_S8x256x128_S1x256x128_0_0_0).toLoadRect X10)) (arg6.view.readAt (Elt F) (Rect.unit (s := S1x8x64x2048) (k1_off9 i k) S1x1x64x256.size (k1_off9_inb i k)).toLoadRect X6) (arg9.view.readAt (Elt F) (Rect.unit (s := S8x64x256) ![0, 0, 0] S1x64x256.size inb_S8x64x256_S1x64x256_0_0_0).toLoadRect f)⟩] := by
  unfold tripL_k1_t1 trip_k1_t1; rfl

end trip

end Cert.KernelIdeal.Fox

end
-- ==== Proof.Fox.Loop.lean ====
/- The attention's loop over the unmasked key tiles: after `n` trips every head's running maximum, sum and accumulator row are
   `n` head steps from what the loop started with. -/
module

public import proofs.«01_k».proof.Proof.Fox.Trip

@[expose] public section

set_option maxRecDepth 8192

noncomputable section

namespace Cert.KernelIdeal.Fox

open Idealize.ShloMosaic Idealize.ShloMosaic.TcCoe Idealize.SL.Sem
open Cert.KernelIdeal Cert.KernelIdeal.Gen

variable {F : FTy → Type} [FloatOps F] [Named F]

/-- One head's running maximum, sum and accumulator row. -/
abbrev HeadState (F : FTy → Type) := FVec F S1x256 .f32 × FVec F S1x256 .f32 × Vec F S1x64x256 .f32

/-- One tile of a head: its scores and its values. -/
def headStep (s : FVec F S256x256 .f32) (v : Vec F S1x1x64x256 .bf16) (h : HeadState F) : HeadState F :=
  (hMax h.1 s, hSum h.1 h.2.1 s, hAcc h.1 s v h.2.2)

/-- The first `n` tiles of head `j`, unmasked. -/
def headIter (K : S1x8x2048x128.Idx → F .bf16) (V : S1x8x64x2048.Idx → F .bf16) (q : Vec F S1x256x128 .bf16) (j : Fin 8)
    (h : HeadState F) : ℕ → HeadState F
  | 0 => h
  | n + 1 => if hn : n < 8 then headStep (hScore (kTile K j ⟨n, hn⟩) q) (vTile V j ⟨n, hn⟩) (headIter K V q j h n)
      else headIter K V q j h n

section loop
variable (𝒱 : Variants) (c : Dev nD) (bd : Option 𝒱.V) (i : grid1.Coords) (arg3 : Memref sig .tc .vmem S1x256x512 .f32) (harg3 : arg3.IsWhole) (arg4 : Memref sig .tc .vmem S1x1x256x8 .f32) (harg4 : arg4.IsWhole) (arg5 : Memref sig .tc .vmem S1x8x2048x128 .bf16) (harg5 : arg5.IsWhole) (arg6 : Memref sig .tc .vmem S1x8x64x2048 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S8x64x256 .f32) (harg9 : arg9.IsWhole) (arg10 : Memref sig .tc .vmem S8x256x128 .bf16) (harg10 : arg10.IsWhole) (arg2 : BitVec 32) (w : FVec F S256x128 .bf16) (X5 : BufTy.Contents (Elt F) arg5.view.ty) (X6 : BufTy.Contents (Elt F) arg6.view.ty) (X10 : BufTy.Contents (Elt F) arg10.view.ty)
theorem trips_lt (k : Fin (k1_t1_loop i).trips) : k.val < 8 :=
  lt_of_lt_of_le k.isLt (le_trans (k1_t1_abs i).2.1 (by decide))

/-- One trip, head by head: the running maximum. -/
theorem trip_m (k : Fin (k1_t1_loop i).trips) (a : Carried F) (f : BufTy.Contents (Elt F) arg9.view.ty) (j : Fin 8) :
    mOf (tripR_k1_t1 (F := F) 𝒱 c bd i arg3 harg3 arg4 harg4 arg5 harg5 arg6 harg6 arg7 harg7 arg8 harg8 arg9 harg9 arg10 harg10 arg2 w X5 X6 X10 k a f) j = hMax (mOf a j) (hScore (kTile (arg5.view.read (Elt F) X5) j ⟨k.val, trips_lt i k⟩) (qRow (arg10.view.read (Elt F) X10) j)) := by
  fin_cases j
  · exact (tripR_m0 𝒱 c bd i arg3 harg3 arg4 harg4 arg5 harg5 arg6 harg6 arg7 harg7 arg8 harg8 arg9 harg9 arg10 harg10 arg2 w X5 X6 X10 k a f).trans (by rw [readAt_kTile arg5.view X5 _ 0 ⟨k.val, trips_lt i k⟩ (k1_off1_eq i k), readAt_qRow arg10.view X10 (off := ![0, 0, 0]) _ 0 rfl]; rfl)
  · exact (tripR_m1 𝒱 c bd i arg3 harg3 arg4 harg4 arg5 harg5 arg6 harg6 arg7 harg7 arg8 harg8 arg9 harg9 arg10 harg10 arg2 w X5 X6 X10 k a f).trans (by rw [readAt_kTile arg5.view X5 _ 1 ⟨k.val, trips_lt i k⟩ (k1_off2_eq i k), readAt_qRow arg10.view X10 (off := ![1, 0, 0]) _ 1 rfl]; rfl)
  · exact (tripR_m2 𝒱 c bd i arg3 harg3 arg4 harg4 arg5 harg5 arg6 harg6 arg7 harg7 arg8 harg8 arg9 harg9 arg10 harg10 arg2 w X5 X6 X10 k a f).trans (by rw [readAt_kTile arg5.view X5 _ 2 ⟨k.val, trips_lt i k⟩ (k1_off3_eq i k), readAt_qRow arg10.view X10 (off := ![2, 0, 0]) _ 2 rfl]; rfl)
  · exact (tripR_m3 𝒱 c bd i arg3 harg3 arg4 harg4 arg5 harg5 arg6 harg6 arg7 harg7 arg8 harg8 arg9 harg9 arg10 harg10 arg2 w X5 X6 X10 k a f).trans (by rw [readAt_kTile arg5.view X5 _ 3 ⟨k.val, trips_lt i k⟩ (k1_off4_eq i k), readAt_qRow arg10.view X10 (off := ![3, 0, 0]) _ 3 rfl]; rfl)
  · exact (tripR_m4 𝒱 c bd i arg3 harg3 arg4 harg4 arg5 harg5 arg6 harg6 arg7 harg7 arg8 harg8 arg9 harg9 arg10 harg10 arg2 w X5 X6 X10 k a f).trans (by rw [readAt_kTile arg5.view X5 _ 4 ⟨k.val, trips_lt i k⟩ (k1_off5_eq i k), readAt_qRow arg10.view X10 (off := ![4, 0, 0]) _ 4 rfl]; rfl)
  · exact (tripR_m5 𝒱 c bd i arg3 harg3 arg4 harg4 arg5 harg5 arg6 harg6 arg7 harg7 arg8 harg8 arg9 harg9 arg10 harg10 arg2 w X5 X6 X10 k a f).trans (by rw [readAt_kTile arg5.view X5 _ 5 ⟨k.val, trips_lt i k⟩ (k1_off6_eq i k), readAt_qRow arg10.view X10 (off := ![5, 0, 0]) _ 5 rfl]; rfl)
  · exact (tripR_m6 𝒱 c bd i arg3 harg3 arg4 harg4 arg5 harg5 arg6 harg6 arg7 harg7 arg8 harg8 arg9 harg9 arg10 harg10 arg2 w X5 X6 X10 k a f).trans (by rw [readAt_kTile arg5.view X5 _ 6 ⟨k.val, trips_lt i k⟩ (k1_off7_eq i k), readAt_qRow arg10.view X10 (off := ![6, 0, 0]) _ 6 rfl]; rfl)
  · exact (tripR_m7 𝒱 c bd i arg3 harg3 arg4 harg4 arg5 harg5 arg6 harg6 arg7 harg7 arg8 harg8 arg9 harg9 arg10 harg10 arg2 w X5 X6 X10 k a f).trans (by rw [readAt_kTile arg5.view X5 _ 7 ⟨k.val, trips_lt i k⟩ (k1_off8_eq i k), readAt_qRow arg10.view X10 (off := ![7, 0, 0]) _ 7 rfl]; rfl)

/-- One trip, head by head: the running sum. -/
theorem trip_l (k : Fin (k1_t1_loop i).trips) (a : Carried F) (f : BufTy.Contents (Elt F) arg9.view.ty) (j : Fin 8) :
    lOf (tripR_k1_t1 (F := F) 𝒱 c bd i arg3 harg3 arg4 harg4 arg5 harg5 arg6 harg6 arg7 harg7 arg8 harg8 arg9 harg9 arg10 harg10 arg2 w X5 X6 X10 k a f) j = hSum (mOf a j) (lOf a j) (hScore (kTile (arg5.view.read (Elt F) X5) j ⟨k.val, trips_lt i k⟩) (qRow (arg10.view.read (Elt F) X10) j)) := by
  fin_cases j
  · exact (tripR_l0 𝒱 c bd i arg3 harg3 arg4 harg4 arg5 harg5 arg6 harg6 arg7 harg7 arg8 harg8 arg9 harg9 arg10 harg10 arg2 w X5 X6 X10 k a f).trans (by rw [readAt_kTile arg5.view X5 _ 0 ⟨k.val, trips_lt i k⟩ (k1_off1_eq i k), readAt_qRow arg10.view X10 (off := ![0, 0, 0]) _ 0 rfl]; rfl)
  · exact (tripR_l1 𝒱 c bd i arg3 harg3 arg4 harg4 arg5 harg5 arg6 harg6 arg7 harg7 arg8 harg8 arg9 harg9 arg10 harg10 arg2 w X5 X6 X10 k a f).trans (by rw [readAt_kTile arg5.view X5 _ 1 ⟨k.val, trips_lt i k⟩ (k1_off2_eq i k), readAt_qRow arg10.view X10 (off := ![1, 0, 0]) _ 1 rfl]; rfl)
  · exact (tripR_l2 𝒱 c bd i arg3 harg3 arg4 harg4 arg5 harg5 arg6 harg6 arg7 harg7 arg8 harg8 arg9 harg9 arg10 harg10 arg2 w X5 X6 X10 k a f).trans (by rw [readAt_kTile arg5.view X5 _ 2 ⟨k.val, trips_lt i k⟩ (k1_off3_eq i k), readAt_qRow arg10.view X10 (off := ![2, 0, 0]) _ 2 rfl]; rfl)
  · exact (tripR_l3 𝒱 c bd i arg3 harg3 arg4 harg4 arg5 harg5 arg6 harg6 arg7 harg7 arg8 harg8 arg9 harg9 arg10 harg10 arg2 w X5 X6 X10 k a f).trans (by rw [readAt_kTile arg5.view X5 _ 3 ⟨k.val, trips_lt i k⟩ (k1_off4_eq i k), readAt_qRow arg10.view X10 (off := ![3, 0, 0]) _ 3 rfl]; rfl)
  · exact (tripR_l4 𝒱 c bd i arg3 harg3 arg4 harg4 arg5 harg5 arg6 harg6 arg7 harg7 arg8 harg8 arg9 harg9 arg10 harg10 arg2 w X5 X6 X10 k a f).trans (by rw [readAt_kTile arg5.view X5 _ 4 ⟨k.val, trips_lt i k⟩ (k1_off5_eq i k), readAt_qRow arg10.view X10 (off := ![4, 0, 0]) _ 4 rfl]; rfl)
  · exact (tripR_l5 𝒱 c bd i arg3 harg3 arg4 harg4 arg5 harg5 arg6 harg6 arg7 harg7 arg8 harg8 arg9 harg9 arg10 harg10 arg2 w X5 X6 X10 k a f).trans (by rw [readAt_kTile arg5.view X5 _ 5 ⟨k.val, trips_lt i k⟩ (k1_off6_eq i k), readAt_qRow arg10.view X10 (off := ![5, 0, 0]) _ 5 rfl]; rfl)
  · exact (tripR_l6 𝒱 c bd i arg3 harg3 arg4 harg4 arg5 harg5 arg6 harg6 arg7 harg7 arg8 harg8 arg9 harg9 arg10 harg10 arg2 w X5 X6 X10 k a f).trans (by rw [readAt_kTile arg5.view X5 _ 6 ⟨k.val, trips_lt i k⟩ (k1_off7_eq i k), readAt_qRow arg10.view X10 (off := ![6, 0, 0]) _ 6 rfl]; rfl)
  · exact (tripR_l7 𝒱 c bd i arg3 harg3 arg4 harg4 arg5 harg5 arg6 harg6 arg7 harg7 arg8 harg8 arg9 harg9 arg10 harg10 arg2 w X5 X6 X10 k a f).trans (by rw [readAt_kTile arg5.view X5 _ 7 ⟨k.val, trips_lt i k⟩ (k1_off8_eq i k), readAt_qRow arg10.view X10 (off := ![7, 0, 0]) _ 7 rfl]; rfl)

/-- One trip, head by head: the accumulator row, over whatever was stored before. -/
theorem trip_a (k : Fin (k1_t1_loop i).trips) (a : Carried F) (f : BufTy.Contents (Elt F) arg9.view.ty) (j : Fin 8) :
    aRow (arg9.view.read (Elt F) (arg9.view.writes (Elt F) f (tripL_k1_t1 (F := F) 𝒱 c bd i arg3 harg3 arg4 harg4 arg5 harg5 arg6 harg6 arg7 harg7 arg8 harg8 arg9 harg9 arg10 harg10 arg2 w X5 X6 X10 k a f))) j
      = hAcc (mOf a j) (hScore (kTile (arg5.view.read (Elt F) X5) j ⟨k.val, trips_lt i k⟩) (qRow (arg10.view.read (Elt F) X10) j)) (vTile (arg6.view.read (Elt F) X6) j ⟨k.val, trips_lt i k⟩) (aRow (arg9.view.read (Elt F) f) j) := by
  rw [tripL_eq]
  fin_cases j
  · refine (aRow_skip arg9.view f _ _ _ 0 7 rfl (by decide)).trans ((aRow_skip arg9.view f _ _ _ 0 6 rfl (by decide)).trans ((aRow_skip arg9.view f _ _ _ 0 5 rfl (by decide)).trans ((aRow_skip arg9.view f _ _ _ 0 4 rfl (by decide)).trans ((aRow_skip arg9.view f _ _ _ 0 3 rfl (by decide)).trans ((aRow_skip arg9.view f _ _ _ 0 2 rfl (by decide)).trans ((aRow_skip arg9.view f _ _ _ 0 1 rfl (by decide)).trans ((aRow_hit arg9.view f _ _ _ 0 rfl).trans ?_))))))); rw [readAt_kTile arg5.view X5 _ 0 ⟨k.val, trips_lt i k⟩ (k1_off1_eq i k), readAt_qRow arg10.view X10 (off := ![0, 0, 0]) _ 0 rfl, readAt_vTile arg6.view X6 _ 0 ⟨k.val, trips_lt i k⟩ (k1_off9_eq i k), readAt_aRow arg9.view f (off := ![0, 0, 0]) _ 0 rfl]; rfl
  · refine (aRow_skip arg9.view f _ _ _ 1 7 rfl (by decide)).trans ((aRow_skip arg9.view f _ _ _ 1 6 rfl (by decide)).trans ((aRow_skip arg9.view f _ _ _ 1 5 rfl (by decide)).trans ((aRow_skip arg9.view f _ _ _ 1 4 rfl (by decide)).trans ((aRow_skip arg9.view f _ _ _ 1 3 rfl (by decide)).trans ((aRow_skip arg9.view f _ _ _ 1 2 rfl (by decide)).trans ((aRow_hit arg9.view f _ _ _ 1 rfl).trans ?_)))))); rw [readAt_kTile arg5.view X5 _ 1 ⟨k.val, trips_lt i k⟩ (k1_off2_eq i k), readAt_qRow arg10.view X10 (off := ![1, 0, 0]) _ 1 rfl, readAt_vTile arg6.view X6 _ 1 ⟨k.val, trips_lt i k⟩ (k1_off10_eq i k), readAt_aRow arg9.view f (off := ![1, 0, 0]) _ 1 rfl]; rfl
  · refine (aRow_skip arg9.view f _ _ _ 2 7 rfl (by decide)).trans ((aRow_skip arg9.view f _ _ _ 2 6 rfl (by decide)).trans ((aRow_skip arg9.view f _ _ _ 2 5 rfl (by decide)).trans ((aRow_skip arg9.view f _ _ _ 2 4 rfl (by decide)).trans ((aRow_skip arg9.view f _ _ _ 2 3 rfl (by decide)).trans ((aRow_hit arg9.view f _ _ _ 2 rfl).trans ?_))))); rw [readAt_kTile arg5.view X5 _ 2 ⟨k.val, trips_lt i k⟩ (k1_off3_eq i k), readAt_qRow arg10.view X10 (off := ![2, 0, 0]) _ 2 rfl, readAt_vTile arg6.view X6 _ 2 ⟨k.val, trips_lt i k⟩ (k1_off11_eq i k), readAt_aRow arg9.view f (off := ![2, 0, 0]) _ 2 rfl]; rfl
  · refine (aRow_skip arg9.view f _ _ _ 3 7 rfl (by decide)).trans ((aRow_skip arg9.view f _ _ _ 3 6 rfl (by decide)).trans ((aRow_skip arg9.view f _ _ _ 3 5 rfl (by decide)).trans ((aRow_skip arg9.view f _ _ _ 3 4 rfl (by decide)).trans ((aRow_hit arg9.view f _ _ _ 3 rfl).trans ?_)))); rw [readAt_kTile arg5.view X5 _ 3 ⟨k.val, trips_lt i k⟩ (k1_off4_eq i k), readAt_qRow arg10.view X10 (off := ![3, 0, 0]) _ 3 rfl, readAt_vTile arg6.view X6 _ 3 ⟨k.val, trips_lt i k⟩ (k1_off12_eq i k), readAt_aRow arg9.view f (off := ![3, 0, 0]) _ 3 rfl]; rfl
  · refine (aRow_skip arg9.view f _ _ _ 4 7 rfl (by decide)).trans ((aRow_skip arg9.view f _ _ _ 4 6 rfl (by decide)).trans ((aRow_skip arg9.view f _ _ _ 4 5 rfl (by decide)).trans ((aRow_hit arg9.view f _ _ _ 4 rfl).trans ?_))); rw [readAt_kTile arg5.view X5 _ 4 ⟨k.val, trips_lt i k⟩ (k1_off5_eq i k), readAt_qRow arg10.view X10 (off := ![4, 0, 0]) _ 4 rfl, readAt_vTile arg6.view X6 _ 4 ⟨k.val, trips_lt i k⟩ (k1_off13_eq i k), readAt_aRow arg9.view f (off := ![4, 0, 0]) _ 4 rfl]; rfl
  · refine (aRow_skip arg9.view f _ _ _ 5 7 rfl (by decide)).trans ((aRow_skip arg9.view f _ _ _ 5 6 rfl (by decide)).trans ((aRow_hit arg9.view f _ _ _ 5 rfl).trans ?_)); rw [readAt_kTile arg5.view X5 _ 5 ⟨k.val, trips_lt i k⟩ (k1_off6_eq i k), readAt_qRow arg10.view X10 (off := ![5, 0, 0]) _ 5 rfl, readAt_vTile arg6.view X6 _ 5 ⟨k.val, trips_lt i k⟩ (k1_off14_eq i k), readAt_aRow arg9.view f (off := ![5, 0, 0]) _ 5 rfl]; rfl
  · refine (aRow_skip arg9.view f _ _ _ 6 7 rfl (by decide)).trans ((aRow_hit arg9.view f _ _ _ 6 rfl).trans ?_); rw [readAt_kTile arg5.view X5 _ 6 ⟨k.val, trips_lt i k⟩ (k1_off7_eq i k), readAt_qRow arg10.view X10 (off := ![6, 0, 0]) _ 6 rfl, readAt_vTile arg6.view X6 _ 6 ⟨k.val, trips_lt i k⟩ (k1_off15_eq i k), readAt_aRow arg9.view f (off := ![6, 0, 0]) _ 6 rfl]; rfl
  · refine (aRow_hit arg9.view f _ _ _ 7 rfl).trans ?_; rw [readAt_kTile arg5.view X5 _ 7 ⟨k.val, trips_lt i k⟩ (k1_off8_eq i k), readAt_qRow arg10.view X10 (off := ![7, 0, 0]) _ 7 rfl, readAt_vTile arg6.view X6 _ 7 ⟨k.val, trips_lt i k⟩ (k1_off16_eq i k), readAt_aRow arg9.view f (off := ![7, 0, 0]) _ 7 rfl]; rfl

/-- The loop after `n` trips. -/
theorem loop_eq (G : BufTy.Contents (Elt F) arg9.view.ty) (init : Carried F) (j : Fin 8) : ∀ n : ℕ, n ≤ (k1_t1_loop i).trips →
    (mOf (st_k1_t1 (F := F) 𝒱 c bd i arg3 harg3 arg4 harg4 arg5 harg5 arg6 harg6 arg7 harg7 arg8 harg8 arg9 harg9 arg10 harg10 arg2 w X5 X6 X10 G init n).1 j, lOf (st_k1_t1 (F := F) 𝒱 c bd i arg3 harg3 arg4 harg4 arg5 harg5 arg6 harg6 arg7 harg7 arg8 harg8 arg9 harg9 arg10 harg10 arg2 w X5 X6 X10 G init n).1 j,
        aRow (arg9.view.read (Elt F) (arg9.view.writes (Elt F) G (st_k1_t1 (F := F) 𝒱 c bd i arg3 harg3 arg4 harg4 arg5 harg5 arg6 harg6 arg7 harg7 arg8 harg8 arg9 harg9 arg10 harg10 arg2 w X5 X6 X10 G init n).2)) j)
      = headIter (arg5.view.read (Elt F) X5) (arg6.view.read (Elt F) X6) (qRow (arg10.view.read (Elt F) X10) j) j
          (mOf init j, lOf init j, aRow (arg9.view.read (Elt F) G) j) n
  | 0, _ => rfl
  | n + 1, hn => by
    have ih := loop_eq G init j n (Nat.le_of_succ_le hn)
    have h8 : n < 8 := trips_lt i ⟨n, hn⟩
    rw [show n + 1 = (⟨n, hn⟩ : Fin (k1_t1_loop i).trips).val + 1 from rfl, st_k1_t1_succ]
    rw [headIter, dif_pos h8, ← ih]
    simp only [View.writes_append, trip_m, trip_l, trip_a, headStep]

end loop

end Cert.KernelIdeal.Fox

end
-- ==== Proof.Fox.Run.lean ====
/- One grid point of the attention's body: what it leaves in the output block, as the eight heads' states after the unmasked
   tiles and the masked one. -/
module

public import proofs.«01_k».proof.Proof.Fox.Loop

@[expose] public section

set_option maxRecDepth 8192

noncomputable section

namespace Cert.KernelIdeal.Fox

open Idealize.ShloMosaic Idealize.ShloMosaic.TcCoe Idealize.SL.Sem
open Cert.KernelIdeal Cert.KernelIdeal.Gen

variable {F : FTy → Type} [FloatOps F] [Named F]

/-- The cumulative log gates of a query block in base-2 units. -/
def cLog (cq : Vec F S1x1x256x8 .f32) : FVec F S256x8 .f32 :=
  mulf (shapeCast (α := F .f32) S256x8 cq shapeCasts_S1x1x256x8_S256x8) (broadcast S256x8 (Named.named κ "log2e" 0x3FB8AA3B#32 : F .f32))

/-- Its leading part, -/
def cHi (cq : Vec F S1x1x256x8 .f32) : FVec F S256x8 .f32 := extf .f32 (truncf .bf16 (cLog cq) bitsLt_bf16_f32) bitsLt_bf16_f32

/-- its middle part, -/
def cMid (cq : Vec F S1x1x256x8 .f32) : FVec F S256x8 .f32 :=
  extf .f32 (truncf .bf16 (subf (cLog cq) (cHi cq)) bitsLt_bf16_f32) bitsLt_bf16_f32

/-- and what is left. -/
def cLo (cq : Vec F S1x1x256x8 .f32) : FVec F S256x8 .f32 :=
  extf .f32 (truncf .bf16 (subf (subf (cLog cq) (cHi cq)) (cMid cq)) bitsLt_bf16_f32) bitsLt_bf16_f32

/-- The lanes a query row carries past its 64 own: `-1` thrice, the gate's three parts, zeros. -/
def qAug (cq : Vec F S1x1x256x8 .f32) (o : Fin 2 → ℕ) (hs : S256x8.Slices o S256x1) : FVec F S256x64 .f32 :=
  select (cmpi .eq (iota .tc S256x64 32 [1] iota_S256x64_d1_w32) (broadcast S256x64 3#32))
    (broadcastTo S256x64 (shapeCast S256x1 (extractStridedSlice S256x1 o (cHi cq) hs) shapeCasts_S256x1_S256x1) broadcasts_S256x1_S256x64)
    (select (cmpi .eq (iota .tc S256x64 32 [1] iota_S256x64_d1_w32) (broadcast S256x64 4#32))
      (broadcastTo S256x64 (shapeCast S256x1 (extractStridedSlice S256x1 o (cMid cq) hs) shapeCasts_S256x1_S256x1) broadcasts_S256x1_S256x64)
      (select (cmpi .eq (iota .tc S256x64 32 [1] iota_S256x64_d1_w32) (broadcast S256x64 5#32))
        (broadcastTo S256x64 (shapeCast S256x1 (extractStridedSlice S256x1 o (cLo cq) hs) shapeCasts_S256x1_S256x1) broadcasts_S256x1_S256x64)
        (select (cmpi .slt (iota .tc S256x64 32 [1] iota_S256x64_d1_w32) (broadcast S256x64 6#32))
          (broadcast S256x64 (Scalar.ofBits .f32 0xBF800000#32 : F .f32)) (broadcast S256x64 (Scalar.ofBits .f32 0x00000000#32 : F .f32)))))

/-- A head's query block as the scratch holds it: scaled, with its augmented lanes. -/
def qHead (qs : Vec F S1x256x64 .f32) (cq : Vec F S1x1x256x8 .f32) (o : Fin 2 → ℕ) (hs : S256x8.Slices o S256x1) : Vec F S1x256x128 .bf16 :=
  shapeCast S1x256x128
    (truncf .bf16
      (concatenate S256x128 1
        [⟨S256x64, extf .f32 (truncf .bf16 (mulf (shapeCast (α := F .f32) S256x64 qs shapeCasts_S1x256x64_S256x64)
            (broadcast S256x64 (Named.named κ "scale" 0x3E38AA3B#32 : F .f32))) bitsLt_bf16_f32) bitsLt_bf16_f32⟩,
          ⟨S256x64, qAug cq o hs⟩] concatenates_S256x64_S256x64_S256x128_d1) bitsLt_bf16_f32)
    shapeCasts_S256x128_S1x256x128

/-- The masked scores of the diagonal tile. -/
def hMask (s : FVec F S256x256 .f32) : FVec F S256x256 .f32 :=
  select (cmpi .sle (iota .tc S256x256 32 [0] iota_S256x256_d0_w32) (iota .tc S256x256 32 [1] iota_S256x256_d1_w32)) s
    (broadcast S256x256 (Named.named κ "mask" 0xF149F2CA#32 : F .f32))

/-- A head's normalised accumulator. -/
def hOut (l : FVec F S1x256 .f32) (a : Vec F S1x64x256 .f32) : FVec F S64x256 .f32 :=
  divf (shapeCast (α := F .f32) S64x256 a shapeCasts_S1x64x256_S64x256) (broadcastTo S64x256 l broadcasts_S1x256_S64x256)

/-- The output block of eight heads' normalised accumulators: stacked, transposed, gated. -/
def outBlk (h : Fin 8 → FVec F S64x256 .f32) (g : Vec F S1x256x512 .bf16) : Vec F S1x256x512 .bf16 :=
  shapeCast S1x256x512
    (truncf .bf16
      (mulf (transpose S256x512 [1, 0]
          (concatenate S512x256 0 [⟨S64x256, h 0⟩, ⟨S64x256, h 1⟩, ⟨S64x256, h 2⟩, ⟨S64x256, h 3⟩, ⟨S64x256, h 4⟩, ⟨S64x256, h 5⟩, ⟨S64x256, h 6⟩, ⟨S64x256, h 7⟩]
            concatenates_S64x256_S64x256_S64x256_S64x256_S64x256_S64x256_S64x256_S64x256_S512x256_d0)
          transposes_S512x256_p1_0_S256x512)
        (extf .f32 (shapeCast (α := F .bf16) S256x512 g shapeCasts_S1x256x512_S256x512) bitsLt_bf16_f32)) bitsLt_bf16_f32)
    shapeCasts_S256x512_S1x256x512

/-- What the loop starts with: no maximum, no weight. -/
def initCarried : Carried F :=
  (broadcast S1x256 (Named.named κ "mask" 0xF149F2CA#32 : F .f32), broadcast S1x256 (Scalar.ofBits .f32 0x00000000#32 : F .f32), broadcast S1x256 (Named.named κ "mask" 0xF149F2CA#32 : F .f32), broadcast S1x256 (Scalar.ofBits .f32 0x00000000#32 : F .f32), broadcast S1x256 (Named.named κ "mask" 0xF149F2CA#32 : F .f32), broadcast S1x256 (Scalar.ofBits .f32 0x00000000#32 : F .f32), broadcast S1x256 (Named.named κ "mask" 0xF149F2CA#32 : F .f32), broadcast S1x256 (Scalar.ofBits .f32 0x00000000#32 : F .f32), broadcast S1x256 (Named.named κ "mask" 0xF149F2CA#32 : F .f32), broadcast S1x256 (Scalar.ofBits .f32 0x00000000#32 : F .f32), broadcast S1x256 (Named.named κ "mask" 0xF149F2CA#32 : F .f32), broadcast S1x256 (Scalar.ofBits .f32 0x00000000#32 : F .f32), broadcast S1x256 (Named.named κ "mask" 0xF149F2CA#32 : F .f32), broadcast S1x256 (Scalar.ofBits .f32 0x00000000#32 : F .f32), broadcast S1x256 (Named.named κ "mask" 0xF149F2CA#32 : F .f32), broadcast S1x256 (Scalar.ofBits .f32 0x00000000#32 : F .f32))

/-- The accumulator's zero fill. -/
def zeroFill : List (View.Piece (Elt F) S8x64x256 .f32) :=
  [⟨Rect.unit (s := S8x64x256) ![0, 0, 0] S8x64x256.size inb_S8x64x256_S8x64x256_0_0_0,
    shapeCast S8x64x256 (broadcast S8x64x256 (Scalar.ofBits .f32 0x00000000#32 : F .f32)) shapeCasts_S8x64x256_S8x64x256⟩]

section run
variable (c : Dev nD) (i : grid1.Coords) (arg3 : Memref sig .tc .vmem S1x256x512 .f32) (harg3 : arg3.IsWhole) (arg4 : Memref sig .tc .vmem S1x1x256x8 .f32) (harg4 : arg4.IsWhole) (arg5 : Memref sig .tc .vmem S1x8x2048x128 .bf16) (harg5 : arg5.IsWhole) (arg6 : Memref sig .tc .vmem S1x8x64x2048 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S8x64x256 .f32) (harg9 : arg9.IsWhole) (arg10 : Memref sig .tc .vmem S8x256x128 .bf16) (harg10 : arg10.IsWhole)
  (x0 : Vec F S1x256x512 .f32) (x1 : Vec F S1x1x256x8 .f32) (x2 : Vec F S1x8x2048x128 .bf16) (x3 : Vec F S1x8x64x2048 .bf16) (x4 : Vec F S1x256x512 .bf16)

/-- The stores that fill the query scratch. -/
def qPieces : List (View.Piece (Elt F) S8x256x128 .bf16) :=
  [⟨Rect.unit (s := S8x256x128) ![7, 0, 0] S1x256x128.size inb_S8x256x128_S1x256x128_7_0_0, qHead (arg3.view.readAt (Elt F) (Rect.unit (s := S1x256x512) ![0, 0, 448] S1x256x64.size inb_S1x256x512_S1x256x64_0_0_448).toLoadRect (harg3.unread x0)) (arg4.view.readAt (Elt F) (Rect.unit (s := S1x1x256x8) ![0, 0, 0, 0] S1x1x256x8.size inb_S1x1x256x8_S1x1x256x8_0_0_0_0).toLoadRect (harg4.unread x1)) ![0, 7] slices_S256x8_o0_7_S256x1⟩,
   ⟨Rect.unit (s := S8x256x128) ![6, 0, 0] S1x256x128.size inb_S8x256x128_S1x256x128_6_0_0, qHead (arg3.view.readAt (Elt F) (Rect.unit (s := S1x256x512) ![0, 0, 384] S1x256x64.size inb_S1x256x512_S1x256x64_0_0_384).toLoadRect (harg3.unread x0)) (arg4.view.readAt (Elt F) (Rect.unit (s := S1x1x256x8) ![0, 0, 0, 0] S1x1x256x8.size inb_S1x1x256x8_S1x1x256x8_0_0_0_0).toLoadRect (harg4.unread x1)) ![0, 6] slices_S256x8_o0_6_S256x1⟩,
   ⟨Rect.unit (s := S8x256x128) ![5, 0, 0] S1x256x128.size inb_S8x256x128_S1x256x128_5_0_0, qHead (arg3.view.readAt (Elt F) (Rect.unit (s := S1x256x512) ![0, 0, 320] S1x256x64.size inb_S1x256x512_S1x256x64_0_0_320).toLoadRect (harg3.unread x0)) (arg4.view.readAt (Elt F) (Rect.unit (s := S1x1x256x8) ![0, 0, 0, 0] S1x1x256x8.size inb_S1x1x256x8_S1x1x256x8_0_0_0_0).toLoadRect (harg4.unread x1)) ![0, 5] slices_S256x8_o0_5_S256x1⟩,
   ⟨Rect.unit (s := S8x256x128) ![4, 0, 0] S1x256x128.size inb_S8x256x128_S1x256x128_4_0_0, qHead (arg3.view.readAt (Elt F) (Rect.unit (s := S1x256x512) ![0, 0, 256] S1x256x64.size inb_S1x256x512_S1x256x64_0_0_256).toLoadRect (harg3.unread x0)) (arg4.view.readAt (Elt F) (Rect.unit (s := S1x1x256x8) ![0, 0, 0, 0] S1x1x256x8.size inb_S1x1x256x8_S1x1x256x8_0_0_0_0).toLoadRect (harg4.unread x1)) ![0, 4] slices_S256x8_o0_4_S256x1⟩,
   ⟨Rect.unit (s := S8x256x128) ![3, 0, 0] S1x256x128.size inb_S8x256x128_S1x256x128_3_0_0, qHead (arg3.view.readAt (Elt F) (Rect.unit (s := S1x256x512) ![0, 0, 192] S1x256x64.size inb_S1x256x512_S1x256x64_0_0_192).toLoadRect (harg3.unread x0)) (arg4.view.readAt (Elt F) (Rect.unit (s := S1x1x256x8) ![0, 0, 0, 0] S1x1x256x8.size inb_S1x1x256x8_S1x1x256x8_0_0_0_0).toLoadRect (harg4.unread x1)) ![0, 3] slices_S256x8_o0_3_S256x1⟩,
   ⟨Rect.unit (s := S8x256x128) ![2, 0, 0] S1x256x128.size inb_S8x256x128_S1x256x128_2_0_0, qHead (arg3.view.readAt (Elt F) (Rect.unit (s := S1x256x512) ![0, 0, 128] S1x256x64.size inb_S1x256x512_S1x256x64_0_0_128).toLoadRect (harg3.unread x0)) (arg4.view.readAt (Elt F) (Rect.unit (s := S1x1x256x8) ![0, 0, 0, 0] S1x1x256x8.size inb_S1x1x256x8_S1x1x256x8_0_0_0_0).toLoadRect (harg4.unread x1)) ![0, 2] slices_S256x8_o0_2_S256x1⟩,
   ⟨Rect.unit (s := S8x256x128) ![1, 0, 0] S1x256x128.size inb_S8x256x128_S1x256x128_1_0_0, qHead (arg3.view.readAt (Elt F) (Rect.unit (s := S1x256x512) ![0, 0, 64] S1x256x64.size inb_S1x256x512_S1x256x64_0_0_64).toLoadRect (harg3.unread x0)) (arg4.view.readAt (Elt F) (Rect.unit (s := S1x1x256x8) ![0, 0, 0, 0] S1x1x256x8.size inb_S1x1x256x8_S1x1x256x8_0_0_0_0).toLoadRect (harg4.unread x1)) ![0, 1] slices_S256x8_o0_1_S256x1⟩,
   ⟨Rect.unit (s := S8x256x128) ![0, 0, 0] S1x256x128.size inb_S8x256x128_S1x256x128_0_0_0, qHead (arg3.view.readAt (Elt F) (Rect.unit (s := S1x256x512) ![0, 0, 0] S1x256x64.size inb_S1x256x512_S1x256x64_0_0_0).toLoadRect (harg3.unread x0)) (arg4.view.readAt (Elt F) (Rect.unit (s := S1x1x256x8) ![0, 0, 0, 0] S1x1x256x8.size inb_S1x1x256x8_S1x1x256x8_0_0_0_0).toLoadRect (harg4.unread x1)) ![0, 0] slices_S256x8_o0_0_S256x1⟩]

/-- The unmasked loop's end. -/
def end1 (w : FVec F S256x128 .bf16) : Carried F × List (View.Piece (Elt F) S8x64x256 .f32) :=
  st_k1_t1 (F := F) Variants.none c none i arg3 harg3 arg4 harg4 arg5 harg5 arg6 harg6 arg7 harg7 arg8 harg8 arg9 harg9 arg10 harg10 (BitVec.ofNat 32 (i 2).val) w (harg5.unread x2) (harg6.unread x3)
    (arg10.view.writes (Elt F) arg10.view.junk (qPieces arg3 harg3 arg4 harg4 x0 x1)) (arg9.view.writes (Elt F) arg9.view.junk zeroFill)
    initCarried (Scf.trips (k1_t1_loop i).lb (k1_t1_loop i).ub (k1_t1_loop i).st)

/-- The stores of the masked tile, over what `base` had stored. -/
def mPieces (a : Carried F) (base : List (View.Piece (Elt F) S8x64x256 .f32)) : ℕ → List (View.Piece (Elt F) S8x64x256 .f32)
  | 0 => base
  | 1 => ⟨(Rect.unit (s := S8x64x256) ![0, 0, 0] S1x64x256.size inb_S8x64x256_S1x64x256_0_0_0), hAcc (mOf a 0) (hMask (hScore (arg5.view.readAt (Elt F) (Rect.unit (s := S1x8x2048x128) (k1_off33 i) S1x1x256x128.size (k1_off33_inb i)).toLoadRect (harg5.unread x2)) (arg10.view.readCov (qPieces arg3 harg3 arg4 harg4 x0 x1) (Rect.unit (s := S8x256x128) ![0, 0, 0] S1x256x128.size inb_S8x256x128_S1x256x128_0_0_0).toLoadRect))) (arg6.view.readAt (Elt F) (Rect.unit (s := S1x8x64x2048) (k1_off41 i) S1x1x64x256.size (k1_off41_inb i)).toLoadRect (harg6.unread x3)) (arg9.view.readCov (mPieces a base 0) (Rect.unit (s := S8x64x256) ![0, 0, 0] S1x64x256.size inb_S8x64x256_S1x64x256_0_0_0).toLoadRect)⟩ :: mPieces a base 0
  | 2 => ⟨(Rect.unit (s := S8x64x256) ![1, 0, 0] S1x64x256.size inb_S8x64x256_S1x64x256_1_0_0), hAcc (mOf a 1) (hMask (hScore (arg5.view.readAt (Elt F) (Rect.unit (s := S1x8x2048x128) (k1_off34 i) S1x1x256x128.size (k1_off34_inb i)).toLoadRect (harg5.unread x2)) (arg10.view.readCov (qPieces arg3 harg3 arg4 harg4 x0 x1) (Rect.unit (s := S8x256x128) ![1, 0, 0] S1x256x128.size inb_S8x256x128_S1x256x128_1_0_0).toLoadRect))) (arg6.view.readAt (Elt F) (Rect.unit (s := S1x8x64x2048) (k1_off42 i) S1x1x64x256.size (k1_off42_inb i)).toLoadRect (harg6.unread x3)) (arg9.view.readCov (mPieces a base 1) (Rect.unit (s := S8x64x256) ![1, 0, 0] S1x64x256.size inb_S8x64x256_S1x64x256_1_0_0).toLoadRect)⟩ :: mPieces a base 1
  | 3 => ⟨(Rect.unit (s := S8x64x256) ![2, 0, 0] S1x64x256.size inb_S8x64x256_S1x64x256_2_0_0), hAcc (mOf a 2) (hMask (hScore (arg5.view.readAt (Elt F) (Rect.unit (s := S1x8x2048x128) (k1_off35 i) S1x1x256x128.size (k1_off35_inb i)).toLoadRect (harg5.unread x2)) (arg10.view.readCov (qPieces arg3 harg3 arg4 harg4 x0 x1) (Rect.unit (s := S8x256x128) ![2, 0, 0] S1x256x128.size inb_S8x256x128_S1x256x128_2_0_0).toLoadRect))) (arg6.view.readAt (Elt F) (Rect.unit (s := S1x8x64x2048) (k1_off43 i) S1x1x64x256.size (k1_off43_inb i)).toLoadRect (harg6.unread x3)) (arg9.view.readCov (mPieces a base 2) (Rect.unit (s := S8x64x256) ![2, 0, 0] S1x64x256.size inb_S8x64x256_S1x64x256_2_0_0).toLoadRect)⟩ :: mPieces a base 2
  | 4 => ⟨(Rect.unit (s := S8x64x256) ![3, 0, 0] S1x64x256.size inb_S8x64x256_S1x64x256_3_0_0), hAcc (mOf a 3) (hMask (hScore (arg5.view.readAt (Elt F) (Rect.unit (s := S1x8x2048x128) (k1_off36 i) S1x1x256x128.size (k1_off36_inb i)).toLoadRect (harg5.unread x2)) (arg10.view.readCov (qPieces arg3 harg3 arg4 harg4 x0 x1) (Rect.unit (s := S8x256x128) ![3, 0, 0] S1x256x128.size inb_S8x256x128_S1x256x128_3_0_0).toLoadRect))) (arg6.view.readAt (Elt F) (Rect.unit (s := S1x8x64x2048) (k1_off44 i) S1x1x64x256.size (k1_off44_inb i)).toLoadRect (harg6.unread x3)) (arg9.view.readCov (mPieces a base 3) (Rect.unit (s := S8x64x256) ![3, 0, 0] S1x64x256.size inb_S8x64x256_S1x64x256_3_0_0).toLoadRect)⟩ :: mPieces a base 3
  | 5 => ⟨(Rect.unit (s := S8x64x256) ![4, 0, 0] S1x64x256.size inb_S8x64x256_S1x64x256_4_0_0), hAcc (mOf a 4) (hMask (hScore (arg5.view.readAt (Elt F) (Rect.unit (s := S1x8x2048x128) (k1_off37 i) S1x1x256x128.size (k1_off37_inb i)).toLoadRect (harg5.unread x2)) (arg10.view.readCov (qPieces arg3 harg3 arg4 harg4 x0 x1) (Rect.unit (s := S8x256x128) ![4, 0, 0] S1x256x128.size inb_S8x256x128_S1x256x128_4_0_0).toLoadRect))) (arg6.view.readAt (Elt F) (Rect.unit (s := S1x8x64x2048) (k1_off45 i) S1x1x64x256.size (k1_off45_inb i)).toLoadRect (harg6.unread x3)) (arg9.view.readCov (mPieces a base 4) (Rect.unit (s := S8x64x256) ![4, 0, 0] S1x64x256.size inb_S8x64x256_S1x64x256_4_0_0).toLoadRect)⟩ :: mPieces a base 4
  | 6 => ⟨(Rect.unit (s := S8x64x256) ![5, 0, 0] S1x64x256.size inb_S8x64x256_S1x64x256_5_0_0), hAcc (mOf a 5) (hMask (hScore (arg5.view.readAt (Elt F) (Rect.unit (s := S1x8x2048x128) (k1_off38 i) S1x1x256x128.size (k1_off38_inb i)).toLoadRect (harg5.unread x2)) (arg10.view.readCov (qPieces arg3 harg3 arg4 harg4 x0 x1) (Rect.unit (s := S8x256x128) ![5, 0, 0] S1x256x128.size inb_S8x256x128_S1x256x128_5_0_0).toLoadRect))) (arg6.view.readAt (Elt F) (Rect.unit (s := S1x8x64x2048) (k1_off46 i) S1x1x64x256.size (k1_off46_inb i)).toLoadRect (harg6.unread x3)) (arg9.view.readCov (mPieces a base 5) (Rect.unit (s := S8x64x256) ![5, 0, 0] S1x64x256.size inb_S8x64x256_S1x64x256_5_0_0).toLoadRect)⟩ :: mPieces a base 5
  | 7 => ⟨(Rect.unit (s := S8x64x256) ![6, 0, 0] S1x64x256.size inb_S8x64x256_S1x64x256_6_0_0), hAcc (mOf a 6) (hMask (hScore (arg5.view.readAt (Elt F) (Rect.unit (s := S1x8x2048x128) (k1_off39 i) S1x1x256x128.size (k1_off39_inb i)).toLoadRect (harg5.unread x2)) (arg10.view.readCov (qPieces arg3 harg3 arg4 harg4 x0 x1) (Rect.unit (s := S8x256x128) ![6, 0, 0] S1x256x128.size inb_S8x256x128_S1x256x128_6_0_0).toLoadRect))) (arg6.view.readAt (Elt F) (Rect.unit (s := S1x8x64x2048) (k1_off47 i) S1x1x64x256.size (k1_off47_inb i)).toLoadRect (harg6.unread x3)) (arg9.view.readCov (mPieces a base 6) (Rect.unit (s := S8x64x256) ![6, 0, 0] S1x64x256.size inb_S8x64x256_S1x64x256_6_0_0).toLoadRect)⟩ :: mPieces a base 6
  | 8 => ⟨(Rect.unit (s := S8x64x256) ![7, 0, 0] S1x64x256.size inb_S8x64x256_S1x64x256_7_0_0), hAcc (mOf a 7) (hMask (hScore (arg5.view.readAt (Elt F) (Rect.unit (s := S1x8x2048x128) (k1_off40 i) S1x1x256x128.size (k1_off40_inb i)).toLoadRect (harg5.unread x2)) (arg10.view.readCov (qPieces arg3 harg3 arg4 harg4 x0 x1) (Rect.unit (s := S8x256x128) ![7, 0, 0] S1x256x128.size inb_S8x256x128_S1x256x128_7_0_0).toLoadRect))) (arg6.view.readAt (Elt F) (Rect.unit (s := S1x8x64x2048) (k1_off48 i) S1x1x64x256.size (k1_off48_inb i)).toLoadRect (harg6.unread x3)) (arg9.view.readCov (mPieces a base 7) (Rect.unit (s := S8x64x256) ![7, 0, 0] S1x64x256.size inb_S8x64x256_S1x64x256_7_0_0).toLoadRect)⟩ :: mPieces a base 7
  | _ + 9 => base

/-- The stores of the output block, in words: one store of `outBlk`. -/
def outPieces (a : Carried F) (base : List (View.Piece (Elt F) S8x64x256 .f32)) : List (View.Piece (Elt F) S1x256x512 .bf16) :=
  [⟨Rect.unit (s := S1x256x512) ![0, 0, 0] S1x256x512.size inb_S1x256x512_S1x256x512_0_0_0,
    outBlk ![hOut (hSum (mOf a 0) (lOf a 0) (hMask (hScore (arg5.view.readAt (Elt F) (Rect.unit (s := S1x8x2048x128) (k1_off33 i) S1x1x256x128.size (k1_off33_inb i)).toLoadRect (harg5.unread x2)) (arg10.view.readCov (qPieces arg3 harg3 arg4 harg4 x0 x1) (Rect.unit (s := S8x256x128) ![0, 0, 0] S1x256x128.size inb_S8x256x128_S1x256x128_0_0_0).toLoadRect)))) (arg9.view.readCov (mPieces i arg3 harg3 arg4 harg4 arg5 harg5 arg6 harg6 arg9 arg10 x0 x1 x2 x3 a base 8) (Rect.unit (s := S8x64x256) ![0, 0, 0] S1x64x256.size inb_S8x64x256_S1x64x256_0_0_0).toLoadRect),
      hOut (hSum (mOf a 1) (lOf a 1) (hMask (hScore (arg5.view.readAt (Elt F) (Rect.unit (s := S1x8x2048x128) (k1_off34 i) S1x1x256x128.size (k1_off34_inb i)).toLoadRect (harg5.unread x2)) (arg10.view.readCov (qPieces arg3 harg3 arg4 harg4 x0 x1) (Rect.unit (s := S8x256x128) ![1, 0, 0] S1x256x128.size inb_S8x256x128_S1x256x128_1_0_0).toLoadRect)))) (arg9.view.readCov (mPieces i arg3 harg3 arg4 harg4 arg5 harg5 arg6 harg6 arg9 arg10 x0 x1 x2 x3 a base 8) (Rect.unit (s := S8x64x256) ![1, 0, 0] S1x64x256.size inb_S8x64x256_S1x64x256_1_0_0).toLoadRect),
      hOut (hSum (mOf a 2) (lOf a 2) (hMask (hScore (arg5.view.readAt (Elt F) (Rect.unit (s := S1x8x2048x128) (k1_off35 i) S1x1x256x128.size (k1_off35_inb i)).toLoadRect (harg5.unread x2)) (arg10.view.readCov (qPieces arg3 harg3 arg4 harg4 x0 x1) (Rect.unit (s := S8x256x128) ![2, 0, 0] S1x256x128.size inb_S8x256x128_S1x256x128_2_0_0).toLoadRect)))) (arg9.view.readCov (mPieces i arg3 harg3 arg4 harg4 arg5 harg5 arg6 harg6 arg9 arg10 x0 x1 x2 x3 a base 8) (Rect.unit (s := S8x64x256) ![2, 0, 0] S1x64x256.size inb_S8x64x256_S1x64x256_2_0_0).toLoadRect),
      hOut (hSum (mOf a 3) (lOf a 3) (hMask (hScore (arg5.view.readAt (Elt F) (Rect.unit (s := S1x8x2048x128) (k1_off36 i) S1x1x256x128.size (k1_off36_inb i)).toLoadRect (harg5.unread x2)) (arg10.view.readCov (qPieces arg3 harg3 arg4 harg4 x0 x1) (Rect.unit (s := S8x256x128) ![3, 0, 0] S1x256x128.size inb_S8x256x128_S1x256x128_3_0_0).toLoadRect)))) (arg9.view.readCov (mPieces i arg3 harg3 arg4 harg4 arg5 harg5 arg6 harg6 arg9 arg10 x0 x1 x2 x3 a base 8) (Rect.unit (s := S8x64x256) ![3, 0, 0] S1x64x256.size inb_S8x64x256_S1x64x256_3_0_0).toLoadRect),
      hOut (hSum (mOf a 4) (lOf a 4) (hMask (hScore (arg5.view.readAt (Elt F) (Rect.unit (s := S1x8x2048x128) (k1_off37 i) S1x1x256x128.size (k1_off37_inb i)).toLoadRect (harg5.unread x2)) (arg10.view.readCov (qPieces arg3 harg3 arg4 harg4 x0 x1) (Rect.unit (s := S8x256x128) ![4, 0, 0] S1x256x128.size inb_S8x256x128_S1x256x128_4_0_0).toLoadRect)))) (arg9.view.readCov (mPieces i arg3 harg3 arg4 harg4 arg5 harg5 arg6 harg6 arg9 arg10 x0 x1 x2 x3 a base 8) (Rect.unit (s := S8x64x256) ![4, 0, 0] S1x64x256.size inb_S8x64x256_S1x64x256_4_0_0).toLoadRect),
      hOut (hSum (mOf a 5) (lOf a 5) (hMask (hScore (arg5.view.readAt (Elt F) (Rect.unit (s := S1x8x2048x128) (k1_off38 i) S1x1x256x128.size (k1_off38_inb i)).toLoadRect (harg5.unread x2)) (arg10.view.readCov (qPieces arg3 harg3 arg4 harg4 x0 x1) (Rect.unit (s := S8x256x128) ![5, 0, 0] S1x256x128.size inb_S8x256x128_S1x256x128_5_0_0).toLoadRect)))) (arg9.view.readCov (mPieces i arg3 harg3 arg4 harg4 arg5 harg5 arg6 harg6 arg9 arg10 x0 x1 x2 x3 a base 8) (Rect.unit (s := S8x64x256) ![5, 0, 0] S1x64x256.size inb_S8x64x256_S1x64x256_5_0_0).toLoadRect),
      hOut (hSum (mOf a 6) (lOf a 6) (hMask (hScore (arg5.view.readAt (Elt F) (Rect.unit (s := S1x8x2048x128) (k1_off39 i) S1x1x256x128.size (k1_off39_inb i)).toLoadRect (harg5.unread x2)) (arg10.view.readCov (qPieces arg3 harg3 arg4 harg4 x0 x1) (Rect.unit (s := S8x256x128) ![6, 0, 0] S1x256x128.size inb_S8x256x128_S1x256x128_6_0_0).toLoadRect)))) (arg9.view.readCov (mPieces i arg3 harg3 arg4 harg4 arg5 harg5 arg6 harg6 arg9 arg10 x0 x1 x2 x3 a base 8) (Rect.unit (s := S8x64x256) ![6, 0, 0] S1x64x256.size inb_S8x64x256_S1x64x256_6_0_0).toLoadRect),
      hOut (hSum (mOf a 7) (lOf a 7) (hMask (hScore (arg5.view.readAt (Elt F) (Rect.unit (s := S1x8x2048x128) (k1_off40 i) S1x1x256x128.size (k1_off40_inb i)).toLoadRect (harg5.unread x2)) (arg10.view.readCov (qPieces arg3 harg3 arg4 harg4 x0 x1) (Rect.unit (s := S8x256x128) ![7, 0, 0] S1x256x128.size inb_S8x256x128_S1x256x128_7_0_0).toLoadRect)))) (arg9.view.readCov (mPieces i arg3 harg3 arg4 harg4 arg5 harg5 arg6 harg6 arg9 arg10 x0 x1 x2 x3 a base 8) (Rect.unit (s := S8x64x256) ![7, 0, 0] S1x64x256.size inb_S8x64x256_S1x64x256_7_0_0).toLoadRect)]
      (arg7.view.readAt (Elt F) (Rect.unit (s := S1x256x512) ![0, 0, 0] S1x256x512.size inb_S1x256x512_S1x256x512_0_0_0).toLoadRect (harg7.unread x4))⟩]

/-- The state after the remainder loop, which makes no trip. -/
def end2 (w : FVec F S256x128 .bf16) : Carried F × List (View.Piece (Elt F) S8x64x256 .f32) :=
  st_k1_t2 (F := F) Variants.none c none i arg3 harg3 arg4 harg4 arg5 harg5 arg6 harg6 arg7 harg7 arg8 harg8 arg9 harg9 arg10 harg10 (BitVec.ofNat 32 (i 2).val) w (k1_t2_loop i).lb (harg5.unread x2) (harg6.unread x3)
    (arg10.view.writes (Elt F) arg10.view.junk (qPieces arg3 harg3 arg4 harg4 x0 x1))
    (arg9.view.writes (Elt F) arg9.view.junk ((end1 c i arg3 harg3 arg4 harg4 arg5 harg5 arg6 harg6 arg7 harg7 arg8 harg8 arg9 harg9 arg10 harg10 x0 x1 x2 x3 w).2 ++ zeroFill)) (end1 c i arg3 harg3 arg4 harg4 arg5 harg5 arg6 harg6 arg7 harg7 arg8 harg8 arg9 harg9 arg10 harg10 x0 x1 x2 x3 w).1 (Scf.trips (k1_t2_loop i).lb (k1_t2_loop i).ub (k1_t2_loop i).st)

theorem w_q : kernelRun1_A.sl.HS1_8 c arg3 harg3 arg4 harg4 x0 x1 = qPieces arg3 harg3 arg4 harg4 x0 x1 := rfl

theorem w_z : kernelRun1_A.sl.HS0_1 (F := F) = zeroFill := rfl

theorem w_init : ((k1_pay177, k1_pay178, k1_pay179, k1_pay180, k1_pay181, k1_pay182, k1_pay183, k1_pay184, k1_pay185, k1_pay186, k1_pay187, k1_pay188, k1_pay189, k1_pay190, k1_pay191, k1_pay192) : Carried F) = initCarried := rfl

theorem w_eta (a : Carried F) : ((a.1, a.2.1, a.2.2.1, a.2.2.2.1, a.2.2.2.2.1, a.2.2.2.2.2.1, a.2.2.2.2.2.2.1, a.2.2.2.2.2.2.2.1, a.2.2.2.2.2.2.2.2.1, a.2.2.2.2.2.2.2.2.2.1, a.2.2.2.2.2.2.2.2.2.2.1, a.2.2.2.2.2.2.2.2.2.2.2.1, a.2.2.2.2.2.2.2.2.2.2.2.2.1, a.2.2.2.2.2.2.2.2.2.2.2.2.2.1, a.2.2.2.2.2.2.2.2.2.2.2.2.2.2.1, a.2.2.2.2.2.2.2.2.2.2.2.2.2.2.2) : Carried F) = a := rfl

theorem w_m0 : kernelRun1_A.sl.r_21 c i arg3 harg3 arg4 harg4 arg5 harg5 arg6 harg6 arg7 harg7 arg8 harg8 arg9 harg9 arg10 harg10 x0 x1 x2 x3 = mOf (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 0 := by
  unfold kernelRun1_A.sl.r_21 end2 end1
  rw [w_q, w_z, w_init, w_eta]
  rfl

theorem w_l0 : kernelRun1_A.sl.r_22 c i arg3 harg3 arg4 harg4 arg5 harg5 arg6 harg6 arg7 harg7 arg8 harg8 arg9 harg9 arg10 harg10 x0 x1 x2 x3 = lOf (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 0 := by
  unfold kernelRun1_A.sl.r_22 end2 end1
  rw [w_q, w_z, w_init, w_eta]
  rfl

theorem w_m1 : kernelRun1_A.sl.r_23 c i arg3 harg3 arg4 harg4 arg5 harg5 arg6 harg6 arg7 harg7 arg8 harg8 arg9 harg9 arg10 harg10 x0 x1 x2 x3 = mOf (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 1 := by
  unfold kernelRun1_A.sl.r_23 end2 end1
  rw [w_q, w_z, w_init, w_eta]
  rfl

theorem w_l1 : kernelRun1_A.sl.r_24 c i arg3 harg3 arg4 harg4 arg5 harg5 arg6 harg6 arg7 harg7 arg8 harg8 arg9 harg9 arg10 harg10 x0 x1 x2 x3 = lOf (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 1 := by
  unfold kernelRun1_A.sl.r_24 end2 end1
  rw [w_q, w_z, w_init, w_eta]
  rfl

theorem w_m2 : kernelRun1_A.sl.r_25 c i arg3 harg3 arg4 harg4 arg5 harg5 arg6 harg6 arg7 harg7 arg8 harg8 arg9 harg9 arg10 harg10 x0 x1 x2 x3 = mOf (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 2 := by
  unfold kernelRun1_A.sl.r_25 end2 end1
  rw [w_q, w_z, w_init, w_eta]
  rfl

theorem w_l2 : kernelRun1_A.sl.r_26 c i arg3 harg3 arg4 harg4 arg5 harg5 arg6 harg6 arg7 harg7 arg8 harg8 arg9 harg9 arg10 harg10 x0 x1 x2 x3 = lOf (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 2 := by
  unfold kernelRun1_A.sl.r_26 end2 end1
  rw [w_q, w_z, w_init, w_eta]
  rfl

theorem w_m3 : kernelRun1_A.sl.r_27 c i arg3 harg3 arg4 harg4 arg5 harg5 arg6 harg6 arg7 harg7 arg8 harg8 arg9 harg9 arg10 harg10 x0 x1 x2 x3 = mOf (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 3 := by
  unfold kernelRun1_A.sl.r_27 end2 end1
  rw [w_q, w_z, w_init, w_eta]
  rfl

theorem w_l3 : kernelRun1_A.sl.r_28 c i arg3 harg3 arg4 harg4 arg5 harg5 arg6 harg6 arg7 harg7 arg8 harg8 arg9 harg9 arg10 harg10 x0 x1 x2 x3 = lOf (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 3 := by
  unfold kernelRun1_A.sl.r_28 end2 end1
  rw [w_q, w_z, w_init, w_eta]
  rfl

theorem w_m4 : kernelRun1_A.sl.r_29 c i arg3 harg3 arg4 harg4 arg5 harg5 arg6 harg6 arg7 harg7 arg8 harg8 arg9 harg9 arg10 harg10 x0 x1 x2 x3 = mOf (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 4 := by
  unfold kernelRun1_A.sl.r_29 end2 end1
  rw [w_q, w_z, w_init, w_eta]
  rfl

theorem w_l4 : kernelRun1_A.sl.r_30 c i arg3 harg3 arg4 harg4 arg5 harg5 arg6 harg6 arg7 harg7 arg8 harg8 arg9 harg9 arg10 harg10 x0 x1 x2 x3 = lOf (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 4 := by
  unfold kernelRun1_A.sl.r_30 end2 end1
  rw [w_q, w_z, w_init, w_eta]
  rfl

theorem w_m5 : kernelRun1_A.sl.r_31 c i arg3 harg3 arg4 harg4 arg5 harg5 arg6 harg6 arg7 harg7 arg8 harg8 arg9 harg9 arg10 harg10 x0 x1 x2 x3 = mOf (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 5 := by
  unfold kernelRun1_A.sl.r_31 end2 end1
  rw [w_q, w_z, w_init, w_eta]
  rfl

theorem w_l5 : kernelRun1_A.sl.r_32 c i arg3 harg3 arg4 harg4 arg5 harg5 arg6 harg6 arg7 harg7 arg8 harg8 arg9 harg9 arg10 harg10 x0 x1 x2 x3 = lOf (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 5 := by
  unfold kernelRun1_A.sl.r_32 end2 end1
  rw [w_q, w_z, w_init, w_eta]
  rfl

theorem w_m6 : kernelRun1_A.sl.r_33 c i arg3 harg3 arg4 harg4 arg5 harg5 arg6 harg6 arg7 harg7 arg8 harg8 arg9 harg9 arg10 harg10 x0 x1 x2 x3 = mOf (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 6 := by
  unfold kernelRun1_A.sl.r_33 end2 end1
  rw [w_q, w_z, w_init, w_eta]
  rfl

theorem w_l6 : kernelRun1_A.sl.r_34 c i arg3 harg3 arg4 harg4 arg5 harg5 arg6 harg6 arg7 harg7 arg8 harg8 arg9 harg9 arg10 harg10 x0 x1 x2 x3 = lOf (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 6 := by
  unfold kernelRun1_A.sl.r_34 end2 end1
  rw [w_q, w_z, w_init, w_eta]
  rfl

theorem w_m7 : kernelRun1_A.sl.r_35 c i arg3 harg3 arg4 harg4 arg5 harg5 arg6 harg6 arg7 harg7 arg8 harg8 arg9 harg9 arg10 harg10 x0 x1 x2 x3 = mOf (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 7 := by
  unfold kernelRun1_A.sl.r_35 end2 end1
  rw [w_q, w_z, w_init, w_eta]
  rfl

theorem w_l7 : kernelRun1_A.sl.r_36 c i arg3 harg3 arg4 harg4 arg5 harg5 arg6 harg6 arg7 harg7 arg8 harg8 arg9 harg9 arg10 harg10 x0 x1 x2 x3 = lOf (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 7 := by
  unfold kernelRun1_A.sl.r_36 end2 end1
  rw [w_q, w_z, w_init, w_eta]
  rfl

theorem w_s0 : kernelRun1_A.sl.r_45 c i arg3 harg3 arg4 harg4 arg5 harg5 arg10 x0 x1 x2 = (hMask (hScore (arg5.view.readAt (Elt F) (Rect.unit (s := S1x8x2048x128) (k1_off33 i) S1x1x256x128.size (k1_off33_inb i)).toLoadRect (harg5.unread x2)) (arg10.view.readCov (qPieces arg3 harg3 arg4 harg4 x0 x1) (Rect.unit (s := S8x256x128) ![0, 0, 0] S1x256x128.size inb_S8x256x128_S1x256x128_0_0_0).toLoadRect))) := by
  rw [← w_q]; rfl

theorem w_s1 : kernelRun1_A.sl.r_46 c i arg3 harg3 arg4 harg4 arg5 harg5 arg10 x0 x1 x2 = (hMask (hScore (arg5.view.readAt (Elt F) (Rect.unit (s := S1x8x2048x128) (k1_off34 i) S1x1x256x128.size (k1_off34_inb i)).toLoadRect (harg5.unread x2)) (arg10.view.readCov (qPieces arg3 harg3 arg4 harg4 x0 x1) (Rect.unit (s := S8x256x128) ![1, 0, 0] S1x256x128.size inb_S8x256x128_S1x256x128_1_0_0).toLoadRect))) := by
  rw [← w_q]; rfl

theorem w_s2 : kernelRun1_A.sl.r_47 c i arg3 harg3 arg4 harg4 arg5 harg5 arg10 x0 x1 x2 = (hMask (hScore (arg5.view.readAt (Elt F) (Rect.unit (s := S1x8x2048x128) (k1_off35 i) S1x1x256x128.size (k1_off35_inb i)).toLoadRect (harg5.unread x2)) (arg10.view.readCov (qPieces arg3 harg3 arg4 harg4 x0 x1) (Rect.unit (s := S8x256x128) ![2, 0, 0] S1x256x128.size inb_S8x256x128_S1x256x128_2_0_0).toLoadRect))) := by
  rw [← w_q]; rfl

theorem w_s3 : kernelRun1_A.sl.r_48 c i arg3 harg3 arg4 harg4 arg5 harg5 arg10 x0 x1 x2 = (hMask (hScore (arg5.view.readAt (Elt F) (Rect.unit (s := S1x8x2048x128) (k1_off36 i) S1x1x256x128.size (k1_off36_inb i)).toLoadRect (harg5.unread x2)) (arg10.view.readCov (qPieces arg3 harg3 arg4 harg4 x0 x1) (Rect.unit (s := S8x256x128) ![3, 0, 0] S1x256x128.size inb_S8x256x128_S1x256x128_3_0_0).toLoadRect))) := by
  rw [← w_q]; rfl

theorem w_s4 : kernelRun1_A.sl.r_49 c i arg3 harg3 arg4 harg4 arg5 harg5 arg10 x0 x1 x2 = (hMask (hScore (arg5.view.readAt (Elt F) (Rect.unit (s := S1x8x2048x128) (k1_off37 i) S1x1x256x128.size (k1_off37_inb i)).toLoadRect (harg5.unread x2)) (arg10.view.readCov (qPieces arg3 harg3 arg4 harg4 x0 x1) (Rect.unit (s := S8x256x128) ![4, 0, 0] S1x256x128.size inb_S8x256x128_S1x256x128_4_0_0).toLoadRect))) := by
  rw [← w_q]; rfl

theorem w_s5 : kernelRun1_A.sl.r_50 c i arg3 harg3 arg4 harg4 arg5 harg5 arg10 x0 x1 x2 = (hMask (hScore (arg5.view.readAt (Elt F) (Rect.unit (s := S1x8x2048x128) (k1_off38 i) S1x1x256x128.size (k1_off38_inb i)).toLoadRect (harg5.unread x2)) (arg10.view.readCov (qPieces arg3 harg3 arg4 harg4 x0 x1) (Rect.unit (s := S8x256x128) ![5, 0, 0] S1x256x128.size inb_S8x256x128_S1x256x128_5_0_0).toLoadRect))) := by
  rw [← w_q]; rfl

theorem w_s6 : kernelRun1_A.sl.r_51 c i arg3 harg3 arg4 harg4 arg5 harg5 arg10 x0 x1 x2 = (hMask (hScore (arg5.view.readAt (Elt F) (Rect.unit (s := S1x8x2048x128) (k1_off39 i) S1x1x256x128.size (k1_off39_inb i)).toLoadRect (harg5.unread x2)) (arg10.view.readCov (qPieces arg3 harg3 arg4 harg4 x0 x1) (Rect.unit (s := S8x256x128) ![6, 0, 0] S1x256x128.size inb_S8x256x128_S1x256x128_6_0_0).toLoadRect))) := by
  rw [← w_q]; rfl

theorem w_s7 : kernelRun1_A.sl.r_52 c i arg3 harg3 arg4 harg4 arg5 harg5 arg10 x0 x1 x2 = (hMask (hScore (arg5.view.readAt (Elt F) (Rect.unit (s := S1x8x2048x128) (k1_off40 i) S1x1x256x128.size (k1_off40_inb i)).toLoadRect (harg5.unread x2)) (arg10.view.readCov (qPieces arg3 harg3 arg4 harg4 x0 x1) (Rect.unit (s := S8x256x128) ![7, 0, 0] S1x256x128.size inb_S8x256x128_S1x256x128_7_0_0).toLoadRect))) := by
  rw [← w_q]; rfl

theorem w_b : (arg9.view.readCov ((end2 c i arg3 harg3 arg4 harg4 arg5 harg5 arg6 harg6 arg7 harg7 arg8 harg8 arg9 harg9 arg10 harg10 x0 x1 x2 x3 (kernelRun1_A.sl.r_20 c arg3 harg3 arg4 harg4 x0 x1)).2 ++ ((end1 c i arg3 harg3 arg4 harg4 arg5 harg5 arg6 harg6 arg7 harg7 arg8 harg8 arg9 harg9 arg10 harg10 x0 x1 x2 x3 (kernelRun1_A.sl.r_20 c arg3 harg3 arg4 harg4 x0 x1)).2 ++ zeroFill)) (Rect.unit (s := S8x64x256) ![0, 0, 0] S1x64x256.size inb_S8x64x256_S1x64x256_0_0_0).toLoadRect = kernelRun1_A.sl.v533 c i arg3 harg3 arg4 harg4 arg5 harg5 arg6 harg6 arg7 harg7 arg8 harg8 arg9 harg9 arg10 harg10 x0 x1 x2 x3) := by
  unfold kernelRun1_A.sl.v533 end2 end1
  rw [w_q, w_z, w_init, w_eta]
  rfl

theorem w_h1 : kernelRun1_A.sl.HS0_1_1 c i arg3 harg3 arg4 harg4 arg5 harg5 arg6 harg6 arg7 harg7 arg8 harg8 arg9 harg9 arg10 harg10 x0 x1 x2 x3 = mPieces i arg3 harg3 arg4 harg4 arg5 harg5 arg6 harg6 arg9 arg10 x0 x1 x2 x3 (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 ((end2 c i arg3 harg3 arg4 harg4 arg5 harg5 arg6 harg6 arg7 harg7 arg8 harg8 arg9 harg9 arg10 harg10 x0 x1 x2 x3 (kernelRun1_A.sl.r_20 c arg3 harg3 arg4 harg4 x0 x1)).2 ++ ((end1 c i arg3 harg3 arg4 harg4 arg5 harg5 arg6 harg6 arg7 harg7 arg8 harg8 arg9 harg9 arg10 harg10 x0 x1 x2 x3 (kernelRun1_A.sl.r_20 c arg3 harg3 arg4 harg4 x0 x1)).2 ++ zeroFill)) 1 := by
  have hs : ∃ B, kernelRun1_A.sl.HS0_1_1 c i arg3 harg3 arg4 harg4 arg5 harg5 arg6 harg6 arg7 harg7 arg8 harg8 arg9 harg9 arg10 harg10 x0 x1 x2 x3 = ⟨(Rect.unit (s := S8x64x256) ![0, 0, 0] S1x64x256.size inb_S8x64x256_S1x64x256_0_0_0), hAcc (kernelRun1_A.sl.r_21 c i arg3 harg3 arg4 harg4 arg5 harg5 arg6 harg6 arg7 harg7 arg8 harg8 arg9 harg9 arg10 harg10 x0 x1 x2 x3) (kernelRun1_A.sl.r_45 c i arg3 harg3 arg4 harg4 arg5 harg5 arg10 x0 x1 x2) (arg6.view.readAt (Elt F) (Rect.unit (s := S1x8x64x2048) (k1_off41 i) S1x1x64x256.size (k1_off41_inb i)).toLoadRect (harg6.unread x3)) (kernelRun1_A.sl.v533 c i arg3 harg3 arg4 harg4 arg5 harg5 arg6 harg6 arg7 harg7 arg8 harg8 arg9 harg9 arg10 harg10 x0 x1 x2 x3)⟩ :: B ∧ B = (end2 c i arg3 harg3 arg4 harg4 arg5 harg5 arg6 harg6 arg7 harg7 arg8 harg8 arg9 harg9 arg10 harg10 x0 x1 x2 x3 (kernelRun1_A.sl.r_20 c arg3 harg3 arg4 harg4 x0 x1)).2 ++ ((end1 c i arg3 harg3 arg4 harg4 arg5 harg5 arg6 harg6 arg7 harg7 arg8 harg8 arg9 harg9 arg10 harg10 x0 x1 x2 x3 (kernelRun1_A.sl.r_20 c arg3 harg3 arg4 harg4 x0 x1)).2 ++ zeroFill) := by
    refine ⟨_, rfl, ?_⟩
    unfold end2 end1
    rw [w_q, w_z, w_init, w_eta]
    rfl
  obtain ⟨B, hs, hB⟩ := hs
  rw [hs, hB, w_m0, w_s0, ← w_b]
  rw [mPieces, mPieces]

theorem w_h2 : kernelRun1_A.sl.HS0_2 c i arg3 harg3 arg4 harg4 arg5 harg5 arg6 harg6 arg7 harg7 arg8 harg8 arg9 harg9 arg10 harg10 x0 x1 x2 x3 = mPieces i arg3 harg3 arg4 harg4 arg5 harg5 arg6 harg6 arg9 arg10 x0 x1 x2 x3 (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 ((end2 c i arg3 harg3 arg4 harg4 arg5 harg5 arg6 harg6 arg7 harg7 arg8 harg8 arg9 harg9 arg10 harg10 x0 x1 x2 x3 (kernelRun1_A.sl.r_20 c arg3 harg3 arg4 harg4 x0 x1)).2 ++ ((end1 c i arg3 harg3 arg4 harg4 arg5 harg5 arg6 harg6 arg7 harg7 arg8 harg8 arg9 harg9 arg10 harg10 x0 x1 x2 x3 (kernelRun1_A.sl.r_20 c arg3 harg3 arg4 harg4 x0 x1)).2 ++ zeroFill)) 2 := by
  have hs : kernelRun1_A.sl.HS0_2 c i arg3 harg3 arg4 harg4 arg5 harg5 arg6 harg6 arg7 harg7 arg8 harg8 arg9 harg9 arg10 harg10 x0 x1 x2 x3 = ⟨(Rect.unit (s := S8x64x256) ![1, 0, 0] S1x64x256.size inb_S8x64x256_S1x64x256_1_0_0), hAcc (kernelRun1_A.sl.r_23 c i arg3 harg3 arg4 harg4 arg5 harg5 arg6 harg6 arg7 harg7 arg8 harg8 arg9 harg9 arg10 harg10 x0 x1 x2 x3) (kernelRun1_A.sl.r_46 c i arg3 harg3 arg4 harg4 arg5 harg5 arg10 x0 x1 x2) (arg6.view.readAt (Elt F) (Rect.unit (s := S1x8x64x2048) (k1_off42 i) S1x1x64x256.size (k1_off42_inb i)).toLoadRect (harg6.unread x3)) (arg9.view.readCov (kernelRun1_A.sl.HS0_1_1 c i arg3 harg3 arg4 harg4 arg5 harg5 arg6 harg6 arg7 harg7 arg8 harg8 arg9 harg9 arg10 harg10 x0 x1 x2 x3) (Rect.unit (s := S8x64x256) ![1, 0, 0] S1x64x256.size inb_S8x64x256_S1x64x256_1_0_0).toLoadRect)⟩ :: kernelRun1_A.sl.HS0_1_1 c i arg3 harg3 arg4 harg4 arg5 harg5 arg6 harg6 arg7 harg7 arg8 harg8 arg9 harg9 arg10 harg10 x0 x1 x2 x3 := rfl
  rw [hs, w_h1, w_m1, w_s1]
  conv_rhs => rw [mPieces]

theorem w_h3 : kernelRun1_A.sl.HS0_3 c i arg3 harg3 arg4 harg4 arg5 harg5 arg6 harg6 arg7 harg7 arg8 harg8 arg9 harg9 arg10 harg10 x0 x1 x2 x3 = mPieces i arg3 harg3 arg4 harg4 arg5 harg5 arg6 harg6 arg9 arg10 x0 x1 x2 x3 (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 ((end2 c i arg3 harg3 arg4 harg4 arg5 harg5 arg6 harg6 arg7 harg7 arg8 harg8 arg9 harg9 arg10 harg10 x0 x1 x2 x3 (kernelRun1_A.sl.r_20 c arg3 harg3 arg4 harg4 x0 x1)).2 ++ ((end1 c i arg3 harg3 arg4 harg4 arg5 harg5 arg6 harg6 arg7 harg7 arg8 harg8 arg9 harg9 arg10 harg10 x0 x1 x2 x3 (kernelRun1_A.sl.r_20 c arg3 harg3 arg4 harg4 x0 x1)).2 ++ zeroFill)) 3 := by
  have hs : kernelRun1_A.sl.HS0_3 c i arg3 harg3 arg4 harg4 arg5 harg5 arg6 harg6 arg7 harg7 arg8 harg8 arg9 harg9 arg10 harg10 x0 x1 x2 x3 = ⟨(Rect.unit (s := S8x64x256) ![2, 0, 0] S1x64x256.size inb_S8x64x256_S1x64x256_2_0_0), hAcc (kernelRun1_A.sl.r_25 c i arg3 harg3 arg4 harg4 arg5 harg5 arg6 harg6 arg7 harg7 arg8 harg8 arg9 harg9 arg10 harg10 x0 x1 x2 x3) (kernelRun1_A.sl.r_47 c i arg3 harg3 arg4 harg4 arg5 harg5 arg10 x0 x1 x2) (arg6.view.readAt (Elt F) (Rect.unit (s := S1x8x64x2048) (k1_off43 i) S1x1x64x256.size (k1_off43_inb i)).toLoadRect (harg6.unread x3)) (arg9.view.readCov (kernelRun1_A.sl.HS0_2 c i arg3 harg3 arg4 harg4 arg5 harg5 arg6 harg6 arg7 harg7 arg8 harg8 arg9 harg9 arg10 harg10 x0 x1 x2 x3) (Rect.unit (s := S8x64x256) ![2, 0, 0] S1x64x256.size inb_S8x64x256_S1x64x256_2_0_0).toLoadRect)⟩ :: kernelRun1_A.sl.HS0_2 c i arg3 harg3 arg4 harg4 arg5 harg5 arg6 harg6 arg7 harg7 arg8 harg8 arg9 harg9 arg10 harg10 x0 x1 x2 x3 := rfl
  rw [hs, w_h2, w_m2, w_s2]
  conv_rhs => rw [mPieces]

theorem w_h4 : kernelRun1_A.sl.HS0_4 c i arg3 harg3 arg4 harg4 arg5 harg5 arg6 harg6 arg7 harg7 arg8 harg8 arg9 harg9 arg10 harg10 x0 x1 x2 x3 = mPieces i arg3 harg3 arg4 harg4 arg5 harg5 arg6 harg6 arg9 arg10 x0 x1 x2 x3 (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 ((end2 c i arg3 harg3 arg4 harg4 arg5 harg5 arg6 harg6 arg7 harg7 arg8 harg8 arg9 harg9 arg10 harg10 x0 x1 x2 x3 (kernelRun1_A.sl.r_20 c arg3 harg3 arg4 harg4 x0 x1)).2 ++ ((end1 c i arg3 harg3 arg4 harg4 arg5 harg5 arg6 harg6 arg7 harg7 arg8 harg8 arg9 harg9 arg10 harg10 x0 x1 x2 x3 (kernelRun1_A.sl.r_20 c arg3 harg3 arg4 harg4 x0 x1)).2 ++ zeroFill)) 4 := by
  have hs : kernelRun1_A.sl.HS0_4 c i arg3 harg3 arg4 harg4 arg5 harg5 arg6 harg6 arg7 harg7 arg8 harg8 arg9 harg9 arg10 harg10 x0 x1 x2 x3 = ⟨(Rect.unit (s := S8x64x256) ![3, 0, 0] S1x64x256.size inb_S8x64x256_S1x64x256_3_0_0), hAcc (kernelRun1_A.sl.r_27 c i arg3 harg3 arg4 harg4 arg5 harg5 arg6 harg6 arg7 harg7 arg8 harg8 arg9 harg9 arg10 harg10 x0 x1 x2 x3) (kernelRun1_A.sl.r_48 c i arg3 harg3 arg4 harg4 arg5 harg5 arg10 x0 x1 x2) (arg6.view.readAt (Elt F) (Rect.unit (s := S1x8x64x2048) (k1_off44 i) S1x1x64x256.size (k1_off44_inb i)).toLoadRect (harg6.unread x3)) (arg9.view.readCov (kernelRun1_A.sl.HS0_3 c i arg3 harg3 arg4 harg4 arg5 harg5 arg6 harg6 arg7 harg7 arg8 harg8 arg9 harg9 arg10 harg10 x0 x1 x2 x3) (Rect.unit (s := S8x64x256) ![3, 0, 0] S1x64x256.size inb_S8x64x256_S1x64x256_3_0_0).toLoadRect)⟩ :: kernelRun1_A.sl.HS0_3 c i arg3 harg3 arg4 harg4 arg5 harg5 arg6 harg6 arg7 harg7 arg8 harg8 arg9 harg9 arg10 harg10 x0 x1 x2 x3 := rfl
  rw [hs, w_h3, w_m3, w_s3]
  conv_rhs => rw [mPieces]

theorem w_h5 : kernelRun1_A.sl.HS0_5 c i arg3 harg3 arg4 harg4 arg5 harg5 arg6 harg6 arg7 harg7 arg8 harg8 arg9 harg9 arg10 harg10 x0 x1 x2 x3 = mPieces i arg3 harg3 arg4 harg4 arg5 harg5 arg6 harg6 arg9 arg10 x0 x1 x2 x3 (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 ((end2 c i arg3 harg3 arg4 harg4 arg5 harg5 arg6 harg6 arg7 harg7 arg8 harg8 arg9 harg9 arg10 harg10 x0 x1 x2 x3 (kernelRun1_A.sl.r_20 c arg3 harg3 arg4 harg4 x0 x1)).2 ++ ((end1 c i arg3 harg3 arg4 harg4 arg5 harg5 arg6 harg6 arg7 harg7 arg8 harg8 arg9 harg9 arg10 harg10 x0 x1 x2 x3 (kernelRun1_A.sl.r_20 c arg3 harg3 arg4 harg4 x0 x1)).2 ++ zeroFill)) 5 := by
  have hs : kernelRun1_A.sl.HS0_5 c i arg3 harg3 arg4 harg4 arg5 harg5 arg6 harg6 arg7 harg7 arg8 harg8 arg9 harg9 arg10 harg10 x0 x1 x2 x3 = ⟨(Rect.unit (s := S8x64x256) ![4, 0, 0] S1x64x256.size inb_S8x64x256_S1x64x256_4_0_0), hAcc (kernelRun1_A.sl.r_29 c i arg3 harg3 arg4 harg4 arg5 harg5 arg6 harg6 arg7 harg7 arg8 harg8 arg9 harg9 arg10 harg10 x0 x1 x2 x3) (kernelRun1_A.sl.r_49 c i arg3 harg3 arg4 harg4 arg5 harg5 arg10 x0 x1 x2) (arg6.view.readAt (Elt F) (Rect.unit (s := S1x8x64x2048) (k1_off45 i) S1x1x64x256.size (k1_off45_inb i)).toLoadRect (harg6.unread x3)) (arg9.view.readCov (kernelRun1_A.sl.HS0_4 c i arg3 harg3 arg4 harg4 arg5 harg5 arg6 harg6 arg7 harg7 arg8 harg8 arg9 harg9 arg10 harg10 x0 x1 x2 x3) (Rect.unit (s := S8x64x256) ![4, 0, 0] S1x64x256.size inb_S8x64x256_S1x64x256_4_0_0).toLoadRect)⟩ :: kernelRun1_A.sl.HS0_4 c i arg3 harg3 arg4 harg4 arg5 harg5 arg6 harg6 arg7 harg7 arg8 harg8 arg9 harg9 arg10 harg10 x0 x1 x2 x3 := rfl
  rw [hs, w_h4, w_m4, w_s4]
  conv_rhs => rw [mPieces]

theorem w_h6 : kernelRun1_A.sl.HS0_6 c i arg3 harg3 arg4 harg4 arg5 harg5 arg6 harg6 arg7 harg7 arg8 harg8 arg9 harg9 arg10 harg10 x0 x1 x2 x3 = mPieces i arg3 harg3 arg4 harg4 arg5 harg5 arg6 harg6 arg9 arg10 x0 x1 x2 x3 (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 ((end2 c i arg3 harg3 arg4 harg4 arg5 harg5 arg6 harg6 arg7 harg7 arg8 harg8 arg9 harg9 arg10 harg10 x0 x1 x2 x3 (kernelRun1_A.sl.r_20 c arg3 harg3 arg4 harg4 x0 x1)).2 ++ ((end1 c i arg3 harg3 arg4 harg4 arg5 harg5 arg6 harg6 arg7 harg7 arg8 harg8 arg9 harg9 arg10 harg10 x0 x1 x2 x3 (kernelRun1_A.sl.r_20 c arg3 harg3 arg4 harg4 x0 x1)).2 ++ zeroFill)) 6 := by
  have hs : kernelRun1_A.sl.HS0_6 c i arg3 harg3 arg4 harg4 arg5 harg5 arg6 harg6 arg7 harg7 arg8 harg8 arg9 harg9 arg10 harg10 x0 x1 x2 x3 = ⟨(Rect.unit (s := S8x64x256) ![5, 0, 0] S1x64x256.size inb_S8x64x256_S1x64x256_5_0_0), hAcc (kernelRun1_A.sl.r_31 c i arg3 harg3 arg4 harg4 arg5 harg5 arg6 harg6 arg7 harg7 arg8 harg8 arg9 harg9 arg10 harg10 x0 x1 x2 x3) (kernelRun1_A.sl.r_50 c i arg3 harg3 arg4 harg4 arg5 harg5 arg10 x0 x1 x2) (arg6.view.readAt (Elt F) (Rect.unit (s := S1x8x64x2048) (k1_off46 i) S1x1x64x256.size (k1_off46_inb i)).toLoadRect (harg6.unread x3)) (arg9.view.readCov (kernelRun1_A.sl.HS0_5 c i arg3 harg3 arg4 harg4 arg5 harg5 arg6 harg6 arg7 harg7 arg8 harg8 arg9 harg9 arg10 harg10 x0 x1 x2 x3) (Rect.unit (s := S8x64x256) ![5, 0, 0] S1x64x256.size inb_S8x64x256_S1x64x256_5_0_0).toLoadRect)⟩ :: kernelRun1_A.sl.HS0_5 c i arg3 harg3 arg4 harg4 arg5 harg5 arg6 harg6 arg7 harg7 arg8 harg8 arg9 harg9 arg10 harg10 x0 x1 x2 x3 := rfl
  rw [hs, w_h5, w_m5, w_s5]
  conv_rhs => rw [mPieces]

theorem w_h7 : kernelRun1_A.sl.HS0_7 c i arg3 harg3 arg4 harg4 arg5 harg5 arg6 harg6 arg7 harg7 arg8 harg8 arg9 harg9 arg10 harg10 x0 x1 x2 x3 = mPieces i arg3 harg3 arg4 harg4 arg5 harg5 arg6 harg6 arg9 arg10 x0 x1 x2 x3 (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 ((end2 c i arg3 harg3 arg4 harg4 arg5 harg5 arg6 harg6 arg7 harg7 arg8 harg8 arg9 harg9 arg10 harg10 x0 x1 x2 x3 (kernelRun1_A.sl.r_20 c arg3 harg3 arg4 harg4 x0 x1)).2 ++ ((end1 c i arg3 harg3 arg4 harg4 arg5 harg5 arg6 harg6 arg7 harg7 arg8 harg8 arg9 harg9 arg10 harg10 x0 x1 x2 x3 (kernelRun1_A.sl.r_20 c arg3 harg3 arg4 harg4 x0 x1)).2 ++ zeroFill)) 7 := by
  have hs : kernelRun1_A.sl.HS0_7 c i arg3 harg3 arg4 harg4 arg5 harg5 arg6 harg6 arg7 harg7 arg8 harg8 arg9 harg9 arg10 harg10 x0 x1 x2 x3 = ⟨(Rect.unit (s := S8x64x256) ![6, 0, 0] S1x64x256.size inb_S8x64x256_S1x64x256_6_0_0), hAcc (kernelRun1_A.sl.r_33 c i arg3 harg3 arg4 harg4 arg5 harg5 arg6 harg6 arg7 harg7 arg8 harg8 arg9 harg9 arg10 harg10 x0 x1 x2 x3) (kernelRun1_A.sl.r_51 c i arg3 harg3 arg4 harg4 arg5 harg5 arg10 x0 x1 x2) (arg6.view.readAt (Elt F) (Rect.unit (s := S1x8x64x2048) (k1_off47 i) S1x1x64x256.size (k1_off47_inb i)).toLoadRect (harg6.unread x3)) (arg9.view.readCov (kernelRun1_A.sl.HS0_6 c i arg3 harg3 arg4 harg4 arg5 harg5 arg6 harg6 arg7 harg7 arg8 harg8 arg9 harg9 arg10 harg10 x0 x1 x2 x3) (Rect.unit (s := S8x64x256) ![6, 0, 0] S1x64x256.size inb_S8x64x256_S1x64x256_6_0_0).toLoadRect)⟩ :: kernelRun1_A.sl.HS0_6 c i arg3 harg3 arg4 harg4 arg5 harg5 arg6 harg6 arg7 harg7 arg8 harg8 arg9 harg9 arg10 harg10 x0 x1 x2 x3 := rfl
  rw [hs, w_h6, w_m6, w_s6]
  conv_rhs => rw [mPieces]

theorem w_h8 : kernelRun1_A.sl.HS0_8 c i arg3 harg3 arg4 harg4 arg5 harg5 arg6 harg6 arg7 harg7 arg8 harg8 arg9 harg9 arg10 harg10 x0 x1 x2 x3 = mPieces i arg3 harg3 arg4 harg4 arg5 harg5 arg6 harg6 arg9 arg10 x0 x1 x2 x3 (end2 c i arg3 harg3 arg4 harg4 arg5 harg5 arg6 harg6 arg7 harg7 arg8 harg8 arg9 harg9 arg10 harg10 x0 x1 x2 x3 (kernelRun1_A.sl.r_20 c arg3 harg3 arg4 harg4 x0 x1)).1 ((end2 c i arg3 harg3 arg4 harg4 arg5 harg5 arg6 harg6 arg7 harg7 arg8 harg8 arg9 harg9 arg10 harg10 x0 x1 x2 x3 (kernelRun1_A.sl.r_20 c arg3 harg3 arg4 harg4 x0 x1)).2 ++ ((end1 c i arg3 harg3 arg4 harg4 arg5 harg5 arg6 harg6 arg7 harg7 arg8 harg8 arg9 harg9 arg10 harg10 x0 x1 x2 x3 (kernelRun1_A.sl.r_20 c arg3 harg3 arg4 harg4 x0 x1)).2 ++ zeroFill)) 8 := by
  have hs : kernelRun1_A.sl.HS0_8 c i arg3 harg3 arg4 harg4 arg5 harg5 arg6 harg6 arg7 harg7 arg8 harg8 arg9 harg9 arg10 harg10 x0 x1 x2 x3 = ⟨(Rect.unit (s := S8x64x256) ![7, 0, 0] S1x64x256.size inb_S8x64x256_S1x64x256_7_0_0), hAcc (kernelRun1_A.sl.r_35 c i arg3 harg3 arg4 harg4 arg5 harg5 arg6 harg6 arg7 harg7 arg8 harg8 arg9 harg9 arg10 harg10 x0 x1 x2 x3) (kernelRun1_A.sl.r_52 c i arg3 harg3 arg4 harg4 arg5 harg5 arg10 x0 x1 x2) (arg6.view.readAt (Elt F) (Rect.unit (s := S1x8x64x2048) (k1_off48 i) S1x1x64x256.size (k1_off48_inb i)).toLoadRect (harg6.unread x3)) (arg9.view.readCov (kernelRun1_A.sl.HS0_7 c i arg3 harg3 arg4 harg4 arg5 harg5 arg6 harg6 arg7 harg7 arg8 harg8 arg9 harg9 arg10 harg10 x0 x1 x2 x3) (Rect.unit (s := S8x64x256) ![7, 0, 0] S1x64x256.size inb_S8x64x256_S1x64x256_7_0_0).toLoadRect)⟩ :: kernelRun1_A.sl.HS0_7 c i arg3 harg3 arg4 harg4 arg5 harg5 arg6 harg6 arg7 harg7 arg8 harg8 arg9 harg9 arg10 harg10 x0 x1 x2 x3 := rfl
  rw [hs, w_h7, w_m7, w_s7]
  conv_rhs => rw [mPieces]

/-- What the body stores to its output block. -/
theorem run_eq : ∃ w : FVec F S256x128 .bf16,
    (kernelRun1_A c i arg3 harg3 arg4 harg4 arg5 harg5 arg6 harg6 arg7 harg7 arg8 harg8 arg9 harg9 arg10 harg10 x0 x1 x2 x3 x4).1
      = outPieces i arg3 harg3 arg4 harg4 arg5 harg5 arg6 harg6 arg7 harg7 arg9 arg10 x0 x1 x2 x3 x4
          (end2 c i arg3 harg3 arg4 harg4 arg5 harg5 arg6 harg6 arg7 harg7 arg8 harg8 arg9 harg9 arg10 harg10 x0 x1 x2 x3 w).1 ((end2 c i arg3 harg3 arg4 harg4 arg5 harg5 arg6 harg6 arg7 harg7 arg8 harg8 arg9 harg9 arg10 harg10 x0 x1 x2 x3 w).2 ++ ((end1 c i arg3 harg3 arg4 harg4 arg5 harg5 arg6 harg6 arg7 harg7 arg8 harg8 arg9 harg9 arg10 harg10 x0 x1 x2 x3 w).2 ++ zeroFill)) := by
  refine ⟨(kernelRun1_A.sl.r_20 c arg3 harg3 arg4 harg4 x0 x1), ?_⟩
  have hs : (kernelRun1_A c i arg3 harg3 arg4 harg4 arg5 harg5 arg6 harg6 arg7 harg7 arg8 harg8 arg9 harg9 arg10 harg10 x0 x1 x2 x3 x4).1 = [⟨Rect.unit (s := S1x256x512) ![0, 0, 0] S1x256x512.size inb_S1x256x512_S1x256x512_0_0_0,
    outBlk ![hOut (hSum (kernelRun1_A.sl.r_21 c i arg3 harg3 arg4 harg4 arg5 harg5 arg6 harg6 arg7 harg7 arg8 harg8 arg9 harg9 arg10 harg10 x0 x1 x2 x3) (kernelRun1_A.sl.r_22 c i arg3 harg3 arg4 harg4 arg5 harg5 arg6 harg6 arg7 harg7 arg8 harg8 arg9 harg9 arg10 harg10 x0 x1 x2 x3) (kernelRun1_A.sl.r_45 c i arg3 harg3 arg4 harg4 arg5 harg5 arg10 x0 x1 x2)) (arg9.view.readCov (kernelRun1_A.sl.HS0_8 c i arg3 harg3 arg4 harg4 arg5 harg5 arg6 harg6 arg7 harg7 arg8 harg8 arg9 harg9 arg10 harg10 x0 x1 x2 x3) (Rect.unit (s := S8x64x256) ![0, 0, 0] S1x64x256.size inb_S8x64x256_S1x64x256_0_0_0).toLoadRect),
      hOut (hSum (kernelRun1_A.sl.r_23 c i arg3 harg3 arg4 harg4 arg5 harg5 arg6 harg6 arg7 harg7 arg8 harg8 arg9 harg9 arg10 harg10 x0 x1 x2 x3) (kernelRun1_A.sl.r_24 c i arg3 harg3 arg4 harg4 arg5 harg5 arg6 harg6 arg7 harg7 arg8 harg8 arg9 harg9 arg10 harg10 x0 x1 x2 x3) (kernelRun1_A.sl.r_46 c i arg3 harg3 arg4 harg4 arg5 harg5 arg10 x0 x1 x2)) (arg9.view.readCov (kernelRun1_A.sl.HS0_8 c i arg3 harg3 arg4 harg4 arg5 harg5 arg6 harg6 arg7 harg7 arg8 harg8 arg9 harg9 arg10 harg10 x0 x1 x2 x3) (Rect.unit (s := S8x64x256) ![1, 0, 0] S1x64x256.size inb_S8x64x256_S1x64x256_1_0_0).toLoadRect),
      hOut (hSum (kernelRun1_A.sl.r_25 c i arg3 harg3 arg4 harg4 arg5 harg5 arg6 harg6 arg7 harg7 arg8 harg8 arg9 harg9 arg10 harg10 x0 x1 x2 x3) (kernelRun1_A.sl.r_26 c i arg3 harg3 arg4 harg4 arg5 harg5 arg6 harg6 arg7 harg7 arg8 harg8 arg9 harg9 arg10 harg10 x0 x1 x2 x3) (kernelRun1_A.sl.r_47 c i arg3 harg3 arg4 harg4 arg5 harg5 arg10 x0 x1 x2)) (arg9.view.readCov (kernelRun1_A.sl.HS0_8 c i arg3 harg3 arg4 harg4 arg5 harg5 arg6 harg6 arg7 harg7 arg8 harg8 arg9 harg9 arg10 harg10 x0 x1 x2 x3) (Rect.unit (s := S8x64x256) ![2, 0, 0] S1x64x256.size inb_S8x64x256_S1x64x256_2_0_0).toLoadRect),
      hOut (hSum (kernelRun1_A.sl.r_27 c i arg3 harg3 arg4 harg4 arg5 harg5 arg6 harg6 arg7 harg7 arg8 harg8 arg9 harg9 arg10 harg10 x0 x1 x2 x3) (kernelRun1_A.sl.r_28 c i arg3 harg3 arg4 harg4 arg5 harg5 arg6 harg6 arg7 harg7 arg8 harg8 arg9 harg9 arg10 harg10 x0 x1 x2 x3) (kernelRun1_A.sl.r_48 c i arg3 harg3 arg4 harg4 arg5 harg5 arg10 x0 x1 x2)) (arg9.view.readCov (kernelRun1_A.sl.HS0_8 c i arg3 harg3 arg4 harg4 arg5 harg5 arg6 harg6 arg7 harg7 arg8 harg8 arg9 harg9 arg10 harg10 x0 x1 x2 x3) (Rect.unit (s := S8x64x256) ![3, 0, 0] S1x64x256.size inb_S8x64x256_S1x64x256_3_0_0).toLoadRect),
      hOut (hSum (kernelRun1_A.sl.r_29 c i arg3 harg3 arg4 harg4 arg5 harg5 arg6 harg6 arg7 harg7 arg8 harg8 arg9 harg9 arg10 harg10 x0 x1 x2 x3) (kernelRun1_A.sl.r_30 c i arg3 harg3 arg4 harg4 arg5 harg5 arg6 harg6 arg7 harg7 arg8 harg8 arg9 harg9 arg10 harg10 x0 x1 x2 x3) (kernelRun1_A.sl.r_49 c i arg3 harg3 arg4 harg4 arg5 harg5 arg10 x0 x1 x2)) (arg9.view.readCov (kernelRun1_A.sl.HS0_8 c i arg3 harg3 arg4 harg4 arg5 harg5 arg6 harg6 arg7 harg7 arg8 harg8 arg9 harg9 arg10 harg10 x0 x1 x2 x3) (Rect.unit (s := S8x64x256) ![4, 0, 0] S1x64x256.size inb_S8x64x256_S1x64x256_4_0_0).toLoadRect),
      hOut (hSum (kernelRun1_A.sl.r_31 c i arg3 harg3 arg4 harg4 arg5 harg5 arg6 harg6 arg7 harg7 arg8 harg8 arg9 harg9 arg10 harg10 x0 x1 x2 x3) (kernelRun1_A.sl.r_32 c i arg3 harg3 arg4 harg4 arg5 harg5 arg6 harg6 arg7 harg7 arg8 harg8 arg9 harg9 arg10 harg10 x0 x1 x2 x3) (kernelRun1_A.sl.r_50 c i arg3 harg3 arg4 harg4 arg5 harg5 arg10 x0 x1 x2)) (arg9.view.readCov (kernelRun1_A.sl.HS0_8 c i arg3 harg3 arg4 harg4 arg5 harg5 arg6 harg6 arg7 harg7 arg8 harg8 arg9 harg9 arg10 harg10 x0 x1 x2 x3) (Rect.unit (s := S8x64x256) ![5, 0, 0] S1x64x256.size inb_S8x64x256_S1x64x256_5_0_0).toLoadRect),
      hOut (hSum (kernelRun1_A.sl.r_33 c i arg3 harg3 arg4 harg4 arg5 harg5 arg6 harg6 arg7 harg7 arg8 harg8 arg9 harg9 arg10 harg10 x0 x1 x2 x3) (kernelRun1_A.sl.r_34 c i arg3 harg3 arg4 harg4 arg5 harg5 arg6 harg6 arg7 harg7 arg8 harg8 arg9 harg9 arg10 harg10 x0 x1 x2 x3) (kernelRun1_A.sl.r_51 c i arg3 harg3 arg4 harg4 arg5 harg5 arg10 x0 x1 x2)) (arg9.view.readCov (kernelRun1_A.sl.HS0_8 c i arg3 harg3 arg4 harg4 arg5 harg5 arg6 harg6 arg7 harg7 arg8 harg8 arg9 harg9 arg10 harg10 x0 x1 x2 x3) (Rect.unit (s := S8x64x256) ![6, 0, 0] S1x64x256.size inb_S8x64x256_S1x64x256_6_0_0).toLoadRect),
      hOut (hSum (kernelRun1_A.sl.r_35 c i arg3 harg3 arg4 harg4 arg5 harg5 arg6 harg6 arg7 harg7 arg8 harg8 arg9 harg9 arg10 harg10 x0 x1 x2 x3) (kernelRun1_A.sl.r_36 c i arg3 harg3 arg4 harg4 arg5 harg5 arg6 harg6 arg7 harg7 arg8 harg8 arg9 harg9 arg10 harg10 x0 x1 x2 x3) (kernelRun1_A.sl.r_52 c i arg3 harg3 arg4 harg4 arg5 harg5 arg10 x0 x1 x2)) (arg9.view.readCov (kernelRun1_A.sl.HS0_8 c i arg3 harg3 arg4 harg4 arg5 harg5 arg6 harg6 arg7 harg7 arg8 harg8 arg9 harg9 arg10 harg10 x0 x1 x2 x3) (Rect.unit (s := S8x64x256) ![7, 0, 0] S1x64x256.size inb_S8x64x256_S1x64x256_7_0_0).toLoadRect)]
      (arg7.view.readAt (Elt F) (Rect.unit (s := S1x256x512) ![0, 0, 0] S1x256x512.size inb_S1x256x512_S1x256x512_0_0_0).toLoadRect (harg7.unread x4))⟩] := rfl
  rw [hs, w_h8, w_m0, w_l0, w_m1, w_l1, w_m2, w_l2, w_m3, w_l3, w_m4, w_l4, w_m5, w_l5, w_m6, w_l6, w_m7, w_l7, w_s0, w_s1, w_s2, w_s3, w_s4, w_s5, w_s6, w_s7]
  rfl

end run

end Cert.KernelIdeal.Fox

end
-- ==== Proof.Fox.Point.lean ====
/- What one grid point of the attention's body leaves in the output block, as a function of the blocks it reads: each head's state
   after the tiles below the diagonal and the masked tile on it. -/
module

public import proofs.«01_k».proof.Proof.Fox.Run

@[expose] public section

set_option maxRecDepth 8192

noncomputable section

namespace Cert.KernelIdeal.Fox

open Idealize.ShloMosaic Idealize.ShloMosaic.TcCoe Idealize.SL.Sem
open Cert.KernelIdeal Cert.KernelIdeal.Gen

variable {F : FTy → Type} [FloatOps F] [Named F]

/-- The unmasked loop runs over the tiles below the diagonal. -/
theorem trips_eq : ∀ i : grid1.Coords, Scf.trips (k1_t1_loop i).lb (k1_t1_loop i).ub (k1_t1_loop i).st = (i 2).val := by decide +kernel

/-- The remainder loop makes no trip. -/
theorem trips2_eq : ∀ i : grid1.Coords, Scf.trips (k1_t2_loop i).lb (k1_t2_loop i).ub (k1_t2_loop i).st = 0 := by decide +kernel

/-- One column of the gates is a slice of them. -/
theorem slices_col (j : Fin 8) : S256x8.Slices ![0, j.val] S256x1 := by
  fin_cases j
  · exact slices_S256x8_o0_0_S256x1
  · exact slices_S256x8_o0_1_S256x1
  · exact slices_S256x8_o0_2_S256x1
  · exact slices_S256x8_o0_3_S256x1
  · exact slices_S256x8_o0_4_S256x1
  · exact slices_S256x8_o0_5_S256x1
  · exact slices_S256x8_o0_6_S256x1
  · exact slices_S256x8_o0_7_S256x1

/-- Head `j`'s lanes of a query block. -/
def qLanes (x0 : Vec F S1x256x512 .f32) (j : Fin 8) : Vec F S1x256x64 .f32 := fun y =>
  x0 (ix3 0 (y 1) ⟨64 * j.val + (y 2).val, by have h : (y 2).val < 64 := (y 2).isLt; have := j.isLt; omega⟩)

/-- Head `j`'s row of the query scratch, from the blocks. -/
def qBlk (x0 : Vec F S1x256x512 .f32) (x1 : Vec F S1x1x256x8 .f32) (j : Fin 8) : Vec F S1x256x128 .bf16 :=
  qHead (qLanes x0 j) x1 ![0, j.val] (slices_col j)

/-- A load of head `j`'s lanes. -/
theorem readAt_qLanes {sig : RefSig} {κ : Kind} {sp : Space} (v : View sig κ sp S1x256x512 .f32)
    (f : v.ty.Contents (Elt F)) {off : Fin 3 → ℕ} (inb) (j : Fin 8) (h : off = ![0, 0, 64 * j.val]) :
    v.readAt (Elt F) (Rect.unit (s := S1x256x512) off S1x256x64.size inb).toLoadRect f = qLanes (v.read (Elt F) f) j := by
  subst h
  funext y
  refine congrArg (v.read (Elt F) f) (funext fun a => Fin.ext ?_)
  have h0 : (y 0).val < 1 := (y 0).isLt
  fin_cases a
  · show 0 + 1 * (y 0).val = 0; omega
  · show 0 + 1 * (y 1).val = (y 1).val; omega
  · show 64 * j.val + 1 * (y 2).val = 64 * j.val + (y 2).val; omega

/-- A load of a whole block of gates. -/
theorem readAt_gates {sig : RefSig} {κ : Kind} {sp : Space} (v : View sig κ sp S1x1x256x8 .f32) (f : v.ty.Contents (Elt F)) (inb) :
    v.readAt (Elt F) (Rect.unit (s := S1x1x256x8) ![0, 0, 0, 0] S1x1x256x8.size inb).toLoadRect f = v.read (Elt F) f := by
  funext y
  refine congrArg (v.read (Elt F) f) (funext fun a => Fin.ext ?_)
  fin_cases a
  · show 0 + 1 * (y 0).val = (y 0).val; omega
  · show 0 + 1 * (y 1).val = (y 1).val; omega
  · show 0 + 1 * (y 2).val = (y 2).val; omega
  · show 0 + 1 * (y 3).val = (y 3).val; omega

/-- A load of a whole block of the output gate. -/
theorem readAt_whole {sig : RefSig} {κ : Kind} {sp : Space} (v : View sig κ sp S1x256x512 .bf16) (f : v.ty.Contents (Elt F)) (inb) :
    v.readAt (Elt F) (Rect.unit (s := S1x256x512) ![0, 0, 0] S1x256x512.size inb).toLoadRect f = v.read (Elt F) f := by
  funext y
  refine congrArg (v.read (Elt F) f) (funext fun a => Fin.ext ?_)
  fin_cases a
  · show 0 + 1 * (y 0).val = (y 0).val; omega
  · show 0 + 1 * (y 1).val = (y 1).val; omega
  · show 0 + 1 * (y 2).val = (y 2).val; omega

/-- A store to another row leaves head `j`'s query row as it was. -/
theorem qRow_skip {sig : RefSig} {κ : Kind} {sp : Space} (v : View sig κ sp S8x256x128 .bf16) (f : v.ty.Contents (Elt F))
    {off : Fin 3 → ℕ} (inb) (w : (Rect.unit (s := S8x256x128) off S1x256x128.size inb).shape.Idx → F .bf16) (L) (j j' : Fin 8)
    (h : off = ![j'.val, 0, 0]) (hne : j ≠ j') :
    qRow (v.read (Elt F) (v.writes (Elt F) f ((⟨Rect.unit (s := S8x256x128) off S1x256x128.size inb, w⟩ : View.Piece (Elt F) S8x256x128 .bf16) :: L))) j
      = qRow (v.read (Elt F) (v.writes (Elt F) f L)) j := by
  subst h
  funext y
  refine View.read_writes_cons_unit_of_not_mem v f inb w L _ rfl (0 : Fin 3) ?_
  show j.val < j'.val ∨ j'.val + 1 ≤ j.val
  have : j.val ≠ j'.val := fun e => hne (Fin.ext e)
  omega

/-- A store to head `j`'s query row is what the row then holds. -/
theorem qRow_hit {sig : RefSig} {κ : Kind} {sp : Space} (v : View sig κ sp S8x256x128 .bf16) (f : v.ty.Contents (Elt F))
    {off : Fin 3 → ℕ} (inb) (w : (Rect.unit (s := S8x256x128) off S1x256x128.size inb).shape.Idx → F .bf16) (L) (j : Fin 8)
    (h : off = ![j.val, 0, 0]) :
    qRow (v.read (Elt F) (v.writes (Elt F) f ((⟨Rect.unit (s := S8x256x128) off S1x256x128.size inb, w⟩ : View.Piece (Elt F) S8x256x128 .bf16) :: L))) j = w := by
  subst h
  funext y
  refine View.read_writes_cons_unit_of_mem v f inb w L _ y rfl ?_
  have h0 : (y 0).val < 1 := (y 0).isLt
  intro a
  fin_cases a
  · show j.val = j.val + (y 0).val; omega
  · show (y 1).val = 0 + (y 1).val; omega
  · show (y 2).val = 0 + (y 2).val; omega

section point
variable (c : Dev nD) (i : grid1.Coords) (arg3 : Memref sig .tc .vmem S1x256x512 .f32) (harg3 : arg3.IsWhole) (arg4 : Memref sig .tc .vmem S1x1x256x8 .f32) (harg4 : arg4.IsWhole) (arg5 : Memref sig .tc .vmem S1x8x2048x128 .bf16) (harg5 : arg5.IsWhole) (arg6 : Memref sig .tc .vmem S1x8x64x2048 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S8x64x256 .f32) (harg9 : arg9.IsWhole) (arg10 : Memref sig .tc .vmem S8x256x128 .bf16) (harg10 : arg10.IsWhole)
  (x0 : Vec F S1x256x512 .f32) (x1 : Vec F S1x1x256x8 .f32) (x2 : Vec F S1x8x2048x128 .bf16) (x3 : Vec F S1x8x64x2048 .bf16) (x4 : Vec F S1x256x512 .bf16)

theorem qRow_pieces (j : Fin 8) :
    qRow (arg10.view.read (Elt F) (arg10.view.writes (Elt F) arg10.view.junk (qPieces arg3 harg3 arg4 harg4 x0 x1))) j = qBlk x0 x1 j := by
  unfold qPieces
  fin_cases j
  · show qRow _ 0 = qBlk x0 x1 0
    rw [qRow_skip arg10.view _ (off := ![7, 0, 0]) _ _ _ _ 7 rfl (by decide), qRow_skip arg10.view _ (off := ![6, 0, 0]) _ _ _ _ 6 rfl (by decide), qRow_skip arg10.view _ (off := ![5, 0, 0]) _ _ _ _ 5 rfl (by decide), qRow_skip arg10.view _ (off := ![4, 0, 0]) _ _ _ _ 4 rfl (by decide), qRow_skip arg10.view _ (off := ![3, 0, 0]) _ _ _ _ 3 rfl (by decide), qRow_skip arg10.view _ (off := ![2, 0, 0]) _ _ _ _ 2 rfl (by decide), qRow_skip arg10.view _ (off := ![1, 0, 0]) _ _ _ _ 1 rfl (by decide), qRow_hit arg10.view _ (off := ![0, 0, 0]) _ _ _ 0 rfl,
      readAt_qLanes arg3.view _ (off := ![0, 0, 0]) _ 0 rfl, readAt_gates, harg3.read_unread, harg4.read_unread]
    rfl
  · show qRow _ 1 = qBlk x0 x1 1
    rw [qRow_skip arg10.view _ (off := ![7, 0, 0]) _ _ _ _ 7 rfl (by decide), qRow_skip arg10.view _ (off := ![6, 0, 0]) _ _ _ _ 6 rfl (by decide), qRow_skip arg10.view _ (off := ![5, 0, 0]) _ _ _ _ 5 rfl (by decide), qRow_skip arg10.view _ (off := ![4, 0, 0]) _ _ _ _ 4 rfl (by decide), qRow_skip arg10.view _ (off := ![3, 0, 0]) _ _ _ _ 3 rfl (by decide), qRow_skip arg10.view _ (off := ![2, 0, 0]) _ _ _ _ 2 rfl (by decide), qRow_hit arg10.view _ (off := ![1, 0, 0]) _ _ _ 1 rfl,
      readAt_qLanes arg3.view _ (off := ![0, 0, 64]) _ 1 rfl, readAt_gates, harg3.read_unread, harg4.read_unread]
    rfl
  · show qRow _ 2 = qBlk x0 x1 2
    rw [qRow_skip arg10.view _ (off := ![7, 0, 0]) _ _ _ _ 7 rfl (by decide), qRow_skip arg10.view _ (off := ![6, 0, 0]) _ _ _ _ 6 rfl (by decide), qRow_skip arg10.view _ (off := ![5, 0, 0]) _ _ _ _ 5 rfl (by decide), qRow_skip arg10.view _ (off := ![4, 0, 0]) _ _ _ _ 4 rfl (by decide), qRow_skip arg10.view _ (off := ![3, 0, 0]) _ _ _ _ 3 rfl (by decide), qRow_hit arg10.view _ (off := ![2, 0, 0]) _ _ _ 2 rfl,
      readAt_qLanes arg3.view _ (off := ![0, 0, 128]) _ 2 rfl, readAt_gates, harg3.read_unread, harg4.read_unread]
    rfl
  · show qRow _ 3 = qBlk x0 x1 3
    rw [qRow_skip arg10.view _ (off := ![7, 0, 0]) _ _ _ _ 7 rfl (by decide), qRow_skip arg10.view _ (off := ![6, 0, 0]) _ _ _ _ 6 rfl (by decide), qRow_skip arg10.view _ (off := ![5, 0, 0]) _ _ _ _ 5 rfl (by decide), qRow_skip arg10.view _ (off := ![4, 0, 0]) _ _ _ _ 4 rfl (by decide), qRow_hit arg10.view _ (off := ![3, 0, 0]) _ _ _ 3 rfl,
      readAt_qLanes arg3.view _ (off := ![0, 0, 192]) _ 3 rfl, readAt_gates, harg3.read_unread, harg4.read_unread]
    rfl
  · show qRow _ 4 = qBlk x0 x1 4
    rw [qRow_skip arg10.view _ (off := ![7, 0, 0]) _ _ _ _ 7 rfl (by decide), qRow_skip arg10.view _ (off := ![6, 0, 0]) _ _ _ _ 6 rfl (by decide), qRow_skip arg10.view _ (off := ![5, 0, 0]) _ _ _ _ 5 rfl (by decide), qRow_hit arg10.view _ (off := ![4, 0, 0]) _ _ _ 4 rfl,
      readAt_qLanes arg3.view _ (off := ![0, 0, 256]) _ 4 rfl, readAt_gates, harg3.read_unread, harg4.read_unread]
    rfl
  · show qRow _ 5 = qBlk x0 x1 5
    rw [qRow_skip arg10.view _ (off := ![7, 0, 0]) _ _ _ _ 7 rfl (by decide), qRow_skip arg10.view _ (off := ![6, 0, 0]) _ _ _ _ 6 rfl (by decide), qRow_hit arg10.view _ (off := ![5, 0, 0]) _ _ _ 5 rfl,
      readAt_qLanes arg3.view _ (off := ![0, 0, 320]) _ 5 rfl, readAt_gates, harg3.read_unread, harg4.read_unread]
    rfl
  · show qRow _ 6 = qBlk x0 x1 6
    rw [qRow_skip arg10.view _ (off := ![7, 0, 0]) _ _ _ _ 7 rfl (by decide), qRow_hit arg10.view _ (off := ![6, 0, 0]) _ _ _ 6 rfl,
      readAt_qLanes arg3.view _ (off := ![0, 0, 384]) _ 6 rfl, readAt_gates, harg3.read_unread, harg4.read_unread]
    rfl
  · show qRow _ 7 = qBlk x0 x1 7
    rw [qRow_hit arg10.view _ (off := ![7, 0, 0]) _ _ _ 7 rfl,
      readAt_qLanes arg3.view _ (off := ![0, 0, 448]) _ 7 rfl, readAt_gates, harg3.read_unread, harg4.read_unread]
    rfl

/-- Head `j`'s masked scores on the diagonal tile. -/
def mScore (n j : Fin 8) : FVec F S256x256 .f32 := hMask (hScore (kTile x2 j n) (qBlk x0 x1 j))

/-- The diagonal tile's stores leave the other heads' rows alone, -/
theorem m_skip (a : Carried F) (B : List (View.Piece (Elt F) S8x64x256 .f32)) (k j : Fin 8) (h : j ≠ k) :
    aRow (arg9.view.read (Elt F) (arg9.view.writes (Elt F) arg9.view.junk (mPieces i arg3 harg3 arg4 harg4 arg5 harg5 arg6 harg6 arg9 arg10 x0 x1 x2 x3 a B (k.val + 1)))) j
      = aRow (arg9.view.read (Elt F) (arg9.view.writes (Elt F) arg9.view.junk (mPieces i arg3 harg3 arg4 harg4 arg5 harg5 arg6 harg6 arg9 arg10 x0 x1 x2 x3 a B k.val))) j := by
  revert h
  fin_cases k <;> intro h
  · show aRow (arg9.view.read (Elt F) (arg9.view.writes (Elt F) arg9.view.junk (mPieces i arg3 harg3 arg4 harg4 arg5 harg5 arg6 harg6 arg9 arg10 x0 x1 x2 x3 a B 1))) j = aRow (arg9.view.read (Elt F) (arg9.view.writes (Elt F) arg9.view.junk (mPieces i arg3 harg3 arg4 harg4 arg5 harg5 arg6 harg6 arg9 arg10 x0 x1 x2 x3 a B 0))) j
    conv_lhs => rw [mPieces]
    exact aRow_skip arg9.view _ (off := ![0, 0, 0]) _ _ _ j 0 rfl h
  · show aRow (arg9.view.read (Elt F) (arg9.view.writes (Elt F) arg9.view.junk (mPieces i arg3 harg3 arg4 harg4 arg5 harg5 arg6 harg6 arg9 arg10 x0 x1 x2 x3 a B 2))) j = aRow (arg9.view.read (Elt F) (arg9.view.writes (Elt F) arg9.view.junk (mPieces i arg3 harg3 arg4 harg4 arg5 harg5 arg6 harg6 arg9 arg10 x0 x1 x2 x3 a B 1))) j
    conv_lhs => rw [mPieces]
    exact aRow_skip arg9.view _ (off := ![1, 0, 0]) _ _ _ j 1 rfl h
  · show aRow (arg9.view.read (Elt F) (arg9.view.writes (Elt F) arg9.view.junk (mPieces i arg3 harg3 arg4 harg4 arg5 harg5 arg6 harg6 arg9 arg10 x0 x1 x2 x3 a B 3))) j = aRow (arg9.view.read (Elt F) (arg9.view.writes (Elt F) arg9.view.junk (mPieces i arg3 harg3 arg4 harg4 arg5 harg5 arg6 harg6 arg9 arg10 x0 x1 x2 x3 a B 2))) j
    conv_lhs => rw [mPieces]
    exact aRow_skip arg9.view _ (off := ![2, 0, 0]) _ _ _ j 2 rfl h
  · show aRow (arg9.view.read (Elt F) (arg9.view.writes (Elt F) arg9.view.junk (mPieces i arg3 harg3 arg4 harg4 arg5 harg5 arg6 harg6 arg9 arg10 x0 x1 x2 x3 a B 4))) j = aRow (arg9.view.read (Elt F) (arg9.view.writes (Elt F) arg9.view.junk (mPieces i arg3 harg3 arg4 harg4 arg5 harg5 arg6 harg6 arg9 arg10 x0 x1 x2 x3 a B 3))) j
    conv_lhs => rw [mPieces]
    exact aRow_skip arg9.view _ (off := ![3, 0, 0]) _ _ _ j 3 rfl h
  · show aRow (arg9.view.read (Elt F) (arg9.view.writes (Elt F) arg9.view.junk (mPieces i arg3 harg3 arg4 harg4 arg5 harg5 arg6 harg6 arg9 arg10 x0 x1 x2 x3 a B 5))) j = aRow (arg9.view.read (Elt F) (arg9.view.writes (Elt F) arg9.view.junk (mPieces i arg3 harg3 arg4 harg4 arg5 harg5 arg6 harg6 arg9 arg10 x0 x1 x2 x3 a B 4))) j
    conv_lhs => rw [mPieces]
    exact aRow_skip arg9.view _ (off := ![4, 0, 0]) _ _ _ j 4 rfl h
  · show aRow (arg9.view.read (Elt F) (arg9.view.writes (Elt F) arg9.view.junk (mPieces i arg3 harg3 arg4 harg4 arg5 harg5 arg6 harg6 arg9 arg10 x0 x1 x2 x3 a B 6))) j = aRow (arg9.view.read (Elt F) (arg9.view.writes (Elt F) arg9.view.junk (mPieces i arg3 harg3 arg4 harg4 arg5 harg5 arg6 harg6 arg9 arg10 x0 x1 x2 x3 a B 5))) j
    conv_lhs => rw [mPieces]
    exact aRow_skip arg9.view _ (off := ![5, 0, 0]) _ _ _ j 5 rfl h
  · show aRow (arg9.view.read (Elt F) (arg9.view.writes (Elt F) arg9.view.junk (mPieces i arg3 harg3 arg4 harg4 arg5 harg5 arg6 harg6 arg9 arg10 x0 x1 x2 x3 a B 7))) j = aRow (arg9.view.read (Elt F) (arg9.view.writes (Elt F) arg9.view.junk (mPieces i arg3 harg3 arg4 harg4 arg5 harg5 arg6 harg6 arg9 arg10 x0 x1 x2 x3 a B 6))) j
    conv_lhs => rw [mPieces]
    exact aRow_skip arg9.view _ (off := ![6, 0, 0]) _ _ _ j 6 rfl h
  · show aRow (arg9.view.read (Elt F) (arg9.view.writes (Elt F) arg9.view.junk (mPieces i arg3 harg3 arg4 harg4 arg5 harg5 arg6 harg6 arg9 arg10 x0 x1 x2 x3 a B 8))) j = aRow (arg9.view.read (Elt F) (arg9.view.writes (Elt F) arg9.view.junk (mPieces i arg3 harg3 arg4 harg4 arg5 harg5 arg6 harg6 arg9 arg10 x0 x1 x2 x3 a B 7))) j
    conv_lhs => rw [mPieces]
    exact aRow_skip arg9.view _ (off := ![7, 0, 0]) _ _ _ j 7 rfl h

/-- and put one step into the head's own. -/
theorem m_hit (a : Carried F) (B : List (View.Piece (Elt F) S8x64x256 .f32)) (n : Fin 8) (hn : n.val = (i 2).val) (j : Fin 8) :
    aRow (arg9.view.read (Elt F) (arg9.view.writes (Elt F) arg9.view.junk (mPieces i arg3 harg3 arg4 harg4 arg5 harg5 arg6 harg6 arg9 arg10 x0 x1 x2 x3 a B (j.val + 1)))) j
      = hAcc (mOf a j) (mScore x0 x1 x2 n j) (vTile x3 j n)
          (aRow (arg9.view.read (Elt F) (arg9.view.writes (Elt F) arg9.view.junk (mPieces i arg3 harg3 arg4 harg4 arg5 harg5 arg6 harg6 arg9 arg10 x0 x1 x2 x3 a B j.val))) j) := by
  fin_cases j
  · show aRow (arg9.view.read (Elt F) (arg9.view.writes (Elt F) arg9.view.junk (mPieces i arg3 harg3 arg4 harg4 arg5 harg5 arg6 harg6 arg9 arg10 x0 x1 x2 x3 a B 1))) 0 = hAcc (mOf a 0) (mScore x0 x1 x2 n 0) (vTile x3 0 n) (aRow (arg9.view.read (Elt F) (arg9.view.writes (Elt F) arg9.view.junk (mPieces i arg3 harg3 arg4 harg4 arg5 harg5 arg6 harg6 arg9 arg10 x0 x1 x2 x3 a B 0))) 0)
    conv_lhs => rw [mPieces, aRow_hit arg9.view _ (off := ![0, 0, 0]) _ _ _ 0 rfl]
    unfold View.readCov
    rw [readAt_kTile arg5.view _ _ 0 n (by rw [k1_off33_eq, hn] : k1_off33 i = ![0, 0, 256 * n.val, 0]), readAt_vTile arg6.view _ _ 0 n (by rw [k1_off41_eq, hn] : k1_off41 i = ![0, 0, 0, 256 * n.val]),
      readAt_aRow arg9.view _ (off := ![0, 0, 0]) _ 0 rfl, readAt_qRow arg10.view _ (off := ![0, 0, 0]) _ 0 rfl, qRow_pieces,
      harg5.read_unread, harg6.read_unread]
    rfl
  · show aRow (arg9.view.read (Elt F) (arg9.view.writes (Elt F) arg9.view.junk (mPieces i arg3 harg3 arg4 harg4 arg5 harg5 arg6 harg6 arg9 arg10 x0 x1 x2 x3 a B 2))) 1 = hAcc (mOf a 1) (mScore x0 x1 x2 n 1) (vTile x3 1 n) (aRow (arg9.view.read (Elt F) (arg9.view.writes (Elt F) arg9.view.junk (mPieces i arg3 harg3 arg4 harg4 arg5 harg5 arg6 harg6 arg9 arg10 x0 x1 x2 x3 a B 1))) 1)
    conv_lhs => rw [mPieces, aRow_hit arg9.view _ (off := ![1, 0, 0]) _ _ _ 1 rfl]
    unfold View.readCov
    rw [readAt_kTile arg5.view _ _ 1 n (by rw [k1_off34_eq, hn] : k1_off34 i = ![0, 1, 256 * n.val, 0]), readAt_vTile arg6.view _ _ 1 n (by rw [k1_off42_eq, hn] : k1_off42 i = ![0, 1, 0, 256 * n.val]),
      readAt_aRow arg9.view _ (off := ![1, 0, 0]) _ 1 rfl, readAt_qRow arg10.view _ (off := ![1, 0, 0]) _ 1 rfl, qRow_pieces,
      harg5.read_unread, harg6.read_unread]
    rfl
  · show aRow (arg9.view.read (Elt F) (arg9.view.writes (Elt F) arg9.view.junk (mPieces i arg3 harg3 arg4 harg4 arg5 harg5 arg6 harg6 arg9 arg10 x0 x1 x2 x3 a B 3))) 2 = hAcc (mOf a 2) (mScore x0 x1 x2 n 2) (vTile x3 2 n) (aRow (arg9.view.read (Elt F) (arg9.view.writes (Elt F) arg9.view.junk (mPieces i arg3 harg3 arg4 harg4 arg5 harg5 arg6 harg6 arg9 arg10 x0 x1 x2 x3 a B 2))) 2)
    conv_lhs => rw [mPieces, aRow_hit arg9.view _ (off := ![2, 0, 0]) _ _ _ 2 rfl]
    unfold View.readCov
    rw [readAt_kTile arg5.view _ _ 2 n (by rw [k1_off35_eq, hn] : k1_off35 i = ![0, 2, 256 * n.val, 0]), readAt_vTile arg6.view _ _ 2 n (by rw [k1_off43_eq, hn] : k1_off43 i = ![0, 2, 0, 256 * n.val]),
      readAt_aRow arg9.view _ (off := ![2, 0, 0]) _ 2 rfl, readAt_qRow arg10.view _ (off := ![2, 0, 0]) _ 2 rfl, qRow_pieces,
      harg5.read_unread, harg6.read_unread]
    rfl
  · show aRow (arg9.view.read (Elt F) (arg9.view.writes (Elt F) arg9.view.junk (mPieces i arg3 harg3 arg4 harg4 arg5 harg5 arg6 harg6 arg9 arg10 x0 x1 x2 x3 a B 4))) 3 = hAcc (mOf a 3) (mScore x0 x1 x2 n 3) (vTile x3 3 n) (aRow (arg9.view.read (Elt F) (arg9.view.writes (Elt F) arg9.view.junk (mPieces i arg3 harg3 arg4 harg4 arg5 harg5 arg6 harg6 arg9 arg10 x0 x1 x2 x3 a B 3))) 3)
    conv_lhs => rw [mPieces, aRow_hit arg9.view _ (off := ![3, 0, 0]) _ _ _ 3 rfl]
    unfold View.readCov
    rw [readAt_kTile arg5.view _ _ 3 n (by rw [k1_off36_eq, hn] : k1_off36 i = ![0, 3, 256 * n.val, 0]), readAt_vTile arg6.view _ _ 3 n (by rw [k1_off44_eq, hn] : k1_off44 i = ![0, 3, 0, 256 * n.val]),
      readAt_aRow arg9.view _ (off := ![3, 0, 0]) _ 3 rfl, readAt_qRow arg10.view _ (off := ![3, 0, 0]) _ 3 rfl, qRow_pieces,
      harg5.read_unread, harg6.read_unread]
    rfl
  · show aRow (arg9.view.read (Elt F) (arg9.view.writes (Elt F) arg9.view.junk (mPieces i arg3 harg3 arg4 harg4 arg5 harg5 arg6 harg6 arg9 arg10 x0 x1 x2 x3 a B 5))) 4 = hAcc (mOf a 4) (mScore x0 x1 x2 n 4) (vTile x3 4 n) (aRow (arg9.view.read (Elt F) (arg9.view.writes (Elt F) arg9.view.junk (mPieces i arg3 harg3 arg4 harg4 arg5 harg5 arg6 harg6 arg9 arg10 x0 x1 x2 x3 a B 4))) 4)
    conv_lhs => rw [mPieces, aRow_hit arg9.view _ (off := ![4, 0, 0]) _ _ _ 4 rfl]
    unfold View.readCov
    rw [readAt_kTile arg5.view _ _ 4 n (by rw [k1_off37_eq, hn] : k1_off37 i = ![0, 4, 256 * n.val, 0]), readAt_vTile arg6.view _ _ 4 n (by rw [k1_off45_eq, hn] : k1_off45 i = ![0, 4, 0, 256 * n.val]),
      readAt_aRow arg9.view _ (off := ![4, 0, 0]) _ 4 rfl, readAt_qRow arg10.view _ (off := ![4, 0, 0]) _ 4 rfl, qRow_pieces,
      harg5.read_unread, harg6.read_unread]
    rfl
  · show aRow (arg9.view.read (Elt F) (arg9.view.writes (Elt F) arg9.view.junk (mPieces i arg3 harg3 arg4 harg4 arg5 harg5 arg6 harg6 arg9 arg10 x0 x1 x2 x3 a B 6))) 5 = hAcc (mOf a 5) (mScore x0 x1 x2 n 5) (vTile x3 5 n) (aRow (arg9.view.read (Elt F) (arg9.view.writes (Elt F) arg9.view.junk (mPieces i arg3 harg3 arg4 harg4 arg5 harg5 arg6 harg6 arg9 arg10 x0 x1 x2 x3 a B 5))) 5)
    conv_lhs => rw [mPieces, aRow_hit arg9.view _ (off := ![5, 0, 0]) _ _ _ 5 rfl]
    unfold View.readCov
    rw [readAt_kTile arg5.view _ _ 5 n (by rw [k1_off38_eq, hn] : k1_off38 i = ![0, 5, 256 * n.val, 0]), readAt_vTile arg6.view _ _ 5 n (by rw [k1_off46_eq, hn] : k1_off46 i = ![0, 5, 0, 256 * n.val]),
      readAt_aRow arg9.view _ (off := ![5, 0, 0]) _ 5 rfl, readAt_qRow arg10.view _ (off := ![5, 0, 0]) _ 5 rfl, qRow_pieces,
      harg5.read_unread, harg6.read_unread]
    rfl
  · show aRow (arg9.view.read (Elt F) (arg9.view.writes (Elt F) arg9.view.junk (mPieces i arg3 harg3 arg4 harg4 arg5 harg5 arg6 harg6 arg9 arg10 x0 x1 x2 x3 a B 7))) 6 = hAcc (mOf a 6) (mScore x0 x1 x2 n 6) (vTile x3 6 n) (aRow (arg9.view.read (Elt F) (arg9.view.writes (Elt F) arg9.view.junk (mPieces i arg3 harg3 arg4 harg4 arg5 harg5 arg6 harg6 arg9 arg10 x0 x1 x2 x3 a B 6))) 6)
    conv_lhs => rw [mPieces, aRow_hit arg9.view _ (off := ![6, 0, 0]) _ _ _ 6 rfl]
    unfold View.readCov
    rw [readAt_kTile arg5.view _ _ 6 n (by rw [k1_off39_eq, hn] : k1_off39 i = ![0, 6, 256 * n.val, 0]), readAt_vTile arg6.view _ _ 6 n (by rw [k1_off47_eq, hn] : k1_off47 i = ![0, 6, 0, 256 * n.val]),
      readAt_aRow arg9.view _ (off := ![6, 0, 0]) _ 6 rfl, readAt_qRow arg10.view _ (off := ![6, 0, 0]) _ 6 rfl, qRow_pieces,
      harg5.read_unread, harg6.read_unread]
    rfl
  · show aRow (arg9.view.read (Elt F) (arg9.view.writes (Elt F) arg9.view.junk (mPieces i arg3 harg3 arg4 harg4 arg5 harg5 arg6 harg6 arg9 arg10 x0 x1 x2 x3 a B 8))) 7 = hAcc (mOf a 7) (mScore x0 x1 x2 n 7) (vTile x3 7 n) (aRow (arg9.view.read (Elt F) (arg9.view.writes (Elt F) arg9.view.junk (mPieces i arg3 harg3 arg4 harg4 arg5 harg5 arg6 harg6 arg9 arg10 x0 x1 x2 x3 a B 7))) 7)
    conv_lhs => rw [mPieces, aRow_hit arg9.view _ (off := ![7, 0, 0]) _ _ _ 7 rfl]
    unfold View.readCov
    rw [readAt_kTile arg5.view _ _ 7 n (by rw [k1_off40_eq, hn] : k1_off40 i = ![0, 7, 256 * n.val, 0]), readAt_vTile arg6.view _ _ 7 n (by rw [k1_off48_eq, hn] : k1_off48 i = ![0, 7, 0, 256 * n.val]),
      readAt_aRow arg9.view _ (off := ![7, 0, 0]) _ 7 rfl, readAt_qRow arg10.view _ (off := ![7, 0, 0]) _ 7 rfl, qRow_pieces,
      harg5.read_unread, harg6.read_unread]
    rfl

theorem m_below (a : Carried F) (B : List (View.Piece (Elt F) S8x64x256 .f32)) (j : Fin 8) : ∀ k : ℕ, k ≤ j.val →
    aRow (arg9.view.read (Elt F) (arg9.view.writes (Elt F) arg9.view.junk (mPieces i arg3 harg3 arg4 harg4 arg5 harg5 arg6 harg6 arg9 arg10 x0 x1 x2 x3 a B k))) j
      = aRow (arg9.view.read (Elt F) (arg9.view.writes (Elt F) arg9.view.junk B)) j
  | 0, _ => by rw [mPieces]
  | k + 1, h => by
    have hk : k < 8 := by have := j.isLt; omega
    exact (m_skip i arg3 harg3 arg4 harg4 arg5 harg5 arg6 harg6 arg9 arg10 x0 x1 x2 x3 a B ⟨k, hk⟩ j (fun e => by rw [e] at h; exact absurd h (by simp))).trans (m_below a B j k (by omega))

theorem m_above (a : Carried F) (B : List (View.Piece (Elt F) S8x64x256 .f32)) (j : Fin 8) : ∀ k : ℕ, j.val + 1 + k ≤ 8 →
    aRow (arg9.view.read (Elt F) (arg9.view.writes (Elt F) arg9.view.junk (mPieces i arg3 harg3 arg4 harg4 arg5 harg5 arg6 harg6 arg9 arg10 x0 x1 x2 x3 a B (j.val + 1 + k)))) j
      = aRow (arg9.view.read (Elt F) (arg9.view.writes (Elt F) arg9.view.junk (mPieces i arg3 harg3 arg4 harg4 arg5 harg5 arg6 harg6 arg9 arg10 x0 x1 x2 x3 a B (j.val + 1)))) j
  | 0, _ => rfl
  | k + 1, h =>
    (m_skip i arg3 harg3 arg4 harg4 arg5 harg5 arg6 harg6 arg9 arg10 x0 x1 x2 x3 a B ⟨j.val + 1 + k, by omega⟩ j (fun e => by have := congrArg Fin.val e; simp only at this; omega)).trans (m_above a B j k (by omega))

/-- Every head's row after the diagonal tile. -/
theorem m_row (a : Carried F) (B : List (View.Piece (Elt F) S8x64x256 .f32)) (n : Fin 8) (hn : n.val = (i 2).val) (j : Fin 8) :
    aRow (arg9.view.read (Elt F) (arg9.view.writes (Elt F) arg9.view.junk (mPieces i arg3 harg3 arg4 harg4 arg5 harg5 arg6 harg6 arg9 arg10 x0 x1 x2 x3 a B 8))) j
      = hAcc (mOf a j) (mScore x0 x1 x2 n j) (vTile x3 j n) (aRow (arg9.view.read (Elt F) (arg9.view.writes (Elt F) arg9.view.junk B)) j) := by
  have h8 : j.val + 1 + (7 - j.val) = 8 := by have := j.isLt; omega
  rw [← m_below i arg3 harg3 arg4 harg4 arg5 harg5 arg6 harg6 arg9 arg10 x0 x1 x2 x3 a B j j.val le_rfl,
    ← m_hit i arg3 harg3 arg4 harg4 arg5 harg5 arg6 harg6 arg9 arg10 x0 x1 x2 x3 a B n hn j,
    ← m_above i arg3 harg3 arg4 harg4 arg5 harg5 arg6 harg6 arg9 arg10 x0 x1 x2 x3 a B j (7 - j.val) (by omega), h8]

/-- A head's state before any tile. -/
def head0 : HeadState F :=
  (broadcast S1x256 (Named.named κ "mask" 0xF149F2CA#32 : F .f32), broadcast S1x256 (Scalar.ofBits .f32 0x00000000#32 : F .f32),
    broadcast S1x64x256 (Scalar.ofBits .f32 0x00000000#32 : F .f32))

/-- A head's state after the tiles below the diagonal and the diagonal one. -/
def headEnd (n j : Fin 8) : HeadState F :=
  headStep (mScore x0 x1 x2 n j) (vTile x3 j n) (headIter x2 x3 (qBlk x0 x1 j) j head0 n.val)

/-- The block a grid point of query block `n` stores. -/
def blkOut (n : Fin 8) : Vec F S1x256x512 .bf16 :=
  outBlk (fun j => hOut (headEnd x0 x1 x2 x3 n j).2.1 (headEnd x0 x1 x2 x3 n j).2.2) x4

theorem zero_row (j : Fin 8) : aRow (arg9.view.read (Elt F) (arg9.view.writes (Elt F) arg9.view.junk (zeroFill (F := F)))) j
    = broadcast S1x64x256 (Scalar.ofBits .f32 0x00000000#32 : F .f32) := by
  funext y
  refine (View.read_writes_cons_unit_of_mem arg9.view _ _ _ _ _ (ix3 j (y 1) (y 2)) rfl ?_).trans ?_
  · intro a
    fin_cases a
    · show j.val = 0 + j.val; omega
    · show (y 1).val = 0 + (y 1).val; omega
    · show (y 2).val = 0 + (y 2).val; omega
  · rfl

/-- The heads' states when the remainder loop has ended. -/
theorem end2_eq (w : FVec F S256x128 .bf16) (n : Fin 8) (hn : n.val = (i 2).val) (j : Fin 8) :
    (mOf (end2 c i arg3 harg3 arg4 harg4 arg5 harg5 arg6 harg6 arg7 harg7 arg8 harg8 arg9 harg9 arg10 harg10 x0 x1 x2 x3 w).1 j, lOf (end2 c i arg3 harg3 arg4 harg4 arg5 harg5 arg6 harg6 arg7 harg7 arg8 harg8 arg9 harg9 arg10 harg10 x0 x1 x2 x3 w).1 j,
      aRow (arg9.view.read (Elt F) (arg9.view.writes (Elt F) arg9.view.junk ((end2 c i arg3 harg3 arg4 harg4 arg5 harg5 arg6 harg6 arg7 harg7 arg8 harg8 arg9 harg9 arg10 harg10 x0 x1 x2 x3 w).2 ++ ((end1 c i arg3 harg3 arg4 harg4 arg5 harg5 arg6 harg6 arg7 harg7 arg8 harg8 arg9 harg9 arg10 harg10 x0 x1 x2 x3 w).2 ++ zeroFill)))) j)
      = headIter x2 x3 (qBlk x0 x1 j) j (head0 (F := F)) n.val := by
  have h2 : end2 c i arg3 harg3 arg4 harg4 arg5 harg5 arg6 harg6 arg7 harg7 arg8 harg8 arg9 harg9 arg10 harg10 x0 x1 x2 x3 w = ((end1 c i arg3 harg3 arg4 harg4 arg5 harg5 arg6 harg6 arg7 harg7 arg8 harg8 arg9 harg9 arg10 harg10 x0 x1 x2 x3 w).1, []) := by
    unfold end2
    rw [trips2_eq i]
    rfl
  have h1 := loop_eq Variants.none c none i arg3 harg3 arg4 harg4 arg5 harg5 arg6 harg6 arg7 harg7 arg8 harg8 arg9 harg9 arg10 harg10 (BitVec.ofNat 32 (i 2).val) w (harg5.unread x2) (harg6.unread x3)
    (arg10.view.writes (Elt F) arg10.view.junk (qPieces arg3 harg3 arg4 harg4 x0 x1)) (arg9.view.writes (Elt F) arg9.view.junk (zeroFill (F := F))) (initCarried (F := F)) j
    (Scf.trips (k1_t1_loop i).lb (k1_t1_loop i).ub (k1_t1_loop i).st) le_rfl
  rw [h2]
  rw [qRow_pieces, zero_row, harg5.read_unread, harg6.read_unread, trips_eq i, ← hn, ← View.writes_append] at h1
  refine Eq.trans ?_ (h1.trans ?_)
  · unfold end1
    rw [trips_eq i, ← hn]
    rfl
  · congr 1
    fin_cases j <;> rfl

/-- What a grid point stores, from the blocks it reads. -/
theorem point_eq (n : Fin 8) (hn : n.val = (i 2).val) : (kernelRun1_A c i arg3 harg3 arg4 harg4 arg5 harg5 arg6 harg6 arg7 harg7 arg8 harg8 arg9 harg9 arg10 harg10 x0 x1 x2 x3 x4).1
    = [⟨Rect.unit (s := S1x256x512) ![0, 0, 0] S1x256x512.size inb_S1x256x512_S1x256x512_0_0_0, blkOut x0 x1 x2 x3 x4 n⟩] := by
  obtain ⟨w, h⟩ := run_eq c i arg3 harg3 arg4 harg4 arg5 harg5 arg6 harg6 arg7 harg7 arg8 harg8 arg9 harg9 arg10 harg10 x0 x1 x2 x3 x4
  rw [h]
  have he := end2_eq c i arg3 harg3 arg4 harg4 arg5 harg5 arg6 harg6 arg7 harg7 arg8 harg8 arg9 harg9 arg10 harg10 x0 x1 x2 x3 w n hn
  have hr := fun j => m_row i arg3 harg3 arg4 harg4 arg5 harg5 arg6 harg6 arg9 arg10 x0 x1 x2 x3 (end2 c i arg3 harg3 arg4 harg4 arg5 harg5 arg6 harg6 arg7 harg7 arg8 harg8 arg9 harg9 arg10 harg10 x0 x1 x2 x3 w).1
    ((end2 c i arg3 harg3 arg4 harg4 arg5 harg5 arg6 harg6 arg7 harg7 arg8 harg8 arg9 harg9 arg10 harg10 x0 x1 x2 x3 w).2 ++ ((end1 c i arg3 harg3 arg4 harg4 arg5 harg5 arg6 harg6 arg7 harg7 arg8 harg8 arg9 harg9 arg10 harg10 x0 x1 x2 x3 w).2 ++ zeroFill)) n hn j
  generalize ((end2 c i arg3 harg3 arg4 harg4 arg5 harg5 arg6 harg6 arg7 harg7 arg8 harg8 arg9 harg9 arg10 harg10 x0 x1 x2 x3 w).2 ++ ((end1 c i arg3 harg3 arg4 harg4 arg5 harg5 arg6 harg6 arg7 harg7 arg8 harg8 arg9 harg9 arg10 harg10 x0 x1 x2 x3 w).2 ++ zeroFill)) = B at he hr ⊢
  generalize (end2 c i arg3 harg3 arg4 harg4 arg5 harg5 arg6 harg6 arg7 harg7 arg8 harg8 arg9 harg9 arg10 harg10 x0 x1 x2 x3 w).1 = a at he hr ⊢
  unfold outPieces View.readCov
  rw [readAt_whole, harg7.read_unread]
  rw [readAt_aRow arg9.view _ (off := ![0, 0, 0]) _ 0 rfl, readAt_aRow arg9.view _ (off := ![1, 0, 0]) _ 1 rfl, readAt_aRow arg9.view _ (off := ![2, 0, 0]) _ 2 rfl, readAt_aRow arg9.view _ (off := ![3, 0, 0]) _ 3 rfl, readAt_aRow arg9.view _ (off := ![4, 0, 0]) _ 4 rfl, readAt_aRow arg9.view _ (off := ![5, 0, 0]) _ 5 rfl, readAt_aRow arg9.view _ (off := ![6, 0, 0]) _ 6 rfl, readAt_aRow arg9.view _ (off := ![7, 0, 0]) _ 7 rfl]
  rw [readAt_qRow arg10.view _ (off := ![0, 0, 0]) _ 0 rfl, readAt_qRow arg10.view _ (off := ![1, 0, 0]) _ 1 rfl, readAt_qRow arg10.view _ (off := ![2, 0, 0]) _ 2 rfl, readAt_qRow arg10.view _ (off := ![3, 0, 0]) _ 3 rfl, readAt_qRow arg10.view _ (off := ![4, 0, 0]) _ 4 rfl, readAt_qRow arg10.view _ (off := ![5, 0, 0]) _ 5 rfl, readAt_qRow arg10.view _ (off := ![6, 0, 0]) _ 6 rfl, readAt_qRow arg10.view _ (off := ![7, 0, 0]) _ 7 rfl]
  rw [readAt_kTile arg5.view _ _ 0 n (by rw [k1_off33_eq, hn] : k1_off33 i = ![0, 0, 256 * n.val, 0]), readAt_kTile arg5.view _ _ 1 n (by rw [k1_off34_eq, hn] : k1_off34 i = ![0, 1, 256 * n.val, 0]), readAt_kTile arg5.view _ _ 2 n (by rw [k1_off35_eq, hn] : k1_off35 i = ![0, 2, 256 * n.val, 0]), readAt_kTile arg5.view _ _ 3 n (by rw [k1_off36_eq, hn] : k1_off36 i = ![0, 3, 256 * n.val, 0]), readAt_kTile arg5.view _ _ 4 n (by rw [k1_off37_eq, hn] : k1_off37 i = ![0, 4, 256 * n.val, 0]), readAt_kTile arg5.view _ _ 5 n (by rw [k1_off38_eq, hn] : k1_off38 i = ![0, 5, 256 * n.val, 0]), readAt_kTile arg5.view _ _ 6 n (by rw [k1_off39_eq, hn] : k1_off39 i = ![0, 6, 256 * n.val, 0]), readAt_kTile arg5.view _ _ 7 n (by rw [k1_off40_eq, hn] : k1_off40 i = ![0, 7, 256 * n.val, 0])]
  simp only [qRow_pieces, harg5.read_unread, hr]
  unfold blkOut headEnd headStep
  simp only [← he]
  rfl

end point

end Cert.KernelIdeal.Fox

end
-- ==== Proof.Fox.Online.lean ====
/- The mathematics of the attention's running softmax over the extended reals: sums of base-2 weights relative to a running maximum,
   and the quotient they leave, which is the plain softmax's whatever the maximum. -/
module

public import Idealize.ShloMosaic.PureOps
public import Idealize.ShloMosaic.Lib.Pointwise

@[expose] public section

noncomputable section

namespace Cert.KernelIdeal.Fox

open Idealize.ShloMosaic

/-- The weight of a score `s` relative to the level `M`, in base 2; a score `⊥` weighs nothing. -/
def wt (s : EReal) (M : ℝ) : ℝ := if s = ⊥ then 0 else Real.rpow 2 (s.toReal - M)

theorem wt_nonneg (s : EReal) (M : ℝ) : 0 ≤ wt s M := by
  unfold wt; split_ifs
  · exact le_rfl
  · exact Real.rpow_nonneg (by norm_num) _

theorem wt_pos {s : EReal} (h : s ≠ ⊥) (M : ℝ) : 0 < wt s M := by
  unfold wt; rw [if_neg h]; exact Real.rpow_pos_of_pos (by norm_num) _

/-- Moving the level multiplies every weight by one factor. -/
theorem wt_shift (s : EReal) (M M' : ℝ) : wt s M' = Real.rpow 2 (M - M') * wt s M := by
  unfold wt; split_ifs
  · simp
  · simp only [Real.rpow_eq_pow]
    rw [← Real.rpow_add (by norm_num)]; congr 1; ring

theorem exp2_sub {s : EReal} (h : s ≠ ⊤) (M : ℝ) : Ideal.exp2 (s - (M : EReal)) = (wt s M : EReal) := by
  induction s with
  | bot => simp [wt]
  | top => exact absurd rfl h
  | coe r => rw [← EReal.coe_sub, Ideal.exp2_coe]; simp [wt]

theorem coe_sum {ι : Type} (K : Finset ι) (f : ι → ℝ) : ((∑ k ∈ K, f k : ℝ) : EReal) = ∑ k ∈ K, (f k : EReal) := by
  classical
  induction K using Finset.induction_on with
  | empty => simp
  | insert a s ha ih => rw [Finset.sum_insert ha, Finset.sum_insert ha, EReal.coe_add, ih]

/-- A nonnegative real factor goes into a sum of extended reals. -/
theorem mul_sum {ι : Type} (K : Finset ι) (f : ι → EReal) {c : ℝ} (hc : 0 ≤ c) : (c : EReal) * ∑ k ∈ K, f k = ∑ k ∈ K, (c : EReal) * f k := by
  classical
  induction K using Finset.induction_on with
  | empty => simp
  | insert a s ha ih =>
    rw [Finset.sum_insert ha, Finset.sum_insert ha,
      EReal.left_distrib_of_nonneg_of_ne_top (by exact_mod_cast hc) (EReal.coe_ne_top c), ih]

/-- The state after `N` keys: nothing yet, or the sums relative to a real level. -/
def Inv (s v : ℕ → EReal) (N : ℕ) (m l a : EReal) : Prop :=
  (N = 0 ∧ m = ⊥ ∧ l = 0 ∧ a = 0) ∨
    ∃ M : ℝ, m = M ∧ l = ((∑ k ∈ Finset.range N, wt (s k) M : ℝ) : EReal) ∧ a = ∑ k ∈ Finset.range N, v k * (wt (s k) M : EReal)

/-- One tile of keys keeps the invariant. -/
theorem inv_step (s v : ℕ → EReal) (N T : ℕ) (m l a : EReal) (h : Inv s v N m l a) (hs : ∀ k, s k ≠ ⊤) (i : Fin T) (hi : s (N + i) ≠ ⊥)
    (m' : EReal) (hm' : m' = max m (Finset.univ.fold max ⊥ fun k : Fin T => s (N + k))) :
    Inv s v (N + T) m' (Ideal.exp2 (m - m') * l + ∑ k : Fin T, Ideal.exp2 (s (N + k) - m'))
      (Ideal.exp2 (m - m') * a + ∑ k : Fin T, v (N + k) * Ideal.exp2 (s (N + k) - m')) := by
  have hmt : m ≠ ⊤ := by
    rcases h with ⟨_, h, _⟩ | ⟨M, h, _⟩ <;> rw [h]
    · exact bot_ne_top
    · exact EReal.coe_ne_top M
  have ht : m' ≠ ⊤ := by
    rw [hm', ← lt_top_iff_ne_top, max_lt_iff]
    refine ⟨lt_top_iff_ne_top.2 hmt, (Finset.fold_max_lt (c := ⊤)).2 ⟨bot_lt_top, fun k _ => lt_top_iff_ne_top.2 (hs _)⟩⟩
  have hb : m' ≠ ⊥ := by
    rw [hm']
    intro e
    have h1 := (max_eq_bot.1 e).2
    have h2 : s (N + i) ≤ Finset.univ.fold max ⊥ fun k : Fin T => s (N + k) :=
      (Finset.le_fold_max (c := s (N + i))).2 (.inr ⟨i, Finset.mem_univ _, le_rfl⟩)
    rw [h1] at h2
    exact hi (le_bot_iff.1 h2)
  lift m' to ℝ using ⟨ht, hb⟩ with M'
  right
  refine ⟨M', rfl, ?_, ?_⟩
  · rw [Finset.sum_range_add, EReal.coe_add, Finset.sum_range (fun x => wt (s (N + x)) M'), coe_sum Finset.univ]
    congr 1
    · rcases h with ⟨h0, h, hl, _⟩ | ⟨M, h, hl, _⟩
      · rw [hl, h0]; simp
      · rw [hl, h, ← EReal.coe_sub, Ideal.exp2_coe, ← EReal.coe_mul, Finset.mul_sum]
        simp only [← wt_shift]
    · exact Finset.sum_congr rfl fun k _ => exp2_sub (hs _) M'
  · rw [Finset.sum_range_add, Finset.sum_range (fun x => v (N + x) * (wt (s (N + x)) M' : EReal))]
    congr 1
    · rcases h with ⟨h0, h, _, ha⟩ | ⟨M, h, _, ha⟩
      · rw [ha, h0]; simp
      · have hc : (0 : ℝ) ≤ Real.rpow 2 (M - M') := Real.rpow_nonneg (by norm_num) _
        rw [ha, h, ← EReal.coe_sub, Ideal.exp2_coe, mul_sum _ _ hc]
        refine Finset.sum_congr rfl fun k _ => ?_
        rw [wt_shift (s k) M M', EReal.coe_mul]
        exact mul_left_comm _ _ _
    · exact Finset.sum_congr rfl fun k _ => by rw [exp2_sub (hs _) M']

/-- What the running softmax leaves is the plain one's value, at any level `M'`, once the keys left out weigh nothing. -/
theorem inv_final (s v : ℕ → EReal) (N N' : ℕ) (hN : N ≤ N') (m l a : EReal) (h : Inv s v N m l a) (i : ℕ) (hi : i < N) (hsi : s i ≠ ⊥)
    (hz : ∀ k, N ≤ k → s k = ⊥) (M' : ℝ) :
    Ideal.div a l = ∑ k ∈ Finset.range N', Ideal.div (wt (s k) M' : EReal) ((∑ k ∈ Finset.range N', wt (s k) M' : ℝ) : EReal) * v k := by
  have hpos : ∀ (L : ℕ) (M : ℝ), i < L → 0 < ∑ k ∈ Finset.range L, wt (s k) M := fun L M hL =>
    Finset.sum_pos' (fun k _ => wt_nonneg _ _) ⟨i, Finset.mem_range.2 hL, wt_pos hsi M⟩
  rcases h with ⟨h0, _⟩ | ⟨M, _, hl, ha⟩
  · omega
  have hsub : Finset.range N ⊆ Finset.range N' := Finset.range_subset_range.2 hN
  have hL : ∑ k ∈ Finset.range N', wt (s k) M' = ∑ k ∈ Finset.range N, wt (s k) M' := by
    refine (Finset.sum_subset hsub fun k _ hk => ?_).symm
    rw [hz k (by simpa using hk)]; simp [wt]
  rw [hl, ha, hL, Ideal.div_coe (hpos N M hi).ne', mul_comm,
    mul_sum _ _ (by have := hpos N M hi; positivity)]
  rw [← Finset.sum_subset hsub fun k _ hk => ?_]
  · refine Finset.sum_congr rfl fun k _ => ?_
    rw [Ideal.div_coe (hpos N M' hi).ne', mul_left_comm, ← EReal.coe_mul, mul_comm, ← EReal.coe_mul]
    congr 2
    have hc : 0 < Real.rpow 2 (M - M') := Real.rpow_pos_of_pos (by norm_num) _
    have hS : ∑ k ∈ Finset.range N, wt (s k) M' = Real.rpow 2 (M - M') * ∑ k ∈ Finset.range N, wt (s k) M := by
      rw [Finset.mul_sum]; exact Finset.sum_congr rfl fun k _ => wt_shift _ _ _
    rw [hS, wt_shift (s k) M M']
    have := (hpos N M hi).ne'
    field_simp
  · rw [hz k (by simpa using hk), Ideal.div_coe (hpos N M' hi).ne']; simp [wt]

end Cert.KernelIdeal.Fox

end
-- ==== Proof.Fox.Consts.lean ====
/- The constants the programs spell, as the extended reals they denote. -/
module

public import Idealize.ShloMosaic.PureOps.Ideal

@[expose] public section

noncomputable section

namespace Cert.Consts

open Idealize.ShloMosaic

/-- The query lanes' `-1.0`. -/
theorem ofBits_neg_one : Ideal.ofBits .f32 0xBF800000#32 = ((-1 : ℝ) : EReal) := by
  simp [Ideal.ofBits, Ideal.ieee, -EReal.coe_mul]; norm_num

/-- `1.0`. -/
theorem ofBits_one : Ideal.ofBits .f32 0x3F800000#32 = ((1 : ℝ) : EReal) := by
  simp [Ideal.ofBits, Ideal.ieee, -EReal.coe_mul]; norm_num

/-- The reference's scale, `0.125`. -/
theorem ofBits_eighth : Ideal.ofBits .f32 0x3E000000#32 = ((1 / 8 : ℝ) : EReal) := by
  simp [Ideal.ofBits, Ideal.ieee, -EReal.coe_mul]; norm_num

/-- Minus infinity. -/
theorem ofBits_neg_inf : Ideal.ofBits .f32 0xFF800000#32 = ⊥ := rfl

/-- Infinity. -/
theorem ofBits_inf : Ideal.ofBits .f32 0x7F800000#32 = ⊤ := rfl

end Cert.Consts

end
-- ==== Proof.Fox.Steps.lean ====
/- One tile's step of the running softmax, read at an index over the extended reals. -/
module

public import proofs.«01_k».proof.Proof.Fox.Point
public import proofs.«01_k».proof.Proof.Fox.Online
public import proofs.«01_k».proof.Proof.Fox.Consts
public import Idealize.ShloMosaic.Lib.Pointwise

@[expose] public section

set_option maxRecDepth 8192

noncomputable section

namespace Cert.KernelIdeal.Fox

open Idealize.ShloMosaic Idealize.ShloMosaic.TcCoe Idealize.SL.Sem
open Cert.KernelIdeal Cert.KernelIdeal.Gen

theorem exp2_ideal (x : EReal) : (FloatOps.exp2 (F := Idealize.ShloMosaic.Ideal) (φ := .f32) x : EReal) = Ideal.exp2 x := rfl

theorem mask_named : Named.named (F := Idealize.ShloMosaic.Ideal) κ "mask" (φ := .f32) 0xF149F2CA#32 = (⊥ : EReal) :=
  IdealRules.named_const.ideal_named_scalar _ _ _ _ rfl

theorem scale_named : Named.named (F := Idealize.ShloMosaic.Ideal) κ "scale" (φ := .f32) 0x3E38AA3B#32 = (((1 / 8) * (Real.log 2)⁻¹ : ℝ) : EReal) :=
  IdealRules.named_const.ideal_named_scalar _ _ _ _ rfl

theorem log2e_named : Named.named (F := Idealize.ShloMosaic.Ideal) κ "log2e" (φ := .f32) 0x3FB8AA3B#32 = (((Real.log 2)⁻¹ : ℝ) : EReal) :=
  IdealRules.named_const.ideal_named_scalar _ _ _ _ rfl

theorem hMax_at (m : FVec Ideal S1x256 .f32) (s : FVec Ideal S256x256 .f32) (r : Fin 256) :
    hMax m s (ix2 0 r) = max (m (ix2 0 r)) (Finset.univ.fold max ⊥ fun k : Fin 256 => s (ix2 k r)) := by
  pointwise [hMax]
  rw [Cert.Consts.ofBits_neg_inf]

theorem hSum_at (m l : FVec Ideal S1x256 .f32) (s : FVec Ideal S256x256 .f32) (r : Fin 256) :
    hSum m l s (ix2 0 r) = Ideal.exp2 (m (ix2 0 r) - hMax m s (ix2 0 r)) * l (ix2 0 r) + ∑ k : Fin 256, Ideal.exp2 (s (ix2 k r) - hMax m s (ix2 0 r)) := by
  pointwise [hSum, hAlpha, hP, exp2_ideal]

theorem hAcc_at (m : FVec Ideal S1x256 .f32) (s : FVec Ideal S256x256 .f32) (v : Vec Ideal S1x1x64x256 .bf16) (a : Vec Ideal S1x64x256 .f32)
    (d : Fin 64) (r : Fin 256) :
    hAcc m s v a (ix3 0 d r) = Ideal.exp2 (m (ix2 0 r) - hMax m s (ix2 0 r)) * a (ix3 0 d r)
      + ∑ k : Fin 256, v (ix4 0 0 d k) * Ideal.exp2 (s (ix2 k r) - hMax m s (ix2 0 r)) := by
  pointwise [hAcc, hAlpha, hP, exp2_ideal]

theorem hScore_at (kt : Vec Ideal S1x1x256x128 .bf16) (qt : Vec Ideal S1x256x128 .bf16) (k r : Fin 256) :
    hScore kt qt (ix2 k r) = ∑ l : Fin 128, kt (ix4 0 0 k l) * qt (ix3 0 r l) := by
  pointwise [hScore]

theorem hMask_at (s : FVec Ideal S256x256 .f32) (k r : Fin 256) :
    hMask s (ix2 k r) = if k.val ≤ r.val then s (ix2 k r) else ⊥ := by
  pointwise [hMask]
  rw [mask_named]
  exact if_congr (WordCmp.cmpi_sle_ofNat_eq_one_iff (by omega) (by omega)) rfl rfl

theorem hOut_at (l : FVec Ideal S1x256 .f32) (a : Vec Ideal S1x64x256 .f32) (d : Fin 64) (r : Fin 256) :
    hOut l a (ix2 d r) = Ideal.div (a (ix3 0 d r)) (l (ix2 0 r)) := by
  pointwise [hOut]

theorem qBlk_lo (x0 : Vec Ideal S1x256x512 .f32) (x1 : Vec Ideal S1x1x256x8 .f32) (j : Fin 8) (r : Fin 256) (d : Fin 64) :
    qBlk x0 x1 j (ix3 0 r ⟨d.val, by omega⟩) = x0 (ix3 0 r ⟨64 * j.val + d.val, by omega⟩) * (((1 / 8) * (Real.log 2)⁻¹ : ℝ) : EReal) := by
  pointwise [qBlk, qHead, qLanes, scale_named]

theorem qBlk_hi (x0 : Vec Ideal S1x256x512 .f32) (x1 : Vec Ideal S1x1x256x8 .f32) (j : Fin 8) (r : Fin 256) (e : Fin 64) (c : ℝ)
    (hc : x1 (ix4 0 0 r j) = (c : EReal)) :
    qBlk x0 x1 j (ix3 0 r ⟨64 + e.val, by omega⟩) = ((if e.val = 3 then c * (Real.log 2)⁻¹ else if e.val < 3 then -1 else 0 : ℝ) : EReal) := by
  pointwise [qBlk, qHead, qAug, cHi, cMid, cLo, cLog, log2e_named]
  rw [hc, Cert.Consts.ofBits_neg_one]
  have h3 := WordCmp.cmpi_eq_ofNat_eq_one_iff (w := 32) (a := e.val) (b := 3) (by omega) (by omega)
  have h4 := WordCmp.cmpi_eq_ofNat_eq_one_iff (w := 32) (a := e.val) (b := 4) (by omega) (by omega)
  have h5 := WordCmp.cmpi_eq_ofNat_eq_one_iff (w := 32) (a := e.val) (b := 5) (by omega) (by omega)
  have h6 := WordCmp.cmpi_slt_ofNat_eq_one_iff (w := 32) (a := e.val) (b := 6) (by omega) (by omega)
  refine (if_congr h3 rfl (if_congr h4 rfl (if_congr h5 rfl (if_congr h6 rfl rfl)))).trans ?_
  rw [← EReal.coe_mul, ← EReal.coe_sub, ← EReal.coe_sub]
  simp only [sub_self]
  split_ifs <;> first | rfl | omega | skip

/-- A score: the scaled product of the query and the key with the two gates, in base-2 units. -/
theorem score_eq (x0 : Vec Ideal S1x256x512 .f32) (x1 : Vec Ideal S1x1x256x8 .f32) (kt : Vec Ideal S1x1x256x128 .bf16) (j : Fin 8) (k r : Fin 256)
    (kr qr : Fin 64 → ℝ) (ck cq : ℝ) (hk : ∀ d : Fin 64, kt (ix4 0 0 k ⟨d.val, by omega⟩) = (kr d : EReal))
    (hke : ∀ e : Fin 64, kt (ix4 0 0 k ⟨64 + e.val, by omega⟩) = ((if e.val = 0 then ck * (Real.log 2)⁻¹ else if 3 ≤ e.val ∧ e.val < 6 then 1 else 0 : ℝ) : EReal))
    (hq : ∀ d : Fin 64, x0 (ix3 0 r ⟨64 * j.val + d.val, by omega⟩) = (qr d : EReal)) (hc : x1 (ix4 0 0 r j) = (cq : EReal)) :
    hScore kt (qBlk x0 x1 j) (ix2 k r) = (((Real.log 2)⁻¹ * ((∑ d, qr d * kr d) * (1 / 8) + cq - ck) : ℝ) : EReal) := by
  rw [hScore_at]
  refine (Fin.sum_univ_add (a := 64) (b := 64) (fun l : Fin 128 => kt (ix4 0 0 k l) * qBlk x0 x1 j (ix3 0 r l))).trans ?_
  have h1 : ∀ d : Fin 64, kt (ix4 0 0 k (Fin.castAdd 64 d)) * qBlk x0 x1 j (ix3 0 r (Fin.castAdd 64 d)) = ((kr d * (qr d * ((1 / 8) * (Real.log 2)⁻¹)) : ℝ) : EReal) := fun d => by
    rw [EReal.coe_mul, EReal.coe_mul, ← hk d, ← hq d, ← qBlk_lo x0 x1 j r d]
    rfl
  have h2 : ∀ e : Fin 64, kt (ix4 0 0 k (Fin.natAdd 64 e)) * qBlk x0 x1 j (ix3 0 r (Fin.natAdd 64 e)) = (((if e.val = 0 then ck * (Real.log 2)⁻¹ else if 3 ≤ e.val ∧ e.val < 6 then 1 else 0) * (if e.val = 3 then cq * (Real.log 2)⁻¹ else if e.val < 3 then -1 else 0) : ℝ) : EReal) := fun e => by
    rw [EReal.coe_mul, ← hke e, ← qBlk_hi x0 x1 j r e cq hc]
    rfl
  simp only [h1, h2]
  rw [← coe_sum, ← coe_sum, ← EReal.coe_add]
  congr 1
  have h3 : ∀ e : Fin 64, ((if e.val = 0 then ck * (Real.log 2)⁻¹ else if 3 ≤ e.val ∧ e.val < 6 then 1 else 0) * (if e.val = 3 then cq * (Real.log 2)⁻¹ else if e.val < 3 then -1 else 0) : ℝ)
      = (if e = 0 then -(ck * (Real.log 2)⁻¹) else 0) + (if e = 3 then cq * (Real.log 2)⁻¹ else 0) := fun e => by
    have e0 : e = 0 ↔ e.val = 0 := Fin.ext_iff
    have e3 : e = 3 ↔ e.val = 3 := Fin.ext_iff
    rw [if_congr e0 rfl rfl, if_congr e3 rfl rfl]
    split_ifs <;> first | omega | simp
  simp only [h3, Finset.sum_add_distrib, Finset.sum_ite_eq', Finset.mem_univ, if_true]
  have h4 : ∑ d, kr d * (qr d * ((1 / 8) * (Real.log 2)⁻¹)) = (Real.log 2)⁻¹ * ((∑ d, qr d * kr d) * (1 / 8)) := by
    rw [Finset.sum_mul, Finset.mul_sum]
    exact Finset.sum_congr rfl fun d _ => by ring
  rw [h4]
  ring

end Cert.KernelIdeal.Fox

end
-- ==== Proof.Fox.Prep.lean ====
/- The preparation region's blocks, at indices: the keys with their gate lanes, and the values transposed. -/
module

public import proofs.«01_k».proof.Proof.Fox.Steps
public import Idealize.ShloMosaic.Lib.Pipeline.ValueKit

@[expose] public section

set_option maxRecDepth 16384

noncomputable section

namespace Cert.KernelIdeal.Fox

open Idealize.ShloMosaic Idealize.ShloMosaic.TcCoe Idealize.SL.Sem
open Cert.KernelIdeal Cert.KernelIdeal.Gen

/-- An index of rank four from its coordinates. -/
theorem ix4_ext {n0 n1 n2 n3 : ℕ} (x : (⟨4, ![n0, n1, n2, n3]⟩ : Shape).Idx) {a : Fin n0} {b : Fin n1} {c : Fin n2} {d : Fin n3}
    (h0 : (x 0).val = a.val) (h1 : (x 1).val = b.val) (h2 : (x 2).val = c.val) (h3 : (x 3).val = d.val) : x = ix4 a b c d := by
  funext i
  refine Fin.ext ?_
  fin_cases i
  · exact h0
  · exact h1
  · exact h2
  · exact h3

set_option maxHeartbeats 4000000 in
/-- The first 64 lanes of a key's row: the key. -/
theorem ka_lo (x0 x1 : Vec Ideal S1x256x1024 .bf16) (x2 : Vec Ideal S1x256x128 .f32) (h : Fin 16) (k : Fin 256) (d : Fin 64) :
    out0_3 x0 x1 x2 (ix4 0 h k ⟨d.val, by omega⟩) = x0 (ix3 0 k ⟨64 * h.val + d.val, by omega⟩) := by
  have hdl : d.val < 128 := by omega
  canon_tiles x hx using cover0_3 ..
  all_goals
    have x1e : (x 1).val = 0 := by omega
    rw [x1e] at hx1
    obtain rfl : x = ix4 0 0 k ⟨d.val, hdl⟩ := ix4_ext x (by omega) x1e hx2.symm hx3.symm
    replace hx1 : h.val = _ := hx1
  all_goals
    clear hx0 x0_lt x1_lt hx2 x2_lt hx3 x3_lt x1e
    open_payloads
    pointwise []
    exact congrArg (fun e => x0 (ix3 0 k e)) (Fin.ext (by dsimp only; omega))

/-- The gate lanes of a finite gate: the rounded part is the gate, the two remainders are zero. -/
theorem aug_eq (X : EReal) (c : ℝ) (hX : X = c) (e : Fin 64) :
    (if e.val = 0 then X * ((Real.log 2)⁻¹ : ℝ) else if e.val = 1 then X * ((Real.log 2)⁻¹ : ℝ) - X * ((Real.log 2)⁻¹ : ℝ)
      else if e.val = 2 then X * ((Real.log 2)⁻¹ : ℝ) - X * ((Real.log 2)⁻¹ : ℝ) - (X * ((Real.log 2)⁻¹ : ℝ) - X * ((Real.log 2)⁻¹ : ℝ))
      else if e.val < 6 then 1 else 0 : EReal)
      = ((if e.val = 0 then c * (Real.log 2)⁻¹ else if 3 ≤ e.val ∧ e.val < 6 then 1 else 0 : ℝ) : EReal) := by
  rw [hX, ← EReal.coe_mul, ← EReal.coe_sub, ← EReal.coe_sub]
  simp only [sub_self]
  split_ifs <;> first | rfl | omega

set_option maxHeartbeats 4000000 in
/-- Lanes 64 on of a key's row: its gate in base-2 units, zeros for the parts a rounding would leave, ones for the query's gate. -/
theorem ka_hi (x0 x1 : Vec Ideal S1x256x1024 .bf16) (x2 : Vec Ideal S1x256x128 .f32) (h : Fin 16) (k : Fin 256) (e : Fin 64) (c : ℝ)
    (hc : x2 (ix3 0 k ⟨h.val, by omega⟩) = (c : EReal)) :
    out0_3 x0 x1 x2 (ix4 0 h k ⟨64 + e.val, by omega⟩)
      = ((if e.val = 0 then c * (Real.log 2)⁻¹ else if 3 ≤ e.val ∧ e.val < 6 then 1 else 0 : ℝ) : EReal) := by
  have hdl : 64 + e.val < 128 := by omega
  have hh := h.isLt
  have h0 := WordCmp.cmpi_eq_ofNat_eq_one_iff (w := 32) (a := e.val) (b := 0) (by omega) (by omega)
  have h1 := WordCmp.cmpi_eq_ofNat_eq_one_iff (w := 32) (a := e.val) (b := 1) (by omega) (by omega)
  have h2 := WordCmp.cmpi_eq_ofNat_eq_one_iff (w := 32) (a := e.val) (b := 2) (by omega) (by omega)
  have h6 := WordCmp.cmpi_slt_ofNat_eq_one_iff (w := 32) (a := e.val) (b := 6) (by omega) (by omega)
  canon_tiles x hx using cover0_3 ..
  all_goals
    have x1e : (x 1).val = 0 := by omega
    rw [x1e] at hx1
    obtain rfl : x = ix4 0 0 k ⟨64 + e.val, hdl⟩ := ix4_ext x (by omega) x1e hx2.symm hx3.symm
    replace hx1 : h.val = _ := hx1
    clear hx0 x0_lt x1_lt hx2 x2_lt hx3 x3_lt x1e
    open_payloads
  all_goals
    pointwise [log2e_named]
    refine (if_congr h0 rfl (if_congr h1 rfl (if_congr h2 rfl (if_congr h6 rfl rfl)))).trans ?_
    exact aug_eq _ c ((congrArg (fun i => x2 (ix3 0 k i)) (Fin.ext (by rw [hx1]; rfl))).trans hc) e

set_option maxHeartbeats 4000000 in
/-- The values, transposed. -/
theorem vt_at (x0 x1 : Vec Ideal S1x256x1024 .bf16) (x2 : Vec Ideal S1x256x128 .f32) (h : Fin 16) (d : Fin 64) (k : Fin 256) :
    out0_4 x0 x1 x2 (ix4 0 h d k) = x1 (ix3 0 k ⟨64 * h.val + d.val, by omega⟩) := by
  canon_tiles x hx using cover0_4 ..
  all_goals
    have x1e : (x 1).val = 0 := by omega
    rw [x1e] at hx1
    obtain rfl : x = ix4 0 0 d k := ix4_ext x (by omega) x1e hx2.symm hx3.symm
    replace hx1 : h.val = _ := hx1
    clear hx0 x0_lt x1_lt hx2 x2_lt hx3 x3_lt x1e
    open_payloads
    pointwise []
    exact congrArg (fun e => x1 (ix3 0 k e)) (Fin.ext (by dsimp only; omega))

end Cert.KernelIdeal.Fox

end
-- ==== Proof.Fox.Head.lean ====
/- A head's output at a query row and a value lane: the running softmax over the tiles up to the diagonal leaves the plain softmax's
   weighted sum over all keys. -/
module

public import proofs.«01_k».proof.Proof.Fox.Steps

@[expose] public section

set_option maxRecDepth 8192

noncomputable section

namespace Cert.KernelIdeal.Fox

open Idealize.ShloMosaic Idealize.ShloMosaic.TcCoe Idealize.SL.Sem
open Cert.KernelIdeal Cert.KernelIdeal.Gen

/-- One tile's step keeps the invariant at every query row and value lane. -/
theorem headStep_inv (S : FVec Idealize.ShloMosaic.Ideal S256x256 .f32) (v : Vec Idealize.ShloMosaic.Ideal S1x1x64x256 .bf16) (h : HeadState Ideal) (d : Fin 64) (r : Fin 256)
    (sc vv : ℕ → EReal) (N : ℕ) (hS : ∀ k : Fin 256, S (ix2 k r) = sc (N + k.val)) (hv : ∀ k : Fin 256, v (ix4 0 0 d k) = vv (N + k.val))
    (htop : ∀ k, sc k ≠ ⊤) (i : Fin 256) (hi : sc (N + i.val) ≠ ⊥)
    (hI : Inv sc vv N (h.1 (ix2 0 r)) (h.2.1 (ix2 0 r)) (h.2.2 (ix3 0 d r))) :
    Inv sc vv (N + 256) ((headStep S v h).1 (ix2 0 r)) ((headStep S v h).2.1 (ix2 0 r)) ((headStep S v h).2.2 (ix3 0 d r)) := by
  show Inv sc vv (N + 256) (hMax h.1 S (ix2 0 r)) (hSum h.1 h.2.1 S (ix2 0 r)) (hAcc h.1 S v h.2.2 (ix3 0 d r))
  have hm := hMax_at h.1 S r
  rw [hSum_at, hAcc_at]
  simp only [hS, hv] at hm ⊢
  exact inv_step sc vv N 256 _ _ _ hI htop i hi _ hm

section head
variable
  (x0 : Vec Idealize.ShloMosaic.Ideal S1x256x512 .f32) (x1 : Vec Idealize.ShloMosaic.Ideal S1x1x256x8 .f32) (x2 : Vec Idealize.ShloMosaic.Ideal S1x8x2048x128 .bf16) (x3 : Vec Idealize.ShloMosaic.Ideal S1x8x64x2048 .bf16)
  (n j : Fin 8) (r : Fin 256) (d : Fin 64) (sc vv : ℕ → EReal)
  (htile : ∀ (n' : Fin 8) (k : Fin 256), 256 * n'.val + k.val ≤ 256 * n.val + r.val →
    hScore (F := Idealize.ShloMosaic.Ideal) (kTile x2 j n') (qBlk x0 x1 j) (ix2 k r) = sc (256 * n'.val + k.val))
  (hv : ∀ (n' : Fin 8) (k : Fin 256), vTile (F := Idealize.ShloMosaic.Ideal) x3 j n' (ix4 0 0 d k) = vv (256 * n'.val + k.val))
  (htop : ∀ k, sc k ≠ ⊤) (hfin : ∀ k, k ≤ 256 * n.val + r.val → sc k ≠ ⊥) (hz : ∀ k, 256 * n.val + r.val < k → sc k = ⊥)
include htile hv htop hfin

theorem headIter_inv : ∀ t : ℕ, t ≤ n.val →
    Inv sc vv (256 * t) ((headIter x2 x3 (qBlk x0 x1 j) j head0 t).1 (ix2 0 r)) ((headIter x2 x3 (qBlk x0 x1 j) j head0 t).2.1 (ix2 0 r))
      ((headIter x2 x3 (qBlk x0 x1 j) j head0 t).2.2 (ix3 0 d r))
  | 0, _ => by
    left
    refine ⟨rfl, ?_, ?_, ?_⟩
    · show Named.named (F := Idealize.ShloMosaic.Ideal) κ "mask" (φ := .f32) 0xF149F2CA#32 = (⊥ : EReal)
      exact mask_named
    · show Ideal.ofBits .f32 0x00000000#32 = 0
      exact Ideal.ofBits_zero_f32
    · show Ideal.ofBits .f32 0x00000000#32 = 0
      exact Ideal.ofBits_zero_f32
  | t + 1, ht => by
    have h8 : t < 8 := by have := n.isLt; omega
    have ih := headIter_inv t (by omega)
    have hle : ∀ k : Fin 256, 256 * t + k.val ≤ 256 * n.val + r.val := fun k => by have := k.isLt; omega
    rw [headIter, dif_pos h8, Nat.mul_succ]
    exact headStep_inv _ _ _ d r sc vv (256 * t) (fun k => htile ⟨t, h8⟩ k (hle k)) (fun k => hv ⟨t, h8⟩ k) htop 0 (hfin _ (hle 0)) ih

include hz

/-- The head's output is the softmax's weighted sum over all keys, whatever the level `M'` it is taken at. -/
theorem head_value (M' : ℝ) :
    hOut (headEnd x0 x1 x2 x3 n j).2.1 (headEnd x0 x1 x2 x3 n j).2.2 (ix2 d r)
      = ∑ k ∈ Finset.range 2048, Ideal.div (wt (sc k) M' : EReal) ((∑ k ∈ Finset.range 2048, wt (sc k) M' : ℝ) : EReal) * vv k := by
  rw [hOut_at]
  have hI := headIter_inv x0 x1 x2 x3 n j r d sc vv htile hv htop hfin n.val le_rfl
  have hmask : ∀ k : Fin 256, mScore x0 x1 x2 n j (ix2 k r) = sc (256 * n.val + k.val) := fun k => by
    rw [mScore, hMask_at]
    split_ifs with hk
    · exact htile n k (by omega)
    · exact (hz _ (by omega)).symm
  have hE := headStep_inv (mScore x0 x1 x2 n j) (vTile x3 j n) _ d r sc vv (256 * n.val) hmask (fun k => hv n k) htop r (hfin _ le_rfl) hI
  exact inv_final sc vv (256 * n.val + 256) 2048 (by have := n.isLt; omega) _ _ _ hE (256 * n.val + r.val) (by have := r.isLt; omega) (hfin _ le_rfl)
    (fun k hk => hz k (by have := r.isLt; omega)) M'

end head

set_option maxHeartbeats 2000000 in
/-- The block a grid point stores, at a query row and a lane: the head's output times the gate. -/
theorem blkOut_at (x0 : Vec Idealize.ShloMosaic.Ideal S1x256x512 .f32) (x1 : Vec Idealize.ShloMosaic.Ideal S1x1x256x8 .f32) (x2 : Vec Idealize.ShloMosaic.Ideal S1x8x2048x128 .bf16)
    (x3 : Vec Idealize.ShloMosaic.Ideal S1x8x64x2048 .bf16) (x4 : Vec Idealize.ShloMosaic.Ideal S1x256x512 .bf16) (n j : Fin 8) (r : Fin 256) (d : Fin 64) :
    blkOut x0 x1 x2 x3 x4 n (ix3 0 r ⟨64 * j.val + d.val, by omega⟩)
      = hOut (headEnd x0 x1 x2 x3 n j).2.1 (headEnd x0 x1 x2 x3 n j).2.2 (ix2 d r) * x4 (ix3 0 r ⟨64 * j.val + d.val, by omega⟩) := by
  show outBlk (fun j => hOut (headEnd x0 x1 x2 x3 n j).2.1 (headEnd x0 x1 x2 x3 n j).2.2) x4 _
    = (fun j => hOut (headEnd x0 x1 x2 x3 n j).2.1 (headEnd x0 x1 x2 x3 n j).2.2) j (ix2 d r) * _
  generalize (fun j => hOut (headEnd x0 x1 x2 x3 n j).2.1 (headEnd x0 x1 x2 x3 n j).2.2) = h
  have hd := d.isLt
  have he : ∀ (j : Fin 8) (e : ℕ) (h1 : e < 64) (y : EReal), e = d.val → h j (ix2 ⟨e, h1⟩ r) * y = h j (ix2 d r) * y := fun j e h1 y e0 => by
    subst e0; rfl
  fin_cases j <;> (pointwise [outBlk]; repeat (first | rw [dif_pos (by omega)] | rw [dif_neg (by omega)]))
  all_goals exact he _ _ _ _ (by omega)

end Cert.KernelIdeal.Fox

end
-- ==== Proof.Fox.Spec.lean ====
/- The attention as a formula over the scores: what both programs are shown to compute. -/
module

public import proofs.«01_k».proof.Proof.Fox.Online
public import Idealize.ShloMosaic.Lib.Pointwise

@[expose] public section

noncomputable section

namespace Cert.Fox

open Idealize.ShloMosaic Cert.KernelIdeal.Fox

/-- A head's lane among the 1024. -/
theorem lt_lane (h : Fin 16) (d : Fin 64) : 64 * h.val + d.val < 1024 := by omega

/-- A head among the sixteen, by its group of eight. -/
theorem lt_gate (g : Fin 2) (j : Fin 8) : 8 * g.val + j.val < 16 := by omega

/-- A lane of the lower half. -/
theorem lt_lo (d : Fin 64) : d.val < 128 := by omega

/-- A lane of the upper half. -/
theorem lt_hi (e : Fin 64) : 64 + e.val < 128 := by omega

/-- The score of query `s` and key `k` of head `h` in batch `b`, in base-2 units: minus infinity after the diagonal. -/
def sc (q k : Fin 8 → Fin 2048 → Fin 1024 → ℝ) (c : Fin 8 → Fin 2048 → Fin 16 → ℝ) (b : Fin 8) (h : Fin 16) (s : Fin 2048) (i : ℕ) : EReal :=
  if hi : i ≤ s.val then
    (((Real.log 2)⁻¹ * ((∑ d : Fin 64, q b s ⟨64 * h.val + d.val, by omega⟩ * k b ⟨i, by omega⟩ ⟨64 * h.val + d.val, by omega⟩) * (1 / 8)
      + c b s h - c b ⟨i, by omega⟩ h) : ℝ) : EReal)
  else ⊥

/-- Lane `d` of head `h`'s value at key `k`. -/
def vv (v : Fin 8 → Fin 2048 → Fin 1024 → EReal) (b : Fin 8) (h : Fin 16) (d : Fin 64) (i : ℕ) : EReal :=
  if hi : i < 2048 then v b ⟨i, hi⟩ ⟨64 * h.val + d.val, by omega⟩ else 0

/-- The softmax's weighted sum of the values over all keys, the weights taken relative to the level `M`. -/
def attn (q k : Fin 8 → Fin 2048 → Fin 1024 → ℝ) (c : Fin 8 → Fin 2048 → Fin 16 → ℝ) (v : Fin 8 → Fin 2048 → Fin 1024 → EReal)
    (b : Fin 8) (h : Fin 16) (s : Fin 2048) (d : Fin 64) (M : ℝ) : EReal :=
  ∑ i ∈ Finset.range 2048,
    Ideal.div (wt (sc q k c b h s i) M : EReal) ((∑ i ∈ Finset.range 2048, wt (sc q k c b h s i) M : ℝ) : EReal) * vv v b h d i

end Cert.Fox

end
-- ==== Proof.Fox.Arrays.lean ====
/- The two regions' result arrays, at indices. -/
module

public import proofs.«01_k».proof.Proof.Fox.Prep
public import proofs.«01_k».proof.Proof.Fox.Head
public import proofs.«01_k».proof.Proof.Fox.Spec

@[expose] public section

set_option maxRecDepth 16384

noncomputable section

namespace Cert.KernelIdeal.Fox

open Idealize.ShloMosaic Idealize.ShloMosaic.TcCoe Idealize.SL.Sem
open Cert.KernelIdeal Cert.KernelIdeal.Gen

/-! ## Block indices -/

theorem idx0_0 : ∀ t : Fin grid0.N, win0_0.index t = ![(grid0.coords t 0).val, (grid0.coords t 1).val, 0] := by decide +kernel
theorem idx0_1 : ∀ t : Fin grid0.N, win0_1.index t = ![(grid0.coords t 0).val, (grid0.coords t 1).val, 0] := by decide +kernel
theorem idx0_2 : ∀ t : Fin grid0.N, win0_2.index t = ![(grid0.coords t 0).val, (grid0.coords t 1).val, 0] := by decide +kernel
theorem idx0_3 : ∀ t : Fin grid0.N, win0_3.index t = ![(grid0.coords t 0).val, 0, (grid0.coords t 1).val, 0] := by decide +kernel
theorem idx0_4 : ∀ t : Fin grid0.N, win0_4.index t = ![(grid0.coords t 0).val, 0, 0, (grid0.coords t 1).val] := by decide +kernel

theorem idx1_0 : ∀ t : Fin grid1.N, win1_0.index t = ![(grid1.coords t 0).val, (grid1.coords t 2).val, (grid1.coords t 1).val] := by decide +kernel
theorem idx1_1 : ∀ t : Fin grid1.N, win1_1.index t = ![(grid1.coords t 0).val, (grid1.coords t 1).val, (grid1.coords t 2).val, 0] := by decide +kernel
theorem idx1_2 : ∀ t : Fin grid1.N, win1_2.index t = ![(grid1.coords t 0).val, (grid1.coords t 1).val, 0, 0] := by decide +kernel
theorem idx1_3 : ∀ t : Fin grid1.N, win1_3.index t = ![(grid1.coords t 0).val, (grid1.coords t 1).val, 0, 0] := by decide +kernel
theorem idx1_4 : ∀ t : Fin grid1.N, win1_4.index t = ![(grid1.coords t 0).val, (grid1.coords t 2).val, (grid1.coords t 1).val] := by decide +kernel
theorem idx1_5 : ∀ t : Fin grid1.N, win1_5.index t = ![(grid1.coords t 0).val, (grid1.coords t 2).val, (grid1.coords t 1).val] := by decide +kernel

/-- An index of rank three from its coordinates. -/
theorem ix3_ext {n0 n1 n2 : ℕ} (x : (⟨3, ![n0, n1, n2]⟩ : Shape).Idx) {a : Fin n0} {b : Fin n1} {c : Fin n2}
    (h0 : (x 0).val = a.val) (h1 : (x 1).val = b.val) (h2 : (x 2).val = c.val) : x = ix3 a b c := by
  funext i
  refine Fin.ext ?_
  fin_cases i
  · exact h0
  · exact h1
  · exact h2

variable (V : (c : Dev nD) → (b : Ref sig .tc) → Buf (Elt Ideal) ((c : Thread nD τ).loc b)) (c : Dev nD)

/-! ## The preparation region -/

theorem iblk0_0 (t : Fin cfg0.N) (b : Fin 8) (s : Fin 2048) (k : Fin 256) (l : Fin 1024) (h0 : (grid0.coords t 0).val = b.val)
    (h1 : (grid0.coords t 1).val * 256 + k.val = s.val) :
    iblk0 V c 0 t (ix3 0 k l : S1x256x1024.Idx) = V c main_v0 (ix3 b s l : S8x2048x1024.Idx) := by
  blk_simp [iblk0]
  refine congrArg _ (ix3_ext _ ?_ ?_ ?_) <;> blk_simp [idx0_0] <;> first | exact h0 | exact h1 | rfl

theorem iblk0_1 (t : Fin cfg0.N) (b : Fin 8) (s : Fin 2048) (k : Fin 256) (l : Fin 1024) (h0 : (grid0.coords t 0).val = b.val)
    (h1 : (grid0.coords t 1).val * 256 + k.val = s.val) :
    iblk0 V c 1 t (ix3 0 k l : S1x256x1024.Idx) = V c main_v1 (ix3 b s l : S8x2048x1024.Idx) := by
  blk_simp [iblk0]
  refine congrArg _ (ix3_ext _ ?_ ?_ ?_) <;> blk_simp [idx0_1] <;> first | exact h0 | exact h1 | rfl

theorem iblk0_2 (t : Fin cfg0.N) (b : Fin 8) (s : Fin 2048) (k : Fin 256) (l : Fin 128) (h0 : (grid0.coords t 0).val = b.val)
    (h1 : (grid0.coords t 1).val * 256 + k.val = s.val) :
    iblk0 V c 2 t (ix3 0 k l : S1x256x128.Idx) = V c main_v2 (ix3 b s l : S8x2048x128.Idx) := by
  blk_simp [iblk0]
  refine congrArg _ (ix3_ext _ ?_ ?_ ?_) <;> blk_simp [idx0_2] <;> first | exact h0 | exact h1 | rfl

/-- The keys' array, lanes below 64: the key. -/
theorem ka_arr_lo (b : Fin 8) (h : Fin 16) (s : Fin 2048) (d : Fin 64) :
    (dat0 V c).arrAt 3 cfg0.N (ix4 b h s ⟨d.val, by omega⟩ : S8x16x2048x128.Idx) = V c main_v0 (ix3 b s ⟨64 * h.val + d.val, by omega⟩ : S8x2048x1024.Idx) := by
  refine (dat0 V c).arrAt_forall_of_covers 3 (fun i v => ∀ (b : Fin 8) (h : Fin 16) (s : Fin 2048) (d : Fin 64), i = (ix4 b h s ⟨d.val, by omega⟩ : S8x16x2048x128.Idx) →
    v = V c main_v0 (ix3 b s ⟨64 * h.val + d.val, by omega⟩ : S8x2048x1024.Idx)) (by decide +kernel) (fun t hf y => ?_) _ (Memref.isWhole_whole _) b h s d rfl
  blk_simp
  rw [after0_3]
  intro b h s d e
  have e0 := congrArg (fun i => (i 0).val) e
  have e1 := congrArg (fun i => (i 1).val) e
  have e2 := congrArg (fun i => (i 2).val) e
  have e3 := congrArg (fun i => (i 3).val) e
  blk_simp [idx0_3] at e0 e1 e2 e3
  change S1x16x256x128.Idx at y
  obtain ⟨k, hk⟩ : ∃ k : Fin 256, (y 2).val = k.val := ⟨⟨(y 2).val, (y 2).isLt⟩, rfl⟩
  rw [show y = ix4 0 h k ⟨d.val, by omega⟩ from ix4_ext y (by have : (y 0).val < 1 := (y 0).isLt; omega) e1 hk e3, ka_lo]
  exact iblk0_0 V c t b s k _ e0 (by omega)

/-- The keys' array, lanes 64 on: the gate lanes. -/
theorem ka_arr_hi (cR : Fin 8 → Fin 2048 → Fin 16 → ℝ) (hc : ∀ b s (h : Fin 16), V c main_v2 (ix3 b s ⟨h.val, by omega⟩ : S8x2048x128.Idx) = (cR b s h : EReal))
    (b : Fin 8) (h : Fin 16) (s : Fin 2048) (e : Fin 64) :
    (dat0 V c).arrAt 3 cfg0.N (ix4 b h s ⟨64 + e.val, by omega⟩ : S8x16x2048x128.Idx) = ((if e.val = 0 then cR b s h * (Real.log 2)⁻¹ else if 3 ≤ e.val ∧ e.val < 6 then 1 else 0 : ℝ) : EReal) := by
  refine (dat0 V c).arrAt_forall_of_covers 3 (fun i v => ∀ (b : Fin 8) (h : Fin 16) (s : Fin 2048) (e : Fin 64), i = (ix4 b h s ⟨64 + e.val, by omega⟩ : S8x16x2048x128.Idx) →
    v = ((if e.val = 0 then cR b s h * (Real.log 2)⁻¹ else if 3 ≤ e.val ∧ e.val < 6 then 1 else 0 : ℝ) : EReal)) (by decide +kernel) (fun t hf y => ?_) _ (Memref.isWhole_whole _) b h s e rfl
  blk_simp
  rw [after0_3]
  intro b h s d e
  have e0 := congrArg (fun i => (i 0).val) e
  have e1 := congrArg (fun i => (i 1).val) e
  have e2 := congrArg (fun i => (i 2).val) e
  have e3 := congrArg (fun i => (i 3).val) e
  blk_simp [idx0_3] at e0 e1 e2 e3
  change S1x16x256x128.Idx at y
  obtain ⟨k, hk⟩ : ∃ k : Fin 256, (y 2).val = k.val := ⟨⟨(y 2).val, (y 2).isLt⟩, rfl⟩
  rw [show y = ix4 0 h k ⟨64 + d.val, by omega⟩ from ix4_ext y (by have : (y 0).val < 1 := (y 0).isLt; omega) e1 hk e3]
  exact ka_hi _ _ _ h k d (cR b s h) ((iblk0_2 V c t b s k _ e0 (by omega)).trans (hc b s h))

/-- The values' array: the value transposed. -/
theorem vt_arr (b : Fin 8) (h : Fin 16) (d : Fin 64) (s : Fin 2048) :
    (dat0 V c).arrAt 4 cfg0.N (ix4 b h d s : S8x16x64x2048.Idx) = V c main_v1 (ix3 b s ⟨64 * h.val + d.val, by omega⟩ : S8x2048x1024.Idx) := by
  refine (dat0 V c).arrAt_forall_of_covers 4 (fun i v => ∀ (b : Fin 8) (h : Fin 16) (d : Fin 64) (s : Fin 2048), i = (ix4 b h d s : S8x16x64x2048.Idx) →
    v = V c main_v1 (ix3 b s ⟨64 * h.val + d.val, by omega⟩ : S8x2048x1024.Idx)) (by decide +kernel) (fun t hf y => ?_) _ (Memref.isWhole_whole _) b h d s rfl
  blk_simp
  rw [after0_4]
  intro b h d s e
  have e0 := congrArg (fun i => (i 0).val) e
  have e1 := congrArg (fun i => (i 1).val) e
  have e2 := congrArg (fun i => (i 2).val) e
  have e3 := congrArg (fun i => (i 3).val) e
  blk_simp [idx0_4] at e0 e1 e2 e3
  change S1x16x64x256.Idx at y
  obtain ⟨k, hk⟩ : ∃ k : Fin 256, (y 3).val = k.val := ⟨⟨(y 3).val, (y 3).isLt⟩, rfl⟩
  rw [show y = ix4 0 h d k from ix4_ext y (by have : (y 0).val < 1 := (y 0).isLt; omega) e1 e2 hk, vt_at]
  exact iblk0_1 V c t b s k _ e0 (by omega)

/-! ## The attention region -/

theorem iblk1_0 (t : Fin cfg1.N) (b : Fin 8) (s : Fin 2048) (r : Fin 256) (l : Fin 512) (l' : Fin 1024) (h0 : (grid1.coords t 0).val = b.val)
    (h1 : (grid1.coords t 2).val * 256 + r.val = s.val) (h2 : (grid1.coords t 1).val * 512 + l.val = l'.val) :
    iblk1 V c 0 t (ix3 0 r l : S1x256x512.Idx) = V c main_arg0 (ix3 b s l' : S8x2048x1024.Idx) := by
  blk_simp [iblk1]
  refine congrArg _ (ix3_ext _ ?_ ?_ ?_) <;> blk_simp [idx1_0] <;> first | exact h0 | exact h1 | exact h2

theorem iblk1_4 (t : Fin cfg1.N) (b : Fin 8) (s : Fin 2048) (r : Fin 256) (l : Fin 512) (l' : Fin 1024) (h0 : (grid1.coords t 0).val = b.val)
    (h1 : (grid1.coords t 2).val * 256 + r.val = s.val) (h2 : (grid1.coords t 1).val * 512 + l.val = l'.val) :
    iblk1 V c 4 t (ix3 0 r l : S1x256x512.Idx) = V c main_v12 (ix3 b s l' : S8x2048x1024.Idx) := by
  blk_simp [iblk1]
  refine congrArg _ (ix3_ext _ ?_ ?_ ?_) <;> blk_simp [idx1_4] <;> first | exact h0 | exact h1 | exact h2

theorem iblk1_1 (t : Fin cfg1.N) (b : Fin 8) (g : Fin 2) (s : Fin 2048) (r : Fin 256) (j : Fin 8) (h0 : (grid1.coords t 0).val = b.val)
    (h1 : (grid1.coords t 1).val = g.val) (h2 : (grid1.coords t 2).val * 256 + r.val = s.val) :
    iblk1 V c 1 t (ix4 0 0 r j : S1x1x256x8.Idx) = V c main_v5 (ix4 b g s j : S8x2x2048x8.Idx) := by
  blk_simp [iblk1]
  refine congrArg _ (ix4_ext _ ?_ ?_ ?_ ?_) <;> blk_simp [idx1_1] <;> first | exact h0 | exact h1 | exact h2 | rfl

theorem iblk1_2 (t : Fin cfg1.N) (b : Fin 8) (h : Fin 16) (j : Fin 8) (s : Fin 2048) (l : Fin 128) (h0 : (grid1.coords t 0).val = b.val)
    (h1 : (grid1.coords t 1).val * 8 + j.val = h.val) :
    iblk1 V c 2 t (ix4 0 j s l : S1x8x2048x128.Idx) = V c main_v3_0 (ix4 b h s l : S8x16x2048x128.Idx) := by
  blk_simp [iblk1]
  refine congrArg _ (ix4_ext _ ?_ ?_ ?_ ?_) <;> blk_simp [idx1_2] <;> first | exact h0 | exact h1 | rfl

theorem iblk1_3 (t : Fin cfg1.N) (b : Fin 8) (h : Fin 16) (j : Fin 8) (d : Fin 64) (s : Fin 2048) (h0 : (grid1.coords t 0).val = b.val)
    (h1 : (grid1.coords t 1).val * 8 + j.val = h.val) :
    iblk1 V c 3 t (ix4 0 j d s : S1x8x64x2048.Idx) = V c main_v3_1 (ix4 b h d s : S8x16x64x2048.Idx) := by
  blk_simp [iblk1]
  refine congrArg _ (ix4_ext _ ?_ ?_ ?_ ?_) <;> blk_simp [idx1_3] <;> first | exact h0 | exact h1 | rfl

end Cert.KernelIdeal.Fox

end
-- ==== Proof.Fox.Result.lean ====
/- The attention region's result array, at an index: the softmax's weighted sum times the gate. -/
module

public import proofs.«01_k».proof.Proof.Fox.Arrays

@[expose] public section

set_option maxRecDepth 16384

noncomputable section

namespace Cert.KernelIdeal.Fox

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b)) (c : Dev nD)

/-- What grid point `t` leaves in the result's block. -/
theorem outsAt_eq (t : Fin cfg1.N) (n : Fin 8) (hn : n.val = (grid1.coords t 2).val) :
    outsAt1 V c t = blkOut (iblk1 V c 0 t) (iblk1 V c 1 t) (iblk1 V c 2 t) (iblk1 V c 3 t) (iblk1 V c 4 t) n := by
  unfold outsAt1 out1_A_5
  rw [View.read_writes_junk_eq_canon, point_eq _ _ _ _ _ _ _ _ _ _ _ _ _ _ _ _ _ _ _ _ _ _ _ n hn,
    View.canon_unit_zero (funext fun a => by fin_cases a <;> rfl)]

theorem vTile_at (x : Vec Ideal S1x8x64x2048 .bf16) (j n : Fin 8) (d : Fin 64) (k : Fin 256) :
    vTile x j n (ix4 0 0 d k) = x (ix4 0 j d ⟨256 * n.val + k.val, by omega⟩) := rfl

theorem kTile_at (x : Vec Ideal S1x8x2048x128 .bf16) (j n : Fin 8) (k : Fin 256) (l : Fin 128) :
    kTile x j n (ix4 0 0 k l) = x (ix4 0 j ⟨256 * n.val + k.val, by omega⟩ l) := rfl

section
variable (qR kR : Fin 8 → Fin 2048 → Fin 1024 → ℝ) (cR : Fin 8 → Fin 2048 → Fin 16 → ℝ) (vE : Fin 8 → Fin 2048 → Fin 1024 → EReal)
  (hQ : ∀ b s l, V c main_arg0 (ix3 b s l : S8x2048x1024.Idx) = (qR b s l : EReal))
  (hC : ∀ b (g : Fin 2) s (j : Fin 8), V c main_v5 (ix4 b g s j : S8x2x2048x8.Idx) = (cR b s ⟨8 * g.val + j.val, Cert.Fox.lt_gate g j⟩ : EReal))
  (hK : ∀ b (h : Fin 16) s (d : Fin 64), V c main_v3_0 (ix4 b h s ⟨d.val, Cert.Fox.lt_lo d⟩ : S8x16x2048x128.Idx) = (kR b s ⟨64 * h.val + d.val, Cert.Fox.lt_lane h d⟩ : EReal))
  (hKe : ∀ b (h : Fin 16) s (e : Fin 64), V c main_v3_0 (ix4 b h s ⟨64 + e.val, Cert.Fox.lt_hi e⟩ : S8x16x2048x128.Idx)
    = ((if e.val = 0 then cR b s h * (Real.log 2)⁻¹ else if 3 ≤ e.val ∧ e.val < 6 then 1 else 0 : ℝ) : EReal))
  (hV : ∀ b (h : Fin 16) (d : Fin 64) s, V c main_v3_1 (ix4 b h d s : S8x16x64x2048.Idx) = vE b s ⟨64 * h.val + d.val, Cert.Fox.lt_lane h d⟩)
include hQ hC hK hKe hV

/-- A grid point's block at a query row and a lane. -/
theorem blk_at (t : Fin cfg1.N) (b : Fin 8) (h : Fin 16) (s : Fin 2048) (n j : Fin 8) (r : Fin 256) (d : Fin 64) (h0 : (grid1.coords t 0).val = b.val)
    (h1 : (grid1.coords t 1).val * 8 + j.val = h.val) (h2 : (grid1.coords t 2).val = n.val) (hs : 256 * n.val + r.val = s.val) (M : ℝ) :
    blkOut (iblk1 V c 0 t) (iblk1 V c 1 t) (iblk1 V c 2 t) (iblk1 V c 3 t) (iblk1 V c 4 t) n (ix3 0 r ⟨64 * j.val + d.val, by omega⟩)
      = Cert.Fox.attn qR kR cR vE b h s d M * V c main_v12 (ix3 b s ⟨64 * h.val + d.val, by omega⟩ : S8x2048x1024.Idx) := by
  rw [blkOut_at, iblk1_4 V c t b s r ⟨64 * j.val + d.val, by omega⟩ ⟨64 * h.val + d.val, by omega⟩ h0 (by omega) (by dsimp only; omega)]
  congr 1
  refine head_value _ _ _ _ n j r d (Cert.Fox.sc qR kR cR b h s) (Cert.Fox.vv vE b h d) (fun n' k hle => ?_) (fun n' k => ?_) (fun k => ?_) (fun k hk => ?_) (fun k hk => ?_) M
  · have hle' : 256 * n'.val + k.val ≤ s.val := by omega
    rw [Cert.Fox.sc, dif_pos hle']
    refine score_eq _ _ _ j k r (fun d => kR b ⟨256 * n'.val + k.val, by omega⟩ ⟨64 * h.val + d.val, by omega⟩) (fun d => qR b s ⟨64 * h.val + d.val, by omega⟩)
      (cR b ⟨256 * n'.val + k.val, by omega⟩ h) (cR b s h) (fun d => ?_) (fun e => ?_) (fun d => ?_) ?_
    · rw [kTile_at, iblk1_2 V c t b h j _ _ h0 h1, hK]
    · rw [kTile_at, iblk1_2 V c t b h j _ _ h0 h1, hKe]
    · rw [iblk1_0 V c t b s r ⟨64 * j.val + d.val, by omega⟩ ⟨64 * h.val + d.val, by omega⟩ h0 (by omega) (by dsimp only; omega), hQ]
    · obtain ⟨g, hg⟩ : ∃ g : Fin 2, (grid1.coords t 1).val = g.val := ⟨grid1.coords t 1, rfl⟩
      rw [iblk1_1 V c t b g s r j h0 hg (by omega), hC]
      exact congrArg (fun e => (cR b s e : EReal)) (Fin.ext (by dsimp only; omega))
  · rw [vTile_at, iblk1_3 V c t b h j d _ h0 h1, hV, Cert.Fox.vv, dif_pos]
  · rw [Cert.Fox.sc]
    split_ifs
    · exact EReal.coe_ne_top _
    · exact bot_ne_top
  · rw [Cert.Fox.sc, dif_pos (by omega)]
    exact EReal.coe_ne_bot _
  · rw [Cert.Fox.sc, dif_neg (by omega)]

/-- The result array at a query and a lane of a head. -/
theorem result_arr (b : Fin 8) (s : Fin 2048) (h : Fin 16) (d : Fin 64) (M : ℝ) :
    (dat1 V c).arrAt 5 cfg1.N (ix3 b s ⟨64 * h.val + d.val, by omega⟩ : S8x2048x1024.Idx)
      = Cert.Fox.attn qR kR cR vE b h s d M * V c main_v12 (ix3 b s ⟨64 * h.val + d.val, by omega⟩ : S8x2048x1024.Idx) := by
  refine (dat1 V c).arrAt_forall_of_covers 5 (fun i v => ∀ (b : Fin 8) (s : Fin 2048) (h : Fin 16) (d : Fin 64), i = (ix3 b s ⟨64 * h.val + d.val, by omega⟩ : S8x2048x1024.Idx) →
    v = Cert.Fox.attn qR kR cR vE b h s d M * V c main_v12 (ix3 b s ⟨64 * h.val + d.val, by omega⟩ : S8x2048x1024.Idx)) (by decide +kernel) (fun t hf y => ?_) _
    (Memref.isWhole_whole _) b s h d rfl
  blk_simp
  rw [after1_5]
  intro b s h d e
  have e0 := congrArg (fun i => (i 0).val) e
  have e1 := congrArg (fun i => (i 1).val) e
  have e2 := congrArg (fun i => (i 2).val) e
  blk_simp [idx1_5] at e0 e1 e2
  replace e2 : (grid1.coords t 1).val * 512 + (y 2).val = 64 * h.val + d.val := e2
  change S1x256x512.Idx at y
  obtain ⟨r, hr⟩ : ∃ r : Fin 256, (y 1).val = r.val := ⟨⟨(y 1).val, (y 1).isLt⟩, rfl⟩
  have hg : (grid1.coords t 1).val < 2 := (grid1.coords t 1).isLt
  have hy : (y 2).val < 512 := (y 2).isLt
  obtain ⟨j, hj⟩ : ∃ j : Fin 8, (grid1.coords t 1).val * 8 + j.val = h.val := ⟨⟨h.val - (grid1.coords t 1).val * 8, by omega⟩, by dsimp only; omega⟩
  obtain ⟨n, hn⟩ : ∃ n : Fin 8, (grid1.coords t 2).val = n.val := ⟨grid1.coords t 2, rfl⟩
  rw [outsAt_eq V c t n hn.symm, show y = ix3 0 r ⟨64 * j.val + d.val, by omega⟩ from
    ix3_ext y (by have : (y 0).val < 1 := (y 0).isLt; omega) hr (by dsimp only; omega)]
  exact blk_at V c qR kR cR vE hQ hC hK hKe hV t b h s n j r d e0 hj hn (by omega) M

end

end Cert.KernelIdeal.Fox

end
-- ==== Proof.Fox.Host.lean ====
/- The kernel's host lines, and its result array from its arguments. -/
module

public import proofs.«01_k».proof.Proof.Fox.Result
public import Idealize.ShloMosaic.Lib.StableHlo.ReadAt

@[expose] public section

set_option maxRecDepth 16384

noncomputable section

namespace Cert.KernelIdeal.Fox

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

theorem v0_at (b : Fin 8) (s : Fin 2048) (l : Fin 1024) :
    V2 m ρ c main_v0 (ix3 b s l : S8x2048x1024.Idx) = m ((c : Thread nD τ).loc main_arg1) (ix3 b s l : S8x2048x1024.Idx) := by
  rw [show V2 m ρ c main_v0 = W1 m ρ c (Proc.devRef .tc main_v0) from W2_of m ρ c main_v0 (by decide)]
  after_reads_at

theorem v1_at (b : Fin 8) (s : Fin 2048) (l : Fin 1024) :
    V2 m ρ c main_v1 (ix3 b s l : S8x2048x1024.Idx) = m ((c : Thread nD τ).loc main_arg2) (ix3 b s l : S8x2048x1024.Idx) := by
  rw [show V2 m ρ c main_v1 = W1 m ρ c (Proc.devRef .tc main_v1) from W2_of m ρ c main_v1 (by decide)]
  after_reads_at

/-- The padded gate at its own sixteen lanes. -/
theorem v2_at (b : Fin 8) (s : Fin 2048) (h : Fin 16) :
    V2 m ρ c main_v2 (ix3 b s ⟨h.val, by omega⟩ : S8x2048x128.Idx) = m ((c : Thread nD τ).loc main_arg3) (ix3 b s h : S8x2048x16.Idx) := by
  show StableHlo.after hostOps0_1 (W1 m ρ c) (Proc.devRef .tc main_v2) (ix3 b s ⟨h.val, by omega⟩ : S8x2048x128.Idx) = _
  after_reads_at

/-- The gate by groups of eight heads. -/
theorem v5_at (b : Fin 8) (g : Fin 2) (s : Fin 2048) (j : Fin 8) :
    V4 m ρ c main_v5 (ix4 b g s j : S8x2x2048x8.Idx) = m ((c : Thread nD τ).loc main_arg3) (ix3 b s ⟨8 * g.val + j.val, by omega⟩ : S8x2048x16.Idx) := by
  show StableHlo.after hostOps1 (W3 m ρ c) (Proc.devRef .tc main_v5) (ix4 b g s j : S8x2x2048x8.Idx) = _
  after_reads_at
  rw [show W3 m ρ c (Proc.devRef .tc main_arg3) = m ((c : Thread nD τ).loc main_arg3) from W3_args m ρ c main_arg3 (by decide)]
  congr 2
  exact Fin.ext (by show g.val * 8 + j.val = 8 * g.val + j.val; omega)

/-- The output gate: the logistic function of the gate argument. -/
theorem v12_at (b : Fin 8) (s : Fin 2048) (l : Fin 1024) (x : EReal)
    (hx : m ((c : Thread nD τ).loc main_arg4) (ix3 b s l : S8x2048x1024.Idx) = x) :
    V4 m ρ c main_v12 (ix3 b s l : S8x2048x1024.Idx) = Ideal.div 1 (1 + Ideal.exp (-x)) := by
  subst hx
  show StableHlo.after hostOps1 (W3 m ρ c) (Proc.devRef .tc main_v12) (ix3 b s l : S8x2048x1024.Idx) = _
  after_reads_at
  rw [show W3 m ρ c (Proc.devRef .tc main_arg4) = m ((c : Thread nD τ).loc main_arg4) from W3_args m ρ c main_arg4 (by decide)]

/-- THE KERNEL'S RESULT AT AN INDEX: the attention over the arguments, times the logistic of the gate. -/
theorem out_at (qR kR : Fin 8 → Fin 2048 → Fin 1024 → ℝ) (cR : Fin 8 → Fin 2048 → Fin 16 → ℝ) (vE gE : Fin 8 → Fin 2048 → Fin 1024 → EReal)
    (hq : ∀ b s l, m ((c : Thread nD τ).loc main_arg0) (ix3 b s l : S8x2048x1024.Idx) = ((qR b s l : ℝ) : EReal))
    (hk : ∀ b s l, m ((c : Thread nD τ).loc main_arg1) (ix3 b s l : S8x2048x1024.Idx) = ((kR b s l : ℝ) : EReal))
    (hc : ∀ b s h, m ((c : Thread nD τ).loc main_arg3) (ix3 b s h : S8x2048x16.Idx) = ((cR b s h : ℝ) : EReal))
    (hv : ∀ b s l, m ((c : Thread nD τ).loc main_arg2) (ix3 b s l : S8x2048x1024.Idx) = vE b s l)
    (hg : ∀ b s l, m ((c : Thread nD τ).loc main_arg4) (ix3 b s l : S8x2048x1024.Idx) = gE b s l)
    (b : Fin 8) (s : Fin 2048) (h : Fin 16) (d : Fin 64) (M : ℝ) :
    W5 m ρ c (Proc.devRef .tc main_v13) (ix3 b s ⟨64 * h.val + d.val, by omega⟩ : S8x2048x1024.Idx)
      = Cert.Fox.attn qR kR cR vE b h s d M * Ideal.div 1 (1 + Ideal.exp (-gE b s ⟨64 * h.val + d.val, Cert.Fox.lt_lane h d⟩)) := by
  have e0 : V4 m ρ c main_v3_0 = (dat0 (V2 m ρ) c).arrAt 3 cfg0.N :=
    (W4_of m ρ c main_v3_0 (by decide)).trans (W3_arr m ρ c 3)
  have e1 : V4 m ρ c main_v3_1 = (dat0 (V2 m ρ) c).arrAt 4 cfg0.N :=
    (W4_of m ρ c main_v3_1 (by decide)).trans (W3_arr m ρ c 4)
  rw [show W5 m ρ c (Proc.devRef .tc main_v13) = (dat1 (V4 m ρ) c).arrAt 5 cfg1.N from W5_arr m ρ c 5]
  rw [result_arr (V4 m ρ) c qR kR cR vE
    (fun b s l => by
      rw [show V4 m ρ c main_arg0 = m ((c : Thread nD τ).loc main_arg0) from W4_args m ρ c main_arg0 (by decide)]
      exact hq b s l)
    (fun b g s j => (v5_at m ρ c b g s j).trans (hc b s _))
    (fun b h s d => by rw [e0, ka_arr_lo, v0_at]; exact hk b s _)
    (fun b h s e => by rw [e0]; exact ka_arr_hi (V2 m ρ) c cR (fun b s h => (v2_at m ρ c b s h).trans (hc b s h)) b h s e)
    (fun b h d s => by rw [e1, vt_arr, v1_at]; exact hv b s _)
    b s h d M, v12_at m ρ c b s _ _ (hg b s _)]

end Cert.KernelIdeal.Fox

end
-- ==== Proof.Fox.KRun.lean ====
/- The kernel's run with its result: the launch over the segments, read at the result array. -/
module

public import proofs.«01_k».proof.Proof.Gen.KernelIdeal.Frame

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN'S VALUE: every execution of the kernel's @main ends with the result array at what the last call's
    write-backs leave in it, and the arguments as launched. -/
theorem run : θ_run defs (onTc (τ := τ) (main (F := F))) ⟨m, fun _ => 0, ρ⟩ (fun r => ∀ c : Dev nD,
      r.2.mem ((c.tc : Thread nD τ).loc main_v13) = W5 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v13 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Fox

end
-- ==== Proof.Fox.Ref.lean ====
/- The reference's result at an index: its operations in four stages, each read at an index. -/
module

public import proofs.«01_k».proof.Proof.Gen.ReferenceIdeal.Run
public import proofs.«01_k».proof.Proof.Fox.Spec
public import proofs.«01_k».proof.Proof.Fox.Consts
public import Idealize.ShloMosaic.Lib.Pointwise
public import Idealize.ShloMosaic.Lib.WordCmp

@[expose] public section

set_option maxRecDepth 16384

noncomputable section

namespace Cert.ReferenceIdeal.Fox

open Idealize.ShloMosaic Idealize.ShloMosaic.TcCoe
open Cert.ReferenceIdeal Cert.ReferenceIdeal.Value Cert.ReferenceIdeal.Gen Cert.ReferenceIdeal.Facts

/-- The masked scores. -/
def lg (q k : FVec Ideal S8x2048x1024 .f32) (c : FVec Ideal S8x2048x16 .f32) : FVec Ideal S8x16x2048x2048 .f32 :=
  select (broadcastInDim S8x16x2048x2048 ![2, 3] bcast_S2048x2048_S8x16x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (subf (addf (mulf (Host.dotGeneral dot_S8x16x2048x64_S8x16x2048x64_S8x16x2048x2048_3_3_2_2_01_01 none (transpose S8x16x2048x64 [0, 2, 1, 3] (shapeCast _ q shapeCasts_S8x2048x1024_S8x2048x16x64) transposes_S8x2048x16x64_S8x16x2048x64_0_2_1_3) (transpose S8x16x2048x64 [0, 2, 1, 3] (shapeCast _ k shapeCasts_S8x2048x1024_S8x2048x16x64) transposes_S8x2048x16x64_S8x16x2048x64_0_2_1_3)) (broadcastInDim S8x16x2048x2048 ![] bcast_S_S8x16x2048x2048 (constant S_ .f32 0x3E000000#32))) (broadcastInDim S8x16x2048x2048 ![0, 1, 2, 3] bcast_S8x16x2048x1_S8x16x2048x2048_0_1_2_3 (broadcastInDim S8x16x2048x1 ![0, 1, 2] bcast_S8x16x2048_S8x16x2048x1_0_1_2 (transpose S8x16x2048 [0, 2, 1] c transposes_S8x2048x16_S8x16x2048_0_2_1)))) (broadcastInDim S8x16x2048x2048 ![0, 1, 2, 3] bcast_S8x16x1x2048_S8x16x2048x2048_0_1_2_3 (broadcastInDim S8x16x1x2048 ![0, 1, 3] bcast_S8x16x2048_S8x16x1x2048_0_1_3 (transpose S8x16x2048 [0, 2, 1] c transposes_S8x2048x16_S8x16x2048_0_2_1)))) (broadcastInDim S8x16x2048x2048 ![] bcast_S_S8x16x2048x2048 (id (constant S_ .f32 0xFF800000#32)))

/-- The rows' maxima. -/
def mx (l : FVec Ideal S8x16x2048x2048 .f32) : FVec Ideal S8x16x2048 .f32 :=
  maximumf (broadcastInDim S8x16x2048 ![] bcast_S_S8x16x2048 (constant S_ .f32 0xFF800000#32)) (Host.reduce FloatOps.maximumf l (constant S_ .f32 0xFF800000#32) reducesTo_S8x16x2048x2048_S8x16x2048_d3 h_S_)

/-- The exponentials of the scores less the rows' maxima. -/
def ex (l : FVec Ideal S8x16x2048x2048 .f32) (M : FVec Ideal S8x16x2048 .f32) : FVec Ideal S8x16x2048x2048 .f32 :=
  Host.exp (subf l (broadcastInDim S8x16x2048x2048 ![0, 1, 2, 3] bcast_S8x16x2048x1_S8x16x2048x2048_0_1_2_3 (broadcastInDim S8x16x2048x1 ![0, 1, 2] bcast_S8x16x2048_S8x16x2048x1_0_1_2 M)))

/-- The weights: each exponential over its row's sum. -/
def pr (e : FVec Ideal S8x16x2048x2048 .f32) : FVec Ideal S8x16x2048x2048 .f32 :=
  Host.divf e (broadcastInDim S8x16x2048x2048 ![0, 1, 2, 3] bcast_S8x16x2048x1_S8x16x2048x2048_0_1_2_3 (broadcastInDim S8x16x2048x1 ![0, 1, 2] bcast_S8x16x2048_S8x16x2048x1_0_1_2 (Host.reduceAdd e (constant S_ .f32 0x00000000#32) reducesTo_S8x16x2048x2048_S8x16x2048_d3 h_S_)))

/-- The weighted values times the output gate. -/
def outR (p : FVec Ideal S8x16x2048x2048 .f32) (v g : FVec Ideal S8x2048x1024 .f32) : FVec Ideal S8x2048x1024 .bf16 :=
  truncf .bf16 (mulf (shapeCast _ (transpose S8x2048x16x64 [0, 2, 1, 3] (Host.dotGeneral dot_S8x16x2048x2048_S8x16x2048x64_S8x16x2048x64_3_2_2_3_01_01 none p (transpose S8x16x2048x64 [0, 2, 1, 3] (shapeCast _ v shapeCasts_S8x2048x1024_S8x2048x16x64) transposes_S8x2048x16x64_S8x16x2048x64_0_2_1_3)) transposes_S8x16x2048x64_S8x2048x16x64_0_2_1_3) shapeCasts_S8x2048x16x64_S8x2048x1024) (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf g))))) bitsLt_bf16_f32

variable (m : (ℓ : Loc nD τ sig) → Buf (Elt Ideal) ℓ) (c : Dev nD)

/-- The reference's result is the stages one after the other. -/
theorem res_eq : res_main_v45 m c
    = outR (pr (ex (lg (m ((c.tc : Thread nD τ).loc main_arg0)) (m ((c.tc : Thread nD τ).loc main_arg1)) (m ((c.tc : Thread nD τ).loc main_arg3)))
        (mx (lg (m ((c.tc : Thread nD τ).loc main_arg0)) (m ((c.tc : Thread nD τ).loc main_arg1)) (m ((c.tc : Thread nD τ).loc main_arg3))))))
        (m ((c.tc : Thread nD τ).loc main_arg2)) (m ((c.tc : Thread nD τ).loc main_arg4)) := rfl

/-- A masked score at an index. -/
theorem lg_at (q k : FVec Ideal S8x2048x1024 .f32) (c : FVec Ideal S8x2048x16 .f32) (b : Fin 8) (h : Fin 16) (s i : Fin 2048) :
    lg q k c (ix4 b h s i) = if i.val ≤ s.val then
      (∑ d : Fin 64, (q (ix3 b s ⟨64 * h.val + d.val, Cert.Fox.lt_lane h d⟩) : EReal) * k (ix3 b i ⟨64 * h.val + d.val, Cert.Fox.lt_lane h d⟩))
        * ((1 / 8 : ℝ) : EReal) + c (ix3 b s h) - c (ix3 b i h) else (⊥ : EReal) := by
  pointwise [lg]
  rw [show (id (constant (F := Ideal) S_ FTy.f32 4286578688#32) ix0 : EReal) = ⊥ from rfl, Cert.Consts.ofBits_eighth]
  simp only [show ∀ d : Fin 64, (⟨h.val * 64 + d.val, by omega⟩ : Fin 1024) = ⟨64 * h.val + d.val, Cert.Fox.lt_lane h d⟩ from
    fun d => Fin.ext (by show h.val * 64 + d.val = 64 * h.val + d.val; omega)]
  exact if_congr (WordCmp.cmpi_sle_ofNat_eq_one_iff (by omega) (by omega)) rfl rfl

/-- A host maximum over the last of four axes, from minus infinity: the fold of `max` along it. -/
theorem reduce_max_at (l : FVec Ideal S8x16x2048x2048 .f32) (i0 : FVec Ideal S_ .f32) (b : Fin 8) (h : Fin 16) (s : Fin 2048) :
    Host.reduce (FloatOps.maximumf (F := Ideal) (φ := .f32)) l i0 reducesTo_S8x16x2048x2048_S8x16x2048_d3 h_S_ (ix3 b h s)
      = Finset.univ.fold (FloatOps.maximumf (F := Ideal) (φ := .f32)) (i0 (Shape.Idx.first h_S_)) (fun i : Fin 2048 => l (ix4 b h s i)) := by
  rw [Host.reduce_eq_fold]
  exact Shape.ReducesTo.fold_fiber_r4_a3 _ _ _ _ _

/-- A row's maximum. -/
theorem mx_at (l : FVec Ideal S8x16x2048x2048 .f32) (b : Fin 8) (h : Fin 16) (s : Fin 2048) :
    mx l (ix3 b h s) = FloatOps.maximumf (F := Ideal) (φ := .f32) (⊥ : EReal)
      (Finset.univ.fold (FloatOps.maximumf (F := Ideal) (φ := .f32)) (⊥ : EReal) (fun i : Fin 2048 => l (ix4 b h s i))) := by
  have e1 : broadcastInDim S8x16x2048 ![] bcast_S_S8x16x2048 (constant (F := Ideal) S_ .f32 0xFF800000#32) (ix3 b h s) = (⊥ : EReal) := rfl
  have e2 : constant (F := Ideal) S_ .f32 0xFF800000#32 (Shape.Idx.first h_S_) = (⊥ : EReal) := rfl
  rw [mx, maximumf_apply, e1, reduce_max_at, e2]

/-- An exponential at an index. -/
theorem ex_at (l : FVec Ideal S8x16x2048x2048 .f32) (M : FVec Ideal S8x16x2048 .f32) (b : Fin 8) (h : Fin 16) (s i : Fin 2048) :
    ex l M (ix4 b h s i) = Ideal.exp ((l (ix4 b h s i) : EReal) - M (ix3 b h s)) := by
  pointwise [ex]

/-- A weight at an index. -/
theorem pr_at (e : FVec Ideal S8x16x2048x2048 .f32) (b : Fin 8) (h : Fin 16) (s i : Fin 2048) :
    pr e (ix4 b h s i) = Ideal.div (e (ix4 b h s i) : EReal) (∑ i : Fin 2048, (e (ix4 b h s i) : EReal)) := by
  pointwise [pr]

/-- The result at an index, from the weights. -/
theorem outR_at (p : FVec Ideal S8x16x2048x2048 .f32) (v g : FVec Ideal S8x2048x1024 .f32) (b : Fin 8) (s : Fin 2048) (h : Fin 16) (d : Fin 64) :
    outR p v g (ix3 b s ⟨64 * h.val + d.val, Cert.Fox.lt_lane h d⟩)
      = (∑ i : Fin 2048, (p (ix4 b h s i) : EReal) * v (ix3 b i ⟨64 * h.val + d.val, Cert.Fox.lt_lane h d⟩))
        * Ideal.div 1 (1 + Ideal.exp (-(g (ix3 b s ⟨64 * h.val + d.val, Cert.Fox.lt_lane h d⟩) : EReal))) := by
  pointwise [outR]
  simp only [show (⟨h.val * 64 + d.val, by omega⟩ : Fin 1024) = ⟨64 * h.val + d.val, Cert.Fox.lt_lane h d⟩ from
    Fin.ext (by show h.val * 64 + d.val = 64 * h.val + d.val; omega)]

end Cert.ReferenceIdeal.Fox

end
-- ==== Proof.Fox.Softmax.lean ====
/- One row of the softmax with natural exponentials is the row with powers of two at a scaled level. -/
module

public import proofs.«01_k».proof.Proof.Fox.Spec

@[expose] public section

noncomputable section

namespace Cert.Fox

open Idealize.ShloMosaic Cert.KernelIdeal.Fox

/-- A weight as a natural exponential: with the score in base-2 units and the level scaled alike. -/
theorem wt_scaled (r μ : ℝ) : wt ((((Real.log 2)⁻¹ * r : ℝ) : EReal)) (μ * (Real.log 2)⁻¹) = Real.exp (r - μ) := by
  have hl : Real.log 2 ≠ 0 := (Real.log_pos (by norm_num)).ne'
  unfold wt
  rw [if_neg (EReal.coe_ne_bot _), EReal.toReal_coe, Real.rpow_eq_pow, Real.rpow_def_of_pos (by norm_num)]
  congr 1
  field_simp

/-- A fold of the maximum from minus infinity over entries none of which is infinite is not infinite, and no entry exceeds it. -/
theorem fold_max (x : Fin 2048 → EReal) (hx : ∀ i, x i ≠ ⊤) (K : Finset (Fin 2048)) :
    K.fold (FloatOps.maximumf (F := Ideal) (φ := .f32)) (⊥ : EReal) x ≠ (⊤ : EReal)
      ∧ ∀ s ∈ K, x s ≤ (K.fold (FloatOps.maximumf (F := Ideal) (φ := .f32)) (⊥ : EReal) x : EReal) := by
  classical
  induction K using Finset.induction_on with
  | empty => rw [Finset.fold_empty]; exact ⟨bot_ne_top, fun s hs => absurd hs (Finset.notMem_empty s)⟩
  | insert a K ha ih =>
    rw [Finset.fold_insert ha]
    generalize K.fold (FloatOps.maximumf (F := Ideal) (φ := .f32)) (⊥ : EReal) x = y at ih
    rw [show FloatOps.maximumf (F := Ideal) (φ := .f32) (x a) y = max (x a) (y : EReal) from rfl]
    refine ⟨fun h => ?_, fun s hs => ?_⟩
    · rcases max_choice (x a) (y : EReal) with e | e
      · exact hx a (e ▸ h)
      · exact ih.1 (e ▸ h)
    · rcases Finset.mem_insert.mp hs with rfl | hs
      · exact le_max_left _ _
      · exact (ih.2 s hs).trans (le_max_right _ _)

/-- The maximum of a row that has a real entry and no infinite one is real. -/
theorem fold_max_real (x : Fin 2048 → EReal) (s : Fin 2048) (hs : ∃ r : ℝ, x s = r) (hx : ∀ i, x i ≠ ⊤) :
    ∃ μ : ℝ, FloatOps.maximumf (F := Ideal) (φ := .f32) (⊥ : EReal)
      (Finset.univ.fold (FloatOps.maximumf (F := Ideal) (φ := .f32)) (⊥ : EReal) x) = (μ : EReal) := by
  obtain ⟨r, hr⟩ := hs
  obtain ⟨h1, h2⟩ := fold_max x hx Finset.univ
  have h3 := h2 s (Finset.mem_univ _)
  generalize Finset.univ.fold (FloatOps.maximumf (F := Ideal) (φ := .f32)) (⊥ : EReal) x = y at h1 h3
  have h4 : (y : EReal) ≠ ⊥ := fun hb => by
    rw [hb, hr] at h3
    exact EReal.coe_ne_bot r (le_bot_iff.mp h3)
  refine ⟨EReal.toReal y, ?_⟩
  rw [show FloatOps.maximumf (F := Ideal) (φ := .f32) (⊥ : EReal) y = max ⊥ (y : EReal) from rfl, max_eq_right bot_le, EReal.coe_toReal h1 h4]

/-- THE ROW: the softmax of a masked row of real scores, taken with natural exponentials relative to a real level, is
    `attn` at that level in base-2 units. -/
theorem row_eq (q k : Fin 8 → Fin 2048 → Fin 1024 → ℝ) (c : Fin 8 → Fin 2048 → Fin 16 → ℝ) (v : Fin 8 → Fin 2048 → Fin 1024 → EReal)
    (b : Fin 8) (h : Fin 16) (s : Fin 2048) (d : Fin 64) (x : Fin 2048 → EReal) (μ : ℝ)
    (hx : ∀ i : Fin 2048, x i = if i.val ≤ s.val then
      (((∑ d : Fin 64, q b s ⟨64 * h.val + d.val, lt_lane h d⟩ * k b i ⟨64 * h.val + d.val, lt_lane h d⟩) * (1 / 8) + c b s h - c b i h : ℝ) : EReal)
      else ⊥) :
    ∑ i : Fin 2048, Ideal.div (Ideal.exp (x i - (μ : EReal))) (∑ i : Fin 2048, Ideal.exp (x i - (μ : EReal))) * v b i ⟨64 * h.val + d.val, lt_lane h d⟩
      = attn q k c v b h s d (μ * (Real.log 2)⁻¹) := by
  have he : ∀ i : Fin 2048, Ideal.exp (x i - (μ : EReal)) = ((wt (sc q k c b h s i.val) (μ * (Real.log 2)⁻¹) : ℝ) : EReal) := fun i => by
    rw [hx i, sc]
    split_ifs with hi
    · rw [wt_scaled, ← EReal.coe_sub, Ideal.exp_coe]
    · rw [wt, if_pos rfl, EReal.bot_sub]
      rfl
  simp only [he]
  rw [show (∑ i : Fin 2048, ((wt (sc q k c b h s i.val) (μ * (Real.log 2)⁻¹) : ℝ) : EReal))
      = ((∑ i ∈ Finset.range 2048, wt (sc q k c b h s i) (μ * (Real.log 2)⁻¹) : ℝ) : EReal) from by
    rw [coe_sum, Finset.sum_range (fun i => ((wt (sc q k c b h s i) (μ * (Real.log 2)⁻¹) : ℝ) : EReal))]]
  rw [attn, Finset.sum_range (fun i => Ideal.div ((wt (sc q k c b h s i) (μ * (Real.log 2)⁻¹) : ℝ) : EReal)
    ((∑ i ∈ Finset.range 2048, wt (sc q k c b h s i) (μ * (Real.log 2)⁻¹) : ℝ) : EReal) * vv v b h d i)]
  refine Finset.sum_congr rfl fun i _ => ?_
  rw [vv, dif_pos i.isLt]

end Cert.Fox

end
-- ==== Proof.Fox.Value.lean ====
/- The kernel's result is the reference's: both are the attention times the gate at every index. -/
module

public import proofs.«01_k».proof.Defs
public import proofs.«01_k».proof.Proof.Fox.Host
public import proofs.«01_k».proof.Proof.Fox.KRun
public import proofs.«01_k».proof.Proof.Fox.Ref
public import proofs.«01_k».proof.Proof.Fox.Softmax
public import proofs.«01_k».proof.Proof.Gen.Kernel
public import proofs.«01_k».proof.Proof.Gen.Pre_finite_scores
public import Idealize.ShloMosaic.Lib.ReduceAll

@[expose] public section

set_option maxRecDepth 16384

noncomputable section

namespace Cert.Fox

open Idealize.ShloMosaic Idealize.ShloMosaic.TcCoe Idealize.SL.Sem

/-- An extended real below infinity in absolute value is real. -/
theorem real_of_abs_lt (x : EReal) (h : Ideal.cmp .olt (max x (-x)) (⊤ : EReal) = 1#1) : x = ((x.toReal : ℝ) : EReal) := by
  have h1 : max x (-x) < ⊤ := by
    by_contra hn
    rw [show Ideal.cmp .olt (max x (-x)) (⊤ : EReal) = BitVec.ofBool (decide (max x (-x) < ⊤)) from rfl, decide_eq_false hn] at h
    exact absurd h (by decide)
  refine (EReal.coe_toReal ?_ ?_).symm
  · rintro rfl; exact absurd h1 (by simp)
  · rintro rfl; exact absurd h1 (by simp)

instance : Subsingleton Cert.Pre_finite_scores.S_.Idx := ⟨fun a b => funext fun i => i.elim0⟩

section
open Cert.Pre_finite_scores Cert.Pre_finite_scores.Facts

variable [Cert.Pre_finite_scores.Facts]

/-- What the precondition says: the queries, the keys and the cumulative gates are real. -/
theorem real_of_pre (q k v : FVec Ideal S8x2048x1024 .f32) (c : FVec Ideal S8x2048x16 .f32) (g : FVec Ideal S8x2048x1024 .f32)
    (h : fn (F := Ideal) q k v c g = fun _ => 1#1) :
    (∀ i, q i = ((EReal.toReal (q i) : ℝ) : EReal)) ∧ (∀ i, k i = ((EReal.toReal (k i) : ℝ) : EReal))
      ∧ ∀ i, c i = ((EReal.toReal (c i) : ℝ) : EReal) := by
  have h0 : fn (F := Ideal) q k v c g ix0 = 1#1 := congrFun h ix0
  obtain ⟨h1, h2⟩ := IntOp.andi_eq_one.1 h0
  obtain ⟨h3, h4⟩ := IntOp.andi_eq_one.1 h1
  exact ⟨fun i => real_of_abs_lt _ (Host.reduce_andi_all _ _ _ _ _ h3 i), fun i => real_of_abs_lt _ (Host.reduce_andi_all _ _ _ _ _ h4 i),
    fun i => real_of_abs_lt _ (Host.reduce_andi_all _ _ _ _ _ h2 i)⟩

end

section
open Cert.ReferenceIdeal

variable (m : (ℓ : Loc nD τ sig) → Buf (Elt Ideal) ℓ) (c : Dev nD)

/-- THE REFERENCE'S RESULT AT AN INDEX: the attention over the arguments at the row's own level, times the logistic of the gate. -/
theorem ref_at (qR kR : Fin 8 → Fin 2048 → Fin 1024 → ℝ) (cR : Fin 8 → Fin 2048 → Fin 16 → ℝ) (vE gE : Fin 8 → Fin 2048 → Fin 1024 → EReal)
    (hq : ∀ b s l, m ((c.tc : Thread nD τ).loc main_arg0) (ix3 b s l : S8x2048x1024.Idx) = ((qR b s l : ℝ) : EReal))
    (hk : ∀ b s l, m ((c.tc : Thread nD τ).loc main_arg1) (ix3 b s l : S8x2048x1024.Idx) = ((kR b s l : ℝ) : EReal))
    (hc : ∀ b s h, m ((c.tc : Thread nD τ).loc main_arg3) (ix3 b s h : S8x2048x16.Idx) = ((cR b s h : ℝ) : EReal))
    (hv : ∀ b s l, m ((c.tc : Thread nD τ).loc main_arg2) (ix3 b s l : S8x2048x1024.Idx) = vE b s l)
    (hg : ∀ b s l, m ((c.tc : Thread nD τ).loc main_arg4) (ix3 b s l : S8x2048x1024.Idx) = gE b s l)
    (b : Fin 8) (s : Fin 2048) (h : Fin 16) (d : Fin 64) :
    ∃ M : ℝ, Value.res_main_v45 m c (ix3 b s ⟨64 * h.val + d.val, lt_lane h d⟩ : S8x2048x1024.Idx)
      = attn qR kR cR vE b h s d M * Ideal.div 1 (1 + Ideal.exp (-gE b s ⟨64 * h.val + d.val, lt_lane h d⟩)) := by
  have hl := fun i : Fin 2048 => (Fox.lg_at (m ((c.tc : Thread nD τ).loc main_arg0)) (m ((c.tc : Thread nD τ).loc main_arg1))
    (m ((c.tc : Thread nD τ).loc main_arg3)) b h s i)
  simp only [hq, hk, hc] at hl
  have hx : ∀ i : Fin 2048, Fox.lg (m ((c.tc : Thread nD τ).loc main_arg0)) (m ((c.tc : Thread nD τ).loc main_arg1))
      (m ((c.tc : Thread nD τ).loc main_arg3)) (ix4 b h s i) = if i.val ≤ s.val then
      (((∑ d : Fin 64, qR b s ⟨64 * h.val + d.val, lt_lane h d⟩ * kR b i ⟨64 * h.val + d.val, lt_lane h d⟩) * (1 / 8) + cR b s h - cR b i h : ℝ) : EReal)
      else ⊥ := fun i => by
    rw [hl i]
    refine if_congr Iff.rfl ?_ rfl
    rw [EReal.coe_sub, EReal.coe_add, EReal.coe_mul, Cert.KernelIdeal.Fox.coe_sum]
    simp only [EReal.coe_mul]
  rw [Fox.res_eq, Fox.outR_at]
  simp only [Fox.pr_at, Fox.ex_at, Fox.mx_at, hv, hg]
  generalize Fox.lg (m ((c.tc : Thread nD τ).loc main_arg0)) (m ((c.tc : Thread nD τ).loc main_arg1)) (m ((c.tc : Thread nD τ).loc main_arg3)) = l at hx
  obtain ⟨μ, hμ⟩ := fold_max_real (fun i => l (ix4 b h s i)) s ⟨_, (hx s).trans (if_pos le_rfl)⟩ fun i => by
    show (l (ix4 b h s i) : EReal) ≠ ⊤
    rw [hx i]
    split_ifs
    exacts [EReal.coe_ne_top _, bot_ne_top]
  simp only [hμ]
  exact ⟨_, congrArg (· * _) (row_eq qR kR cR vE b h s d (fun i => l (ix4 b h s i)) μ hx)⟩

end

/-- THE VALUE CLAIM: at real queries, keys and gates the idealized kernel and the reference compute one and the same result. -/
theorem algebraic : Cert.algebraic_KernelIdeal_ReferenceIdeal_pre_finite_scores := by
  intro m g m' g' hpre hagree
  refine ⟨_, KernelIdeal.Fox.run m g, ?_⟩
  refine (θ_run ReferenceIdeal.defs _ _).mono (fun _ h c => ⟨(h c).1.trans ?_, (h c).2⟩) (ReferenceIdeal.Value.run (F := Ideal) m' g')
  obtain ⟨h0, h1, h2, h3, h4⟩ := hagree c
  obtain ⟨rq, rk, rc⟩ := real_of_pre _ _ _ _ _ (hpre c)
  funext y
  obtain ⟨b, s, h, d, rfl⟩ : ∃ (b : Fin 8) (s : Fin 2048) (h : Fin 16) (d : Fin 64),
      y = (ix3 b s ⟨64 * h.val + d.val, lt_lane h d⟩ : KernelIdeal.S8x2048x1024.Idx) := by
    have hy : (y 2).val < 1024 := (y 2).isLt
    refine ⟨y 0, y 1, ⟨(y 2).val / 64, by omega⟩, ⟨(y 2).val % 64, by omega⟩, ?_⟩
    exact KernelIdeal.Fox.ix3_ext y rfl rfl (by show (y 2).val = 64 * ((y 2).val / 64) + (y 2).val % 64; omega)
  obtain ⟨M, hM⟩ := ref_at m' c (fun b s l => EReal.toReal (m ((c.tc : Thread KernelIdeal.nD KernelIdeal.τ).loc KernelIdeal.main_arg0) (ix3 b s l : KernelIdeal.S8x2048x1024.Idx)))
    (fun b s l => EReal.toReal (m ((c.tc : Thread KernelIdeal.nD KernelIdeal.τ).loc KernelIdeal.main_arg1) (ix3 b s l : KernelIdeal.S8x2048x1024.Idx)))
    (fun b s l => EReal.toReal (m ((c.tc : Thread KernelIdeal.nD KernelIdeal.τ).loc KernelIdeal.main_arg3) (ix3 b s l : KernelIdeal.S8x2048x16.Idx)))
    (fun b s l => m ((c.tc : Thread KernelIdeal.nD KernelIdeal.τ).loc KernelIdeal.main_arg2) (ix3 b s l : KernelIdeal.S8x2048x1024.Idx))
    (fun b s l => m ((c.tc : Thread KernelIdeal.nD KernelIdeal.τ).loc KernelIdeal.main_arg4) (ix3 b s l : KernelIdeal.S8x2048x1024.Idx))
    (fun b s l => (congrFun h0 _).trans (rq _)) (fun b s l => (congrFun h1 _).trans (rk _)) (fun b s l => (congrFun h3 _).trans (rc _))
    (fun b s l => congrFun h2 _) (fun b s l => congrFun h4 _) b s h d
  exact hM.trans (KernelIdeal.Fox.out_at m g c _ _ _ _ _ (fun b s l => rq _) (fun b s l => rk _) (fun b s l => rc _)
    (fun b s l => rfl) (fun b s l => rfl) b s h d M).symm

end Cert.Fox

end
-- ==== Proof.Hgrn.Chunk.lean ====
/- One chunk of the recurrence for one head, as the kernel computes it: the running sums of the log gates, the part read
   from the state, the part of the earlier blocks of eight rows, and the part inside a block. -/
module

public import proofs.«01_k».proof.Proof.Gen.Kernel8Ideal.Loops
public import Idealize.ShloMosaic.Lib.Pointwise

@[expose] public section

set_option maxRecDepth 8192

noncomputable section

namespace Cert.Kernel8Ideal.Hgrn

open Idealize.ShloMosaic Idealize.ShloMosaic.TcCoe Idealize.SL.Sem
open Cert.Kernel8Ideal Cert.Kernel8Ideal.Gen

variable {F : FTy → Type} [FloatOps F] [Named F]

/-- A loaded block of 64 rows at full width. -/
def wide (x : Vec F S1x64x128 .bf16) : FVec F S64x128 .f32 :=
  extf .f32 (shapeCast (α := F .bf16) S64x128 x shapeCasts_S1x64x128_S64x128) bitsLt_bf16_f32

/-- A loaded state of a head. -/
def square (x : Vec F S1x128x128 .f32) : FVec F S128x128 .f32 := shapeCast (α := F .f32) S128x128 x shapeCasts_S1x128x128_S128x128

/-- Ones on and below the diagonal. -/
def lower : FVec F S64x64 .bf16 :=
  truncf .bf16 (sitofp .f32 (extui 32 (cmpi .sge (iota .tc S64x64 32 [0] iota_S64x64_d0_w32) (iota .tc S64x64 32 [1] iota_S64x64_d1_w32)) natLt_1_32)) bitsLt_bf16_f32

/-- The sums of the rows up to each one, of a narrowed block. -/
def below (x : FVec F S64x128 .bf16) : FVec F S64x128 .f32 :=
  matmul dot_S64x64_S64x128_S64x128_1_0_0_1_n_n none lower x (constant S64x128 .f32 0x00000000#32)

/-- What narrowing a block leaves out. -/
def rest (x : FVec F S64x128 .f32) : FVec F S64x128 .f32 := subf x (extf .f32 (truncf .bf16 x bitsLt_bf16_f32) bitsLt_bf16_f32)

/-- The running sums of a block, summed in three narrowed parts. -/
def sums (x : FVec F S64x128 .f32) : FVec F S64x128 .f32 :=
  addf (addf (below (truncf .bf16 x bitsLt_bf16_f32)) (below (truncf .bf16 (rest x) bitsLt_bf16_f32)))
    (below (truncf .bf16 (rest (rest x)) bitsLt_bf16_f32))

/-- The running log gates of a chunk. -/
def gates (lf : Vec F S1x64x128 .f32) : FVec F S64x128 .f32 := sums (shapeCast (α := F .f32) S64x128 lf shapeCasts_S1x64x128_S64x128)

/-- What the chunk reads from the state. -/
def fromState (q b : FVec F S64x128 .f32) (st : FVec F S128x128 .f32) : FVec F S64x128 .f32 :=
  matmul dot_S64x128_S128x128_S64x128_1_1_0_0_n_n none (truncf .bf16 (mulf q (exp b)) bitsLt_bf16_f32) (truncf .bf16 st bitsLt_bf16_f32)
    (constant S64x128 .f32 0x00000000#32)

/-- One row of a block met by the rows of the block at or after it. -/
def step {off : Fin 2 → ℕ} (hs : S8x128.Slices off S1x128) (n : BitVec 32) (q b k v a : FVec F S8x128 .f32) : FVec F S8x128 .f32 :=
  addf a (mulf
    (broadcastTo S8x128
      (select (cmpi .sge (iota .tc S8x1 32 [0] iota_S8x1_d0_w32) (broadcast S8x1 n))
        (shapeCast S8x1
          (multiReduction .add [1] S8
            (mulf (mulf q (exp (subf b (broadcastTo S8x128 (extractStridedSlice S1x128 off b hs) broadcasts_S1x128_S8x128))))
              (broadcastTo S8x128 (extractStridedSlice S1x128 off k hs) broadcasts_S1x128_S8x128))
            0x00000000#32 reduces_S8x128_S8 (.inl rfl) rfl)
          shapeCasts_S8_S8x1)
        (broadcast S8x1 (Scalar.ofBits .f32 0x00000000#32)))
      broadcasts_S8x1_S8x128)
    (broadcastTo S8x128 (extractStridedSlice S1x128 off v hs) broadcasts_S1x128_S8x128))

/-- The eight rows of a block, one after another. -/
def steps (q b k v a : FVec F S8x128 .f32) : FVec F S8x128 .f32 :=
  step slices_S8x128_o7_0_S1x128 7#32 q b k v (step slices_S8x128_o6_0_S1x128 6#32 q b k v (step slices_S8x128_o5_0_S1x128 5#32 q b k v (step slices_S8x128_o4_0_S1x128 4#32 q b k v (step slices_S8x128_o3_0_S1x128 3#32 q b k v (step slices_S8x128_o2_0_S1x128 2#32 q b k v (step slices_S8x128_o1_0_S1x128 1#32 q b k v (step slices_S8x128_o0_0_S1x128 0#32 q b k v a)))))))

/-- The first block of eight rows. -/
def part0 (q k v b c : FVec F S64x128 .f32) : FVec F S8x128 .f32 :=
  steps (extractStridedSlice S8x128 ![0, 0] q slices_S64x128_o0_0_S8x128) (extractStridedSlice S8x128 ![0, 0] b slices_S64x128_o0_0_S8x128)
    (extractStridedSlice S8x128 ![0, 0] k slices_S64x128_o0_0_S8x128) (extractStridedSlice S8x128 ![0, 0] v slices_S64x128_o0_0_S8x128)
    (extractStridedSlice S8x128 ![0, 0] c slices_S64x128_o0_0_S8x128)

/-- What rows 8 to 15 read from the rows before them. -/
def early1 (q k v b : FVec F S64x128 .f32) : FVec F S8x128 .f32 :=
  matmul dot_S8x8_S8x128_S8x128_1_0_0_1_n_n none
    (truncf .bf16
      (matmul dot_S8x128_S8x128_S8x8_1_1_0_0_n_n none
        (truncf .bf16 (mulf (extractStridedSlice S8x128 ![8, 0] q slices_S64x128_o8_0_S8x128)
          (exp (subf (extractStridedSlice S8x128 ![8, 0] b slices_S64x128_o8_0_S8x128)
            (broadcastTo S8x128 (extractStridedSlice S1x128 ![7, 0] b slices_S64x128_o7_0_S1x128) broadcasts_S1x128_S8x128)))) bitsLt_bf16_f32)
        (truncf .bf16 (mulf (extractStridedSlice S8x128 ![0, 0] k slices_S64x128_o0_0_S8x128)
          (exp (subf (broadcastTo S8x128 (extractStridedSlice S1x128 ![7, 0] b slices_S64x128_o7_0_S1x128) broadcasts_S1x128_S8x128)
            (extractStridedSlice S8x128 ![0, 0] b slices_S64x128_o0_0_S8x128)))) bitsLt_bf16_f32)
        (constant S8x8 .f32 0x00000000#32)) bitsLt_bf16_f32)
    (truncf .bf16 (extractStridedSlice S8x128 ![0, 0] v slices_S64x128_o0_0_S8x128) bitsLt_bf16_f32)
    (constant S8x128 .f32 0x00000000#32)

/-- Rows 8 to 15 of a chunk. -/
def part1 (q k v b c : FVec F S64x128 .f32) : FVec F S8x128 .f32 :=
  steps (extractStridedSlice S8x128 ![8, 0] q slices_S64x128_o8_0_S8x128) (extractStridedSlice S8x128 ![8, 0] b slices_S64x128_o8_0_S8x128)
    (extractStridedSlice S8x128 ![8, 0] k slices_S64x128_o8_0_S8x128) (extractStridedSlice S8x128 ![8, 0] v slices_S64x128_o8_0_S8x128)
    (addf (extractStridedSlice S8x128 ![8, 0] c slices_S64x128_o8_0_S8x128) (early1 q k v b))

/-- What rows 16 to 23 read from the rows before them. -/
def early2 (q k v b : FVec F S64x128 .f32) : FVec F S8x128 .f32 :=
  matmul dot_S8x16_S16x128_S8x128_1_0_0_1_n_n none
    (truncf .bf16
      (matmul dot_S8x128_S16x128_S8x16_1_1_0_0_n_n none
        (truncf .bf16 (mulf (extractStridedSlice S8x128 ![16, 0] q slices_S64x128_o16_0_S8x128)
          (exp (subf (extractStridedSlice S8x128 ![16, 0] b slices_S64x128_o16_0_S8x128)
            (broadcastTo S8x128 (extractStridedSlice S1x128 ![15, 0] b slices_S64x128_o15_0_S1x128) broadcasts_S1x128_S8x128)))) bitsLt_bf16_f32)
        (truncf .bf16 (mulf (extractStridedSlice S16x128 ![0, 0] k slices_S64x128_o0_0_S16x128)
          (exp (subf (broadcastTo S16x128 (extractStridedSlice S1x128 ![15, 0] b slices_S64x128_o15_0_S1x128) broadcasts_S1x128_S16x128)
            (extractStridedSlice S16x128 ![0, 0] b slices_S64x128_o0_0_S16x128)))) bitsLt_bf16_f32)
        (constant S8x16 .f32 0x00000000#32)) bitsLt_bf16_f32)
    (truncf .bf16 (extractStridedSlice S16x128 ![0, 0] v slices_S64x128_o0_0_S16x128) bitsLt_bf16_f32)
    (constant S8x128 .f32 0x00000000#32)

/-- Rows 16 to 23 of a chunk. -/
def part2 (q k v b c : FVec F S64x128 .f32) : FVec F S8x128 .f32 :=
  steps (extractStridedSlice S8x128 ![16, 0] q slices_S64x128_o16_0_S8x128) (extractStridedSlice S8x128 ![16, 0] b slices_S64x128_o16_0_S8x128)
    (extractStridedSlice S8x128 ![16, 0] k slices_S64x128_o16_0_S8x128) (extractStridedSlice S8x128 ![16, 0] v slices_S64x128_o16_0_S8x128)
    (addf (extractStridedSlice S8x128 ![16, 0] c slices_S64x128_o16_0_S8x128) (early2 q k v b))

/-- What rows 24 to 31 read from the rows before them. -/
def early3 (q k v b : FVec F S64x128 .f32) : FVec F S8x128 .f32 :=
  matmul dot_S8x24_S24x128_S8x128_1_0_0_1_n_n none
    (truncf .bf16
      (matmul dot_S8x128_S24x128_S8x24_1_1_0_0_n_n none
        (truncf .bf16 (mulf (extractStridedSlice S8x128 ![24, 0] q slices_S64x128_o24_0_S8x128)
          (exp (subf (extractStridedSlice S8x128 ![24, 0] b slices_S64x128_o24_0_S8x128)
            (broadcastTo S8x128 (extractStridedSlice S1x128 ![23, 0] b slices_S64x128_o23_0_S1x128) broadcasts_S1x128_S8x128)))) bitsLt_bf16_f32)
        (truncf .bf16 (mulf (extractStridedSlice S24x128 ![0, 0] k slices_S64x128_o0_0_S24x128)
          (exp (subf (broadcastTo S24x128 (extractStridedSlice S1x128 ![23, 0] b slices_S64x128_o23_0_S1x128) broadcasts_S1x128_S24x128)
            (extractStridedSlice S24x128 ![0, 0] b slices_S64x128_o0_0_S24x128)))) bitsLt_bf16_f32)
        (constant S8x24 .f32 0x00000000#32)) bitsLt_bf16_f32)
    (truncf .bf16 (extractStridedSlice S24x128 ![0, 0] v slices_S64x128_o0_0_S24x128) bitsLt_bf16_f32)
    (constant S8x128 .f32 0x00000000#32)

/-- Rows 24 to 31 of a chunk. -/
def part3 (q k v b c : FVec F S64x128 .f32) : FVec F S8x128 .f32 :=
  steps (extractStridedSlice S8x128 ![24, 0] q slices_S64x128_o24_0_S8x128) (extractStridedSlice S8x128 ![24, 0] b slices_S64x128_o24_0_S8x128)
    (extractStridedSlice S8x128 ![24, 0] k slices_S64x128_o24_0_S8x128) (extractStridedSlice S8x128 ![24, 0] v slices_S64x128_o24_0_S8x128)
    (addf (extractStridedSlice S8x128 ![24, 0] c slices_S64x128_o24_0_S8x128) (early3 q k v b))

/-- What rows 32 to 39 read from the rows before them. -/
def early4 (q k v b : FVec F S64x128 .f32) : FVec F S8x128 .f32 :=
  matmul dot_S8x32_S32x128_S8x128_1_0_0_1_n_n none
    (truncf .bf16
      (matmul dot_S8x128_S32x128_S8x32_1_1_0_0_n_n none
        (truncf .bf16 (mulf (extractStridedSlice S8x128 ![32, 0] q slices_S64x128_o32_0_S8x128)
          (exp (subf (extractStridedSlice S8x128 ![32, 0] b slices_S64x128_o32_0_S8x128)
            (broadcastTo S8x128 (extractStridedSlice S1x128 ![31, 0] b slices_S64x128_o31_0_S1x128) broadcasts_S1x128_S8x128)))) bitsLt_bf16_f32)
        (truncf .bf16 (mulf (extractStridedSlice S32x128 ![0, 0] k slices_S64x128_o0_0_S32x128)
          (exp (subf (broadcastTo S32x128 (extractStridedSlice S1x128 ![31, 0] b slices_S64x128_o31_0_S1x128) broadcasts_S1x128_S32x128)
            (extractStridedSlice S32x128 ![0, 0] b slices_S64x128_o0_0_S32x128)))) bitsLt_bf16_f32)
        (constant S8x32 .f32 0x00000000#32)) bitsLt_bf16_f32)
    (truncf .bf16 (extractStridedSlice S32x128 ![0, 0] v slices_S64x128_o0_0_S32x128) bitsLt_bf16_f32)
    (constant S8x128 .f32 0x00000000#32)

/-- Rows 32 to 39 of a chunk. -/
def part4 (q k v b c : FVec F S64x128 .f32) : FVec F S8x128 .f32 :=
  steps (extractStridedSlice S8x128 ![32, 0] q slices_S64x128_o32_0_S8x128) (extractStridedSlice S8x128 ![32, 0] b slices_S64x128_o32_0_S8x128)
    (extractStridedSlice S8x128 ![32, 0] k slices_S64x128_o32_0_S8x128) (extractStridedSlice S8x128 ![32, 0] v slices_S64x128_o32_0_S8x128)
    (addf (extractStridedSlice S8x128 ![32, 0] c slices_S64x128_o32_0_S8x128) (early4 q k v b))

/-- What rows 40 to 47 read from the rows before them. -/
def early5 (q k v b : FVec F S64x128 .f32) : FVec F S8x128 .f32 :=
  matmul dot_S8x40_S40x128_S8x128_1_0_0_1_n_n none
    (truncf .bf16
      (matmul dot_S8x128_S40x128_S8x40_1_1_0_0_n_n none
        (truncf .bf16 (mulf (extractStridedSlice S8x128 ![40, 0] q slices_S64x128_o40_0_S8x128)
          (exp (subf (extractStridedSlice S8x128 ![40, 0] b slices_S64x128_o40_0_S8x128)
            (broadcastTo S8x128 (extractStridedSlice S1x128 ![39, 0] b slices_S64x128_o39_0_S1x128) broadcasts_S1x128_S8x128)))) bitsLt_bf16_f32)
        (truncf .bf16 (mulf (extractStridedSlice S40x128 ![0, 0] k slices_S64x128_o0_0_S40x128)
          (exp (subf (broadcastTo S40x128 (extractStridedSlice S1x128 ![39, 0] b slices_S64x128_o39_0_S1x128) broadcasts_S1x128_S40x128)
            (extractStridedSlice S40x128 ![0, 0] b slices_S64x128_o0_0_S40x128)))) bitsLt_bf16_f32)
        (constant S8x40 .f32 0x00000000#32)) bitsLt_bf16_f32)
    (truncf .bf16 (extractStridedSlice S40x128 ![0, 0] v slices_S64x128_o0_0_S40x128) bitsLt_bf16_f32)
    (constant S8x128 .f32 0x00000000#32)

/-- Rows 40 to 47 of a chunk. -/
def part5 (q k v b c : FVec F S64x128 .f32) : FVec F S8x128 .f32 :=
  steps (extractStridedSlice S8x128 ![40, 0] q slices_S64x128_o40_0_S8x128) (extractStridedSlice S8x128 ![40, 0] b slices_S64x128_o40_0_S8x128)
    (extractStridedSlice S8x128 ![40, 0] k slices_S64x128_o40_0_S8x128) (extractStridedSlice S8x128 ![40, 0] v slices_S64x128_o40_0_S8x128)
    (addf (extractStridedSlice S8x128 ![40, 0] c slices_S64x128_o40_0_S8x128) (early5 q k v b))

/-- What rows 48 to 55 read from the rows before them. -/
def early6 (q k v b : FVec F S64x128 .f32) : FVec F S8x128 .f32 :=
  matmul dot_S8x48_S48x128_S8x128_1_0_0_1_n_n none
    (truncf .bf16
      (matmul dot_S8x128_S48x128_S8x48_1_1_0_0_n_n none
        (truncf .bf16 (mulf (extractStridedSlice S8x128 ![48, 0] q slices_S64x128_o48_0_S8x128)
          (exp (subf (extractStridedSlice S8x128 ![48, 0] b slices_S64x128_o48_0_S8x128)
            (broadcastTo S8x128 (extractStridedSlice S1x128 ![47, 0] b slices_S64x128_o47_0_S1x128) broadcasts_S1x128_S8x128)))) bitsLt_bf16_f32)
        (truncf .bf16 (mulf (extractStridedSlice S48x128 ![0, 0] k slices_S64x128_o0_0_S48x128)
          (exp (subf (broadcastTo S48x128 (extractStridedSlice S1x128 ![47, 0] b slices_S64x128_o47_0_S1x128) broadcasts_S1x128_S48x128)
            (extractStridedSlice S48x128 ![0, 0] b slices_S64x128_o0_0_S48x128)))) bitsLt_bf16_f32)
        (constant S8x48 .f32 0x00000000#32)) bitsLt_bf16_f32)
    (truncf .bf16 (extractStridedSlice S48x128 ![0, 0] v slices_S64x128_o0_0_S48x128) bitsLt_bf16_f32)
    (constant S8x128 .f32 0x00000000#32)

/-- Rows 48 to 55 of a chunk. -/
def part6 (q k v b c : FVec F S64x128 .f32) : FVec F S8x128 .f32 :=
  steps (extractStridedSlice S8x128 ![48, 0] q slices_S64x128_o48_0_S8x128) (extractStridedSlice S8x128 ![48, 0] b slices_S64x128_o48_0_S8x128)
    (extractStridedSlice S8x128 ![48, 0] k slices_S64x128_o48_0_S8x128) (extractStridedSlice S8x128 ![48, 0] v slices_S64x128_o48_0_S8x128)
    (addf (extractStridedSlice S8x128 ![48, 0] c slices_S64x128_o48_0_S8x128) (early6 q k v b))

/-- What rows 56 to 63 read from the rows before them. -/
def early7 (q k v b : FVec F S64x128 .f32) : FVec F S8x128 .f32 :=
  matmul dot_S8x56_S56x128_S8x128_1_0_0_1_n_n none
    (truncf .bf16
      (matmul dot_S8x128_S56x128_S8x56_1_1_0_0_n_n none
        (truncf .bf16 (mulf (extractStridedSlice S8x128 ![56, 0] q slices_S64x128_o56_0_S8x128)
          (exp (subf (extractStridedSlice S8x128 ![56, 0] b slices_S64x128_o56_0_S8x128)
            (broadcastTo S8x128 (extractStridedSlice S1x128 ![55, 0] b slices_S64x128_o55_0_S1x128) broadcasts_S1x128_S8x128)))) bitsLt_bf16_f32)
        (truncf .bf16 (mulf (extractStridedSlice S56x128 ![0, 0] k slices_S64x128_o0_0_S56x128)
          (exp (subf (broadcastTo S56x128 (extractStridedSlice S1x128 ![55, 0] b slices_S64x128_o55_0_S1x128) broadcasts_S1x128_S56x128)
            (extractStridedSlice S56x128 ![0, 0] b slices_S64x128_o0_0_S56x128)))) bitsLt_bf16_f32)
        (constant S8x56 .f32 0x00000000#32)) bitsLt_bf16_f32)
    (truncf .bf16 (extractStridedSlice S56x128 ![0, 0] v slices_S64x128_o0_0_S56x128) bitsLt_bf16_f32)
    (constant S8x128 .f32 0x00000000#32)

/-- Rows 56 to 63 of a chunk. -/
def part7 (q k v b c : FVec F S64x128 .f32) : FVec F S8x128 .f32 :=
  steps (extractStridedSlice S8x128 ![56, 0] q slices_S64x128_o56_0_S8x128) (extractStridedSlice S8x128 ![56, 0] b slices_S64x128_o56_0_S8x128)
    (extractStridedSlice S8x128 ![56, 0] k slices_S64x128_o56_0_S8x128) (extractStridedSlice S8x128 ![56, 0] v slices_S64x128_o56_0_S8x128)
    (addf (extractStridedSlice S8x128 ![56, 0] c slices_S64x128_o56_0_S8x128) (early7 q k v b))

/-- A chunk's output before its norm: `c` is what it reads from the state. -/
def chunk (q k v b c : FVec F S64x128 .f32) : FVec F S64x128 .f32 :=
  concatenate S64x128 0 [⟨S8x128, part0 q k v b c⟩, ⟨S8x128, part1 q k v b c⟩, ⟨S8x128, part2 q k v b c⟩, ⟨S8x128, part3 q k v b c⟩, ⟨S8x128, part4 q k v b c⟩, ⟨S8x128, part5 q k v b c⟩, ⟨S8x128, part6 q k v b c⟩, ⟨S8x128, part7 q k v b c⟩] concatenates_S8x128_S8x128_S8x128_S8x128_S8x128_S8x128_S8x128_S8x128_S64x128_d0

/-- A chunk's output: normed by rows, weighted and gated. -/
def normed (w : FVec F S1x128 .f32) (o : FVec F S64x128 .f32) (g : Vec F S1x64x128 .bf16) : Vec F S1x64x128 .bf16 :=
  shapeCast S1x64x128
    (truncf .bf16
      (mulf
        (mulf
          (mulf o (broadcastTo S64x128
            (rsqrt (addf (divf (shapeCast S64x1 (multiReduction .add [1] S64 (mulf o o) 0x00000000#32 reduces_S64x128_S64 (.inl rfl) rfl) shapeCasts_S64_S64x1)
              (broadcast S64x1 (Scalar.ofBits .f32 0x43000000#32))) (broadcast S64x1 (Scalar.ofBits .f32 0x358637BD#32))))
            broadcasts_S64x1_S64x128))
          (broadcastTo S64x128 w broadcasts_S1x128_S64x128))
        (wide g)) bitsLt_bf16_f32)
    shapeCasts_S64x128_S1x64x128

/-- What a head stores of its output. -/
def outOf (w : FVec F S1x128 .f32) (q k v : Vec F S1x64x128 .bf16) (lf : Vec F S1x64x128 .f32) (st : Vec F S1x128x128 .f32)
    (g : Vec F S1x64x128 .bf16) : Vec F S1x64x128 .bf16 :=
  normed w (chunk (wide q) (wide k) (wide v) (gates lf) (fromState (wide q) (gates lf) (square st))) g

/-- The state after a chunk. -/
def stateOf (k v : Vec F S1x64x128 .bf16) (lf : Vec F S1x64x128 .f32) (st : Vec F S1x128x128 .f32) : Vec F S1x128x128 .f32 :=
  shapeCast S1x128x128
    (addf
      (mulf (square st) (broadcastTo S128x128 (exp (extractStridedSlice S1x128 ![63, 0] (gates lf) slices_S64x128_o63_0_S1x128)) broadcasts_S1x128_S128x128))
      (matmul dot_S64x128_S64x128_S128x128_0_0_1_1_n_n none (truncf .bf16 (wide v) bitsLt_bf16_f32)
        (truncf .bf16
          (mulf (wide k) (exp (subf (broadcastTo S64x128 (extractStridedSlice S1x128 ![63, 0] (gates lf) slices_S64x128_o63_0_S1x128) broadcasts_S1x128_S64x128) (gates lf))))
          bitsLt_bf16_f32)
        (constant S128x128 .f32 0x00000000#32)))
    shapeCasts_S128x128_S1x128x128

end Cert.Kernel8Ideal.Hgrn

end
-- ==== Proof.Hgrn.Real.lean ====
/- The recurrence over the reals: a row meets another with the product of their lanes, decayed between them; the rows met one
   after another, in blocks, and through a state carried past a block. -/
module

public import Idealize.ShloMosaic.Lib.WordCmp
public import Idealize.ShloMosaic.PureOps.Ideal
public import Idealize.ShloMosaic.Lib.Pointwise

@[expose] public section

noncomputable section

namespace Cert.Hgrn

open Idealize.ShloMosaic

theorem coe_sum {ι : Type} (s : Finset ι) (f : ι → ℝ) : ((∑ k ∈ s, f k : ℝ) : EReal) = ∑ k ∈ s, (f k : EReal) := by
  classical
  refine Finset.induction_on s ?_ fun a t ha ih => ?_
  · rw [Finset.sum_empty, Finset.sum_empty, EReal.coe_zero]
  · rw [Finset.sum_insert ha, Finset.sum_insert ha, EReal.coe_add, ih]

/-- The choice a row's place makes. -/
theorem sel_eq {r s : ℕ} (hr : r < 8) (hs : s < 8) (x : EReal) :
    Scalar.select (IntOp.cmpi CmpIPredicate.sge (BitVec.ofNat 32 r) (BitVec.ofNat 32 s)) x 0 = if s ≤ r then x else 0 := by
  have h : IntOp.cmpi CmpIPredicate.sge (BitVec.ofNat 32 r) (BitVec.ofNat 32 s) = 1#1 ↔ s ≤ r :=
    WordCmp.cmpi_sle_ofNat_eq_one_iff (w := 32) (a := s) (b := r) (by omega) (by omega)
  by_cases hsr : s ≤ r
  · rw [if_pos hsr, h.2 hsr]; rfl
  · rcases BitVec.eq_zero_or_eq_one (IntOp.cmpi CmpIPredicate.sge (BitVec.ofNat 32 r) (BitVec.ofNat 32 s)) with hb | hb
    · rw [if_neg hsr, hb]; rfl
    · exact absurd (h.1 hb) hsr

/-- The weight of row `j` for row `i`. -/
def meet (Q K B : ℕ → Fin 128 → ℝ) (i j : ℕ) : ℝ := ∑ d, Q i d * Real.exp (B i d - B j d) * K j d

/-- The weight in extended reals. -/
theorem coe_meet (Q K B : ℕ → Fin 128 → ℝ) (i j : ℕ) :
    ((meet Q K B i j : ℝ) : EReal) = ∑ d, (Q i d : EReal) * Ideal.exp ((B i d : EReal) - (B j d : EReal)) * (K j d : EReal) := by
  rw [meet, coe_sum]
  refine Finset.sum_congr rfl fun d _ => ?_
  rw [EReal.coe_mul, EReal.coe_mul, ← EReal.coe_sub, Ideal.exp_coe]

/-- The weight through a row `m` between the two. -/
theorem coe_meet_through (Q K B : ℕ → Fin 128 → ℝ) (i j m : ℕ) :
    ∑ d, (Q i d : EReal) * Ideal.exp ((B i d : EReal) - (B m d : EReal)) * ((K j d : EReal) * Ideal.exp ((B m d : EReal) - (B j d : EReal)))
      = ((meet Q K B i j : ℝ) : EReal) := by
  rw [meet, coe_sum]
  refine Finset.sum_congr rfl fun d _ => ?_
  rw [← EReal.coe_sub, ← EReal.coe_sub, Ideal.exp_coe, Ideal.exp_coe, ← EReal.coe_mul, ← EReal.coe_mul, ← EReal.coe_mul,
    show B i d - B j d = (B i d - B m d) + (B m d - B j d) by ring, Real.exp_add]
  congr 1
  ring

/-- What the rows up to `i` give row `i` in lane `e`. -/
def gather (Q K B V : ℕ → Fin 128 → ℝ) (i : ℕ) (e : Fin 128) : ℝ := ∑ j ∈ Finset.range (i + 1), meet Q K B i j * V j e

/-- The rows of a block of eight up to one, after the rows before the block. -/
theorem gather_block (Q K B V : ℕ → Fin 128 → ℝ) (n r : ℕ) (hr : r < 8) (e : Fin 128) :
    (∑ j ∈ Finset.range n, meet Q K B (n + r) j * V j e)
      + ∑ s ∈ Finset.range 8, (if s ≤ r then meet Q K B (n + r) (n + s) * V (n + s) e else 0) = gather Q K B V (n + r) e := by
  rw [gather, add_assoc, Finset.sum_range_add]
  congr 1
  rw [← Finset.sum_filter]
  refine Finset.sum_congr (Finset.ext fun k => ?_) fun _ _ => rfl
  rw [Finset.mem_filter, Finset.mem_range, Finset.mem_range]
  omega

/-- The running log gates before row `n`. -/
def run (L : ℕ → Fin 128 → ℝ) (n : ℕ) (d : Fin 128) : ℝ := ∑ m ∈ Finset.range n, L m d

/-- The running log gates up to row `n`. -/
def upto (L : ℕ → Fin 128 → ℝ) (n : ℕ) (d : Fin 128) : ℝ := run L (n + 1) d

/-- The state before row `n`: the rows before it, decayed up to it. -/
def state (K V L : ℕ → Fin 128 → ℝ) (n : ℕ) (e d : Fin 128) : ℝ :=
  ∑ j ∈ Finset.range n, V j e * (K j d * Real.exp (run L n d - upto L j d))

theorem run_add (L : ℕ → Fin 128 → ℝ) (n r : ℕ) (d : Fin 128) : run L (n + r) d = run L n d + run (fun k => L (n + k)) r d := by
  rw [run, run, run, Finset.sum_range_add]

theorem upto_add (L : ℕ → Fin 128 → ℝ) (n r : ℕ) (d : Fin 128) : upto L (n + r) d = run L n d + upto (fun k => L (n + k)) r d := run_add L n (r + 1) d

/-- A chunk of `m` rows on top of the state. -/
theorem state_step (K V L : ℕ → Fin 128 → ℝ) (n m : ℕ) (hm : 0 < m) (e d : Fin 128) :
    state K V L n e d * Real.exp (upto (fun k => L (n + k)) (m - 1) d)
      + ∑ x ∈ Finset.range m, V (n + x) e * (K (n + x) d * Real.exp (upto (fun k => L (n + k)) (m - 1) d - upto (fun k => L (n + k)) x d))
      = state K V L (n + m) e d := by
  have h : upto (fun k => L (n + k)) (m - 1) d = run L (n + m) d - run L n d := by
    rw [run_add L n m, upto, Nat.sub_add_cancel hm]; ring
  rw [state, state, Finset.sum_range_add, Finset.sum_mul, h]
  congr 1
  · refine Finset.sum_congr rfl fun j _ => ?_
    rw [show run L (n + m) d - upto L j d = (run L n d - upto L j d) + (run L (n + m) d - run L n d) by ring, Real.exp_add]
    ring
  · refine Finset.sum_congr rfl fun j _ => ?_
    rw [upto_add L n j, show run L (n + m) d - run L n d - upto (fun k => L (n + k)) j d = run L (n + m) d - (run L n d + upto (fun k => L (n + k)) j d) by ring]

/-- What a row reads from the state, and what the rows of its chunk give it: what all rows up to it give it. -/
theorem gather_chunk (Q K V L : ℕ → Fin 128 → ℝ) (n r : ℕ) (e : Fin 128) :
    (∑ d, Q (n + r) d * Real.exp (upto (fun k => L (n + k)) r d) * state K V L n e d)
      + gather (fun k => Q (n + k)) (fun k => K (n + k)) (upto fun k => L (n + k)) (fun k => V (n + k)) r e
      = gather Q K (upto L) V (n + r) e := by
  rw [gather, gather, add_assoc n r 1, Finset.sum_range_add _ n (r + 1)]
  congr 1
  · simp only [state, Finset.mul_sum]
    rw [Finset.sum_comm]
    refine Finset.sum_congr rfl fun j _ => ?_
    rw [meet, Finset.sum_mul]
    refine Finset.sum_congr rfl fun d _ => ?_
    rw [upto_add L n r, show run L n d + upto (fun k => L (n + k)) r d - upto L j d = upto (fun k => L (n + k)) r d + (run L n d - upto L j d) by ring, Real.exp_add]
    ring
  · refine Finset.sum_congr rfl fun j _ => ?_
    rw [meet, meet]
    congr 1
    refine Finset.sum_congr rfl fun d _ => ?_
    rw [upto_add L n r, upto_add L n j, add_sub_add_left_eq_sub]

end Cert.Hgrn

end
-- ==== Proof.Hgrn.ChunkAt.lean ====
/- A chunk's operations at an index, for real rows: the running gates, the chunk's output, its norm, and the state after it. -/
module

public import proofs.«01_k».proof.Proof.Hgrn.Chunk
public import proofs.«01_k».proof.Proof.Hgrn.Real

@[expose] public section

set_option maxRecDepth 8192

noncomputable section

namespace Cert.Kernel8Ideal.Hgrn

open Idealize.ShloMosaic Idealize.ShloMosaic.TcCoe Idealize.SL.Sem
open Cert.Kernel8Ideal Cert.Kernel8Ideal.Gen
open Cert.Hgrn

/-- An entry of the triangle of ones. -/
theorem tri_real (r j : Fin 64) :
    FloatOps.sitofp (F := Ideal) FTy.f32 (BitVec.setWidth 32 (IntOp.cmpi CmpIPredicate.sge (BitVec.ofNat 32 r.val) (BitVec.ofNat 32 j.val)))
      = (((if j.val ≤ r.val then 1 else 0 : ℝ) : ℝ) : EReal) := by
  have h : IntOp.cmpi CmpIPredicate.sge (BitVec.ofNat 32 r.val) (BitVec.ofNat 32 j.val) = 1#1 ↔ j.val ≤ r.val :=
    WordCmp.cmpi_sle_ofNat_eq_one_iff (w := 32) (a := j.val) (b := r.val) (by omega) (by omega)
  show ((((BitVec.setWidth 32 (IntOp.cmpi CmpIPredicate.sge (BitVec.ofNat 32 r.val) (BitVec.ofNat 32 j.val))).toInt : ℤ) : ℝ) : EReal) = _
  rcases BitVec.eq_zero_or_eq_one (IntOp.cmpi CmpIPredicate.sge (BitVec.ofNat 32 r.val) (BitVec.ofNat 32 j.val)) with hb | hb
  · rw [if_neg (fun hj => absurd (hb.symm.trans (h.2 hj)) (by decide)), hb, show (BitVec.setWidth 32 0#1).toInt = 0 from rfl, Int.cast_zero]
  · rw [if_pos (h.1 hb), hb, show (BitVec.setWidth 32 1#1).toInt = 1 from rfl, Int.cast_one]

theorem upto_triangle (L : ℕ → Fin 128 → ℝ) (r : Fin 64) (d : Fin 128) :
    ∑ j : Fin 64, (if j.val ≤ r.val then 1 else 0 : ℝ) * L j.val d = upto L r.val d := by
  rw [Fin.sum_univ_eq_sum_range (fun j => (if j ≤ r.val then 1 else 0 : ℝ) * L j d) 64, upto, run]
  simp only [ite_mul, one_mul, zero_mul]
  rw [← Finset.sum_filter]
  refine Finset.sum_congr (Finset.ext fun k => ?_) fun _ _ => rfl
  rw [Finset.mem_filter, Finset.mem_range, Finset.mem_range]
  omega

/-- The running gates of real rows. -/
theorem gates_at (lf : Vec Ideal S1x64x128 .f32) (L : ℕ → Fin 128 → ℝ) (h : ∀ (r : Fin 64) (d : Fin 128), (lf (ix3 0 r d) : EReal) = ((L r.val d : ℝ) : EReal))
    (r : Fin 64) (d : Fin 128) : (gates lf (ix2 r d) : EReal) = ((upto L r.val d : ℝ) : EReal) := by
  rw [← upto_triangle]
  pointwise [gates, sums, rest, below, lower]
  simp only [h, tri_real]
  have e : ∀ x : ℝ, (x : EReal) - (x : EReal) = ((0 : ℝ) : EReal) := fun x => by rw [← EReal.coe_sub, sub_self]
  simp only [e, ← EReal.coe_mul, ← coe_sum, mul_zero, Finset.sum_const_zero, ← EReal.coe_add, add_zero]

section
variable (Q K B V : ℕ → Fin 128 → ℝ)

theorem step_real (a : EReal) (n r s : ℕ) (hr : r < 8) (hs : s < 8) (e : Fin 128) :
    a + Scalar.select (IntOp.cmpi CmpIPredicate.sge (BitVec.ofNat 32 r) (BitVec.ofNat 32 s))
      ((∑ d, (Q (n + r) d : EReal) * Ideal.exp ((B (n + r) d : EReal) - (B (n + s) d : EReal)) * (K (n + s) d : EReal)) * (V (n + s) e : EReal)) 0
      = a + (((if s ≤ r then meet Q K B (n + r) (n + s) * V (n + s) e else 0 : ℝ) : ℝ) : EReal) := by
  rw [sel_eq hr hs, ← coe_meet, ← EReal.coe_mul]
  split_ifs <;> rfl

/-- The eight rows of a block at an index. -/
theorem steps_at (q b k v a : FVec Ideal S8x128 .f32) (n : ℕ)
    (hq : ∀ (r : Fin 8) (d : Fin 128), (q (ix2 r d) : EReal) = ((Q (n + r.val) d : ℝ) : EReal))
    (hb : ∀ (r : Fin 8) (d : Fin 128), (b (ix2 r d) : EReal) = ((B (n + r.val) d : ℝ) : EReal))
    (hk : ∀ (r : Fin 8) (d : Fin 128), (k (ix2 r d) : EReal) = ((K (n + r.val) d : ℝ) : EReal))
    (hv : ∀ (r : Fin 8) (d : Fin 128), (v (ix2 r d) : EReal) = ((V (n + r.val) d : ℝ) : EReal)) (r : Fin 8) (e : Fin 128) :
    (steps q b k v a (ix2 r e) : EReal)
      = (a (ix2 r e) : EReal) + ((∑ s ∈ Finset.range 8, (if s ≤ r.val then meet Q K B (n + r.val) (n + s) * V (n + s) e else 0) : ℝ) : EReal) := by
  have h0 : ∀ a : FVec Ideal S8x128 .f32, (step slices_S8x128_o0_0_S1x128 0#32 q b k v a (ix2 r e) : EReal)
      = (a (ix2 r e) : EReal) + (((if 0 ≤ r.val then meet Q K B (n + r.val) (n + 0) * V (n + 0) e else 0 : ℝ) : ℝ) : EReal) := fun a => by
    pointwise [step]
    simp only [hq, hb, hk, hv]
    exact step_real Q K B V _ n r.val 0 r.isLt (by omega) e
  have h1 : ∀ a : FVec Ideal S8x128 .f32, (step slices_S8x128_o1_0_S1x128 1#32 q b k v a (ix2 r e) : EReal)
      = (a (ix2 r e) : EReal) + (((if 1 ≤ r.val then meet Q K B (n + r.val) (n + 1) * V (n + 1) e else 0 : ℝ) : ℝ) : EReal) := fun a => by
    pointwise [step]
    simp only [hq, hb, hk, hv]
    exact step_real Q K B V _ n r.val 1 r.isLt (by omega) e
  have h2 : ∀ a : FVec Ideal S8x128 .f32, (step slices_S8x128_o2_0_S1x128 2#32 q b k v a (ix2 r e) : EReal)
      = (a (ix2 r e) : EReal) + (((if 2 ≤ r.val then meet Q K B (n + r.val) (n + 2) * V (n + 2) e else 0 : ℝ) : ℝ) : EReal) := fun a => by
    pointwise [step]
    simp only [hq, hb, hk, hv]
    exact step_real Q K B V _ n r.val 2 r.isLt (by omega) e
  have h3 : ∀ a : FVec Ideal S8x128 .f32, (step slices_S8x128_o3_0_S1x128 3#32 q b k v a (ix2 r e) : EReal)
      = (a (ix2 r e) : EReal) + (((if 3 ≤ r.val then meet Q K B (n + r.val) (n + 3) * V (n + 3) e else 0 : ℝ) : ℝ) : EReal) := fun a => by
    pointwise [step]
    simp only [hq, hb, hk, hv]
    exact step_real Q K B V _ n r.val 3 r.isLt (by omega) e
  have h4 : ∀ a : FVec Ideal S8x128 .f32, (step slices_S8x128_o4_0_S1x128 4#32 q b k v a (ix2 r e) : EReal)
      = (a (ix2 r e) : EReal) + (((if 4 ≤ r.val then meet Q K B (n + r.val) (n + 4) * V (n + 4) e else 0 : ℝ) : ℝ) : EReal) := fun a => by
    pointwise [step]
    simp only [hq, hb, hk, hv]
    exact step_real Q K B V _ n r.val 4 r.isLt (by omega) e
  have h5 : ∀ a : FVec Ideal S8x128 .f32, (step slices_S8x128_o5_0_S1x128 5#32 q b k v a (ix2 r e) : EReal)
      = (a (ix2 r e) : EReal) + (((if 5 ≤ r.val then meet Q K B (n + r.val) (n + 5) * V (n + 5) e else 0 : ℝ) : ℝ) : EReal) := fun a => by
    pointwise [step]
    simp only [hq, hb, hk, hv]
    exact step_real Q K B V _ n r.val 5 r.isLt (by omega) e
  have h6 : ∀ a : FVec Ideal S8x128 .f32, (step slices_S8x128_o6_0_S1x128 6#32 q b k v a (ix2 r e) : EReal)
      = (a (ix2 r e) : EReal) + (((if 6 ≤ r.val then meet Q K B (n + r.val) (n + 6) * V (n + 6) e else 0 : ℝ) : ℝ) : EReal) := fun a => by
    pointwise [step]
    simp only [hq, hb, hk, hv]
    exact step_real Q K B V _ n r.val 6 r.isLt (by omega) e
  have h7 : ∀ a : FVec Ideal S8x128 .f32, (step slices_S8x128_o7_0_S1x128 7#32 q b k v a (ix2 r e) : EReal)
      = (a (ix2 r e) : EReal) + (((if 7 ≤ r.val then meet Q K B (n + r.val) (n + 7) * V (n + 7) e else 0 : ℝ) : ℝ) : EReal) := fun a => by
    pointwise [step]
    simp only [hq, hb, hk, hv]
    exact step_real Q K B V _ n r.val 7 r.isLt (by omega) e
  simp only [Finset.sum_range_succ, Finset.sum_range_zero, EReal.coe_add, EReal.coe_zero, zero_add]
  rw [steps, h7, h6, h5, h4, h3, h2, h1, h0]
  simp only [add_assoc]

variable (q k v b c : FVec Ideal S64x128 .f32)
  (hq : ∀ (r : Fin 64) (d : Fin 128), (q (ix2 r d) : EReal) = ((Q r.val d : ℝ) : EReal))
  (hk : ∀ (r : Fin 64) (d : Fin 128), (k (ix2 r d) : EReal) = ((K r.val d : ℝ) : EReal))
  (hv : ∀ (r : Fin 64) (d : Fin 128), (v (ix2 r d) : EReal) = ((V r.val d : ℝ) : EReal))
  (hb : ∀ (r : Fin 64) (d : Fin 128), (b (ix2 r d) : EReal) = ((B r.val d : ℝ) : EReal))
include hq hk hv hb

theorem part0_at (r : Fin 8) (e : Fin 128) :
    (part0 q k v b c (ix2 r e) : EReal) = (c (ix2 ⟨0 + r.val, by omega⟩ e) : EReal) + ((gather Q K B V (0 + r.val) e : ℝ) : EReal) := by
  have fq : ∀ (r : Fin 8) (d : Fin 128), (extractStridedSlice S8x128 ![0, 0] q slices_S64x128_o0_0_S8x128 (ix2 r d) : EReal) = ((Q (0 + r.val) d : ℝ) : EReal) := fun r d => by
    rw [← hq ⟨0 + r.val, by omega⟩]; pointwise []
  have fk : ∀ (r : Fin 8) (d : Fin 128), (extractStridedSlice S8x128 ![0, 0] k slices_S64x128_o0_0_S8x128 (ix2 r d) : EReal) = ((K (0 + r.val) d : ℝ) : EReal) := fun r d => by
    rw [← hk ⟨0 + r.val, by omega⟩]; pointwise []
  have fv : ∀ (r : Fin 8) (d : Fin 128), (extractStridedSlice S8x128 ![0, 0] v slices_S64x128_o0_0_S8x128 (ix2 r d) : EReal) = ((V (0 + r.val) d : ℝ) : EReal) := fun r d => by
    rw [← hv ⟨0 + r.val, by omega⟩]; pointwise []
  have fb : ∀ (r : Fin 8) (d : Fin 128), (extractStridedSlice S8x128 ![0, 0] b slices_S64x128_o0_0_S8x128 (ix2 r d) : EReal) = ((B (0 + r.val) d : ℝ) : EReal) := fun r d => by
    rw [← hb ⟨0 + r.val, by omega⟩]; pointwise []
  rw [part0, steps_at Q K B V _ _ _ _ _ 0 fq fb fk fv, ← gather_block Q K B V 0 r.val r.isLt e]
  rw [Finset.sum_range_zero]
  exact congrArg₂ (fun x y : EReal => x + y) (by pointwise []) (congrArg _ (zero_add _).symm)

theorem early1_at (r : Fin 8) (e : Fin 128) :
    (early1 q k v b (ix2 r e) : EReal) = ((∑ j ∈ Finset.range 8, meet Q K B (8 + r.val) j * V j e : ℝ) : EReal) := by
  pointwise [early1]
  simp only [hq, hk, hv, hb, coe_meet_through, ← EReal.coe_mul, ← coe_sum]
  exact congrArg _ (Fin.sum_univ_eq_sum_range (fun j => meet Q K B (8 + r.val) j * V j e) 8)

theorem part1_at (r : Fin 8) (e : Fin 128) :
    (part1 q k v b c (ix2 r e) : EReal) = (c (ix2 ⟨8 + r.val, by omega⟩ e) : EReal) + ((gather Q K B V (8 + r.val) e : ℝ) : EReal) := by
  have fq : ∀ (r : Fin 8) (d : Fin 128), (extractStridedSlice S8x128 ![8, 0] q slices_S64x128_o8_0_S8x128 (ix2 r d) : EReal) = ((Q (8 + r.val) d : ℝ) : EReal) := fun r d => by
    rw [← hq ⟨8 + r.val, by omega⟩]; pointwise []
  have fk : ∀ (r : Fin 8) (d : Fin 128), (extractStridedSlice S8x128 ![8, 0] k slices_S64x128_o8_0_S8x128 (ix2 r d) : EReal) = ((K (8 + r.val) d : ℝ) : EReal) := fun r d => by
    rw [← hk ⟨8 + r.val, by omega⟩]; pointwise []
  have fv : ∀ (r : Fin 8) (d : Fin 128), (extractStridedSlice S8x128 ![8, 0] v slices_S64x128_o8_0_S8x128 (ix2 r d) : EReal) = ((V (8 + r.val) d : ℝ) : EReal) := fun r d => by
    rw [← hv ⟨8 + r.val, by omega⟩]; pointwise []
  have fb : ∀ (r : Fin 8) (d : Fin 128), (extractStridedSlice S8x128 ![8, 0] b slices_S64x128_o8_0_S8x128 (ix2 r d) : EReal) = ((B (8 + r.val) d : ℝ) : EReal) := fun r d => by
    rw [← hb ⟨8 + r.val, by omega⟩]; pointwise []
  rw [part1, steps_at Q K B V _ _ _ _ _ 8 fq fb fk fv, ← gather_block Q K B V 8 r.val r.isLt e]
  rw [EReal.coe_add, ← add_assoc, ← early1_at Q K B V q k v b hq hk hv hb r e]
  congr 1
  pointwise []

theorem early2_at (r : Fin 8) (e : Fin 128) :
    (early2 q k v b (ix2 r e) : EReal) = ((∑ j ∈ Finset.range 16, meet Q K B (16 + r.val) j * V j e : ℝ) : EReal) := by
  pointwise [early2]
  simp only [hq, hk, hv, hb, coe_meet_through, ← EReal.coe_mul, ← coe_sum]
  exact congrArg _ (Fin.sum_univ_eq_sum_range (fun j => meet Q K B (16 + r.val) j * V j e) 16)

theorem part2_at (r : Fin 8) (e : Fin 128) :
    (part2 q k v b c (ix2 r e) : EReal) = (c (ix2 ⟨16 + r.val, by omega⟩ e) : EReal) + ((gather Q K B V (16 + r.val) e : ℝ) : EReal) := by
  have fq : ∀ (r : Fin 8) (d : Fin 128), (extractStridedSlice S8x128 ![16, 0] q slices_S64x128_o16_0_S8x128 (ix2 r d) : EReal) = ((Q (16 + r.val) d : ℝ) : EReal) := fun r d => by
    rw [← hq ⟨16 + r.val, by omega⟩]; pointwise []
  have fk : ∀ (r : Fin 8) (d : Fin 128), (extractStridedSlice S8x128 ![16, 0] k slices_S64x128_o16_0_S8x128 (ix2 r d) : EReal) = ((K (16 + r.val) d : ℝ) : EReal) := fun r d => by
    rw [← hk ⟨16 + r.val, by omega⟩]; pointwise []
  have fv : ∀ (r : Fin 8) (d : Fin 128), (extractStridedSlice S8x128 ![16, 0] v slices_S64x128_o16_0_S8x128 (ix2 r d) : EReal) = ((V (16 + r.val) d : ℝ) : EReal) := fun r d => by
    rw [← hv ⟨16 + r.val, by omega⟩]; pointwise []
  have fb : ∀ (r : Fin 8) (d : Fin 128), (extractStridedSlice S8x128 ![16, 0] b slices_S64x128_o16_0_S8x128 (ix2 r d) : EReal) = ((B (16 + r.val) d : ℝ) : EReal) := fun r d => by
    rw [← hb ⟨16 + r.val, by omega⟩]; pointwise []
  rw [part2, steps_at Q K B V _ _ _ _ _ 16 fq fb fk fv, ← gather_block Q K B V 16 r.val r.isLt e]
  rw [EReal.coe_add, ← add_assoc, ← early2_at Q K B V q k v b hq hk hv hb r e]
  congr 1
  pointwise []

theorem early3_at (r : Fin 8) (e : Fin 128) :
    (early3 q k v b (ix2 r e) : EReal) = ((∑ j ∈ Finset.range 24, meet Q K B (24 + r.val) j * V j e : ℝ) : EReal) := by
  pointwise [early3]
  simp only [hq, hk, hv, hb, coe_meet_through, ← EReal.coe_mul, ← coe_sum]
  exact congrArg _ (Fin.sum_univ_eq_sum_range (fun j => meet Q K B (24 + r.val) j * V j e) 24)

theorem part3_at (r : Fin 8) (e : Fin 128) :
    (part3 q k v b c (ix2 r e) : EReal) = (c (ix2 ⟨24 + r.val, by omega⟩ e) : EReal) + ((gather Q K B V (24 + r.val) e : ℝ) : EReal) := by
  have fq : ∀ (r : Fin 8) (d : Fin 128), (extractStridedSlice S8x128 ![24, 0] q slices_S64x128_o24_0_S8x128 (ix2 r d) : EReal) = ((Q (24 + r.val) d : ℝ) : EReal) := fun r d => by
    rw [← hq ⟨24 + r.val, by omega⟩]; pointwise []
  have fk : ∀ (r : Fin 8) (d : Fin 128), (extractStridedSlice S8x128 ![24, 0] k slices_S64x128_o24_0_S8x128 (ix2 r d) : EReal) = ((K (24 + r.val) d : ℝ) : EReal) := fun r d => by
    rw [← hk ⟨24 + r.val, by omega⟩]; pointwise []
  have fv : ∀ (r : Fin 8) (d : Fin 128), (extractStridedSlice S8x128 ![24, 0] v slices_S64x128_o24_0_S8x128 (ix2 r d) : EReal) = ((V (24 + r.val) d : ℝ) : EReal) := fun r d => by
    rw [← hv ⟨24 + r.val, by omega⟩]; pointwise []
  have fb : ∀ (r : Fin 8) (d : Fin 128), (extractStridedSlice S8x128 ![24, 0] b slices_S64x128_o24_0_S8x128 (ix2 r d) : EReal) = ((B (24 + r.val) d : ℝ) : EReal) := fun r d => by
    rw [← hb ⟨24 + r.val, by omega⟩]; pointwise []
  rw [part3, steps_at Q K B V _ _ _ _ _ 24 fq fb fk fv, ← gather_block Q K B V 24 r.val r.isLt e]
  rw [EReal.coe_add, ← add_assoc, ← early3_at Q K B V q k v b hq hk hv hb r e]
  congr 1
  pointwise []

theorem early4_at (r : Fin 8) (e : Fin 128) :
    (early4 q k v b (ix2 r e) : EReal) = ((∑ j ∈ Finset.range 32, meet Q K B (32 + r.val) j * V j e : ℝ) : EReal) := by
  pointwise [early4]
  simp only [hq, hk, hv, hb, coe_meet_through, ← EReal.coe_mul, ← coe_sum]
  exact congrArg _ (Fin.sum_univ_eq_sum_range (fun j => meet Q K B (32 + r.val) j * V j e) 32)

theorem part4_at (r : Fin 8) (e : Fin 128) :
    (part4 q k v b c (ix2 r e) : EReal) = (c (ix2 ⟨32 + r.val, by omega⟩ e) : EReal) + ((gather Q K B V (32 + r.val) e : ℝ) : EReal) := by
  have fq : ∀ (r : Fin 8) (d : Fin 128), (extractStridedSlice S8x128 ![32, 0] q slices_S64x128_o32_0_S8x128 (ix2 r d) : EReal) = ((Q (32 + r.val) d : ℝ) : EReal) := fun r d => by
    rw [← hq ⟨32 + r.val, by omega⟩]; pointwise []
  have fk : ∀ (r : Fin 8) (d : Fin 128), (extractStridedSlice S8x128 ![32, 0] k slices_S64x128_o32_0_S8x128 (ix2 r d) : EReal) = ((K (32 + r.val) d : ℝ) : EReal) := fun r d => by
    rw [← hk ⟨32 + r.val, by omega⟩]; pointwise []
  have fv : ∀ (r : Fin 8) (d : Fin 128), (extractStridedSlice S8x128 ![32, 0] v slices_S64x128_o32_0_S8x128 (ix2 r d) : EReal) = ((V (32 + r.val) d : ℝ) : EReal) := fun r d => by
    rw [← hv ⟨32 + r.val, by omega⟩]; pointwise []
  have fb : ∀ (r : Fin 8) (d : Fin 128), (extractStridedSlice S8x128 ![32, 0] b slices_S64x128_o32_0_S8x128 (ix2 r d) : EReal) = ((B (32 + r.val) d : ℝ) : EReal) := fun r d => by
    rw [← hb ⟨32 + r.val, by omega⟩]; pointwise []
  rw [part4, steps_at Q K B V _ _ _ _ _ 32 fq fb fk fv, ← gather_block Q K B V 32 r.val r.isLt e]
  rw [EReal.coe_add, ← add_assoc, ← early4_at Q K B V q k v b hq hk hv hb r e]
  congr 1
  pointwise []

theorem early5_at (r : Fin 8) (e : Fin 128) :
    (early5 q k v b (ix2 r e) : EReal) = ((∑ j ∈ Finset.range 40, meet Q K B (40 + r.val) j * V j e : ℝ) : EReal) := by
  pointwise [early5]
  simp only [hq, hk, hv, hb, coe_meet_through, ← EReal.coe_mul, ← coe_sum]
  exact congrArg _ (Fin.sum_univ_eq_sum_range (fun j => meet Q K B (40 + r.val) j * V j e) 40)

theorem part5_at (r : Fin 8) (e : Fin 128) :
    (part5 q k v b c (ix2 r e) : EReal) = (c (ix2 ⟨40 + r.val, by omega⟩ e) : EReal) + ((gather Q K B V (40 + r.val) e : ℝ) : EReal) := by
  have fq : ∀ (r : Fin 8) (d : Fin 128), (extractStridedSlice S8x128 ![40, 0] q slices_S64x128_o40_0_S8x128 (ix2 r d) : EReal) = ((Q (40 + r.val) d : ℝ) : EReal) := fun r d => by
    rw [← hq ⟨40 + r.val, by omega⟩]; pointwise []
  have fk : ∀ (r : Fin 8) (d : Fin 128), (extractStridedSlice S8x128 ![40, 0] k slices_S64x128_o40_0_S8x128 (ix2 r d) : EReal) = ((K (40 + r.val) d : ℝ) : EReal) := fun r d => by
    rw [← hk ⟨40 + r.val, by omega⟩]; pointwise []
  have fv : ∀ (r : Fin 8) (d : Fin 128), (extractStridedSlice S8x128 ![40, 0] v slices_S64x128_o40_0_S8x128 (ix2 r d) : EReal) = ((V (40 + r.val) d : ℝ) : EReal) := fun r d => by
    rw [← hv ⟨40 + r.val, by omega⟩]; pointwise []
  have fb : ∀ (r : Fin 8) (d : Fin 128), (extractStridedSlice S8x128 ![40, 0] b slices_S64x128_o40_0_S8x128 (ix2 r d) : EReal) = ((B (40 + r.val) d : ℝ) : EReal) := fun r d => by
    rw [← hb ⟨40 + r.val, by omega⟩]; pointwise []
  rw [part5, steps_at Q K B V _ _ _ _ _ 40 fq fb fk fv, ← gather_block Q K B V 40 r.val r.isLt e]
  rw [EReal.coe_add, ← add_assoc, ← early5_at Q K B V q k v b hq hk hv hb r e]
  congr 1
  pointwise []

theorem early6_at (r : Fin 8) (e : Fin 128) :
    (early6 q k v b (ix2 r e) : EReal) = ((∑ j ∈ Finset.range 48, meet Q K B (48 + r.val) j * V j e : ℝ) : EReal) := by
  pointwise [early6]
  simp only [hq, hk, hv, hb, coe_meet_through, ← EReal.coe_mul, ← coe_sum]
  exact congrArg _ (Fin.sum_univ_eq_sum_range (fun j => meet Q K B (48 + r.val) j * V j e) 48)

theorem part6_at (r : Fin 8) (e : Fin 128) :
    (part6 q k v b c (ix2 r e) : EReal) = (c (ix2 ⟨48 + r.val, by omega⟩ e) : EReal) + ((gather Q K B V (48 + r.val) e : ℝ) : EReal) := by
  have fq : ∀ (r : Fin 8) (d : Fin 128), (extractStridedSlice S8x128 ![48, 0] q slices_S64x128_o48_0_S8x128 (ix2 r d) : EReal) = ((Q (48 + r.val) d : ℝ) : EReal) := fun r d => by
    rw [← hq ⟨48 + r.val, by omega⟩]; pointwise []
  have fk : ∀ (r : Fin 8) (d : Fin 128), (extractStridedSlice S8x128 ![48, 0] k slices_S64x128_o48_0_S8x128 (ix2 r d) : EReal) = ((K (48 + r.val) d : ℝ) : EReal) := fun r d => by
    rw [← hk ⟨48 + r.val, by omega⟩]; pointwise []
  have fv : ∀ (r : Fin 8) (d : Fin 128), (extractStridedSlice S8x128 ![48, 0] v slices_S64x128_o48_0_S8x128 (ix2 r d) : EReal) = ((V (48 + r.val) d : ℝ) : EReal) := fun r d => by
    rw [← hv ⟨48 + r.val, by omega⟩]; pointwise []
  have fb : ∀ (r : Fin 8) (d : Fin 128), (extractStridedSlice S8x128 ![48, 0] b slices_S64x128_o48_0_S8x128 (ix2 r d) : EReal) = ((B (48 + r.val) d : ℝ) : EReal) := fun r d => by
    rw [← hb ⟨48 + r.val, by omega⟩]; pointwise []
  rw [part6, steps_at Q K B V _ _ _ _ _ 48 fq fb fk fv, ← gather_block Q K B V 48 r.val r.isLt e]
  rw [EReal.coe_add, ← add_assoc, ← early6_at Q K B V q k v b hq hk hv hb r e]
  congr 1
  pointwise []

theorem early7_at (r : Fin 8) (e : Fin 128) :
    (early7 q k v b (ix2 r e) : EReal) = ((∑ j ∈ Finset.range 56, meet Q K B (56 + r.val) j * V j e : ℝ) : EReal) := by
  pointwise [early7]
  simp only [hq, hk, hv, hb, coe_meet_through, ← EReal.coe_mul, ← coe_sum]
  exact congrArg _ (Fin.sum_univ_eq_sum_range (fun j => meet Q K B (56 + r.val) j * V j e) 56)

theorem part7_at (r : Fin 8) (e : Fin 128) :
    (part7 q k v b c (ix2 r e) : EReal) = (c (ix2 ⟨56 + r.val, by omega⟩ e) : EReal) + ((gather Q K B V (56 + r.val) e : ℝ) : EReal) := by
  have fq : ∀ (r : Fin 8) (d : Fin 128), (extractStridedSlice S8x128 ![56, 0] q slices_S64x128_o56_0_S8x128 (ix2 r d) : EReal) = ((Q (56 + r.val) d : ℝ) : EReal) := fun r d => by
    rw [← hq ⟨56 + r.val, by omega⟩]; pointwise []
  have fk : ∀ (r : Fin 8) (d : Fin 128), (extractStridedSlice S8x128 ![56, 0] k slices_S64x128_o56_0_S8x128 (ix2 r d) : EReal) = ((K (56 + r.val) d : ℝ) : EReal) := fun r d => by
    rw [← hk ⟨56 + r.val, by omega⟩]; pointwise []
  have fv : ∀ (r : Fin 8) (d : Fin 128), (extractStridedSlice S8x128 ![56, 0] v slices_S64x128_o56_0_S8x128 (ix2 r d) : EReal) = ((V (56 + r.val) d : ℝ) : EReal) := fun r d => by
    rw [← hv ⟨56 + r.val, by omega⟩]; pointwise []
  have fb : ∀ (r : Fin 8) (d : Fin 128), (extractStridedSlice S8x128 ![56, 0] b slices_S64x128_o56_0_S8x128 (ix2 r d) : EReal) = ((B (56 + r.val) d : ℝ) : EReal) := fun r d => by
    rw [← hb ⟨56 + r.val, by omega⟩]; pointwise []
  rw [part7, steps_at Q K B V _ _ _ _ _ 56 fq fb fk fv, ← gather_block Q K B V 56 r.val r.isLt e]
  rw [EReal.coe_add, ← add_assoc, ← early7_at Q K B V q k v b hq hk hv hb r e]
  congr 1
  pointwise []

omit hq hk hv hb in
theorem row_eq (n s : ℕ) (r : Fin 64) (h : n + s = r.val) (hs : n + s < 64) (e : Fin 128) :
    (c (ix2 ⟨n + s, hs⟩ e) : EReal) + ((gather Q K B V (n + s) e : ℝ) : EReal) = (c (ix2 r e) : EReal) + ((gather Q K B V r.val e : ℝ) : EReal) := by
  obtain ⟨r, hr⟩ := r
  subst h
  rfl

/-- A chunk's output before its norm: what it reads from the state, and what its own rows give. -/
theorem chunk_at (r : Fin 64) (e : Fin 128) :
    (chunk q k v b c (ix2 r e) : EReal) = (c (ix2 r e) : EReal) + ((gather Q K B V r.val e : ℝ) : EReal) := by
  pointwise [chunk]
  split_ifs <;> first
    | (rw [part0_at Q K B V q k v b c hq hk hv hb]; exact row_eq Q K B V c 0 _ r (by dsimp only; omega) _ e)
    | (rw [part1_at Q K B V q k v b c hq hk hv hb]; exact row_eq Q K B V c 8 _ r (by dsimp only; omega) _ e)
    | (rw [part2_at Q K B V q k v b c hq hk hv hb]; exact row_eq Q K B V c 16 _ r (by dsimp only; omega) _ e)
    | (rw [part3_at Q K B V q k v b c hq hk hv hb]; exact row_eq Q K B V c 24 _ r (by dsimp only; omega) _ e)
    | (rw [part4_at Q K B V q k v b c hq hk hv hb]; exact row_eq Q K B V c 32 _ r (by dsimp only; omega) _ e)
    | (rw [part5_at Q K B V q k v b c hq hk hv hb]; exact row_eq Q K B V c 40 _ r (by dsimp only; omega) _ e)
    | (rw [part6_at Q K B V q k v b c hq hk hv hb]; exact row_eq Q K B V c 48 _ r (by dsimp only; omega) _ e)
    | (rw [part7_at Q K B V q k v b c hq hk hv hb]; exact row_eq Q K B V c 56 _ r (by dsimp only; omega) _ e)

end

theorem wide_at (x : Vec Ideal S1x64x128 .bf16) (r : Fin 64) (d : Fin 128) : (wide x (ix2 r d) : EReal) = x (ix3 0 r d) := by
  pointwise [wide]

/-- A row normed, weighted and gated. -/
def finish (o w : Fin 128 → EReal) (g : EReal) (e : Fin 128) : EReal :=
  o e * Ideal.rsqrt (Ideal.div (∑ x, o x * o x) (Ideal.ofBits .f32 1124073472#32) + Ideal.ofBits .f32 897988541#32) * w e * g

section
variable (Q K V L : ℕ → Fin 128 → ℝ) (S : Fin 128 → Fin 128 → ℝ) (q k v g : Vec Ideal S1x64x128 .bf16) (lf : Vec Ideal S1x64x128 .f32) (st : Vec Ideal S1x128x128 .f32)
  (hq : ∀ (r : Fin 64) (d : Fin 128), (q (ix3 0 r d) : EReal) = ((Q r.val d : ℝ) : EReal))
  (hk : ∀ (r : Fin 64) (d : Fin 128), (k (ix3 0 r d) : EReal) = ((K r.val d : ℝ) : EReal))
  (hv : ∀ (r : Fin 64) (d : Fin 128), (v (ix3 0 r d) : EReal) = ((V r.val d : ℝ) : EReal))
  (hl : ∀ (r : Fin 64) (d : Fin 128), (lf (ix3 0 r d) : EReal) = ((L r.val d : ℝ) : EReal))
  (hs : ∀ e d : Fin 128, (st (ix3 0 e d) : EReal) = ((S e d : ℝ) : EReal))
include hk hv hl hs

/-- The state after a chunk, at an index. -/
theorem stateOf_at (e d : Fin 128) :
    (stateOf k v lf st (ix3 0 e d) : EReal) = ((S e d * Real.exp (upto L 63 d)
      + ∑ x ∈ Finset.range 64, V x e * (K x d * Real.exp (upto L 63 d - upto L x d)) : ℝ) : EReal) := by
  pointwise [stateOf, square, wide]
  simp only [hk, hv, hs, gates_at lf L hl]
  simp only [Ideal.exp_coe, ← EReal.coe_sub, ← EReal.coe_mul, ← coe_sum, ← EReal.coe_add]
  exact congrArg (fun x : ℝ => ((S e d * Real.exp (upto L 63 d) + x : ℝ) : EReal))
    (Fin.sum_univ_eq_sum_range (fun x => V x e * (K x d * Real.exp (upto L 63 d - upto L x d))) 64)

include hq in
/-- A chunk's output at an index. -/
theorem outOf_at (w : FVec Ideal S1x128 .f32) (r : Fin 64) (e : Fin 128) :
    (outOf w q k v lf st g (ix3 0 r e) : EReal)
      = finish (fun e => ((∑ d, Q r.val d * Real.exp (upto L r.val d) * S e d + gather Q K (upto L) V r.val e : ℝ) : EReal)) (fun e => w (ix2 0 e)) (g (ix3 0 r e)) e := by
  have hc : ∀ e : Fin 128, (chunk (wide q) (wide k) (wide v) (gates lf) (fromState (wide q) (gates lf) (square st)) (ix2 r e) : EReal)
      = ((∑ d, Q r.val d * Real.exp (upto L r.val d) * S e d + gather Q K (upto L) V r.val e : ℝ) : EReal) := fun e => by
    rw [chunk_at Q K (upto L) V (wide q) (wide k) (wide v) (gates lf) _ (fun r d => (wide_at q r d).trans (hq r d)) (fun r d => (wide_at k r d).trans (hk r d))
      (fun r d => (wide_at v r d).trans (hv r d)) (gates_at lf L hl), EReal.coe_add]
    congr 1
    pointwise [fromState, square]
    simp only [(wide_at q _ _).trans (hq _ _), hs, gates_at lf L hl]
    simp only [Ideal.exp_coe, ← EReal.coe_mul, ← coe_sum]
  rw [outOf]
  generalize chunk (wide q) (wide k) (wide v) (gates lf) (fromState (wide q) (gates lf) (square st)) = x at hc ⊢
  have h : (normed w x g (ix3 0 r e) : EReal) = finish (fun e => x (ix2 r e)) (fun e => w (ix2 0 e)) (g (ix3 0 r e)) e := by
    pointwise [normed, wide]
    rfl
  rw [h]
  exact congrArg (fun f : Fin 128 → EReal => finish f _ _ e) (funext hc)

end

end Cert.Kernel8Ideal.Hgrn

end
-- ==== Proof.Hgrn.Trip.lean ====
/- One trip of the recurrence's loop: what it stores for each of the eight heads. -/
module

public import proofs.«01_k».proof.Proof.Hgrn.Chunk

@[expose] public section

set_option maxRecDepth 65536

noncomputable section

namespace Cert.Kernel8Ideal.Hgrn

open Idealize.ShloMosaic Idealize.ShloMosaic.TcCoe Idealize.SL.Sem
open Cert.Kernel8Ideal Cert.Kernel8Ideal.Gen

variable {F : FTy → Type} [FloatOps F] [Named F]

section trip
variable (𝒱 : Variants) (c : Dev nD) (bd : Option 𝒱.V) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .bf16) (harg7 : arg7.IsWhole) (arg8 : Memref sig .tc .vmem S1x128 .f32) (harg8 : arg8.IsWhole) (arg9 : Memref sig .tc .vmem S1x512x1024 .bf16) (harg9 : arg9.IsWhole) (arg10 : Memref sig .tc .vmem S8x128x128 .f32) (harg10 : arg10.IsWhole) (v9 : Vec F S1x128 .f32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) (f_arg9 : BufTy.Contents (Elt F) arg9.view.ty) (f_arg10 : BufTy.Contents (Elt F) arg10.view.ty)

theorem trip_state : (trip_k0_t1 (F := F) 𝒱 c bd i arg3 harg3 arg4 harg4 arg5 harg5 arg6 harg6 arg7 harg7 arg8 harg8 arg9 harg9 arg10 harg10 v9 X_arg3 X_arg4 X_arg5 X_arg6 X_arg7 k).2.1 f_arg9 f_arg10 =
    [⟨Rect.unit (s := S8x128x128) ![7, 0, 0] S1x128x128.size inb_S8x128x128_S1x128x128_7_0_0, stateOf (arg4.view.readAt (Elt F) (Rect.unit (s := S1x512x1024) (k0_off8 k) S1x64x128.size (k0_off8_inb k)).toLoadRect X_arg4) (arg5.view.readAt (Elt F) (Rect.unit (s := S1x512x1024) (k0_off8 k) S1x64x128.size (k0_off8_inb k)).toLoadRect X_arg5) (arg6.view.readAt (Elt F) (Rect.unit (s := S1x512x1024) (k0_off8 k) S1x64x128.size (k0_off8_inb k)).toLoadRect X_arg6) (arg10.view.readAt (Elt F) (Rect.unit (s := S8x128x128) ![7, 0, 0] S1x128x128.size inb_S8x128x128_S1x128x128_7_0_0).toLoadRect f_arg10)⟩,
      ⟨Rect.unit (s := S8x128x128) ![6, 0, 0] S1x128x128.size inb_S8x128x128_S1x128x128_6_0_0, stateOf (arg4.view.readAt (Elt F) (Rect.unit (s := S1x512x1024) (k0_off7 k) S1x64x128.size (k0_off7_inb k)).toLoadRect X_arg4) (arg5.view.readAt (Elt F) (Rect.unit (s := S1x512x1024) (k0_off7 k) S1x64x128.size (k0_off7_inb k)).toLoadRect X_arg5) (arg6.view.readAt (Elt F) (Rect.unit (s := S1x512x1024) (k0_off7 k) S1x64x128.size (k0_off7_inb k)).toLoadRect X_arg6) (arg10.view.readAt (Elt F) (Rect.unit (s := S8x128x128) ![6, 0, 0] S1x128x128.size inb_S8x128x128_S1x128x128_6_0_0).toLoadRect f_arg10)⟩,
      ⟨Rect.unit (s := S8x128x128) ![5, 0, 0] S1x128x128.size inb_S8x128x128_S1x128x128_5_0_0, stateOf (arg4.view.readAt (Elt F) (Rect.unit (s := S1x512x1024) (k0_off6 k) S1x64x128.size (k0_off6_inb k)).toLoadRect X_arg4) (arg5.view.readAt (Elt F) (Rect.unit (s := S1x512x1024) (k0_off6 k) S1x64x128.size (k0_off6_inb k)).toLoadRect X_arg5) (arg6.view.readAt (Elt F) (Rect.unit (s := S1x512x1024) (k0_off6 k) S1x64x128.size (k0_off6_inb k)).toLoadRect X_arg6) (arg10.view.readAt (Elt F) (Rect.unit (s := S8x128x128) ![5, 0, 0] S1x128x128.size inb_S8x128x128_S1x128x128_5_0_0).toLoadRect f_arg10)⟩,
      ⟨Rect.unit (s := S8x128x128) ![4, 0, 0] S1x128x128.size inb_S8x128x128_S1x128x128_4_0_0, stateOf (arg4.view.readAt (Elt F) (Rect.unit (s := S1x512x1024) (k0_off5 k) S1x64x128.size (k0_off5_inb k)).toLoadRect X_arg4) (arg5.view.readAt (Elt F) (Rect.unit (s := S1x512x1024) (k0_off5 k) S1x64x128.size (k0_off5_inb k)).toLoadRect X_arg5) (arg6.view.readAt (Elt F) (Rect.unit (s := S1x512x1024) (k0_off5 k) S1x64x128.size (k0_off5_inb k)).toLoadRect X_arg6) (arg10.view.readAt (Elt F) (Rect.unit (s := S8x128x128) ![4, 0, 0] S1x128x128.size inb_S8x128x128_S1x128x128_4_0_0).toLoadRect f_arg10)⟩,
      ⟨Rect.unit (s := S8x128x128) ![3, 0, 0] S1x128x128.size inb_S8x128x128_S1x128x128_3_0_0, stateOf (arg4.view.readAt (Elt F) (Rect.unit (s := S1x512x1024) (k0_off4 k) S1x64x128.size (k0_off4_inb k)).toLoadRect X_arg4) (arg5.view.readAt (Elt F) (Rect.unit (s := S1x512x1024) (k0_off4 k) S1x64x128.size (k0_off4_inb k)).toLoadRect X_arg5) (arg6.view.readAt (Elt F) (Rect.unit (s := S1x512x1024) (k0_off4 k) S1x64x128.size (k0_off4_inb k)).toLoadRect X_arg6) (arg10.view.readAt (Elt F) (Rect.unit (s := S8x128x128) ![3, 0, 0] S1x128x128.size inb_S8x128x128_S1x128x128_3_0_0).toLoadRect f_arg10)⟩,
      ⟨Rect.unit (s := S8x128x128) ![2, 0, 0] S1x128x128.size inb_S8x128x128_S1x128x128_2_0_0, stateOf (arg4.view.readAt (Elt F) (Rect.unit (s := S1x512x1024) (k0_off3 k) S1x64x128.size (k0_off3_inb k)).toLoadRect X_arg4) (arg5.view.readAt (Elt F) (Rect.unit (s := S1x512x1024) (k0_off3 k) S1x64x128.size (k0_off3_inb k)).toLoadRect X_arg5) (arg6.view.readAt (Elt F) (Rect.unit (s := S1x512x1024) (k0_off3 k) S1x64x128.size (k0_off3_inb k)).toLoadRect X_arg6) (arg10.view.readAt (Elt F) (Rect.unit (s := S8x128x128) ![2, 0, 0] S1x128x128.size inb_S8x128x128_S1x128x128_2_0_0).toLoadRect f_arg10)⟩,
      ⟨Rect.unit (s := S8x128x128) ![1, 0, 0] S1x128x128.size inb_S8x128x128_S1x128x128_1_0_0, stateOf (arg4.view.readAt (Elt F) (Rect.unit (s := S1x512x1024) (k0_off2 k) S1x64x128.size (k0_off2_inb k)).toLoadRect X_arg4) (arg5.view.readAt (Elt F) (Rect.unit (s := S1x512x1024) (k0_off2 k) S1x64x128.size (k0_off2_inb k)).toLoadRect X_arg5) (arg6.view.readAt (Elt F) (Rect.unit (s := S1x512x1024) (k0_off2 k) S1x64x128.size (k0_off2_inb k)).toLoadRect X_arg6) (arg10.view.readAt (Elt F) (Rect.unit (s := S8x128x128) ![1, 0, 0] S1x128x128.size inb_S8x128x128_S1x128x128_1_0_0).toLoadRect f_arg10)⟩,
      ⟨Rect.unit (s := S8x128x128) ![0, 0, 0] S1x128x128.size inb_S8x128x128_S1x128x128_0_0_0, stateOf (arg4.view.readAt (Elt F) (Rect.unit (s := S1x512x1024) (k0_off1 k) S1x64x128.size (k0_off1_inb k)).toLoadRect X_arg4) (arg5.view.readAt (Elt F) (Rect.unit (s := S1x512x1024) (k0_off1 k) S1x64x128.size (k0_off1_inb k)).toLoadRect X_arg5) (arg6.view.readAt (Elt F) (Rect.unit (s := S1x512x1024) (k0_off1 k) S1x64x128.size (k0_off1_inb k)).toLoadRect X_arg6) (arg10.view.readAt (Elt F) (Rect.unit (s := S8x128x128) ![0, 0, 0] S1x128x128.size inb_S8x128x128_S1x128x128_0_0_0).toLoadRect f_arg10)⟩] := by
  unfold trip_k0_t1; rfl

theorem trip_out : (trip_k0_t1 (F := F) 𝒱 c bd i arg3 harg3 arg4 harg4 arg5 harg5 arg6 harg6 arg7 harg7 arg8 harg8 arg9 harg9 arg10 harg10 v9 X_arg3 X_arg4 X_arg5 X_arg6 X_arg7 k).1 f_arg9 f_arg10 =
    [⟨Rect.unit (s := S1x512x1024) (k0_off8 k) S1x64x128.size (k0_off8_inb k), outOf (k0_pay3 v9) (arg3.view.readAt (Elt F) (Rect.unit (s := S1x512x1024) (k0_off8 k) S1x64x128.size (k0_off8_inb k)).toLoadRect X_arg3) (arg4.view.readAt (Elt F) (Rect.unit (s := S1x512x1024) (k0_off8 k) S1x64x128.size (k0_off8_inb k)).toLoadRect X_arg4) (arg5.view.readAt (Elt F) (Rect.unit (s := S1x512x1024) (k0_off8 k) S1x64x128.size (k0_off8_inb k)).toLoadRect X_arg5) (arg6.view.readAt (Elt F) (Rect.unit (s := S1x512x1024) (k0_off8 k) S1x64x128.size (k0_off8_inb k)).toLoadRect X_arg6) (arg10.view.readAt (Elt F) (Rect.unit (s := S8x128x128) ![7, 0, 0] S1x128x128.size inb_S8x128x128_S1x128x128_7_0_0).toLoadRect f_arg10) (arg7.view.readAt (Elt F) (Rect.unit (s := S1x512x1024) (k0_off8 k) S1x64x128.size (k0_off8_inb k)).toLoadRect X_arg7)⟩,
      ⟨Rect.unit (s := S1x512x1024) (k0_off7 k) S1x64x128.size (k0_off7_inb k), outOf (k0_pay3 v9) (arg3.view.readAt (Elt F) (Rect.unit (s := S1x512x1024) (k0_off7 k) S1x64x128.size (k0_off7_inb k)).toLoadRect X_arg3) (arg4.view.readAt (Elt F) (Rect.unit (s := S1x512x1024) (k0_off7 k) S1x64x128.size (k0_off7_inb k)).toLoadRect X_arg4) (arg5.view.readAt (Elt F) (Rect.unit (s := S1x512x1024) (k0_off7 k) S1x64x128.size (k0_off7_inb k)).toLoadRect X_arg5) (arg6.view.readAt (Elt F) (Rect.unit (s := S1x512x1024) (k0_off7 k) S1x64x128.size (k0_off7_inb k)).toLoadRect X_arg6) (arg10.view.readAt (Elt F) (Rect.unit (s := S8x128x128) ![6, 0, 0] S1x128x128.size inb_S8x128x128_S1x128x128_6_0_0).toLoadRect f_arg10) (arg7.view.readAt (Elt F) (Rect.unit (s := S1x512x1024) (k0_off7 k) S1x64x128.size (k0_off7_inb k)).toLoadRect X_arg7)⟩,
      ⟨Rect.unit (s := S1x512x1024) (k0_off6 k) S1x64x128.size (k0_off6_inb k), outOf (k0_pay3 v9) (arg3.view.readAt (Elt F) (Rect.unit (s := S1x512x1024) (k0_off6 k) S1x64x128.size (k0_off6_inb k)).toLoadRect X_arg3) (arg4.view.readAt (Elt F) (Rect.unit (s := S1x512x1024) (k0_off6 k) S1x64x128.size (k0_off6_inb k)).toLoadRect X_arg4) (arg5.view.readAt (Elt F) (Rect.unit (s := S1x512x1024) (k0_off6 k) S1x64x128.size (k0_off6_inb k)).toLoadRect X_arg5) (arg6.view.readAt (Elt F) (Rect.unit (s := S1x512x1024) (k0_off6 k) S1x64x128.size (k0_off6_inb k)).toLoadRect X_arg6) (arg10.view.readAt (Elt F) (Rect.unit (s := S8x128x128) ![5, 0, 0] S1x128x128.size inb_S8x128x128_S1x128x128_5_0_0).toLoadRect f_arg10) (arg7.view.readAt (Elt F) (Rect.unit (s := S1x512x1024) (k0_off6 k) S1x64x128.size (k0_off6_inb k)).toLoadRect X_arg7)⟩,
      ⟨Rect.unit (s := S1x512x1024) (k0_off5 k) S1x64x128.size (k0_off5_inb k), outOf (k0_pay3 v9) (arg3.view.readAt (Elt F) (Rect.unit (s := S1x512x1024) (k0_off5 k) S1x64x128.size (k0_off5_inb k)).toLoadRect X_arg3) (arg4.view.readAt (Elt F) (Rect.unit (s := S1x512x1024) (k0_off5 k) S1x64x128.size (k0_off5_inb k)).toLoadRect X_arg4) (arg5.view.readAt (Elt F) (Rect.unit (s := S1x512x1024) (k0_off5 k) S1x64x128.size (k0_off5_inb k)).toLoadRect X_arg5) (arg6.view.readAt (Elt F) (Rect.unit (s := S1x512x1024) (k0_off5 k) S1x64x128.size (k0_off5_inb k)).toLoadRect X_arg6) (arg10.view.readAt (Elt F) (Rect.unit (s := S8x128x128) ![4, 0, 0] S1x128x128.size inb_S8x128x128_S1x128x128_4_0_0).toLoadRect f_arg10) (arg7.view.readAt (Elt F) (Rect.unit (s := S1x512x1024) (k0_off5 k) S1x64x128.size (k0_off5_inb k)).toLoadRect X_arg7)⟩,
      ⟨Rect.unit (s := S1x512x1024) (k0_off4 k) S1x64x128.size (k0_off4_inb k), outOf (k0_pay3 v9) (arg3.view.readAt (Elt F) (Rect.unit (s := S1x512x1024) (k0_off4 k) S1x64x128.size (k0_off4_inb k)).toLoadRect X_arg3) (arg4.view.readAt (Elt F) (Rect.unit (s := S1x512x1024) (k0_off4 k) S1x64x128.size (k0_off4_inb k)).toLoadRect X_arg4) (arg5.view.readAt (Elt F) (Rect.unit (s := S1x512x1024) (k0_off4 k) S1x64x128.size (k0_off4_inb k)).toLoadRect X_arg5) (arg6.view.readAt (Elt F) (Rect.unit (s := S1x512x1024) (k0_off4 k) S1x64x128.size (k0_off4_inb k)).toLoadRect X_arg6) (arg10.view.readAt (Elt F) (Rect.unit (s := S8x128x128) ![3, 0, 0] S1x128x128.size inb_S8x128x128_S1x128x128_3_0_0).toLoadRect f_arg10) (arg7.view.readAt (Elt F) (Rect.unit (s := S1x512x1024) (k0_off4 k) S1x64x128.size (k0_off4_inb k)).toLoadRect X_arg7)⟩,
      ⟨Rect.unit (s := S1x512x1024) (k0_off3 k) S1x64x128.size (k0_off3_inb k), outOf (k0_pay3 v9) (arg3.view.readAt (Elt F) (Rect.unit (s := S1x512x1024) (k0_off3 k) S1x64x128.size (k0_off3_inb k)).toLoadRect X_arg3) (arg4.view.readAt (Elt F) (Rect.unit (s := S1x512x1024) (k0_off3 k) S1x64x128.size (k0_off3_inb k)).toLoadRect X_arg4) (arg5.view.readAt (Elt F) (Rect.unit (s := S1x512x1024) (k0_off3 k) S1x64x128.size (k0_off3_inb k)).toLoadRect X_arg5) (arg6.view.readAt (Elt F) (Rect.unit (s := S1x512x1024) (k0_off3 k) S1x64x128.size (k0_off3_inb k)).toLoadRect X_arg6) (arg10.view.readAt (Elt F) (Rect.unit (s := S8x128x128) ![2, 0, 0] S1x128x128.size inb_S8x128x128_S1x128x128_2_0_0).toLoadRect f_arg10) (arg7.view.readAt (Elt F) (Rect.unit (s := S1x512x1024) (k0_off3 k) S1x64x128.size (k0_off3_inb k)).toLoadRect X_arg7)⟩,
      ⟨Rect.unit (s := S1x512x1024) (k0_off2 k) S1x64x128.size (k0_off2_inb k), outOf (k0_pay3 v9) (arg3.view.readAt (Elt F) (Rect.unit (s := S1x512x1024) (k0_off2 k) S1x64x128.size (k0_off2_inb k)).toLoadRect X_arg3) (arg4.view.readAt (Elt F) (Rect.unit (s := S1x512x1024) (k0_off2 k) S1x64x128.size (k0_off2_inb k)).toLoadRect X_arg4) (arg5.view.readAt (Elt F) (Rect.unit (s := S1x512x1024) (k0_off2 k) S1x64x128.size (k0_off2_inb k)).toLoadRect X_arg5) (arg6.view.readAt (Elt F) (Rect.unit (s := S1x512x1024) (k0_off2 k) S1x64x128.size (k0_off2_inb k)).toLoadRect X_arg6) (arg10.view.readAt (Elt F) (Rect.unit (s := S8x128x128) ![1, 0, 0] S1x128x128.size inb_S8x128x128_S1x128x128_1_0_0).toLoadRect f_arg10) (arg7.view.readAt (Elt F) (Rect.unit (s := S1x512x1024) (k0_off2 k) S1x64x128.size (k0_off2_inb k)).toLoadRect X_arg7)⟩,
      ⟨Rect.unit (s := S1x512x1024) (k0_off1 k) S1x64x128.size (k0_off1_inb k), outOf (k0_pay3 v9) (arg3.view.readAt (Elt F) (Rect.unit (s := S1x512x1024) (k0_off1 k) S1x64x128.size (k0_off1_inb k)).toLoadRect X_arg3) (arg4.view.readAt (Elt F) (Rect.unit (s := S1x512x1024) (k0_off1 k) S1x64x128.size (k0_off1_inb k)).toLoadRect X_arg4) (arg5.view.readAt (Elt F) (Rect.unit (s := S1x512x1024) (k0_off1 k) S1x64x128.size (k0_off1_inb k)).toLoadRect X_arg5) (arg6.view.readAt (Elt F) (Rect.unit (s := S1x512x1024) (k0_off1 k) S1x64x128.size (k0_off1_inb k)).toLoadRect X_arg6) (arg10.view.readAt (Elt F) (Rect.unit (s := S8x128x128) ![0, 0, 0] S1x128x128.size inb_S8x128x128_S1x128x128_0_0_0).toLoadRect f_arg10) (arg7.view.readAt (Elt F) (Rect.unit (s := S1x512x1024) (k0_off1 k) S1x64x128.size (k0_off1_inb k)).toLoadRect X_arg7)⟩] := by
  unfold trip_k0_t1; rfl

end trip

end Cert.Kernel8Ideal.Hgrn

end
-- ==== Proof.Hgrn.Loop.lean ====
/- The recurrence's loop over the chunks of a block of 512 rows: the state after some chunks, and the rows stored so far. -/
module

public import proofs.«01_k».proof.Proof.Hgrn.ChunkAt
public import proofs.«01_k».proof.Proof.Hgrn.Trip
public import Idealize.ShloMosaic.Lib.WritesUnit

@[expose] public section

set_option maxRecDepth 16384

noncomputable section

namespace Cert.Kernel8Ideal.Hgrn

open Idealize.ShloMosaic Idealize.ShloMosaic.TcCoe Idealize.SL.Sem
open Cert.Kernel8Ideal Cert.Kernel8Ideal.Gen
open Cert.Hgrn

theorem trips_eq : k0_t1_loop.trips = 8 := by decide +kernel

/-- Lane `d` of head `h`. -/
def lane (h : Fin 8) (d : Fin 128) : Fin 1024 := ⟨128 * h.val + d.val, by omega⟩

section
variable {sig : RefSig} {κ : Kind} {sp : Space}

/-- A chunk's rows of a head, read through a view. -/
theorem readAt_head {η} (v : View sig κ sp S1x512x1024 η) (f : v.ty.Contents (Elt Ideal)) {off : Fin 3 → ℕ} (inb) (n j : Fin 8)
    (h : off = ![0, 64 * n.val, 128 * j.val]) (r : Fin 64) (d : Fin 128) :
    v.readAt (Elt Ideal) (Rect.unit (s := S1x512x1024) off S1x64x128.size inb).toLoadRect f (ix3 0 r d)
      = v.read (Elt Ideal) f (ix3 0 ⟨64 * n.val + r.val, by omega⟩ (lane j d)) := by
  subst h
  refine congrArg (v.read (Elt Ideal) f) (funext fun a => Fin.ext ?_)
  fin_cases a
  · rfl
  · show 64 * n.val + 1 * r.val = 64 * n.val + r.val; omega
  · show 128 * j.val + 1 * d.val = 128 * j.val + d.val; omega

/-- A head's state, read through a view. -/
theorem readAt_state (v : View sig κ sp S8x128x128 .f32) (f : v.ty.Contents (Elt Ideal)) {off : Fin 3 → ℕ} (inb) (j : Fin 8)
    (h : off = ![j.val, 0, 0]) (e d : Fin 128) :
    v.readAt (Elt Ideal) (Rect.unit (s := S8x128x128) off S1x128x128.size inb).toLoadRect f (ix3 0 e d) = v.read (Elt Ideal) f (ix3 j e d) := by
  subst h
  refine congrArg (v.read (Elt Ideal) f) (funext fun a => Fin.ext ?_)
  fin_cases a
  · show j.val + 1 * 0 = j.val; omega
  · show 0 + 1 * e.val = e.val; omega
  · show 0 + 1 * d.val = d.val; omega

theorem state_skip (v : View sig κ sp S8x128x128 .f32) (f : v.ty.Contents (Elt Ideal)) {off : Fin 3 → ℕ} (inb)
    (w : (Rect.unit (s := S8x128x128) off S1x128x128.size inb).shape.Idx → Ideal .f32) (L) (j : ℕ) (heq : off = ![j, 0, 0]) (h : Fin 8)
    (hne : h.val < j ∨ j + 1 ≤ h.val) (e d : Fin 128) :
    v.read (Elt Ideal) (v.writes (Elt Ideal) f ((⟨Rect.unit (s := S8x128x128) off S1x128x128.size inb, w⟩ : View.Piece (Elt Ideal) S8x128x128 .f32) :: L)) (ix3 h e d)
      = v.read (Elt Ideal) (v.writes (Elt Ideal) f L) (ix3 h e d) :=
  View.read_writes_cons_unit_of_not_mem v f inb w L _ heq 0 hne

theorem state_hit (v : View sig κ sp S8x128x128 .f32) (f : v.ty.Contents (Elt Ideal)) {off : Fin 3 → ℕ} (inb)
    (w : (Rect.unit (s := S8x128x128) off S1x128x128.size inb).shape.Idx → Ideal .f32) (L) (h : Fin 8) (heq : off = ![h.val, 0, 0]) (e d : Fin 128) :
    v.read (Elt Ideal) (v.writes (Elt Ideal) f ((⟨Rect.unit (s := S8x128x128) off S1x128x128.size inb, w⟩ : View.Piece (Elt Ideal) S8x128x128 .f32) :: L)) (ix3 h e d)
      = w (ix3 0 e d : S1x128x128.Idx) := by
  refine View.read_writes_cons_unit_of_mem v f inb w L _ (ix3 0 e d : S1x128x128.Idx) heq fun a => ?_
  fin_cases a
  · show h.val = h.val + 0; omega
  · show e.val = 0 + e.val; omega
  · show d.val = 0 + d.val; omega

theorem out_skip (v : View sig κ sp S1x512x1024 .bf16) (f : v.ty.Contents (Elt Ideal)) {off : Fin 3 → ℕ} (inb)
    (w : (Rect.unit (s := S1x512x1024) off S1x64x128.size inb).shape.Idx → Ideal .bf16) (L) (n j : ℕ) (heq : off = ![0, 64 * n, 128 * j]) (h : Fin 8) (s : Fin 512)
    (d : Fin 128) (hne : s.val < 64 * n ∨ h.val < j ∨ j + 1 ≤ h.val) :
    v.read (Elt Ideal) (v.writes (Elt Ideal) f ((⟨Rect.unit (s := S1x512x1024) off S1x64x128.size inb, w⟩ : View.Piece (Elt Ideal) S1x512x1024 .bf16) :: L)) (ix3 0 s (lane h d))
      = v.read (Elt Ideal) (v.writes (Elt Ideal) f L) (ix3 0 s (lane h d)) := by
  rcases hne with hr | hc
  · exact View.read_writes_cons_unit_of_not_mem v f inb w L _ heq 1 (.inl hr)
  · refine View.read_writes_cons_unit_of_not_mem v f inb w L _ heq 2 ?_
    show 128 * h.val + d.val < 128 * j ∨ 128 * j + 128 ≤ 128 * h.val + d.val
    omega

theorem out_hit (v : View sig κ sp S1x512x1024 .bf16) (f : v.ty.Contents (Elt Ideal)) {off : Fin 3 → ℕ} (inb)
    (w : (Rect.unit (s := S1x512x1024) off S1x64x128.size inb).shape.Idx → Ideal .bf16) (L) (n : ℕ) (h : Fin 8) (heq : off = ![0, 64 * n, 128 * h.val]) (s : Fin 512)
    (r : Fin 64) (hs : s.val = 64 * n + r.val) (d : Fin 128) :
    v.read (Elt Ideal) (v.writes (Elt Ideal) f ((⟨Rect.unit (s := S1x512x1024) off S1x64x128.size inb, w⟩ : View.Piece (Elt Ideal) S1x512x1024 .bf16) :: L)) (ix3 0 s (lane h d))
      = w (ix3 0 r d : S1x64x128.Idx) := by
  refine View.read_writes_cons_unit_of_mem v f inb w L _ (ix3 0 r d : S1x64x128.Idx) heq fun a => ?_
  fin_cases a
  · rfl
  · exact hs
  · rfl

end

section
variable (arg3 arg4 arg5 : View sig .tc .vmem S1x512x1024 .bf16) (arg6 : View sig .tc .vmem S1x512x1024 .f32) (arg7 : View sig .tc .vmem S1x512x1024 .bf16)
  (arg10 : View sig .tc .vmem S8x128x128 .f32)
  (X3 : arg3.ty.Contents (Elt Ideal)) (X4 : arg4.ty.Contents (Elt Ideal)) (X5 : arg5.ty.Contents (Elt Ideal)) (X6 : arg6.ty.Contents (Elt Ideal)) (X7 : arg7.ty.Contents (Elt Ideal))
  (f : arg10.ty.Contents (Elt Ideal)) (Q K V L : ℕ → Fin 128 → ℝ) (N : ℕ) (n j : Fin 8) {off off' : Fin 3 → ℕ} (inb) (inb')
  (hoff : off = ![0, 64 * n.val, 128 * j.val]) (hoff' : off' = ![j.val, 0, 0])
  (hq : ∀ (r : Fin 512) (d : Fin 128), (arg3.read (Elt Ideal) X3 (ix3 0 r (lane j d)) : EReal) = ((Q (N + r.val) d : ℝ) : EReal))
  (hk : ∀ (r : Fin 512) (d : Fin 128), (arg4.read (Elt Ideal) X4 (ix3 0 r (lane j d)) : EReal) = ((K (N + r.val) d : ℝ) : EReal))
  (hv : ∀ (r : Fin 512) (d : Fin 128), (arg5.read (Elt Ideal) X5 (ix3 0 r (lane j d)) : EReal) = ((V (N + r.val) d : ℝ) : EReal))
  (hl : ∀ (r : Fin 512) (d : Fin 128), (arg6.read (Elt Ideal) X6 (ix3 0 r (lane j d)) : EReal) = ((L (N + r.val) d : ℝ) : EReal))
  (hs : ∀ e d : Fin 128, (arg10.read (Elt Ideal) f (ix3 j e d) : EReal) = ((state K V L (N + 64 * n.val) e d : ℝ) : EReal))
include hoff hoff' hk hv hl hs

/-- The state a trip leaves for a head. -/
theorem state_row (e d : Fin 128) :
    (stateOf (arg4.readAt (Elt Ideal) (Rect.unit (s := S1x512x1024) off S1x64x128.size inb).toLoadRect X4)
      (arg5.readAt (Elt Ideal) (Rect.unit (s := S1x512x1024) off S1x64x128.size inb).toLoadRect X5)
      (arg6.readAt (Elt Ideal) (Rect.unit (s := S1x512x1024) off S1x64x128.size inb).toLoadRect X6)
      (arg10.readAt (Elt Ideal) (Rect.unit (s := S8x128x128) off' S1x128x128.size inb').toLoadRect f) (ix3 0 e d) : EReal)
      = ((state K V L (N + 64 * (n.val + 1)) e d : ℝ) : EReal) := by
  rw [stateOf_at (fun x => K (N + 64 * n.val + x)) (fun x => V (N + 64 * n.val + x)) (fun x => L (N + 64 * n.val + x)) (state K V L (N + 64 * n.val)) _ _ _ _
    (fun r d => (readAt_head arg4 X4 inb n j hoff r d).trans ((hk _ d).trans (by rw [Nat.add_assoc])))
    (fun r d => (readAt_head arg5 X5 inb n j hoff r d).trans ((hv _ d).trans (by rw [Nat.add_assoc])))
    (fun r d => (readAt_head arg6 X6 inb n j hoff r d).trans ((hl _ d).trans (by rw [Nat.add_assoc])))
    (fun e d => (readAt_state arg10 f inb' j hoff' e d).trans (hs e d))]
  rw [show N + 64 * (n.val + 1) = N + 64 * n.val + 64 by ring, ← state_step K V L (N + 64 * n.val) 64 (by omega) e d]

include hq in
/-- The rows a trip stores for a head. -/
theorem out_row (w : FVec Ideal S1x128 .f32) (r : Fin 64) (e : Fin 128) :
    (outOf w (arg3.readAt (Elt Ideal) (Rect.unit (s := S1x512x1024) off S1x64x128.size inb).toLoadRect X3)
      (arg4.readAt (Elt Ideal) (Rect.unit (s := S1x512x1024) off S1x64x128.size inb).toLoadRect X4)
      (arg5.readAt (Elt Ideal) (Rect.unit (s := S1x512x1024) off S1x64x128.size inb).toLoadRect X5)
      (arg6.readAt (Elt Ideal) (Rect.unit (s := S1x512x1024) off S1x64x128.size inb).toLoadRect X6)
      (arg10.readAt (Elt Ideal) (Rect.unit (s := S8x128x128) off' S1x128x128.size inb').toLoadRect f)
      (arg7.readAt (Elt Ideal) (Rect.unit (s := S1x512x1024) off S1x64x128.size inb).toLoadRect X7) (ix3 0 r e) : EReal)
      = finish (fun e => ((gather Q K (upto L) V (N + (64 * n.val + r.val)) e : ℝ) : EReal)) (fun e => w (ix2 0 e))
        (arg7.read (Elt Ideal) X7 (ix3 0 ⟨64 * n.val + r.val, by omega⟩ (lane j e))) e := by
  rw [outOf_at (fun x => Q (N + 64 * n.val + x)) (fun x => K (N + 64 * n.val + x)) (fun x => V (N + 64 * n.val + x)) (fun x => L (N + 64 * n.val + x))
    (state K V L (N + 64 * n.val)) _ _ _ _ _ _
    (fun r d => (readAt_head arg3 X3 inb n j hoff r d).trans ((hq _ d).trans (by rw [Nat.add_assoc])))
    (fun r d => (readAt_head arg4 X4 inb n j hoff r d).trans ((hk _ d).trans (by rw [Nat.add_assoc])))
    (fun r d => (readAt_head arg5 X5 inb n j hoff r d).trans ((hv _ d).trans (by rw [Nat.add_assoc])))
    (fun r d => (readAt_head arg6 X6 inb n j hoff r d).trans ((hl _ d).trans (by rw [Nat.add_assoc])))
    (fun e d => (readAt_state arg10 f inb' j hoff' e d).trans (hs e d)), readAt_head arg7 X7 inb n j hoff r e]
  refine congrArg (fun o : Fin 128 → EReal => finish o _ _ e) (funext fun e => congrArg _ ?_)
  rw [← Nat.add_assoc, ← gather_chunk Q K V L (N + 64 * n.val) r.val e]

end

section
variable (𝒱 : Variants) (c : Dev nD) (bd : Option 𝒱.V) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .bf16) (harg7 : arg7.IsWhole) (arg8 : Memref sig .tc .vmem S1x128 .f32) (harg8 : arg8.IsWhole) (arg9 : Memref sig .tc .vmem S1x512x1024 .bf16) (harg9 : arg9.IsWhole) (arg10 : Memref sig .tc .vmem S8x128x128 .f32) (harg10 : arg10.IsWhole) (v9 : Vec Ideal S1x128 .f32)
  (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty)
  (f9 : BufTy.Contents (Elt Ideal) arg9.view.ty) (f10 : BufTy.Contents (Elt Ideal) arg10.view.ty)
  (Q K V L : Fin 8 → ℕ → Fin 128 → ℝ) (N : ℕ)
  (hq : ∀ (j : Fin 8) (r : Fin 512) (d : Fin 128), (arg3.view.read (Elt Ideal) X3 (ix3 0 r (lane j d)) : EReal) = ((Q j (N + r.val) d : ℝ) : EReal))
  (hk : ∀ (j : Fin 8) (r : Fin 512) (d : Fin 128), (arg4.view.read (Elt Ideal) X4 (ix3 0 r (lane j d)) : EReal) = ((K j (N + r.val) d : ℝ) : EReal))
  (hv : ∀ (j : Fin 8) (r : Fin 512) (d : Fin 128), (arg5.view.read (Elt Ideal) X5 (ix3 0 r (lane j d)) : EReal) = ((V j (N + r.val) d : ℝ) : EReal))
  (hl : ∀ (j : Fin 8) (r : Fin 512) (d : Fin 128), (arg6.view.read (Elt Ideal) X6 (ix3 0 r (lane j d)) : EReal) = ((L j (N + r.val) d : ℝ) : EReal))
  (hs : ∀ (j : Fin 8) (e d : Fin 128), (arg10.view.read (Elt Ideal) f10 (ix3 j e d) : EReal) = ((state (K j) (V j) (L j) N e d : ℝ) : EReal))
include hq hk hv hl hs

/-- After `n` trips: the state before row `N + 64 n`, and every row before it stored. -/
theorem loop_at (v : View sig .tc .vmem S1x512x1024 .bf16) (f : v.ty.Contents (Elt Ideal)) : ∀ n : ℕ, n ≤ 8 →
    (∀ (h : Fin 8) (e d : Fin 128), (arg10.view.read (Elt Ideal) (arg10.view.writes (Elt Ideal) f10 (pb_k0_t1 𝒱 c bd i arg3 harg3 arg4 harg4 arg5 harg5 arg6 harg6 arg7 harg7 arg8 harg8 arg9 harg9 arg10 harg10 v9 X3 X4 X5 X6 X7 f9 f10 n).2) (ix3 h e d) : EReal)
      = ((state (K h) (V h) (L h) (N + 64 * n) e d : ℝ) : EReal))
    ∧ (∀ (h : Fin 8) (s : Fin 512) (e : Fin 128), s.val < 64 * n →
      (v.read (Elt Ideal) (v.writes (Elt Ideal) f (pb_k0_t1 𝒱 c bd i arg3 harg3 arg4 harg4 arg5 harg5 arg6 harg6 arg7 harg7 arg8 harg8 arg9 harg9 arg10 harg10 v9 X3 X4 X5 X6 X7 f9 f10 n).1) (ix3 0 s (lane h e)) : EReal)
        = finish (fun e => ((gather (Q h) (K h) (upto (L h)) (V h) (N + s.val) e : ℝ) : EReal)) (fun e => k0_pay3 v9 (ix2 0 e))
          (arg7.view.read (Elt Ideal) X7 (ix3 0 s (lane h e))) e)
    ∧ (0 < n → ∀ (u : View sig .tc .vmem S8x128x128 .f32) (g : u.ty.Contents (Elt Ideal)) (h : Fin 8) (e d : Fin 128),
      (u.read (Elt Ideal) (u.writes (Elt Ideal) g (pb_k0_t1 𝒱 c bd i arg3 harg3 arg4 harg4 arg5 harg5 arg6 harg6 arg7 harg7 arg8 harg8 arg9 harg9 arg10 harg10 v9 X3 X4 X5 X6 X7 f9 f10 n).2) (ix3 h e d) : EReal)
        = ((state (K h) (V h) (L h) (N + 64 * n) e d : ℝ) : EReal))
  | 0, _ => ⟨fun h e d => hs h e d, fun h s e hlt => absurd hlt (by omega), fun h => absurd h (by omega)⟩
  | n + 1, hn => by
    obtain ⟨ih1, ih2, -⟩ := loop_at v f n (by omega)
    have hlt : n < k0_t1_loop.trips := by rw [trips_eq]; omega
    rw [pb_k0_t1_succ 𝒱 c bd i arg3 harg3 arg4 harg4 arg5 harg5 arg6 harg6 arg7 harg7 arg8 harg8 arg9 harg9 arg10 harg10 v9 X3 X4 X5 X6 X7 f9 f10 ⟨n, hlt⟩]
    generalize pb_k0_t1 𝒱 c bd i arg3 harg3 arg4 harg4 arg5 harg5 arg6 harg6 arg7 harg7 arg8 harg8 arg9 harg9 arg10 harg10 v9 X3 X4 X5 X6 X7 f9 f10 (⟨n, hlt⟩ : Fin k0_t1_loop.trips).val = P at ih1 ih2 ⊢
    dsimp only
    rw [trip_state, trip_out]
    refine (fun (key : ∀ (u : View sig .tc .vmem S8x128x128 .f32) (g : u.ty.Contents (Elt Ideal)) (h : Fin 8) (e d : Fin 128), _) => ⟨key arg10.view f10, ?out, fun _ => key⟩) ?key
    case key =>
      intro u g h e d
      fin_cases h
      · exact (state_skip _ _ _ _ _ 7 rfl 0 (by decide) e d).trans ((state_skip _ _ _ _ _ 6 rfl 0 (by decide) e d).trans ((state_skip _ _ _ _ _ 5 rfl 0 (by decide) e d).trans ((state_skip _ _ _ _ _ 4 rfl 0 (by decide) e d).trans ((state_skip _ _ _ _ _ 3 rfl 0 (by decide) e d).trans ((state_skip _ _ _ _ _ 2 rfl 0 (by decide) e d).trans ((state_skip _ _ _ _ _ 1 rfl 0 (by decide) e d).trans ((state_hit _ _ _ _ _ 0 rfl e d).trans (state_row arg4.view arg5.view arg6.view arg10.view X4 X5 X6 _ (K 0) (V 0) (L 0) N ⟨n, by omega⟩ 0 _ _ (k0_off1_eq ⟨n, hlt⟩) rfl (hk 0) (hv 0) (hl 0) (ih1 0) e d))))))))
      · exact (state_skip _ _ _ _ _ 7 rfl 1 (by decide) e d).trans ((state_skip _ _ _ _ _ 6 rfl 1 (by decide) e d).trans ((state_skip _ _ _ _ _ 5 rfl 1 (by decide) e d).trans ((state_skip _ _ _ _ _ 4 rfl 1 (by decide) e d).trans ((state_skip _ _ _ _ _ 3 rfl 1 (by decide) e d).trans ((state_skip _ _ _ _ _ 2 rfl 1 (by decide) e d).trans ((state_hit _ _ _ _ _ 1 rfl e d).trans (state_row arg4.view arg5.view arg6.view arg10.view X4 X5 X6 _ (K 1) (V 1) (L 1) N ⟨n, by omega⟩ 1 _ _ (k0_off2_eq ⟨n, hlt⟩) rfl (hk 1) (hv 1) (hl 1) (ih1 1) e d)))))))
      · exact (state_skip _ _ _ _ _ 7 rfl 2 (by decide) e d).trans ((state_skip _ _ _ _ _ 6 rfl 2 (by decide) e d).trans ((state_skip _ _ _ _ _ 5 rfl 2 (by decide) e d).trans ((state_skip _ _ _ _ _ 4 rfl 2 (by decide) e d).trans ((state_skip _ _ _ _ _ 3 rfl 2 (by decide) e d).trans ((state_hit _ _ _ _ _ 2 rfl e d).trans (state_row arg4.view arg5.view arg6.view arg10.view X4 X5 X6 _ (K 2) (V 2) (L 2) N ⟨n, by omega⟩ 2 _ _ (k0_off3_eq ⟨n, hlt⟩) rfl (hk 2) (hv 2) (hl 2) (ih1 2) e d))))))
      · exact (state_skip _ _ _ _ _ 7 rfl 3 (by decide) e d).trans ((state_skip _ _ _ _ _ 6 rfl 3 (by decide) e d).trans ((state_skip _ _ _ _ _ 5 rfl 3 (by decide) e d).trans ((state_skip _ _ _ _ _ 4 rfl 3 (by decide) e d).trans ((state_hit _ _ _ _ _ 3 rfl e d).trans (state_row arg4.view arg5.view arg6.view arg10.view X4 X5 X6 _ (K 3) (V 3) (L 3) N ⟨n, by omega⟩ 3 _ _ (k0_off4_eq ⟨n, hlt⟩) rfl (hk 3) (hv 3) (hl 3) (ih1 3) e d)))))
      · exact (state_skip _ _ _ _ _ 7 rfl 4 (by decide) e d).trans ((state_skip _ _ _ _ _ 6 rfl 4 (by decide) e d).trans ((state_skip _ _ _ _ _ 5 rfl 4 (by decide) e d).trans ((state_hit _ _ _ _ _ 4 rfl e d).trans (state_row arg4.view arg5.view arg6.view arg10.view X4 X5 X6 _ (K 4) (V 4) (L 4) N ⟨n, by omega⟩ 4 _ _ (k0_off5_eq ⟨n, hlt⟩) rfl (hk 4) (hv 4) (hl 4) (ih1 4) e d))))
      · exact (state_skip _ _ _ _ _ 7 rfl 5 (by decide) e d).trans ((state_skip _ _ _ _ _ 6 rfl 5 (by decide) e d).trans ((state_hit _ _ _ _ _ 5 rfl e d).trans (state_row arg4.view arg5.view arg6.view arg10.view X4 X5 X6 _ (K 5) (V 5) (L 5) N ⟨n, by omega⟩ 5 _ _ (k0_off6_eq ⟨n, hlt⟩) rfl (hk 5) (hv 5) (hl 5) (ih1 5) e d)))
      · exact (state_skip _ _ _ _ _ 7 rfl 6 (by decide) e d).trans ((state_hit _ _ _ _ _ 6 rfl e d).trans (state_row arg4.view arg5.view arg6.view arg10.view X4 X5 X6 _ (K 6) (V 6) (L 6) N ⟨n, by omega⟩ 6 _ _ (k0_off7_eq ⟨n, hlt⟩) rfl (hk 6) (hv 6) (hl 6) (ih1 6) e d))
      · exact (state_hit _ _ _ _ _ 7 rfl e d).trans (state_row arg4.view arg5.view arg6.view arg10.view X4 X5 X6 _ (K 7) (V 7) (L 7) N ⟨n, by omega⟩ 7 _ _ (k0_off8_eq ⟨n, hlt⟩) rfl (hk 7) (hv 7) (hl 7) (ih1 7) e d)
    case out =>
      intro h s e hs'
      by_cases hd : s.val < 64 * n
      · exact (out_skip _ _ _ _ _ n 7 (k0_off8_eq ⟨n, hlt⟩) h s e (.inl hd)).trans ((out_skip _ _ _ _ _ n 6 (k0_off7_eq ⟨n, hlt⟩) h s e (.inl hd)).trans ((out_skip _ _ _ _ _ n 5 (k0_off6_eq ⟨n, hlt⟩) h s e (.inl hd)).trans ((out_skip _ _ _ _ _ n 4 (k0_off5_eq ⟨n, hlt⟩) h s e (.inl hd)).trans ((out_skip _ _ _ _ _ n 3 (k0_off4_eq ⟨n, hlt⟩) h s e (.inl hd)).trans ((out_skip _ _ _ _ _ n 2 (k0_off3_eq ⟨n, hlt⟩) h s e (.inl hd)).trans ((out_skip _ _ _ _ _ n 1 (k0_off2_eq ⟨n, hlt⟩) h s e (.inl hd)).trans ((out_skip _ _ _ _ _ n 0 (k0_off1_eq ⟨n, hlt⟩) h s e (.inl hd)).trans (ih2 h s e hd))))))))
      · have row : ∀ h : Fin 8, finish (fun e => ((gather (Q h) (K h) (upto (L h)) (V h) (N + (64 * n + (s.val - 64 * n))) e : ℝ) : EReal)) (fun e => k0_pay3 v9 (ix2 0 e))
            (arg7.view.read (Elt Ideal) X7 (ix3 0 ⟨64 * n + (s.val - 64 * n), by omega⟩ (lane h e))) e
            = finish (fun e => ((gather (Q h) (K h) (upto (L h)) (V h) (N + s.val) e : ℝ) : EReal)) (fun e => k0_pay3 v9 (ix2 0 e))
              (arg7.view.read (Elt Ideal) X7 (ix3 0 s (lane h e))) e := fun h => by
          have e1 : 64 * n + (s.val - 64 * n) = s.val := by omega
          have e2 : (⟨64 * n + (s.val - 64 * n), by omega⟩ : Fin 512) = s := Fin.ext e1
          rw [e2, e1]
        fin_cases h
        · exact (out_skip _ _ _ _ _ n 7 (k0_off8_eq ⟨n, hlt⟩) 0 s e (.inr (by decide))).trans ((out_skip _ _ _ _ _ n 6 (k0_off7_eq ⟨n, hlt⟩) 0 s e (.inr (by decide))).trans ((out_skip _ _ _ _ _ n 5 (k0_off6_eq ⟨n, hlt⟩) 0 s e (.inr (by decide))).trans ((out_skip _ _ _ _ _ n 4 (k0_off5_eq ⟨n, hlt⟩) 0 s e (.inr (by decide))).trans ((out_skip _ _ _ _ _ n 3 (k0_off4_eq ⟨n, hlt⟩) 0 s e (.inr (by decide))).trans ((out_skip _ _ _ _ _ n 2 (k0_off3_eq ⟨n, hlt⟩) 0 s e (.inr (by decide))).trans ((out_skip _ _ _ _ _ n 1 (k0_off2_eq ⟨n, hlt⟩) 0 s e (.inr (by decide))).trans ((out_hit _ _ _ _ _ n 0 (k0_off1_eq ⟨n, hlt⟩) s ⟨s.val - 64 * n, by omega⟩ (by dsimp only; omega) e).trans ((out_row arg3.view arg4.view arg5.view arg6.view arg7.view arg10.view X3 X4 X5 X6 X7 _ (Q 0) (K 0) (V 0) (L 0) N ⟨n, by omega⟩ 0 _ _ (k0_off1_eq ⟨n, hlt⟩) rfl (hq 0) (hk 0) (hv 0) (hl 0) (ih1 0) _ _ e).trans (row 0)))))))))
        · exact (out_skip _ _ _ _ _ n 7 (k0_off8_eq ⟨n, hlt⟩) 1 s e (.inr (by decide))).trans ((out_skip _ _ _ _ _ n 6 (k0_off7_eq ⟨n, hlt⟩) 1 s e (.inr (by decide))).trans ((out_skip _ _ _ _ _ n 5 (k0_off6_eq ⟨n, hlt⟩) 1 s e (.inr (by decide))).trans ((out_skip _ _ _ _ _ n 4 (k0_off5_eq ⟨n, hlt⟩) 1 s e (.inr (by decide))).trans ((out_skip _ _ _ _ _ n 3 (k0_off4_eq ⟨n, hlt⟩) 1 s e (.inr (by decide))).trans ((out_skip _ _ _ _ _ n 2 (k0_off3_eq ⟨n, hlt⟩) 1 s e (.inr (by decide))).trans ((out_hit _ _ _ _ _ n 1 (k0_off2_eq ⟨n, hlt⟩) s ⟨s.val - 64 * n, by omega⟩ (by dsimp only; omega) e).trans ((out_row arg3.view arg4.view arg5.view arg6.view arg7.view arg10.view X3 X4 X5 X6 X7 _ (Q 1) (K 1) (V 1) (L 1) N ⟨n, by omega⟩ 1 _ _ (k0_off2_eq ⟨n, hlt⟩) rfl (hq 1) (hk 1) (hv 1) (hl 1) (ih1 1) _ _ e).trans (row 1))))))))
        · exact (out_skip _ _ _ _ _ n 7 (k0_off8_eq ⟨n, hlt⟩) 2 s e (.inr (by decide))).trans ((out_skip _ _ _ _ _ n 6 (k0_off7_eq ⟨n, hlt⟩) 2 s e (.inr (by decide))).trans ((out_skip _ _ _ _ _ n 5 (k0_off6_eq ⟨n, hlt⟩) 2 s e (.inr (by decide))).trans ((out_skip _ _ _ _ _ n 4 (k0_off5_eq ⟨n, hlt⟩) 2 s e (.inr (by decide))).trans ((out_skip _ _ _ _ _ n 3 (k0_off4_eq ⟨n, hlt⟩) 2 s e (.inr (by decide))).trans ((out_hit _ _ _ _ _ n 2 (k0_off3_eq ⟨n, hlt⟩) s ⟨s.val - 64 * n, by omega⟩ (by dsimp only; omega) e).trans ((out_row arg3.view arg4.view arg5.view arg6.view arg7.view arg10.view X3 X4 X5 X6 X7 _ (Q 2) (K 2) (V 2) (L 2) N ⟨n, by omega⟩ 2 _ _ (k0_off3_eq ⟨n, hlt⟩) rfl (hq 2) (hk 2) (hv 2) (hl 2) (ih1 2) _ _ e).trans (row 2)))))))
        · exact (out_skip _ _ _ _ _ n 7 (k0_off8_eq ⟨n, hlt⟩) 3 s e (.inr (by decide))).trans ((out_skip _ _ _ _ _ n 6 (k0_off7_eq ⟨n, hlt⟩) 3 s e (.inr (by decide))).trans ((out_skip _ _ _ _ _ n 5 (k0_off6_eq ⟨n, hlt⟩) 3 s e (.inr (by decide))).trans ((out_skip _ _ _ _ _ n 4 (k0_off5_eq ⟨n, hlt⟩) 3 s e (.inr (by decide))).trans ((out_hit _ _ _ _ _ n 3 (k0_off4_eq ⟨n, hlt⟩) s ⟨s.val - 64 * n, by omega⟩ (by dsimp only; omega) e).trans ((out_row arg3.view arg4.view arg5.view arg6.view arg7.view arg10.view X3 X4 X5 X6 X7 _ (Q 3) (K 3) (V 3) (L 3) N ⟨n, by omega⟩ 3 _ _ (k0_off4_eq ⟨n, hlt⟩) rfl (hq 3) (hk 3) (hv 3) (hl 3) (ih1 3) _ _ e).trans (row 3))))))
        · exact (out_skip _ _ _ _ _ n 7 (k0_off8_eq ⟨n, hlt⟩) 4 s e (.inr (by decide))).trans ((out_skip _ _ _ _ _ n 6 (k0_off7_eq ⟨n, hlt⟩) 4 s e (.inr (by decide))).trans ((out_skip _ _ _ _ _ n 5 (k0_off6_eq ⟨n, hlt⟩) 4 s e (.inr (by decide))).trans ((out_hit _ _ _ _ _ n 4 (k0_off5_eq ⟨n, hlt⟩) s ⟨s.val - 64 * n, by omega⟩ (by dsimp only; omega) e).trans ((out_row arg3.view arg4.view arg5.view arg6.view arg7.view arg10.view X3 X4 X5 X6 X7 _ (Q 4) (K 4) (V 4) (L 4) N ⟨n, by omega⟩ 4 _ _ (k0_off5_eq ⟨n, hlt⟩) rfl (hq 4) (hk 4) (hv 4) (hl 4) (ih1 4) _ _ e).trans (row 4)))))
        · exact (out_skip _ _ _ _ _ n 7 (k0_off8_eq ⟨n, hlt⟩) 5 s e (.inr (by decide))).trans ((out_skip _ _ _ _ _ n 6 (k0_off7_eq ⟨n, hlt⟩) 5 s e (.inr (by decide))).trans ((out_hit _ _ _ _ _ n 5 (k0_off6_eq ⟨n, hlt⟩) s ⟨s.val - 64 * n, by omega⟩ (by dsimp only; omega) e).trans ((out_row arg3.view arg4.view arg5.view arg6.view arg7.view arg10.view X3 X4 X5 X6 X7 _ (Q 5) (K 5) (V 5) (L 5) N ⟨n, by omega⟩ 5 _ _ (k0_off6_eq ⟨n, hlt⟩) rfl (hq 5) (hk 5) (hv 5) (hl 5) (ih1 5) _ _ e).trans (row 5))))
        · exact (out_skip _ _ _ _ _ n 7 (k0_off8_eq ⟨n, hlt⟩) 6 s e (.inr (by decide))).trans ((out_hit _ _ _ _ _ n 6 (k0_off7_eq ⟨n, hlt⟩) s ⟨s.val - 64 * n, by omega⟩ (by dsimp only; omega) e).trans ((out_row arg3.view arg4.view arg5.view arg6.view arg7.view arg10.view X3 X4 X5 X6 X7 _ (Q 6) (K 6) (V 6) (L 6) N ⟨n, by omega⟩ 6 _ _ (k0_off7_eq ⟨n, hlt⟩) rfl (hq 6) (hk 6) (hv 6) (hl 6) (ih1 6) _ _ e).trans (row 6)))
        · exact (out_hit _ _ _ _ _ n 7 (k0_off8_eq ⟨n, hlt⟩) s ⟨s.val - 64 * n, by omega⟩ (by dsimp only; omega) e).trans ((out_row arg3.view arg4.view arg5.view arg6.view arg7.view arg10.view X3 X4 X5 X6 X7 _ (Q 7) (K 7) (V 7) (L 7) N ⟨n, by omega⟩ 7 _ _ (k0_off8_eq ⟨n, hlt⟩) rfl (hq 7) (hk 7) (hv 7) (hl 7) (ih1 7) _ _ e).trans (row 7))

end

end Cert.Kernel8Ideal.Hgrn

end
-- ==== Proof.Hgrn.Point.lean ====
/- The recurrence at a grid point: the rows it stores and the state it leaves; and point by point along a sequence. -/
module

public import proofs.«01_k».proof.Proof.Hgrn.Loop
public import proofs.«01_k».proof.Proof.Hgrn.Frame

@[expose] public section

set_option maxRecDepth 16384

noncomputable section

namespace Cert.Kernel8Ideal.Hgrn

open Idealize.ShloMosaic Idealize.ShloMosaic.TcCoe Idealize.SL.Sem
open Cert.Kernel8Ideal Cert.Kernel8Ideal.Gen
open Cert.Hgrn

/-- The gain, read through its memref. -/
theorem gain_at (arg8 : Memref sig .tc .vmem S1x128 .f32) (harg8 : arg8.IsWhole) (x5 : Vec Ideal S1x128 .f32) (e : Fin 128) :
    (k0_pay3 (arg8.view.readAt (Elt Ideal) (Rect.unit (s := S1x128) ![0, 0] S1x128.size inb_S1x128_S1x128_0_0).toLoadRect (harg8.unread x5)) (ix2 0 e) : EReal) = x5 (ix2 0 e) := by
  have h : arg8.view.readAt (Elt Ideal) (Rect.unit (s := S1x128) ![0, 0] S1x128.size inb_S1x128_S1x128_0_0).toLoadRect (harg8.unread x5) (ix2 0 e) = x5 (ix2 0 e) := by
    refine Eq.trans (congrArg (arg8.view.read (Elt Ideal) (harg8.unread x5)) (funext fun a => Fin.ext ?_)) (congrFun (harg8.read_unread x5) (ix2 0 e))
    fin_cases a
    · rfl
    · show 0 + 1 * e.val = e.val; omega
  rw [← h]
  pointwise [k0_pay3]

section
variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1x512x1024 .bf16) (harg7 : arg7.IsWhole) (arg8 : Memref sig .tc .vmem S1x128 .f32) (harg8 : arg8.IsWhole) (arg9 : Memref sig .tc .vmem S1x512x1024 .bf16) (harg9 : arg9.IsWhole) (arg10 : Memref sig .tc .vmem S8x128x128 .f32) (harg10 : arg10.IsWhole)
  (x0 x1 x2 : Vec Ideal S1x512x1024 .bf16) (x3 : Vec Ideal S1x512x1024 .f32) (x4 : Vec Ideal S1x512x1024 .bf16) (x5 : Vec Ideal S1x128 .f32)
  (Q K V L : Fin 8 → ℕ → Fin 128 → ℝ) (N : ℕ)
  (hq : ∀ (j : Fin 8) (r : Fin 512) (d : Fin 128), (x0 (ix3 0 r (lane j d)) : EReal) = ((Q j (N + r.val) d : ℝ) : EReal))
  (hk : ∀ (j : Fin 8) (r : Fin 512) (d : Fin 128), (x1 (ix3 0 r (lane j d)) : EReal) = ((K j (N + r.val) d : ℝ) : EReal))
  (hv : ∀ (j : Fin 8) (r : Fin 512) (d : Fin 128), (x2 (ix3 0 r (lane j d)) : EReal) = ((V j (N + r.val) d : ℝ) : EReal))
  (hl : ∀ (j : Fin 8) (r : Fin 512) (d : Fin 128), (x3 (ix3 0 r (lane j d)) : EReal) = ((L j (N + r.val) d : ℝ) : EReal))
include hq hk hv hl

/-- A point that starts a sequence: the rows it stores, and the state it leaves. -/
theorem pointA (hc0 : cond0_0 i) (hN : N = 0) :
    (∀ (h : Fin 8) (s : Fin 512) (e : Fin 128), (out0_A_6 c i arg3 harg3 arg4 harg4 arg5 harg5 arg6 harg6 arg7 harg7 arg8 harg8 arg9 harg9 arg10 harg10 hc0 x0 x1 x2 x3 x4 x5 (ix3 0 s (lane h e)) : EReal)
      = finish (fun e => ((gather (Q h) (K h) (upto (L h)) (V h) (N + s.val) e : ℝ) : EReal)) (fun e => x5 (ix2 0 e)) (x4 (ix3 0 s (lane h e))) e)
    ∧ ∀ (h : Fin 8) (e d : Fin 128), (sout0_A_0 c i arg3 harg3 arg4 harg4 arg5 harg5 arg6 harg6 arg7 harg7 arg8 harg8 arg9 harg9 arg10 harg10 hc0 x0 x1 x2 x3 x4 x5 (ix3 h e d) : EReal) = ((state (K h) (V h) (L h) (N + 512) e d : ℝ) : EReal) := by
  have e1 : (kernelRun0_A c i arg3 harg3 arg4 harg4 arg5 harg5 arg6 harg6 arg7 harg7 arg8 harg8 arg9 harg9 arg10 harg10 hc0 x0 x1 x2 x3 x4 x5).1 = (pb_k0_t1 Variants.none c none i arg3 harg3 arg4 harg4 arg5 harg5 arg6 harg6 arg7 harg7 arg8 harg8 arg9 harg9 arg10 harg10 (arg8.view.readAt (Elt Ideal) (Rect.unit (s := S1x128) ![0, 0] S1x128.size inb_S1x128_S1x128_0_0).toLoadRect (harg8.unread x5)) (harg3.unread x0) (harg4.unread x1) (harg5.unread x2) (harg6.unread x3) (harg7.unread x4) arg9.view.junk (arg10.view.writes (Elt Ideal) arg10.view.junk [⟨Rect.unit (s := S8x128x128) ![0, 0, 0] S8x128x128.size inb_S8x128x128_S8x128x128_0_0_0, k0_pay1 (F := Ideal)⟩]) 8).1 := by
    unfold kernelRun0_A
    rfl
  have e2 : (kernelRun0_A c i arg3 harg3 arg4 harg4 arg5 harg5 arg6 harg6 arg7 harg7 arg8 harg8 arg9 harg9 arg10 harg10 hc0 x0 x1 x2 x3 x4 x5).2.1 = (pb_k0_t1 Variants.none c none i arg3 harg3 arg4 harg4 arg5 harg5 arg6 harg6 arg7 harg7 arg8 harg8 arg9 harg9 arg10 harg10 (arg8.view.readAt (Elt Ideal) (Rect.unit (s := S1x128) ![0, 0] S1x128.size inb_S1x128_S1x128_0_0).toLoadRect (harg8.unread x5)) (harg3.unread x0) (harg4.unread x1) (harg5.unread x2) (harg6.unread x3) (harg7.unread x4) arg9.view.junk (arg10.view.writes (Elt Ideal) arg10.view.junk [⟨Rect.unit (s := S8x128x128) ![0, 0, 0] S8x128x128.size inb_S8x128x128_S8x128x128_0_0_0, k0_pay1 (F := Ideal)⟩]) 8).2 ++ [⟨Rect.unit (s := S8x128x128) ![0, 0, 0] S8x128x128.size inb_S8x128x128_S8x128x128_0_0_0, k0_pay1 (F := Ideal)⟩] := by
    unfold kernelRun0_A
    rfl
  have hs : ∀ (j : Fin 8) (e d : Fin 128), (arg10.view.read (Elt Ideal) (arg10.view.writes (Elt Ideal) arg10.view.junk [⟨Rect.unit (s := S8x128x128) ![0, 0, 0] S8x128x128.size inb_S8x128x128_S8x128x128_0_0_0, k0_pay1 (F := Ideal)⟩]) (ix3 j e d) : EReal) = ((state (K j) (V j) (L j) N e d : ℝ) : EReal) := fun j e d => by
    subst hN
    refine (View.read_writes_cons_unit_of_mem arg10.view _ _ _ _ _ (ix3 j e d : S8x128x128.Idx) rfl fun a => ?_).trans ?_
    · fin_cases a
      · show j.val = 0 + j.val; omega
      · show e.val = 0 + e.val; omega
      · show d.val = 0 + d.val; omega
    · rw [state, Finset.sum_range_zero, EReal.coe_zero]
      pointwise [k0_pay1]
  obtain ⟨-, h1, h2⟩ := loop_at Variants.none c none i arg3 harg3 arg4 harg4 arg5 harg5 arg6 harg6 arg7 harg7 arg8 harg8 arg9 harg9 arg10 harg10 (arg8.view.readAt (Elt Ideal) (Rect.unit (s := S1x128) ![0, 0] S1x128.size inb_S1x128_S1x128_0_0).toLoadRect (harg8.unread x5))
    (harg3.unread x0) (harg4.unread x1) (harg5.unread x2) (harg6.unread x3) (harg7.unread x4) arg9.view.junk (arg10.view.writes (Elt Ideal) arg10.view.junk [⟨Rect.unit (s := S8x128x128) ![0, 0, 0] S8x128x128.size inb_S8x128x128_S8x128x128_0_0_0, k0_pay1 (F := Ideal)⟩]) Q K V L N
    (by rw [harg3.read_unread]; exact hq) (by rw [harg4.read_unread]; exact hk) (by rw [harg5.read_unread]; exact hv) (by rw [harg6.read_unread]; exact hl) hs VO0_6 VO0_6.junk 8 le_rfl
  rw [harg7.read_unread] at h1
  simp only [gain_at arg8 harg8] at h1
  refine ⟨fun h s e => ?_, fun h e d => ?_⟩
  · rw [out0_A_6, e1]
    exact h1 h s e (by omega)
  · rw [sout0_A_0, e2, View.writes_append]
    exact h2 (by omega) _ _ h e d

/-- A point that goes on with a sequence: the rows it stores, and the state it leaves. -/
theorem pointB (hc0 : ¬cond0_0 i) (xs : Vec Ideal S8x128x128 .f32) (hs : ∀ (j : Fin 8) (e d : Fin 128), (xs (ix3 j e d) : EReal) = ((state (K j) (V j) (L j) N e d : ℝ) : EReal)) :
    (∀ (h : Fin 8) (s : Fin 512) (e : Fin 128), (out0_B_6 c i arg3 harg3 arg4 harg4 arg5 harg5 arg6 harg6 arg7 harg7 arg8 harg8 arg9 harg9 arg10 harg10 hc0 x0 x1 x2 x3 x4 x5 xs (ix3 0 s (lane h e)) : EReal)
      = finish (fun e => ((gather (Q h) (K h) (upto (L h)) (V h) (N + s.val) e : ℝ) : EReal)) (fun e => x5 (ix2 0 e)) (x4 (ix3 0 s (lane h e))) e)
    ∧ ∀ (h : Fin 8) (e d : Fin 128), (sout0_B_0 c i arg3 harg3 arg4 harg4 arg5 harg5 arg6 harg6 arg7 harg7 arg8 harg8 arg9 harg9 arg10 harg10 hc0 x0 x1 x2 x3 x4 x5 xs (ix3 h e d) : EReal) = ((state (K h) (V h) (L h) (N + 512) e d : ℝ) : EReal) := by
  have e1 : (kernelRun0_B c i arg3 harg3 arg4 harg4 arg5 harg5 arg6 harg6 arg7 harg7 arg8 harg8 arg9 harg9 arg10 harg10 hc0 x0 x1 x2 x3 x4 x5 xs).1 = (pb_k0_t1 Variants.none c none i arg3 harg3 arg4 harg4 arg5 harg5 arg6 harg6 arg7 harg7 arg8 harg8 arg9 harg9 arg10 harg10 (arg8.view.readAt (Elt Ideal) (Rect.unit (s := S1x128) ![0, 0] S1x128.size inb_S1x128_S1x128_0_0).toLoadRect (harg8.unread x5)) (harg3.unread x0) (harg4.unread x1) (harg5.unread x2) (harg6.unread x3) (harg7.unread x4) arg9.view.junk (harg10.unread xs) 8).1 := by
    unfold kernelRun0_B
    rfl
  have e2 : (kernelRun0_B c i arg3 harg3 arg4 harg4 arg5 harg5 arg6 harg6 arg7 harg7 arg8 harg8 arg9 harg9 arg10 harg10 hc0 x0 x1 x2 x3 x4 x5 xs).2.1 = (pb_k0_t1 Variants.none c none i arg3 harg3 arg4 harg4 arg5 harg5 arg6 harg6 arg7 harg7 arg8 harg8 arg9 harg9 arg10 harg10 (arg8.view.readAt (Elt Ideal) (Rect.unit (s := S1x128) ![0, 0] S1x128.size inb_S1x128_S1x128_0_0).toLoadRect (harg8.unread x5)) (harg3.unread x0) (harg4.unread x1) (harg5.unread x2) (harg6.unread x3) (harg7.unread x4) arg9.view.junk (harg10.unread xs) 8).2 := by
    unfold kernelRun0_B
    rfl
  rw [← harg10.read_unread xs] at hs
  obtain ⟨-, h1, h2⟩ := loop_at Variants.none c none i arg3 harg3 arg4 harg4 arg5 harg5 arg6 harg6 arg7 harg7 arg8 harg8 arg9 harg9 arg10 harg10 (arg8.view.readAt (Elt Ideal) (Rect.unit (s := S1x128) ![0, 0] S1x128.size inb_S1x128_S1x128_0_0).toLoadRect (harg8.unread x5))
    (harg3.unread x0) (harg4.unread x1) (harg5.unread x2) (harg6.unread x3) (harg7.unread x4) arg9.view.junk (harg10.unread xs) Q K V L N
    (by rw [harg3.read_unread]; exact hq) (by rw [harg4.read_unread]; exact hk) (by rw [harg5.read_unread]; exact hv) (by rw [harg6.read_unread]; exact hl) hs VO0_6 VO0_6.junk 8 le_rfl
  rw [harg7.read_unread] at h1
  simp only [gain_at arg8 harg8] at h1
  refine ⟨fun h s e => ?_, fun h e d => ?_⟩
  · rw [out0_B_6, e1]
    exact h1 h s e (by omega)
  · rw [sout0_B_0, e2]
    exact h2 (by omega) _ _ h e d

end

end Cert.Kernel8Ideal.Hgrn

end
-- ==== Proof.Ffn.Spec.lean ====
/- What both dense programs compute of a row: the gated two-layer network, added to the scaled row and normalised. -/
module

public import Idealize.ShloMosaic.PureOps
public import Idealize.ShloMosaic.PureOps.Ideal
public import Idealize.ShloMosaic.Lib.Pointwise

@[expose] public section

noncomputable section

namespace Cert.Ffn

open Idealize.ShloMosaic

/-- A hidden unit of a row: the gate times its sigmoid times the up projection.  The gate's columns are the first 2816 of
    the 5632 columns, the up projection's the last. -/
def hid (x : Fin 1024 → EReal) (w : Fin 1024 → Fin 5632 → EReal) (j : Fin 2816) : EReal :=
  (∑ k, x k * w k ⟨j.val, by omega⟩) * Ideal.logistic (∑ k, x k * w k ⟨j.val, by omega⟩) * ∑ k, x k * w k ⟨2816 + j.val, by omega⟩

/-- A row's residual at a column: the row scaled by the model's alpha plus its network's output. -/
def res (x : Fin 1024 → EReal) (w : Fin 1024 → Fin 5632 → EReal) (d : Fin 2816 → Fin 1024 → EReal) (q : Fin 1024) : EReal :=
  Ideal.ofBits FTy.f32 0x3FD744FD#32 * x q + ∑ j, hid x w j * d j q

/-- The mean of a row of 1024. -/
def mean (h : Fin 1024 → EReal) : EReal := Ideal.div (∑ q, h q) (Ideal.ofBits FTy.f32 0x44800000#32)

/-- A row's layer norm at a column: the distance from the mean over the root of the mean squared distance plus epsilon, scaled
    and shifted by the column's gain and bias. -/
def norm (h g b : Fin 1024 → EReal) (q : Fin 1024) : EReal :=
  (h q - mean h) * Ideal.rsqrt (mean (fun p => (h p - mean h) * (h p - mean h)) + Ideal.ofBits FTy.f32 0x3727C5AC#32) * g q + b q

/-- An index of rank two from its coordinates. -/
theorem ix2_ext {n0 n1 : ℕ} (x : (⟨2, ![n0, n1]⟩ : Shape).Idx) {a : Fin n0} {b : Fin n1} (h0 : (x 0).val = a.val) (h1 : (x 1).val = b.val) : x = ix2 a b := by
  funext i
  refine Fin.ext ?_
  fin_cases i
  · exact h0
  · exact h1

/-- An index of rank three from its coordinates. -/
theorem ix3_ext {n0 n1 n2 : ℕ} (x : (⟨3, ![n0, n1, n2]⟩ : Shape).Idx) {a : Fin n0} {b : Fin n1} {c : Fin n2}
    (h0 : (x 0).val = a.val) (h1 : (x 1).val = b.val) (h2 : (x 2).val = c.val) : x = ix3 a b c := by
  funext i
  refine Fin.ext ?_
  fin_cases i
  · exact h0
  · exact h1
  · exact h2

end Cert.Ffn

end
-- ==== Proof.Ffn.Blocks.lean ====
/- The dense kernel's result array at an index, from its arguments. -/
module

public import proofs.«01_k».proof.Proof.Gen.Kernel3Ideal.Frame
public import proofs.«01_k».proof.Proof.Ffn.Spec
public import Idealize.ShloMosaic.Lib.Pipeline.ValueKit
public import Idealize.ShloMosaic.Lib.StableHlo.ReadAt

@[expose] public section

set_option maxRecDepth 16384

noncomputable section

namespace Cert.Kernel3Ideal.Ffn

open Idealize.ShloMosaic Idealize.ShloMosaic.TcCoe Idealize.SL.Sem
open Cert.Kernel3Ideal Cert.Kernel3Ideal.Gen
open Cert.Ffn (ix2_ext ix3_ext hid res mean norm)

/-! ## A point's output block, from its input blocks -/

/-- The gate's and the up projection's blocks as the columns of one array. -/
def cols (wg wu : Vec Ideal S1024x2816 .bf16) (k : Fin 1024) (j : Fin 5632) : EReal :=
  if h : j.val < 2816 then wg (ix2 k ⟨j.val, h⟩) else wu (ix2 k ⟨j.val - 2816, by omega⟩)

theorem cols_lo (wg wu : Vec Ideal S1024x2816 .bf16) (k : Fin 1024) (j : Fin 2816) : cols wg wu k ⟨j.val, by omega⟩ = wg (ix2 k j) :=
  dif_pos j.isLt

theorem cols_hi (wg wu : Vec Ideal S1024x2816 .bf16) (k : Fin 1024) (j : Fin 2816) : cols wg wu k ⟨2816 + j.val, by omega⟩ = wu (ix2 k j) :=
  (dif_neg (by show ¬(2816 + j.val < 2816); omega)).trans (congrArg (fun e => wu (ix2 k e)) (Fin.ext (by show 2816 + j.val - 2816 = j.val; omega)))

section
variable (x : Vec Ideal S512x1024 .f32) (wg wu : Vec Ideal S1024x2816 .bf16) (d : Vec Ideal S2816x1024 .bf16) (g b : Vec Ideal S1x1024 .f32)
  (i : Fin 512) (q : Fin 1024)

/-- A block's residual less its row's mean. -/
theorem pay4_at : k0_pay4 x wg wu d x (ix2 i q)
    = res (fun k => x (ix2 i k)) (cols wg wu) (fun j q => d (ix2 j q)) q - mean (res (fun k => x (ix2 i k)) (cols wg wu) (fun j q => d (ix2 j q))) := by
  pointwise [k0_pay4]
  simp only [res, mean, hid, cols_lo, cols_hi]

/-- A block's mean squared distance. -/
theorem pay5_at : k0_pay5 x wg wu d x (ix2 i 0)
    = mean fun p => k0_pay4 x wg wu d x (ix2 i p) * k0_pay4 x wg wu d x (ix2 i p) := by
  pointwise [k0_pay5]
  rfl

/-- The stored block at an index. -/
theorem pay1_at (h : Vec Ideal S512x1024 .f32) (v : Vec Ideal S512x1 .f32) (e : Ideal .f32) :
    k0_pay1 g b h v e (ix2 i q) = (h (ix2 i q) : EReal) * Ideal.rsqrt (v (ix2 i 0) + e) * g (ix2 0 q) + b (ix2 0 q) := by
  pointwise [k0_pay1]

/-- The output block at an index: the normalised residual of the row. -/
theorem out_at : out0_6 x wg wu d g b (ix2 i q)
    = norm (res (fun k => x (ix2 i k)) (cols wg wu) (fun j q => d (ix2 j q))) (fun q => g (ix2 0 q)) (fun q => b (ix2 0 q)) q := by
  have hx : View.ld x r0_0 = x := View.ld_unit_lit _ x (by decide)
  have hg : View.ld wg r0_1 = wg := View.ld_unit_lit _ wg (by decide)
  have hu : View.ld wu r0_1 = wu := View.ld_unit_lit _ wu (by decide)
  have hd : View.ld d r0_2 = d := View.ld_unit_lit _ d (by decide)
  have h4 : View.ld g r0_3 = g := View.ld_unit_lit _ g (by decide)
  have h5 : View.ld b r0_3 = b := View.ld_unit_lit _ b (by decide)
  rw [out0_6, View.canon_cons_unit_lit _ _ _ (by decide), hx, hg, hu, hd, h4, h5]
  unfold k0_pay2 k0_pay3
  rw [pay1_at, pay5_at, shapeCast_self, shapeCast_self]
  simp only [pay4_at]
  rfl

end

/-! ## The windows' blocks, from the arrays -/

section
variable (m : (ℓ : Loc nD τ sig) → Buf (Elt Ideal) ℓ) (ρ : Dev nD → PrngReg) (c : Dev nD) (t : Fin cfg0.N)

theorem t_lt : t.val < 32 := lt_of_lt_of_eq t.isLt N_0

theorem idx_0 : ∀ t : Fin grid0.N, win0_0.index t = ![t.val, 0] := by decide +kernel
theorem idx_1 : ∀ t : Fin grid0.N, win0_1.index t = ![0, 0] := by decide +kernel
theorem idx_2 : ∀ t : Fin grid0.N, win0_2.index t = ![0, 1] := by decide +kernel
theorem idx_3 : ∀ t : Fin grid0.N, win0_3.index t = ![0, 0] := by decide +kernel
theorem idx_4 : ∀ t : Fin grid0.N, win0_4.index t = ![0, 0] := by decide +kernel
theorem idx_5 : ∀ t : Fin grid0.N, win0_5.index t = ![0, 0] := by decide +kernel
theorem idx_6 : ∀ t : Fin grid0.N, win0_6.index t = ![t.val, 0] := by decide +kernel

/-- The rows' block. -/
theorem iblk_0 (i : Fin 512) (k : Fin 1024) :
    iblk m c 0 t (ix2 i k : S512x1024.Idx) = V m c main_v0 (ix2 ⟨512 * t.val + i.val, by have := t_lt t; omega⟩ k : S16384x1024.Idx) := by
  blk_simp [iblk]
  refine congrArg _ (ix2_ext _ ?_ ?_) <;> blk_simp [idx_0] <;> first | (dsimp only; omega) | rfl

/-- The gate's block. -/
theorem iblk_1 (k : Fin 1024) (j : Fin 2816) :
    iblk m c 1 t (ix2 k j : S1024x2816.Idx) = V m c main_v1 (ix2 k ⟨j.val, by omega⟩ : S1024x5632.Idx) := by
  blk_simp [iblk]
  refine congrArg _ (ix2_ext _ ?_ ?_) <;> blk_simp [idx_1] <;> first | omega | rfl

/-- The up projection's block. -/
theorem iblk_2 (k : Fin 1024) (j : Fin 2816) :
    iblk m c 2 t (ix2 k j : S1024x2816.Idx) = V m c main_v1 (ix2 k ⟨2816 + j.val, by omega⟩ : S1024x5632.Idx) := by
  blk_simp [iblk]
  refine congrArg _ (ix2_ext _ ?_ ?_) <;> blk_simp [idx_2] <;> first | omega | rfl

/-- The down projection's block. -/
theorem iblk_3 (j : Fin 2816) (q : Fin 1024) :
    iblk m c 3 t (ix2 j q : S2816x1024.Idx) = V m c main_v2 (ix2 j q : S2816x1024.Idx) := by
  blk_simp [iblk]
  refine congrArg _ (ix2_ext _ ?_ ?_) <;> blk_simp [idx_3] <;> first | omega | rfl

/-- The gain's block. -/
theorem iblk_4 (q : Fin 1024) : iblk m c 4 t (ix2 0 q : S1x1024.Idx) = V m c main_v3 (ix2 0 q : S1x1024.Idx) := by
  blk_simp [iblk]
  refine congrArg _ (ix2_ext _ ?_ ?_) <;> blk_simp [idx_4] <;> first | omega | rfl

/-- The bias's block. -/
theorem iblk_5 (q : Fin 1024) : iblk m c 5 t (ix2 0 q : S1x1024.Idx) = V m c main_v4 (ix2 0 q : S1x1024.Idx) := by
  blk_simp [iblk]
  refine congrArg _ (ix2_ext _ ?_ ?_) <;> blk_simp [idx_5] <;> first | omega | rfl

/-! ## The host lines before the call -/

theorem v0_at (r : Fin 16384) (k : Fin 1024) :
    V m c main_v0 (ix2 r k : S16384x1024.Idx) = m ((c : Thread nD τ).loc main_arg0) (ix3 ⟨r.val / 2048, by omega⟩ ⟨r.val % 2048, by omega⟩ k : S8x2048x1024.Idx) := by
  show StableHlo.after hostOps0 (fun b => m (c, b)) (Proc.devRef .tc main_v0) _ = _
  after_reads_at

theorem v1_at (k : Fin 1024) (j : Fin 5632) :
    V m c main_v1 (ix2 k j : S1024x5632.Idx) = m ((c : Thread nD τ).loc main_arg1) (ix2 k j : S1024x5632.Idx) := by
  show StableHlo.after hostOps0 (fun b => m (c, b)) (Proc.devRef .tc main_v1) _ = _
  after_reads_at

theorem v2_at (j : Fin 2816) (q : Fin 1024) :
    V m c main_v2 (ix2 j q : S2816x1024.Idx) = m ((c : Thread nD τ).loc main_arg2) (ix2 j q : S2816x1024.Idx) := by
  show StableHlo.after hostOps0 (fun b => m (c, b)) (Proc.devRef .tc main_v2) _ = _
  after_reads_at

theorem v3_at (q : Fin 1024) :
    V m c main_v3 (ix2 0 q : S1x1024.Idx) = m ((c : Thread nD τ).loc main_arg3) (ix1 q : S1024.Idx) := by
  show StableHlo.after hostOps0 (fun b => m (c, b)) (Proc.devRef .tc main_v3) _ = _
  after_reads_at

theorem v4_at (q : Fin 1024) :
    V m c main_v4 (ix2 0 q : S1x1024.Idx) = m ((c : Thread nD τ).loc main_arg4) (ix1 q : S1024.Idx) := by
  show StableHlo.after hostOps0 (fun b => m (c, b)) (Proc.devRef .tc main_v4) _ = _
  after_reads_at

/-! ## The result -/

/-- The call's result array at an index: the normalised residual of the row. -/
theorem arr_at (r : Fin 16384) (q : Fin 1024) :
    (dats m 0 c).arrAt 6 cfg0.N (ix2 r q : S16384x1024.Idx)
      = norm (res (fun k => V m c main_v0 (ix2 r k : S16384x1024.Idx)) (fun k j => V m c main_v1 (ix2 k j : S1024x5632.Idx)) (fun j q => V m c main_v2 (ix2 j q : S2816x1024.Idx)))
          (fun q => V m c main_v3 (ix2 0 q : S1x1024.Idx)) (fun q => V m c main_v4 (ix2 0 q : S1x1024.Idx)) q := by
  refine (dats m 0 c).arrAt_forall_of_covers 6 (fun y v => ∀ (r : Fin 16384) (q : Fin 1024), y = (ix2 r q : S16384x1024.Idx) →
      v = norm (res (fun k => V m c main_v0 (ix2 r k : S16384x1024.Idx)) (fun k j => V m c main_v1 (ix2 k j : S1024x5632.Idx)) (fun j q => V m c main_v2 (ix2 j q : S2816x1024.Idx)))
          (fun q => V m c main_v3 (ix2 0 q : S1x1024.Idx)) (fun q => V m c main_v4 (ix2 0 q : S1x1024.Idx)) q) (by decide +kernel) (fun t hf y => ?_) _ (Memref.isWhole_whole _) r q rfl
  blk_simp
  rw [after0_6]
  intro r q e
  have e0 := congrArg (fun y => (y 0).val) e
  have e1 := congrArg (fun y => (y 1).val) e
  blk_simp [idx_6] at e0 e1
  change S512x1024.Idx at y
  obtain ⟨i, hi⟩ : ∃ i : Fin 512, (y 0).val = i.val := ⟨⟨(y 0).val, (y 0).isLt⟩, rfl⟩
  have hr : (⟨512 * t.val + i.val, by have := t_lt t; omega⟩ : Fin 16384) = r := Fin.ext (by dsimp only; omega)
  rw [show y = ix2 i q from ix2_ext y hi (by omega), out_at]
  have hw : cols (iblk m c 1 t) (iblk m c 2 t) = fun k j => V m c main_v1 (ix2 k j : S1024x5632.Idx) := by
    funext k j
    unfold cols
    split
    · exact iblk_1 m c t k _
    · exact (iblk_2 m c t k _).trans (congrArg (fun e => V m c main_v1 (ix2 k e : S1024x5632.Idx)) (Fin.ext (by dsimp only; omega)))
  rw [hw]
  simp only [iblk_0 m c t, iblk_3 m c t, iblk_4 m c t, iblk_5 m c t, hr]

/-- THE KERNEL'S RESULT AT AN INDEX: the normalised residual of the row, from the arguments. -/
theorem result_at (i : Fin 8) (s : Fin 2048) (q : Fin 1024) :
    Pipeline.afterTail₀ cfgs (dats m) 0 (V0 m) [hostOps1] c main_v6 (ix3 i s q : S8x2048x1024.Idx)
      = norm (res (fun k => m ((c : Thread nD τ).loc main_arg0) (ix3 i s k : S8x2048x1024.Idx)) (fun k j => m ((c : Thread nD τ).loc main_arg1) (ix2 k j : S1024x5632.Idx))
            (fun j q => m ((c : Thread nD τ).loc main_arg2) (ix2 j q : S2816x1024.Idx)))
          (fun q => m ((c : Thread nD τ).loc main_arg3) (ix1 q : S1024.Idx)) (fun q => m ((c : Thread nD τ).loc main_arg4) (ix1 q : S1024.Idx)) q := by
  have e : Pipeline.withArrays (cfgs 0).spec c (V0 m c) (fun w => (dats m 0 c).arrAt w (cfgs 0).N) (Proc.devRef .tc main_v5) = (dats m 0 c).arrAt 6 cfg0.N :=
    (dats m 0 c).withArrays_arrAt sharedIn0 (V0 m c) (A_eq m c) 6
  have h : Pipeline.afterTail₀ cfgs (dats m) 0 (V0 m) [hostOps1] c main_v6 (ix3 i s q : S8x2048x1024.Idx)
      = (dats m 0 c).arrAt 6 cfg0.N (ix2 ⟨i.val * 2048 + s.val, by omega⟩ q : S16384x1024.Idx) := by
    rw [← e]
    unfold Pipeline.afterTail₀
    generalize Pipeline.withArrays (cfgs 0).spec c (V0 m c) (fun w => (dats m 0 c).arrAt w (cfgs 0).N) = W
    show StableHlo.after hostOps1 W (Proc.devRef .tc main_v6) _ = _
    after_reads_at
  have h0 : ∀ k, V m c main_v0 (ix2 ⟨i.val * 2048 + s.val, by omega⟩ k : S16384x1024.Idx) = m ((c : Thread nD τ).loc main_arg0) (ix3 i s k : S8x2048x1024.Idx) := fun k =>
    (v0_at m c _ k).trans (congrArg _ (ix3_ext _ (by show (i.val * 2048 + s.val) / 2048 = i.val; omega) (by show (i.val * 2048 + s.val) % 2048 = s.val; omega) rfl))
  rw [h, arr_at]
  simp only [h0]
  exact congrFun (congr (congr (congrArg norm (congr (congrArg (res _) (funext fun k => funext fun j => v1_at m c k j)) (funext fun j => funext fun q => v2_at m c j q)))
    (funext fun q => v3_at m c q)) (funext fun q => v4_at m c q)) q

end

end Cert.Kernel3Ideal.Ffn

end
-- ==== Proof.Hgrn.Grid.lean ====
/- The recurrence over the grid: its blocks, what every point leaves, and the result array at an index. -/
module

public import proofs.«01_k».proof.Proof.Hgrn.Point
public import proofs.«01_k».proof.Proof.Ffn.Blocks
public import Idealize.ShloMosaic.Lib.Pointwise

@[expose] public section

set_option maxRecDepth 16384

noncomputable section

namespace Cert.Kernel8Ideal.Hgrn

open Idealize.ShloMosaic Idealize.ShloMosaic.TcCoe Idealize.SL.Sem
open Cert.Kernel8Ideal Cert.Kernel8Ideal.Gen
open Cert.Hgrn
open Cert.Ffn (ix2_ext ix3_ext)

variable (m : (ℓ : Loc nD τ sig) → Buf (Elt Ideal) ℓ) (ρ : Dev nD → PrngReg) (c : Dev nD)

/-! ## The host lines before the call -/

theorem v0_at (b : Fin 8) (s : Fin 2048) (l : Fin 1024) : (V m c main_v0 (ix3 b s l : S8x2048x1024.Idx) : EReal) = m ((c : Thread nD τ).loc main_arg0) (ix3 b s l : S8x2048x1024.Idx) := by
  show StableHlo.after hostOps0 (fun b => m (c, b)) (Proc.devRef .tc main_v0) _ = _
  after_reads_at
theorem v1_at (b : Fin 8) (s : Fin 2048) (l : Fin 1024) : (V m c main_v1 (ix3 b s l : S8x2048x1024.Idx) : EReal) = m ((c : Thread nD τ).loc main_arg1) (ix3 b s l : S8x2048x1024.Idx) := by
  show StableHlo.after hostOps0 (fun b => m (c, b)) (Proc.devRef .tc main_v1) _ = _
  after_reads_at
theorem v2_at (b : Fin 8) (s : Fin 2048) (l : Fin 1024) : (V m c main_v2 (ix3 b s l : S8x2048x1024.Idx) : EReal) = m ((c : Thread nD τ).loc main_arg2) (ix3 b s l : S8x2048x1024.Idx) := by
  show StableHlo.after hostOps0 (fun b => m (c, b)) (Proc.devRef .tc main_v2) _ = _
  after_reads_at
theorem v3_at (b : Fin 8) (s : Fin 2048) (l : Fin 1024) : (V m c main_v3 (ix3 b s l : S8x2048x1024.Idx) : EReal) = m ((c : Thread nD τ).loc main_arg4) (ix3 b s l : S8x2048x1024.Idx) := by
  show StableHlo.after hostOps0 (fun b => m (c, b)) (Proc.devRef .tc main_v3) _ = _
  after_reads_at
theorem v4_at (e : Fin 128) : (V m c main_v4 (ix2 0 e : S1x128.Idx) : EReal) = m ((c : Thread nD τ).loc main_arg5) (ix1 e : S128.Idx) := by
  show StableHlo.after hostOps0 (fun b => m (c, b)) (Proc.devRef .tc main_v4) _ = _
  after_reads_at

/-! ## The blocks -/

theorem t_lt (t : Fin cfg0.N) : t.val < 32 := lt_of_lt_of_eq t.isLt N_0

theorem idx_0 : ∀ t : Fin grid0.N, win0_0.index t = ![t.val / 4, t.val % 4, 0] := by decide +kernel
theorem idx_1 : ∀ t : Fin grid0.N, win0_1.index t = ![t.val / 4, t.val % 4, 0] := by decide +kernel
theorem idx_2 : ∀ t : Fin grid0.N, win0_2.index t = ![t.val / 4, t.val % 4, 0] := by decide +kernel
theorem idx_3 : ∀ t : Fin grid0.N, win0_3.index t = ![t.val / 4, t.val % 4, 0] := by decide +kernel
theorem idx_4 : ∀ t : Fin grid0.N, win0_4.index t = ![t.val / 4, t.val % 4, 0] := by decide +kernel
theorem idx_5 : ∀ t : Fin grid0.N, win0_5.index t = ![0, 0] := by decide +kernel
theorem idx_6 : ∀ t : Fin grid0.N, win0_6.index t = ![t.val / 4, t.val % 4, 0] := by decide +kernel

/-- The sequence a grid point is in. -/
def seq (t : Fin cfg0.N) : Fin 8 := ⟨t.val / 4, by have := t_lt t; omega⟩

/-- The row of the sequence that a row of a point's block is. -/
def row (t : Fin cfg0.N) (r : Fin 512) : Fin 2048 := ⟨512 * (t.val % 4) + r.val, by omega⟩

theorem blk0_at (t : Fin cfg0.N) (r : Fin 512) (l : Fin 1024) : iblk m c 0 t (ix3 0 r l : S1x512x1024.Idx) = V m c main_v0 (ix3 (seq t) (row t r) l : S8x2048x1024.Idx) := by
  blk_simp [iblk]
  refine congrArg _ (ix3_ext _ ?_ ?_ ?_) <;> blk_simp [idx_0] <;> first | (dsimp only [seq, row]; omega) | rfl
theorem blk1_at (t : Fin cfg0.N) (r : Fin 512) (l : Fin 1024) : iblk m c 1 t (ix3 0 r l : S1x512x1024.Idx) = V m c main_v1 (ix3 (seq t) (row t r) l : S8x2048x1024.Idx) := by
  blk_simp [iblk]
  refine congrArg _ (ix3_ext _ ?_ ?_ ?_) <;> blk_simp [idx_1] <;> first | (dsimp only [seq, row]; omega) | rfl
theorem blk2_at (t : Fin cfg0.N) (r : Fin 512) (l : Fin 1024) : iblk m c 2 t (ix3 0 r l : S1x512x1024.Idx) = V m c main_v2 (ix3 (seq t) (row t r) l : S8x2048x1024.Idx) := by
  blk_simp [iblk]
  refine congrArg _ (ix3_ext _ ?_ ?_ ?_) <;> blk_simp [idx_2] <;> first | (dsimp only [seq, row]; omega) | rfl
theorem blk3_at (t : Fin cfg0.N) (r : Fin 512) (l : Fin 1024) : iblk m c 3 t (ix3 0 r l : S1x512x1024.Idx) = V m c main_arg3 (ix3 (seq t) (row t r) l : S8x2048x1024.Idx) := by
  blk_simp [iblk]
  refine congrArg _ (ix3_ext _ ?_ ?_ ?_) <;> blk_simp [idx_3] <;> first | (dsimp only [seq, row]; omega) | rfl
theorem blk4_at (t : Fin cfg0.N) (r : Fin 512) (l : Fin 1024) : iblk m c 4 t (ix3 0 r l : S1x512x1024.Idx) = V m c main_v3 (ix3 (seq t) (row t r) l : S8x2048x1024.Idx) := by
  blk_simp [iblk]
  refine congrArg _ (ix3_ext _ ?_ ?_ ?_) <;> blk_simp [idx_4] <;> first | (dsimp only [seq, row]; omega) | rfl
theorem blk5_at (t : Fin cfg0.N) (e : Fin 128) : iblk m c 5 t (ix2 0 e : S1x128.Idx) = V m c main_v4 (ix2 0 e : S1x128.Idx) := by
  blk_simp [iblk]
  refine congrArg _ (ix2_ext _ ?_ ?_) <;> blk_simp [idx_5] <;> first | (dsimp only; omega) | rfl

/-! ## Every point -/

section
variable (Q K W L : Fin 8 → Fin 8 → ℕ → Fin 128 → ℝ)
  (hq : ∀ (b h : Fin 8) (s : Fin 2048) (d : Fin 128), (m ((c : Thread nD τ).loc main_arg0) (ix3 b s (lane h d) : S8x2048x1024.Idx) : EReal) = ((Q b h s.val d : ℝ) : EReal))
  (hk : ∀ (b h : Fin 8) (s : Fin 2048) (d : Fin 128), (m ((c : Thread nD τ).loc main_arg1) (ix3 b s (lane h d) : S8x2048x1024.Idx) : EReal) = ((K b h s.val d : ℝ) : EReal))
  (hv : ∀ (b h : Fin 8) (s : Fin 2048) (d : Fin 128), (m ((c : Thread nD τ).loc main_arg2) (ix3 b s (lane h d) : S8x2048x1024.Idx) : EReal) = ((W b h s.val d : ℝ) : EReal))
  (hl : ∀ (b h : Fin 8) (s : Fin 2048) (d : Fin 128), (m ((c : Thread nD τ).loc main_arg3) (ix3 b s (lane h d) : S8x2048x1024.Idx) : EReal) = ((L b h s.val d : ℝ) : EReal))
include hq hk hv hl

/-- What a point stores, and the state it leaves: the state of its sequence after the rows of its block. -/
theorem outs_at : ∀ (n : ℕ) (hn : n < cfg0.N),
    (∀ (h : Fin 8) (s : Fin 512) (e : Fin 128), ((outsAt0 m c n hn).1 (ix3 0 s (lane h e)) : EReal)
      = finish (fun e => ((gather (Q (seq ⟨n, hn⟩) h) (K (seq ⟨n, hn⟩) h) (upto (L (seq ⟨n, hn⟩) h)) (W (seq ⟨n, hn⟩) h) (row ⟨n, hn⟩ s).val e : ℝ) : EReal))
        (fun e => m ((c : Thread nD τ).loc main_arg5) (ix1 e : S128.Idx)) (m ((c : Thread nD τ).loc main_arg4) (ix3 (seq ⟨n, hn⟩) (row ⟨n, hn⟩ s) (lane h e) : S8x2048x1024.Idx)) e)
    ∧ ∀ (h : Fin 8) (e d : Fin 128), ((outsAt0 m c n hn).2 (ix3 h e d) : EReal)
      = ((state (K (seq ⟨n, hn⟩) h) (W (seq ⟨n, hn⟩) h) (L (seq ⟨n, hn⟩) h) (512 * (n % 4) + 512) e d : ℝ) : EReal) := by
  intro n
  induction n using Nat.strong_induction_on with
  | _ n ih =>
  intro hn
  have q0 := fun (j : Fin 8) (r : Fin 512) (d : Fin 128) => ((blk0_at m c ⟨n, hn⟩ r (lane j d)).trans (v0_at m c _ _ _)).trans (hq (seq ⟨n, hn⟩) j (row ⟨n, hn⟩ r) d)
  have k0 := fun (j : Fin 8) (r : Fin 512) (d : Fin 128) => ((blk1_at m c ⟨n, hn⟩ r (lane j d)).trans (v1_at m c _ _ _)).trans (hk (seq ⟨n, hn⟩) j (row ⟨n, hn⟩ r) d)
  have v0 := fun (j : Fin 8) (r : Fin 512) (d : Fin 128) => ((blk2_at m c ⟨n, hn⟩ r (lane j d)).trans (v2_at m c _ _ _)).trans (hv (seq ⟨n, hn⟩) j (row ⟨n, hn⟩ r) d)
  have l0 := fun (j : Fin 8) (r : Fin 512) (d : Fin 128) => ((blk3_at m c ⟨n, hn⟩ r (lane j d)).trans (congrFun (V_main_arg3 m c) _)).trans (hl (seq ⟨n, hn⟩) j (row ⟨n, hn⟩ r) d)
  have w0 : (fun e : Fin 128 => (iblk m c 5 ⟨n, hn⟩ (ix2 0 e : S1x128.Idx) : EReal)) = fun e => m ((c : Thread nD τ).loc main_arg5) (ix1 e : S128.Idx) :=
    funext fun e => (blk5_at m c ⟨n, hn⟩ e).trans (v4_at m c e)
  have g0 := fun (s : Fin 512) (l : Fin 1024) => (blk4_at m c ⟨n, hn⟩ s l).trans (v3_at m c (seq ⟨n, hn⟩) (row ⟨n, hn⟩ s) l)
  by_cases h0 : n % 4 = 0
  · have e := outsAt0_A m c ⟨n, hn⟩ h0
    dsimp only at e
    rw [e]
    obtain ⟨p1, p2⟩ := pointA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _)
      (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩)
      (Q (seq ⟨n, hn⟩)) (K (seq ⟨n, hn⟩)) (W (seq ⟨n, hn⟩)) (L (seq ⟨n, hn⟩)) (512 * (n % 4)) q0 k0 v0 l0 ((hcond0_0 ⟨n, hn⟩).mpr h0) (by omega)
    refine ⟨fun h s e => (p1 h s e).trans ?_, p2⟩
    rw [w0, g0]
    rfl
  · have e := outsAt0_B m c ⟨n, hn⟩ h0
    dsimp only at e
    rw [e]
    have hN := lt_of_lt_of_eq hn N_0
    have hp : n - 1 < cfg0.N := lt_of_le_of_lt (Nat.sub_le _ _) hn
    have es : seq ⟨n - 1, hp⟩ = seq ⟨n, hn⟩ := Fin.ext (by show (n - 1) / 4 = n / 4; omega)
    have hs := (ih (n - 1) (by omega) hp).2
    rw [es, show 512 * ((n - 1) % 4) + 512 = 512 * (n % 4) by omega] at hs
    obtain ⟨p1, p2⟩ := pointB c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) scM0_0 (Memref.isWhole_whole _)
      (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩)
      (Q (seq ⟨n, hn⟩)) (K (seq ⟨n, hn⟩)) (W (seq ⟨n, hn⟩)) (L (seq ⟨n, hn⟩)) (512 * (n % 4)) q0 k0 v0 l0 (fun h => h0 ((hcond0_0 ⟨n, hn⟩).mp h)) _ hs
    refine ⟨fun h s e => (p1 h s e).trans ?_, p2⟩
    rw [w0, g0]
    rfl

/-- THE RESULT ARRAY AT AN INDEX. -/
theorem arr_at (b : Fin 8) (s : Fin 2048) (h : Fin 8) (d : Fin 128) :
    ((dats m 0 c).arrAt 6 cfg0.N (ix3 b s (lane h d) : S8x2048x1024.Idx) : EReal)
      = finish (fun e => ((gather (Q b h) (K b h) (upto (L b h)) (W b h) s.val e : ℝ) : EReal)) (fun e => m ((c : Thread nD τ).loc main_arg5) (ix1 e : S128.Idx))
        (m ((c : Thread nD τ).loc main_arg4) (ix3 b s (lane h d) : S8x2048x1024.Idx)) d := by
  refine (dats m 0 c).arrAt_forall_of_covers 6 (fun y v => ∀ (b : Fin 8) (s : Fin 2048) (h : Fin 8) (d : Fin 128), y = (ix3 b s (lane h d) : S8x2048x1024.Idx) →
      (v : EReal) = finish (fun e => ((gather (Q b h) (K b h) (upto (L b h)) (W b h) s.val e : ℝ) : EReal)) (fun e => m ((c : Thread nD τ).loc main_arg5) (ix1 e : S128.Idx))
        (m ((c : Thread nD τ).loc main_arg4) (ix3 b s (lane h d) : S8x2048x1024.Idx)) d) (by decide +kernel) (fun t hf y => ?_) _ (Memref.isWhole_whole _) b s h d rfl
  blk_simp
  rw [after0_6]
  intro b s h d e
  have e0 := congrArg (fun y => (y 0).val) e
  have e1 := congrArg (fun y => (y 1).val) e
  have e2 := congrArg (fun y => (y 2).val) e
  blk_simp [idx_6] at e0 e1 e2
  change S1x512x1024.Idx at y
  have hy : (y 0).val < 1 := (y 0).isLt
  have hy1 : (y 1).val < 512 := (y 1).isLt
  have eb : seq t = b := Fin.ext (by dsimp only [seq]; omega)
  have er : row t ⟨(y 1).val, hy1⟩ = s := Fin.ext (by dsimp only [row]; omega)
  have key := (outs_at m c Q K W L hq hk hv hl t.val t.isLt).1 h ⟨(y 1).val, hy1⟩ d
  rw [show (⟨t.val, t.isLt⟩ : Fin cfg0.N) = t from rfl, eb, er] at key
  rw [show y = ix3 0 ⟨(y 1).val, hy1⟩ (lane h d) from ix3_ext y (by dsimp only; omega) (by dsimp only) (by dsimp only at e2 ⊢; omega)]
  exact key

end

/-- THE RUN'S VALUE: the run ends with the result array at what its write-backs leave in it, and the arguments unchanged. -/
theorem run : θ_run defs (onTc (τ := τ) (main (F := Ideal))) ⟨m, fun _ => 0, ρ⟩ (fun r => ∀ c : Dev nD,
      r.2.mem ((c.tc : Thread nD τ).loc main_v5) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 6, h.2 c⟩) (θ_run_and (run_main m ρ) (unchanged m ρ))

end Cert.Kernel8Ideal.Hgrn

end
-- ==== Proof.Proj.Run7.lean ====
/- The kernel's run with its results: the launch over the segments, read at the result arrays. -/
module

public import proofs.«01_k».proof.Proof.Gen.Kernel7Ideal.Frame

@[expose] public section

set_option maxRecDepth 16384

noncomputable section

namespace Cert.Kernel7Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN'S VALUE: every execution of the kernel's @main ends with the result arrays at what the calls'
    write-backs leave in them, and the arguments as launched. -/
theorem run : θ_run defs (onTc (τ := τ) (main (F := F))) ⟨m, fun _ => 0, ρ⟩ (fun r => ∀ c : Dev nD,
      r.2.mem ((c.tc : Thread nD τ).loc main_v5) = W13 m ρ c (Proc.devRef .tc main_v5)
      ∧ r.2.mem ((c.tc : Thread nD τ).loc main_v9) = W13 m ρ c (Proc.devRef .tc main_v9)
      ∧ r.2.mem ((c.tc : Thread nD τ).loc main_v17) = W13 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ c =>
      ⟨h c _ (mem_uc main_v5 (by decide)),
       h c _ (mem_uc main_v9 (by decide)),
       h c _ (mem_uc main_v17 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c)⟩)

end Cert.Kernel7Ideal.Proj

end
-- ==== Proof.Proj.Spec.lean ====
/- What the projections compute of a row and a column of weights. -/
module

public import proofs.«01_k».proof.Proof.Ffn.Spec

@[expose] public section

noncomputable section

namespace Cert.Proj

open Idealize.ShloMosaic

/-- A row through a column of weights. -/
def dot (x w : Fin 1024 → EReal) : EReal := ∑ k, x k * w k

/-- A number times its logistic. -/
def silu (z : EReal) : EReal := z * Ideal.logistic z

/-- An index of rank one from its coordinate. -/
theorem ix1_ext {n0 : ℕ} (x : (⟨1, ![n0]⟩ : Shape).Idx) {a : Fin n0} (h0 : (x 0).val = a.val) : x = ix1 a := by
  funext i
  refine Fin.ext ?_
  fin_cases i
  exact h0

end Cert.Proj

end
-- ==== Proof.Proj.Blocks7.lean ====
/- The projections' result arrays at an index, from the arguments. -/
module

public import proofs.«01_k».proof.Proof.Proj.Run7
public import proofs.«01_k».proof.Proof.Proj.Spec
public import Idealize.ShloMosaic.Lib.Pipeline.ValueKit
public import Idealize.ShloMosaic.Lib.StableHlo.ReadAt

@[expose] public section

set_option maxRecDepth 16384

noncomputable section

namespace Cert.Kernel7Ideal.Proj

open Idealize.ShloMosaic Idealize.ShloMosaic.TcCoe Idealize.SL.Sem
open Cert.Kernel7Ideal Cert.Kernel7Ideal.Gen
open Cert.Ffn (ix2_ext ix3_ext)
open Cert.Proj (dot silu)

variable (V : (c : Dev nD) → (b : Ref sig .tc) → Buf (Elt Ideal) ((c : Thread nD τ).loc b))
  (m : (ℓ : Loc nD τ sig) → Buf (Elt Ideal) ℓ) (ρ : Dev nD → PrngReg) (c : Dev nD)

/-! ## Call 0 -/

theorem t_lt0 (t : Fin cfg0.N) : t.val < 16 := lt_of_lt_of_eq t.isLt N_0

theorem idx0_0 : ∀ t : Fin grid0.N, win0_0.index t = ![t.val, 0] := by decide +kernel
theorem idx0_1 : ∀ t : Fin grid0.N, win0_1.index t = ![0, 0] := by decide +kernel
theorem idx0_3 : ∀ t : Fin grid0.N, win0_3.index t = ![t.val, 0] := by decide +kernel

/-- The output block at an index, from the input blocks. -/
theorem out0_at (x : Vec Ideal S1024x1024 .f32) (w : Vec Ideal S1024x1024 .bf16) (b : Vec Ideal S1x1024 .f32) (i q : Fin 1024) :
    out0_3 x w b (ix2 i q) = dot (fun k => x (ix2 i k)) fun k => w (ix2 k q) := by
  have hx : View.ld x r0_0 = x := View.ld_unit_lit _ x (by decide)
  have hw : View.ld w r0_0 = w := View.ld_unit_lit _ w (by decide)
  rw [out0_3, View.canon_cons_unit_lit _ _ _ (by decide), hx, hw]
  pointwise [k0_pay1]
  rfl

/-- The rows' block. -/
theorem iblk0_x (t : Fin cfg0.N) (i k : Fin 1024) :
    iblk0 V c 0 t (ix2 i k : S1024x1024.Idx) = V c main_v0 (ix2 ⟨1024 * t.val + i.val, by have := t_lt0 t; omega⟩ k : S16384x1024.Idx) := by
  blk_simp [iblk0]
  refine congrArg _ (ix2_ext _ ?_ ?_) <;> blk_simp [idx0_0] <;> first | (dsimp only; omega) | rfl

/-- The weights' block. -/
theorem iblk0_w (t : Fin cfg0.N) (k q : Fin 1024) : iblk0 V c 1 t (ix2 k q : S1024x1024.Idx) = V c main_v2 (ix2 k q : S1024x1024.Idx) := by
  blk_simp [iblk0]
  refine congrArg _ (ix2_ext _ ?_ ?_) <;> blk_simp [idx0_1] <;> first | omega | rfl

/-- The call's result array at an index. -/
theorem arr0_at (r : Fin 16384) (q : Fin 1024) :
    (dat0 V c).arrAt 3 cfg0.N (ix2 r q : S16384x1024.Idx) = dot (fun k => V c main_v0 (ix2 r k : S16384x1024.Idx)) fun k => V c main_v2 (ix2 k q : S1024x1024.Idx) := by
  refine (dat0 V c).arrAt_forall_of_covers 3 (fun y v => ∀ (r : Fin 16384) (q : Fin 1024), y = (ix2 r q : S16384x1024.Idx) →
      v = dot (fun k => V c main_v0 (ix2 r k : S16384x1024.Idx)) fun k => V c main_v2 (ix2 k q : S1024x1024.Idx)) (by decide +kernel) (fun t hf y => ?_) _ (Memref.isWhole_whole _) r q rfl
  blk_simp
  rw [after0_3]
  intro r q e
  have e0 := congrArg (fun y => (y 0).val) e
  have e1 := congrArg (fun y => (y 1).val) e
  blk_simp [idx0_3] at e0 e1
  change S1024x1024.Idx at y
  obtain ⟨i, hi⟩ : ∃ i : Fin 1024, (y 0).val = i.val := ⟨⟨(y 0).val, (y 0).isLt⟩, rfl⟩
  have hr : (⟨1024 * t.val + i.val, by have := t_lt0 t; omega⟩ : Fin 16384) = r := Fin.ext (by dsimp only; omega)
  rw [show y = ix2 i q from ix2_ext y hi (by omega), out0_at]
  simp only [iblk0_x V c t, iblk0_w V c t, hr]

/-- The rows at the call's entry, from the argument. -/
theorem x0_at (r : Fin 16384) (k : Fin 1024) :
    V1 m ρ c main_v0 (ix2 r k : S16384x1024.Idx) = m ((c : Thread nD τ).loc main_arg0) (ix3 ⟨r.val / 2048, by omega⟩ ⟨r.val % 2048, by omega⟩ k : S8x2048x1024.Idx) := by
  have h : V1 m ρ c main_v0 = W1 m ρ c (Proc.devRef .tc main_v0) := rfl
  rw [h]
  show StableHlo.after hostOps0 (W0 m ρ c) (Proc.devRef .tc main_v0) _ = _
  after_reads_at

/-- The weights at the call's entry, from the argument. -/
theorem w0_at (k q : Fin 1024) :
    V1 m ρ c main_v2 (ix2 k q : S1024x1024.Idx) = m ((c : Thread nD τ).loc main_arg1) (ix2 k ⟨0 + q.val, by omega⟩ : S1024x2064.Idx) := by
  show StableHlo.after hostOps0 (W0 m ρ c) (Proc.devRef .tc main_v2) _ = _
  after_reads_at

/-- The result at an index, from the arguments. -/
theorem result0_at (i : Fin 8) (s : Fin 2048) (q : Fin 1024) :
    W13 m ρ c (Proc.devRef .tc main_v5) (ix3 i s q : S8x2048x1024.Idx) = dot (fun k => m ((c : Thread nD τ).loc main_arg0) (ix3 i s k : S8x2048x1024.Idx)) fun k => m ((c : Thread nD τ).loc main_arg1) (ix2 k ⟨0 + q.val, by omega⟩ : S1024x2064.Idx) := by
  have h0 : W13 m ρ c (Proc.devRef .tc main_v5) = W3 m ρ c (Proc.devRef .tc main_v5) := ((((((((((W13_of m ρ c main_v5 (by decide)).trans (W12_of m ρ c main_v5 (by decide))).trans (W11_of m ρ c main_v5 (by decide))).trans (W10_of m ρ c main_v5 (by decide))).trans (W9_of m ρ c main_v5 (by decide))).trans (W8_of m ρ c main_v5 (by decide))).trans (W7_of m ρ c main_v5 (by decide))).trans (W6_of m ρ c main_v5 (by decide))).trans (W5_of m ρ c main_v5 (by decide))).trans (W4_of m ρ c main_v5 (by decide)))
  have h : W3 m ρ c (Proc.devRef .tc main_v5) (ix3 i s q : S8x2048x1024.Idx) = W2 m ρ c (Proc.devRef .tc main_v4) (ix2 ⟨i.val * 2048 + s.val, by omega⟩ q : S16384x1024.Idx) := by
    show StableHlo.after hostOps1 (W2 m ρ c) (Proc.devRef .tc main_v5) _ = _
    generalize W2 m ρ c = W
    after_reads_at
  have h1 : W2 m ρ c (Proc.devRef .tc main_v4) = (dat0 (V1 m ρ) c).arrAt 3 cfg0.N := W2_arr m ρ c 3
  rw [h0, h, h1, arr0_at]
  refine (congr (congrArg dot (funext fun k => (x0_at m ρ c _ k).trans (congrArg _ (ix3_ext _ ?_ ?_ rfl)))) (funext fun k => w0_at m ρ c k q))
  · show (i.val * 2048 + s.val) / 2048 = i.val
    omega
  · show (i.val * 2048 + s.val) % 2048 = s.val
    omega

/-! ## Call 1 -/

theorem t_lt1 (t : Fin cfg1.N) : t.val < 16 := lt_of_lt_of_eq t.isLt N_1

theorem idx1_0 : ∀ t : Fin grid1.N, win1_0.index t = ![t.val, 0] := by decide +kernel
theorem idx1_1 : ∀ t : Fin grid1.N, win1_1.index t = ![0, 0] := by decide +kernel
theorem idx1_3 : ∀ t : Fin grid1.N, win1_3.index t = ![t.val, 0] := by decide +kernel

/-- The output block at an index, from the input blocks. -/
theorem out1_at (x : Vec Ideal S1024x1024 .f32) (w : Vec Ideal S1024x1024 .bf16) (b : Vec Ideal S1x1024 .f32) (i q : Fin 1024) :
    out1_3 x w b (ix2 i q) = dot (fun k => x (ix2 i k)) fun k => w (ix2 k q) := by
  have hx : View.ld x r1_0 = x := View.ld_unit_lit _ x (by decide)
  have hw : View.ld w r1_0 = w := View.ld_unit_lit _ w (by decide)
  rw [out1_3, View.canon_cons_unit_lit _ _ _ (by decide), hx, hw]
  pointwise [k1_pay1]
  rfl

/-- The rows' block. -/
theorem iblk1_x (t : Fin cfg1.N) (i k : Fin 1024) :
    iblk1 V c 0 t (ix2 i k : S1024x1024.Idx) = V c main_v0 (ix2 ⟨1024 * t.val + i.val, by have := t_lt1 t; omega⟩ k : S16384x1024.Idx) := by
  blk_simp [iblk1]
  refine congrArg _ (ix2_ext _ ?_ ?_) <;> blk_simp [idx1_0] <;> first | (dsimp only; omega) | rfl

/-- The weights' block. -/
theorem iblk1_w (t : Fin cfg1.N) (k q : Fin 1024) : iblk1 V c 1 t (ix2 k q : S1024x1024.Idx) = V c main_v6 (ix2 k q : S1024x1024.Idx) := by
  blk_simp [iblk1]
  refine congrArg _ (ix2_ext _ ?_ ?_) <;> blk_simp [idx1_1] <;> first | omega | rfl

/-- The call's result array at an index. -/
theorem arr1_at (r : Fin 16384) (q : Fin 1024) :
    (dat1 V c).arrAt 3 cfg1.N (ix2 r q : S16384x1024.Idx) = dot (fun k => V c main_v0 (ix2 r k : S16384x1024.Idx)) fun k => V c main_v6 (ix2 k q : S1024x1024.Idx) := by
  refine (dat1 V c).arrAt_forall_of_covers 3 (fun y v => ∀ (r : Fin 16384) (q : Fin 1024), y = (ix2 r q : S16384x1024.Idx) →
      v = dot (fun k => V c main_v0 (ix2 r k : S16384x1024.Idx)) fun k => V c main_v6 (ix2 k q : S1024x1024.Idx)) (by decide +kernel) (fun t hf y => ?_) _ (Memref.isWhole_whole _) r q rfl
  blk_simp
  rw [after1_3]
  intro r q e
  have e0 := congrArg (fun y => (y 0).val) e
  have e1 := congrArg (fun y => (y 1).val) e
  blk_simp [idx1_3] at e0 e1
  change S1024x1024.Idx at y
  obtain ⟨i, hi⟩ : ∃ i : Fin 1024, (y 0).val = i.val := ⟨⟨(y 0).val, (y 0).isLt⟩, rfl⟩
  have hr : (⟨1024 * t.val + i.val, by have := t_lt1 t; omega⟩ : Fin 16384) = r := Fin.ext (by dsimp only; omega)
  rw [show y = ix2 i q from ix2_ext y hi (by omega), out1_at]
  simp only [iblk1_x V c t, iblk1_w V c t, hr]

/-- The rows at the call's entry, from the argument. -/
theorem x1_at (r : Fin 16384) (k : Fin 1024) :
    V3 m ρ c main_v0 (ix2 r k : S16384x1024.Idx) = m ((c : Thread nD τ).loc main_arg0) (ix3 ⟨r.val / 2048, by omega⟩ ⟨r.val % 2048, by omega⟩ k : S8x2048x1024.Idx) := by
  have h : V3 m ρ c main_v0 = W1 m ρ c (Proc.devRef .tc main_v0) := ((W3_of m ρ c main_v0 (by decide)).trans (W2_of m ρ c main_v0 (by decide)))
  rw [h]
  show StableHlo.after hostOps0 (W0 m ρ c) (Proc.devRef .tc main_v0) _ = _
  after_reads_at

/-- The weights at the call's entry, from the argument. -/
theorem w1_at (k q : Fin 1024) :
    V3 m ρ c main_v6 (ix2 k q : S1024x1024.Idx) = m ((c : Thread nD τ).loc main_arg1) (ix2 k ⟨1024 + q.val, by omega⟩ : S1024x2064.Idx) := by
  have h : V3 m ρ c main_v6 (ix2 k q : S1024x1024.Idx) = W2 m ρ c (Proc.devRef .tc main_v1) (ix2 k ⟨1024 + q.val, by omega⟩ : S1024x2064.Idx) := by
    show StableHlo.after hostOps1 (W2 m ρ c) (Proc.devRef .tc main_v6) _ = _
    generalize W2 m ρ c = W
    after_reads_at
  have h1 : W2 m ρ c (Proc.devRef .tc main_v1) = W1 m ρ c (Proc.devRef .tc main_v1) := (W2_of m ρ c main_v1 (by decide))
  rw [h, h1]
  show StableHlo.after hostOps0 (W0 m ρ c) (Proc.devRef .tc main_v1) _ = _
  after_reads_at

/-- The result at an index, from the arguments. -/
theorem result1_at (i : Fin 8) (s : Fin 2048) (q : Fin 1024) :
    W13 m ρ c (Proc.devRef .tc main_v9) (ix3 i s q : S8x2048x1024.Idx) = dot (fun k => m ((c : Thread nD τ).loc main_arg0) (ix3 i s k : S8x2048x1024.Idx)) fun k => m ((c : Thread nD τ).loc main_arg1) (ix2 k ⟨1024 + q.val, by omega⟩ : S1024x2064.Idx) := by
  have h0 : W13 m ρ c (Proc.devRef .tc main_v9) = W5 m ρ c (Proc.devRef .tc main_v9) := ((((((((W13_of m ρ c main_v9 (by decide)).trans (W12_of m ρ c main_v9 (by decide))).trans (W11_of m ρ c main_v9 (by decide))).trans (W10_of m ρ c main_v9 (by decide))).trans (W9_of m ρ c main_v9 (by decide))).trans (W8_of m ρ c main_v9 (by decide))).trans (W7_of m ρ c main_v9 (by decide))).trans (W6_of m ρ c main_v9 (by decide)))
  have h : W5 m ρ c (Proc.devRef .tc main_v9) (ix3 i s q : S8x2048x1024.Idx) = W4 m ρ c (Proc.devRef .tc main_v8) (ix2 ⟨i.val * 2048 + s.val, by omega⟩ q : S16384x1024.Idx) := by
    show StableHlo.after hostOps2 (W4 m ρ c) (Proc.devRef .tc main_v9) _ = _
    generalize W4 m ρ c = W
    after_reads_at
  have h1 : W4 m ρ c (Proc.devRef .tc main_v8) = (dat1 (V3 m ρ) c).arrAt 3 cfg1.N := W4_arr m ρ c 3
  rw [h0, h, h1, arr1_at]
  refine (congr (congrArg dot (funext fun k => (x1_at m ρ c _ k).trans (congrArg _ (ix3_ext _ ?_ ?_ rfl)))) (funext fun k => w1_at m ρ c k q))
  · show (i.val * 2048 + s.val) / 2048 = i.val
    omega
  · show (i.val * 2048 + s.val) % 2048 = s.val
    omega

end Cert.Kernel7Ideal.Proj

end
-- ==== Proof.Proj.Gate.lean ====
/- The forget gate's logarithm, as a number: what the kernel computes and what the reference computes. -/
module

public import proofs.«01_k».proof.Proof.Proj.Spec
public import Idealize.ShloMosaic.PureOps.Ideal

@[expose] public section

noncomputable section

namespace Cert.Proj

open Idealize.ShloMosaic

/-- `log (1 + exp (-|d|))`. -/
def soft (d : EReal) : EReal := Ideal.log (1 + Ideal.exp (-(max d (-d))))

/-- The logarithm of the logistic. -/
def logsig (z : EReal) : EReal := min z 0 - soft z

/-- The logarithm of the gate's second addend: the lower bound, floored, times the logistic of `-z`. -/
def bound (z l : EReal) : EReal := Ideal.log (max l (Ideal.ofBits FTy.f32 228737632#32)) + logsig (-z)

/-- The logarithm of the forget gate. -/
def logGate (z l : EReal) : EReal := max (logsig z) (bound z l) + soft (logsig z - bound z l)

/-- The key: one less the lower bound, times the logistic of `-z`. -/
def keyOf (z l : EReal) : EReal := (1 - l) * Ideal.logistic (-z)

theorem soft_neg (d : EReal) : soft (-d) = soft d := by
  unfold soft
  rw [neg_neg, max_comm]

/-- `log (1 + exp (-|d|))` is real. -/
theorem soft_real (d : EReal) : ∃ r : ℝ, soft d = r := by
  have key : ∀ e : ℝ, 0 ≤ e → ∃ r : ℝ, Ideal.log (1 + (e : EReal)) = r := fun e he => by
    refine ⟨Real.log (1 + e), ?_⟩
    rw [show (1 : EReal) + (e : EReal) = ((1 + e : ℝ) : EReal) by rw [EReal.coe_add, EReal.coe_one]]
    exact if_neg (by linarith)
  unfold soft
  induction d using EReal.rec with
  | bot =>
    rw [show max (⊥ : EReal) (-⊥) = ⊤ by simp, show -(⊤ : EReal) = ⊥ by simp]
    exact key 0 le_rfl
  | top =>
    rw [show max (⊤ : EReal) (-⊤) = ⊤ by simp, show -(⊤ : EReal) = ⊥ by simp]
    exact key 0 le_rfl
  | coe x =>
    rw [show -(max (x : EReal) (-(x : EReal))) = ((-(max x (-x)) : ℝ) : EReal) by
      rw [EReal.coe_neg, EReal.coe_strictMono.monotone.map_max, EReal.coe_neg]]
    exact key (Real.exp (-(max x (-x)))) (Real.exp_pos _).le

/-- The reference's logarithm of the logistic, from the maximum of `-z` and zero, is the kernel's, from the minimum of `z` and zero. -/
theorem neg_softplus (z : EReal) : -(max (-z) 0 + soft (-z - 0)) = logsig z := by
  rw [sub_zero, soft_neg, logsig]
  obtain ⟨r, hr⟩ := soft_real z
  rw [hr, EReal.neg_add (.inr (EReal.coe_ne_top _)) (.inr (EReal.coe_ne_bot _))]
  congr 1
  rcases le_total z 0 with h | h
  · rw [max_eq_left (by simpa using EReal.neg_le_neg_iff.2 h), min_eq_left h, neg_neg]
  · rw [max_eq_right (by simpa using EReal.neg_le_neg_iff.2 h), min_eq_right h, neg_zero]

end Cert.Proj

end
-- ==== Proof.Proj.Blocks7Log.lean ====
/- The log gates' product: its result array at an index, from the arguments. -/
module

public import proofs.«01_k».proof.Proof.Proj.Blocks7
public import proofs.«01_k».proof.Proof.Proj.Gate

@[expose] public section

set_option maxRecDepth 16384

noncomputable section

namespace Cert.Kernel7Ideal.Proj

open Idealize.ShloMosaic Idealize.ShloMosaic.TcCoe Idealize.SL.Sem
open Cert.Kernel7Ideal Cert.Kernel7Ideal.Gen
open Cert.Ffn (ix2_ext ix3_ext)
open Cert.Proj (dot soft logsig)

variable (V : (c : Dev nD) → (b : Ref sig .tc) → Buf (Elt Ideal) ((c : Thread nD τ).loc b))
  (m : (ℓ : Loc nD τ sig) → Buf (Elt Ideal) ℓ) (ρ : Dev nD → PrngReg) (c : Dev nD)

/-- The log gates' block at an index. -/
theorem out2_at (x : Vec Ideal S1024x1024 .f32) (w : Vec Ideal S1024x128 .bf16) (b : Vec Ideal S1x128 .f32) (i : Fin 1024) (q : Fin 128) :
    out2_3 x w b (ix2 i q) = logsig (dot (fun k => x (ix2 i k)) (fun k => w (ix2 k q)) + b (ix2 0 q)) := by
  have hx : View.ld x r2_0 = x := View.ld_unit_lit _ x (by decide)
  have hw : View.ld w r2_1 = w := View.ld_unit_lit _ w (by decide)
  have hb : View.ld b r2_2 = b := View.ld_unit_lit _ b (by decide)
  rw [out2_3, View.canon_cons_unit_lit _ _ _ (by decide), hx, hw, hb]
  pointwise [k2_pay1]
  rw [zero_sub]
  rfl

theorem t_lt2 (t : Fin cfg2.N) : t.val < 16 := lt_of_lt_of_eq t.isLt N_2

theorem idx2_0 : ∀ t : Fin grid2.N, win2_0.index t = ![t.val, 0] := by decide +kernel
theorem idx2_1 : ∀ t : Fin grid2.N, win2_1.index t = ![0, 0] := by decide +kernel
theorem idx2_2 : ∀ t : Fin grid2.N, win2_2.index t = ![0, 0] := by decide +kernel
theorem idx2_3 : ∀ t : Fin grid2.N, win2_3.index t = ![t.val, 0] := by decide +kernel

/-- The rows' block. -/
theorem iblk2_x (t : Fin cfg2.N) (i k : Fin 1024) :
    iblk2 V c 0 t (ix2 i k : S1024x1024.Idx) = V c main_v0 (ix2 ⟨1024 * t.val + i.val, by have := t_lt2 t; omega⟩ k : S16384x1024.Idx) := by
  blk_simp [iblk2]
  refine congrArg _ (ix2_ext _ ?_ ?_) <;> blk_simp [idx2_0] <;> first | (dsimp only; omega) | rfl

/-- The weights' block. -/
theorem iblk2_w (t : Fin cfg2.N) (k : Fin 1024) (q : Fin 128) : iblk2 V c 1 t (ix2 k q : S1024x128.Idx) = V c main_v11 (ix2 k q : S1024x128.Idx) := by
  blk_simp [iblk2]
  refine congrArg _ (ix2_ext _ ?_ ?_) <;> blk_simp [idx2_1] <;> first | omega | rfl

/-- The biases' block. -/
theorem iblk2_b (t : Fin cfg2.N) (q : Fin 128) : iblk2 V c 2 t (ix2 0 q : S1x128.Idx) = V c main_v13 (ix2 0 q : S1x128.Idx) := by
  blk_simp [iblk2]
  refine congrArg _ (ix2_ext _ ?_ ?_) <;> blk_simp [idx2_2] <;> first | omega | rfl

/-- The call's result array at an index. -/
theorem arr2_at (r : Fin 16384) (q : Fin 128) :
    (dat2 V c).arrAt 3 cfg2.N (ix2 r q : S16384x128.Idx) = logsig (dot (fun k => V c main_v0 (ix2 r k : S16384x1024.Idx)) (fun k => V c main_v11 (ix2 k q : S1024x128.Idx)) + V c main_v13 (ix2 0 q : S1x128.Idx)) := by
  refine (dat2 V c).arrAt_forall_of_covers 3 (fun y v => ∀ (r : Fin 16384) (q : Fin 128), y = (ix2 r q : S16384x128.Idx) →
      v = logsig (dot (fun k => V c main_v0 (ix2 r k : S16384x1024.Idx)) (fun k => V c main_v11 (ix2 k q : S1024x128.Idx)) + V c main_v13 (ix2 0 q : S1x128.Idx))) (by decide +kernel) (fun t hf y => ?_) _ (Memref.isWhole_whole _) r q rfl
  blk_simp
  rw [after2_3]
  intro r q e
  have e0 := congrArg (fun y => (y 0).val) e
  have e1 := congrArg (fun y => (y 1).val) e
  blk_simp [idx2_3] at e0 e1
  change S1024x128.Idx at y
  obtain ⟨i, hi⟩ : ∃ i : Fin 1024, (y 0).val = i.val := ⟨⟨(y 0).val, (y 0).isLt⟩, rfl⟩
  have hr : (⟨1024 * t.val + i.val, by have := t_lt2 t; omega⟩ : Fin 16384) = r := Fin.ext (by dsimp only; omega)
  rw [show y = ix2 i q from ix2_ext y hi (by omega), out2_at]
  simp only [iblk2_x V c t, iblk2_w V c t, iblk2_b V c t, hr]

/-- The rows at the call's entry, from the argument. -/
theorem x2_at (r : Fin 16384) (k : Fin 1024) :
    V9 m ρ c main_v0 (ix2 r k : S16384x1024.Idx) = m ((c : Thread nD τ).loc main_arg0) (ix3 ⟨r.val / 2048, by omega⟩ ⟨r.val % 2048, by omega⟩ k : S8x2048x1024.Idx) := by
  have h : V9 m ρ c main_v0 = W1 m ρ c (Proc.devRef .tc main_v0) := ((((((((W9_of m ρ c main_v0 (by decide)).trans (W8_of m ρ c main_v0 (by decide))).trans (W7_of m ρ c main_v0 (by decide))).trans (W6_of m ρ c main_v0 (by decide))).trans (W5_of m ρ c main_v0 (by decide))).trans (W4_of m ρ c main_v0 (by decide))).trans (W3_of m ρ c main_v0 (by decide))).trans (W2_of m ρ c main_v0 (by decide)))
  rw [h]
  show StableHlo.after hostOps0 (W0 m ρ c) (Proc.devRef .tc main_v0) _ = _
  after_reads_at

/-- The gates' weights at the call's entry, from the argument: the columns of the sixteen heads. -/
theorem w2_at (k : Fin 1024) (q : Fin 16) :
    V9 m ρ c main_v11 (ix2 k ⟨q.val, by omega⟩ : S1024x128.Idx) = m ((c : Thread nD τ).loc main_arg1) (ix2 k ⟨2048 + q.val, by omega⟩ : S1024x2064.Idx) := by
  have h0 : V9 m ρ c main_v11 = W6 m ρ c (Proc.devRef .tc main_v11) := (((W9_of m ρ c main_v11 (by decide)).trans (W8_of m ρ c main_v11 (by decide))).trans (W7_of m ρ c main_v11 (by decide)))
  have h : W6 m ρ c (Proc.devRef .tc main_v11) (ix2 k ⟨q.val, by omega⟩ : S1024x128.Idx) = W5 m ρ c (Proc.devRef .tc main_v10) (ix2 k q : S1024x16.Idx) := by
    show StableHlo.after hostOps2_1 (W5 m ρ c) (Proc.devRef .tc main_v11) _ = _
    generalize W5 m ρ c = W
    after_reads_at
  have h2 : W5 m ρ c (Proc.devRef .tc main_v10) (ix2 k q : S1024x16.Idx) = W4 m ρ c (Proc.devRef .tc main_v1) (ix2 k ⟨2048 + q.val, by omega⟩ : S1024x2064.Idx) := by
    show StableHlo.after hostOps2 (W4 m ρ c) (Proc.devRef .tc main_v10) _ = _
    generalize W4 m ρ c = W
    after_reads_at
  have h1 : W4 m ρ c (Proc.devRef .tc main_v1) = W1 m ρ c (Proc.devRef .tc main_v1) := (((W4_of m ρ c main_v1 (by decide)).trans (W3_of m ρ c main_v1 (by decide))).trans (W2_of m ρ c main_v1 (by decide)))
  rw [h0, h, h2, h1]
  show StableHlo.after hostOps0 (W0 m ρ c) (Proc.devRef .tc main_v1) _ = _
  after_reads_at

/-- The gates' biases at the call's entry, from the argument. -/
theorem b2_at (q : Fin 16) :
    V9 m ρ c main_v13 (ix2 0 ⟨q.val, by omega⟩ : S1x128.Idx) = m ((c : Thread nD τ).loc main_arg2) (ix1 q : S16.Idx) := by
  have h : V9 m ρ c main_v13 (ix2 0 ⟨q.val, by omega⟩ : S1x128.Idx) = W8 m ρ c (Proc.devRef .tc main_v12) (ix1 ⟨q.val, by omega⟩ : S128.Idx) := by
    show StableHlo.after hostOps2_4 (W8 m ρ c) (Proc.devRef .tc main_v13) _ = _
    generalize W8 m ρ c = W
    after_reads_at
  have h2 : W8 m ρ c (Proc.devRef .tc main_v12) (ix1 ⟨q.val, by omega⟩ : S128.Idx) = W7 m ρ c (Proc.devRef .tc main_arg2) (ix1 q : S16.Idx) := by
    show StableHlo.after hostOps2_3 (W7 m ρ c) (Proc.devRef .tc main_v12) _ = _
    generalize W7 m ρ c = W
    after_reads_at
  have h1 : W7 m ρ c (Proc.devRef .tc main_arg2) = m ((c : Thread nD τ).loc main_arg2) := W7_args m ρ c main_arg2 (by decide)
  rw [h, h2, h1]

/-- The log gate of a row for a head. -/
def gateOf (i : Fin 8) (s : Fin 2048) (q : Fin 16) : EReal :=
  logsig (dot (fun k => m ((c : Thread nD τ).loc main_arg0) (ix3 i s k : S8x2048x1024.Idx)) (fun k => m ((c : Thread nD τ).loc main_arg1) (ix2 k ⟨2048 + q.val, by omega⟩ : S1024x2064.Idx))
    + m ((c : Thread nD τ).loc main_arg2) (ix1 q : S16.Idx))

/-- The log gates at the cumulative sum's entry, from the arguments. -/
theorem x3_at (i : Fin 8) (s : Fin 2048) (q : Fin 16) :
    V11 m ρ c main_v15 (ix3 i s ⟨q.val, by omega⟩ : S8x2048x128.Idx) = gateOf m c i s q := by
  have h : V11 m ρ c main_v15 (ix3 i s ⟨q.val, by omega⟩ : S8x2048x128.Idx) = W10 m ρ c (Proc.devRef .tc main_v14) (ix2 ⟨i.val * 2048 + s.val, by omega⟩ ⟨q.val, by omega⟩ : S16384x128.Idx) := by
    show StableHlo.after hostOps3 (W10 m ρ c) (Proc.devRef .tc main_v15) _ = _
    generalize W10 m ρ c = W
    after_reads_at
  have h1 : W10 m ρ c (Proc.devRef .tc main_v14) = (dat2 (V9 m ρ) c).arrAt 3 cfg2.N := W10_arr m ρ c 3
  rw [h, h1, arr2_at, b2_at m ρ c q]
  refine congrArg (fun d : EReal => logsig (d + _)) (congr (congrArg dot (funext fun k => (x2_at m ρ c _ k).trans (congrArg _ (ix3_ext _ ?_ ?_ rfl)))) (funext fun k => w2_at m ρ c k q))
  · show (i.val * 2048 + s.val) / 2048 = i.val
    omega
  · show (i.val * 2048 + s.val) % 2048 = s.val
    omega

end Cert.Kernel7Ideal.Proj

end
-- ==== Proof.Proj.Scan.lean ====
/- Running sums of extended reals: a sum over the rows up to one, and the sum of the three addends a value is split into. -/
module

public import proofs.«01_k».proof.Proof.Proj.Gate

@[expose] public section

noncomputable section

namespace Cert.Proj

open Idealize.ShloMosaic

/-- The logarithm of the logistic is never plus infinity. -/
theorem logsig_ne_top (z : EReal) : logsig z ≠ ⊤ := by
  obtain ⟨r, hr⟩ := soft_real z
  rw [logsig, hr]
  intro h
  have h0 : min z 0 - (r : EReal) ≤ 0 - (r : EReal) := EReal.sub_le_sub (min_le_right _ _) le_rfl
  rw [h, zero_sub, ← EReal.coe_neg] at h0
  exact absurd (lt_of_le_of_lt h0 (EReal.coe_lt_top _)) (lt_irrefl _)

/-- A value other than plus infinity is the sum of what is left of it at each of three roundings, where rounding changes nothing. -/
theorem three_addends {x : EReal} (h : x ≠ ⊤) : x + (x - x) + (x - x - (x - x)) = x := by
  induction x using EReal.rec with
  | bot => rw [EReal.bot_add, EReal.bot_add]
  | top => exact absurd rfl h
  | coe x => rw [← EReal.coe_sub, sub_self, ← EReal.coe_sub, sub_self, EReal.coe_zero, add_zero, add_zero]

/-- The value at row `k`, and zero past the last row. -/
def ext {N : ℕ} (f : Fin N → EReal) (k : ℕ) : EReal := if h : k < N then f ⟨k, h⟩ else 0

/-- The sum of the first `n` rows. -/
def first {N : ℕ} (f : Fin N → EReal) (n : ℕ) : EReal := ∑ k ∈ Finset.range n, ext f k

theorem first_zero {N : ℕ} (f : Fin N → EReal) : first f 0 = 0 := Finset.sum_range_zero _

/-- Rows times a triangle of ones: the sum of the rows up to one. -/
theorem sum_triangle {B : ℕ} (u : Fin B → EReal) (r : Fin B) : ∑ j, (if j.val ≤ r.val then (1 : EReal) else 0) * u j = first u (r.val + 1) := by
  have h : ∀ j : Fin B, (if j.val ≤ r.val then (1 : EReal) else 0) * u j = (fun k => if k ≤ r.val then ext u k else 0) j.val := fun j => by
    dsimp only
    by_cases hj : j.val ≤ r.val
    · rw [if_pos hj, if_pos hj, one_mul, ext, dif_pos j.isLt]
    · rw [if_neg hj, if_neg hj, zero_mul]
  rw [Finset.sum_congr rfl fun j _ => h j, Fin.sum_univ_eq_sum_range (fun k => if k ≤ r.val then ext u k else 0), ← Finset.sum_filter, first]
  refine Finset.sum_congr (Finset.ext fun k => ?_) fun _ _ => rfl
  have := r.isLt
  rw [Finset.mem_filter, Finset.mem_range, Finset.mem_range]
  omega

/-- The three products of a triangle with the addends of rows, added up: the sum of the rows up to one. -/
theorem sum_addends {B : ℕ} (u : Fin B → EReal) (h : ∀ j, u j ≠ ⊤) (r : Fin B) :
    (∑ j, (if j.val ≤ r.val then (1 : EReal) else 0) * u j) + (∑ j, (if j.val ≤ r.val then (1 : EReal) else 0) * (u j - u j))
      + (∑ j, (if j.val ≤ r.val then (1 : EReal) else 0) * (u j - u j - (u j - u j))) = first u (r.val + 1) := by
  rw [← Finset.sum_add_distrib, ← Finset.sum_add_distrib, ← sum_triangle]
  refine Finset.sum_congr rfl fun j _ => ?_
  by_cases hj : j.val ≤ r.val
  · rw [if_pos hj, one_mul, one_mul, one_mul, three_addends (h j)]
  · rw [if_neg hj, zero_mul, zero_mul, zero_mul, add_zero, add_zero]

/-- The first rows of a later block, on top of the rows before it. -/
theorem first_block {B N : ℕ} (f : Fin N → EReal) (u : Fin B → EReal) (b : ℕ) (hb : b + B ≤ N) (h : ∀ j : Fin B, u j = f ⟨b + j.val, by omega⟩) (n : ℕ) (hn : n ≤ B) :
    first u n + first f b = first f (b + n) := by
  rw [add_comm, first, first, first, Finset.sum_range_add]
  congr 1
  refine Finset.sum_congr rfl fun k hk => ?_
  rw [Finset.mem_range] at hk
  rw [ext, ext, dif_pos (by omega), dif_pos (by omega)]
  exact h _

/-- A fold that adds one term after the other is the sum of the terms. -/
theorem foldl_add {α : Type} (h : α → EReal) (l : List α) (v : EReal) : l.foldl (fun r n => r + h n) v = v + (l.map h).sum := by
  induction l generalizing v with
  | nil => rw [List.foldl_nil, List.map_nil, List.sum_nil, add_zero]
  | cons a l ih => rw [List.foldl_cons, ih, List.map_cons, List.sum_cons, add_assoc]

/-- A window that ends at row `s`, its part above the first row holding zero: the sum of the rows up to `s`. -/
theorem sum_window {N : ℕ} (f : Fin N → EReal) (s : Fin N) :
    ∑ n : Fin N, (if N ≤ s.val + n.val + 1 then ext f (s.val + n.val + 1 - N) else 0) = first f (s.val + 1) := by
  have hs := s.isLt
  have e : Finset.range N = Finset.range (N - (s.val + 1) + (s.val + 1)) := congrArg _ (by omega)
  rw [Fin.sum_univ_eq_sum_range (fun n => if N ≤ s.val + n + 1 then ext f (s.val + n + 1 - N) else 0), e, Finset.sum_range_add, first,
    Finset.sum_eq_zero fun n hn => ?_, zero_add]
  · refine Finset.sum_congr rfl fun k _ => ?_
    rw [if_pos (by omega), show s.val + (N - (s.val + 1) + k) + 1 - N = k by omega]
  · rw [Finset.mem_range] at hn
    rw [if_neg (by omega)]

end Cert.Proj

end
-- ==== Proof.Proj.Cumsum7.lean ====
/- The cumulative sum over rows: one trip of its loop, the loop, and its result array at an index. -/
module

public import proofs.«01_k».proof.Proof.Proj.Blocks7Log
public import proofs.«01_k».proof.Proof.Proj.Scan
public import Idealize.ShloMosaic.Lib.WritesUnit
public import Idealize.ShloMosaic.Lib.WordCmp

@[expose] public section

set_option maxRecDepth 16384

noncomputable section

namespace Cert.Kernel7Ideal.Proj

open Idealize.ShloMosaic Idealize.ShloMosaic.TcCoe Idealize.SL.Sem
open Cert.Kernel7Ideal Cert.Kernel7Ideal.Gen
open Cert.Ffn (ix2_ext ix3_ext)
open Cert.Proj (first logsig)

/-- An entry of the triangle of ones. -/
def tri (r j : Fin 256) : EReal :=
  FloatOps.sitofp (F := Ideal) FTy.f32 (BitVec.setWidth 32 (IntOp.cmpi CmpIPredicate.sge (BitVec.ofNat 32 r.val) (BitVec.ofNat 32 j.val)))

theorem tri_eq (r j : Fin 256) : tri r j = if j.val ≤ r.val then (1 : EReal) else 0 := by
  have h : IntOp.cmpi CmpIPredicate.sge (BitVec.ofNat 32 r.val) (BitVec.ofNat 32 j.val) = 1#1 ↔ j.val ≤ r.val :=
    WordCmp.cmpi_sle_ofNat_eq_one_iff (w := 32) (a := j.val) (b := r.val) (by omega) (by omega)
  show ((((BitVec.setWidth 32 (IntOp.cmpi CmpIPredicate.sge (BitVec.ofNat 32 r.val) (BitVec.ofNat 32 j.val))).toInt : ℤ) : ℝ) : EReal) = _
  rcases BitVec.eq_zero_or_eq_one (IntOp.cmpi CmpIPredicate.sge (BitVec.ofNat 32 r.val) (BitVec.ofNat 32 j.val)) with hb | hb
  · rw [if_neg (fun hj => absurd (hb.symm.trans (h.2 hj)) (by decide)), hb, show (BitVec.setWidth 32 0#1).toInt = 0 from rfl, Int.cast_zero, EReal.coe_zero]
  · rw [if_pos (h.1 hb), hb, show (BitVec.setWidth 32 1#1).toInt = 1 from rfl, Int.cast_one, EReal.coe_one]

/-- One trip's sums at an index, for rows none of which is plus infinity: the block's rows up to one, and what was carried. -/
theorem pay2_at (a : Vec Ideal S1x128 .f32) (v : Vec Ideal S1x256x128 .f32) (r : Fin 256) (q : Fin 128) (h : ∀ j : Fin 256, (v (ix3 0 j q) : EReal) ≠ ⊤) :
    k3_pay2 a v (ix2 r q) = first (fun j : Fin 256 => (v (ix3 0 j q) : EReal)) (r.val + 1) + (a (ix2 0 q) : EReal) := by
  rw [← Cert.Proj.sum_addends _ h r]
  simp only [← tri_eq]
  pointwise [k3_pay2]
  rfl

theorem pay3_at (a : Vec Ideal S1x128 .f32) (v : Vec Ideal S1x256x128 .f32) (r : Fin 256) (q : Fin 128) : k3_pay3 a v (ix3 0 r q) = k3_pay2 a v (ix2 r q) := by
  pointwise [k3_pay3]

theorem pay4_at (a : Vec Ideal S1x128 .f32) (v : Vec Ideal S1x256x128 .f32) (q : Fin 128) : k3_pay4 a v (ix2 0 q) = k3_pay2 a v (ix2 255 q) := by
  pointwise [k3_pay4]

/-- A block of 256 rows, read through a view. -/
theorem readAt_block {sig : RefSig} {κ : Kind} {sp : Space} (v : View sig κ sp S1x2048x128 .f32) (f : v.ty.Contents (Elt Ideal)) {off : Fin 3 → ℕ} (inb) (n : Fin 8)
    (h : off = ![0, 256 * n.val, 0]) (j : Fin 256) (q : Fin 128) :
    v.readAt (Elt Ideal) (Rect.unit (s := S1x2048x128) off S1x256x128.size inb).toLoadRect f (ix3 0 j q) = v.read (Elt Ideal) f (ix3 0 ⟨256 * n.val + j.val, by omega⟩ q) := by
  subst h
  refine congrArg (v.read (Elt Ideal) f) (funext fun a => Fin.ext ?_)
  fin_cases a
  · rfl
  · show 256 * n.val + 1 * j.val = 256 * n.val + j.val; omega
  · show 0 + 1 * q.val = q.val; omega

section
variable (𝒱 : Variants) (c : Dev nD) (bd : Option 𝒱.V) (i : grid3.Coords) (arg1 : Memref sig .tc .vmem S1x2048x128 .f32) (harg1 : arg1.IsWhole)
  (arg2 : Memref sig .tc .vmem S1x2048x128 .f32) (harg2 : arg2.IsWhole) (X : BufTy.Contents (Elt Ideal) arg1.view.ty)

/-- What a trip carries on. -/
theorem tripR_eq (k : Fin k3_t1_loop.trips) (a : FVec Ideal S1x128 .f32) :
    tripR_k3_t1 𝒱 c bd i arg1 harg1 arg2 harg2 X k a = k3_pay4 a (arg1.view.readAt (Elt Ideal) (Rect.unit (s := S1x2048x128) (k3_off1 k) S1x256x128.size (k3_off1_inb k)).toLoadRect X) := by
  unfold tripR_k3_t1 trip_k3_t1; rfl

/-- What a trip stores. -/
theorem tripL_eq (k : Fin k3_t1_loop.trips) (a : FVec Ideal S1x128 .f32) :
    tripL_k3_t1 𝒱 c bd i arg1 harg1 arg2 harg2 X k a = [⟨Rect.unit (s := S1x2048x128) (k3_off1 k) S1x256x128.size (k3_off1_inb k),
      k3_pay3 a (arg1.view.readAt (Elt Ideal) (Rect.unit (s := S1x2048x128) (k3_off1 k) S1x256x128.size (k3_off1_inb k)).toLoadRect X)⟩] := by
  unfold tripL_k3_t1 trip_k3_t1; rfl

theorem trips_eq : k3_t1_loop.trips = 8 := by decide +kernel

/-- After `n` trips: the carried row holds the sum of the first `256 n` rows, and each of those rows, read back, holds the sum of the rows up to it. -/
theorem st_at (q : Fin 128) (h : ∀ s : Fin 2048, (arg1.view.read (Elt Ideal) X (ix3 0 s q) : EReal) ≠ ⊤)
    (v : View sig .tc .vmem S1x2048x128 .f32) (f : v.ty.Contents (Elt Ideal)) : ∀ n : ℕ, n ≤ 8 →
      (st_k3_t1 𝒱 c bd i arg1 harg1 arg2 harg2 X k3_pay1 n).1 (ix2 0 q) = first (fun s : Fin 2048 => (arg1.view.read (Elt Ideal) X (ix3 0 s q) : EReal)) (256 * n)
      ∧ ∀ s : Fin 2048, s.val < 256 * n → v.read (Elt Ideal) (v.writes (Elt Ideal) f (st_k3_t1 𝒱 c bd i arg1 harg1 arg2 harg2 X k3_pay1 n).2) (ix3 0 s q)
        = first (fun s : Fin 2048 => (arg1.view.read (Elt Ideal) X (ix3 0 s q) : EReal)) (s.val + 1)
  | 0, _ => by
    refine ⟨?_, fun s hs => absurd hs (by omega)⟩
    rw [Nat.mul_zero, Cert.Proj.first_zero, st_k3_t1]
    pointwise [k3_pay1]
  | n + 1, hn => by
    obtain ⟨ih1, ih2⟩ := st_at q h v f n (by omega)
    have hb : ∀ j : Fin 256, arg1.view.readAt (Elt Ideal) (Rect.unit (s := S1x2048x128) (k3_off1 ⟨n, by rw [trips_eq]; omega⟩) S1x256x128.size (k3_off1_inb ⟨n, by rw [trips_eq]; omega⟩)).toLoadRect X (ix3 0 j q)
        = arg1.view.read (Elt Ideal) X (ix3 0 ⟨256 * n + j.val, by omega⟩ q) := fun j => readAt_block arg1.view X _ ⟨n, by omega⟩ (k3_off1_eq _) j q
    have hs := st_k3_t1_succ 𝒱 c bd i arg1 harg1 arg2 harg2 X k3_pay1 ⟨n, by rw [trips_eq]; omega⟩
    dsimp only at hs
    have key : ∀ r : Fin 256, k3_pay2 (st_k3_t1 𝒱 c bd i arg1 harg1 arg2 harg2 X k3_pay1 n).1 (arg1.view.readAt (Elt Ideal) (Rect.unit (s := S1x2048x128) (k3_off1 ⟨n, by rw [trips_eq]; omega⟩) S1x256x128.size (k3_off1_inb ⟨n, by rw [trips_eq]; omega⟩)).toLoadRect X) (ix2 r q)
        = first (fun s : Fin 2048 => (arg1.view.read (Elt Ideal) X (ix3 0 s q) : EReal)) (256 * n + (r.val + 1)) := fun r => by
      rw [pay2_at _ _ r q fun j => by rw [hb j]; exact h _, ih1]
      exact Cert.Proj.first_block _ _ (256 * n) (by omega) hb (r.val + 1) (by omega)
    rw [hs, tripR_eq, tripL_eq]
    refine ⟨(pay4_at _ _ q).trans (key 255), fun s hlt => ?_⟩
    rw [List.singleton_append]
    by_cases hd : s.val < 256 * n
    · exact (View.read_writes_cons_unit_of_not_mem v f _ _ _ (ix3 0 s q) (k3_off1_eq ⟨n, by rw [trips_eq]; omega⟩) 1 (.inl hd)).trans (ih2 s hd)
    · refine (View.read_writes_cons_unit_of_mem v f _ _ _ (ix3 0 s q) (ix3 0 ⟨s.val - 256 * n, by omega⟩ q : S1x256x128.Idx) (k3_off1_eq _) fun a => ?_).trans
        ((pay3_at _ _ _ q).trans ((key _).trans (congrArg _ ?_)))
      · fin_cases a
        · rfl
        · show s.val = 256 * n + (s.val - 256 * n); omega
        · show q.val = 0 + q.val; omega
      · show 256 * n + (s.val - 256 * n + 1) = s.val + 1; omega

end

/-- The cumulative sum's block at an index. -/
theorem out3_at (c : Dev nD) (i : grid3.Coords) (arg1 : Memref sig .tc .vmem S1x2048x128 .f32) (harg1 : arg1.IsWhole) (arg2 : Memref sig .tc .vmem S1x2048x128 .f32) (harg2 : arg2.IsWhole)
    (x : Vec Ideal S1x2048x128 .f32) (q : Fin 128) (h : ∀ s : Fin 2048, (x (ix3 0 s q) : EReal) ≠ ⊤) (s : Fin 2048) :
    out3_A_1 c i arg1 harg1 arg2 harg2 x (ix3 0 s q) = first (fun s : Fin 2048 => (x (ix3 0 s q) : EReal)) (s.val + 1) := by
  have hX : arg1.view.read (Elt Ideal) (harg1.unread x) = x := harg1.read_unread x
  have e : (kernelRun3_A c i arg1 harg1 arg2 harg2 x).1 = (st_k3_t1 Variants.none c none i arg1 harg1 arg2 harg2 (harg1.unread x) k3_pay1 8).2 := by
    unfold kernelRun3_A
    rfl
  have key := (st_at Variants.none c none i arg1 harg1 arg2 harg2 (harg1.unread x) q (by rw [hX]; exact h) VO3_1 VO3_1.junk 8 le_rfl).2 s (by omega)
  rw [hX] at key
  rw [out3_A_1, e]
  exact key

variable (V : (c : Dev nD) → (b : Ref sig .tc) → Buf (Elt Ideal) ((c : Thread nD τ).loc b))
  (m : (ℓ : Loc nD τ sig) → Buf (Elt Ideal) ℓ) (ρ : Dev nD → PrngReg) (c : Dev nD)

theorem t_lt3 (t : Fin cfg3.N) : t.val < 8 := lt_of_lt_of_eq t.isLt N_3

theorem idx3_0 : ∀ t : Fin grid3.N, win3_0.index t = ![t.val, 0, 0] := by decide +kernel
theorem idx3_1 : ∀ t : Fin grid3.N, win3_1.index t = ![t.val, 0, 0] := by decide +kernel

/-- A sequence's block. -/
theorem iblk3_x (t : Fin cfg3.N) (s : Fin 2048) (q : Fin 128) :
    iblk3 V c 0 t (ix3 0 s q : S1x2048x128.Idx) = V c main_v15 (ix3 ⟨t.val, t_lt3 t⟩ s q : S8x2048x128.Idx) := by
  blk_simp [iblk3]
  refine congrArg _ (ix3_ext _ ?_ ?_ ?_) <;> blk_simp [idx3_0] <;> first | (dsimp only; omega) | rfl

/-- The call's result array at an index, for a lane of rows none of which is plus infinity. -/
theorem arr3_at (q : Fin 128) (X : Fin 8 → Fin 2048 → EReal) (hV : ∀ (i : Fin 8) (s : Fin 2048), V c main_v15 (ix3 i s q : S8x2048x128.Idx) = X i s) (h : ∀ i s, X i s ≠ ⊤) (i : Fin 8) (s : Fin 2048) :
    (dat3 V c).arrAt 1 cfg3.N (ix3 i s q : S8x2048x128.Idx) = first (X i) (s.val + 1) := by
  refine (dat3 V c).arrAt_forall_of_covers 1 (fun y v => ∀ (i : Fin 8) (s : Fin 2048), y = (ix3 i s q : S8x2048x128.Idx) →
      v = first (X i) (s.val + 1)) (by decide +kernel) (fun t hf y => ?_) _ (Memref.isWhole_whole _) i s rfl
  blk_simp
  rw [after3_1]
  intro i s e
  have e0 := congrArg (fun y => (y 0).val) e
  have e1 := congrArg (fun y => (y 1).val) e
  have e2 := congrArg (fun y => (y 2).val) e
  blk_simp [idx3_1] at e0 e1 e2
  change S1x2048x128.Idx at y
  have hy : (y 0).val < 1 := (y 0).isLt
  have ht : (⟨t.val, t_lt3 t⟩ : Fin 8) = i := Fin.ext (by dsimp only; omega)
  rw [show y = ix3 0 s q from ix3_ext y (by dsimp only; omega) (by omega) (by omega), outsAt3, out3_at _ _ _ _ _ _ _ _ (fun s => by rw [iblk3_x V c t, hV]; exact h _ _)]
  simp only [iblk3_x V c t, hV, ht]

/-- The cumulative log forget gates: the run's third result at an index, from the arguments. -/
theorem result2_at (i : Fin 8) (s : Fin 2048) (q : Fin 16) :
    W13 m ρ c (Proc.devRef .tc main_v17) (ix3 i s q : S8x2048x16.Idx) = first (fun s : Fin 2048 => gateOf m c i s q) (s.val + 1) := by
  have h : W13 m ρ c (Proc.devRef .tc main_v17) (ix3 i s q : S8x2048x16.Idx) = W12 m ρ c (Proc.devRef .tc main_v16) (ix3 i s ⟨q.val, by omega⟩ : S8x2048x128.Idx) := by
    show StableHlo.after hostOps4 (W12 m ρ c) (Proc.devRef .tc main_v17) _ = _
    generalize W12 m ρ c = W
    after_reads_at
  have h1 : W12 m ρ c (Proc.devRef .tc main_v16) = (dat3 (V11 m ρ) c).arrAt 1 cfg3.N := W12_arr m ρ c 1
  rw [h, h1, arr3_at _ c _ (fun i s => gateOf m c i s q) (fun i s => x3_at m ρ c i s q) fun i s => Cert.Proj.logsig_ne_top _]

end Cert.Kernel7Ideal.Proj

end
-- ==== Proof.Proj.Value7.lean ====
/- THE SHARED KEYS, VALUES AND CUMULATIVE LOG FORGET GATES: the kernel and its reference compute the same results. -/
module

public import proofs.«01_k».proof.Defs
public import proofs.«01_k».proof.Proof.Proj.Run7
public import proofs.«01_k».proof.Proof.Proj.Cumsum7
public import proofs.«01_k».proof.Proof.Gen.Reference7Ideal.Run

@[expose] public section

set_option maxRecDepth 16384

noncomputable section

namespace Cert.Reference7Ideal.Proj

open Idealize.ShloMosaic Idealize.ShloMosaic.TcCoe Idealize.SL.Sem
open Cert.Reference7Ideal Cert.Reference7Ideal.Value Cert.Reference7Ideal.Gen Cert.Reference7Ideal.Facts
open Cert.Proj (dot soft logsig first ext)

/-- All rows through all columns of weights. -/
def prod (x : FVec Ideal S8x2048x1024 .f32) (w : FVec Ideal S1024x2064 .f32) : FVec Ideal S8x2048x2064 .f32 :=
  Host.dotGeneral dot_S8x2048x1024_S1024x2064_S8x2048x2064_2_0_01_1_n_n none x w

/-- The keys: the first 1024 columns. -/
def key (p : FVec Ideal S8x2048x2064 .f32) : FVec Ideal S8x2048x1024 .bf16 :=
  truncf .bf16 (extractStridedSlice S8x2048x1024 ![0, 0, 0] p slices_S8x2048x2064_S8x2048x1024_0_0_0) bitsLt_bf16_f32

/-- The values: the second 1024 columns. -/
def val (p : FVec Ideal S8x2048x2064 .f32) : FVec Ideal S8x2048x1024 .bf16 :=
  truncf .bf16 (extractStridedSlice S8x2048x1024 ![0, 0, 1024] p slices_S8x2048x2064_S8x2048x1024_0_0_1024) bitsLt_bf16_f32

/-- The last sixteen columns and the biases. -/
def raw (p : FVec Ideal S8x2048x2064 .f32) (b : FVec Ideal S16 .f32) : FVec Ideal S8x2048x16 .f32 :=
  addf (extractStridedSlice S8x2048x16 ![0, 0, 2048] p slices_S8x2048x2064_S8x2048x16_0_0_2048) (broadcastInDim S8x2048x16 ![0, 1, 2] bcast_S1x1x16_S8x2048x16_0_1_2 (broadcastInDim S1x1x16 ![2] bcast_S16_S1x1x16_2 b))

/-- The logarithm of the sum of two exponentials. -/
def lae (a b : FVec Ideal S8x2048x16 .f32) : FVec Ideal S8x2048x16 .f32 :=
  select (cmpf .une (subf a b) (subf a b)) (addf a b) (addf (maximumf a b) (Host.log1p (Host.exp (Host.negf (Host.absf (subf a b))))))

/-- Zero everywhere. -/
def zeros : FVec Ideal S8x2048x16 .f32 := broadcastInDim S8x2048x16 ![] bcast_S_S8x2048x16 (constant S_ .f32 0x00000000#32)

/-- The logarithm of the logistic. -/
def ls (z : FVec Ideal S8x2048x16 .f32) : FVec Ideal S8x2048x16 .f32 := Host.negf (lae (Host.negf z) zeros)

/-- The sums over the rows. -/
def cum (x : FVec Ideal S8x2048x16 .f32) : FVec Ideal S8x2048x16 .f32 :=
  Host.reduceWindowAdd ![1, 2048, 1] ![1, 1, 1] ![0, 2047, 0] ![0, 0, 0] x (broadcastInDim S_ ![] bcast_S_S_ (constant S_ .f32 0x00000000#32)) reduceWindows_S8x2048x16_S8x2048x16_w1s1p0_0_w2048s1p2047_0_w1s1p0_0 h_S_

section
variable (i : Fin 8) (s : Fin 2048)

theorem prod_at (x : FVec Ideal S8x2048x1024 .f32) (w : FVec Ideal S1024x2064 .f32) (j : Fin 2064) :
    prod x w (ix3 i s j) = dot (fun k => x (ix3 i s k)) fun k => w (ix2 k j) := by
  pointwise [prod]
  rfl

theorem key_at (p : FVec Ideal S8x2048x2064 .f32) (q : Fin 1024) : key p (ix3 i s q) = p (ix3 i s ⟨0 + q.val, by omega⟩) := by
  pointwise [key]

theorem val_at (p : FVec Ideal S8x2048x2064 .f32) (q : Fin 1024) : val p (ix3 i s q) = p (ix3 i s ⟨1024 + q.val, by omega⟩) := by
  pointwise [val]

variable (q : Fin 16)

theorem raw_at (p : FVec Ideal S8x2048x2064 .f32) (b : FVec Ideal S16 .f32) :
    raw p b (ix3 i s q) = (p (ix3 i s ⟨2048 + q.val, by omega⟩) + b (ix1 q) : EReal) := by
  pointwise [raw]

theorem lae_at (a b : FVec Ideal S8x2048x16 .f32) :
    lae a b (ix3 i s q) = max (a (ix3 i s q) : EReal) (b (ix3 i s q)) + soft (a (ix3 i s q) - b (ix3 i s q)) := by
  pointwise [lae]
  rw [if_neg (fun h => h rfl)]
  rfl

theorem zeros_at : zeros (ix3 i s q) = (0 : EReal) := by
  pointwise [zeros]

theorem ls_at (z : FVec Ideal S8x2048x16 .f32) : ls z (ix3 i s q) = logsig (z (ix3 i s q)) := by
  pointwise [ls]
  rw [lae_at, zeros_at]
  exact Cert.Proj.neg_softplus _

/-- A window's result at an index: the initial value, and the sum over the window of the operand where the window lies on it and of
    the initial value where it does not. -/
theorem window_sum {s t : Shape} (window strides lo hi : Fin s.rank → Nat) (h : s.ReduceWindows window strides lo hi t) (x : s.Idx → EReal) (v : EReal) (j : t.Idx) :
    Ideal.hostReduceWindowAdd window strides lo hi h x v j
      = v + ∑ n : Fin (⟨s.rank, window⟩ : Shape).numel,
          (if hin : ∀ a, lo a ≤ (j (a.cast h.1.symm)).val * strides a + ((⟨s.rank, window⟩ : Shape).rowMajor.symm n a).val
              ∧ (j (a.cast h.1.symm)).val * strides a + ((⟨s.rank, window⟩ : Shape).rowMajor.symm n a).val - lo a < s.size a
            then x (fun a => ⟨(j (a.cast h.1.symm)).val * strides a + ((⟨s.rank, window⟩ : Shape).rowMajor.symm n a).val - lo a, (hin a).2⟩) else v) := by
  unfold Ideal.hostReduceWindowAdd Host.reduceWindow
  refine (Cert.Proj.foldl_add _ _ _).trans ?_
  rw [Fin.sum_univ_def]
  refine congrArg (fun d : EReal => v + d) (congrArg List.sum (List.map_congr_left fun n _ => ?_))
  dsimp only
  split_ifs <;> rfl

/-- The window's rows, numbered. -/
theorem window_row (n : Fin (⟨3, ![1, 2048, 1]⟩ : Shape).numel) :
    ((⟨3, ![1, 2048, 1]⟩ : Shape).rowMajor.symm n 0).val = 0 ∧ ((⟨3, ![1, 2048, 1]⟩ : Shape).rowMajor.symm n 1).val = n.val
      ∧ ((⟨3, ![1, 2048, 1]⟩ : Shape).rowMajor.symm n 2).val = 0 := by
  have h := Shape.rowMajor_val_three ((⟨3, ![1, 2048, 1]⟩ : Shape).rowMajor.symm n)
  rw [Equiv.apply_symm_apply] at h
  have h0 : ((⟨3, ![1, 2048, 1]⟩ : Shape).rowMajor.symm n 0).val < 1 := ((⟨3, ![1, 2048, 1]⟩ : Shape).rowMajor.symm n 0).isLt
  have h2 : ((⟨3, ![1, 2048, 1]⟩ : Shape).rowMajor.symm n 2).val < 1 := ((⟨3, ![1, 2048, 1]⟩ : Shape).rowMajor.symm n 2).isLt
  change n.val = (((⟨3, ![1, 2048, 1]⟩ : Shape).rowMajor.symm n 0).val * 2048 + ((⟨3, ![1, 2048, 1]⟩ : Shape).rowMajor.symm n 1).val) * 1 + ((⟨3, ![1, 2048, 1]⟩ : Shape).rowMajor.symm n 2).val at h
  refine ⟨?_, ?_, ?_⟩ <;> omega

theorem window_numel : (⟨3, ![1, 2048, 1]⟩ : Shape).numel = 2048 := by decide +kernel

theorem cum_at (x : FVec Ideal S8x2048x16 .f32) : cum x (ix3 i s q) = first (fun s : Fin 2048 => (x (ix3 i s q) : EReal)) (s.val + 1) := by
  have hz : broadcastInDim S_ ![] bcast_S_S_ (constant (F := Ideal) S_ .f32 0x00000000#32) (Shape.Idx.first h_S_) = (0 : EReal) := by
    pointwise
  rw [cum, Host.reduceWindowAdd, hz]
  refine (window_sum _ _ _ _ reduceWindows_S8x2048x16_S8x2048x16_w1s1p0_0_w2048s1p2047_0_w1s1p0_0 x 0 (ix3 i s q)).trans ?_
  rw [zero_add, ← Cert.Proj.sum_window (fun s : Fin 2048 => (x (ix3 i s q) : EReal)) s]
  refine Fintype.sum_equiv (finCongr window_numel) _ _ fun n => ?_
  obtain ⟨w0, w1, w2⟩ := window_row n
  have hn : n.val < 2048 := lt_of_lt_of_eq n.isLt window_numel
  have hs := s.isLt
  show _ = if 2048 ≤ s.val + n.val + 1 then ext (fun s : Fin 2048 => (x (ix3 i s q) : EReal)) (s.val + n.val + 1 - 2048) else 0
  dsimp only
  split
  · next hin =>
    have h1 := hin 1
    change 2047 ≤ s.val * 1 + ((⟨3, ![1, 2048, 1]⟩ : Shape).rowMajor.symm n 1).val ∧ s.val * 1 + ((⟨3, ![1, 2048, 1]⟩ : Shape).rowMajor.symm n 1).val - 2047 < 2048 at h1
    rw [w1] at h1
    rw [if_pos (by omega), ext, dif_pos (by omega)]
    refine congrArg x (Cert.Ffn.ix3_ext _ ?_ ?_ ?_)
    · show i.val * 1 + ((⟨3, ![1, 2048, 1]⟩ : Shape).rowMajor.symm n 0).val - 0 = i.val
      omega
    · show s.val * 1 + ((⟨3, ![1, 2048, 1]⟩ : Shape).rowMajor.symm n 1).val - 2047 = s.val + n.val + 1 - 2048
      omega
    · show q.val * 1 + ((⟨3, ![1, 2048, 1]⟩ : Shape).rowMajor.symm n 2).val - 0 = q.val
      omega
  · next hin =>
    rw [if_neg]
    intro hle
    refine hin fun a => ?_
    have hi := i.isLt
    have hq := q.isLt
    match a with
    | ⟨0, _⟩ =>
      show 0 ≤ i.val * 1 + ((⟨3, ![1, 2048, 1]⟩ : Shape).rowMajor.symm n 0).val ∧ i.val * 1 + ((⟨3, ![1, 2048, 1]⟩ : Shape).rowMajor.symm n 0).val - 0 < 8
      omega
    | ⟨1, _⟩ =>
      show 2047 ≤ s.val * 1 + ((⟨3, ![1, 2048, 1]⟩ : Shape).rowMajor.symm n 1).val ∧ s.val * 1 + ((⟨3, ![1, 2048, 1]⟩ : Shape).rowMajor.symm n 1).val - 2047 < 2048
      omega
    | ⟨2, _⟩ =>
      show 0 ≤ q.val * 1 + ((⟨3, ![1, 2048, 1]⟩ : Shape).rowMajor.symm n 2).val ∧ q.val * 1 + ((⟨3, ![1, 2048, 1]⟩ : Shape).rowMajor.symm n 2).val - 0 < 16
      omega

end

variable (m : (ℓ : Loc nD τ sig) → Buf (Elt Ideal) ℓ) (ρ : Dev nD → PrngReg)

/-- A run of the reference ends with keys, values and cumulative log gates in its results and its arguments unchanged. -/
theorem run_proj : θ_run defs (onTc (τ := τ) (main (F := Ideal))) ⟨m, fun _ => 0, ρ⟩ fun r => ∀ c : Dev nD,
      r.2.mem ((c.tc : Thread nD τ).loc main_v9) = key (prod (m ((c.tc : Thread nD τ).loc main_arg0)) (m ((c.tc : Thread nD τ).loc main_arg1)))
      ∧ r.2.mem ((c.tc : Thread nD τ).loc main_v10) = val (prod (m ((c.tc : Thread nD τ).loc main_arg0)) (m ((c.tc : Thread nD τ).loc main_arg1)))
      ∧ r.2.mem ((c.tc : Thread nD τ).loc main_v8) = cum (ls (raw (prod (m ((c.tc : Thread nD τ).loc main_arg0)) (m ((c.tc : Thread nD τ).loc main_arg1))) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.Reference7Ideal.Proj

namespace Cert.Proj

open Idealize.ShloMosaic Idealize.ShloMosaic.TcCoe Idealize.SL.Sem

/-- THE VALUE CLAIM OF THE SHARED KEYS, VALUES AND CUMULATIVE LOG FORGET GATES: the idealized kernel and the reference compute the
    same three results, from every memory. -/
theorem algebraic7 : Cert.algebraic_Kernel7Ideal_Reference7Ideal := by
  intro m g m' g' _ hagree
  refine ⟨_, _, _, Kernel7Ideal.Proj.run m g, ?_⟩
  refine (θ_run Reference7Ideal.defs _ _).mono (fun _ h c => ⟨(h c).1.trans ?_, (h c).2.1.trans ?_, (h c).2.2.1.trans ?_, (h c).2.2.2⟩) (Reference7Ideal.Proj.run_proj m' g')
  all_goals
    obtain ⟨h0, h1, h2⟩ := hagree c
    funext y
    rw [h0, h1]
  · obtain ⟨i, s, q, rfl⟩ : ∃ (i : Fin 8) (s : Fin 2048) (q : Fin 1024), y = (ix3 i s q : Kernel7Ideal.S8x2048x1024.Idx) :=
      ⟨y 0, y 1, y 2, Cert.Ffn.ix3_ext y rfl rfl rfl⟩
    exact ((Reference7Ideal.Proj.key_at i s _ q).trans (Reference7Ideal.Proj.prod_at i s _ _ _)).trans (Kernel7Ideal.Proj.result0_at m g c i s q).symm
  · obtain ⟨i, s, q, rfl⟩ : ∃ (i : Fin 8) (s : Fin 2048) (q : Fin 1024), y = (ix3 i s q : Kernel7Ideal.S8x2048x1024.Idx) :=
      ⟨y 0, y 1, y 2, Cert.Ffn.ix3_ext y rfl rfl rfl⟩
    exact ((Reference7Ideal.Proj.val_at i s _ q).trans (Reference7Ideal.Proj.prod_at i s _ _ _)).trans (Kernel7Ideal.Proj.result1_at m g c i s q).symm
  · obtain ⟨i, s, q, rfl⟩ : ∃ (i : Fin 8) (s : Fin 2048) (q : Fin 16), y = (ix3 i s q : Kernel7Ideal.S8x2048x16.Idx) :=
      ⟨y 0, y 1, y 2, Cert.Ffn.ix3_ext y rfl rfl rfl⟩
    rw [h2]
    refine (Reference7Ideal.Proj.cum_at i s q _).trans (Eq.trans ?_ (Kernel7Ideal.Proj.result2_at m g c i s q).symm)
    refine congrArg (fun f : Fin 2048 → EReal => first f (s.val + 1)) (funext fun s => ?_)
    exact (Reference7Ideal.Proj.ls_at i s q _).trans (congrArg logsig ((Reference7Ideal.Proj.raw_at i s q _ _).trans (congrArg (fun d : EReal => d + _) (Reference7Ideal.Proj.prod_at i s _ _ _))))

end Cert.Proj

end
-- ==== Proof.Hgrn.Ref.lean ====
/- The recurrence's reference at an index. -/
module

public import proofs.«01_k».proof.Proof.Gen.Reference8Ideal.Run
public import proofs.«01_k».proof.Proof.Proj.Value7
public import proofs.«01_k».proof.Proof.Hgrn.Real
public import Idealize.ShloMosaic.Lib.Pointwise
public import Idealize.ShloMosaic.Lib.WordCmp

@[expose] public section

set_option maxRecDepth 16384

noncomputable section

namespace Cert.Reference8Ideal.Hgrn

open Idealize.ShloMosaic Idealize.ShloMosaic.TcCoe Idealize.SL.Sem
open Cert.Hgrn Cert.Proj
open Cert.Reference7Ideal.Proj (window_sum window_row window_numel)
open Cert.Reference8Ideal Cert.Reference8Ideal.Value Cert.Reference8Ideal.Gen Cert.Reference8Ideal.Facts

/-- An argument by heads. -/
def heads (x : FVec Ideal S8x2048x1024 .f32) : FVec Ideal S8x8x2048x128 .f32 :=
  transpose S8x8x2048x128 [0, 2, 1, 3] (shapeCast S8x2048x8x128 x shapeCasts_S8x2048x1024_S8x2048x8x128) transposes_S8x2048x8x128_S8x8x2048x128_0_2_1_3

/-- The running log gates. -/
def cum (x : FVec Ideal S8x2048x1024 .f32) : FVec Ideal S8x2048x1024 .f32 :=
  Host.reduceWindowAdd ![1, 2048, 1] ![1, 1, 1] ![0, 2047, 0] ![0, 0, 0] x (broadcastInDim S_ ![] bcast_S_S_ (constant S_ .f32 0x00000000#32)) reduceWindows_S8x2048x1024_S8x2048x1024_w1s1p0_0_w2048s1p2047_0_w1s1p0_0 h_S_

/-- Which rows a row may read. -/
def causal : IVec S8x8x2048x2048x128 1 :=
  broadcastInDim S8x8x2048x2048x128 ![2, 3, 4] bcast_S2048x2048x1_S8x8x2048x2048x128_2_3_4 (broadcastInDim S2048x2048x1 ![0, 1] bcast_S2048x2048_S2048x2048x1_0_1 (select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 1#1)) (broadcastInDim S2048x2048 ![] bcast_S_S2048x2048 (constantI S_ 1 0#1))))

/-- Zero everywhere. -/
def zeros : FVec Ideal S8x8x2048x2048x128 .f32 := broadcastInDim S8x8x2048x2048x128 ![] bcast_S_S8x8x2048x2048x128 (id (constant S_ .f32 0x00000000#32))

/-- The decay between two rows. -/
def decay (b : FVec Ideal S8x8x2048x128 .f32) : FVec Ideal S8x8x2048x2048x128 .f32 :=
  select causal (Host.exp (select causal
    (subf (broadcastInDim S8x8x2048x2048x128 ![0, 1, 2, 3, 4] bcast_S8x8x2048x1x128_S8x8x2048x2048x128_0_1_2_3_4 (broadcastInDim S8x8x2048x1x128 ![0, 1, 2, 4] bcast_S8x8x2048x128_S8x8x2048x1x128_0_1_2_4 b))
      (broadcastInDim S8x8x2048x2048x128 ![0, 1, 2, 3, 4] bcast_S8x8x1x2048x128_S8x8x2048x2048x128_0_1_2_3_4 (broadcastInDim S8x8x1x2048x128 ![0, 1, 3, 4] bcast_S8x8x2048x128_S8x8x1x2048x128_0_1_3_4 b)))
    zeros)) zeros

/-- The weights of rows for rows. -/
def scores (q k b : FVec Ideal S8x8x2048x128 .f32) : FVec Ideal S8x8x2048x2048 .f32 :=
  transpose S8x8x2048x2048 [0, 1, 3, 2] (Host.dotGeneral dot_S8x8x2048x128_S8x8x2048x2048x128_S8x8x2048x2048_3_4_n_2_012_013 none k
    (mulf (broadcastInDim S8x8x2048x2048x128 ![0, 1, 2, 3, 4] bcast_S8x8x2048x1x128_S8x8x2048x2048x128_0_1_2_3_4 (broadcastInDim S8x8x2048x1x128 ![0, 1, 2, 4] bcast_S8x8x2048x128_S8x8x2048x1x128_0_1_2_4 q)) (decay b)))
    transposes_S8x8x2048x2048_S8x8x2048x2048_0_1_3_2

/-- The recurrence's output by rows and heads. -/
def mixed (s : FVec Ideal S8x8x2048x2048 .f32) (v : FVec Ideal S8x8x2048x128 .f32) : FVec Ideal S8x2048x8x128 .f32 :=
  transpose S8x2048x8x128 [0, 2, 1, 3] (Host.dotGeneral dot_S8x8x2048x2048_S8x8x2048x128_S8x8x2048x128_3_2_2_3_01_01 none s v) transposes_S8x8x2048x128_S8x2048x8x128_0_2_1_3

/-- Normed, weighted and gated. -/
def normed (o : FVec Ideal S8x2048x8x128 .f32) (g : FVec Ideal S8x2048x1024 .f32) (w : FVec Ideal S128 .f32) : FVec Ideal S8x2048x1024 .bf16 :=
  truncf .bf16 (shapeCast S8x2048x1024 (mulf (mulf (mulf o (broadcastInDim S8x2048x8x128 ![0, 1, 2, 3] bcast_S8x2048x8x1_S8x2048x8x128_0_1_2_3 (Host.rsqrt (addf (Host.divf (broadcastInDim S8x2048x8x1 ![0, 1, 2] bcast_S8x2048x8_S8x2048x8x1_0_1_2 (Host.reduceAdd (mulf o o) (constant S_ .f32 0x00000000#32) reducesTo_S8x2048x8x128_S8x2048x8_d3 h_S_)) (broadcastInDim S8x2048x8x1 ![] bcast_S_S8x2048x8x1 (constant S_ .f32 0x43000000#32))) (broadcastInDim S8x2048x8x1 ![] bcast_S_S8x2048x8x1 (constant S_ .f32 0x358637BD#32))))))
    (broadcastInDim S8x2048x8x128 ![0, 1, 2, 3] bcast_S1x1x1x128_S8x2048x8x128_0_1_2_3 (broadcastInDim S1x1x1x128 ![3] bcast_S128_S1x1x1x128_3 w)))
    (shapeCast S8x2048x8x128 g shapeCasts_S8x2048x1024_S8x2048x8x128)) shapeCasts_S8x2048x8x128_S8x2048x1024) bitsLt_bf16_f32

theorem res_eq (m : (ℓ : Loc nD τ sig) → Buf (Elt Ideal) ℓ) (c : Dev nD) : res_main_v43 m c
    = normed (mixed (scores (heads (m ((c.tc : Thread nD τ).loc main_arg0))) (heads (m ((c.tc : Thread nD τ).loc main_arg1))) (heads (cum (m ((c.tc : Thread nD τ).loc main_arg3)))))
        (heads (m ((c.tc : Thread nD τ).loc main_arg2)))) (m ((c.tc : Thread nD τ).loc main_arg4)) (m ((c.tc : Thread nD τ).loc main_arg5)) := rfl

theorem heads_at (x : FVec Ideal S8x2048x1024 .f32) (b h : Fin 8) (s : Fin 2048) (d : Fin 128) : (heads x (ix4 b h s d) : EReal) = x (ix3 b s ⟨128 * h.val + d.val, by omega⟩) := by
  pointwise [heads]
  exact congrArg x (Cert.Ffn.ix3_ext _ rfl rfl (by show h.val * 128 + d.val = 128 * h.val + d.val; omega))

theorem cum_at (i : Fin 8) (s : Fin 2048) (q : Fin 1024) (x : FVec Ideal S8x2048x1024 .f32) : cum x (ix3 i s q) = first (fun s : Fin 2048 => (x (ix3 i s q) : EReal)) (s.val + 1) := by
  have hz : broadcastInDim S_ ![] bcast_S_S_ (constant (F := Ideal) S_ .f32 0x00000000#32) (Shape.Idx.first h_S_) = (0 : EReal) := by
    pointwise
  rw [cum, Host.reduceWindowAdd, hz]
  refine (window_sum _ _ _ _ reduceWindows_S8x2048x1024_S8x2048x1024_w1s1p0_0_w2048s1p2047_0_w1s1p0_0 x 0 (ix3 i s q)).trans ?_
  rw [zero_add, ← Cert.Proj.sum_window (fun s : Fin 2048 => (x (ix3 i s q) : EReal)) s]
  refine Fintype.sum_equiv (finCongr window_numel) _ _ fun n => ?_
  obtain ⟨w0, w1, w2⟩ := window_row n
  have hn : n.val < 2048 := lt_of_lt_of_eq n.isLt window_numel
  have hs := s.isLt
  show _ = if 2048 ≤ s.val + n.val + 1 then ext (fun s : Fin 2048 => (x (ix3 i s q) : EReal)) (s.val + n.val + 1 - 2048) else 0
  dsimp only
  split
  · next hin =>
    have h1 := hin 1
    change 2047 ≤ s.val * 1 + ((⟨3, ![1, 2048, 1]⟩ : Shape).rowMajor.symm n 1).val ∧ s.val * 1 + ((⟨3, ![1, 2048, 1]⟩ : Shape).rowMajor.symm n 1).val - 2047 < 2048 at h1
    rw [w1] at h1
    rw [if_pos (by omega), ext, dif_pos (by omega)]
    refine congrArg x (Cert.Ffn.ix3_ext _ ?_ ?_ ?_)
    · show i.val * 1 + ((⟨3, ![1, 2048, 1]⟩ : Shape).rowMajor.symm n 0).val - 0 = i.val
      omega
    · show s.val * 1 + ((⟨3, ![1, 2048, 1]⟩ : Shape).rowMajor.symm n 1).val - 2047 = s.val + n.val + 1 - 2048
      omega
    · show q.val * 1 + ((⟨3, ![1, 2048, 1]⟩ : Shape).rowMajor.symm n 2).val - 0 = q.val
      omega
  · next hin =>
    rw [if_neg]
    intro hle
    refine hin fun a => ?_
    have hi := i.isLt
    have hq := q.isLt
    match a with
    | ⟨0, _⟩ =>
      show 0 ≤ i.val * 1 + ((⟨3, ![1, 2048, 1]⟩ : Shape).rowMajor.symm n 0).val ∧ i.val * 1 + ((⟨3, ![1, 2048, 1]⟩ : Shape).rowMajor.symm n 0).val - 0 < 8
      omega
    | ⟨1, _⟩ =>
      show 2047 ≤ s.val * 1 + ((⟨3, ![1, 2048, 1]⟩ : Shape).rowMajor.symm n 1).val ∧ s.val * 1 + ((⟨3, ![1, 2048, 1]⟩ : Shape).rowMajor.symm n 1).val - 2047 < 2048
      omega
    | ⟨2, _⟩ =>
      show 0 ≤ q.val * 1 + ((⟨3, ![1, 2048, 1]⟩ : Shape).rowMajor.symm n 2).val ∧ q.val * 1 + ((⟨3, ![1, 2048, 1]⟩ : Shape).rowMajor.symm n 2).val - 0 < 1024
      omega

/-- The running sum of real gates. -/
theorem cum_real (x : FVec Ideal S8x2048x1024 .f32) (b h : Fin 8) (L : Fin 8 → ℕ → Fin 128 → ℝ)
    (hx : ∀ (h : Fin 8) (s : Fin 2048) (d : Fin 128), (x (ix3 b s ⟨128 * h.val + d.val, by omega⟩) : EReal) = ((L h s.val d : ℝ) : EReal)) (s : Fin 2048) (d : Fin 128) :
    (heads (cum x) (ix4 b h s d) : EReal) = ((upto (L h) s.val d : ℝ) : EReal) := by
  have hs := s.isLt
  rw [heads_at, cum_at, first, upto, Cert.Hgrn.run, coe_sum]
  refine Finset.sum_congr rfl fun k hk => ?_
  have hk' := Finset.mem_range.1 hk
  rw [ext, dif_pos (by omega)]
  exact hx h ⟨k, by omega⟩ d

/-- The bit that lets row `s` read row `t`. -/
theorem bit_eq (s t : Fin 2048) :
    Scalar.select (IntOp.cmpi CmpIPredicate.sge (IntOp.addi (BitVec.ofNat 32 s.val) 0#32) (BitVec.ofNat 32 t.val)) (1#1) (0#1) = if t.val ≤ s.val then 1#1 else 0#1 := by
  have hs := s.isLt
  have ht := t.isLt
  have h0 : IntOp.addi (BitVec.ofNat 32 s.val) 0#32 = BitVec.ofNat 32 s.val := BitVec.add_zero _
  have h : IntOp.cmpi CmpIPredicate.sge (BitVec.ofNat 32 s.val) (BitVec.ofNat 32 t.val) = 1#1 ↔ t.val ≤ s.val :=
    WordCmp.cmpi_sle_ofNat_eq_one_iff (w := 32) (a := t.val) (b := s.val) (by omega) (by omega)
  rw [h0]
  by_cases hst : t.val ≤ s.val
  · rw [if_pos hst, h.2 hst]; rfl
  · rcases BitVec.eq_zero_or_eq_one (IntOp.cmpi CmpIPredicate.sge (BitVec.ofNat 32 s.val) (BitVec.ofNat 32 t.val)) with hb | hb
    · rw [if_neg hst, hb]; rfl
    · exact absurd (h.1 hb) hst

/-- The weight of row `t` for row `s`. -/
theorem scores_at (q k B : FVec Ideal S8x8x2048x128 .f32) (b h : Fin 8) (Q K L : ℕ → Fin 128 → ℝ)
    (hq : ∀ (s : Fin 2048) (d : Fin 128), (q (ix4 b h s d) : EReal) = ((Q s.val d : ℝ) : EReal))
    (hk : ∀ (s : Fin 2048) (d : Fin 128), (k (ix4 b h s d) : EReal) = ((K s.val d : ℝ) : EReal))
    (hB : ∀ (s : Fin 2048) (d : Fin 128), (B (ix4 b h s d) : EReal) = ((L s.val d : ℝ) : EReal)) (s t : Fin 2048) :
    (scores q k B (ix4 b h s t) : EReal) = if t.val ≤ s.val then ((meet Q K L s.val t.val : ℝ) : EReal) else 0 := by
  have hz : (id (constant (F := Ideal) S_ .f32 0x00000000#32) ix0 : EReal) = 0 := by
    show (constant (F := Ideal) S_ .f32 0x00000000#32 ix0 : EReal) = 0
    pointwise
  pointwise [scores, decay, causal, zeros]
  rw [hz]
  simp only [bit_eq, hq, hk, hB]
  by_cases hst : t.val ≤ s.val
  · simp only [if_pos hst]
    rw [coe_meet]
    refine Finset.sum_congr rfl fun d _ => ?_
    show (K t.val d : EReal) * ((Q s.val d : EReal) * Ideal.exp ((L s.val d : EReal) - (L t.val d : EReal))) = _
    rw [mul_comm]
  · simp only [if_neg hst]
    refine Finset.sum_eq_zero fun d _ => ?_
    show (K t.val d : EReal) * ((Q s.val d : EReal) * 0) = 0
    rw [mul_zero, mul_zero]

/-- What the rows up to `s` give row `s`. -/
theorem mixed_at (q : FVec Ideal S8x8x2048x2048 .f32) (v : FVec Ideal S8x8x2048x128 .f32) (b h : Fin 8) (Q K V L : ℕ → Fin 128 → ℝ)
    (hs : ∀ s t : Fin 2048, (q (ix4 b h s t) : EReal) = if t.val ≤ s.val then ((meet Q K L s.val t.val : ℝ) : EReal) else 0)
    (hv : ∀ (s : Fin 2048) (d : Fin 128), (v (ix4 b h s d) : EReal) = ((V s.val d : ℝ) : EReal)) (s : Fin 2048) (e : Fin 128) :
    (mixed q v (ix4 b s h e) : EReal) = ((gather Q K L V s.val e : ℝ) : EReal) := by
  have e1 : (mixed q v (ix4 b s h e) : EReal) = ∑ x : Fin 2048, (q (ix4 b h s x) : EReal) * v (ix4 b h x e) := by pointwise [mixed]
  have hs' := s.isLt
  rw [e1, gather, coe_sum]
  have e2 : ∀ x : Fin 2048, (q (ix4 b h s x) : EReal) * v (ix4 b h x e)
      = (fun j : ℕ => if j ≤ s.val then ((meet Q K L s.val j * V j e : ℝ) : EReal) else 0) x.val := fun x => by
    dsimp only
    rw [hs, hv]
    by_cases hx : x.val ≤ s.val
    · rw [if_pos hx, if_pos hx, EReal.coe_mul]
    · rw [if_neg hx, if_neg hx, zero_mul]
  rw [Finset.sum_congr rfl fun x _ => e2 x, Fin.sum_univ_eq_sum_range (fun j : ℕ => if j ≤ s.val then ((meet Q K L s.val j * V j e : ℝ) : EReal) else 0), ← Finset.sum_filter]
  refine Finset.sum_congr (Finset.ext fun j => ?_) fun _ _ => rfl
  rw [Finset.mem_filter, Finset.mem_range, Finset.mem_range]
  omega

/-- Normed, weighted and gated, at an index. -/
theorem normed_at (o : FVec Ideal S8x2048x8x128 .f32) (g : FVec Ideal S8x2048x1024 .f32) (w : FVec Ideal S128 .f32) (b h : Fin 8) (s : Fin 2048) (d : Fin 128) :
    (normed o g w (ix3 b s ⟨128 * h.val + d.val, by omega⟩) : EReal)
      = o (ix4 b s h d) * Ideal.rsqrt (Ideal.div (∑ x, (o (ix4 b s h x) : EReal) * o (ix4 b s h x)) (Ideal.ofBits .f32 1124073472#32) + Ideal.ofBits .f32 897988541#32)
        * w (ix1 d) * g (ix3 b s ⟨128 * h.val + d.val, by omega⟩) := by
  have e1 : (⟨128 * h.val + d.val, by omega⟩ : Fin 1024) = ⟨h.val * 128 + d.val, by omega⟩ := Fin.ext (by dsimp only; omega)
  pointwise [normed]
  exact congrArg _ (congrArg (fun i => g (ix3 b s i)) e1.symm)

/-- THE REFERENCE'S RESULT AT AN INDEX, over real arguments. -/
theorem ref_at (m : (ℓ : Loc nD τ sig) → Buf (Elt Ideal) ℓ) (c : Dev nD) (b : Fin 8) (Q K V L : Fin 8 → ℕ → Fin 128 → ℝ)
    (hq : ∀ (h : Fin 8) (s : Fin 2048) (d : Fin 128), (m ((c.tc : Thread nD τ).loc main_arg0) (ix3 b s ⟨128 * h.val + d.val, by omega⟩ : S8x2048x1024.Idx) : EReal) = ((Q h s.val d : ℝ) : EReal))
    (hk : ∀ (h : Fin 8) (s : Fin 2048) (d : Fin 128), (m ((c.tc : Thread nD τ).loc main_arg1) (ix3 b s ⟨128 * h.val + d.val, by omega⟩ : S8x2048x1024.Idx) : EReal) = ((K h s.val d : ℝ) : EReal))
    (hv : ∀ (h : Fin 8) (s : Fin 2048) (d : Fin 128), (m ((c.tc : Thread nD τ).loc main_arg2) (ix3 b s ⟨128 * h.val + d.val, by omega⟩ : S8x2048x1024.Idx) : EReal) = ((V h s.val d : ℝ) : EReal))
    (hl : ∀ (h : Fin 8) (s : Fin 2048) (d : Fin 128), (m ((c.tc : Thread nD τ).loc main_arg3) (ix3 b s ⟨128 * h.val + d.val, by omega⟩ : S8x2048x1024.Idx) : EReal) = ((L h s.val d : ℝ) : EReal))
    (h : Fin 8) (s : Fin 2048) (d : Fin 128) :
    (res_main_v43 m c (ix3 b s ⟨128 * h.val + d.val, by omega⟩ : S8x2048x1024.Idx) : EReal)
      = ((gather (Q h) (K h) (upto (L h)) (V h) s.val d : ℝ) : EReal)
        * Ideal.rsqrt (Ideal.div (∑ x, ((gather (Q h) (K h) (upto (L h)) (V h) s.val x : ℝ) : EReal) * ((gather (Q h) (K h) (upto (L h)) (V h) s.val x : ℝ) : EReal)) (Ideal.ofBits .f32 1124073472#32) + Ideal.ofBits .f32 897988541#32)
        * m ((c.tc : Thread nD τ).loc main_arg5) (ix1 d : S128.Idx) * m ((c.tc : Thread nD τ).loc main_arg4) (ix3 b s ⟨128 * h.val + d.val, by omega⟩ : S8x2048x1024.Idx) := by
  have hm := fun e : Fin 128 => mixed_at _ _ b h (Q h) (K h) (V h) (upto (L h))
    (scores_at _ _ _ b h (Q h) (K h) (upto (L h)) (fun s d => (heads_at _ b h s d).trans (hq h s d)) (fun s d => (heads_at _ b h s d).trans (hk h s d)) (cum_real _ b h L hl))
    (fun s d => (heads_at _ b h s d).trans (hv h s d)) s e
  rw [res_eq, normed_at]
  simp only [hm]

end Cert.Reference8Ideal.Hgrn

end
-- ==== Proof.Hgrn.Value.lean ====
/- The value claim of the recurrence: what its precondition says, and the two runs compared. -/
module

public import proofs.«01_k».proof.Defs
public import proofs.«01_k».proof.Proof.Hgrn.Grid
public import proofs.«01_k».proof.Proof.Hgrn.Ref
public import proofs.«01_k».proof.Proof.Fox.Value
public import proofs.«01_k».proof.Proof.Gen.Pre_finite_states

@[expose] public section

set_option maxRecDepth 16384

noncomputable section

namespace Cert.Hgrn

open Idealize.ShloMosaic Idealize.ShloMosaic.TcCoe Idealize.SL.Sem
open Cert.Fox (real_of_abs_lt)

instance : Subsingleton Cert.Pre_finite_states.S_.Idx := ⟨fun a b => funext fun i => i.elim0⟩

section
open Cert.Pre_finite_states Cert.Pre_finite_states.Facts

variable [Cert.Pre_finite_states.Facts]

/-- What the precondition says: queries, keys, values and log gates are real. -/
theorem real_of_pre (q k v l g : FVec Ideal S8x2048x1024 .f32) (w : FVec Ideal S128 .f32) (h : fn (F := Ideal) q k v l g w = fun _ => 1#1) :
    (∀ i, q i = ((EReal.toReal (q i) : ℝ) : EReal)) ∧ (∀ i, k i = ((EReal.toReal (k i) : ℝ) : EReal))
      ∧ (∀ i, v i = ((EReal.toReal (v i) : ℝ) : EReal)) ∧ ∀ i, l i = ((EReal.toReal (l i) : ℝ) : EReal) := by
  have h0 : fn (F := Ideal) q k v l g w ix0 = 1#1 := congrFun h ix0
  obtain ⟨h1, h2⟩ := IntOp.andi_eq_one.1 h0
  obtain ⟨h3, h4⟩ := IntOp.andi_eq_one.1 h1
  obtain ⟨h5, h6⟩ := IntOp.andi_eq_one.1 h3
  exact ⟨fun i => real_of_abs_lt _ (Host.reduce_andi_all _ _ _ _ _ h5 i), fun i => real_of_abs_lt _ (Host.reduce_andi_all _ _ _ _ _ h6 i),
    fun i => real_of_abs_lt _ (Host.reduce_andi_all _ _ _ _ _ h4 i), fun i => real_of_abs_lt _ (Host.reduce_andi_all _ _ _ _ _ h2 i)⟩

end

/-- An array of a sequence's rows as real rows by heads, zero past the last. -/
def rowsOf (x : Kernel8Ideal.S8x2048x1024.Idx → EReal) (b h : Fin 8) (n : ℕ) (d : Fin 128) : ℝ :=
  if hn : n < 2048 then EReal.toReal (x (ix3 b ⟨n, hn⟩ (Kernel8Ideal.Hgrn.lane h d))) else 0

theorem rowsOf_eq (x : Kernel8Ideal.S8x2048x1024.Idx → EReal) (hx : ∀ i, x i = ((EReal.toReal (x i) : ℝ) : EReal)) (b h : Fin 8) (s : Fin 2048) (d : Fin 128) :
    x (ix3 b s (Kernel8Ideal.Hgrn.lane h d)) = ((rowsOf x b h s.val d : ℝ) : EReal) := by
  rw [rowsOf, dif_pos s.isLt]
  exact hx _

/-- THE VALUE CLAIM: at real queries, keys, values and log gates the idealized kernel and the reference compute one and the same result. -/
theorem algebraic : Cert.algebraic_Kernel8Ideal_Reference8Ideal_pre_finite_states := by
  intro m g m' g' hpre hagree
  refine ⟨_, Kernel8Ideal.Hgrn.run m g, ?_⟩
  refine (θ_run Reference8Ideal.defs _ _).mono (fun _ h c => ⟨(h c).1.trans ?_, (h c).2⟩) (Reference8Ideal.Value.run (F := Ideal) m' g')
  obtain ⟨h0, h1, h2, h3, h4, h5⟩ := hagree c
  obtain ⟨rq, rk, rv, rl⟩ := real_of_pre _ _ _ _ _ _ (hpre c)
  have q := rowsOf_eq _ rq
  have k := rowsOf_eq _ rk
  have v := rowsOf_eq _ rv
  have l := rowsOf_eq _ rl
  funext y
  obtain ⟨b, s, h, d, rfl⟩ : ∃ (b : Fin 8) (s : Fin 2048) (h : Fin 8) (d : Fin 128), y = (ix3 b s (Kernel8Ideal.Hgrn.lane h d) : Kernel8Ideal.S8x2048x1024.Idx) := by
    have hy : (y 2).val < 1024 := (y 2).isLt
    refine ⟨y 0, y 1, ⟨(y 2).val / 128, by omega⟩, ⟨(y 2).val % 128, by omega⟩, ?_⟩
    exact Cert.Ffn.ix3_ext y rfl rfl (by show (y 2).val = 128 * ((y 2).val / 128) + (y 2).val % 128; omega)
  refine (Reference8Ideal.Hgrn.ref_at m' c b _ _ _ _ (fun h s d => (congrFun h0 _).trans (q b h s d)) (fun h s d => (congrFun h1 _).trans (k b h s d))
    (fun h s d => (congrFun h2 _).trans (v b h s d)) (fun h s d => (congrFun h3 _).trans (l b h s d)) h s d).trans ?_
  rw [h4, h5]
  exact (Kernel8Ideal.Hgrn.arr_at m c _ _ _ _ q k v l b s h d).symm

end Cert.Hgrn

end
-- ==== Proof.Experts.Runs.lean ====
module

public import proofs.«01_k».proof.Proof.Gen.Kernel2Ideal.Skeleton
public import proofs.«01_k».proof.Proof.Gen.Kernel2Ideal.Launch
public import Idealize.ShloMosaic.PureOps
public import Idealize.ShloMosaic.PureOps.Ideal
public import Idealize.ShloMosaic.Lib.Pipeline.FrameBody
public import Idealize.ShloMosaic.Lib.Pipeline.TableIdle
public import Idealize.ShloMosaic.Lib.Pipeline.Quiescent
public import Idealize.ShloMosaic.Lib.Pipeline.FrameSuffix
public import Idealize.ShloMosaic.Lib.Exec
public import Idealize.ShloMosaic.Lib.Ring
public import Idealize.ShloMosaic.Lib.Tactic
public import Idealize.ShloMosaic.Lib.WordCmp

/-!
# The expert kernel's body, path by path

At a grid point `(r, c)` the body reads the number of used tiles and takes one of four paths:
a used tile's first chunk (the partial result is put into the accumulator), a used tile's second
chunk (added to the accumulator, which is then written out), an unused tile's first chunk (nothing)
and an unused tile's second chunk (zeros are written out).  Each path is run once here, over any
tables and any blocks.
-/

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table of the tiles' experts, the table holding the number of used tiles, and the accumulator. -/
abbrev tbE : Memref sig .tc .smem S72 .i32 := Memref.whole main_arg3
abbrev tbU : Memref sig .tc .smem S1 .i32 := Memref.whole main_arg4
abbrev scM : Memref sig .tc .vmem S512x1024 .f32 := Memref.whole cc0_scratch0

/-- The number of used tiles as the body reads it. -/
abbrev word (T1 : S1.Idx → Elt F .i32) : BitVec 32 :=
  View.readAt (Elt F) tbU.view (Rect.unit (s := S1) ![0] S1.size inb_S1_S1_0).toLoadRect T1 (Shape.Idx.first (numel1_S1.symm ▸ Nat.one_pos))

/-- The body's own tests of the second coordinate: is it the first chunk, is it a later one. -/
abbrev first (i : grid0.Coords) : BitVec 1 := Scalar.cmpi .ne (Scalar.extui (Scalar.cmpi .eq (BitVec.ofNat 32 (i 1).val) 0#32) : BitVec 32) 0#32
abbrev later (i : grid0.Coords) : BitVec 1 := Scalar.cmpi .ne (Scalar.extui (Scalar.cmpi .sgt (BitVec.ofNat 32 (i 1).val) 0#32) : BitVec 32) 0#32

set_option backward.proofsInPublic true in
set_option maxHeartbeats 8000000 in
/-- A used tile's first chunk: what the accumulator holds afterwards, with the proof that the body runs to it. -/
noncomputable def runA (c : Dev nD) (i : grid0.Coords) (arg4 : Memref sig .tc .vmem S512x1024 .f32) (harg4 : arg4.IsWhole) (arg5 : Memref sig .tc .vmem S1x1024x1792 .f32) (harg5 : arg5.IsWhole) (arg6 : Memref sig .tc .vmem S1x1024x1792 .f32) (harg6 : arg6.IsWhole) (arg7 : Memref sig .tc .vmem S1x1792x1024 .f32) (harg7 : arg7.IsWhole) (arg8 : Memref sig .tc .vmem S512x1024 .f32) (harg8 : arg8.IsWhole)
    (T0 : S72.Idx → Elt F .i32) (T1 : S1.Idx → Elt F .i32) (x0 : S512x1024.Idx → Elt F .f32) (x1 : S1x1024x1792.Idx → Elt F .f32) (x2 : S1x1024x1792.Idx → Elt F .f32) (x3 : S1x1792x1024.Idx → Elt F .f32) (xa0 : Buf (Elt F) ((c : Thread nD τ).loc cc0_scratch0))
    (h1 : (k0_cond1 i (word T1) = 1#1)) (h2 : (first i = 1#1)) (h3 : (¬(later i = 1#1))) (h4 : (¬(k0_cond4 i = 1#1))) (h5 : (¬(k0_cond5 i (word T1) = 1#1))) :
    { out1 : Buf (Elt F) ((c : Thread nD τ).loc cc0_scratch0) //
      ∀ (y4 : S512x1024.Idx → Elt F .f32) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbE.view.loc (c : Thread nD τ) ↦{fullShare.right} T0)
          ∗ (tbU.view.loc (c : Thread nD τ) ↦{fullShare.right} T1)
          ∗ owns (c : Thread nD τ) arg8 fullShare y4
          ∗ (scM.view.loc (c : Thread nD τ) ↦{fullShare} xa0)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbE.view.loc (c : Thread nD τ) ↦{fullShare.right} T0)
          ∗ (tbU.view.loc (c : Thread nD τ) ↦{fullShare.right} T1)
              ∗ owns (c : Thread nD τ) arg8 fullShare y4
              ∗ (scM.view.loc (c : Thread nD τ) ↦{fullShare} out1)) -∗ K ⟨⟩))
          ⊢ wp frame (wpE (defs₀ (F := F)) Variants.none c none) Set.univ (cc0_moe_experts i tbE (Memref.isWhole_whole _) tbU (Memref.isWhole_whole _) arg4 harg4 arg5 harg5 arg6 harg6 arg7 harg7 arg8 harg8 scM (Memref.isWhole_whole _)) K } :=
  ⟨_, fun (y4 : S512x1024.Idx → Elt F .f32) K => by
    unfold owns
    rw [cc0_moe_experts_eq_skeleton]; unfold cc0_moe_experts_skel
    iintro ⟨H0, H1, H2, H3, HT0, HT1, ⟨%f4, %hf4, HO4⟩, HS0, Hk⟩
    obtain rfl := harg8.eq_unread hf4
    have hS0 : scM.IsWhole := Memref.isWhole_whole _
    have hT0 : tbE.IsWhole := Memref.isWhole_whole _
    have hT1 : tbU.IsWhole := Memref.isWhole_whole _
    sl_exec! (disch := first | (guard_target = (k0_cond1 _ _ = _); exact h1) | (guard_target = ¬(k0_cond4 _ = _); exact h4) | (guard_target = ¬(k0_cond5 _ _ = _); exact h5) | exact h2 | exact h3)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    iexact HS0⟩

set_option backward.proofsInPublic true in
set_option maxHeartbeats 8000000 in
/-- A used tile's second chunk: what the output block and the accumulator hold afterwards, with the proof that the body runs to it. -/
noncomputable def runB (c : Dev nD) (i : grid0.Coords) (arg4 : Memref sig .tc .vmem S512x1024 .f32) (harg4 : arg4.IsWhole) (arg5 : Memref sig .tc .vmem S1x1024x1792 .f32) (harg5 : arg5.IsWhole) (arg6 : Memref sig .tc .vmem S1x1024x1792 .f32) (harg6 : arg6.IsWhole) (arg7 : Memref sig .tc .vmem S1x1792x1024 .f32) (harg7 : arg7.IsWhole) (arg8 : Memref sig .tc .vmem S512x1024 .f32) (harg8 : arg8.IsWhole)
    (T0 : S72.Idx → Elt F .i32) (T1 : S1.Idx → Elt F .i32) (x0 : S512x1024.Idx → Elt F .f32) (x1 : S1x1024x1792.Idx → Elt F .f32) (x2 : S1x1024x1792.Idx → Elt F .f32) (x3 : S1x1792x1024.Idx → Elt F .f32) (xa0 : Buf (Elt F) ((c : Thread nD τ).loc cc0_scratch0))
    (h1 : (k0_cond1 i (word T1) = 1#1)) (h2 : (¬(first i = 1#1))) (h3 : (later i = 1#1)) (h4 : (k0_cond4 i = 1#1)) (h5 : (¬(k0_cond5 i (word T1) = 1#1))) :
    Σ' (out0 : List (View.Piece (Elt F) S512x1024 .f32)), { out1 : Buf (Elt F) ((c : Thread nD τ).loc cc0_scratch0) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbE.view.loc (c : Thread nD τ) ↦{fullShare.right} T0)
          ∗ (tbU.view.loc (c : Thread nD τ) ↦{fullShare.right} T1)
          ∗ (∃ d, owns (c : Thread nD τ) arg8 fullShare d)
          ∗ (scM.view.loc (c : Thread nD τ) ↦{fullShare} xa0)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbE.view.loc (c : Thread nD τ) ↦{fullShare.right} T0)
          ∗ (tbU.view.loc (c : Thread nD τ) ↦{fullShare.right} T1)
              ∗ (∃ f, arg8.view.loc (c : Thread nD τ) ↦[arg8.view.set]{fullShare} arg8.view.writes (Elt F) f out0)
              ∗ (scM.view.loc (c : Thread nD τ) ↦{fullShare} out1)) -∗ K ⟨⟩))
          ⊢ wp frame (wpE (defs₀ (F := F)) Variants.none c none) Set.univ (cc0_moe_experts i tbE (Memref.isWhole_whole _) tbU (Memref.isWhole_whole _) arg4 harg4 arg5 harg5 arg6 harg6 arg7 harg7 arg8 harg8 scM (Memref.isWhole_whole _)) K } :=
  ⟨_, _, fun K => by
    unfold owns
    rw [cc0_moe_experts_eq_skeleton]; unfold cc0_moe_experts_skel
    iintro ⟨H0, H1, H2, H3, HT0, HT1, ⟨%d4, %f4, -, HO4⟩, HS0, Hk⟩
    have hS0 : scM.IsWhole := Memref.isWhole_whole _
    have hT0 : tbE.IsWhole := Memref.isWhole_whole _
    have hT1 : tbU.IsWhole := Memref.isWhole_whole _
    sl_exec! (disch := first | (guard_target = (k0_cond1 _ _ = _); exact h1) | (guard_target = (k0_cond4 _ = _); exact h4) | (guard_target = ¬(k0_cond5 _ _ = _); exact h5) | exact h2 | exact h3)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    iexact HS0⟩

set_option backward.proofsInPublic true in
set_option maxHeartbeats 8000000 in
/-- An unused tile's first chunk: the body changes nothing. -/
noncomputable def runC (c : Dev nD) (i : grid0.Coords) (arg4 : Memref sig .tc .vmem S512x1024 .f32) (harg4 : arg4.IsWhole) (arg5 : Memref sig .tc .vmem S1x1024x1792 .f32) (harg5 : arg5.IsWhole) (arg6 : Memref sig .tc .vmem S1x1024x1792 .f32) (harg6 : arg6.IsWhole) (arg7 : Memref sig .tc .vmem S1x1792x1024 .f32) (harg7 : arg7.IsWhole) (arg8 : Memref sig .tc .vmem S512x1024 .f32) (harg8 : arg8.IsWhole)
    (T0 : S72.Idx → Elt F .i32) (T1 : S1.Idx → Elt F .i32) (x0 : S512x1024.Idx → Elt F .f32) (x1 : S1x1024x1792.Idx → Elt F .f32) (x2 : S1x1024x1792.Idx → Elt F .f32) (x3 : S1x1792x1024.Idx → Elt F .f32) (xa0 : Buf (Elt F) ((c : Thread nD τ).loc cc0_scratch0))
    (h1 : (¬(k0_cond1 i (word T1) = 1#1))) (h5 : (¬(k0_cond5 i (word T1) = 1#1))) :
    { out1 : Buf (Elt F) ((c : Thread nD τ).loc cc0_scratch0) //
      ∀ (y4 : S512x1024.Idx → Elt F .f32) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbE.view.loc (c : Thread nD τ) ↦{fullShare.right} T0)
          ∗ (tbU.view.loc (c : Thread nD τ) ↦{fullShare.right} T1)
          ∗ owns (c : Thread nD τ) arg8 fullShare y4
          ∗ (scM.view.loc (c : Thread nD τ) ↦{fullShare} xa0)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbE.view.loc (c : Thread nD τ) ↦{fullShare.right} T0)
          ∗ (tbU.view.loc (c : Thread nD τ) ↦{fullShare.right} T1)
              ∗ owns (c : Thread nD τ) arg8 fullShare y4
              ∗ (scM.view.loc (c : Thread nD τ) ↦{fullShare} out1)) -∗ K ⟨⟩))
          ⊢ wp frame (wpE (defs₀ (F := F)) Variants.none c none) Set.univ (cc0_moe_experts i tbE (Memref.isWhole_whole _) tbU (Memref.isWhole_whole _) arg4 harg4 arg5 harg5 arg6 harg6 arg7 harg7 arg8 harg8 scM (Memref.isWhole_whole _)) K } :=
  ⟨_, fun (y4 : S512x1024.Idx → Elt F .f32) K => by
    unfold owns
    rw [cc0_moe_experts_eq_skeleton]; unfold cc0_moe_experts_skel
    iintro ⟨H0, H1, H2, H3, HT0, HT1, ⟨%f4, %hf4, HO4⟩, HS0, Hk⟩
    obtain rfl := harg8.eq_unread hf4
    have hS0 : scM.IsWhole := Memref.isWhole_whole _
    have hT0 : tbE.IsWhole := Memref.isWhole_whole _
    have hT1 : tbU.IsWhole := Memref.isWhole_whole _
    sl_exec! (disch := first | (guard_target = ¬(k0_cond1 _ _ = _); exact h1) | (guard_target = ¬(k0_cond5 _ _ = _); exact h5))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    iexact HS0⟩

set_option backward.proofsInPublic true in
set_option maxHeartbeats 8000000 in
/-- An unused tile's second chunk: what the output block holds afterwards, with the proof that the body runs to it. -/
noncomputable def runD (c : Dev nD) (i : grid0.Coords) (arg4 : Memref sig .tc .vmem S512x1024 .f32) (harg4 : arg4.IsWhole) (arg5 : Memref sig .tc .vmem S1x1024x1792 .f32) (harg5 : arg5.IsWhole) (arg6 : Memref sig .tc .vmem S1x1024x1792 .f32) (harg6 : arg6.IsWhole) (arg7 : Memref sig .tc .vmem S1x1792x1024 .f32) (harg7 : arg7.IsWhole) (arg8 : Memref sig .tc .vmem S512x1024 .f32) (harg8 : arg8.IsWhole)
    (T0 : S72.Idx → Elt F .i32) (T1 : S1.Idx → Elt F .i32) (x0 : S512x1024.Idx → Elt F .f32) (x1 : S1x1024x1792.Idx → Elt F .f32) (x2 : S1x1024x1792.Idx → Elt F .f32) (x3 : S1x1792x1024.Idx → Elt F .f32) (xa0 : Buf (Elt F) ((c : Thread nD τ).loc cc0_scratch0))
    (h1 : (¬(k0_cond1 i (word T1) = 1#1))) (h5 : (k0_cond5 i (word T1) = 1#1)) :
    Σ' (out0 : List (View.Piece (Elt F) S512x1024 .f32)), { out1 : Buf (Elt F) ((c : Thread nD τ).loc cc0_scratch0) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbE.view.loc (c : Thread nD τ) ↦{fullShare.right} T0)
          ∗ (tbU.view.loc (c : Thread nD τ) ↦{fullShare.right} T1)
          ∗ (∃ d, owns (c : Thread nD τ) arg8 fullShare d)
          ∗ (scM.view.loc (c : Thread nD τ) ↦{fullShare} xa0)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbE.view.loc (c : Thread nD τ) ↦{fullShare.right} T0)
          ∗ (tbU.view.loc (c : Thread nD τ) ↦{fullShare.right} T1)
              ∗ (∃ f, arg8.view.loc (c : Thread nD τ) ↦[arg8.view.set]{fullShare} arg8.view.writes (Elt F) f out0)
              ∗ (scM.view.loc (c : Thread nD τ) ↦{fullShare} out1)) -∗ K ⟨⟩))
          ⊢ wp frame (wpE (defs₀ (F := F)) Variants.none c none) Set.univ (cc0_moe_experts i tbE (Memref.isWhole_whole _) tbU (Memref.isWhole_whole _) arg4 harg4 arg5 harg5 arg6 harg6 arg7 harg7 arg8 harg8 scM (Memref.isWhole_whole _)) K } :=
  ⟨_, _, fun K => by
    unfold owns
    rw [cc0_moe_experts_eq_skeleton]; unfold cc0_moe_experts_skel
    iintro ⟨H0, H1, H2, H3, HT0, HT1, ⟨%d4, %f4, -, HO4⟩, HS0, Hk⟩
    have hS0 : scM.IsWhole := Memref.isWhole_whole _
    have hT0 : tbE.IsWhole := Memref.isWhole_whole _
    have hT1 : tbU.IsWhole := Memref.isWhole_whole _
    sl_exec! (disch := first | (guard_target = ¬(k0_cond1 _ _ = _); exact h1) | (guard_target = (k0_cond5 _ _ = _); exact h5))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    iexact HS0⟩

end Cert.Kernel2Ideal.Experts

end
-- ==== Proof.Experts.Body.lean ====
module

public import proofs.«01_k».proof.Proof.Experts.Runs
public import Idealize.ShloMosaic.Lib.VecWindow

/-!
# The expert kernel's body: what each path leaves, and which path a point takes

The contents the runs of `Runs` find, in closed form: the accumulator after a used tile's first chunk,
the output block after a used tile's second chunk and after an unused tile's second chunk.  Then the
tests of the body at a grid point, and where the output window is written back.
-/

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic

variable {F : FTy → Type} [FloatOps F]

section Contents
variable (c : Dev nD) (i : grid0.Coords) (arg4 : Memref sig .tc .vmem S512x1024 .f32) (harg4 : arg4.IsWhole) (arg5 : Memref sig .tc .vmem S1x1024x1792 .f32) (harg5 : arg5.IsWhole) (arg6 : Memref sig .tc .vmem S1x1024x1792 .f32) (harg6 : arg6.IsWhole) (arg7 : Memref sig .tc .vmem S1x1792x1024 .f32) (harg7 : arg7.IsWhole) (arg8 : Memref sig .tc .vmem S512x1024 .f32) (harg8 : arg8.IsWhole)
    (T0 : S72.Idx → Elt F .i32) (T1 : S1.Idx → Elt F .i32) (x0 : S512x1024.Idx → Elt F .f32) (x1 : S1x1024x1792.Idx → Elt F .f32) (x2 : S1x1024x1792.Idx → Elt F .f32) (x3 : S1x1792x1024.Idx → Elt F .f32) (xa0 : Buf (Elt F) ((c : Thread nD τ).loc cc0_scratch0))

/-- After a used tile's first chunk the accumulator reads that chunk's partial result. -/
theorem read_runA (h1 : (k0_cond1 i (word T1) = 1#1)) (h2 : (first i = 1#1)) (h3 : (¬(later i = 1#1))) (h4 : (¬(k0_cond4 i = 1#1))) (h5 : (¬(k0_cond5 i (word T1) = 1#1))) :
    scM.view.read (Elt F) (runA c i arg4 harg4 arg5 harg5 arg6 harg6 arg7 harg7 arg8 harg8 T0 T1 x0 x1 x2 x3 xa0 h1 h2 h3 h4 h5).1 = k0_pay2 x0 x1 x2 x3 := by
  unfold runA; dsimp only; unfold runA.sl.HS0_1
  rw [View.read_writes_full, View.readAt_rep_full, View.readAt_rep_full, View.readAt_rep_full, View.readAt_rep_full]

/-- After a used tile's second chunk the output block reads the accumulator plus that chunk's partial result. -/
theorem read_runB (h1 : (k0_cond1 i (word T1) = 1#1)) (h2 : (¬(first i = 1#1))) (h3 : (later i = 1#1)) (h4 : (k0_cond4 i = 1#1)) (h5 : (¬(k0_cond5 i (word T1) = 1#1))) {sig' : RefSig} {κ : Kind} {sp : Space} (v : View sig' κ sp S512x1024 .f32) (f : v.ty.Contents (Elt F)) :
    v.read (Elt F) (v.writes (Elt F) f (runB c i arg4 harg4 arg5 harg5 arg6 harg6 arg7 harg7 arg8 harg8 T0 T1 x0 x1 x2 x3 xa0 h1 h2 h3 h4 h5).1) = k0_pay3 x0 x1 x2 x3 (scM.view.read (Elt F) xa0) := by
  unfold runB; dsimp only; unfold runB.sl.HO4_1 runB.sl.v37
  rw [View.read_writes_full]
  unfold runB.sl.HS0_1
  rw [View.readCov_full, View.readAt_rep_full, View.readAt_rep_full, View.readAt_rep_full, View.readAt_rep_full, View.readAt_full]

/-- After an unused tile's second chunk the output block reads zeros. -/
theorem read_runD (h1 : (¬(k0_cond1 i (word T1) = 1#1))) (h5 : (k0_cond5 i (word T1) = 1#1)) {sig' : RefSig} {κ : Kind} {sp : Space} (v : View sig' κ sp S512x1024 .f32) (f : v.ty.Contents (Elt F)) :
    v.read (Elt F) (v.writes (Elt F) f (runD c i arg4 harg4 arg5 harg5 arg6 harg6 arg7 harg7 arg8 harg8 T0 T1 x0 x1 x2 x3 xa0 h1 h5).1) = k0_pay4 (F := F) := by
  unfold runD; dsimp only; unfold runD.sl.HO4_1
  rw [View.read_writes_full]

end Contents

/-! ## The tests of the body at a point -/

/-- The grid's points in order: tile `t / 2`, chunk `t % 2`. -/
theorem coord0 : ∀ t : Fin grid0.N, (grid0.coords t 0).val = t.val / 2 := by decide +kernel
theorem coord1 : ∀ t : Fin grid0.N, (grid0.coords t 1).val = t.val % 2 := by decide +kernel

theorem first_iff : ∀ t : Fin grid0.N, first (grid0.coords t) = 1#1 ↔ t.val % 2 = 0 := by decide +kernel
theorem later_iff : ∀ t : Fin grid0.N, later (grid0.coords t) = 1#1 ↔ t.val % 2 = 1 := by decide +kernel
theorem last_iff : ∀ t : Fin grid0.N, k0_cond4 (grid0.coords t) = 1#1 ↔ t.val % 2 = 1 := by decide +kernel

theorem ofBool_ne (b : Bool) : (Scalar.cmpi .ne (Scalar.extui (BitVec.ofBool b) : BitVec 32) 0#32 = 1#1) ↔ b = true := by
  cases b <;> decide

/-- A tile is used iff its number is below the number of used tiles. -/
theorem used_iff (i : grid0.Coords) (v : BitVec 32) : k0_cond1 i v = 1#1 ↔ (BitVec.ofNat 32 (i 0).val).slt v = true :=
  ofBool_ne _

/-- Zeros are written at an unused tile's second chunk and nowhere else. -/
theorem zero_iff (i : grid0.Coords) (v : BitVec 32) : k0_cond5 i v = 1#1 ↔ ¬k0_cond1 i v = 1#1 ∧ k0_cond4 i = 1#1 := by
  have h4 : k0_cond4 i = 1#1 ↔ (BitVec.ofNat 32 (i 1).val == 1#32) = true := ofBool_ne _
  rw [used_iff, h4]
  have e : k0_cond5 i v = Scalar.cmpi .ne (Scalar.extui (BitVec.ofBool ((v.sle (BitVec.ofNat 32 (i 0).val)) && (BitVec.ofNat 32 (i 1).val == 1#32))) : BitVec 32) 0#32 := by
    show Scalar.cmpi .ne (Scalar.extui (Scalar.andi (BitVec.ofBool (v.sle (BitVec.ofNat 32 (i 0).val))) (BitVec.ofBool (BitVec.ofNat 32 (i 1).val == 1#32))) : BitVec 32) 0#32 = _
    cases v.sle (BitVec.ofNat 32 (i 0).val) <;> cases (BitVec.ofNat 32 (i 1).val == 1#32) <;> rfl
  rw [e, ofBool_ne, Bool.and_eq_true, BitVec.sle_eq_not_slt, Bool.not_eq_true', Bool.not_eq_true]

/-! ## The pipeline at tables `a` -/

section Sched
variable (a : (pcfg0 (F := F)).Adm)

abbrev cfgA : Pipeline.Cfg sig Λ₀ := cfg0 (F := F) a
abbrev pcs : Fin 1 → Pipeline.Cfg sig Λ₀ := Pipeline.pin (pcfgs (F := F)) fun _ => a
/-- The two tables. -/
abbrev T0 : S72.Idx → Elt F .i32 := a.1 0
abbrev T1 : S1.Idx → Elt F .i32 := a.1 1
abbrev crd (t : Fin (cfgA a).N) : grid0.Coords := grid0.coords t
/-- The tile of point `t` is used. -/
abbrev Used (t : Fin (cfgA a).N) : Prop := k0_cond1 (crd a t) (word (T1 a)) = 1#1

/-- The output window is left alone at a first chunk and stored at a second. -/
theorem idle_first (t : Fin (cfgA a).N) (h : t.val % 2 = 0) : (cfgA a).idle (4 : Fin 5) ((cfgA a).grid.coords t) = true := by
  have h4 : ¬k0_cond4 (grid0.coords t) = 1#1 := fun e => by have := (last_iff t).1 e; omega
  have h5 : ¬k0_cond5 (grid0.coords t) (a.1.atD 1 ![0]) = 1#1 := fun e => h4 ((zero_iff _ _).1 e).2
  show (!(k0_cond1 (grid0.coords t) (a.1.atD 1 ![0]) == 1#1 && k0_cond4 (grid0.coords t) == 1#1) && !(k0_cond5 (grid0.coords t) (a.1.atD 1 ![0]) == 1#1)) = true
  simp only [beq_eq_false_iff_ne.2 h4, beq_eq_false_iff_ne.2 h5, Bool.and_false, Bool.not_false, Bool.and_self]

theorem idle_second (t : Fin (cfgA a).N) (h : t.val % 2 = 1) : (cfgA a).idle (4 : Fin 5) ((cfgA a).grid.coords t) = false := by
  have h4 : k0_cond4 (grid0.coords t) = 1#1 := (last_iff t).2 h
  show (!(k0_cond1 (grid0.coords t) (a.1.atD 1 ![0]) == 1#1 && k0_cond4 (grid0.coords t) == 1#1) && !(k0_cond5 (grid0.coords t) (a.1.atD 1 ![0]) == 1#1)) = false
  by_cases h1 : k0_cond1 (grid0.coords t) (a.1.atD 1 ![0]) = 1#1
  · simp only [h1, h4, BEq.rfl, Bool.and_self, Bool.not_true, Bool.false_and]
  · simp only [(zero_iff _ _).2 ⟨h1, h4⟩, BEq.rfl, Bool.not_true, Bool.and_false]

/-- The output block is written back at a second chunk and not at a first. -/
theorem flush_eq (t : Fin (cfgA a).N) : ((cfgA a).win (4 : Fin 5)).flush t = decide (t.val % 2 = 1) := by
  have h := (by decide +kernel : ∀ t : Fin grid0.N, (true && (decide (t.val + 1 = grid0.N) || decide (∃ h : t.val + 1 < grid0.N, cc0_transform_4 (grid0.coords ⟨t.val + 1, h⟩) ≠ cc0_transform_4 (grid0.coords t)))) = decide (t.val % 2 = 1)) t
  exact h

end Sched

end Cert.Kernel2Ideal.Experts

end
-- ==== Proof.Experts.Run.lean ====
module

public import proofs.«01_k».proof.Proof.Experts.Body

/-!
# The expert kernel's run, at any tables

The pipeline's proof data at any tables of experts and of used tiles: the inputs' windows hold their
blocks, the accumulator holds the first chunk's partial result between a used tile's two points, and
the output block written back at a tile's second point is the sum of the two partial results for a
used tile and zeros for an unused one.  The gate and the up projection are two windows on one array.
-/

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The pipeline's staging cells' algebra, embedded whole. -/
abbrev EP : Emb (UR sig nD τ) 𝕄 := emb₁

variable (a : (pcfg0 (F := F)).Adm)
variable (m : (ℓ : Loc nD τ sig) → Buf (Elt F) ℓ) (ρ : Dev nD → PrngReg)

/-- The launch state. -/
abbrev st₀ : MemSt nD τ sig (Elt F) := ⟨m, fun _ => 0, ρ⟩

/-- Each window's current staging memref at a point, and that it is a whole buffer. -/
abbrev ms0 (t : Fin (cfgA a).N) : Memref sig .tc .vmem S512x1024 .f32 := spec0_0.stage ((cfgA a).slots t (0 : Fin 5))
abbrev hs0 (t : Fin (cfgA a).N) : (ms0 a t).IsWhole := hstage0_0 (((cfgA a).slots t (0 : Fin 5)).cast nbuf0_0)
abbrev ms1 (t : Fin (cfgA a).N) : Memref sig .tc .vmem S1x1024x1792 .f32 := spec0_1.stage ((cfgA a).slots t (1 : Fin 5))
abbrev hs1 (t : Fin (cfgA a).N) : (ms1 a t).IsWhole := hstage0_1 (((cfgA a).slots t (1 : Fin 5)).cast nbuf0_1)
abbrev ms2 (t : Fin (cfgA a).N) : Memref sig .tc .vmem S1x1024x1792 .f32 := spec0_2.stage ((cfgA a).slots t (2 : Fin 5))
abbrev hs2 (t : Fin (cfgA a).N) : (ms2 a t).IsWhole := hstage0_2 (((cfgA a).slots t (2 : Fin 5)).cast nbuf0_2)
abbrev ms3 (t : Fin (cfgA a).N) : Memref sig .tc .vmem S1x1792x1024 .f32 := spec0_3.stage ((cfgA a).slots t (3 : Fin 5))
abbrev hs3 (t : Fin (cfgA a).N) : (ms3 a t).IsWhole := hstage0_3 (((cfgA a).slots t (3 : Fin 5)).cast nbuf0_3)
abbrev ms4 (t : Fin (cfgA a).N) : Memref sig .tc .vmem S512x1024 .f32 := spec0_4.stage ((cfgA a).slots t (4 : Fin 5))
abbrev hs4 (t : Fin (cfgA a).N) : (ms4 a t).IsWhole := hstage0_4 (((cfgA a).slots t (4 : Fin 5)).cast nbuf0_4)

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) (m (((cfgA a).win w).arr.view.loc (c : Thread nD τ)))

/-- The partial result of a tile's first chunk, as it is put into the accumulator. -/
def part (c : Dev nD) (t : Fin (cfgA a).N) : S512x1024.Idx → Elt F .f32 :=
  k0_pay2 (iblk a m c (0 : Fin 5) t) (iblk a m c (1 : Fin 5) t) (iblk a m c (2 : Fin 5) t) (iblk a m c (3 : Fin 5) t)

/-- The point before. -/
abbrev before1 (t : Fin (cfgA a).N) : Fin (cfgA a).N := ⟨t.val - 1, Nat.lt_of_le_of_lt (Nat.sub_le _ _) t.isLt⟩

/-- The output block at a tile's second point: both partial results for a used tile, zeros for an unused one. -/
def outBlk (c : Dev nD) (t : Fin (cfgA a).N) : S512x1024.Idx → Elt F .f32 :=
  if Used a t then
    k0_pay3 (iblk a m c (0 : Fin 5) t) (iblk a m c (1 : Fin 5) t) (iblk a m c (2 : Fin 5) t) (iblk a m c (3 : Fin 5) t) (part a m c (before1 a t))
  else k0_pay4 (F := F)

/-- The invariant before point `t`: after a used tile's first point the accumulator holds that point's partial result;
    the body's halves of the tables are held throughout. -/
def Phi (c : Dev nD) (t : Fin ((cfgA a).N + 1)) : sProp 𝕄 :=
  iprop((∃ b, ⌜∀ s : Fin (cfgA a).N, s.val + 1 = t.val → s.val % 2 = 0 → Used a s → scM.view.read (Elt F) b = part a m c s⌝
      ∗ (scM.view.loc (c : Thread nD τ) ↦{fullShare} b))
    ∗ (tbE.view.loc (c : Thread nD τ) ↦{fullShare.right} T0 a) ∗ (tbU.view.loc (c : Thread nD τ) ↦{fullShare.right} T1 a))

/-- The proof data of the pipeline on core `c`. -/
def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk a m c (0 : Fin 5) t
    | ⟨1, _⟩ => iblk a m c (1 : Fin 5) t
    | ⟨2, _⟩ => iblk a m c (2 : Fin 5) t
    | ⟨3, _⟩ => iblk a m c (3 : Fin 5) t
    | ⟨4, _⟩ => outBlk a m c t
  Φ t := Phi a m c t
  q w := Pipeline.shareOf spec0 w
  owed _ := 0

theorem after_0 (c : Dev nD) (t : Fin (cfgA a).N) : (dats a m 0 c).after (0 : Fin 5) t = iblk a m c (0 : Fin 5) t := rfl
theorem after_1 (c : Dev nD) (t : Fin (cfgA a).N) : (dats a m 0 c).after (1 : Fin 5) t = iblk a m c (1 : Fin 5) t := rfl
theorem after_2 (c : Dev nD) (t : Fin (cfgA a).N) : (dats a m 0 c).after (2 : Fin 5) t = iblk a m c (2 : Fin 5) t := rfl
theorem after_3 (c : Dev nD) (t : Fin (cfgA a).N) : (dats a m 0 c).after (3 : Fin 5) t = iblk a m c (3 : Fin 5) t := rfl
theorem after_4 (c : Dev nD) (t : Fin (cfgA a).N) : (dats a m 0 c).after (4 : Fin 5) t = outBlk a m c t := rfl

/-- Input window 0 holds its block when the body runs, fetched there or not. -/
theorem before_0 (c : Dev nD) (t : Fin (cfgA a).N) (d) : (dats a m 0 c).before (0 : Fin 5) t d = iblk a m c (0 : Fin 5) t :=
  ((dats a m 0 c).before_in_eq_fetched (0 : Fin 5) rfl (fun _ => rfl) (fun _ _ _ => rfl) (fun t => by rw [after_0]; unfold Dat.blockOf iblk; rfl) t d).trans
    (by unfold Dat.fetched Dat.blockOf iblk; rfl)

/-- Input window 1 holds its block when the body runs, fetched there or not. -/
theorem before_1 (c : Dev nD) (t : Fin (cfgA a).N) (d) : (dats a m 0 c).before (1 : Fin 5) t d = iblk a m c (1 : Fin 5) t :=
  ((dats a m 0 c).before_in_eq_fetched (1 : Fin 5) rfl (fun _ => rfl) (fun _ _ _ => rfl) (fun t => by rw [after_1]; unfold Dat.blockOf iblk; rfl) t d).trans
    (by unfold Dat.fetched Dat.blockOf iblk; rfl)

/-- Input window 2 holds its block when the body runs, fetched there or not. -/
theorem before_2 (c : Dev nD) (t : Fin (cfgA a).N) (d) : (dats a m 0 c).before (2 : Fin 5) t d = iblk a m c (2 : Fin 5) t :=
  ((dats a m 0 c).before_in_eq_fetched (2 : Fin 5) rfl (fun _ => rfl) (fun _ _ _ => rfl) (fun t => by rw [after_2]; unfold Dat.blockOf iblk; rfl) t d).trans
    (by unfold Dat.fetched Dat.blockOf iblk; rfl)

/-- Input window 3 holds its block when the body runs, fetched there or not. -/
theorem before_3 (c : Dev nD) (t : Fin (cfgA a).N) (d) : (dats a m 0 c).before (3 : Fin 5) t d = iblk a m c (3 : Fin 5) t :=
  ((dats a m 0 c).before_in_eq_fetched (3 : Fin 5) rfl (fun _ => rfl) (fun _ _ _ => rfl) (fun t => by rw [after_3]; unfold Dat.blockOf iblk; rfl) t d).trans
    (by unfold Dat.fetched Dat.blockOf iblk; rfl)

/-- Both points of a tile agree on whether it is used. -/
theorem used_before (t : Fin (cfgA a).N) (h : t.val % 2 = 1) : Used a (before1 a t) ↔ Used a t := by
  have e : (grid0.coords (before1 a t) 0).val = (grid0.coords t 0).val := by
    rw [coord0, coord0]; show (t.val - 1) / 2 = t.val / 2; omega
  show k0_cond1 (grid0.coords (before1 a t)) _ = 1#1 ↔ k0_cond1 (grid0.coords t) _ = 1#1
  rw [used_iff, used_iff, e]

/-- The body at point `t` on its staging memrefs, as the pipeline calls it. -/
abbrev bodyAt (t : Fin (cfgA a).N) : Prog (TpuEff nD τ sig (Elt F) Λ₀ .tc) PUnit :=
  cc0_moe_experts (crd a t) tbE (Memref.isWhole_whole _) tbU (Memref.isWhole_whole _) (ms0 a t) (hs0 a t) (ms1 a t) (hs1 a t) (ms2 a t) (hs2 a t) (ms3 a t) (hs3 a t) (ms4 a t) (hs4 a t) scM (Memref.isWhole_whole _)

set_option maxHeartbeats 4000000 in
/-- The body's obligation at point `t`: the path its two coordinates and the number of used tiles select. -/
theorem sound_body (c : Dev nD) (t : Fin (cfgA a).N) :
    iprop((dats a m 0 c).Φ t.castSucc ∗ (dats a m 0 c).owesAt () t.castSucc
        ∗ (∃ d, owns (c : Thread nD τ) (ms0 a t) fullShare ((dats a m 0 c).before (0 : Fin 5) t d))
        ∗ (∃ d, owns (c : Thread nD τ) (ms1 a t) fullShare ((dats a m 0 c).before (1 : Fin 5) t d))
        ∗ (∃ d, owns (c : Thread nD τ) (ms2 a t) fullShare ((dats a m 0 c).before (2 : Fin 5) t d))
        ∗ (∃ d, owns (c : Thread nD τ) (ms3 a t) fullShare ((dats a m 0 c).before (3 : Fin 5) t d))
        ∗ (∃ d, owns (c : Thread nD τ) (ms4 a t) fullShare ((dats a m 0 c).before (4 : Fin 5) t d)))
      ⊢ wp frame (wpE (defs₀ (F := F)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  have hΦ0 : (dats a m 0 c).Φ t.castSucc = Phi a m c t.castSucc := rfl
  have hΦ1 : (dats a m 0 c).Φ t.succ = Phi a m c t.succ := rfl
  have hO : (dats a m 0 c).owesAt () t.succ = (dats a m 0 c).owesAt () t.castSucc := rfl
  rewrite [hΦ0, hΦ1, hO]
  rcases Nat.mod_two_eq_zero_or_one t.val with ht | ht
  · have h2 : first (crd a t) = 1#1 := (first_iff t).2 ht
    have h3 : ¬later (crd a t) = 1#1 := fun e => by have := (later_iff t).1 e; omega
    have h4 : ¬k0_cond4 (crd a t) = 1#1 := fun e => by have := (last_iff t).1 e; omega
    have h5 : ¬k0_cond5 (crd a t) (word (T1 a)) = 1#1 := fun e => h4 ((zero_iff _ _).1 e).2
    have hi := idle_first a t ht
    have hfl : ((cfgA a).win (4 : Fin 5)).flush t = false := (flush_eq a t).trans (decide_eq_false (by omega))
    rewrite [hi]
    simp only [before_0, before_1, before_2, before_3, after_0, after_1, after_2, after_3, after_4, hfl]
    unfold Phi
    by_cases h1 : Used a t
    · iintro ⟨⟨⟨%b, %hb, HS0⟩, HT0, HT1⟩, Ho, ⟨%d0, H0⟩, ⟨%d1, H1⟩, ⟨%d2, H2⟩, ⟨%d3, H3⟩, ⟨%d4, H4⟩⟩
      iapply ((runA c (crd a t) (ms0 a t) (hs0 a t) (ms1 a t) (hs1 a t) (ms2 a t) (hs2 a t) (ms3 a t) (hs3 a t) (ms4 a t) (hs4 a t) (T0 a) (T1 a) (iblk a m c (0 : Fin 5) t) (iblk a m c (1 : Fin 5) t) (iblk a m c (2 : Fin 5) t) (iblk a m c (3 : Fin 5) t) b h1 h2 h3 h4 h5).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      iintro ⟨H0, H1, H2, H3, HT0, HT1, H4, HS0⟩
      isplitl [HS0 HT0 HT1]
      · isplitl [HS0]
        · iexists _; isplitr; swap
          · iexact HS0
          · ipureintro; intro s hs hev hu
            obtain rfl : s = t := Fin.ext (by simpa using hs)
            exact read_runA c (crd a s) (ms0 a s) (hs0 a s) (ms1 a s) (hs1 a s) (ms2 a s) (hs2 a s) (ms3 a s) (hs3 a s) (ms4 a s) (hs4 a s) (T0 a) (T1 a) _ _ _ _ b h1 h2 h3 h4 h5
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists d4; iexact H4
    · iintro ⟨⟨⟨%b, %hb, HS0⟩, HT0, HT1⟩, Ho, ⟨%d0, H0⟩, ⟨%d1, H1⟩, ⟨%d2, H2⟩, ⟨%d3, H3⟩, ⟨%d4, H4⟩⟩
      iapply ((runC c (crd a t) (ms0 a t) (hs0 a t) (ms1 a t) (hs1 a t) (ms2 a t) (hs2 a t) (ms3 a t) (hs3 a t) (ms4 a t) (hs4 a t) (T0 a) (T1 a) (iblk a m c (0 : Fin 5) t) (iblk a m c (1 : Fin 5) t) (iblk a m c (2 : Fin 5) t) (iblk a m c (3 : Fin 5) t) b h1 h5).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      iintro ⟨H0, H1, H2, H3, HT0, HT1, H4, HS0⟩
      isplitl [HS0 HT0 HT1]
      · isplitl [HS0]
        · iexists _; isplitr; swap
          · iexact HS0
          · ipureintro; intro s hs hev hu
            obtain rfl : s = t := Fin.ext (by simpa using hs)
            exact absurd hu h1
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexists d4; iexact H4
  · have h2 : ¬first (crd a t) = 1#1 := fun e => by have := (first_iff t).1 e; omega
    have h3 : later (crd a t) = 1#1 := (later_iff t).2 ht
    have h4 : k0_cond4 (crd a t) = 1#1 := (last_iff t).2 ht
    have hi := idle_second a t ht
    rewrite [hi]
    simp only [before_0, before_1, before_2, before_3, after_0, after_1, after_2, after_3, after_4]
    unfold Phi
    by_cases h1 : Used a t
    · have h5 : ¬k0_cond5 (crd a t) (word (T1 a)) = 1#1 := fun e => ((zero_iff _ _).1 e).1 h1
      iintro ⟨⟨⟨%b, %hb, HS0⟩, HT0, HT1⟩, Ho, ⟨%d0, H0⟩, ⟨%d1, H1⟩, ⟨%d2, H2⟩, ⟨%d3, H3⟩, ⟨%d4, H4⟩⟩
      iapply ((runB c (crd a t) (ms0 a t) (hs0 a t) (ms1 a t) (hs1 a t) (ms2 a t) (hs2 a t) (ms3 a t) (hs3 a t) (ms4 a t) (hs4 a t) (T0 a) (T1 a) (iblk a m c (0 : Fin 5) t) (iblk a m c (1 : Fin 5) t) (iblk a m c (2 : Fin 5) t) (iblk a m c (3 : Fin 5) t) b h1 h2 h3 h4 h5).2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      iintro ⟨H0, H1, H2, H3, HT0, HT1, ⟨%e4, H4⟩, HS0⟩
      isplitl [HS0 HT0 HT1]
      · isplitl [HS0]
        · iexists _; isplitr; swap
          · iexact HS0
          · ipureintro; intro s hs hev hu
            obtain rfl : s = t := Fin.ext (by simpa using hs)
            omega
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro
        rw [read_runB c (crd a t) (ms0 a t) (hs0 a t) (ms1 a t) (hs1 a t) (ms2 a t) (hs2 a t) (ms3 a t) (hs3 a t) (ms4 a t) (hs4 a t) (T0 a) (T1 a) (iblk a m c (0 : Fin 5) t) (iblk a m c (1 : Fin 5) t) (iblk a m c (2 : Fin 5) t) (iblk a m c (3 : Fin 5) t) b h1 h2 h3 h4 h5, hb (before1 a t) (by show t.val - 1 + 1 = t.val; omega) (by show (t.val - 1) % 2 = 0; omega) ((used_before a t ht).2 h1)]
        exact (if_pos h1).symm
    · have h5 : k0_cond5 (crd a t) (word (T1 a)) = 1#1 := (zero_iff _ _).2 ⟨h1, h4⟩
      iintro ⟨⟨⟨%b, %hb, HS0⟩, HT0, HT1⟩, Ho, ⟨%d0, H0⟩, ⟨%d1, H1⟩, ⟨%d2, H2⟩, ⟨%d3, H3⟩, ⟨%d4, H4⟩⟩
      iapply ((runD c (crd a t) (ms0 a t) (hs0 a t) (ms1 a t) (hs1 a t) (ms2 a t) (hs2 a t) (ms3 a t) (hs3 a t) (ms4 a t) (hs4 a t) (T0 a) (T1 a) (iblk a m c (0 : Fin 5) t) (iblk a m c (1 : Fin 5) t) (iblk a m c (2 : Fin 5) t) (iblk a m c (3 : Fin 5) t) b h1 h5).2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      iintro ⟨H0, H1, H2, H3, HT0, HT1, ⟨%e4, H4⟩, HS0⟩
      isplitl [HS0 HT0 HT1]
      · isplitl [HS0]
        · iexists _; isplitr; swap
          · iexact HS0
          · ipureintro; intro s hs hev hu
            obtain rfl : s = t := Fin.ext (by simpa using hs)
            omega
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro
        rw [read_runD c (crd a t) (ms0 a t) (hs0 a t) (ms1 a t) (hs1 a t) (ms2 a t) (hs2 a t) (ms3 a t) (hs3 a t) (ms4 a t) (hs4 a t) (T0 a) (T1 a) (iblk a m c (0 : Fin 5) t) (iblk a m c (1 : Fin 5) t) (iblk a m c (2 : Fin 5) t) (iblk a m c (3 : Fin 5) t) b h1 h5]
        exact (if_neg h1).symm

/-- The library's body obligation, at every point. -/
theorem body_obligation (c : Dev nD) : BodyObligation (dats a m 0 c) (defs₀ (F := F)) Variants.none () Set.univ := fun t => by
  rw [bigSep_W0]
  exact sound_body a m c t

/-! ## The launch -/

/-- The launch's ghost element. -/
def u₀ : UR sig nD τ :=
  initOf (Pipeline.cells (pcs a) ((launch₀0 (F := F)).cellOf_inj fun _ => a))
    (Pipeline.launchToks (pcs a) ((launch₀0 (F := F)).cellOf_inj fun _ => a))

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg3) ↦{q 0} v 0) ∗ (((c : Thread nD τ).loc main_arg4) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the accumulator at any contents. -/
theorem phi_intro (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Phi a m c 0 from rfl]
  unfold Phi
  iintro ⟨-, ⟨HT0, HT1⟩, ⟨%b, HS0⟩⟩
  isplitl [HS0]
  · iexists b; isplitr; swap
    · iexact HS0
    · ipureintro; intro s hs; exact absurd hs (by simp)
  isplitl [HT0]
  · iexact HT0
  iexact HT1

/-- At the last point the invariant gives the accumulator back. -/
theorem phi_exit (c : Dev nD) : (dats a m 0 c).Φ (Fin.last (cfgA a).N) ⊢ iprop(BI.emp ∗ Pipeline.scopedRest spec0 c) := by
  rw [scopedRest0_eq, show (dats a m 0 c).Φ (Fin.last (cfgA a).N) = Phi a m c (Fin.last _) from rfl]
  unfold Phi
  iintro ⟨⟨%b, -, HS0⟩, -, -⟩
  isplitr; · iempintro
  iexists b; iexact HS0

/-- Where a run ends: every array at what the pipeline computes, every table as it was. -/
def QC : PUnit × MemSt nD τ sig (Elt F) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

set_option backward.isDefEq.respectTransparency.types false in
set_option maxHeartbeats 4000000 in
/-- From any memory whose tables are `a`'s, with all counters at zero: every weakly fair execution terminates and ends as `QC`
    says, with every counter at zero. -/
theorem run_quiescent (hp : ∀ (c : Dev nD) (j : Fin 2), m ((c : Thread nD τ).loc (pre0.ref j)) = a.1 j) :
    θ_run (defs (F := F)) (onTc (τ := τ) (main (F := F))) (st₀ m ρ) (fun r => QC a m r ∧ r.2.sem = fun _ => 0) :=
  Pipeline.θ_run_region_noSem_pf_quiescent pcfgs (fun _ => a) (dats a m) () ((launch₀0 (F := F)).cellOf_inj fun _ => a) (0 : Fin 1)
    (launch₀0 (F := F)).win (launch₀0 (F := F)).pre EP defs₀ Variants.none m ρ main
    (hbody := fun c => (body_obligation a m c).loose) (hne := (launch₀0 (F := F)).block_pos)
    (harr := (launch₀0 (F := F)).arr_whole) (hstage := (launch₀0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => (dats a m 0 c).arrays_split_shared (launch₀0 (F := F)).sharedIn (launch₀0 (F := F)).arr_whole
      (fun _ _ => rfl) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_intro a m)
    (hout := phi_exit a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run's end in terms of @main's arrays: the result at what the pipeline computes, the arguments unchanged. -/
theorem run_result (hp : ∀ (c : Dev nD) (j : Fin 2), m ((c : Thread nD τ).loc (pre0.ref j)) = a.1 j) :
    θ_run (defs (F := F)) (onTc (τ := τ) (main (F := F))) (st₀ m ρ) (fun r => (∀ c : Dev nD,
      r.2.mem ((c.tc : Thread nD τ).loc main_v0) = (dats a m 0 c).arrAt (4 : Fin 5) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 (4 : Fin 5),
    ((h.1 c).1 (0 : Fin 5)).trans ((dats a m 0 c).arrAt_in (0 : Fin 5) rfl _), ((h.1 c).1 (1 : Fin 5)).trans ((dats a m 0 c).arrAt_in (1 : Fin 5) rfl _),
    ((h.1 c).1 (3 : Fin 5)).trans ((dats a m 0 c).arrAt_in (3 : Fin 5) rfl _), ((h.1 c).2 0).trans (hp c 0).symm, ((h.1 c).2 1).trans (hp c 1).symm⟩, h.2⟩)
    (run_quiescent a m ρ hp)

/-! ## The tables a memory holds are admissible when every tile names one of the eight experts -/

theorem tables_ok (pf : pre0.Contents (Elt F)) (h : ∀ i : S72.Idx, (pf 0 i : BitVec 32).toNat ≤ 7) : ok0 (F := F) pf := by
  have hw : ∀ i : grid0.Coords, (pf.at 0 (Rect.unit (s := S72) (k0_off1 i) S1.size (k0_off1_inb i)) numel1_S1 : BitVec 32).toNat ≤ 7 := fun i => h _
  have h1 : ∀ i : grid0.Coords, (i 1).val < 2 := fun i => (i 1).isLt
  refine ⟨fun i => ⟨fun x => ?_, .inl rfl⟩, fun i => ⟨fun x => ?_, .inl rfl⟩, fun i => ⟨fun x => ?_, .inl rfl⟩⟩
  · have e1 : (BitVec.ofNat 32 (i 1).val).toNat = (i 1).val := by rw [BitVec.toNat_ofNat]; have := h1 i; omega
    match x with
    | ⟨0, _⟩ => exact Nat.mul_le_mul_right 1 (Nat.succ_le_succ (hw i))
    | ⟨1, _⟩ => exact le_of_eq rfl
    | ⟨2, _⟩ => show ((BitVec.ofNat 32 (i 1).val).toNat + 1) * 1792 ≤ 7168; rw [e1]; have := h1 i; omega
  · have e1 : (Scalar.addi 2#32 (BitVec.ofNat 32 (i 1).val)).toNat = 2 + (i 1).val := by
      show (2#32 + BitVec.ofNat 32 (i 1).val).toNat = _
      rw [BitVec.toNat_add, BitVec.toNat_ofNat, BitVec.toNat_ofNat]; have := h1 i; omega
    match x with
    | ⟨0, _⟩ => exact Nat.mul_le_mul_right 1 (Nat.succ_le_succ (hw i))
    | ⟨1, _⟩ => exact le_of_eq rfl
    | ⟨2, _⟩ => show ((Scalar.addi 2#32 (BitVec.ofNat 32 (i 1).val)).toNat + 1) * 1792 ≤ 7168; rw [e1]; have := h1 i; omega
  · have e1 : (BitVec.ofNat 32 (i 1).val).toNat = (i 1).val := by rw [BitVec.toNat_ofNat]; have := h1 i; omega
    match x with
    | ⟨0, _⟩ => exact Nat.mul_le_mul_right 1 (Nat.succ_le_succ (hw i))
    | ⟨1, _⟩ => show ((BitVec.ofNat 32 (i 1).val).toNat + 1) * 1792 ≤ 3584; rw [e1]; have := h1 i; omega
    | ⟨2, _⟩ => exact le_of_eq rfl

end Cert.Kernel2Ideal.Experts

end
-- ==== Proof.Experts.Spec.lean ====
/- What both expert programs compute of a row: one expert's gated two-layer network. -/
module

public import Idealize.ShloMosaic.PureOps
public import Idealize.ShloMosaic.PureOps.Ideal
public import Idealize.ShloMosaic.Lib.Pointwise

@[expose] public section

noncomputable section

namespace Cert.Experts

open Idealize.ShloMosaic

/-- A hidden unit of a row: the gate times its sigmoid times the up projection.  The gate's columns are the first 3584 of
    the 7168 columns, the up projection's the last. -/
def hid (x : Fin 36864 → Fin 1024 → EReal) (w : Fin 8 → Fin 1024 → Fin 7168 → EReal) (e : Fin 8) (i : Fin 36864) (j : Fin 3584) : EReal :=
  (∑ k, x i k * w e k ⟨j.val, by omega⟩) * Ideal.div 1 (1 + Ideal.exp (-(∑ k, x i k * w e k ⟨j.val, by omega⟩))) * ∑ k, x i k * w e k ⟨3584 + j.val, by omega⟩

/-- An expert's output of a row at a column. -/
def mlp (x : Fin 36864 → Fin 1024 → EReal) (w : Fin 8 → Fin 1024 → Fin 7168 → EReal) (d : Fin 8 → Fin 3584 → Fin 1024 → EReal) (e : Fin 8) (i : Fin 36864) (q : Fin 1024) : EReal :=
  ∑ j, hid x w e i j * d e j q

/-- A sum over 3584 hidden units is the sum over the first 1792 and the sum over the last. -/
theorem sum_halves (f : Fin 3584 → EReal) :
    ∑ j, f j = (∑ j : Fin 1792, f ⟨j.val, by omega⟩) + ∑ j : Fin 1792, f ⟨1792 + j.val, by omega⟩ :=
  Fin.sum_univ_add (a := 1792) (b := 1792) f

/-- The same with the halves' offsets as a chunk's number times 1792. -/
theorem sum_chunks (f : Fin 3584 → EReal) :
    (∑ j : Fin 1792, f ⟨1792 * (0 : Fin 2).val + j.val, by show 1792 * 0 + j.val < 3584; omega⟩)
      + (∑ j : Fin 1792, f ⟨1792 * (1 : Fin 2).val + j.val, by show 1792 * 1 + j.val < 3584; omega⟩) = ∑ j, f j := by
  rw [sum_halves f]
  exact congrArg (· + _) (Finset.sum_congr rfl fun j _ => congrArg f (Fin.ext (Nat.zero_add _)))

/-- An index of rank two from its coordinates. -/
theorem ix2_ext {n0 n1 : ℕ} (x : (⟨2, ![n0, n1]⟩ : Shape).Idx) {a : Fin n0} {b : Fin n1} (h0 : (x 0).val = a.val) (h1 : (x 1).val = b.val) : x = ix2 a b := by
  funext i
  refine Fin.ext ?_
  fin_cases i
  · exact h0
  · exact h1

/-- An index of rank three from its coordinates. -/
theorem ix3_ext {n0 n1 n2 : ℕ} (x : (⟨3, ![n0, n1, n2]⟩ : Shape).Idx) {a : Fin n0} {b : Fin n1} {c : Fin n2}
    (h0 : (x 0).val = a.val) (h1 : (x 1).val = b.val) (h2 : (x 2).val = c.val) : x = ix3 a b c := by
  funext i
  refine Fin.ext ?_
  fin_cases i
  · exact h0
  · exact h1
  · exact h2

end Cert.Experts

end
-- ==== Proof.Experts.Blocks.lean ====
/- The expert kernel's blocks at indices, and its two partial results. -/
module

public import proofs.«01_k».proof.Proof.Experts.Run
public import proofs.«01_k».proof.Proof.Experts.Spec
public import Idealize.ShloMosaic.Lib.Pipeline.ValueKit
public import Idealize.ShloMosaic.Lib.Pointwise

@[expose] public section

set_option maxRecDepth 16384

noncomputable section

namespace Cert.Kernel2Ideal.Experts

open Idealize.ShloMosaic Idealize.ShloMosaic.TcCoe Idealize.SL.Sem
open Cert.Kernel2Ideal Cert.Kernel2Ideal.Gen
open Cert.Experts (ix2_ext ix3_ext hid mlp)

/-! ## A point's partial result, from its blocks -/

/-- A partial result at an index: this chunk's 1792 hidden units times the down projection's rows. -/
theorem pay1_at (v10 : Vec Ideal S512x1024 .f32) (v12 v16 : Vec Ideal S1x1024x1792 .f32) (v24 : Vec Ideal S1x1792x1024 .f32) (i : Fin 512) (q : Fin 1024) :
    k0_pay1 v10 v12 v16 v24 (ix2 i q) = ∑ j : Fin 1792,
      ((∑ k : Fin 1024, (v10 (ix2 i k) : EReal) * v12 (ix3 0 k j)) * Ideal.div 1 (1 + Ideal.exp (-(∑ k : Fin 1024, (v10 (ix2 i k) : EReal) * v12 (ix3 0 k j))))
        * ∑ k : Fin 1024, (v10 (ix2 i k) : EReal) * v16 (ix3 0 k j)) * v24 (ix3 0 j q) := by
  pointwise [k0_pay1]
  rfl

theorem pay2_at (v10 : Vec Ideal S512x1024 .f32) (v12 v16 : Vec Ideal S1x1024x1792 .f32) (v24 : Vec Ideal S1x1792x1024 .f32) (i : Fin 512) (q : Fin 1024) :
    k0_pay2 v10 v12 v16 v24 (ix2 i q) = k0_pay1 v10 v12 v16 v24 (ix2 i q) := by
  unfold k0_pay2; rw [shapeCast_self]

theorem pay3_at (v10 : Vec Ideal S512x1024 .f32) (v12 v16 : Vec Ideal S1x1024x1792 .f32) (v24 : Vec Ideal S1x1792x1024 .f32) (s : Vec Ideal S512x1024 .f32) (i : Fin 512) (q : Fin 1024) :
    k0_pay3 v10 v12 v16 v24 s (ix2 i q) = (s (ix2 i q) : EReal) + k0_pay1 v10 v12 v16 v24 (ix2 i q) := by
  unfold k0_pay3; rw [shapeCast_self, addf_apply]; rfl

theorem pay4_at (i : Fin 512) (q : Fin 1024) : (k0_pay4 (F := Ideal) (ix2 i q) : EReal) = 0 := Ideal.ofBits_zero FTy.f32

/-! ## The blocks -/

variable (a : (pcfg0 (F := Ideal)).Adm)

theorem c0_lt (i : grid0.Coords) : (i 0).val < 72 := (i 0).isLt
theorem c1_lt (i : grid0.Coords) : (i 1).val < 2 := (i 1).isLt
theorem word_val (n : ℕ) (h : n < 4096) : (BitVec.ofNat 32 n).toNat = n := by rw [BitVec.toNat_ofNat]; omega

/-- The tile's expert, as an index map reads it from the table. -/
theorem tile_word (pf : pre0.Contents (Elt Ideal)) (i : grid0.Coords) (r : Fin 72) (h : (i 0).val = r.val) :
    (pf.at 0 (Rect.unit (s := S72) (k0_off1 i) S1.size (k0_off1_inb i)) numel1_S1 : BitVec 32) = (pf 0 : S72.Idx → BitVec 32) (ix1 r) := by
  refine congrArg (pf 0 : S72.Idx → BitVec 32) ?_
  funext x
  refine Fin.ext ?_
  fin_cases x
  show (BitVec.ofNat 32 (i 0).val).toNat + 0 = r.val
  rw [word_val _ (by have := c0_lt i; omega), h, Nat.add_zero]

section
variable (t : Fin (cfgA a).N) (r : Fin 72) (e : Fin 8) (p : Fin 2) (h0 : (crd a t 0).val = r.val) (h1 : (crd a t 1).val = p.val)
  (he : (T0 a (ix1 r) : BitVec 32) = BitVec.ofNat 32 e.val)
include h0

theorem idx_0 : ((cfgA a).win (0 : Fin 5)).index t = ![r.val, 0] := by
  show ![(BitVec.ofNat 32 (crd a t 0).val).toNat, 0] = _
  rw [word_val _ (by have := c0_lt (crd a t); omega), h0]

theorem idx_4 : ((cfgA a).win (4 : Fin 5)).index t = ![r.val, 0] := by
  show ![(BitVec.ofNat 32 (crd a t 0).val).toNat, 0] = _
  rw [word_val _ (by have := c0_lt (crd a t); omega), h0]

include h1 he

theorem idx_1 : ((cfgA a).win (1 : Fin 5)).index t = ![e.val, 0, p.val] := by
  show ![(a.1.at 0 (Rect.unit (s := S72) (k0_off1 (crd a t)) S1.size (k0_off1_inb (crd a t))) numel1_S1 : BitVec 32).toNat, 0, (BitVec.ofNat 32 (crd a t 1).val).toNat] = _
  rw [tile_word a.1 (crd a t) r h0, show (a.1 0 : S72.Idx → BitVec 32) (ix1 r) = BitVec.ofNat 32 e.val from he,
    word_val _ (by omega), word_val _ (by omega), h1]

theorem idx_2 : ((cfgA a).win (2 : Fin 5)).index t = ![e.val, 0, 2 + p.val] := by
  show ![(a.1.at 0 (Rect.unit (s := S72) (k0_off1 (crd a t)) S1.size (k0_off1_inb (crd a t))) numel1_S1 : BitVec 32).toNat, 0, (2#32 + BitVec.ofNat 32 (crd a t 1).val).toNat] = _
  rw [tile_word a.1 (crd a t) r h0, show (a.1 0 : S72.Idx → BitVec 32) (ix1 r) = BitVec.ofNat 32 e.val from he,
    word_val _ (by omega), BitVec.toNat_add, h1, word_val p.val (by omega), show ((2#32).toNat + p.val) % 2 ^ 32 = 2 + p.val from by show (2 + p.val) % 4294967296 = _; omega]

theorem idx_3 : ((cfgA a).win (3 : Fin 5)).index t = ![e.val, p.val, 0] := by
  show ![(a.1.at 0 (Rect.unit (s := S72) (k0_off1 (crd a t)) S1.size (k0_off1_inb (crd a t))) numel1_S1 : BitVec 32).toNat, (BitVec.ofNat 32 (crd a t 1).val).toNat, 0] = _
  rw [tile_word a.1 (crd a t) r h0, show (a.1 0 : S72.Idx → BitVec 32) (ix1 r) = BitVec.ofNat 32 e.val from he,
    word_val _ (by omega), word_val _ (by omega), h1]

variable (m : (ℓ : Loc nD τ sig) → Buf (Elt Ideal) ℓ) (c : Dev nD)

omit h1 he in
/-- The rows' block. -/
theorem iblk_0 (i : Fin 512) (k : Fin 1024) :
    iblk a m c (0 : Fin 5) t (ix2 i k : S512x1024.Idx) = m ((c.tc : Thread nD τ).loc main_arg0) (ix2 ⟨512 * r.val + i.val, by omega⟩ k : S36864x1024.Idx) := by
  blk_simp [iblk]
  refine congrArg _ (ix2_ext _ ?_ ?_) <;> blk_simp [idx_0 a t r h0] <;> first | rfl | (show r.val * 512 + i.val = 512 * r.val + i.val; omega)

/-- The gate's block. -/
theorem iblk_1 (k : Fin 1024) (j : Fin 1792) :
    iblk a m c (1 : Fin 5) t (ix3 0 k j : S1x1024x1792.Idx) = m ((c.tc : Thread nD τ).loc main_arg1) (ix3 e k ⟨1792 * p.val + j.val, by omega⟩ : S8x1024x7168.Idx) := by
  blk_simp [iblk]
  refine congrArg _ (ix3_ext _ ?_ ?_ ?_) <;> blk_simp [idx_1 a t r e p h0 h1 he] <;> first | rfl | (show p.val * 1792 + j.val = 1792 * p.val + j.val; omega)

/-- The up projection's block. -/
theorem iblk_2 (k : Fin 1024) (j : Fin 1792) :
    iblk a m c (2 : Fin 5) t (ix3 0 k j : S1x1024x1792.Idx) = m ((c.tc : Thread nD τ).loc main_arg1) (ix3 e k ⟨3584 + (1792 * p.val + j.val), by omega⟩ : S8x1024x7168.Idx) := by
  blk_simp [iblk]
  refine congrArg _ (ix3_ext _ ?_ ?_ ?_) <;> blk_simp [idx_2 a t r e p h0 h1 he] <;> first | rfl | (show (2 + p.val) * 1792 + j.val = 3584 + (1792 * p.val + j.val); omega)

/-- The down projection's block. -/
theorem iblk_3 (j : Fin 1792) (q : Fin 1024) :
    iblk a m c (3 : Fin 5) t (ix3 0 j q : S1x1792x1024.Idx) = m ((c.tc : Thread nD τ).loc main_arg2) (ix3 e ⟨1792 * p.val + j.val, by omega⟩ q : S8x3584x1024.Idx) := by
  blk_simp [iblk]
  refine congrArg _ (ix3_ext _ ?_ ?_ ?_) <;> blk_simp [idx_3 a t r e p h0 h1 he] <;> first | rfl | (show p.val * 1792 + j.val = 1792 * p.val + j.val; omega)

/-- A point's partial result at an index, from the arrays: the sum over its chunk's hidden units. -/
theorem pay1_iblk (i : Fin 512) (q : Fin 1024) :
    k0_pay1 (iblk a m c (0 : Fin 5) t) (iblk a m c (1 : Fin 5) t) (iblk a m c (2 : Fin 5) t) (iblk a m c (3 : Fin 5) t) (ix2 i q)
      = ∑ j : Fin 1792, hid (fun i k => m ((c.tc : Thread nD τ).loc main_arg0) (ix2 i k : S36864x1024.Idx)) (fun e k j => m ((c.tc : Thread nD τ).loc main_arg1) (ix3 e k j : S8x1024x7168.Idx)) e ⟨512 * r.val + i.val, by omega⟩ ⟨1792 * p.val + j.val, by omega⟩
        * m ((c.tc : Thread nD τ).loc main_arg2) (ix3 e ⟨1792 * p.val + j.val, by omega⟩ q : S8x3584x1024.Idx) := by
  rw [pay1_at]
  simp only [iblk_0 a t r p h0 m c, iblk_1 a t r e p h0 h1 he m c, iblk_2 a t r e p h0 h1 he m c, iblk_3 a t r e p h0 h1 he m c]
  unfold hid
  rfl

end

end Cert.Kernel2Ideal.Experts

end
-- ==== Proof.Experts.Pre.lean ====
/- What the experts' precondition says of the table: every tile names one of the eight experts. -/
module

public import proofs.«01_k».proof.Proof.Gen.Pre_experts_named
public import Idealize.ShloMosaic.Lib.WordCmp
public import Idealize.ShloMosaic.Lib.ReduceAll

@[expose] public section

noncomputable section

namespace Cert.Experts

open Idealize.ShloMosaic

theorem eq_true_of_ofBool {b : Bool} (h : BitVec.ofBool b = 1#1) : b = true := by
  cases b
  · exact absurd h (by decide)
  · rfl

/-- Under the precondition a tile's word is at most seven. -/
theorem word_le {F : FTy → Type} [FloatOps F] (x : FVec F ⟨2, ![36864, 1024]⟩ .f32) (w : FVec F ⟨3, ![8, 1024, 7168]⟩ .f32) (d : FVec F ⟨3, ![8, 3584, 1024]⟩ .f32)
    (te : IVec ⟨1, ![72]⟩ 32) (n : IVec ⟨1, ![1]⟩ 32) (h : Cert.Pre_experts_named.fn (F := F) x w d te n = fun _ => 1#1) (i : (⟨1, ![72]⟩ : Shape).Idx) :
    (te i).toNat ≤ 7 := by
  have h0 : IntOp.andi (IntOp.cmpi .sge (te i) 0#32) (IntOp.cmpi .sle (te i) 7#32) = 1#1 := congrFun h i
  obtain ⟨h1, h2⟩ := IntOp.andi_eq_one.1 h0
  rw [WordCmp.cmpi_sge_zero] at h1
  have h3 := of_decide_eq_true (eq_true_of_ofBool h1)
  rw [WordCmp.cmpi_sle_of_lt h3 (by decide)] at h2
  exact of_decide_eq_true (eq_true_of_ofBool h2)

end Cert.Experts

end
-- ==== Proof.Experts.Frame.lean ====
/- The expert kernel's run under the precondition. -/
module

public import proofs.«01_k».proof.Proof.Experts.Run
public import proofs.«01_k».proof.Proof.Experts.Pre

@[expose] public section

set_option maxRecDepth 16384

noncomputable section

namespace Cert.Kernel2Ideal.Experts

open Idealize.ShloMosaic Idealize.ShloMosaic.TcCoe Idealize.SL.Sem
open Cert.Kernel2Ideal Cert.Kernel2Ideal.Gen

variable {F : FTy → Type} [FloatOps F]

variable (m : (ℓ : Loc nD τ sig) → Buf (Elt F) ℓ) (ρ : Dev nD → PrngReg)

/-- The precondition at a memory: every tile names one of the eight experts. -/
abbrev Named : Prop := ∀ c : Dev nD, (Cert.Pre_experts_named.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) = fun _ => 1#1

/-- The tables in the memory, on the one device. -/
def tables : pre0.Contents (Elt F) := fun j => m (((0 : Dev nD) : Thread nD τ).loc (pre0.ref j))

/-- They are admissible under the precondition. -/
def adm (h : Named m) : (pcfg0 (F := F)).Adm := ⟨tables m, tables_ok (tables m) fun i => Cert.Experts.word_le _ _ _ _ _ (h 0) i⟩

theorem tables_eq (h : Named m) (c : Dev nD) (j : Fin 2) : m ((c : Thread nD τ).loc (pre0.ref j)) = (adm m h).1 j := by
  obtain rfl : c = 0 := Subsingleton.elim _ _
  rfl

/-- Under the precondition the kernel ends with its result at what the pipeline computes, its arguments unchanged and every
    semaphore at zero. -/
theorem run_named (h : Named m) :
    θ_run (defs (F := F)) (onTc (τ := τ) (main (F := F))) ⟨m, fun _ => 0, ρ⟩ (fun r => (∀ c : Dev nD,
      r.2.mem ((c.tc : Thread nD τ).loc main_v0) = (dats (adm m h) m 0 c).arrAt (4 : Fin 5) (cfgA (adm m h)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  run_result (adm m h) m ρ (tables_eq m h)

/-- Under the precondition the kernel ends with its arguments unchanged and every semaphore at zero. -/
theorem frame_named (h : Named m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_named m ρ h)

end Cert.Kernel2Ideal.Experts

end
-- ==== Proof.Experts.Ref.lean ====
/- The experts' reference at an index: its operations in stages, each read at an index. -/
module

public import proofs.«01_k».proof.Proof.Gen.Reference2Ideal.Run
public import proofs.«01_k».proof.Proof.Experts.Spec
public import Idealize.ShloMosaic.Lib.Pointwise
public import Idealize.ShloMosaic.Lib.WordCmp

@[expose] public section

set_option maxRecDepth 16384

noncomputable section

namespace Cert.Reference2Ideal.Experts

open Idealize.ShloMosaic Idealize.ShloMosaic.TcCoe Idealize.SL.Sem
open Cert.Reference2Ideal Cert.Reference2Ideal.Value Cert.Reference2Ideal.Gen Cert.Reference2Ideal.Facts

/-- One expert's gate and up projection of every row. -/
def gu (o : Fin 3 → ℕ) (h : S8x1024x7168.Slices o S1x1024x7168) (x : FVec Ideal S36864x1024 .f32) (w : FVec Ideal S8x1024x7168 .f32) : FVec Ideal S36864x7168 .f32 :=
  Host.dotGeneral dot_S36864x1024_S1024x7168_S36864x7168_1_0_0_1_n_n none x (shapeCast _ (extractStridedSlice S1x1024x7168 o w h) shapeCasts_S1x1024x7168_S1024x7168)

/-- The gate times its sigmoid times the up projection. -/
def act (p : FVec Ideal S36864x7168 .f32) : FVec Ideal S36864x3584 .f32 :=
  mulf (mulf (extractStridedSlice S36864x3584 ![0, 0] p slices_S36864x7168_S36864x3584_0_0) (Host.divf (broadcastInDim S36864x3584 ![] bcast_S_S36864x3584 (constant S_ .f32 0x3F800000#32)) (addf (broadcastInDim S36864x3584 ![] bcast_S_S36864x3584 (constant S_ .f32 0x3F800000#32)) (Host.exp (Host.negf (extractStridedSlice S36864x3584 ![0, 0] p slices_S36864x7168_S36864x3584_0_0)))))) (extractStridedSlice S36864x3584 ![0, 3584] p slices_S36864x7168_S36864x3584_0_3584)

/-- One expert's down projection. -/
def dn (o : Fin 3 → ℕ) (h : S8x3584x1024.Slices o S1x3584x1024) (a : FVec Ideal S36864x3584 .f32) (w : FVec Ideal S8x3584x1024 .f32) : FVec Ideal S36864x1024 .f32 :=
  Host.dotGeneral dot_S36864x3584_S3584x1024_S36864x1024_1_0_0_1_n_n none a (shapeCast _ (extractStridedSlice S1x3584x1024 o w h) shapeCasts_S1x3584x1024_S3584x1024)

/-- Each row's weight for each expert. -/
def comb (te : IVec S72 32) (n : IVec S1 32) : FVec Ideal S36864x8 .f32 :=
  shapeCast _ (broadcastInDim S72x512x8 ![0, 1, 2] bcast_S72x1x8_S72x512x8_0_1_2 (broadcastInDim S72x1x8 ![0, 2] bcast_S72x8_S72x1x8_0_2 (select (broadcastInDim S72x8 ![0, 1] bcast_S72x1_S72x8_0_1 (broadcastInDim S72x1 ![0] bcast_S72_S72x1_0 (cmpi .slt (iotaInDim S72 32 0) (broadcastInDim S72 ![0] bcast_S1_S72_0 n)))) (uitofp .f32 (cmpi .eq (broadcastInDim S72x8 ![0, 1] bcast_S72x1_S72x8_0_1 (broadcastInDim S72x1 ![0] bcast_S72_S72x1_0 te)) (broadcastInDim S72x8 ![0, 1] bcast_S1x8_S72x8_0_1 (iotaInDim S1x8 32 1)))) (broadcastInDim S72x8 ![] bcast_S_S72x8 (id (constant S_ .f32 0x00000000#32)))))) shapeCasts_S72x512x8_S36864x8

/-- One expert's weight spread over the columns. -/
def col (o : Fin 2 → ℕ) (h : S36864x8.Slices o S36864x1) (cb : FVec Ideal S36864x8 .f32) : FVec Ideal S36864x1024 .f32 :=
  broadcastInDim S36864x1024 ![0, 1] bcast_S36864x1_S36864x1024_0_1 (extractStridedSlice S36864x1 o cb h)

/-- A gate or up projection at an index. -/
theorem gu_at (e : Fin 8) (h : S8x1024x7168.Slices ![e.val, 0, 0] S1x1024x7168) (x : FVec Ideal S36864x1024 .f32) (w : FVec Ideal S8x1024x7168 .f32) (i : Fin 36864) (j : Fin 7168) :
    gu ![e.val, 0, 0] h x w (ix2 i j) = ∑ k : Fin 1024, (x (ix2 i k) : EReal) * w (ix3 e k j) := by
  pointwise [gu]

/-- The activation at an index. -/
theorem act_at (p : FVec Ideal S36864x7168 .f32) (i : Fin 36864) (j : Fin 3584) :
    act p (ix2 i j) = (p (ix2 i ⟨j.val, by omega⟩) : EReal) * Ideal.div 1 (1 + Ideal.exp (-(p (ix2 i ⟨j.val, by omega⟩) : EReal))) * p (ix2 i ⟨3584 + j.val, by omega⟩) := by
  pointwise [act]

/-- A down projection at an index. -/
theorem dn_at (e : Fin 8) (h : S8x3584x1024.Slices ![e.val, 0, 0] S1x3584x1024) (a : FVec Ideal S36864x3584 .f32) (w : FVec Ideal S8x3584x1024 .f32) (i : Fin 36864) (q : Fin 1024) :
    dn ![e.val, 0, 0] h a w (ix2 i q) = ∑ j : Fin 3584, (a (ix2 i j) : EReal) * w (ix3 e j q) := by
  pointwise [dn]

/-- A weight spread over the columns, at an index. -/
theorem col_at (e : Fin 8) (h : S36864x8.Slices ![0, e.val] S36864x1) (cb : FVec Ideal S36864x8 .f32) (i : Fin 36864) (q : Fin 1024) :
    col ![0, e.val] h cb (ix2 i q) = cb (ix2 i e) := by
  pointwise [col]

/-- A row's weight for an expert. -/
theorem comb_at (te : IVec S72 32) (n : IVec S1 32) (r : Fin 72) (i : Fin 512) (e : Fin 8) :
    comb te n (ix2 ⟨512 * r.val + i.val, by omega⟩ e)
      = if (BitVec.ofNat 32 r.val).slt (n (ix1 0)) = true then (if te (ix1 r) = BitVec.ofNat 32 e.val then (1 : EReal) else 0) else 0 := by
  pointwise [comb]
  have e0 : (id (constant (F := Ideal) S_ FTy.f32 0#32) ix0 : EReal) = 0 := Ideal.ofBits_zero FTy.f32
  rw [e0]
  show (if BitVec.ofBool ((BitVec.ofNat 32 r.val).slt (n (ix1 0))) = 1#1 then (((BitVec.ofBool (te (ix1 r) == BitVec.ofNat 32 e.val)).toNat : ℝ) : EReal) else 0) = _
  cases (BitVec.ofNat 32 r.val).slt (n (ix1 0))
  · simp
  · by_cases h : te (ix1 r) = BitVec.ofNat 32 e.val
    · simp [h]
    · simp [h]

/-- The zeros the sum over the experts starts from. -/
def zeros : FVec Ideal S36864x1024 .f32 := broadcastInDim S36864x1024 ![] bcast_S_S36864x1024 (constant S_ .f32 0x00000000#32)

/-- One expert's weighted output. -/
def term (e : Fin 8) (h1 : S8x1024x7168.Slices ![e.val, 0, 0] S1x1024x7168) (h2 : S36864x8.Slices ![0, e.val] S36864x1) (h3 : S8x3584x1024.Slices ![e.val, 0, 0] S1x3584x1024)
    (x : FVec Ideal S36864x1024 .f32) (w : FVec Ideal S8x1024x7168 .f32) (d : FVec Ideal S8x3584x1024 .f32) (te : IVec S72 32) (n : IVec S1 32) : FVec Ideal S36864x1024 .f32 :=
  mulf (col ![0, e.val] h2 (comb te n)) (dn ![e.val, 0, 0] h3 (act (gu ![e.val, 0, 0] h1 x w)) d)

/-- One expert's weighted output at an index. -/
theorem term_at (e : Fin 8) (h1 : S8x1024x7168.Slices ![e.val, 0, 0] S1x1024x7168) (h2 : S36864x8.Slices ![0, e.val] S36864x1) (h3 : S8x3584x1024.Slices ![e.val, 0, 0] S1x3584x1024)
    (x : FVec Ideal S36864x1024 .f32) (w : FVec Ideal S8x1024x7168 .f32) (d : FVec Ideal S8x3584x1024 .f32) (te : IVec S72 32) (n : IVec S1 32) (r : Fin 72) (i : Fin 512) (q : Fin 1024) :
    term e h1 h2 h3 x w d te n (ix2 ⟨512 * r.val + i.val, by omega⟩ q)
      = (if (BitVec.ofNat 32 r.val).slt (n (ix1 0)) = true then (if te (ix1 r) = BitVec.ofNat 32 e.val then (1 : EReal) else 0) else 0)
        * Cert.Experts.mlp (fun i k => x (ix2 i k)) (fun e k j => w (ix3 e k j)) (fun e j q => d (ix3 e j q)) e ⟨512 * r.val + i.val, by omega⟩ q := by
  rw [term, mulf_apply, col_at, comb_at, dn_at]
  simp only [act_at, gu_at]
  rfl

/-- The experts' outputs summed. -/
def total (x : FVec Ideal S36864x1024 .f32) (w : FVec Ideal S8x1024x7168 .f32) (d : FVec Ideal S8x3584x1024 .f32) (te : IVec S72 32) (n : IVec S1 32) : FVec Ideal S36864x1024 .f32 :=
  addf (addf (addf (addf (addf (addf (addf (addf (zeros) (term 0 slices_S8x1024x7168_S1x1024x7168_0_0_0 slices_S36864x8_S36864x1_0_0 slices_S8x3584x1024_S1x3584x1024_0_0_0 x w d te n)) (term 1 slices_S8x1024x7168_S1x1024x7168_1_0_0 slices_S36864x8_S36864x1_0_1 slices_S8x3584x1024_S1x3584x1024_1_0_0 x w d te n)) (term 2 slices_S8x1024x7168_S1x1024x7168_2_0_0 slices_S36864x8_S36864x1_0_2 slices_S8x3584x1024_S1x3584x1024_2_0_0 x w d te n)) (term 3 slices_S8x1024x7168_S1x1024x7168_3_0_0 slices_S36864x8_S36864x1_0_3 slices_S8x3584x1024_S1x3584x1024_3_0_0 x w d te n)) (term 4 slices_S8x1024x7168_S1x1024x7168_4_0_0 slices_S36864x8_S36864x1_0_4 slices_S8x3584x1024_S1x3584x1024_4_0_0 x w d te n)) (term 5 slices_S8x1024x7168_S1x1024x7168_5_0_0 slices_S36864x8_S36864x1_0_5 slices_S8x3584x1024_S1x3584x1024_5_0_0 x w d te n)) (term 6 slices_S8x1024x7168_S1x1024x7168_6_0_0 slices_S36864x8_S36864x1_0_6 slices_S8x3584x1024_S1x3584x1024_6_0_0 x w d te n)) (term 7 slices_S8x1024x7168_S1x1024x7168_7_0_0 slices_S36864x8_S36864x1_0_7 slices_S8x3584x1024_S1x3584x1024_7_0_0 x w d te n)

/-- The sum at an index: a used tile's expert's output, and zero in an unused tile. -/
theorem total_at (x : FVec Ideal S36864x1024 .f32) (w : FVec Ideal S8x1024x7168 .f32) (d : FVec Ideal S8x3584x1024 .f32) (te : IVec S72 32) (n : IVec S1 32) (r : Fin 72) (i : Fin 512) (q : Fin 1024)
    (e : Fin 8) (he : te (ix1 r) = BitVec.ofNat 32 e.val) :
    total x w d te n (ix2 ⟨512 * r.val + i.val, by omega⟩ q)
      = if (BitVec.ofNat 32 r.val).slt (n (ix1 0)) = true then
          Cert.Experts.mlp (fun i k => x (ix2 i k)) (fun e k j => w (ix3 e k j)) (fun e j q => d (ix3 e j q)) e ⟨512 * r.val + i.val, by omega⟩ q
        else 0 := by
  have hz : (zeros (ix2 ⟨512 * r.val + i.val, by omega⟩ q) : EReal) = 0 := Ideal.ofBits_zero FTy.f32
  rw [total]
  simp only [addf_apply, hz, term_at, he]
  by_cases hu : (BitVec.ofNat 32 r.val).slt (n (ix1 0)) = true
  · simp only [hu, if_true]
    fin_cases e <;> simp
  · simp only [hu]
    simp

variable (m : (ℓ : Loc nD τ sig) → Buf (Elt Ideal) ℓ) (ρ : Dev nD → PrngReg)

/-- A run of the reference ends with the experts' outputs summed in its result and its arguments unchanged. -/
theorem run_total : θ_run defs (onTc (τ := τ) (main (F := Ideal))) ⟨m, fun _ => 0, ρ⟩ fun r => ∀ c : Dev nD,
      r.2.mem ((c.tc : Thread nD τ).loc main_v121) = total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Cert.Reference2Ideal.Experts

end
-- ==== Proof.Experts.Value.lean ====
/- THE EXPERTS' VALUE CLAIM: the expert kernel and the sum over the experts compute the same result. -/
module

public import proofs.«01_k».proof.Defs
public import proofs.«01_k».proof.Proof.Experts.Blocks
public import proofs.«01_k».proof.Proof.Experts.Frame
public import proofs.«01_k».proof.Proof.Experts.Ref

@[expose] public section

set_option maxRecDepth 16384

noncomputable section

namespace Cert.Kernel2Ideal.Experts

open Idealize.ShloMosaic Idealize.ShloMosaic.TcCoe Idealize.SL.Sem
open Cert.Kernel2Ideal Cert.Kernel2Ideal.Gen
open Cert.Experts (ix2_ext ix3_ext hid mlp sum_chunks)

section
variable (a : (pcfg0 (F := Ideal)).Adm) (m : (ℓ : Loc nD τ sig) → Buf (Elt Ideal) ℓ) (c : Dev nD)

/-- Every block of the result is written back, at its tile's second point. -/
theorem covers : ((cfgA a).win (4 : Fin 5)).Covers := by
  refine ⟨fun x => by
    match x with
    | ⟨0, _⟩ => show 0 < 512; decide
    | ⟨1, _⟩ => show 0 < 1024; decide, fun β => ?_⟩
  have hβ0 : (β (0 : Fin 2)).val < 72 := lt_of_lt_of_eq (β (0 : Fin 2)).isLt (by show (36864 + 512 - 1) / 512 = 72; decide)
  have hβ1 : (β (1 : Fin 2)).val < 1 := lt_of_lt_of_eq (β (1 : Fin 2)).isLt (by show (1024 + 1024 - 1) / 1024 = 1; decide)
  have hN : 2 * (β (0 : Fin 2)).val + 1 < (cfgA a).N := by show _ < grid0.N; rw [N_0]; omega
  have h0 : (crd a ⟨2 * (β (0 : Fin 2)).val + 1, hN⟩ 0).val = (⟨(β (0 : Fin 2)).val, hβ0⟩ : Fin 72).val := by
    rw [coord0]; show (2 * (β (0 : Fin 2)).val + 1) / 2 = (β (0 : Fin 2)).val; omega
  refine ⟨⟨2 * (β (0 : Fin 2)).val + 1, hN⟩, (flush_eq a _).trans (decide_eq_true (by show (2 * (β (0 : Fin 2)).val + 1) % 2 = 1; omega)), fun x => ⟨?_, .inl ?_⟩⟩
  · rw [idx_4 a _ ⟨(β (0 : Fin 2)).val, hβ0⟩ h0]
    match x with
    | ⟨0, _⟩ => rfl
    | ⟨1, _⟩ => exact (Nat.lt_one_iff.1 hβ1).symm
  · rfl

/-- The output block of a tile at an index: the tile's expert's output, or zero. -/
theorem outBlk_at (t : Fin (cfgA a).N) (r : Fin 72) (e : Fin 8) (ht : t.val % 2 = 1) (h0 : (crd a t 0).val = r.val)
    (he : (T0 a (ix1 r) : BitVec 32) = BitVec.ofNat 32 e.val) (i : Fin 512) (q : Fin 1024) :
    outBlk a m c t (ix2 i q) = if (BitVec.ofNat 32 r.val).slt (T1 a (ix1 0)) = true then
      mlp (fun i k => m ((c.tc : Thread nD τ).loc main_arg0) (ix2 i k : S36864x1024.Idx)) (fun e k j => m ((c.tc : Thread nD τ).loc main_arg1) (ix3 e k j : S8x1024x7168.Idx))
        (fun e j q => m ((c.tc : Thread nD τ).loc main_arg2) (ix3 e j q : S8x3584x1024.Idx)) e ⟨512 * r.val + i.val, by omega⟩ q
      else 0 := by
  have hu : Used a t ↔ (BitVec.ofNat 32 r.val).slt (T1 a (ix1 0)) = true := by
    have e1 : word (T1 a) = T1 a (ix1 0) := congrArg (T1 a) (by funext x; refine Fin.ext ?_; fin_cases x; rfl)
    show k0_cond1 (grid0.coords t) (word (T1 a)) = 1#1 ↔ _
    rw [used_iff, e1, show (grid0.coords t 0).val = r.val from h0]
  have h1 : (crd a t 1).val = (1 : Fin 2).val := by rw [coord1]; exact ht
  have h0' : (crd a (before1 a t) 0).val = r.val := by
    rw [← h0, coord0, coord0]; show (t.val - 1) / 2 = t.val / 2; omega
  have h1' : (crd a (before1 a t) 1).val = (0 : Fin 2).val := by
    rw [coord1]; show (t.val - 1) % 2 = 0; omega
  unfold outBlk
  by_cases h : Used a t
  · rw [if_pos h, if_pos (hu.1 h), pay3_at]
    unfold part
    rw [pay2_at, pay1_iblk a (before1 a t) r e 0 h0' h1' he m c, pay1_iblk a t r e 1 h0 h1 he m c]
    exact sum_chunks (fun j => hid (fun i k => m ((c.tc : Thread nD τ).loc main_arg0) (ix2 i k : S36864x1024.Idx)) (fun e k j => m ((c.tc : Thread nD τ).loc main_arg1) (ix3 e k j : S8x1024x7168.Idx)) e ⟨512 * r.val + i.val, by omega⟩ j
      * m ((c.tc : Thread nD τ).loc main_arg2) (ix3 e j q : S8x3584x1024.Idx))
  · rw [if_neg h, if_neg fun g => h (hu.2 g), pay4_at]

/-- The result array at a row of a tile and a column. -/
theorem result_at (r : Fin 72) (e : Fin 8) (her : (T0 a (ix1 r) : BitVec 32) = BitVec.ofNat 32 e.val) (i : Fin 512) (q : Fin 1024) :
    (dats a m 0 c).arrAt (4 : Fin 5) (cfgA a).N (ix2 ⟨512 * r.val + i.val, by omega⟩ q : S36864x1024.Idx)
      = if (BitVec.ofNat 32 r.val).slt (T1 a (ix1 0)) = true then
      mlp (fun i k => m ((c.tc : Thread nD τ).loc main_arg0) (ix2 i k : S36864x1024.Idx)) (fun e k j => m ((c.tc : Thread nD τ).loc main_arg1) (ix3 e k j : S8x1024x7168.Idx))
        (fun e j q => m ((c.tc : Thread nD τ).loc main_arg2) (ix3 e j q : S8x3584x1024.Idx)) e ⟨512 * r.val + i.val, by omega⟩ q
      else 0 := by
  refine (dats a m 0 c).arrAt_forall_of_covers (4 : Fin 5) (fun x v => ∀ (r : Fin 72) (e : Fin 8) (i : Fin 512) (q : Fin 1024), (T0 a (ix1 r) : BitVec 32) = BitVec.ofNat 32 e.val →
    x = (ix2 ⟨512 * r.val + i.val, by omega⟩ q : S36864x1024.Idx) → v = if (BitVec.ofNat 32 r.val).slt (T1 a (ix1 0)) = true then
      mlp (fun i k => m ((c.tc : Thread nD τ).loc main_arg0) (ix2 i k : S36864x1024.Idx)) (fun e k j => m ((c.tc : Thread nD τ).loc main_arg1) (ix3 e k j : S8x1024x7168.Idx))
        (fun e j q => m ((c.tc : Thread nD τ).loc main_arg2) (ix3 e j q : S8x3584x1024.Idx)) e ⟨512 * r.val + i.val, by omega⟩ q
      else 0) (covers a) (fun t hf y => ?_) _ (Memref.isWhole_whole _) r e i q her rfl
  blk_simp
  rw [after_4]
  intro r e i q her hx
  have ht : t.val % 2 = 1 := of_decide_eq_true ((flush_eq a t).symm.trans hf)
  have hc := c0_lt (crd a t)
  have e0 := congrArg (fun x => (x 0).val) hx
  have e1 := congrArg (fun x => (x 1).val) hx
  blk_simp [idx_4 a t ⟨(crd a t 0).val, hc⟩ rfl] at e0 e1
  change S512x1024.Idx at y
  have hy : (y 0).val < 512 := (y 0).isLt
  replace e0 : (crd a t 0).val * 512 + (y 0).val = 512 * r.val + i.val := e0
  rw [← outBlk_at a m c t r e ht (by omega) her i q]
  exact congrArg (outBlk a m c t) (ix2_ext y (by omega) (by simpa using e1))

end

end Cert.Kernel2Ideal.Experts

namespace Cert.Experts

open Idealize.ShloMosaic Idealize.ShloMosaic.TcCoe Idealize.SL.Sem
open Cert.Kernel2Ideal.Experts (result_at adm tables_eq run_named Named)

/-- THE VALUE CLAIM OF THE EXPERTS: where every tile names one of the eight experts, the idealized kernel and the reference
    compute one and the same result. -/
theorem algebraic : Cert.algebraic_Kernel2Ideal_Reference2Ideal := by
  intro m g m' g' hpre hagree
  refine ⟨_, (θ_run Kernel2Ideal.defs _ _).mono (fun _ h => h.1) (run_named m g hpre), ?_⟩
  refine (θ_run Reference2Ideal.defs _ _).mono (fun _ h c => ⟨(h c).1.trans ?_, (h c).2⟩) (Reference2Ideal.Experts.run_total m' g')
  obtain ⟨h0, h1, h2, h3, h4⟩ := hagree c
  have hw : ∀ r : Fin 72, (m ((c.tc : Thread Kernel2Ideal.nD Kernel2Ideal.τ).loc Kernel2Ideal.main_arg3) (ix1 r : Kernel2Ideal.S72.Idx) : BitVec 32).toNat ≤ 7 :=
    fun r => word_le _ _ _ _ _ (hpre c) _
  have t0 := tables_eq m hpre c 0
  have t1 := tables_eq m hpre c 1
  funext y
  obtain ⟨r, i, q, rfl⟩ : ∃ (r : Fin 72) (i : Fin 512) (q : Fin 1024), y = (ix2 ⟨512 * r.val + i.val, by omega⟩ q : Kernel2Ideal.S36864x1024.Idx) := by
    have hy : (y 0).val < 36864 := (y 0).isLt
    exact ⟨⟨(y 0).val / 512, by omega⟩, ⟨(y 0).val % 512, by omega⟩, y 1, ix2_ext y (by show (y 0).val = 512 * ((y 0).val / 512) + (y 0).val % 512; omega) rfl⟩
  obtain ⟨e, he⟩ : ∃ e : Fin 8, m ((c.tc : Thread Kernel2Ideal.nD Kernel2Ideal.τ).loc Kernel2Ideal.main_arg3) (ix1 r : Kernel2Ideal.S72.Idx) = BitVec.ofNat 32 e.val :=
    ⟨⟨_, Nat.lt_succ_of_le (hw r)⟩, (by simp)⟩
  have hr := result_at (adm m hpre) m c r e ((congrFun t0 _).symm.trans he) i q
  refine Eq.trans ?_ hr.symm
  rw [h0, h1, h2, h3, h4]
  refine (Reference2Ideal.Experts.total_at _ _ _ _ _ r i q e he).trans ?_
  exact if_congr (by rw [show Kernel2Ideal.Experts.T1 (adm m hpre) = _ from t1.symm]; exact Iff.rfl) rfl rfl

end Cert.Experts

end
-- ==== Proof.Ffn.Ref.lean ====
/- The dense reference at an index: its operations in stages, each read at an index. -/
module

public import proofs.«01_k».proof.Proof.Gen.Reference3Ideal.Run
public import proofs.«01_k».proof.Proof.Ffn.Spec
public import Idealize.ShloMosaic.Lib.Pointwise

@[expose] public section

set_option maxRecDepth 16384

noncomputable section

namespace Cert.Reference3Ideal.Ffn

open Idealize.ShloMosaic Idealize.ShloMosaic.TcCoe Idealize.SL.Sem
open Cert.Reference3Ideal Cert.Reference3Ideal.Value Cert.Reference3Ideal.Gen Cert.Reference3Ideal.Facts
open Cert.Ffn (hid mean)

/-- The gate and up projection of every row. -/
def gu (x : FVec Ideal S8x2048x1024 .f32) (w : FVec Ideal S1024x5632 .f32) : FVec Ideal S8x2048x5632 .f32 :=
  Host.dotGeneral dot_S8x2048x1024_S1024x5632_S8x2048x5632_2_0_01_1_n_n none x w

/-- The gate times its sigmoid times the up projection. -/
def act (p : FVec Ideal S8x2048x5632 .f32) : FVec Ideal S8x2048x2816 .f32 :=
  mulf (mulf (extractStridedSlice S8x2048x2816 ![0, 0, 0] p slices_S8x2048x5632_S8x2048x2816_0_0_0) (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf (extractStridedSlice S8x2048x2816 ![0, 0, 0] p slices_S8x2048x5632_S8x2048x2816_0_0_0)))))) (extractStridedSlice S8x2048x2816 ![0, 0, 2816] p slices_S8x2048x5632_S8x2048x2816_0_0_2816)

/-- The scaled rows plus the down projection. -/
def total (x : FVec Ideal S8x2048x1024 .f32) (a : FVec Ideal S8x2048x2816 .f32) (d : FVec Ideal S2816x1024 .f32) : FVec Ideal S8x2048x1024 .f32 :=
  addf (mulf (broadcastInDim S8x2048x1024 ![] bcast_S_S8x2048x1024 (constant S_ .f32 0x3FD744FD#32)) x) (Host.dotGeneral dot_S8x2048x2816_S2816x1024_S8x2048x1024_2_0_01_1_n_n none a d)

/-- Each row's mean. -/
def avg (h : FVec Ideal S8x2048x1024 .f32) : FVec Ideal S8x2048x1 .f32 :=
  Host.divf (broadcastInDim S8x2048x1 ![0, 1] bcast_S8x2048_S8x2048x1_0_1 (Host.reduceAdd h (constant S_ .f32 0x00000000#32) reducesTo_S8x2048x1024_S8x2048_d2 h_S_)) (broadcastInDim S8x2048x1 ![] bcast_S_S8x2048x1 (constant S_ .f32 0x44800000#32))

/-- Each row less its mean. -/
def ctr (h : FVec Ideal S8x2048x1024 .f32) : FVec Ideal S8x2048x1024 .f32 :=
  subf h (broadcastInDim S8x2048x1024 ![0, 1, 2] bcast_S8x2048x1_S8x2048x1024_0_1_2 (avg h))

/-- The rows normalised, scaled by the gains and shifted by the biases. -/
def norm (h : FVec Ideal S8x2048x1024 .f32) (g b : FVec Ideal S1024 .f32) : FVec Ideal S8x2048x1024 .f32 :=
  addf (mulf (mulf (ctr h) (broadcastInDim S8x2048x1024 ![0, 1, 2] bcast_S8x2048x1_S8x2048x1024_0_1_2 (Host.rsqrt (addf (avg (mulf (ctr h) (ctr h))) (broadcastInDim S8x2048x1 ![] bcast_S_S8x2048x1 (constant S_ .f32 0x3727C5AC#32)))))) (broadcastInDim S8x2048x1024 ![0, 1, 2] bcast_S1x1x1024_S8x2048x1024_0_1_2 (broadcastInDim S1x1x1024 ![2] bcast_S1024_S1x1x1024_2 g))) (broadcastInDim S8x2048x1024 ![0, 1, 2] bcast_S1x1x1024_S8x2048x1024_0_1_2 (broadcastInDim S1x1x1024 ![2] bcast_S1024_S1x1x1024_2 b))

section
variable (i : Fin 8) (s : Fin 2048)

/-- The gate or up projection at an index. -/
theorem gu_at (x : FVec Ideal S8x2048x1024 .f32) (w : FVec Ideal S1024x5632 .f32) (j : Fin 5632) :
    gu x w (ix3 i s j) = ∑ k : Fin 1024, (x (ix3 i s k) : EReal) * w (ix2 k j) := by
  pointwise [gu]

/-- The activation at an index. -/
theorem act_at (p : FVec Ideal S8x2048x5632 .f32) (j : Fin 2816) :
    act p (ix3 i s j) = (p (ix3 i s ⟨j.val, by omega⟩) : EReal) * Ideal.logistic (p (ix3 i s ⟨j.val, by omega⟩)) * p (ix3 i s ⟨2816 + j.val, by omega⟩) := by
  pointwise [act]
  rfl

/-- The residual at an index. -/
theorem total_at (x : FVec Ideal S8x2048x1024 .f32) (a : FVec Ideal S8x2048x2816 .f32) (d : FVec Ideal S2816x1024 .f32) (q : Fin 1024) :
    total x a d (ix3 i s q) = Ideal.ofBits FTy.f32 0x3FD744FD#32 * x (ix3 i s q) + ∑ j : Fin 2816, (a (ix3 i s j) : EReal) * d (ix2 j q) := by
  pointwise [total]

/-- A row's mean. -/
theorem avg_at (h : FVec Ideal S8x2048x1024 .f32) : avg h (ix3 i s 0) = mean fun q => h (ix3 i s q) := by
  pointwise [avg]
  rfl

/-- A row less its mean, at an index. -/
theorem ctr_at (h : FVec Ideal S8x2048x1024 .f32) (q : Fin 1024) : ctr h (ix3 i s q) = (h (ix3 i s q) : EReal) - mean fun q => h (ix3 i s q) := by
  rw [← avg_at]
  pointwise [ctr]

/-- The normalised rows at an index. -/
theorem norm_at (h : FVec Ideal S8x2048x1024 .f32) (g b : FVec Ideal S1024 .f32) (q : Fin 1024) :
    norm h g b (ix3 i s q) = Cert.Ffn.norm (fun q => h (ix3 i s q)) (fun q => g (ix1 q)) (fun q => b (ix1 q)) q := by
  pointwise [norm]
  rw [avg_at]
  simp only [mulf_apply, ctr_at]
  rfl

/-- The reference's result at an index: the normalised residual of the row. -/
theorem result_at (x : FVec Ideal S8x2048x1024 .f32) (w : FVec Ideal S1024x5632 .f32) (d : FVec Ideal S2816x1024 .f32) (g b : FVec Ideal S1024 .f32) (q : Fin 1024) :
    norm (total x (act (gu x w)) d) g b (ix3 i s q)
      = Cert.Ffn.norm (Cert.Ffn.res (fun k => x (ix3 i s k)) (fun k j => w (ix2 k j)) (fun j q => d (ix2 j q))) (fun q => g (ix1 q)) (fun q => b (ix1 q)) q := by
  rw [norm_at]
  simp only [total_at, act_at, gu_at]
  rfl

end

variable (m : (ℓ : Loc nD τ sig) → Buf (Elt Ideal) ℓ) (ρ : Dev nD → PrngReg)

/-- A run of the reference ends with the normalised residuals in its result and its arguments unchanged. -/
theorem run_norm : θ_run defs (onTc (τ := τ) (main (F := Ideal))) ⟨m, fun _ => 0, ρ⟩ fun r => ∀ c : Dev nD,
      r.2.mem ((c.tc : Thread nD τ).loc main_v32) = norm (total (m ((c.tc : Thread nD τ).loc main_arg0)) (act (gu (m ((c.tc : Thread nD τ).loc main_arg0)) (m ((c.tc : Thread nD τ).loc main_arg1)))) (m ((c.tc : Thread nD τ).loc main_arg2))) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Cert.Reference3Ideal.Ffn

end
-- ==== Proof.Ffn.Value.lean ====
/- THE DENSE NETWORK'S VALUE CLAIM: the dense kernel and its reference compute the same result. -/
module

public import proofs.«01_k».proof.Defs
public import proofs.«01_k».proof.Proof.Ffn.Blocks
public import proofs.«01_k».proof.Proof.Ffn.Ref

@[expose] public section

set_option maxRecDepth 16384

noncomputable section

namespace Cert.Ffn

open Idealize.ShloMosaic Idealize.ShloMosaic.TcCoe Idealize.SL.Sem

/-- THE VALUE CLAIM OF THE DENSE NETWORK WITH ITS RESIDUAL AND LAYER NORM: the idealized kernel and the reference compute one and
    the same result, from every memory. -/
theorem algebraic : Cert.algebraic_Kernel3Ideal_Reference3Ideal := by
  intro m g m' g' _ hagree
  refine ⟨fun c => Pipeline.afterTail₀ Kernel3Ideal.cfgs (Kernel3Ideal.Gen.dats m) 0 (Kernel3Ideal.Gen.V0 m) [Kernel3Ideal.Gen.hostOps1] c Kernel3Ideal.main_v6,
    (θ_run Kernel3Ideal.defs _ _).mono (fun _ h c => ⟨h.1.rest_eq c Kernel3Ideal.main_v6 (by decide), h.2 c⟩)
      (θ_run_and (Kernel3Ideal.Gen.run_main m g) (Kernel3Ideal.Gen.unchanged m g)), ?_⟩
  refine (θ_run Reference3Ideal.defs _ _).mono (fun _ h c => ⟨(h c).1.trans ?_, (h c).2⟩) (Reference3Ideal.Ffn.run_norm m' g')
  obtain ⟨h0, h1, h2, h3, h4⟩ := hagree c
  funext y
  obtain ⟨i, s, q, rfl⟩ : ∃ (i : Fin 8) (s : Fin 2048) (q : Fin 1024), y = (ix3 i s q : Kernel3Ideal.S8x2048x1024.Idx) :=
    ⟨y 0, y 1, y 2, ix3_ext y rfl rfl rfl⟩
  rw [h0, h1, h2, h3, h4]
  exact (Reference3Ideal.Ffn.result_at i s _ _ _ _ _ q).trans (Kernel3Ideal.Ffn.result_at m c i s q).symm

end Cert.Ffn

end
-- ==== Proof.Proj.Run4.lean ====
/- The kernel's run with its results: the launch over the segments, read at the result arrays. -/
module

public import proofs.«01_k».proof.Proof.Gen.Kernel4Ideal.Frame

@[expose] public section

set_option maxRecDepth 16384

noncomputable section

namespace Cert.Kernel4Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN'S VALUE: every execution of the kernel's @main ends with the result arrays at what the calls'
    write-backs leave in them, and the arguments as launched. -/
theorem run : θ_run defs (onTc (τ := τ) (main (F := F))) ⟨m, fun _ => 0, ρ⟩ (fun r => ∀ c : Dev nD,
      r.2.mem ((c.tc : Thread nD τ).loc main_v14) = W9 m ρ c (Proc.devRef .tc main_v14)
      ∧ r.2.mem ((c.tc : Thread nD τ).loc main_v15) = W9 m ρ c (Proc.devRef .tc main_v15)
      ∧ r.2.mem ((c.tc : Thread nD τ).loc main_v16) = W9 m ρ c (Proc.devRef .tc main_v16)
      ∧ r.2.mem ((c.tc : Thread nD τ).loc main_v17) = W9 m ρ c (Proc.devRef .tc main_v17)
      ∧ r.2.mem ((c.tc : Thread nD τ).loc main_v18) = W9 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c =>
      ⟨h c _ (mem_uc main_v14 (by decide)),
       h c _ (mem_uc main_v15 (by decide)),
       h c _ (mem_uc main_v16 (by decide)),
       h c _ (mem_uc main_v17 (by decide)),
       h c _ (mem_uc main_v18 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c)⟩)

end Cert.Kernel4Ideal.Proj

end
-- ==== Proof.Proj.Blocks4.lean ====
/- The projections' result arrays at an index, from the arguments. -/
module

public import proofs.«01_k».proof.Proof.Proj.Run4
public import proofs.«01_k».proof.Proof.Proj.Spec
public import Idealize.ShloMosaic.Lib.Pipeline.ValueKit
public import Idealize.ShloMosaic.Lib.StableHlo.ReadAt

@[expose] public section

set_option maxRecDepth 16384

noncomputable section

namespace Cert.Kernel4Ideal.Proj

open Idealize.ShloMosaic Idealize.ShloMosaic.TcCoe Idealize.SL.Sem
open Cert.Kernel4Ideal Cert.Kernel4Ideal.Gen
open Cert.Ffn (ix2_ext ix3_ext)
open Cert.Proj (dot silu)

variable (V : (c : Dev nD) → (b : Ref sig .tc) → Buf (Elt Ideal) ((c : Thread nD τ).loc b))
  (m : (ℓ : Loc nD τ sig) → Buf (Elt Ideal) ℓ) (ρ : Dev nD → PrngReg) (c : Dev nD)

/-! ## Call 0 -/

theorem t_lt0 (t : Fin cfg0.N) : t.val < 16 := lt_of_lt_of_eq t.isLt N_0

theorem idx0_0 : ∀ t : Fin grid0.N, win0_0.index t = ![t.val, 0] := by decide +kernel
theorem idx0_1 : ∀ t : Fin grid0.N, win0_1.index t = ![0, 0] := by decide +kernel
theorem idx0_3 : ∀ t : Fin grid0.N, win0_3.index t = ![t.val, 0] := by decide +kernel

/-- The output block at an index, from the input blocks. -/
theorem out0_at (x : Vec Ideal S1024x1024 .f32) (w : Vec Ideal S1024x1024 .bf16) (b : Vec Ideal S1x1024 .f32) (i q : Fin 1024) :
    out0_3 x w b (ix2 i q) = silu (dot (fun k => x (ix2 i k)) fun k => w (ix2 k q)) := by
  have hx : View.ld x r0_0 = x := View.ld_unit_lit _ x (by decide)
  have hw : View.ld w r0_0 = w := View.ld_unit_lit _ w (by decide)
  rw [out0_3, View.canon_cons_unit_lit _ _ _ (by decide), hx, hw]
  pointwise [k0_pay1]
  rfl

/-- The rows' block. -/
theorem iblk0_x (t : Fin cfg0.N) (i k : Fin 1024) :
    iblk0 V c 0 t (ix2 i k : S1024x1024.Idx) = V c main_v0 (ix2 ⟨1024 * t.val + i.val, by have := t_lt0 t; omega⟩ k : S16384x1024.Idx) := by
  blk_simp [iblk0]
  refine congrArg _ (ix2_ext _ ?_ ?_) <;> blk_simp [idx0_0] <;> first | (dsimp only; omega) | rfl

/-- The weights' block. -/
theorem iblk0_w (t : Fin cfg0.N) (k q : Fin 1024) : iblk0 V c 1 t (ix2 k q : S1024x1024.Idx) = V c main_v2 (ix2 k q : S1024x1024.Idx) := by
  blk_simp [iblk0]
  refine congrArg _ (ix2_ext _ ?_ ?_) <;> blk_simp [idx0_1] <;> first | omega | rfl

/-- The call's result array at an index. -/
theorem arr0_at (r : Fin 16384) (q : Fin 1024) :
    (dat0 V c).arrAt 3 cfg0.N (ix2 r q : S16384x1024.Idx) = silu (dot (fun k => V c main_v0 (ix2 r k : S16384x1024.Idx)) fun k => V c main_v2 (ix2 k q : S1024x1024.Idx)) := by
  refine (dat0 V c).arrAt_forall_of_covers 3 (fun y v => ∀ (r : Fin 16384) (q : Fin 1024), y = (ix2 r q : S16384x1024.Idx) →
      v = silu (dot (fun k => V c main_v0 (ix2 r k : S16384x1024.Idx)) fun k => V c main_v2 (ix2 k q : S1024x1024.Idx))) (by decide +kernel) (fun t hf y => ?_) _ (Memref.isWhole_whole _) r q rfl
  blk_simp
  rw [after0_3]
  intro r q e
  have e0 := congrArg (fun y => (y 0).val) e
  have e1 := congrArg (fun y => (y 1).val) e
  blk_simp [idx0_3] at e0 e1
  change S1024x1024.Idx at y
  obtain ⟨i, hi⟩ : ∃ i : Fin 1024, (y 0).val = i.val := ⟨⟨(y 0).val, (y 0).isLt⟩, rfl⟩
  have hr : (⟨1024 * t.val + i.val, by have := t_lt0 t; omega⟩ : Fin 16384) = r := Fin.ext (by dsimp only; omega)
  rw [show y = ix2 i q from ix2_ext y hi (by omega), out0_at]
  simp only [iblk0_x V c t, iblk0_w V c t, hr]

/-- The rows at the call's entry, from the argument. -/
theorem x0_at (r : Fin 16384) (k : Fin 1024) :
    V1 m ρ c main_v0 (ix2 r k : S16384x1024.Idx) = m ((c : Thread nD τ).loc main_arg0) (ix3 ⟨r.val / 2048, by omega⟩ ⟨r.val % 2048, by omega⟩ k : S8x2048x1024.Idx) := by
  have h : V1 m ρ c main_v0 = W1 m ρ c (Proc.devRef .tc main_v0) := rfl
  rw [h]
  show StableHlo.after hostOps0 (W0 m ρ c) (Proc.devRef .tc main_v0) _ = _
  after_reads_at

/-- The weights at the call's entry, from the argument. -/
theorem w0_at (k q : Fin 1024) :
    V1 m ρ c main_v2 (ix2 k q : S1024x1024.Idx) = m ((c : Thread nD τ).loc main_arg1) (ix2 k ⟨0 + q.val, by omega⟩ : S1024x4096.Idx) := by
  show StableHlo.after hostOps0 (W0 m ρ c) (Proc.devRef .tc main_v2) _ = _
  after_reads_at

/-- The result at an index, from the arguments. -/
theorem result0_at (i : Fin 8) (s : Fin 2048) (q : Fin 1024) :
    W9 m ρ c (Proc.devRef .tc main_v14) (ix3 i s q : S8x2048x1024.Idx) = silu (dot (fun k => m ((c : Thread nD τ).loc main_arg0) (ix3 i s k : S8x2048x1024.Idx)) fun k => m ((c : Thread nD τ).loc main_arg1) (ix2 k ⟨0 + q.val, by omega⟩ : S1024x4096.Idx)) := by
  have h : W9 m ρ c (Proc.devRef .tc main_v14) (ix3 i s q : S8x2048x1024.Idx) = W8 m ρ c (Proc.devRef .tc main_v4) (ix2 ⟨i.val * 2048 + s.val, by omega⟩ q : S16384x1024.Idx) := by
    show StableHlo.after hostOps4 (W8 m ρ c) (Proc.devRef .tc main_v14) _ = _
    generalize W8 m ρ c = W
    after_reads_at
  have h1 : W8 m ρ c (Proc.devRef .tc main_v4) = (dat0 (V1 m ρ) c).arrAt 3 cfg0.N := ((((((W8_of m ρ c main_v4 (by decide)).trans (W7_of m ρ c main_v4 (by decide))).trans (W6_of m ρ c main_v4 (by decide))).trans (W5_of m ρ c main_v4 (by decide))).trans (W4_of m ρ c main_v4 (by decide))).trans (W3_of m ρ c main_v4 (by decide))).trans (W2_arr m ρ c 3)
  rw [h, h1, arr0_at]
  refine congrArg silu (congr (congrArg dot (funext fun k => (x0_at m ρ c _ k).trans (congrArg _ (ix3_ext _ ?_ ?_ rfl)))) (funext fun k => w0_at m ρ c k q))
  · show (i.val * 2048 + s.val) / 2048 = i.val
    omega
  · show (i.val * 2048 + s.val) % 2048 = s.val
    omega

/-! ## Call 2 -/

theorem t_lt2 (t : Fin cfg2.N) : t.val < 16 := lt_of_lt_of_eq t.isLt N_2

theorem idx2_0 : ∀ t : Fin grid2.N, win2_0.index t = ![t.val, 0] := by decide +kernel
theorem idx2_1 : ∀ t : Fin grid2.N, win2_1.index t = ![0, 0] := by decide +kernel
theorem idx2_3 : ∀ t : Fin grid2.N, win2_3.index t = ![t.val, 0] := by decide +kernel

/-- The output block at an index, from the input blocks. -/
theorem out2_at (x : Vec Ideal S1024x1024 .f32) (w : Vec Ideal S1024x1024 .bf16) (b : Vec Ideal S1x1024 .f32) (i q : Fin 1024) :
    out2_3 x w b (ix2 i q) = dot (fun k => x (ix2 i k)) fun k => w (ix2 k q) := by
  have hx : View.ld x r2_0 = x := View.ld_unit_lit _ x (by decide)
  have hw : View.ld w r2_0 = w := View.ld_unit_lit _ w (by decide)
  rw [out2_3, View.canon_cons_unit_lit _ _ _ (by decide), hx, hw]
  pointwise [k2_pay1]
  rfl

/-- The rows' block. -/
theorem iblk2_x (t : Fin cfg2.N) (i k : Fin 1024) :
    iblk2 V c 0 t (ix2 i k : S1024x1024.Idx) = V c main_v0 (ix2 ⟨1024 * t.val + i.val, by have := t_lt2 t; omega⟩ k : S16384x1024.Idx) := by
  blk_simp [iblk2]
  refine congrArg _ (ix2_ext _ ?_ ?_) <;> blk_simp [idx2_0] <;> first | (dsimp only; omega) | rfl

/-- The weights' block. -/
theorem iblk2_w (t : Fin cfg2.N) (k q : Fin 1024) : iblk2 V c 1 t (ix2 k q : S1024x1024.Idx) = V c main_v8 (ix2 k q : S1024x1024.Idx) := by
  blk_simp [iblk2]
  refine congrArg _ (ix2_ext _ ?_ ?_) <;> blk_simp [idx2_1] <;> first | omega | rfl

/-- The call's result array at an index. -/
theorem arr2_at (r : Fin 16384) (q : Fin 1024) :
    (dat2 V c).arrAt 3 cfg2.N (ix2 r q : S16384x1024.Idx) = dot (fun k => V c main_v0 (ix2 r k : S16384x1024.Idx)) fun k => V c main_v8 (ix2 k q : S1024x1024.Idx) := by
  refine (dat2 V c).arrAt_forall_of_covers 3 (fun y v => ∀ (r : Fin 16384) (q : Fin 1024), y = (ix2 r q : S16384x1024.Idx) →
      v = dot (fun k => V c main_v0 (ix2 r k : S16384x1024.Idx)) fun k => V c main_v8 (ix2 k q : S1024x1024.Idx)) (by decide +kernel) (fun t hf y => ?_) _ (Memref.isWhole_whole _) r q rfl
  blk_simp
  rw [after2_3]
  intro r q e
  have e0 := congrArg (fun y => (y 0).val) e
  have e1 := congrArg (fun y => (y 1).val) e
  blk_simp [idx2_3] at e0 e1
  change S1024x1024.Idx at y
  obtain ⟨i, hi⟩ : ∃ i : Fin 1024, (y 0).val = i.val := ⟨⟨(y 0).val, (y 0).isLt⟩, rfl⟩
  have hr : (⟨1024 * t.val + i.val, by have := t_lt2 t; omega⟩ : Fin 16384) = r := Fin.ext (by dsimp only; omega)
  rw [show y = ix2 i q from ix2_ext y hi (by omega), out2_at]
  simp only [iblk2_x V c t, iblk2_w V c t, hr]

/-- The rows at the call's entry, from the argument. -/
theorem x2_at (r : Fin 16384) (k : Fin 1024) :
    V5 m ρ c main_v0 (ix2 r k : S16384x1024.Idx) = m ((c : Thread nD τ).loc main_arg0) (ix3 ⟨r.val / 2048, by omega⟩ ⟨r.val % 2048, by omega⟩ k : S8x2048x1024.Idx) := by
  have h : V5 m ρ c main_v0 = W1 m ρ c (Proc.devRef .tc main_v0) := ((((W5_of m ρ c main_v0 (by decide)).trans (W4_of m ρ c main_v0 (by decide))).trans (W3_of m ρ c main_v0 (by decide))).trans (W2_of m ρ c main_v0 (by decide)))
  rw [h]
  show StableHlo.after hostOps0 (W0 m ρ c) (Proc.devRef .tc main_v0) _ = _
  after_reads_at

/-- The weights at the call's entry, from the argument. -/
theorem w2_at (k q : Fin 1024) :
    V5 m ρ c main_v8 (ix2 k q : S1024x1024.Idx) = m ((c : Thread nD τ).loc main_arg1) (ix2 k ⟨2048 + q.val, by omega⟩ : S1024x4096.Idx) := by
  have h : V5 m ρ c main_v8 (ix2 k q : S1024x1024.Idx) = W4 m ρ c (Proc.devRef .tc main_v1) (ix2 k ⟨2048 + q.val, by omega⟩ : S1024x4096.Idx) := by
    show StableHlo.after hostOps2 (W4 m ρ c) (Proc.devRef .tc main_v8) _ = _
    generalize W4 m ρ c = W
    after_reads_at
  have h1 : W4 m ρ c (Proc.devRef .tc main_v1) = W1 m ρ c (Proc.devRef .tc main_v1) := (((W4_of m ρ c main_v1 (by decide)).trans (W3_of m ρ c main_v1 (by decide))).trans (W2_of m ρ c main_v1 (by decide)))
  rw [h, h1]
  show StableHlo.after hostOps0 (W0 m ρ c) (Proc.devRef .tc main_v1) _ = _
  after_reads_at

/-- The result at an index, from the arguments. -/
theorem result2_at (i : Fin 8) (s : Fin 2048) (q : Fin 1024) :
    W9 m ρ c (Proc.devRef .tc main_v16) (ix3 i s q : S8x2048x1024.Idx) = dot (fun k => m ((c : Thread nD τ).loc main_arg0) (ix3 i s k : S8x2048x1024.Idx)) fun k => m ((c : Thread nD τ).loc main_arg1) (ix2 k ⟨2048 + q.val, by omega⟩ : S1024x4096.Idx) := by
  have h : W9 m ρ c (Proc.devRef .tc main_v16) (ix3 i s q : S8x2048x1024.Idx) = W8 m ρ c (Proc.devRef .tc main_v10) (ix2 ⟨i.val * 2048 + s.val, by omega⟩ q : S16384x1024.Idx) := by
    show StableHlo.after hostOps4 (W8 m ρ c) (Proc.devRef .tc main_v16) _ = _
    generalize W8 m ρ c = W
    after_reads_at
  have h1 : W8 m ρ c (Proc.devRef .tc main_v10) = (dat2 (V5 m ρ) c).arrAt 3 cfg2.N := ((W8_of m ρ c main_v10 (by decide)).trans (W7_of m ρ c main_v10 (by decide))).trans (W6_arr m ρ c 3)
  rw [h, h1, arr2_at]
  refine (congr (congrArg dot (funext fun k => (x2_at m ρ c _ k).trans (congrArg _ (ix3_ext _ ?_ ?_ rfl)))) (funext fun k => w2_at m ρ c k q))
  · show (i.val * 2048 + s.val) / 2048 = i.val
    omega
  · show (i.val * 2048 + s.val) % 2048 = s.val
    omega

/-! ## Call 3 -/

theorem t_lt3 (t : Fin cfg3.N) : t.val < 16 := lt_of_lt_of_eq t.isLt N_3

theorem idx3_0 : ∀ t : Fin grid3.N, win3_0.index t = ![t.val, 0] := by decide +kernel
theorem idx3_1 : ∀ t : Fin grid3.N, win3_1.index t = ![0, 0] := by decide +kernel
theorem idx3_3 : ∀ t : Fin grid3.N, win3_3.index t = ![t.val, 0] := by decide +kernel

/-- The output block at an index, from the input blocks. -/
theorem out3_at (x : Vec Ideal S1024x1024 .f32) (w : Vec Ideal S1024x1024 .bf16) (b : Vec Ideal S1x1024 .f32) (i q : Fin 1024) :
    out3_3 x w b (ix2 i q) = silu (dot (fun k => x (ix2 i k)) fun k => w (ix2 k q)) := by
  have hx : View.ld x r3_0 = x := View.ld_unit_lit _ x (by decide)
  have hw : View.ld w r3_0 = w := View.ld_unit_lit _ w (by decide)
  rw [out3_3, View.canon_cons_unit_lit _ _ _ (by decide), hx, hw]
  pointwise [k3_pay1]
  rfl

/-- The rows' block. -/
theorem iblk3_x (t : Fin cfg3.N) (i k : Fin 1024) :
    iblk3 V c 0 t (ix2 i k : S1024x1024.Idx) = V c main_v0 (ix2 ⟨1024 * t.val + i.val, by have := t_lt3 t; omega⟩ k : S16384x1024.Idx) := by
  blk_simp [iblk3]
  refine congrArg _ (ix2_ext _ ?_ ?_) <;> blk_simp [idx3_0] <;> first | (dsimp only; omega) | rfl

/-- The weights' block. -/
theorem iblk3_w (t : Fin cfg3.N) (k q : Fin 1024) : iblk3 V c 1 t (ix2 k q : S1024x1024.Idx) = V c main_v11 (ix2 k q : S1024x1024.Idx) := by
  blk_simp [iblk3]
  refine congrArg _ (ix2_ext _ ?_ ?_) <;> blk_simp [idx3_1] <;> first | omega | rfl

/-- The call's result array at an index. -/
theorem arr3_at (r : Fin 16384) (q : Fin 1024) :
    (dat3 V c).arrAt 3 cfg3.N (ix2 r q : S16384x1024.Idx) = silu (dot (fun k => V c main_v0 (ix2 r k : S16384x1024.Idx)) fun k => V c main_v11 (ix2 k q : S1024x1024.Idx)) := by
  refine (dat3 V c).arrAt_forall_of_covers 3 (fun y v => ∀ (r : Fin 16384) (q : Fin 1024), y = (ix2 r q : S16384x1024.Idx) →
      v = silu (dot (fun k => V c main_v0 (ix2 r k : S16384x1024.Idx)) fun k => V c main_v11 (ix2 k q : S1024x1024.Idx))) (by decide +kernel) (fun t hf y => ?_) _ (Memref.isWhole_whole _) r q rfl
  blk_simp
  rw [after3_3]
  intro r q e
  have e0 := congrArg (fun y => (y 0).val) e
  have e1 := congrArg (fun y => (y 1).val) e
  blk_simp [idx3_3] at e0 e1
  change S1024x1024.Idx at y
  obtain ⟨i, hi⟩ : ∃ i : Fin 1024, (y 0).val = i.val := ⟨⟨(y 0).val, (y 0).isLt⟩, rfl⟩
  have hr : (⟨1024 * t.val + i.val, by have := t_lt3 t; omega⟩ : Fin 16384) = r := Fin.ext (by dsimp only; omega)
  rw [show y = ix2 i q from ix2_ext y hi (by omega), out3_at]
  simp only [iblk3_x V c t, iblk3_w V c t, hr]

/-- The rows at the call's entry, from the argument. -/
theorem x3_at (r : Fin 16384) (k : Fin 1024) :
    V7 m ρ c main_v0 (ix2 r k : S16384x1024.Idx) = m ((c : Thread nD τ).loc main_arg0) (ix3 ⟨r.val / 2048, by omega⟩ ⟨r.val % 2048, by omega⟩ k : S8x2048x1024.Idx) := by
  have h : V7 m ρ c main_v0 = W1 m ρ c (Proc.devRef .tc main_v0) := ((((((W7_of m ρ c main_v0 (by decide)).trans (W6_of m ρ c main_v0 (by decide))).trans (W5_of m ρ c main_v0 (by decide))).trans (W4_of m ρ c main_v0 (by decide))).trans (W3_of m ρ c main_v0 (by decide))).trans (W2_of m ρ c main_v0 (by decide)))
  rw [h]
  show StableHlo.after hostOps0 (W0 m ρ c) (Proc.devRef .tc main_v0) _ = _
  after_reads_at

/-- The weights at the call's entry, from the argument. -/
theorem w3_at (k q : Fin 1024) :
    V7 m ρ c main_v11 (ix2 k q : S1024x1024.Idx) = m ((c : Thread nD τ).loc main_arg1) (ix2 k ⟨3072 + q.val, by omega⟩ : S1024x4096.Idx) := by
  have h : V7 m ρ c main_v11 (ix2 k q : S1024x1024.Idx) = W6 m ρ c (Proc.devRef .tc main_v1) (ix2 k ⟨3072 + q.val, by omega⟩ : S1024x4096.Idx) := by
    show StableHlo.after hostOps3 (W6 m ρ c) (Proc.devRef .tc main_v11) _ = _
    generalize W6 m ρ c = W
    after_reads_at
  have h1 : W6 m ρ c (Proc.devRef .tc main_v1) = W1 m ρ c (Proc.devRef .tc main_v1) := (((((W6_of m ρ c main_v1 (by decide)).trans (W5_of m ρ c main_v1 (by decide))).trans (W4_of m ρ c main_v1 (by decide))).trans (W3_of m ρ c main_v1 (by decide))).trans (W2_of m ρ c main_v1 (by decide)))
  rw [h, h1]
  show StableHlo.after hostOps0 (W0 m ρ c) (Proc.devRef .tc main_v1) _ = _
  after_reads_at

/-- The result at an index, from the arguments. -/
theorem result3_at (i : Fin 8) (s : Fin 2048) (q : Fin 1024) :
    W9 m ρ c (Proc.devRef .tc main_v18) (ix3 i s q : S8x2048x1024.Idx) = silu (dot (fun k => m ((c : Thread nD τ).loc main_arg0) (ix3 i s k : S8x2048x1024.Idx)) fun k => m ((c : Thread nD τ).loc main_arg1) (ix2 k ⟨3072 + q.val, by omega⟩ : S1024x4096.Idx)) := by
  have h : W9 m ρ c (Proc.devRef .tc main_v18) (ix3 i s q : S8x2048x1024.Idx) = W8 m ρ c (Proc.devRef .tc main_v13) (ix2 ⟨i.val * 2048 + s.val, by omega⟩ q : S16384x1024.Idx) := by
    show StableHlo.after hostOps4 (W8 m ρ c) (Proc.devRef .tc main_v18) _ = _
    generalize W8 m ρ c = W
    after_reads_at
  have h1 : W8 m ρ c (Proc.devRef .tc main_v13) = (dat3 (V7 m ρ) c).arrAt 3 cfg3.N := (W8_arr m ρ c 3)
  rw [h, h1, arr3_at]
  refine congrArg silu (congr (congrArg dot (funext fun k => (x3_at m ρ c _ k).trans (congrArg _ (ix3_ext _ ?_ ?_ rfl)))) (funext fun k => w3_at m ρ c k q))
  · show (i.val * 2048 + s.val) / 2048 = i.val
    omega
  · show (i.val * 2048 + s.val) % 2048 = s.val
    omega

end Cert.Kernel4Ideal.Proj

end
-- ==== Proof.Proj.Blocks4Gate.lean ====
/- The forget gate's call: its two result arrays at an index, from the arguments. -/
module

public import proofs.«01_k».proof.Proof.Proj.Blocks4
public import proofs.«01_k».proof.Proof.Proj.Gate

@[expose] public section

set_option maxRecDepth 16384

noncomputable section

namespace Cert.Kernel4Ideal.Proj

open Idealize.ShloMosaic Idealize.ShloMosaic.TcCoe Idealize.SL.Sem
open Cert.Kernel4Ideal Cert.Kernel4Ideal.Gen
open Cert.Ffn (ix2_ext ix3_ext)
open Cert.Proj (dot soft logsig bound logGate keyOf)

variable (V : (c : Dev nD) → (b : Ref sig .tc) → Buf (Elt Ideal) ((c : Thread nD τ).loc b))
  (m : (ℓ : Loc nD τ sig) → Buf (Elt Ideal) ℓ) (ρ : Dev nD → PrngReg) (c : Dev nD)

section
variable (x : Vec Ideal S512x1024 .f32) (w : Vec Ideal S1024x1024 .bf16) (b : Vec Ideal S1x1024 .f32) (i : Fin 512) (q : Fin 1024)

theorem pay3_at : k1_pay3 x w (ix2 i q) = dot (fun k => x (ix2 i k)) fun k => w (ix2 k q) := by
  pointwise [k1_pay3]
  rfl

theorem pay4_at : k1_pay4 b (ix2 0 q) = b (ix2 0 q) := by
  pointwise [k1_pay4]

theorem pay5_at : k1_pay5 x w (ix2 i q) = logsig (k1_pay3 x w (ix2 i q)) := by
  pointwise [k1_pay5]
  rw [zero_sub]
  rfl

theorem pay6_at : k1_pay6 x w b (ix2 i q) = bound (k1_pay3 x w (ix2 i q)) (b (ix2 0 q)) := by
  rw [← pay4_at b q]
  pointwise [k1_pay6]
  rw [zero_sub, zero_sub]
  rfl

theorem pay7_at : k1_pay7 x w b (ix2 i q) = max (k1_pay5 x w (ix2 i q) : EReal) (k1_pay6 x w b (ix2 i q)) := by
  pointwise [k1_pay7]

theorem pay8_at : k1_pay8 x w b (ix2 i q) = Ideal.exp (-(max (k1_pay5 x w (ix2 i q) - k1_pay6 x w b (ix2 i q) : EReal) (-(k1_pay5 x w (ix2 i q) - k1_pay6 x w b (ix2 i q) : EReal)))) := by
  pointwise [k1_pay8]
  rw [zero_sub]
  rfl

theorem pay9_at : k1_pay9 (F := Ideal) (ix2 i q) = (1 : EReal) := by
  pointwise [k1_pay9]

theorem pay1_at (u v y : FVec Ideal S512x1024 .f32) : k1_pay1 u v y (ix2 i q) = (u (ix2 i q) : EReal) + Ideal.log (y (ix2 i q) + v (ix2 i q)) := by
  pointwise [k1_pay1]

theorem pay2_at (u : FVec Ideal S512x1024 .f32) (v : FVec Ideal S1x1024 .f32) : k1_pay2 u v (ix2 i q) = keyOf (u (ix2 i q)) (v (ix2 0 q)) := by
  pointwise [k1_pay2]
  rw [zero_sub]
  rfl

/-- The gates' block at an index. -/
theorem outg_at : out1_3 x w b (ix2 i q) = logGate (dot (fun k => x (ix2 i k)) fun k => w (ix2 k q)) (b (ix2 0 q)) := by
  have hx : View.ld x r1_0 = x := View.ld_unit_lit _ x (by decide)
  have hw : View.ld w r1_1 = w := View.ld_unit_lit _ w (by decide)
  have hb : View.ld b r1_2 = b := View.ld_unit_lit _ b (by decide)
  rw [out1_3, View.canon_cons_unit_lit _ _ _ (by decide), hx, hw, hb, pay1_at, pay7_at, pay8_at, pay9_at, pay5_at, pay6_at, pay3_at]
  rfl

/-- The keys' block at an index. -/
theorem outk_at : out1_4 x w b (ix2 i q) = keyOf (dot (fun k => x (ix2 i k)) fun k => w (ix2 k q)) (b (ix2 0 q)) := by
  have hx : View.ld x r1_0 = x := View.ld_unit_lit _ x (by decide)
  have hw : View.ld w r1_1 = w := View.ld_unit_lit _ w (by decide)
  have hb : View.ld b r1_2 = b := View.ld_unit_lit _ b (by decide)
  rw [out1_4, View.canon_cons_unit_lit _ _ _ (by decide), hx, hw, hb, pay2_at, pay3_at, pay4_at]

end

theorem t_lt1 (t : Fin cfg1.N) : t.val < 32 := lt_of_lt_of_eq t.isLt N_1

theorem idx1_0 : ∀ t : Fin grid1.N, win1_0.index t = ![t.val, 0] := by decide +kernel
theorem idx1_1 : ∀ t : Fin grid1.N, win1_1.index t = ![0, 0] := by decide +kernel
theorem idx1_2 : ∀ t : Fin grid1.N, win1_2.index t = ![0, 0] := by decide +kernel
theorem idx1_3 : ∀ t : Fin grid1.N, win1_3.index t = ![t.val, 0] := by decide +kernel
theorem idx1_4 : ∀ t : Fin grid1.N, win1_4.index t = ![t.val, 0] := by decide +kernel

/-- The rows' block. -/
theorem iblk1_x (t : Fin cfg1.N) (i : Fin 512) (k : Fin 1024) :
    iblk1 V c 0 t (ix2 i k : S512x1024.Idx) = V c main_v0 (ix2 ⟨512 * t.val + i.val, by have := t_lt1 t; omega⟩ k : S16384x1024.Idx) := by
  blk_simp [iblk1]
  refine congrArg _ (ix2_ext _ ?_ ?_) <;> blk_simp [idx1_0] <;> first | (dsimp only; omega) | rfl

/-- The weights' block. -/
theorem iblk1_w (t : Fin cfg1.N) (k q : Fin 1024) : iblk1 V c 1 t (ix2 k q : S1024x1024.Idx) = V c main_v5 (ix2 k q : S1024x1024.Idx) := by
  blk_simp [iblk1]
  refine congrArg _ (ix2_ext _ ?_ ?_) <;> blk_simp [idx1_1] <;> first | omega | rfl

/-- The lower bounds' block. -/
theorem iblk1_b (t : Fin cfg1.N) (q : Fin 1024) : iblk1 V c 2 t (ix2 0 q : S1x1024.Idx) = V c main_v6 (ix2 0 q : S1x1024.Idx) := by
  blk_simp [iblk1]
  refine congrArg _ (ix2_ext _ ?_ ?_) <;> blk_simp [idx1_2] <;> first | omega | rfl

/-- The call's gates at an index. -/
theorem arr1_g (r : Fin 16384) (q : Fin 1024) :
    (dat1 V c).arrAt 3 cfg1.N (ix2 r q : S16384x1024.Idx) = logGate (dot (fun k => V c main_v0 (ix2 r k : S16384x1024.Idx)) fun k => V c main_v5 (ix2 k q : S1024x1024.Idx)) (V c main_v6 (ix2 0 q : S1x1024.Idx)) := by
  refine (dat1 V c).arrAt_forall_of_covers 3 (fun y v => ∀ (r : Fin 16384) (q : Fin 1024), y = (ix2 r q : S16384x1024.Idx) →
      v = logGate (dot (fun k => V c main_v0 (ix2 r k : S16384x1024.Idx)) fun k => V c main_v5 (ix2 k q : S1024x1024.Idx)) (V c main_v6 (ix2 0 q : S1x1024.Idx))) (by decide +kernel) (fun t hf y => ?_) _ (Memref.isWhole_whole _) r q rfl
  blk_simp
  rw [after1_3]
  intro r q e
  have e0 := congrArg (fun y => (y 0).val) e
  have e1 := congrArg (fun y => (y 1).val) e
  blk_simp [idx1_3] at e0 e1
  change S512x1024.Idx at y
  obtain ⟨i, hi⟩ : ∃ i : Fin 512, (y 0).val = i.val := ⟨⟨(y 0).val, (y 0).isLt⟩, rfl⟩
  have hr : (⟨512 * t.val + i.val, by have := t_lt1 t; omega⟩ : Fin 16384) = r := Fin.ext (by dsimp only; omega)
  rw [show y = ix2 i q from ix2_ext y hi (by omega), outg_at]
  simp only [iblk1_x V c t, iblk1_w V c t, iblk1_b V c t, hr]

/-- The call's keys at an index. -/
theorem arr1_k (r : Fin 16384) (q : Fin 1024) :
    (dat1 V c).arrAt 4 cfg1.N (ix2 r q : S16384x1024.Idx) = keyOf (dot (fun k => V c main_v0 (ix2 r k : S16384x1024.Idx)) fun k => V c main_v5 (ix2 k q : S1024x1024.Idx)) (V c main_v6 (ix2 0 q : S1x1024.Idx)) := by
  refine (dat1 V c).arrAt_forall_of_covers 4 (fun y v => ∀ (r : Fin 16384) (q : Fin 1024), y = (ix2 r q : S16384x1024.Idx) →
      v = keyOf (dot (fun k => V c main_v0 (ix2 r k : S16384x1024.Idx)) fun k => V c main_v5 (ix2 k q : S1024x1024.Idx)) (V c main_v6 (ix2 0 q : S1x1024.Idx))) (by decide +kernel) (fun t hf y => ?_) _ (Memref.isWhole_whole _) r q rfl
  blk_simp
  rw [after1_4]
  intro r q e
  have e0 := congrArg (fun y => (y 0).val) e
  have e1 := congrArg (fun y => (y 1).val) e
  blk_simp [idx1_4] at e0 e1
  change S512x1024.Idx at y
  obtain ⟨i, hi⟩ : ∃ i : Fin 512, (y 0).val = i.val := ⟨⟨(y 0).val, (y 0).isLt⟩, rfl⟩
  have hr : (⟨512 * t.val + i.val, by have := t_lt1 t; omega⟩ : Fin 16384) = r := Fin.ext (by dsimp only; omega)
  rw [show y = ix2 i q from ix2_ext y hi (by omega), outk_at]
  simp only [iblk1_x V c t, iblk1_w V c t, iblk1_b V c t, hr]

/-- The rows at the call's entry, from the argument. -/
theorem x1_at (r : Fin 16384) (k : Fin 1024) :
    V3 m ρ c main_v0 (ix2 r k : S16384x1024.Idx) = m ((c : Thread nD τ).loc main_arg0) (ix3 ⟨r.val / 2048, by omega⟩ ⟨r.val % 2048, by omega⟩ k : S8x2048x1024.Idx) := by
  have h : V3 m ρ c main_v0 = W1 m ρ c (Proc.devRef .tc main_v0) := ((W3_of m ρ c main_v0 (by decide)).trans (W2_of m ρ c main_v0 (by decide)))
  rw [h]
  show StableHlo.after hostOps0 (W0 m ρ c) (Proc.devRef .tc main_v0) _ = _
  after_reads_at

/-- The weights at the call's entry, from the argument. -/
theorem w1_at (k q : Fin 1024) :
    V3 m ρ c main_v5 (ix2 k q : S1024x1024.Idx) = m ((c : Thread nD τ).loc main_arg1) (ix2 k ⟨1024 + q.val, by omega⟩ : S1024x4096.Idx) := by
  have h : V3 m ρ c main_v5 (ix2 k q : S1024x1024.Idx) = W2 m ρ c (Proc.devRef .tc main_v1) (ix2 k ⟨1024 + q.val, by omega⟩ : S1024x4096.Idx) := by
    show StableHlo.after hostOps1 (W2 m ρ c) (Proc.devRef .tc main_v5) _ = _
    generalize W2 m ρ c = W
    after_reads_at
  have h1 : W2 m ρ c (Proc.devRef .tc main_v1) = W1 m ρ c (Proc.devRef .tc main_v1) := (W2_of m ρ c main_v1 (by decide))
  rw [h, h1]
  show StableHlo.after hostOps0 (W0 m ρ c) (Proc.devRef .tc main_v1) _ = _
  after_reads_at

/-- The lower bounds at the call's entry, from the argument. -/
theorem b1_at (q : Fin 1024) : V3 m ρ c main_v6 (ix2 0 q : S1x1024.Idx) = m ((c : Thread nD τ).loc main_arg2) (ix1 q : S1024.Idx) := by
  have h : V3 m ρ c main_v6 (ix2 0 q : S1x1024.Idx) = W2 m ρ c (Proc.devRef .tc main_arg2) (ix1 q : S1024.Idx) := by
    show StableHlo.after hostOps1 (W2 m ρ c) (Proc.devRef .tc main_v6) _ = _
    generalize W2 m ρ c = W
    after_reads_at
  have h1 : W2 m ρ c (Proc.devRef .tc main_arg2) = m ((c : Thread nD τ).loc main_arg2) := W2_args m ρ c main_arg2 (by decide)
  rw [h, h1]

/-- A row through the forget weights' columns, from the arguments. -/
theorem dot1_at (i : Fin 8) (s : Fin 2048) (q : Fin 1024) :
    (dot (fun k => V3 m ρ c main_v0 (ix2 ⟨i.val * 2048 + s.val, by omega⟩ k : S16384x1024.Idx)) fun k => V3 m ρ c main_v5 (ix2 k q : S1024x1024.Idx))
      = dot (fun k => m ((c : Thread nD τ).loc main_arg0) (ix3 i s k : S8x2048x1024.Idx)) fun k => m ((c : Thread nD τ).loc main_arg1) (ix2 k ⟨1024 + q.val, by omega⟩ : S1024x4096.Idx) := by
  refine congr (congrArg dot (funext fun k => (x1_at m ρ c _ k).trans (congrArg _ (ix3_ext _ ?_ ?_ rfl)))) (funext fun k => w1_at m ρ c k q)
  · show (i.val * 2048 + s.val) / 2048 = i.val
    omega
  · show (i.val * 2048 + s.val) % 2048 = s.val
    omega

/-- The gates at an index, from the arguments. -/
theorem result1_g (i : Fin 8) (s : Fin 2048) (q : Fin 1024) :
    W9 m ρ c (Proc.devRef .tc main_v17) (ix3 i s q : S8x2048x1024.Idx) = logGate (dot (fun k => m ((c : Thread nD τ).loc main_arg0) (ix3 i s k : S8x2048x1024.Idx)) fun k => m ((c : Thread nD τ).loc main_arg1) (ix2 k ⟨1024 + q.val, by omega⟩ : S1024x4096.Idx)) (m ((c : Thread nD τ).loc main_arg2) (ix1 q : S1024.Idx)) := by
  have h : W9 m ρ c (Proc.devRef .tc main_v17) (ix3 i s q : S8x2048x1024.Idx) = W8 m ρ c (Proc.devRef .tc main_v7_0) (ix2 ⟨i.val * 2048 + s.val, by omega⟩ q : S16384x1024.Idx) := by
    show StableHlo.after hostOps4 (W8 m ρ c) (Proc.devRef .tc main_v17) _ = _
    generalize W8 m ρ c = W
    after_reads_at
  have h1 : W8 m ρ c (Proc.devRef .tc main_v7_0) = (dat1 (V3 m ρ) c).arrAt 3 cfg1.N := ((((W8_of m ρ c main_v7_0 (by decide)).trans (W7_of m ρ c main_v7_0 (by decide))).trans (W6_of m ρ c main_v7_0 (by decide))).trans (W5_of m ρ c main_v7_0 (by decide))).trans (W4_arr m ρ c 3)
  rw [h, h1, arr1_g, dot1_at m ρ c i s q]
  exact congrArg (logGate _) (b1_at m ρ c q)

/-- The keys at an index, from the arguments. -/
theorem result1_k (i : Fin 8) (s : Fin 2048) (q : Fin 1024) :
    W9 m ρ c (Proc.devRef .tc main_v15) (ix3 i s q : S8x2048x1024.Idx) = keyOf (dot (fun k => m ((c : Thread nD τ).loc main_arg0) (ix3 i s k : S8x2048x1024.Idx)) fun k => m ((c : Thread nD τ).loc main_arg1) (ix2 k ⟨1024 + q.val, by omega⟩ : S1024x4096.Idx)) (m ((c : Thread nD τ).loc main_arg2) (ix1 q : S1024.Idx)) := by
  have h : W9 m ρ c (Proc.devRef .tc main_v15) (ix3 i s q : S8x2048x1024.Idx) = W8 m ρ c (Proc.devRef .tc main_v7_1) (ix2 ⟨i.val * 2048 + s.val, by omega⟩ q : S16384x1024.Idx) := by
    show StableHlo.after hostOps4 (W8 m ρ c) (Proc.devRef .tc main_v15) _ = _
    generalize W8 m ρ c = W
    after_reads_at
  have h1 : W8 m ρ c (Proc.devRef .tc main_v7_1) = (dat1 (V3 m ρ) c).arrAt 4 cfg1.N := ((((W8_of m ρ c main_v7_1 (by decide)).trans (W7_of m ρ c main_v7_1 (by decide))).trans (W6_of m ρ c main_v7_1 (by decide))).trans (W5_of m ρ c main_v7_1 (by decide))).trans (W4_arr m ρ c 4)
  rw [h, h1, arr1_k, dot1_at m ρ c i s q]
  exact congrArg (keyOf _) (b1_at m ρ c q)

end Cert.Kernel4Ideal.Proj

end
-- ==== Proof.Proj.Value4.lean ====
/- THE RECURRENCE'S INPUT PROJECTIONS AND FORGET GATE: the kernel and its reference compute the same results. -/
module

public import proofs.«01_k».proof.Defs
public import proofs.«01_k».proof.Proof.Proj.Blocks4Gate
public import proofs.«01_k».proof.Proof.Gen.Reference4Ideal.Run

@[expose] public section

set_option maxRecDepth 16384

noncomputable section

namespace Cert.Reference4Ideal.Proj

open Idealize.ShloMosaic Idealize.ShloMosaic.TcCoe Idealize.SL.Sem
open Cert.Reference4Ideal Cert.Reference4Ideal.Value Cert.Reference4Ideal.Gen Cert.Reference4Ideal.Facts
open Cert.Proj (dot silu soft logsig bound logGate keyOf)

/-- All rows through all columns of weights. -/
def prod (x : FVec Ideal S8x2048x1024 .f32) (w : FVec Ideal S1024x4096 .f32) : FVec Ideal S8x2048x4096 .f32 :=
  Host.dotGeneral dot_S8x2048x1024_S1024x4096_S8x2048x4096_2_0_01_1_n_n none x w

/-- The queries: the first 1024 columns times their logistic. -/
def query (p : FVec Ideal S8x2048x4096 .f32) : FVec Ideal S8x2048x1024 .bf16 :=
  truncf .bf16 (mulf (extractStridedSlice S8x2048x1024 ![0, 0, 0] p slices_S8x2048x4096_S8x2048x1024_0_0_0) (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extractStridedSlice S8x2048x1024 ![0, 0, 0] p slices_S8x2048x4096_S8x2048x1024_0_0_0)))))) bitsLt_bf16_f32

/-- The output gates: the last 1024 columns times their logistic. -/
def outgate (p : FVec Ideal S8x2048x4096 .f32) : FVec Ideal S8x2048x1024 .bf16 :=
  truncf .bf16 (mulf (extractStridedSlice S8x2048x1024 ![0, 0, 3072] p slices_S8x2048x4096_S8x2048x1024_0_0_3072) (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extractStridedSlice S8x2048x1024 ![0, 0, 3072] p slices_S8x2048x4096_S8x2048x1024_0_0_3072)))))) bitsLt_bf16_f32

/-- The values: the third 1024 columns. -/
def val (p : FVec Ideal S8x2048x4096 .f32) : FVec Ideal S8x2048x1024 .bf16 :=
  truncf .bf16 (extractStridedSlice S8x2048x1024 ![0, 0, 2048] p slices_S8x2048x4096_S8x2048x1024_0_0_2048) bitsLt_bf16_f32

/-- The second 1024 columns. -/
def raw (p : FVec Ideal S8x2048x4096 .f32) : FVec Ideal S8x2048x1024 .f32 :=
  extractStridedSlice S8x2048x1024 ![0, 0, 1024] p slices_S8x2048x4096_S8x2048x1024_0_0_1024

/-- The keys. -/
def key (p : FVec Ideal S8x2048x4096 .f32) (l : FVec Ideal S1024 .f32) : FVec Ideal S8x2048x1024 .bf16 :=
  truncf .bf16 (mulf (broadcastInDim S8x2048x1024 ![0, 1, 2] bcast_S1x1x1024_S8x2048x1024_0_1_2 (broadcastInDim S1x1x1024 ![2] bcast_S1024_S1x1x1024_2 (subf (broadcastInDim S1024 ![] bcast_S_S1024 (constant S_ .f32 0x3F800000#32)) l))) (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (Host.negf (extractStridedSlice S8x2048x1024 ![0, 0, 1024] p slices_S8x2048x4096_S8x2048x1024_0_0_1024))))))) bitsLt_bf16_f32

/-- The logarithm of the sum of two exponentials. -/
def lae (a b : FVec Ideal S8x2048x1024 .f32) : FVec Ideal S8x2048x1024 .f32 :=
  select (cmpf .une (subf a b) (subf a b)) (addf a b) (addf (maximumf a b) (Host.log1p (Host.exp (Host.negf (Host.absf (subf a b))))))

/-- Zero everywhere. -/
def zeros : FVec Ideal S8x2048x1024 .f32 := broadcastInDim S8x2048x1024 ![] bcast_S_S8x2048x1024 (constant S_ .f32 0x00000000#32)

/-- The logarithm of the logistic. -/
def ls (z : FVec Ideal S8x2048x1024 .f32) : FVec Ideal S8x2048x1024 .f32 := Host.negf (lae (Host.negf z) zeros)

/-- The lower bounds' logarithms, on every row. -/
def loglb (l : FVec Ideal S1024 .f32) : FVec Ideal S8x2048x1024 .f32 :=
  broadcastInDim S8x2048x1024 ![0, 1, 2] bcast_S1x1x1024_S8x2048x1024_0_1_2 (broadcastInDim S1x1x1024 ![2] bcast_S1024_S1x1x1024_2 (Host.log (maximumf l (broadcastInDim S1024 ![] bcast_S_S1024 (constant S_ .f32 0x0DA24260#32)))))

/-- The forget gates' logarithms. -/
def lg (z : FVec Ideal S8x2048x1024 .f32) (l : FVec Ideal S1024 .f32) : FVec Ideal S8x2048x1024 .f32 :=
  lae (ls z) (addf (loglb l) (ls (Host.negf z)))

section
variable (i : Fin 8) (s : Fin 2048) (q : Fin 1024)

theorem prod_at (x : FVec Ideal S8x2048x1024 .f32) (w : FVec Ideal S1024x4096 .f32) (j : Fin 4096) :
    prod x w (ix3 i s j) = dot (fun k => x (ix3 i s k)) fun k => w (ix2 k j) := by
  pointwise [prod]
  rfl

theorem query_at (p : FVec Ideal S8x2048x4096 .f32) : query p (ix3 i s q) = silu (p (ix3 i s ⟨0 + q.val, by omega⟩)) := by
  pointwise [query]
  rfl

theorem outgate_at (p : FVec Ideal S8x2048x4096 .f32) : outgate p (ix3 i s q) = silu (p (ix3 i s ⟨3072 + q.val, by omega⟩)) := by
  pointwise [outgate]
  rfl

theorem val_at (p : FVec Ideal S8x2048x4096 .f32) : val p (ix3 i s q) = p (ix3 i s ⟨2048 + q.val, by omega⟩) := by
  pointwise [val]

theorem raw_at (p : FVec Ideal S8x2048x4096 .f32) : raw p (ix3 i s q) = p (ix3 i s ⟨1024 + q.val, by omega⟩) := by
  pointwise [raw]

theorem key_at (p : FVec Ideal S8x2048x4096 .f32) (l : FVec Ideal S1024 .f32) :
    key p l (ix3 i s q) = keyOf (p (ix3 i s ⟨1024 + q.val, by omega⟩)) (l (ix1 q)) := by
  pointwise [key]
  rfl

theorem lae_at (a b : FVec Ideal S8x2048x1024 .f32) :
    lae a b (ix3 i s q) = max (a (ix3 i s q) : EReal) (b (ix3 i s q)) + soft (a (ix3 i s q) - b (ix3 i s q)) := by
  pointwise [lae]
  rw [if_neg (fun h => h rfl)]
  rfl

theorem zeros_at : zeros (ix3 i s q) = (0 : EReal) := by
  pointwise [zeros]

theorem ls_at (z : FVec Ideal S8x2048x1024 .f32) : ls z (ix3 i s q) = logsig (z (ix3 i s q)) := by
  pointwise [ls]
  rw [lae_at, zeros_at]
  exact Cert.Proj.neg_softplus _

theorem loglb_at (l : FVec Ideal S1024 .f32) : loglb l (ix3 i s q) = Ideal.log (max (l (ix1 q) : EReal) (Ideal.ofBits FTy.f32 228737632#32)) := by
  pointwise [loglb]

theorem lg_at (z : FVec Ideal S8x2048x1024 .f32) (l : FVec Ideal S1024 .f32) : lg z l (ix3 i s q) = logGate (z (ix3 i s q)) (l (ix1 q)) := by
  have h : addf (loglb l) (ls (Host.negf z)) (ix3 i s q) = bound (z (ix3 i s q)) (l (ix1 q)) := by
    pointwise
    rw [loglb_at, ls_at]
    pointwise
    rfl
  rw [lg, lae_at, ls_at, h]
  rfl

end

variable (m : (ℓ : Loc nD τ sig) → Buf (Elt Ideal) ℓ) (ρ : Dev nD → PrngReg)

/-- A run of the reference ends with queries, keys, values, gates and output gates in its results and its arguments unchanged. -/
theorem run_proj : θ_run defs (onTc (τ := τ) (main (F := Ideal))) ⟨m, fun _ => 0, ρ⟩ fun r => ∀ c : Dev nD,
      r.2.mem ((c.tc : Thread nD τ).loc main_v37) = query (prod (m ((c.tc : Thread nD τ).loc main_arg0)) (m ((c.tc : Thread nD τ).loc main_arg1)))
      ∧ r.2.mem ((c.tc : Thread nD τ).loc main_v38) = key (prod (m ((c.tc : Thread nD τ).loc main_arg0)) (m ((c.tc : Thread nD τ).loc main_arg1))) (m ((c.tc : Thread nD τ).loc main_arg2))
      ∧ r.2.mem ((c.tc : Thread nD τ).loc main_v39) = val (prod (m ((c.tc : Thread nD τ).loc main_arg0)) (m ((c.tc : Thread nD τ).loc main_arg1)))
      ∧ r.2.mem ((c.tc : Thread nD τ).loc main_v23) = lg (raw (prod (m ((c.tc : Thread nD τ).loc main_arg0)) (m ((c.tc : Thread nD τ).loc main_arg1)))) (m ((c.tc : Thread nD τ).loc main_arg2))
      ∧ r.2.mem ((c.tc : Thread nD τ).loc main_v41) = outgate (prod (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.Reference4Ideal.Proj

namespace Cert.Proj

open Idealize.ShloMosaic Idealize.ShloMosaic.TcCoe Idealize.SL.Sem

/-- THE VALUE CLAIM OF THE RECURRENCE'S INPUT PROJECTIONS AND FORGET GATE: the idealized kernel and the reference compute the same
    queries, keys, values, logarithms of forget gates and output gates, from every memory. -/
theorem algebraic4 : Cert.algebraic_Kernel4Ideal_Reference4Ideal := by
  intro m g m' g' _ hagree
  refine ⟨_, _, _, _, _, Kernel4Ideal.Proj.run m g, ?_⟩
  refine (θ_run Reference4Ideal.defs _ _).mono (fun _ h c => ⟨(h c).1.trans ?_, (h c).2.1.trans ?_, (h c).2.2.1.trans ?_, (h c).2.2.2.1.trans ?_, (h c).2.2.2.2.1.trans ?_,
    (h c).2.2.2.2.2⟩) (Reference4Ideal.Proj.run_proj m' g')
  all_goals
    obtain ⟨h0, h1, h2⟩ := hagree c
    funext y
    obtain ⟨i, s, q, rfl⟩ : ∃ (i : Fin 8) (s : Fin 2048) (q : Fin 1024), y = (ix3 i s q : Kernel4Ideal.S8x2048x1024.Idx) :=
      ⟨y 0, y 1, y 2, Cert.Ffn.ix3_ext y rfl rfl rfl⟩
    rw [h0, h1]
  · exact ((Reference4Ideal.Proj.query_at i s q _).trans (congrArg silu (Reference4Ideal.Proj.prod_at i s _ _ _))).trans (Kernel4Ideal.Proj.result0_at m g c i s q).symm
  · rw [h2]
    exact ((Reference4Ideal.Proj.key_at i s q _ _).trans (congrArg (fun z => keyOf z _) (Reference4Ideal.Proj.prod_at i s _ _ _))).trans (Kernel4Ideal.Proj.result1_k m g c i s q).symm
  · exact ((Reference4Ideal.Proj.val_at i s q _).trans (Reference4Ideal.Proj.prod_at i s _ _ _)).trans (Kernel4Ideal.Proj.result2_at m g c i s q).symm
  · rw [h2]
    exact ((Reference4Ideal.Proj.lg_at i s q _ _).trans (congrArg (fun z => logGate z _) ((Reference4Ideal.Proj.raw_at i s q _).trans (Reference4Ideal.Proj.prod_at i s _ _ _)))).trans (Kernel4Ideal.Proj.result1_g m g c i s q).symm
  · exact ((Reference4Ideal.Proj.outgate_at i s q _).trans (congrArg silu (Reference4Ideal.Proj.prod_at i s _ _ _))).trans (Kernel4Ideal.Proj.result3_at m g c i s q).symm

end Cert.Proj

end
-- ==== Proof.Mix.Blocks.lean ====
/- The output product's result array at an index, from its arguments. -/
module

public import proofs.«01_k».proof.Proof.Gen.Kernel5Ideal.Frame
public import proofs.«01_k».proof.Proof.Ffn.Spec
public import Idealize.ShloMosaic.Lib.Pipeline.ValueKit
public import Idealize.ShloMosaic.Lib.StableHlo.ReadAt

@[expose] public section

set_option maxRecDepth 16384

noncomputable section

namespace Cert.Mix

open Idealize.ShloMosaic

/-- A row's residual at a column: the row scaled by the model's alpha plus the mixer's row through the output weights. -/
def res (h : Fin 1024 → EReal) (w : Fin 1024 → Fin 1024 → EReal) (x : Fin 1024 → EReal) (q : Fin 1024) : EReal :=
  Ideal.ofBits FTy.f32 0x3FD744FD#32 * x q + ∑ k, h k * w k q

end Cert.Mix

namespace Cert.Kernel5Ideal.Mix

open Idealize.ShloMosaic Idealize.ShloMosaic.TcCoe Idealize.SL.Sem
open Cert.Kernel5Ideal Cert.Kernel5Ideal.Gen
open Cert.Ffn (ix2_ext ix3_ext mean norm)
open Cert.Mix (res)

/-! ## A point's output block, from its input blocks -/

section
variable (h : Vec Ideal S512x1024 .bf16) (w : Vec Ideal S1024x1024 .bf16) (x : Vec Ideal S512x1024 .f32) (g b : Vec Ideal S1x1024 .f32)
  (i : Fin 512) (q : Fin 1024)

/-- The output block at an index: the normalised residual of the row. -/
theorem out_at : out0_5 h w x g b (ix2 i q)
    = norm (res (fun k => h (ix2 i k)) (fun k q => w (ix2 k q)) fun k => x (ix2 i k)) (fun q => g (ix2 0 q)) (fun q => b (ix2 0 q)) q := by
  have hh : View.ld h r0_0 = h := View.ld_unit_lit _ h (by decide)
  have hw : View.ld w r0_1 = w := View.ld_unit_lit _ w (by decide)
  have hx : View.ld x r0_0 = x := View.ld_unit_lit _ x (by decide)
  have h4 : View.ld g r0_2 = g := View.ld_unit_lit _ g (by decide)
  have h5 : View.ld b r0_2 = b := View.ld_unit_lit _ b (by decide)
  rw [out0_5, View.canon_cons_unit_lit _ _ _ (by decide), hh, hw, hx, h4, h5]
  pointwise [k0_pay1]
  rfl

end

/-! ## The windows' blocks, from the arrays -/

section
variable (m : (ℓ : Loc nD τ sig) → Buf (Elt Ideal) ℓ) (ρ : Dev nD → PrngReg) (c : Dev nD) (t : Fin cfg0.N)

theorem t_lt : t.val < 32 := lt_of_lt_of_eq t.isLt N_0

theorem idx_0 : ∀ t : Fin grid0.N, win0_0.index t = ![t.val, 0] := by decide +kernel
theorem idx_1 : ∀ t : Fin grid0.N, win0_1.index t = ![0, 0] := by decide +kernel
theorem idx_2 : ∀ t : Fin grid0.N, win0_2.index t = ![t.val, 0] := by decide +kernel
theorem idx_3 : ∀ t : Fin grid0.N, win0_3.index t = ![0, 0] := by decide +kernel
theorem idx_4 : ∀ t : Fin grid0.N, win0_4.index t = ![0, 0] := by decide +kernel
theorem idx_5 : ∀ t : Fin grid0.N, win0_5.index t = ![t.val, 0] := by decide +kernel

/-- The mixer's rows' block. -/
theorem iblk_0 (i : Fin 512) (k : Fin 1024) :
    iblk m c 0 t (ix2 i k : S512x1024.Idx) = V m c main_v2 (ix2 ⟨512 * t.val + i.val, by have := t_lt t; omega⟩ k : S16384x1024.Idx) := by
  blk_simp [iblk]
  refine congrArg _ (ix2_ext _ ?_ ?_) <;> blk_simp [idx_0] <;> first | (dsimp only; omega) | rfl

/-- The output weights' block. -/
theorem iblk_1 (k q : Fin 1024) :
    iblk m c 1 t (ix2 k q : S1024x1024.Idx) = V m c main_v3 (ix2 k q : S1024x1024.Idx) := by
  blk_simp [iblk]
  refine congrArg _ (ix2_ext _ ?_ ?_) <;> blk_simp [idx_1] <;> first | omega | rfl

/-- The stream's rows' block. -/
theorem iblk_2 (i : Fin 512) (k : Fin 1024) :
    iblk m c 2 t (ix2 i k : S512x1024.Idx) = V m c main_v0 (ix2 ⟨512 * t.val + i.val, by have := t_lt t; omega⟩ k : S16384x1024.Idx) := by
  blk_simp [iblk]
  refine congrArg _ (ix2_ext _ ?_ ?_) <;> blk_simp [idx_2] <;> first | (dsimp only; omega) | rfl

/-- The gain's block. -/
theorem iblk_3 (q : Fin 1024) : iblk m c 3 t (ix2 0 q : S1x1024.Idx) = V m c main_v4 (ix2 0 q : S1x1024.Idx) := by
  blk_simp [iblk]
  refine congrArg _ (ix2_ext _ ?_ ?_) <;> blk_simp [idx_3] <;> first | omega | rfl

/-- The bias's block. -/
theorem iblk_4 (q : Fin 1024) : iblk m c 4 t (ix2 0 q : S1x1024.Idx) = V m c main_v5 (ix2 0 q : S1x1024.Idx) := by
  blk_simp [iblk]
  refine congrArg _ (ix2_ext _ ?_ ?_) <;> blk_simp [idx_4] <;> first | omega | rfl

/-! ## The host lines before the call -/

theorem h_at (r : Fin 16384) (k : Fin 1024) :
    V m c main_v2 (ix2 r k : S16384x1024.Idx) = m ((c : Thread nD τ).loc main_arg0) (ix3 ⟨r.val / 2048, by omega⟩ ⟨r.val % 2048, by omega⟩ k : S8x2048x1024.Idx) := by
  show StableHlo.after hostOps0 (fun b => m (c, b)) (Proc.devRef .tc main_v2) _ = _
  after_reads_at

theorem w_at (k q : Fin 1024) :
    V m c main_v3 (ix2 k q : S1024x1024.Idx) = m ((c : Thread nD τ).loc main_arg1) (ix2 k q : S1024x1024.Idx) := by
  show StableHlo.after hostOps0 (fun b => m (c, b)) (Proc.devRef .tc main_v3) _ = _
  after_reads_at

theorem x_at (r : Fin 16384) (k : Fin 1024) :
    V m c main_v0 (ix2 r k : S16384x1024.Idx) = m ((c : Thread nD τ).loc main_arg2) (ix3 ⟨r.val / 2048, by omega⟩ ⟨r.val % 2048, by omega⟩ k : S8x2048x1024.Idx) := by
  show StableHlo.after hostOps0 (fun b => m (c, b)) (Proc.devRef .tc main_v0) _ = _
  after_reads_at

theorem g_at (q : Fin 1024) :
    V m c main_v4 (ix2 0 q : S1x1024.Idx) = m ((c : Thread nD τ).loc main_arg3) (ix1 q : S1024.Idx) := by
  show StableHlo.after hostOps0 (fun b => m (c, b)) (Proc.devRef .tc main_v4) _ = _
  after_reads_at

theorem b_at (q : Fin 1024) :
    V m c main_v5 (ix2 0 q : S1x1024.Idx) = m ((c : Thread nD τ).loc main_arg4) (ix1 q : S1024.Idx) := by
  show StableHlo.after hostOps0 (fun b => m (c, b)) (Proc.devRef .tc main_v5) _ = _
  after_reads_at

/-! ## The result -/

/-- The call's result array at an index: the normalised residual of the row. -/
theorem arr_at (r : Fin 16384) (q : Fin 1024) :
    (dats m 0 c).arrAt 5 cfg0.N (ix2 r q : S16384x1024.Idx)
      = norm (res (fun k => V m c main_v2 (ix2 r k : S16384x1024.Idx)) (fun k q => V m c main_v3 (ix2 k q : S1024x1024.Idx)) fun k => V m c main_v0 (ix2 r k : S16384x1024.Idx))
          (fun q => V m c main_v4 (ix2 0 q : S1x1024.Idx)) (fun q => V m c main_v5 (ix2 0 q : S1x1024.Idx)) q := by
  refine (dats m 0 c).arrAt_forall_of_covers 5 (fun y v => ∀ (r : Fin 16384) (q : Fin 1024), y = (ix2 r q : S16384x1024.Idx) →
      v = norm (res (fun k => V m c main_v2 (ix2 r k : S16384x1024.Idx)) (fun k q => V m c main_v3 (ix2 k q : S1024x1024.Idx)) fun k => V m c main_v0 (ix2 r k : S16384x1024.Idx))
          (fun q => V m c main_v4 (ix2 0 q : S1x1024.Idx)) (fun q => V m c main_v5 (ix2 0 q : S1x1024.Idx)) q) (by decide +kernel) (fun t hf y => ?_) _ (Memref.isWhole_whole _) r q rfl
  blk_simp
  rw [after0_5]
  intro r q e
  have e0 := congrArg (fun y => (y 0).val) e
  have e1 := congrArg (fun y => (y 1).val) e
  blk_simp [idx_5] at e0 e1
  change S512x1024.Idx at y
  obtain ⟨i, hi⟩ : ∃ i : Fin 512, (y 0).val = i.val := ⟨⟨(y 0).val, (y 0).isLt⟩, rfl⟩
  have hr : (⟨512 * t.val + i.val, by have := t_lt t; omega⟩ : Fin 16384) = r := Fin.ext (by dsimp only; omega)
  rw [show y = ix2 i q from ix2_ext y hi (by omega), out_at]
  simp only [iblk_0 m c t, iblk_1 m c t, iblk_2 m c t, iblk_3 m c t, iblk_4 m c t, hr]

/-- THE KERNEL'S RESULT AT AN INDEX: the normalised residual of the row, from the arguments. -/
theorem result_at (i : Fin 8) (s : Fin 2048) (q : Fin 1024) :
    Pipeline.afterTail₀ cfgs (dats m) 0 (V0 m) [hostOps1] c main_v7 (ix3 i s q : S8x2048x1024.Idx)
      = norm (res (fun k => m ((c : Thread nD τ).loc main_arg0) (ix3 i s k : S8x2048x1024.Idx)) (fun k q => m ((c : Thread nD τ).loc main_arg1) (ix2 k q : S1024x1024.Idx))
            fun k => m ((c : Thread nD τ).loc main_arg2) (ix3 i s k : S8x2048x1024.Idx))
          (fun q => m ((c : Thread nD τ).loc main_arg3) (ix1 q : S1024.Idx)) (fun q => m ((c : Thread nD τ).loc main_arg4) (ix1 q : S1024.Idx)) q := by
  have e : Pipeline.withArrays (cfgs 0).spec c (V0 m c) (fun w => (dats m 0 c).arrAt w (cfgs 0).N) (Proc.devRef .tc main_v6) = (dats m 0 c).arrAt 5 cfg0.N :=
    Pipeline.withArrays_arr spec0 launch0.win.arr_inj c _ _ 5
  have h : Pipeline.afterTail₀ cfgs (dats m) 0 (V0 m) [hostOps1] c main_v7 (ix3 i s q : S8x2048x1024.Idx)
      = (dats m 0 c).arrAt 5 cfg0.N (ix2 ⟨i.val * 2048 + s.val, by omega⟩ q : S16384x1024.Idx) := by
    rw [← e]
    unfold Pipeline.afterTail₀
    generalize Pipeline.withArrays (cfgs 0).spec c (V0 m c) (fun w => (dats m 0 c).arrAt w (cfgs 0).N) = W
    show StableHlo.after hostOps1 W (Proc.devRef .tc main_v7) _ = _
    after_reads_at
  have d0 : (i.val * 2048 + s.val) / 2048 = i.val := by omega
  have d1 : (i.val * 2048 + s.val) % 2048 = s.val := by omega
  have h0 : ∀ k, V m c main_v2 (ix2 ⟨i.val * 2048 + s.val, by omega⟩ k : S16384x1024.Idx) = m ((c : Thread nD τ).loc main_arg0) (ix3 i s k : S8x2048x1024.Idx) := fun k =>
    (h_at m c _ k).trans (congrArg _ (ix3_ext _ d0 d1 rfl))
  have h2 : ∀ k, V m c main_v0 (ix2 ⟨i.val * 2048 + s.val, by omega⟩ k : S16384x1024.Idx) = m ((c : Thread nD τ).loc main_arg2) (ix3 i s k : S8x2048x1024.Idx) := fun k =>
    (x_at m c _ k).trans (congrArg _ (ix3_ext _ d0 d1 rfl))
  rw [h, arr_at]
  exact congrFun (congr (congr (congrArg Cert.Ffn.norm (congr (congr (congrArg res (funext h0)) (funext fun k => funext fun q => w_at m c k q)) (funext h2)))
    (funext fun q => g_at m c q)) (funext fun q => b_at m c q)) q

end

end Cert.Kernel5Ideal.Mix

end
-- ==== Proof.Mix.Ref.lean ====
/- The output product's reference at an index: its operations in stages, each read at an index. -/
module

public import proofs.«01_k».proof.Proof.Gen.Reference5Ideal.Run
public import proofs.«01_k».proof.Proof.Mix.Blocks
public import Idealize.ShloMosaic.Lib.Pointwise

@[expose] public section

set_option maxRecDepth 16384

noncomputable section

namespace Cert.Reference5Ideal.Mix

open Idealize.ShloMosaic Idealize.ShloMosaic.TcCoe Idealize.SL.Sem
open Cert.Reference5Ideal Cert.Reference5Ideal.Value Cert.Reference5Ideal.Gen Cert.Reference5Ideal.Facts
open Cert.Ffn (mean)

/-- The scaled rows plus the mixer's rows through the output weights. -/
def total (h : FVec Ideal S8x2048x1024 .f32) (w : FVec Ideal S1024x1024 .f32) (x : FVec Ideal S8x2048x1024 .f32) : FVec Ideal S8x2048x1024 .f32 :=
  addf (mulf (broadcastInDim S8x2048x1024 ![] bcast_S_S8x2048x1024 (constant S_ .f32 0x3FD744FD#32)) x) (Host.dotGeneral dot_S8x2048x1024_S1024x1024_S8x2048x1024_2_0_01_1_n_n none h w)

/-- Each row's mean. -/
def avg (h : FVec Ideal S8x2048x1024 .f32) : FVec Ideal S8x2048x1 .f32 :=
  Host.divf (broadcastInDim S8x2048x1 ![0, 1] bcast_S8x2048_S8x2048x1_0_1 (Host.reduceAdd h (constant S_ .f32 0x00000000#32) reducesTo_S8x2048x1024_S8x2048_d2 h_S_)) (broadcastInDim S8x2048x1 ![] bcast_S_S8x2048x1 (constant S_ .f32 0x44800000#32))

/-- Each row less its mean. -/
def ctr (h : FVec Ideal S8x2048x1024 .f32) : FVec Ideal S8x2048x1024 .f32 :=
  subf h (broadcastInDim S8x2048x1024 ![0, 1, 2] bcast_S8x2048x1_S8x2048x1024_0_1_2 (avg h))

/-- The rows normalised, scaled by the gains and shifted by the biases. -/
def norm (h : FVec Ideal S8x2048x1024 .f32) (g b : FVec Ideal S1024 .f32) : FVec Ideal S8x2048x1024 .f32 :=
  addf (mulf (mulf (ctr h) (broadcastInDim S8x2048x1024 ![0, 1, 2] bcast_S8x2048x1_S8x2048x1024_0_1_2 (Host.rsqrt (addf (avg (mulf (ctr h) (ctr h))) (broadcastInDim S8x2048x1 ![] bcast_S_S8x2048x1 (constant S_ .f32 0x3727C5AC#32)))))) (broadcastInDim S8x2048x1024 ![0, 1, 2] bcast_S1x1x1024_S8x2048x1024_0_1_2 (broadcastInDim S1x1x1024 ![2] bcast_S1024_S1x1x1024_2 g))) (broadcastInDim S8x2048x1024 ![0, 1, 2] bcast_S1x1x1024_S8x2048x1024_0_1_2 (broadcastInDim S1x1x1024 ![2] bcast_S1024_S1x1x1024_2 b))

section
variable (i : Fin 8) (s : Fin 2048)

/-- The residual at an index. -/
theorem total_at (h : FVec Ideal S8x2048x1024 .f32) (w : FVec Ideal S1024x1024 .f32) (x : FVec Ideal S8x2048x1024 .f32) (q : Fin 1024) :
    total h w x (ix3 i s q) = Ideal.ofBits FTy.f32 0x3FD744FD#32 * x (ix3 i s q) + ∑ k : Fin 1024, (h (ix3 i s k) : EReal) * w (ix2 k q) := by
  pointwise [total]

/-- A row's mean. -/
theorem avg_at (h : FVec Ideal S8x2048x1024 .f32) : avg h (ix3 i s 0) = mean fun q => h (ix3 i s q) := by
  pointwise [avg]
  rfl

/-- A row less its mean, at an index. -/
theorem ctr_at (h : FVec Ideal S8x2048x1024 .f32) (q : Fin 1024) : ctr h (ix3 i s q) = (h (ix3 i s q) : EReal) - mean fun q => h (ix3 i s q) := by
  rw [← avg_at]
  pointwise [ctr]

/-- The normalised rows at an index. -/
theorem norm_at (h : FVec Ideal S8x2048x1024 .f32) (g b : FVec Ideal S1024 .f32) (q : Fin 1024) :
    norm h g b (ix3 i s q) = Cert.Ffn.norm (fun q => h (ix3 i s q)) (fun q => g (ix1 q)) (fun q => b (ix1 q)) q := by
  pointwise [norm]
  rw [avg_at]
  simp only [mulf_apply, ctr_at]
  rfl

/-- The reference's result at an index: the normalised residual of the row. -/
theorem result_at (h : FVec Ideal S8x2048x1024 .f32) (w : FVec Ideal S1024x1024 .f32) (x : FVec Ideal S8x2048x1024 .f32) (g b : FVec Ideal S1024 .f32) (q : Fin 1024) :
    norm (total h w x) g b (ix3 i s q)
      = Cert.Ffn.norm (Cert.Mix.res (fun k => h (ix3 i s k)) (fun k q => w (ix2 k q)) fun k => x (ix3 i s k)) (fun q => g (ix1 q)) (fun q => b (ix1 q)) q := by
  rw [norm_at]
  simp only [total_at]
  rfl

end

variable (m : (ℓ : Loc nD τ sig) → Buf (Elt Ideal) ℓ) (ρ : Dev nD → PrngReg)

/-- A run of the reference ends with the normalised residuals in its result and its arguments unchanged. -/
theorem run_norm : θ_run defs (onTc (τ := τ) (main (F := Ideal))) ⟨m, fun _ => 0, ρ⟩ fun r => ∀ c : Dev nD,
      r.2.mem ((c.tc : Thread nD τ).loc main_v27) = norm (total (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Cert.Reference5Ideal.Mix

end
-- ==== Proof.Mix.Value.lean ====
/- THE OUTPUT PRODUCT'S VALUE CLAIM: the kernel and its reference compute the same result. -/
module

public import proofs.«01_k».proof.Defs
public import proofs.«01_k».proof.Proof.Mix.Blocks
public import proofs.«01_k».proof.Proof.Mix.Ref

@[expose] public section

set_option maxRecDepth 16384

noncomputable section

namespace Cert.Mix

open Idealize.ShloMosaic Idealize.ShloMosaic.TcCoe Idealize.SL.Sem

/-- THE VALUE CLAIM OF THE OUTPUT PRODUCT WITH ITS RESIDUAL AND LAYER NORM: the idealized kernel and the reference compute one and
    the same result, from every memory. -/
theorem algebraic : Cert.algebraic_Kernel5Ideal_Reference5Ideal := by
  intro m g m' g' _ hagree
  refine ⟨fun c => Pipeline.afterTail₀ Kernel5Ideal.cfgs (Kernel5Ideal.Gen.dats m) 0 (Kernel5Ideal.Gen.V0 m) [Kernel5Ideal.Gen.hostOps1] c Kernel5Ideal.main_v7,
    (θ_run Kernel5Ideal.defs _ _).mono (fun _ h c => ⟨h.1.rest_eq c Kernel5Ideal.main_v7 (by decide), h.2 c⟩)
      (θ_run_and (Kernel5Ideal.Gen.run_main m g) (Kernel5Ideal.Gen.unchanged m g)), ?_⟩
  refine (θ_run Reference5Ideal.defs _ _).mono (fun _ h c => ⟨(h c).1.trans ?_, (h c).2⟩) (Reference5Ideal.Mix.run_norm m' g')
  obtain ⟨h0, h1, h2, h3, h4⟩ := hagree c
  funext y
  obtain ⟨i, s, q, rfl⟩ : ∃ (i : Fin 8) (s : Fin 2048) (q : Fin 1024), y = (ix3 i s q : Kernel5Ideal.S8x2048x1024.Idx) :=
    ⟨y 0, y 1, y 2, Cert.Ffn.ix3_ext y rfl rfl rfl⟩
  rw [h0, h1, h2, h3, h4]
  exact (Reference5Ideal.Mix.result_at i s _ _ _ _ _ q).trans (Kernel5Ideal.Mix.result_at m c i s q).symm

end Cert.Mix

end
-- ==== Proof.Proj.Run6.lean ====
/- The kernel's run with its results: the launch over the segments, read at the result arrays. -/
module

public import proofs.«01_k».proof.Proof.Gen.Kernel6Ideal.Frame

@[expose] public section

set_option maxRecDepth 16384

noncomputable section

namespace Cert.Kernel6Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN'S VALUE: every execution of the kernel's @main ends with the result arrays at what the calls'
    write-backs leave in them, and the arguments as launched. -/
theorem run : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v8 (by decide)),
       h c _ (mem_uc main_v9 (by decide)),
       (h c _ (mem_uc main_arg0 (by decide))).trans (W5_main_arg0 m ρ c),
       (h c _ (mem_uc main_arg1 (by decide))).trans (W5_main_arg1 m ρ c)⟩)

end Cert.Kernel6Ideal.Proj

end
-- ==== Proof.Proj.Blocks6.lean ====
/- The projections' result arrays at an index, from the arguments. -/
module

public import proofs.«01_k».proof.Proof.Proj.Run6
public import proofs.«01_k».proof.Proof.Proj.Spec
public import Idealize.ShloMosaic.Lib.Pipeline.ValueKit
public import Idealize.ShloMosaic.Lib.StableHlo.ReadAt

@[expose] public section

set_option maxRecDepth 16384

noncomputable section

namespace Cert.Kernel6Ideal.Proj

open Idealize.ShloMosaic Idealize.ShloMosaic.TcCoe Idealize.SL.Sem
open Cert.Kernel6Ideal Cert.Kernel6Ideal.Gen
open Cert.Ffn (ix2_ext ix3_ext)
open Cert.Proj (dot silu)

variable (V : (c : Dev nD) → (b : Ref sig .tc) → Buf (Elt Ideal) ((c : Thread nD τ).loc b))
  (m : (ℓ : Loc nD τ sig) → Buf (Elt Ideal) ℓ) (ρ : Dev nD → PrngReg) (c : Dev nD)

/-! ## Call 0 -/

theorem t_lt0 (t : Fin cfg0.N) : t.val < 16 := lt_of_lt_of_eq t.isLt N_0

theorem idx0_0 : ∀ t : Fin grid0.N, win0_0.index t = ![t.val, 0] := by decide +kernel
theorem idx0_1 : ∀ t : Fin grid0.N, win0_1.index t = ![0, 0] := by decide +kernel
theorem idx0_3 : ∀ t : Fin grid0.N, win0_3.index t = ![t.val, 0] := by decide +kernel

/-- The output block at an index, from the input blocks. -/
theorem out0_at (x : Vec Ideal S1024x1024 .f32) (w : Vec Ideal S1024x1024 .bf16) (b : Vec Ideal S1x1024 .f32) (i q : Fin 1024) :
    out0_3 x w b (ix2 i q) = dot (fun k => x (ix2 i k)) fun k => w (ix2 k q) := by
  have hx : View.ld x r0_0 = x := View.ld_unit_lit _ x (by decide)
  have hw : View.ld w r0_0 = w := View.ld_unit_lit _ w (by decide)
  rw [out0_3, View.canon_cons_unit_lit _ _ _ (by decide), hx, hw]
  pointwise [k0_pay1]
  rfl

/-- The rows' block. -/
theorem iblk0_x (t : Fin cfg0.N) (i k : Fin 1024) :
    iblk0 V c 0 t (ix2 i k : S1024x1024.Idx) = V c main_v0 (ix2 ⟨1024 * t.val + i.val, by have := t_lt0 t; omega⟩ k : S16384x1024.Idx) := by
  blk_simp [iblk0]
  refine congrArg _ (ix2_ext _ ?_ ?_) <;> blk_simp [idx0_0] <;> first | (dsimp only; omega) | rfl

/-- The weights' block. -/
theorem iblk0_w (t : Fin cfg0.N) (k q : Fin 1024) : iblk0 V c 1 t (ix2 k q : S1024x1024.Idx) = V c main_v2 (ix2 k q : S1024x1024.Idx) := by
  blk_simp [iblk0]
  refine congrArg _ (ix2_ext _ ?_ ?_) <;> blk_simp [idx0_1] <;> first | omega | rfl

/-- The call's result array at an index. -/
theorem arr0_at (r : Fin 16384) (q : Fin 1024) :
    (dat0 V c).arrAt 3 cfg0.N (ix2 r q : S16384x1024.Idx) = dot (fun k => V c main_v0 (ix2 r k : S16384x1024.Idx)) fun k => V c main_v2 (ix2 k q : S1024x1024.Idx) := by
  refine (dat0 V c).arrAt_forall_of_covers 3 (fun y v => ∀ (r : Fin 16384) (q : Fin 1024), y = (ix2 r q : S16384x1024.Idx) →
      v = dot (fun k => V c main_v0 (ix2 r k : S16384x1024.Idx)) fun k => V c main_v2 (ix2 k q : S1024x1024.Idx)) (by decide +kernel) (fun t hf y => ?_) _ (Memref.isWhole_whole _) r q rfl
  blk_simp
  rw [after0_3]
  intro r q e
  have e0 := congrArg (fun y => (y 0).val) e
  have e1 := congrArg (fun y => (y 1).val) e
  blk_simp [idx0_3] at e0 e1
  change S1024x1024.Idx at y
  obtain ⟨i, hi⟩ : ∃ i : Fin 1024, (y 0).val = i.val := ⟨⟨(y 0).val, (y 0).isLt⟩, rfl⟩
  have hr : (⟨1024 * t.val + i.val, by have := t_lt0 t; omega⟩ : Fin 16384) = r := Fin.ext (by dsimp only; omega)
  rw [show y = ix2 i q from ix2_ext y hi (by omega), out0_at]
  simp only [iblk0_x V c t, iblk0_w V c t, hr]

/-- The rows at the call's entry, from the argument. -/
theorem x0_at (r : Fin 16384) (k : Fin 1024) :
    V1 m ρ c main_v0 (ix2 r k : S16384x1024.Idx) = m ((c : Thread nD τ).loc main_arg0) (ix3 ⟨r.val / 2048, by omega⟩ ⟨r.val % 2048, by omega⟩ k : S8x2048x1024.Idx) := by
  have h : V1 m ρ c main_v0 = W1 m ρ c (Proc.devRef .tc main_v0) := rfl
  rw [h]
  show StableHlo.after hostOps0 (W0 m ρ c) (Proc.devRef .tc main_v0) _ = _
  after_reads_at

/-- The weights at the call's entry, from the argument. -/
theorem w0_at (k q : Fin 1024) :
    V1 m ρ c main_v2 (ix2 k q : S1024x1024.Idx) = m ((c : Thread nD τ).loc main_arg1) (ix2 k ⟨0 + q.val, by omega⟩ : S1024x2048.Idx) := by
  show StableHlo.after hostOps0 (W0 m ρ c) (Proc.devRef .tc main_v2) _ = _
  after_reads_at

/-- The result at an index, from the arguments. -/
theorem result0_at (i : Fin 8) (s : Fin 2048) (q : Fin 1024) :
    W5 m ρ c (Proc.devRef .tc main_v8) (ix3 i s q : S8x2048x1024.Idx) = dot (fun k => m ((c : Thread nD τ).loc main_arg0) (ix3 i s k : S8x2048x1024.Idx)) fun k => m ((c : Thread nD τ).loc main_arg1) (ix2 k ⟨0 + q.val, by omega⟩ : S1024x2048.Idx) := by
  have h : W5 m ρ c (Proc.devRef .tc main_v8) (ix3 i s q : S8x2048x1024.Idx) = W4 m ρ c (Proc.devRef .tc main_v4) (ix2 ⟨i.val * 2048 + s.val, by omega⟩ q : S16384x1024.Idx) := by
    show StableHlo.after hostOps2 (W4 m ρ c) (Proc.devRef .tc main_v8) _ = _
    generalize W4 m ρ c = W
    after_reads_at
  have h1 : W4 m ρ c (Proc.devRef .tc main_v4) = (dat0 (V1 m ρ) c).arrAt 3 cfg0.N := ((W4_of m ρ c main_v4 (by decide)).trans (W3_of m ρ c main_v4 (by decide))).trans (W2_arr m ρ c 3)
  rw [h, h1, arr0_at]
  refine (congr (congrArg dot (funext fun k => (x0_at m ρ c _ k).trans (congrArg _ (ix3_ext _ ?_ ?_ rfl)))) (funext fun k => w0_at m ρ c k q))
  · show (i.val * 2048 + s.val) / 2048 = i.val
    omega
  · show (i.val * 2048 + s.val) % 2048 = s.val
    omega

/-! ## Call 1 -/

theorem t_lt1 (t : Fin cfg1.N) : t.val < 16 := lt_of_lt_of_eq t.isLt N_1

theorem idx1_0 : ∀ t : Fin grid1.N, win1_0.index t = ![t.val, 0] := by decide +kernel
theorem idx1_1 : ∀ t : Fin grid1.N, win1_1.index t = ![0, 0] := by decide +kernel
theorem idx1_3 : ∀ t : Fin grid1.N, win1_3.index t = ![t.val, 0] := by decide +kernel

/-- The output block at an index, from the input blocks. -/
theorem out1_at (x : Vec Ideal S1024x1024 .f32) (w : Vec Ideal S1024x1024 .bf16) (b : Vec Ideal S1x1024 .f32) (i q : Fin 1024) :
    out1_3 x w b (ix2 i q) = Ideal.logistic (dot (fun k => x (ix2 i k)) fun k => w (ix2 k q)) := by
  have hx : View.ld x r1_0 = x := View.ld_unit_lit _ x (by decide)
  have hw : View.ld w r1_0 = w := View.ld_unit_lit _ w (by decide)
  rw [out1_3, View.canon_cons_unit_lit _ _ _ (by decide), hx, hw]
  pointwise [k1_pay1]
  rfl

/-- The rows' block. -/
theorem iblk1_x (t : Fin cfg1.N) (i k : Fin 1024) :
    iblk1 V c 0 t (ix2 i k : S1024x1024.Idx) = V c main_v0 (ix2 ⟨1024 * t.val + i.val, by have := t_lt1 t; omega⟩ k : S16384x1024.Idx) := by
  blk_simp [iblk1]
  refine congrArg _ (ix2_ext _ ?_ ?_) <;> blk_simp [idx1_0] <;> first | (dsimp only; omega) | rfl

/-- The weights' block. -/
theorem iblk1_w (t : Fin cfg1.N) (k q : Fin 1024) : iblk1 V c 1 t (ix2 k q : S1024x1024.Idx) = V c main_v5 (ix2 k q : S1024x1024.Idx) := by
  blk_simp [iblk1]
  refine congrArg _ (ix2_ext _ ?_ ?_) <;> blk_simp [idx1_1] <;> first | omega | rfl

/-- The call's result array at an index. -/
theorem arr1_at (r : Fin 16384) (q : Fin 1024) :
    (dat1 V c).arrAt 3 cfg1.N (ix2 r q : S16384x1024.Idx) = Ideal.logistic (dot (fun k => V c main_v0 (ix2 r k : S16384x1024.Idx)) fun k => V c main_v5 (ix2 k q : S1024x1024.Idx)) := by
  refine (dat1 V c).arrAt_forall_of_covers 3 (fun y v => ∀ (r : Fin 16384) (q : Fin 1024), y = (ix2 r q : S16384x1024.Idx) →
      v = Ideal.logistic (dot (fun k => V c main_v0 (ix2 r k : S16384x1024.Idx)) fun k => V c main_v5 (ix2 k q : S1024x1024.Idx))) (by decide +kernel) (fun t hf y => ?_) _ (Memref.isWhole_whole _) r q rfl
  blk_simp
  rw [after1_3]
  intro r q e
  have e0 := congrArg (fun y => (y 0).val) e
  have e1 := congrArg (fun y => (y 1).val) e
  blk_simp [idx1_3] at e0 e1
  change S1024x1024.Idx at y
  obtain ⟨i, hi⟩ : ∃ i : Fin 1024, (y 0).val = i.val := ⟨⟨(y 0).val, (y 0).isLt⟩, rfl⟩
  have hr : (⟨1024 * t.val + i.val, by have := t_lt1 t; omega⟩ : Fin 16384) = r := Fin.ext (by dsimp only; omega)
  rw [show y = ix2 i q from ix2_ext y hi (by omega), out1_at]
  simp only [iblk1_x V c t, iblk1_w V c t, hr]

/-- The rows at the call's entry, from the argument. -/
theorem x1_at (r : Fin 16384) (k : Fin 1024) :
    V3 m ρ c main_v0 (ix2 r k : S16384x1024.Idx) = m ((c : Thread nD τ).loc main_arg0) (ix3 ⟨r.val / 2048, by omega⟩ ⟨r.val % 2048, by omega⟩ k : S8x2048x1024.Idx) := by
  have h : V3 m ρ c main_v0 = W1 m ρ c (Proc.devRef .tc main_v0) := ((W3_of m ρ c main_v0 (by decide)).trans (W2_of m ρ c main_v0 (by decide)))
  rw [h]
  show StableHlo.after hostOps0 (W0 m ρ c) (Proc.devRef .tc main_v0) _ = _
  after_reads_at

/-- The weights at the call's entry, from the argument. -/
theorem w1_at (k q : Fin 1024) :
    V3 m ρ c main_v5 (ix2 k q : S1024x1024.Idx) = m ((c : Thread nD τ).loc main_arg1) (ix2 k ⟨1024 + q.val, by omega⟩ : S1024x2048.Idx) := by
  have h : V3 m ρ c main_v5 (ix2 k q : S1024x1024.Idx) = W2 m ρ c (Proc.devRef .tc main_v1) (ix2 k ⟨1024 + q.val, by omega⟩ : S1024x2048.Idx) := by
    show StableHlo.after hostOps1 (W2 m ρ c) (Proc.devRef .tc main_v5) _ = _
    generalize W2 m ρ c = W
    after_reads_at
  have h1 : W2 m ρ c (Proc.devRef .tc main_v1) = W1 m ρ c (Proc.devRef .tc main_v1) := (W2_of m ρ c main_v1 (by decide))
  rw [h, h1]
  show StableHlo.after hostOps0 (W0 m ρ c) (Proc.devRef .tc main_v1) _ = _
  after_reads_at

/-- The result at an index, from the arguments. -/
theorem result1_at (i : Fin 8) (s : Fin 2048) (q : Fin 1024) :
    W5 m ρ c (Proc.devRef .tc main_v9) (ix3 i s q : S8x2048x1024.Idx) = Ideal.logistic (dot (fun k => m ((c : Thread nD τ).loc main_arg0) (ix3 i s k : S8x2048x1024.Idx)) fun k => m ((c : Thread nD τ).loc main_arg1) (ix2 k ⟨1024 + q.val, by omega⟩ : S1024x2048.Idx)) := by
  have h : W5 m ρ c (Proc.devRef .tc main_v9) (ix3 i s q : S8x2048x1024.Idx) = W4 m ρ c (Proc.devRef .tc main_v7) (ix2 ⟨i.val * 2048 + s.val, by omega⟩ q : S16384x1024.Idx) := by
    show StableHlo.after hostOps2 (W4 m ρ c) (Proc.devRef .tc main_v9) _ = _
    generalize W4 m ρ c = W
    after_reads_at
  have h1 : W4 m ρ c (Proc.devRef .tc main_v7) = (dat1 (V3 m ρ) c).arrAt 3 cfg1.N := (W4_arr m ρ c 3)
  rw [h, h1, arr1_at]
  refine congrArg Ideal.logistic (congr (congrArg dot (funext fun k => (x1_at m ρ c _ k).trans (congrArg _ (ix3_ext _ ?_ ?_ rfl)))) (funext fun k => w1_at m ρ c k q))
  · show (i.val * 2048 + s.val) / 2048 = i.val
    omega
  · show (i.val * 2048 + s.val) % 2048 = s.val
    omega

end Cert.Kernel6Ideal.Proj

end
-- ==== Proof.Proj.Value6.lean ====
/- THE ATTENTION'S QUERY AND GATE PROJECTIONS: the kernel and its reference compute the same results. -/
module

public import proofs.«01_k».proof.Defs
public import proofs.«01_k».proof.Proof.Proj.Blocks6
public import proofs.«01_k».proof.Proof.Gen.Reference6Ideal.Run

@[expose] public section

set_option maxRecDepth 16384

noncomputable section

namespace Cert.Reference6Ideal.Proj

open Idealize.ShloMosaic Idealize.ShloMosaic.TcCoe Idealize.SL.Sem
open Cert.Reference6Ideal Cert.Reference6Ideal.Value Cert.Reference6Ideal.Gen Cert.Reference6Ideal.Facts
open Cert.Proj (dot)

/-- All rows through all columns of weights. -/
def prod (x : FVec Ideal S8x2048x1024 .f32) (w : FVec Ideal S1024x2048 .f32) : FVec Ideal S8x2048x2048 .f32 :=
  Host.dotGeneral dot_S8x2048x1024_S1024x2048_S8x2048x2048_2_0_01_1_n_n none x w

/-- The logistic of the last 1024 columns. -/
def gate (p : FVec Ideal S8x2048x2048 .f32) : FVec Ideal S8x2048x1024 .bf16 :=
  truncf .bf16 (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extractStridedSlice S8x2048x1024 ![0, 0, 1024] p slices_S8x2048x2048_S8x2048x1024_0_0_1024))))) bitsLt_bf16_f32

theorem prod_at (x : FVec Ideal S8x2048x1024 .f32) (w : FVec Ideal S1024x2048 .f32) (i : Fin 8) (s j : Fin 2048) :
    prod x w (ix3 i s j) = dot (fun k => x (ix3 i s k)) fun k => w (ix2 k j) := by
  pointwise [prod]
  rfl

theorem query_at (p : FVec Ideal S8x2048x2048 .f32) (i : Fin 8) (s : Fin 2048) (q : Fin 1024) :
    extractStridedSlice S8x2048x1024 ![0, 0, 0] p slices_S8x2048x2048_S8x2048x1024_0_0_0 (ix3 i s q) = p (ix3 i s ⟨0 + q.val, by omega⟩) := by
  pointwise

theorem gate_at (p : FVec Ideal S8x2048x2048 .f32) (i : Fin 8) (s : Fin 2048) (q : Fin 1024) :
    gate p (ix3 i s q) = Ideal.logistic (p (ix3 i s ⟨1024 + q.val, by omega⟩)) := by
  pointwise [gate]
  rfl

variable (m : (ℓ : Loc nD τ sig) → Buf (Elt Ideal) ℓ) (ρ : Dev nD → PrngReg)

/-- A run of the reference ends with the queries and the gates in its results and its arguments unchanged. -/
theorem run_proj : θ_run defs (onTc (τ := τ) (main (F := Ideal))) ⟨m, fun _ => 0, ρ⟩ fun r => ∀ c : Dev nD,
      r.2.mem ((c.tc : Thread nD τ).loc main_v1) = extractStridedSlice S8x2048x1024 ![0, 0, 0] (prod (m ((c.tc : Thread nD τ).loc main_arg0)) (m ((c.tc : Thread nD τ).loc main_arg1))) slices_S8x2048x2048_S8x2048x1024_0_0_0
      ∧ r.2.mem ((c.tc : Thread nD τ).loc main_v9) = gate (prod (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.Reference6Ideal.Proj

namespace Cert.Proj

open Idealize.ShloMosaic Idealize.ShloMosaic.TcCoe Idealize.SL.Sem

/-- THE VALUE CLAIM OF THE ATTENTION'S QUERY AND GATE PROJECTIONS: the idealized kernel and the reference compute the same
    queries and gates, from every memory. -/
theorem algebraic6 : Cert.algebraic_Kernel6Ideal_Reference6Ideal := by
  intro m g m' g' _ hagree
  refine ⟨_, _, Kernel6Ideal.Proj.run m g, ?_⟩
  refine (θ_run Reference6Ideal.defs _ _).mono (fun _ h c => ⟨(h c).1.trans ?_, (h c).2.1.trans ?_, (h c).2.2⟩) (Reference6Ideal.Proj.run_proj m' g')
  all_goals
    obtain ⟨h0, h1⟩ := hagree c
    funext y
    obtain ⟨i, s, q, rfl⟩ : ∃ (i : Fin 8) (s : Fin 2048) (q : Fin 1024), y = (ix3 i s q : Kernel6Ideal.S8x2048x1024.Idx) :=
      ⟨y 0, y 1, y 2, Cert.Ffn.ix3_ext y rfl rfl rfl⟩
    rw [h0, h1]
  · exact ((Reference6Ideal.Proj.query_at _ i s q).trans (Reference6Ideal.Proj.prod_at _ _ i s _)).trans (Kernel6Ideal.Proj.result0_at m g c i s q).symm
  · exact ((Reference6Ideal.Proj.gate_at _ i s q).trans (congrArg Ideal.logistic (Reference6Ideal.Proj.prod_at _ _ i s _))).trans (Kernel6Ideal.Proj.result1_at m g c i s q).symm

end Cert.Proj

end
-- ==== Proof.Experts.Same.lean ====
/- The experts as printed are the idealized ones at another interpretation of the floats, so their frame is that one's. -/
module

public import proofs.«01_k».proof.Defs
public import proofs.«01_k».proof.Proof.Experts.Frame
public import proofs.«01_k».proof.Proof.Gen.Kernel2.Launch

@[expose] public section

set_option maxRecDepth 16384

noncomputable section

namespace Cert.Kernel2.Experts

open Idealize.ShloMosaic Idealize.ShloMosaic.TcCoe Idealize.SL.Sem

set_option backward.isDefEq.respectTransparency false
set_option backward.isDefEq.respectTransparency.types false

section
variable {F : FTy → Type} [FloatOps F]

theorem body_eq : @Cert.Kernel2.cc0_moe_experts F _ _ = @Cert.Kernel2Ideal.cc0_moe_experts F _ _ := by
  delta Cert.Kernel2.cc0_moe_experts Cert.Kernel2Ideal.cc0_moe_experts
  rfl

theorem table_eq : (Cert.Kernel2.defs₀ (F := F)) = Cert.Kernel2Ideal.defs₀ (F := F) := by
  refine congrArg Defs.onTc (funext fun l => funext fun a => ?_)
  match l, a with
  | 0, (t, s) => exact congrFun (congrFun (congrFun (congrFun (congrFun (congrFun (congrFun (congrFun (congrFun (congrFun (congrFun (congrFun (congrFun (congrFun (congrFun (congrFun (congrFun body_eq _) _) _) _) _) _) _) _) _) _) _) _) _) _) _) _) _

theorem defs_eq : (Cert.Kernel2.defs (F := F)) = Cert.Kernel2Ideal.defs (F := F) := congrArg (Pipeline.defs (Cert.Kernel2.pcfgs (F := F))) table_eq

end

/-- Under the precondition the printed experts' run ends, leaves its arguments unchanged and every semaphore at zero. -/
theorem frame : Cert.quiescent_Kernel2 := fun m g hpre => by
  have h := Cert.Kernel2Ideal.Experts.frame_named (F := Bits) m g hpre
  rw [← defs_eq] at h
  exact h

end Cert.Kernel2.Experts

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.Pre_finite_scores
public import proofs.«01_k».proof.Proof.Gen.Reference2Ideal.Run
public import proofs.«01_k».proof.Proof.Gen.Pre_experts_named
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Loops
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Loops
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Loops
public import proofs.«01_k».proof.Proof.Gen.Kernel8.Launch
public import proofs.«01_k».proof.Proof.Gen.Kernel8.Points
public import proofs.«01_k».proof.Proof.Gen.Kernel8.Frame.Runs
public import proofs.«01_k».proof.Proof.Hgrn.Same
public import proofs.«01_k».proof.Proof.Gen.Kernel8Ideal
public import proofs.«01_k».proof.Proof.Gen.Kernel8Ideal.Skeleton
public import proofs.«01_k».proof.Proof.Gen.Kernel8Ideal.Loops
public import proofs.«01_k».proof.Proof.Gen.Kernel8Ideal.Launch
public import proofs.«01_k».proof.Proof.Gen.Kernel8Ideal.Points
public import proofs.«01_k».proof.Proof.Gen.Kernel8Ideal.Frame.Runs
public import proofs.«01_k».proof.Proof.Hgrn.Frame
public import proofs.«01_k».proof.Proof.Gen.Reference8Ideal.Run
public import proofs.«01_k».proof.Proof.Gen.Pre_finite_states
public import proofs.«01_k».proof.Proof.Fox.Value
public import proofs.«01_k».proof.Proof.Hgrn.Value
public import proofs.«01_k».proof.Proof.Experts.Value
public import proofs.«01_k».proof.Proof.Ffn.Value
public import proofs.«01_k».proof.Proof.Proj.Value4
public import proofs.«01_k».proof.Proof.Mix.Value
public import proofs.«01_k».proof.Proof.Proj.Value6
public import proofs.«01_k».proof.Proof.Proj.Value7
public import proofs.«01_k».proof.Proof.Experts.Same
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as printed, from every memory: it ends, leaves its arguments unchanged and every semaphore at zero. -/
theorem frame_kernel : Cert.quiescent_Kernel := fun m g _ => Cert.Kernel.Gen.frame m g

/-- The same for the idealized kernel. -/
theorem frame_kernelIdeal : Cert.quiescent_KernelIdeal := fun m g _ => Cert.KernelIdeal.Gen.frame m g

/-- The same under the value claim's precondition. -/
theorem frame_kernelIdeal_finite : Cert.quiescent_KernelIdeal_pre_finite_scores := fun m g _ => Cert.KernelIdeal.Gen.frame m g

/-- The reference ends and leaves its arguments unchanged. -/
theorem frame_referenceIdeal : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The same under the value claim's precondition. -/
theorem frame_referenceIdeal_finite : Cert.quiescent_ReferenceIdeal_pre_finite_scores := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- Each named constant of the idealized kernel stands for the real its literal was rounded from. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "scale" .f32 0x3E38AA3B#32 (((1 / 8) * (Real.log 2)⁻¹ : ℝ) : EReal) rfl,
    IdealRules.named_const.statement Cert.KernelIdeal.κ "mask" .f32 0xF149F2CA#32 ⊥ rfl⟩

/-- The expert kernel as printed, where every tile names an expert: it ends, leaves its arguments unchanged and every
    semaphore at zero. -/
theorem frame_kernel2 : Cert.quiescent_Kernel2 := Cert.Kernel2.Experts.frame

/-- The same for the idealized expert kernel. -/
theorem frame_kernel2Ideal : Cert.quiescent_Kernel2Ideal := fun m g h => Cert.Kernel2Ideal.Experts.frame_named m g h

/-- The experts' reference ends and leaves its arguments unchanged. -/
theorem frame_reference2Ideal : Cert.quiescent_Reference2Ideal := fun m g _ =>
  (θ_run Cert.Reference2Ideal.defs _ _).mono
    (fun r h => ⟨fun c => (h c).2, Idealize.ShloMosaic.sem_eq_zero_of_no_sems (by decide) r.2⟩)
    (Cert.Reference2Ideal.Value.run (F := Ideal) m g)

/-- The same under the experts' precondition. -/
theorem frame_reference2Ideal_named : Cert.quiescent_Reference2Ideal_pre_experts_named := fun m g _ =>
  (θ_run Cert.Reference2Ideal.defs _ _).mono
    (fun r h => ⟨fun c => (h c).2, Idealize.ShloMosaic.sem_eq_zero_of_no_sems (by decide) r.2⟩)
    (Cert.Reference2Ideal.Value.run (F := Ideal) m g)

/-- The idealized expert kernel is the printed one with its floats read as reals: no constant of it is named. -/
theorem preserves2 : Cert.preserves_Kernel2_Kernel2Ideal := trivial

/-- A run of the dense kernel as printed ends with its arguments unchanged and every semaphore at zero. -/
theorem frame_kernel3 : Cert.quiescent_Kernel3 := fun m g _ => Cert.Kernel3.Gen.frame m g

/-- The same of the dense kernel idealized. -/
theorem frame_kernel3Ideal : Cert.quiescent_Kernel3Ideal := fun m g _ => Cert.Kernel3Ideal.Gen.frame m g

/-- The same of the dense reference. -/
theorem frame_reference3Ideal : Cert.quiescent_Reference3Ideal := fun m g _ =>
  (θ_run Cert.Reference3Ideal.defs _ _).mono
    (fun r h => ⟨fun c => (h c).2, Idealize.ShloMosaic.sem_eq_zero_of_no_sems (by decide) r.2⟩)
    (Cert.Reference3Ideal.Value.run (F := Ideal) m g)

/-- The idealized dense kernel is the printed one with its floats read as reals: no constant of it is named. -/
theorem preserves3 : Cert.preserves_Kernel3_Kernel3Ideal := trivial

/-- A run of the kernel of the recurrence's projections as printed ends with its arguments unchanged and every semaphore at zero. -/
theorem frame_kernel4 : Cert.quiescent_Kernel4 := fun m g _ => Cert.Kernel4.Gen.frame m g

/-- The same of that kernel idealized. -/
theorem frame_kernel4Ideal : Cert.quiescent_Kernel4Ideal := fun m g _ => Cert.Kernel4Ideal.Gen.frame m g

/-- The same of its reference. -/
theorem frame_reference4Ideal : Cert.quiescent_Reference4Ideal := fun m g _ =>
  (θ_run Cert.Reference4Ideal.defs _ _).mono
    (fun r h => ⟨fun c => (h c).2.2.2.2.2, Idealize.ShloMosaic.sem_eq_zero_of_no_sems (by decide) r.2⟩)
    (Cert.Reference4Ideal.Value.run (F := Ideal) m g)

/-- That kernel idealized is the printed one with its floats read as reals: no constant of it is named. -/
theorem preserves4 : Cert.preserves_Kernel4_Kernel4Ideal := trivial

/-- A run of the kernel of the output product as printed ends with its arguments unchanged and every semaphore at zero. -/
theorem frame_kernel5 : Cert.quiescent_Kernel5 := fun m g _ => Cert.Kernel5.Gen.frame m g

/-- The same of that kernel idealized. -/
theorem frame_kernel5Ideal : Cert.quiescent_Kernel5Ideal := fun m g _ => Cert.Kernel5Ideal.Gen.frame m g

/-- The same of its reference. -/
theorem frame_reference5Ideal : Cert.quiescent_Reference5Ideal := fun m g _ =>
  (θ_run Cert.Reference5Ideal.defs _ _).mono
    (fun r h => ⟨fun c => (h c).2, Idealize.ShloMosaic.sem_eq_zero_of_no_sems (by decide) r.2⟩)
    (Cert.Reference5Ideal.Value.run (F := Ideal) m g)

/-- That kernel idealized is the printed one with its floats read as reals: no constant of it is named. -/
theorem preserves5 : Cert.preserves_Kernel5_Kernel5Ideal := trivial

/-- A run of the kernel of the attention's projections as printed ends with its arguments unchanged and every semaphore at zero. -/
theorem frame_kernel6 : Cert.quiescent_Kernel6 := fun m g _ => Cert.Kernel6.Gen.frame m g

/-- The same of that kernel idealized. -/
theorem frame_kernel6Ideal : Cert.quiescent_Kernel6Ideal := fun m g _ => Cert.Kernel6Ideal.Gen.frame m g

/-- The same of its reference. -/
theorem frame_reference6Ideal : Cert.quiescent_Reference6Ideal := fun m g _ =>
  (θ_run Cert.Reference6Ideal.defs _ _).mono
    (fun r h => ⟨fun c => (h c).2.2, Idealize.ShloMosaic.sem_eq_zero_of_no_sems (by decide) r.2⟩)
    (Cert.Reference6Ideal.Value.run (F := Ideal) m g)

/-- That kernel idealized is the printed one with its floats read as reals: no constant of it is named. -/
theorem preserves6 : Cert.preserves_Kernel6_Kernel6Ideal := trivial

/-- A run of the kernel of the shared keys, values and cumulative log gates as printed ends with its arguments unchanged and every
    semaphore at zero. -/
theorem frame_kernel7 : Cert.quiescent_Kernel7 := fun m g _ => Cert.Kernel7.Gen.frame m g

/-- The same of that kernel idealized. -/
theorem frame_kernel7Ideal : Cert.quiescent_Kernel7Ideal := fun m g _ => Cert.Kernel7Ideal.Gen.frame m g

/-- The same of its reference. -/
theorem frame_reference7Ideal : Cert.quiescent_Reference7Ideal := fun m g _ =>
  (θ_run Cert.Reference7Ideal.defs _ _).mono
    (fun r h => ⟨fun c => (h c).2.2.2, Idealize.ShloMosaic.sem_eq_zero_of_no_sems (by decide) r.2⟩)
    (Cert.Reference7Ideal.Value.run (F := Ideal) m g)

/-- That kernel idealized is the printed one with its floats read as reals: no constant of it is named. -/
theorem preserves7 : Cert.preserves_Kernel7_Kernel7Ideal := trivial

/-- The printed recurrence's run ends, leaves its arguments unchanged and every semaphore at zero. -/
theorem frame_kernel8 : Cert.quiescent_Kernel8 := Cert.Kernel8.Hgrn.frame

/-- The same of that kernel idealized. -/
theorem frame_kernel8Ideal : Cert.quiescent_Kernel8Ideal := fun m g _ => Cert.Kernel8Ideal.Hgrn.frame m g

/-- The same from a memory at the precondition. -/
theorem frame_kernel8Ideal_finite : Cert.quiescent_Kernel8Ideal_pre_finite_states := fun m g _ => Cert.Kernel8Ideal.Hgrn.frame m g

/-- The same of its reference. -/
theorem frame_reference8Ideal : Cert.quiescent_Reference8Ideal := fun m g _ =>
  (θ_run Cert.Reference8Ideal.defs _ _).mono
    (fun r h => ⟨fun c => (h c).2, Idealize.ShloMosaic.sem_eq_zero_of_no_sems (by decide) r.2⟩)
    (Cert.Reference8Ideal.Value.run (F := Ideal) m g)

/-- The same from a memory at the precondition. -/
theorem frame_reference8Ideal_finite : Cert.quiescent_Reference8Ideal_pre_finite_states := fun m g _ => frame_reference8Ideal m g trivial

/-- That kernel idealized is the printed one with its floats read as reals: no constant of it is named. -/
theorem preserves8 : Cert.preserves_Kernel8_Kernel8Ideal := trivial

/-- The whole claim. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite_scores.Gen.facts, Cert.Pre_experts_named.Gen.facts, Cert.Pre_finite_states.Gen.facts, frame_kernel,
    frame_kernelIdeal, frame_kernelIdeal_finite, frame_referenceIdeal, frame_referenceIdeal_finite, frame_kernel2, frame_kernel2Ideal,
    frame_reference2Ideal, frame_reference2Ideal_named, frame_kernel3, frame_kernel3Ideal, frame_reference3Ideal,
    frame_kernel4, frame_kernel4Ideal, frame_reference4Ideal, frame_kernel5, frame_kernel5Ideal, frame_reference5Ideal, frame_kernel6, frame_kernel6Ideal, frame_reference6Ideal,
    frame_kernel7, frame_kernel7Ideal, frame_reference7Ideal,
    frame_kernel8, frame_kernel8Ideal, frame_kernel8Ideal_finite, frame_reference8Ideal, frame_reference8Ideal_finite,
    preserves, Cert.Fox.algebraic, preserves2, Cert.Experts.algebraic, preserves3, Cert.Ffn.algebraic,
    preserves4, Cert.Proj.algebraic4, preserves5, Cert.Mix.algebraic, preserves6, Cert.Proj.algebraic6,
    preserves7, Cert.Proj.algebraic7, preserves8, Cert.Hgrn.algebraic⟩

end Cert.Proof

end
